-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x4x2x262144 : Shape := ⟨4, ![16, 4, 2, 262144]⟩
abbrev S16x4x2x2048x128 : Shape := ⟨5, ![16, 4, 2, 2048, 128]⟩
abbrev S16x4x2048x2x128 : Shape := ⟨5, ![16, 4, 2048, 2, 128]⟩
abbrev S33554432 : Shape := ⟨1, ![33554432]⟩
abbrev S32505856 : Shape := ⟨1, ![32505856]⟩
abbrev S16128 : Shape := ⟨1, ![16128]⟩
abbrev S15872 : Shape := ⟨1, ![15872]⟩
abbrev S_ : Shape := ⟨0, ![]⟩
abbrev S16 : Shape := ⟨1, ![16]⟩
abbrev S16x4x1984x2x128 : Shape := ⟨5, ![16, 4, 1984, 2, 128]⟩
abbrev S16x4x2x1984x128 : Shape := ⟨5, ![16, 4, 2, 1984, 128]⟩
abbrev S16x4x2x253952 : Shape := ⟨4, ![16, 4, 2, 253952]⟩

abbrev nBuf : Table → Nat
  | .hbm => 8
  | .local .scVector .vmem => 8
  | _ => 0

abbrev bufTy : (tb : Table) → Fin (nBuf tb) → BufTy
  | .hbm, ⟨0, _⟩ => ⟨S16x4x2x262144, .f32⟩
  | .hbm, ⟨1, _⟩ => ⟨S16x4x2x2048x128, .f32⟩
  | .hbm, ⟨2, _⟩ => ⟨S16x4x2048x2x128, .f32⟩
  | .hbm, ⟨3, _⟩ => ⟨S33554432, .f32⟩
  | .hbm, ⟨4, _⟩ => ⟨S32505856, .f32⟩
  | .hbm, ⟨5, _⟩ => ⟨S16x4x1984x2x128, .f32⟩
  | .hbm, ⟨6, _⟩ => ⟨S16x4x2x1984x128, .f32⟩
  | .hbm, ⟨7, _⟩ => ⟨S16x4x2x253952, .f32⟩
  | .local .scVector .vmem, ⟨0, _⟩ => ⟨S16128, .f32⟩
  | .local .scVector .vmem, ⟨1, _⟩ => ⟨S16128, .f32⟩
  | .local .scVector .vmem, ⟨2, _⟩ => ⟨S16128, .f32⟩
  | .local .scVector .vmem, ⟨3, _⟩ => ⟨S16128, .f32⟩
  | .local .scVector .vmem, ⟨4, _⟩ => ⟨S15872, .f32⟩
  | .local .scVector .vmem, ⟨5, _⟩ => ⟨S15872, .f32⟩
  | .local .scVector .vmem, ⟨6, _⟩ => ⟨S15872, .f32⟩
  | .local .scVector .vmem, ⟨7, _⟩ => ⟨S15872, .f32⟩
  | _, _ => ⟨S16x4x2x262144, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 8 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | _ => false

abbrev sig : RefSig :=
  ofTables nBuf rfl bufTy 4 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v2_scv : Ref sig .scVector := ⟨.hbm, 3, rfl⟩
abbrev main_v3_scv : Ref sig .scVector := ⟨.hbm, 4, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_mult1 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32 : BitVec 32 := 0#32
  let v3 : BitVec 32 := Scalar.addi v2 c0_i32
  let c2048_i32 : BitVec 32 := 2048#32
  let v258 : BitVec 32 := Scalar.muli v3 c2048_i32
  let c63_i32 : BitVec 32 := 63#32
  let v130 : BitVec 1 := Scalar.cmpi .eq v3 c63_i32
  let c1763_i32 : BitVec 32 := 1763#32
  let c62_i32 : BitVec 32 := 62#32
  let v128 : BitVec 1 := Scalar.cmpi .eq v3 c62_i32
  let c1196_i32 : BitVec 32 := 1196#32
  let c61_i32 : BitVec 32 := 61#32
  let v126 : BitVec 1 := Scalar.cmpi .eq v3 c61_i32
  let c722_i32 : BitVec 32 := 722#32
  let c60_i32 : BitVec 32 := 60#32
  let v124 : BitVec 1 := Scalar.cmpi .eq v3 c60_i32
  let c3132_i32 : BitVec 32 := 3132#32
  let c59_i32 : BitVec 32 := 59#32
  let v122 : BitVec 1 := Scalar.cmpi .eq v3 c59_i32
  let c2263_i32 : BitVec 32 := 2263#32
  let c58_i32 : BitVec 32 := 58#32
  let v120 : BitVec 1 := Scalar.cmpi .eq v3 c58_i32
  let c7228_i32 : BitVec 32 := 7228#32
  let c57_i32 : BitVec 32 := 57#32
  let v118 : BitVec 1 := Scalar.cmpi .eq v3 c57_i32
  let c6147_i32 : BitVec 32 := 6147#32
  let c56_i32_4 : BitVec 32 := 56#32
  let v116 : BitVec 1 := Scalar.cmpi .eq v3 c56_i32_4
  let c5257_i32 : BitVec 32 := 5257#32
  let c55_i32 : BitVec 32 := 55#32
  let v114 : BitVec 1 := Scalar.cmpi .eq v3 c55_i32
  let c2687_i32 : BitVec 32 := 2687#32
  let c54_i32 : BitVec 32 := 54#32
  let v112 : BitVec 1 := Scalar.cmpi .eq v3 c54_i32
  let c3913_i32 : BitVec 32 := 3913#32
  let c53_i32 : BitVec 32 := 53#32
  let v110 : BitVec 1 := Scalar.cmpi .eq v3 c53_i32
  let c1765_i32 : BitVec 32 := 1765#32
  let c52_i32 : BitVec 32 := 52#32
  let v108 : BitVec 1 := Scalar.cmpi .eq v3 c52_i32
  let c572_i32 : BitVec 32 := 572#32
  let c51_i32 : BitVec 32 := 51#32
  let v106 : BitVec 1 := Scalar.cmpi .eq v3 c51_i32
  let c5479_i32 : BitVec 32 := 5479#32
  let c50_i32 : BitVec 32 := 50#32
  let v104 : BitVec 1 := Scalar.cmpi .eq v3 c50_i32
  let c7351_i32 : BitVec 32 := 7351#32
  let c49_i32 : BitVec 32 := 49#32
  let v102 : BitVec 1 := Scalar.cmpi .eq v3 c49_i32
  let c593_i32 : BitVec 32 := 593#32
  let c48_i32 : BitVec 32 := 48#32
  let v100 : BitVec 1 := Scalar.cmpi .eq v3 c48_i32
  let c7487_i32 : BitVec 32 := 7487#32
  let c47_i32 : BitVec 32 := 47#32
  let v98 : BitVec 1 := Scalar.cmpi .eq v3 c47_i32
  let c3618_i32 : BitVec 32 := 3618#32
  let c46_i32 : BitVec 32 := 46#32
  let v96 : BitVec 1 := Scalar.cmpi .eq v3 c46_i32
  let c6125_i32 : BitVec 32 := 6125#32
  let c45_i32 : BitVec 32 := 45#32
  let v94 : BitVec 1 := Scalar.cmpi .eq v3 c45_i32
  let c2834_i32 : BitVec 32 := 2834#32
  let c44_i32 : BitVec 32 := 44#32
  let v92 : BitVec 1 := Scalar.cmpi .eq v3 c44_i32
  let c4871_i32 : BitVec 32 := 4871#32
  let c43_i32 : BitVec 32 := 43#32
  let v90 : BitVec 1 := Scalar.cmpi .eq v3 c43_i32
  let c1936_i32 : BitVec 32 := 1936#32
  let c42_i32 : BitVec 32 := 42#32
  let v88 : BitVec 1 := Scalar.cmpi .eq v3 c42_i32
  let c2914_i32 : BitVec 32 := 2914#32
  let c41_i32 : BitVec 32 := 41#32
  let v86 : BitVec 1 := Scalar.cmpi .eq v3 c41_i32
  let c3866_i32 : BitVec 32 := 3866#32
  let c40_i32 : BitVec 32 := 40#32
  let v84 : BitVec 1 := Scalar.cmpi .eq v3 c40_i32
  let c1846_i32 : BitVec 32 := 1846#32
  let c39_i32 : BitVec 32 := 39#32
  let v82 : BitVec 1 := Scalar.cmpi .eq v3 c39_i32
  let c7714_i32 : BitVec 32 := 7714#32
  let c38_i32 : BitVec 32 := 38#32
  let v80 : BitVec 1 := Scalar.cmpi .eq v3 c38_i32
  let c3980_i32 : BitVec 32 := 3980#32
  let c37_i32 : BitVec 32 := 37#32
  let v78 : BitVec 1 := Scalar.cmpi .eq v3 c37_i32
  let c6570_i32 : BitVec 32 := 6570#32
  let c36_i32 : BitVec 32 := 36#32
  let v76 : BitVec 1 := Scalar.cmpi .eq v3 c36_i32
  let c2937_i32 : BitVec 32 := 2937#32
  let c35_i32 : BitVec 32 := 35#32
  let v74 : BitVec 1 := Scalar.cmpi .eq v3 c35_i32
  let c1105_i32 : BitVec 32 := 1105#32
  let c34_i32 : BitVec 32 := 34#32
  let v72 : BitVec 1 := Scalar.cmpi .eq v3 c34_i32
  let c5685_i32 : BitVec 32 := 5685#32
  let c33_i32 : BitVec 32 := 33#32
  let v70 : BitVec 1 := Scalar.cmpi .eq v3 c33_i32
  let c1851_i32 : BitVec 32 := 1851#32
  let c32_i32 : BitVec 32 := 32#32
  let v68 : BitVec 1 := Scalar.cmpi .eq v3 c32_i32
  let c2835_i32 : BitVec 32 := 2835#32
  let c31_i32 : BitVec 32 := 31#32
  let v66 : BitVec 1 := Scalar.cmpi .eq v3 c31_i32
  let c6151_i32 : BitVec 32 := 6151#32
  let c30_i32 : BitVec 32 := 30#32
  let v64 : BitVec 1 := Scalar.cmpi .eq v3 c30_i32
  let c2916_i32 : BitVec 32 := 2916#32
  let c29_i32 : BitVec 32 := 29#32
  let v62 : BitVec 1 := Scalar.cmpi .eq v3 c29_i32
  let c4806_i32 : BitVec 32 := 4806#32
  let c28_i32 : BitVec 32 := 28#32
  let v60 : BitVec 1 := Scalar.cmpi .eq v3 c28_i32
  let c2760_i32 : BitVec 32 := 2760#32
  let c27_i32 : BitVec 32 := 27#32
  let v58 : BitVec 1 := Scalar.cmpi .eq v3 c27_i32
  let c2339_i32 : BitVec 32 := 2339#32
  let c26_i32 : BitVec 32 := 26#32
  let v56 : BitVec 1 := Scalar.cmpi .eq v3 c26_i32
  let c5978_i32 : BitVec 32 := 5978#32
  let c25_i32 : BitVec 32 := 25#32
  let v54 : BitVec 1 := Scalar.cmpi .eq v3 c25_i32
  let c6943_i32 : BitVec 32 := 6943#32
  let c24_i32 : BitVec 32 := 24#32
  let v52 : BitVec 1 := Scalar.cmpi .eq v3 c24_i32
  let c7654_i32 : BitVec 32 := 7654#32
  let c23_i32 : BitVec 32 := 23#32
  let v50 : BitVec 1 := Scalar.cmpi .eq v3 c23_i32
  let c3018_i32 : BitVec 32 := 3018#32
  let c22_i32 : BitVec 32 := 22#32
  let v48 : BitVec 1 := Scalar.cmpi .eq v3 c22_i32
  let c56_i32 : BitVec 32 := 56#32
  let c21_i32 : BitVec 32 := 21#32
  let v46 : BitVec 1 := Scalar.cmpi .eq v3 c21_i32
  let c5652_i32 : BitVec 32 := 5652#32
  let c20_i32 : BitVec 32 := 20#32
  let v44 : BitVec 1 := Scalar.cmpi .eq v3 c20_i32
  let c6840_i32 : BitVec 32 := 6840#32
  let c19_i32 : BitVec 32 := 19#32
  let v42 : BitVec 1 := Scalar.cmpi .eq v3 c19_i32
  let c4026_i32 : BitVec 32 := 4026#32
  let c18_i32 : BitVec 32 := 18#32
  let v40 : BitVec 1 := Scalar.cmpi .eq v3 c18_i32
  let c91_i32 : BitVec 32 := 91#32
  let c17_i32 : BitVec 32 := 17#32
  let v38 : BitVec 1 := Scalar.cmpi .eq v3 c17_i32
  let c7767_i32 : BitVec 32 := 7767#32
  let c16_i32 : BitVec 32 := 16#32
  let v36 : BitVec 1 := Scalar.cmpi .eq v3 c16_i32
  let c4241_i32 : BitVec 32 := 4241#32
  let c15_i32 : BitVec 32 := 15#32
  let v34 : BitVec 1 := Scalar.cmpi .eq v3 c15_i32
  let c6170_i32 : BitVec 32 := 6170#32
  let c14_i32 : BitVec 32 := 14#32
  let v32 : BitVec 1 := Scalar.cmpi .eq v3 c14_i32
  let c8174_i32 : BitVec 32 := 8174#32
  let c13_i32 : BitVec 32 := 13#32
  let v30 : BitVec 1 := Scalar.cmpi .eq v3 c13_i32
  let c1378_i32 : BitVec 32 := 1378#32
  let c12_i32 : BitVec 32 := 12#32
  let v28 : BitVec 1 := Scalar.cmpi .eq v3 c12_i32
  let c2562_i32 : BitVec 32 := 2562#32
  let c11_i32 : BitVec 32 := 11#32
  let v26 : BitVec 1 := Scalar.cmpi .eq v3 c11_i32
  let c4161_i32 : BitVec 32 := 4161#32
  let c10_i32 : BitVec 32 := 10#32
  let v24 : BitVec 1 := Scalar.cmpi .eq v3 c10_i32
  let c6176_i32 : BitVec 32 := 6176#32
  let c9_i32 : BitVec 32 := 9#32
  let v22 : BitVec 1 := Scalar.cmpi .eq v3 c9_i32
  let c2818_i32 : BitVec 32 := 2818#32
  let c8_i32 : BitVec 32 := 8#32
  let v20 : BitVec 1 := Scalar.cmpi .eq v3 c8_i32
  let c5970_i32 : BitVec 32 := 5970#32
  let c7_i32 : BitVec 32 := 7#32
  let v18 : BitVec 1 := Scalar.cmpi .eq v3 c7_i32
  let c7573_i32 : BitVec 32 := 7573#32
  let c6_i32 : BitVec 32 := 6#32
  let v16 : BitVec 1 := Scalar.cmpi .eq v3 c6_i32
  let c3350_i32 : BitVec 32 := 3350#32
  let c5_i32 : BitVec 32 := 5#32
  let v14 : BitVec 1 := Scalar.cmpi .eq v3 c5_i32
  let c4780_i32 : BitVec 32 := 4780#32
  let c4_i32 : BitVec 32 := 4#32
  let v12 : BitVec 1 := Scalar.cmpi .eq v3 c4_i32
  let c6560_i32 : BitVec 32 := 6560#32
  let c3_i32 : BitVec 32 := 3#32
  let v10 : BitVec 1 := Scalar.cmpi .eq v3 c3_i32
  let c7017_i32 : BitVec 32 := 7017#32
  let c2_i32_3 : BitVec 32 := 2#32
  let v8 : BitVec 1 := Scalar.cmpi .eq v3 c2_i32_3
  let c736_i32 : BitVec 32 := 736#32
  let c1_i32_2 : BitVec 32 := 1#32
  let v6 : BitVec 1 := Scalar.cmpi .eq v3 c1_i32_2
  let c943_i32 : BitVec 32 := 943#32
  let c7932_i32 : BitVec 32 := 7932#32
  let v7 : BitVec 32 := Scalar.select v6 c943_i32 c7932_i32
  let v9 : BitVec 32 := Scalar.select v8 c736_i32 v7
  let v11 : BitVec 32 := Scalar.select v10 c7017_i32 v9
  let v13 : BitVec 32 := Scalar.select v12 c6560_i32 v11
  let v15 : BitVec 32 := Scalar.select v14 c4780_i32 v13
  let v17 : BitVec 32 := Scalar.select v16 c3350_i32 v15
  let v19 : BitVec 32 := Scalar.select v18 c7573_i32 v17
  let v21 : BitVec 32 := Scalar.select v20 c5970_i32 v19
  let v23 : BitVec 32 := Scalar.select v22 c2818_i32 v21
  let v25 : BitVec 32 := Scalar.select v24 c6176_i32 v23
  let v27 : BitVec 32 := Scalar.select v26 c4161_i32 v25
  let v29 : BitVec 32 := Scalar.select v28 c2562_i32 v27
  let v31 : BitVec 32 := Scalar.select v30 c1378_i32 v29
  let v33 : BitVec 32 := Scalar.select v32 c8174_i32 v31
  let v35 : BitVec 32 := Scalar.select v34 c6170_i32 v33
  let v37 : BitVec 32 := Scalar.select v36 c4241_i32 v35
  let v39 : BitVec 32 := Scalar.select v38 c7767_i32 v37
  let v41 : BitVec 32 := Scalar.select v40 c91_i32 v39
  let v43 : BitVec 32 := Scalar.select v42 c4026_i32 v41
  let v45 : BitVec 32 := Scalar.select v44 c6840_i32 v43
  let v47 : BitVec 32 := Scalar.select v46 c5652_i32 v45
  let v49 : BitVec 32 := Scalar.select v48 c56_i32 v47
  let v51 : BitVec 32 := Scalar.select v50 c3018_i32 v49
  let v53 : BitVec 32 := Scalar.select v52 c7654_i32 v51
  let v55 : BitVec 32 := Scalar.select v54 c6943_i32 v53
  let v57 : BitVec 32 := Scalar.select v56 c5978_i32 v55
  let v59 : BitVec 32 := Scalar.select v58 c2339_i32 v57
  let v61 : BitVec 32 := Scalar.select v60 c2760_i32 v59
  let v63 : BitVec 32 := Scalar.select v62 c4806_i32 v61
  let v65 : BitVec 32 := Scalar.select v64 c2916_i32 v63
  let v67 : BitVec 32 := Scalar.select v66 c6151_i32 v65
  let v69 : BitVec 32 := Scalar.select v68 c2835_i32 v67
  let v71 : BitVec 32 := Scalar.select v70 c1851_i32 v69
  let v73 : BitVec 32 := Scalar.select v72 c5685_i32 v71
  let v75 : BitVec 32 := Scalar.select v74 c1105_i32 v73
  let v77 : BitVec 32 := Scalar.select v76 c2937_i32 v75
  let v79 : BitVec 32 := Scalar.select v78 c6570_i32 v77
  let v81 : BitVec 32 := Scalar.select v80 c3980_i32 v79
  let v83 : BitVec 32 := Scalar.select v82 c7714_i32 v81
  let v85 : BitVec 32 := Scalar.select v84 c1846_i32 v83
  let v87 : BitVec 32 := Scalar.select v86 c3866_i32 v85
  let v89 : BitVec 32 := Scalar.select v88 c2914_i32 v87
  let v91 : BitVec 32 := Scalar.select v90 c1936_i32 v89
  let v93 : BitVec 32 := Scalar.select v92 c4871_i32 v91
  let v95 : BitVec 32 := Scalar.select v94 c2834_i32 v93
  let v97 : BitVec 32 := Scalar.select v96 c6125_i32 v95
  let v99 : BitVec 32 := Scalar.select v98 c3618_i32 v97
  let v101 : BitVec 32 := Scalar.select v100 c7487_i32 v99
  let v103 : BitVec 32 := Scalar.select v102 c593_i32 v101
  let v105 : BitVec 32 := Scalar.select v104 c7351_i32 v103
  let v107 : BitVec 32 := Scalar.select v106 c5479_i32 v105
  let v109 : BitVec 32 := Scalar.select v108 c572_i32 v107
  let v111 : BitVec 32 := Scalar.select v110 c1765_i32 v109
  let v113 : BitVec 32 := Scalar.select v112 c3913_i32 v111
  let v115 : BitVec 32 := Scalar.select v114 c2687_i32 v113
  let v117 : BitVec 32 := Scalar.select v116 c5257_i32 v115
  let v119 : BitVec 32 := Scalar.select v118 c6147_i32 v117
  let v121 : BitVec 32 := Scalar.select v120 c7228_i32 v119
  let v123 : BitVec 32 := Scalar.select v122 c2263_i32 v121
  let v125 : BitVec 32 := Scalar.select v124 c3132_i32 v123
  let v127 : BitVec 32 := Scalar.select v126 c722_i32 v125
  let v129 : BitVec 32 := Scalar.select v128 c1196_i32 v127
  let v131 : BitVec 32 := Scalar.select v130 c1763_i32 v129
  let c7_i32_132 : BitVec 32 := 7#32
  let v259 : BitVec 32 := Scalar.shrsi v131 c7_i32_132
  let v260 : BitVec 32 := Scalar.addi v258 v259
  let c256_i32 : BitVec 32 := 256#32
  let v261 : BitVec 32 := Scalar.muli v260 c256_i32
  let c0_i32_295 : BitVec 32 := 0#32
  let c0_i32_297 : BitVec 32 := 0#32
  let v658 : BitVec 1 := Scalar.cmpi .sgt c0_i32_295 c0_i32_297
  let v659 : BitVec 32 := Scalar.extui v658
  let c0_i32_298 : BitVec 32 := 0#32
  let v660 : BitVec 1 := Scalar.cmpi .slt c0_i32_295 c0_i32_298
  let v661 : BitVec 32 := Scalar.extui v660
  let v662 : BitVec 32 := Scalar.subi v659 v661
  let c2_i32_296 : BitVec 32 := 2#32
  let c0_i32_299 : BitVec 32 := 0#32
  let v663 : BitVec 1 := Scalar.cmpi .sgt c2_i32_296 c0_i32_299
  let v664 : BitVec 32 := Scalar.extui v663
  let c0_i32_300 : BitVec 32 := 0#32
  let v665 : BitVec 1 := Scalar.cmpi .slt c2_i32_296 c0_i32_300
  let v666 : BitVec 32 := Scalar.extui v665
  let v667 : BitVec 32 := Scalar.subi v664 v666
  let v668 : BitVec 1 := Scalar.cmpi .ne v662 v667
  let v669 : BitVec 32 := Scalar.remsi c0_i32_295 c2_i32_296
  let c0_i32_301 : BitVec 32 := 0#32
  let v670 : BitVec 1 := Scalar.cmpi .ne v669 c0_i32_301
  let v671 : BitVec 1 := Scalar.andi v668 v670
  let v657 : BitVec 32 := Scalar.divsi c0_i32_295 c2_i32_296
  let c1_i32_302 : BitVec 32 := 1#32
  let v672 : BitVec 32 := Scalar.subi v657 c1_i32_302
  let v673 : BitVec 32 := Scalar.select v671 v672 v657
  let c15872_i32 : BitVec 32 := 15872#32
  let v674 : BitVec 32 := Scalar.muli v673 c15872_i32
  let v675 : BitVec 32 := Scalar.addi v261 v674
  v675
def k0_off1 (i : grid0.Coords) (c0_i32 : BitVec 32) (c0_i32_295 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let v3 : BitVec 32 := Scalar.addi v2 c0_i32
  let c2048_i32 : BitVec 32 := 2048#32
  let v258 : BitVec 32 := Scalar.muli v3 c2048_i32
  let c63_i32 : BitVec 32 := 63#32
  let v130 : BitVec 1 := Scalar.cmpi .eq v3 c63_i32
  let c1763_i32 : BitVec 32 := 1763#32
  let c62_i32 : BitVec 32 := 62#32
  let v128 : BitVec 1 := Scalar.cmpi .eq v3 c62_i32
  let c1196_i32 : BitVec 32 := 1196#32
  let c61_i32 : BitVec 32 := 61#32
  let v126 : BitVec 1 := Scalar.cmpi .eq v3 c61_i32
  let c722_i32 : BitVec 32 := 722#32
  let c60_i32 : BitVec 32 := 60#32
  let v124 : BitVec 1 := Scalar.cmpi .eq v3 c60_i32
  let c3132_i32 : BitVec 32 := 3132#32
  let c59_i32 : BitVec 32 := 59#32
  let v122 : BitVec 1 := Scalar.cmpi .eq v3 c59_i32
  let c2263_i32 : BitVec 32 := 2263#32
  let c58_i32 : BitVec 32 := 58#32
  let v120 : BitVec 1 := Scalar.cmpi .eq v3 c58_i32
  let c7228_i32 : BitVec 32 := 7228#32
  let c57_i32 : BitVec 32 := 57#32
  let v118 : BitVec 1 := Scalar.cmpi .eq v3 c57_i32
  let c6147_i32 : BitVec 32 := 6147#32
  let c56_i32_4 : BitVec 32 := 56#32
  let v116 : BitVec 1 := Scalar.cmpi .eq v3 c56_i32_4
  let c5257_i32 : BitVec 32 := 5257#32
  let c55_i32 : BitVec 32 := 55#32
  let v114 : BitVec 1 := Scalar.cmpi .eq v3 c55_i32
  let c2687_i32 : BitVec 32 := 2687#32
  let c54_i32 : BitVec 32 := 54#32
  let v112 : BitVec 1 := Scalar.cmpi .eq v3 c54_i32
  let c3913_i32 : BitVec 32 := 3913#32
  let c53_i32 : BitVec 32 := 53#32
  let v110 : BitVec 1 := Scalar.cmpi .eq v3 c53_i32
  let c1765_i32 : BitVec 32 := 1765#32
  let c52_i32 : BitVec 32 := 52#32
  let v108 : BitVec 1 := Scalar.cmpi .eq v3 c52_i32
  let c572_i32 : BitVec 32 := 572#32
  let c51_i32 : BitVec 32 := 51#32
  let v106 : BitVec 1 := Scalar.cmpi .eq v3 c51_i32
  let c5479_i32 : BitVec 32 := 5479#32
  let c50_i32 : BitVec 32 := 50#32
  let v104 : BitVec 1 := Scalar.cmpi .eq v3 c50_i32
  let c7351_i32 : BitVec 32 := 7351#32
  let c49_i32 : BitVec 32 := 49#32
  let v102 : BitVec 1 := Scalar.cmpi .eq v3 c49_i32
  let c593_i32 : BitVec 32 := 593#32
  let c48_i32 : BitVec 32 := 48#32
  let v100 : BitVec 1 := Scalar.cmpi .eq v3 c48_i32
  let c7487_i32 : BitVec 32 := 7487#32
  let c47_i32 : BitVec 32 := 47#32
  let v98 : BitVec 1 := Scalar.cmpi .eq v3 c47_i32
  let c3618_i32 : BitVec 32 := 3618#32
  let c46_i32 : BitVec 32 := 46#32
  let v96 : BitVec 1 := Scalar.cmpi .eq v3 c46_i32
  let c6125_i32 : BitVec 32 := 6125#32
  let c45_i32 : BitVec 32 := 45#32
  let v94 : BitVec 1 := Scalar.cmpi .eq v3 c45_i32
  let c2834_i32 : BitVec 32 := 2834#32
  let c44_i32 : BitVec 32 := 44#32
  let v92 : BitVec 1 := Scalar.cmpi .eq v3 c44_i32
  let c4871_i32 : BitVec 32 := 4871#32
  let c43_i32 : BitVec 32 := 43#32
  let v90 : BitVec 1 := Scalar.cmpi .eq v3 c43_i32
  let c1936_i32 : BitVec 32 := 1936#32
  let c42_i32 : BitVec 32 := 42#32
  let v88 : BitVec 1 := Scalar.cmpi .eq v3 c42_i32
  let c2914_i32 : BitVec 32 := 2914#32
  let c41_i32 : BitVec 32 := 41#32
  let v86 : BitVec 1 := Scalar.cmpi .eq v3 c41_i32
  let c3866_i32 : BitVec 32 := 3866#32
  let c40_i32 : BitVec 32 := 40#32
  let v84 : BitVec 1 := Scalar.cmpi .eq v3 c40_i32
  let c1846_i32 : BitVec 32 := 1846#32
  let c39_i32 : BitVec 32 := 39#32
  let v82 : BitVec 1 := Scalar.cmpi .eq v3 c39_i32
  let c7714_i32 : BitVec 32 := 7714#32
  let c38_i32 : BitVec 32 := 38#32
  let v80 : BitVec 1 := Scalar.cmpi .eq v3 c38_i32
  let c3980_i32 : BitVec 32 := 3980#32
  let c37_i32 : BitVec 32 := 37#32
  let v78 : BitVec 1 := Scalar.cmpi .eq v3 c37_i32
  let c6570_i32 : BitVec 32 := 6570#32
  let c36_i32 : BitVec 32 := 36#32
  let v76 : BitVec 1 := Scalar.cmpi .eq v3 c36_i32
  let c2937_i32 : BitVec 32 := 2937#32
  let c35_i32 : BitVec 32 := 35#32
  let v74 : BitVec 1 := Scalar.cmpi .eq v3 c35_i32
  let c1105_i32 : BitVec 32 := 1105#32
  let c34_i32 : BitVec 32 := 34#32
  let v72 : BitVec 1 := Scalar.cmpi .eq v3 c34_i32
  let c5685_i32 : BitVec 32 := 5685#32
  let c33_i32 : BitVec 32 := 33#32
  let v70 : BitVec 1 := Scalar.cmpi .eq v3 c33_i32
  let c1851_i32 : BitVec 32 := 1851#32
  let c32_i32 : BitVec 32 := 32#32
  let v68 : BitVec 1 := Scalar.cmpi .eq v3 c32_i32
  let c2835_i32 : BitVec 32 := 2835#32
  let c31_i32 : BitVec 32 := 31#32
  let v66 : BitVec 1 := Scalar.cmpi .eq v3 c31_i32
  let c6151_i32 : BitVec 32 := 6151#32
  let c30_i32 : BitVec 32 := 30#32
  let v64 : BitVec 1 := Scalar.cmpi .eq v3 c30_i32
  let c2916_i32 : BitVec 32 := 2916#32
  let c29_i32 : BitVec 32 := 29#32
  let v62 : BitVec 1 := Scalar.cmpi .eq v3 c29_i32
  let c4806_i32 : BitVec 32 := 4806#32
  let c28_i32 : BitVec 32 := 28#32
  let v60 : BitVec 1 := Scalar.cmpi .eq v3 c28_i32
  let c2760_i32 : BitVec 32 := 2760#32
  let c27_i32 : BitVec 32 := 27#32
  let v58 : BitVec 1 := Scalar.cmpi .eq v3 c27_i32
  let c2339_i32 : BitVec 32 := 2339#32
  let c26_i32 : BitVec 32 := 26#32
  let v56 : BitVec 1 := Scalar.cmpi .eq v3 c26_i32
  let c5978_i32 : BitVec 32 := 5978#32
  let c25_i32 : BitVec 32 := 25#32
  let v54 : BitVec 1 := Scalar.cmpi .eq v3 c25_i32
  let c6943_i32 : BitVec 32 := 6943#32
  let c24_i32 : BitVec 32 := 24#32
  let v52 : BitVec 1 := Scalar.cmpi .eq v3 c24_i32
  let c7654_i32 : BitVec 32 := 7654#32
  let c23_i32 : BitVec 32 := 23#32
  let v50 : BitVec 1 := Scalar.cmpi .eq v3 c23_i32
  let c3018_i32 : BitVec 32 := 3018#32
  let c22_i32 : BitVec 32 := 22#32
  let v48 : BitVec 1 := Scalar.cmpi .eq v3 c22_i32
  let c56_i32 : BitVec 32 := 56#32
  let c21_i32 : BitVec 32 := 21#32
  let v46 : BitVec 1 := Scalar.cmpi .eq v3 c21_i32
  let c5652_i32 : BitVec 32 := 5652#32
  let c20_i32 : BitVec 32 := 20#32
  let v44 : BitVec 1 := Scalar.cmpi .eq v3 c20_i32
  let c6840_i32 : BitVec 32 := 6840#32
  let c19_i32 : BitVec 32 := 19#32
  let v42 : BitVec 1 := Scalar.cmpi .eq v3 c19_i32
  let c4026_i32 : BitVec 32 := 4026#32
  let c18_i32 : BitVec 32 := 18#32
  let v40 : BitVec 1 := Scalar.cmpi .eq v3 c18_i32
  let c91_i32 : BitVec 32 := 91#32
  let c17_i32 : BitVec 32 := 17#32
  let v38 : BitVec 1 := Scalar.cmpi .eq v3 c17_i32
  let c7767_i32 : BitVec 32 := 7767#32
  let c16_i32 : BitVec 32 := 16#32
  let v36 : BitVec 1 := Scalar.cmpi .eq v3 c16_i32
  let c4241_i32 : BitVec 32 := 4241#32
  let c15_i32 : BitVec 32 := 15#32
  let v34 : BitVec 1 := Scalar.cmpi .eq v3 c15_i32
  let c6170_i32 : BitVec 32 := 6170#32
  let c14_i32 : BitVec 32 := 14#32
  let v32 : BitVec 1 := Scalar.cmpi .eq v3 c14_i32
  let c8174_i32 : BitVec 32 := 8174#32
  let c13_i32 : BitVec 32 := 13#32
  let v30 : BitVec 1 := Scalar.cmpi .eq v3 c13_i32
  let c1378_i32 : BitVec 32 := 1378#32
  let c12_i32 : BitVec 32 := 12#32
  let v28 : BitVec 1 := Scalar.cmpi .eq v3 c12_i32
  let c2562_i32 : BitVec 32 := 2562#32
  let c11_i32 : BitVec 32 := 11#32
  let v26 : BitVec 1 := Scalar.cmpi .eq v3 c11_i32
  let c4161_i32 : BitVec 32 := 4161#32
  let c10_i32 : BitVec 32 := 10#32
  let v24 : BitVec 1 := Scalar.cmpi .eq v3 c10_i32
  let c6176_i32 : BitVec 32 := 6176#32
  let c9_i32 : BitVec 32 := 9#32
  let v22 : BitVec 1 := Scalar.cmpi .eq v3 c9_i32
  let c2818_i32 : BitVec 32 := 2818#32
  let c8_i32 : BitVec 32 := 8#32
  let v20 : BitVec 1 := Scalar.cmpi .eq v3 c8_i32
  let c5970_i32 : BitVec 32 := 5970#32
  let c7_i32 : BitVec 32 := 7#32
  let v18 : BitVec 1 := Scalar.cmpi .eq v3 c7_i32
  let c7573_i32 : BitVec 32 := 7573#32
  let c6_i32 : BitVec 32 := 6#32
  let v16 : BitVec 1 := Scalar.cmpi .eq v3 c6_i32
  let c3350_i32 : BitVec 32 := 3350#32
  let c5_i32 : BitVec 32 := 5#32
  let v14 : BitVec 1 := Scalar.cmpi .eq v3 c5_i32
  let c4780_i32 : BitVec 32 := 4780#32
  let c4_i32 : BitVec 32 := 4#32
  let v12 : BitVec 1 := Scalar.cmpi .eq v3 c4_i32
  let c6560_i32 : BitVec 32 := 6560#32
  let c3_i32 : BitVec 32 := 3#32
  let v10 : BitVec 1 := Scalar.cmpi .eq v3 c3_i32
  let c7017_i32 : BitVec 32 := 7017#32
  let c2_i32_3 : BitVec 32 := 2#32
  let v8 : BitVec 1 := Scalar.cmpi .eq v3 c2_i32_3
  let c736_i32 : BitVec 32 := 736#32
  let c1_i32_2 : BitVec 32 := 1#32
  let v6 : BitVec 1 := Scalar.cmpi .eq v3 c1_i32_2
  let c943_i32 : BitVec 32 := 943#32
  let c7932_i32 : BitVec 32 := 7932#32
  let v7 : BitVec 32 := Scalar.select v6 c943_i32 c7932_i32
  let v9 : BitVec 32 := Scalar.select v8 c736_i32 v7
  let v11 : BitVec 32 := Scalar.select v10 c7017_i32 v9
  let v13 : BitVec 32 := Scalar.select v12 c6560_i32 v11
  let v15 : BitVec 32 := Scalar.select v14 c4780_i32 v13
  let v17 : BitVec 32 := Scalar.select v16 c3350_i32 v15
  let v19 : BitVec 32 := Scalar.select v18 c7573_i32 v17
  let v21 : BitVec 32 := Scalar.select v20 c5970_i32 v19
  let v23 : BitVec 32 := Scalar.select v22 c2818_i32 v21
  let v25 : BitVec 32 := Scalar.select v24 c6176_i32 v23
  let v27 : BitVec 32 := Scalar.select v26 c4161_i32 v25
  let v29 : BitVec 32 := Scalar.select v28 c2562_i32 v27
  let v31 : BitVec 32 := Scalar.select v30 c1378_i32 v29
  let v33 : BitVec 32 := Scalar.select v32 c8174_i32 v31
  let v35 : BitVec 32 := Scalar.select v34 c6170_i32 v33
  let v37 : BitVec 32 := Scalar.select v36 c4241_i32 v35
  let v39 : BitVec 32 := Scalar.select v38 c7767_i32 v37
  let v41 : BitVec 32 := Scalar.select v40 c91_i32 v39
  let v43 : BitVec 32 := Scalar.select v42 c4026_i32 v41
  let v45 : BitVec 32 := Scalar.select v44 c6840_i32 v43
  let v47 : BitVec 32 := Scalar.select v46 c5652_i32 v45
  let v49 : BitVec 32 := Scalar.select v48 c56_i32 v47
  let v51 : BitVec 32 := Scalar.select v50 c3018_i32 v49
  let v53 : BitVec 32 := Scalar.select v52 c7654_i32 v51
  let v55 : BitVec 32 := Scalar.select v54 c6943_i32 v53
  let v57 : BitVec 32 := Scalar.select v56 c5978_i32 v55
  let v59 : BitVec 32 := Scalar.select v58 c2339_i32 v57
  let v61 : BitVec 32 := Scalar.select v60 c2760_i32 v59
  let v63 : BitVec 32 := Scalar.select v62 c4806_i32 v61
  let v65 : BitVec 32 := Scalar.select v64 c2916_i32 v63
  let v67 : BitVec 32 := Scalar.select v66 c6151_i32 v65
  let v69 : BitVec 32 := Scalar.select v68 c2835_i32 v67
  let v71 : BitVec 32 := Scalar.select v70 c1851_i32 v69
  let v73 : BitVec 32 := Scalar.select v72 c5685_i32 v71
  let v75 : BitVec 32 := Scalar.select v74 c1105_i32 v73
  let v77 : BitVec 32 := Scalar.select v76 c2937_i32 v75
  let v79 : BitVec 32 := Scalar.select v78 c6570_i32 v77
  let v81 : BitVec 32 := Scalar.select v80 c3980_i32 v79
  let v83 : BitVec 32 := Scalar.select v82 c7714_i32 v81
  let v85 : BitVec 32 := Scalar.select v84 c1846_i32 v83
  let v87 : BitVec 32 := Scalar.select v86 c3866_i32 v85
  let v89 : BitVec 32 := Scalar.select v88 c2914_i32 v87
  let v91 : BitVec 32 := Scalar.select v90 c1936_i32 v89
  let v93 : BitVec 32 := Scalar.select v92 c4871_i32 v91
  let v95 : BitVec 32 := Scalar.select v94 c2834_i32 v93
  let v97 : BitVec 32 := Scalar.select v96 c6125_i32 v95
  let v99 : BitVec 32 := Scalar.select v98 c3618_i32 v97
  let v101 : BitVec 32 := Scalar.select v100 c7487_i32 v99
  let v103 : BitVec 32 := Scalar.select v102 c593_i32 v101
  let v105 : BitVec 32 := Scalar.select v104 c7351_i32 v103
  let v107 : BitVec 32 := Scalar.select v106 c5479_i32 v105
  let v109 : BitVec 32 := Scalar.select v108 c572_i32 v107
  let v111 : BitVec 32 := Scalar.select v110 c1765_i32 v109
  let v113 : BitVec 32 := Scalar.select v112 c3913_i32 v111
  let v115 : BitVec 32 := Scalar.select v114 c2687_i32 v113
  let v117 : BitVec 32 := Scalar.select v116 c5257_i32 v115
  let v119 : BitVec 32 := Scalar.select v118 c6147_i32 v117
  let v121 : BitVec 32 := Scalar.select v120 c7228_i32 v119
  let v123 : BitVec 32 := Scalar.select v122 c2263_i32 v121
  let v125 : BitVec 32 := Scalar.select v124 c3132_i32 v123
  let v127 : BitVec 32 := Scalar.select v126 c722_i32 v125
  let v129 : BitVec 32 := Scalar.select v128 c1196_i32 v127
  let v131 : BitVec 32 := Scalar.select v130 c1763_i32 v129
  let c7_i32_132 : BitVec 32 := 7#32
  let v259 : BitVec 32 := Scalar.shrsi v131 c7_i32_132
  let v260 : BitVec 32 := Scalar.addi v258 v259
  let c256_i32 : BitVec 32 := 256#32
  let v261 : BitVec 32 := Scalar.muli v260 c256_i32
  let c0_i32_297 : BitVec 32 := 0#32
  let v658 : BitVec 1 := Scalar.cmpi .sgt c0_i32_295 c0_i32_297
  let v659 : BitVec 32 := Scalar.extui v658
  let c0_i32_298 : BitVec 32 := 0#32
  let v660 : BitVec 1 := Scalar.cmpi .slt c0_i32_295 c0_i32_298
  let v661 : BitVec 32 := Scalar.extui v660
  let v662 : BitVec 32 := Scalar.subi v659 v661
  let c2_i32_296 : BitVec 32 := 2#32
  let c0_i32_299 : BitVec 32 := 0#32
  let v663 : BitVec 1 := Scalar.cmpi .sgt c2_i32_296 c0_i32_299
  let v664 : BitVec 32 := Scalar.extui v663
  let c0_i32_300 : BitVec 32 := 0#32
  let v665 : BitVec 1 := Scalar.cmpi .slt c2_i32_296 c0_i32_300
  let v666 : BitVec 32 := Scalar.extui v665
  let v667 : BitVec 32 := Scalar.subi v664 v666
  let v668 : BitVec 1 := Scalar.cmpi .ne v662 v667
  let v669 : BitVec 32 := Scalar.remsi c0_i32_295 c2_i32_296
  let c0_i32_301 : BitVec 32 := 0#32
  let v670 : BitVec 1 := Scalar.cmpi .ne v669 c0_i32_301
  let v671 : BitVec 1 := Scalar.andi v668 v670
  let v657 : BitVec 32 := Scalar.divsi c0_i32_295 c2_i32_296
  let c1_i32_302 : BitVec 32 := 1#32
  let v672 : BitVec 32 := Scalar.subi v657 c1_i32_302
  let v673 : BitVec 32 := Scalar.select v671 v672 v657
  let c15872_i32 : BitVec 32 := 15872#32
  let v674 : BitVec 32 := Scalar.muli v673 c15872_i32
  let v675 : BitVec 32 := Scalar.addi v261 v674
  let v676 : BitVec 32 := v675
  ![v676.toNat]
def k0_off1_at (r : Fin 12) : BitVec 32 × BitVec 32 :=
  if r.val < 6 then
    if r.val < 3 then
      if r.val < 1 then
        (0#32, 0#32)
      else
        if r.val < 2 then
          (1#32, 1#32)
        else
          (0#32, 2#32)
    else
      if r.val < 4 then
        (1#32, 3#32)
      else
        if r.val < 5 then
          (0#32, 4#32)
        else
          (1#32, 5#32)
  else
    if r.val < 9 then
      if r.val < 7 then
        (0#32, 6#32)
      else
        if r.val < 8 then
          (1#32, 7#32)
        else
          (0#32, 60#32)
    else
      if r.val < 10 then
        (1#32, 61#32)
      else
        if r.val < 11 then
          (0#32, 62#32)
        else
          (1#32, 63#32)
def k0_mult2 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_1 : BitVec 32 := 2#32
  let v4 : BitVec 32 := Scalar.muli v1 c2_i32_1
  let c1_i32 : BitVec 32 := 1#32
  let v5 : BitVec 32 := Scalar.addi v4 c1_i32
  let c2048_i32_133 : BitVec 32 := 2048#32
  let v262 : BitVec 32 := Scalar.muli v5 c2048_i32_133
  let c63_i32_130 : BitVec 32 := 63#32
  let v256 : BitVec 1 := Scalar.cmpi .eq v5 c63_i32_130
  let c1763_i32_131 : BitVec 32 := 1763#32
  let c62_i32_128 : BitVec 32 := 62#32
  let v254 : BitVec 1 := Scalar.cmpi .eq v5 c62_i32_128
  let c1196_i32_129 : BitVec 32 := 1196#32
  let c61_i32_126 : BitVec 32 := 61#32
  let v252 : BitVec 1 := Scalar.cmpi .eq v5 c61_i32_126
  let c722_i32_127 : BitVec 32 := 722#32
  let c60_i32_124 : BitVec 32 := 60#32
  let v250 : BitVec 1 := Scalar.cmpi .eq v5 c60_i32_124
  let c3132_i32_125 : BitVec 32 := 3132#32
  let c59_i32_122 : BitVec 32 := 59#32
  let v248 : BitVec 1 := Scalar.cmpi .eq v5 c59_i32_122
  let c2263_i32_123 : BitVec 32 := 2263#32
  let c58_i32_120 : BitVec 32 := 58#32
  let v246 : BitVec 1 := Scalar.cmpi .eq v5 c58_i32_120
  let c7228_i32_121 : BitVec 32 := 7228#32
  let c57_i32_118 : BitVec 32 := 57#32
  let v244 : BitVec 1 := Scalar.cmpi .eq v5 c57_i32_118
  let c6147_i32_119 : BitVec 32 := 6147#32
  let c56_i32_116 : BitVec 32 := 56#32
  let v242 : BitVec 1 := Scalar.cmpi .eq v5 c56_i32_116
  let c5257_i32_117 : BitVec 32 := 5257#32
  let c55_i32_114 : BitVec 32 := 55#32
  let v240 : BitVec 1 := Scalar.cmpi .eq v5 c55_i32_114
  let c2687_i32_115 : BitVec 32 := 2687#32
  let c54_i32_112 : BitVec 32 := 54#32
  let v238 : BitVec 1 := Scalar.cmpi .eq v5 c54_i32_112
  let c3913_i32_113 : BitVec 32 := 3913#32
  let c53_i32_110 : BitVec 32 := 53#32
  let v236 : BitVec 1 := Scalar.cmpi .eq v5 c53_i32_110
  let c1765_i32_111 : BitVec 32 := 1765#32
  let c52_i32_108 : BitVec 32 := 52#32
  let v234 : BitVec 1 := Scalar.cmpi .eq v5 c52_i32_108
  let c572_i32_109 : BitVec 32 := 572#32
  let c51_i32_106 : BitVec 32 := 51#32
  let v232 : BitVec 1 := Scalar.cmpi .eq v5 c51_i32_106
  let c5479_i32_107 : BitVec 32 := 5479#32
  let c50_i32_104 : BitVec 32 := 50#32
  let v230 : BitVec 1 := Scalar.cmpi .eq v5 c50_i32_104
  let c7351_i32_105 : BitVec 32 := 7351#32
  let c49_i32_102 : BitVec 32 := 49#32
  let v228 : BitVec 1 := Scalar.cmpi .eq v5 c49_i32_102
  let c593_i32_103 : BitVec 32 := 593#32
  let c48_i32_100 : BitVec 32 := 48#32
  let v226 : BitVec 1 := Scalar.cmpi .eq v5 c48_i32_100
  let c7487_i32_101 : BitVec 32 := 7487#32
  let c47_i32_98 : BitVec 32 := 47#32
  let v224 : BitVec 1 := Scalar.cmpi .eq v5 c47_i32_98
  let c3618_i32_99 : BitVec 32 := 3618#32
  let c46_i32_96 : BitVec 32 := 46#32
  let v222 : BitVec 1 := Scalar.cmpi .eq v5 c46_i32_96
  let c6125_i32_97 : BitVec 32 := 6125#32
  let c45_i32_94 : BitVec 32 := 45#32
  let v220 : BitVec 1 := Scalar.cmpi .eq v5 c45_i32_94
  let c2834_i32_95 : BitVec 32 := 2834#32
  let c44_i32_92 : BitVec 32 := 44#32
  let v218 : BitVec 1 := Scalar.cmpi .eq v5 c44_i32_92
  let c4871_i32_93 : BitVec 32 := 4871#32
  let c43_i32_90 : BitVec 32 := 43#32
  let v216 : BitVec 1 := Scalar.cmpi .eq v5 c43_i32_90
  let c1936_i32_91 : BitVec 32 := 1936#32
  let c42_i32_88 : BitVec 32 := 42#32
  let v214 : BitVec 1 := Scalar.cmpi .eq v5 c42_i32_88
  let c2914_i32_89 : BitVec 32 := 2914#32
  let c41_i32_86 : BitVec 32 := 41#32
  let v212 : BitVec 1 := Scalar.cmpi .eq v5 c41_i32_86
  let c3866_i32_87 : BitVec 32 := 3866#32
  let c40_i32_84 : BitVec 32 := 40#32
  let v210 : BitVec 1 := Scalar.cmpi .eq v5 c40_i32_84
  let c1846_i32_85 : BitVec 32 := 1846#32
  let c39_i32_82 : BitVec 32 := 39#32
  let v208 : BitVec 1 := Scalar.cmpi .eq v5 c39_i32_82
  let c7714_i32_83 : BitVec 32 := 7714#32
  let c38_i32_80 : BitVec 32 := 38#32
  let v206 : BitVec 1 := Scalar.cmpi .eq v5 c38_i32_80
  let c3980_i32_81 : BitVec 32 := 3980#32
  let c37_i32_78 : BitVec 32 := 37#32
  let v204 : BitVec 1 := Scalar.cmpi .eq v5 c37_i32_78
  let c6570_i32_79 : BitVec 32 := 6570#32
  let c36_i32_76 : BitVec 32 := 36#32
  let v202 : BitVec 1 := Scalar.cmpi .eq v5 c36_i32_76
  let c2937_i32_77 : BitVec 32 := 2937#32
  let c35_i32_74 : BitVec 32 := 35#32
  let v200 : BitVec 1 := Scalar.cmpi .eq v5 c35_i32_74
  let c1105_i32_75 : BitVec 32 := 1105#32
  let c34_i32_72 : BitVec 32 := 34#32
  let v198 : BitVec 1 := Scalar.cmpi .eq v5 c34_i32_72
  let c5685_i32_73 : BitVec 32 := 5685#32
  let c33_i32_70 : BitVec 32 := 33#32
  let v196 : BitVec 1 := Scalar.cmpi .eq v5 c33_i32_70
  let c1851_i32_71 : BitVec 32 := 1851#32
  let c32_i32_68 : BitVec 32 := 32#32
  let v194 : BitVec 1 := Scalar.cmpi .eq v5 c32_i32_68
  let c2835_i32_69 : BitVec 32 := 2835#32
  let c31_i32_66 : BitVec 32 := 31#32
  let v192 : BitVec 1 := Scalar.cmpi .eq v5 c31_i32_66
  let c6151_i32_67 : BitVec 32 := 6151#32
  let c30_i32_64 : BitVec 32 := 30#32
  let v190 : BitVec 1 := Scalar.cmpi .eq v5 c30_i32_64
  let c2916_i32_65 : BitVec 32 := 2916#32
  let c29_i32_62 : BitVec 32 := 29#32
  let v188 : BitVec 1 := Scalar.cmpi .eq v5 c29_i32_62
  let c4806_i32_63 : BitVec 32 := 4806#32
  let c28_i32_60 : BitVec 32 := 28#32
  let v186 : BitVec 1 := Scalar.cmpi .eq v5 c28_i32_60
  let c2760_i32_61 : BitVec 32 := 2760#32
  let c27_i32_58 : BitVec 32 := 27#32
  let v184 : BitVec 1 := Scalar.cmpi .eq v5 c27_i32_58
  let c2339_i32_59 : BitVec 32 := 2339#32
  let c26_i32_56 : BitVec 32 := 26#32
  let v182 : BitVec 1 := Scalar.cmpi .eq v5 c26_i32_56
  let c5978_i32_57 : BitVec 32 := 5978#32
  let c25_i32_54 : BitVec 32 := 25#32
  let v180 : BitVec 1 := Scalar.cmpi .eq v5 c25_i32_54
  let c6943_i32_55 : BitVec 32 := 6943#32
  let c24_i32_52 : BitVec 32 := 24#32
  let v178 : BitVec 1 := Scalar.cmpi .eq v5 c24_i32_52
  let c7654_i32_53 : BitVec 32 := 7654#32
  let c23_i32_50 : BitVec 32 := 23#32
  let v176 : BitVec 1 := Scalar.cmpi .eq v5 c23_i32_50
  let c3018_i32_51 : BitVec 32 := 3018#32
  let c22_i32_48 : BitVec 32 := 22#32
  let v174 : BitVec 1 := Scalar.cmpi .eq v5 c22_i32_48
  let c56_i32_49 : BitVec 32 := 56#32
  let c21_i32_46 : BitVec 32 := 21#32
  let v172 : BitVec 1 := Scalar.cmpi .eq v5 c21_i32_46
  let c5652_i32_47 : BitVec 32 := 5652#32
  let c20_i32_44 : BitVec 32 := 20#32
  let v170 : BitVec 1 := Scalar.cmpi .eq v5 c20_i32_44
  let c6840_i32_45 : BitVec 32 := 6840#32
  let c19_i32_42 : BitVec 32 := 19#32
  let v168 : BitVec 1 := Scalar.cmpi .eq v5 c19_i32_42
  let c4026_i32_43 : BitVec 32 := 4026#32
  let c18_i32_40 : BitVec 32 := 18#32
  let v166 : BitVec 1 := Scalar.cmpi .eq v5 c18_i32_40
  let c91_i32_41 : BitVec 32 := 91#32
  let c17_i32_38 : BitVec 32 := 17#32
  let v164 : BitVec 1 := Scalar.cmpi .eq v5 c17_i32_38
  let c7767_i32_39 : BitVec 32 := 7767#32
  let c16_i32_36 : BitVec 32 := 16#32
  let v162 : BitVec 1 := Scalar.cmpi .eq v5 c16_i32_36
  let c4241_i32_37 : BitVec 32 := 4241#32
  let c15_i32_34 : BitVec 32 := 15#32
  let v160 : BitVec 1 := Scalar.cmpi .eq v5 c15_i32_34
  let c6170_i32_35 : BitVec 32 := 6170#32
  let c14_i32_32 : BitVec 32 := 14#32
  let v158 : BitVec 1 := Scalar.cmpi .eq v5 c14_i32_32
  let c8174_i32_33 : BitVec 32 := 8174#32
  let c13_i32_30 : BitVec 32 := 13#32
  let v156 : BitVec 1 := Scalar.cmpi .eq v5 c13_i32_30
  let c1378_i32_31 : BitVec 32 := 1378#32
  let c12_i32_28 : BitVec 32 := 12#32
  let v154 : BitVec 1 := Scalar.cmpi .eq v5 c12_i32_28
  let c2562_i32_29 : BitVec 32 := 2562#32
  let c11_i32_26 : BitVec 32 := 11#32
  let v152 : BitVec 1 := Scalar.cmpi .eq v5 c11_i32_26
  let c4161_i32_27 : BitVec 32 := 4161#32
  let c10_i32_24 : BitVec 32 := 10#32
  let v150 : BitVec 1 := Scalar.cmpi .eq v5 c10_i32_24
  let c6176_i32_25 : BitVec 32 := 6176#32
  let c9_i32_22 : BitVec 32 := 9#32
  let v148 : BitVec 1 := Scalar.cmpi .eq v5 c9_i32_22
  let c2818_i32_23 : BitVec 32 := 2818#32
  let c8_i32_20 : BitVec 32 := 8#32
  let v146 : BitVec 1 := Scalar.cmpi .eq v5 c8_i32_20
  let c5970_i32_21 : BitVec 32 := 5970#32
  let c7_i32_18 : BitVec 32 := 7#32
  let v144 : BitVec 1 := Scalar.cmpi .eq v5 c7_i32_18
  let c7573_i32_19 : BitVec 32 := 7573#32
  let c6_i32_16 : BitVec 32 := 6#32
  let v142 : BitVec 1 := Scalar.cmpi .eq v5 c6_i32_16
  let c3350_i32_17 : BitVec 32 := 3350#32
  let c5_i32_14 : BitVec 32 := 5#32
  let v140 : BitVec 1 := Scalar.cmpi .eq v5 c5_i32_14
  let c4780_i32_15 : BitVec 32 := 4780#32
  let c4_i32_12 : BitVec 32 := 4#32
  let v138 : BitVec 1 := Scalar.cmpi .eq v5 c4_i32_12
  let c6560_i32_13 : BitVec 32 := 6560#32
  let c3_i32_10 : BitVec 32 := 3#32
  let v136 : BitVec 1 := Scalar.cmpi .eq v5 c3_i32_10
  let c7017_i32_11 : BitVec 32 := 7017#32
  let c2_i32_8 : BitVec 32 := 2#32
  let v134 : BitVec 1 := Scalar.cmpi .eq v5 c2_i32_8
  let c736_i32_9 : BitVec 32 := 736#32
  let c1_i32_5 : BitVec 32 := 1#32
  let v132 : BitVec 1 := Scalar.cmpi .eq v5 c1_i32_5
  let c943_i32_7 : BitVec 32 := 943#32
  let c7932_i32_6 : BitVec 32 := 7932#32
  let v133 : BitVec 32 := Scalar.select v132 c943_i32_7 c7932_i32_6
  let v135 : BitVec 32 := Scalar.select v134 c736_i32_9 v133
  let v137 : BitVec 32 := Scalar.select v136 c7017_i32_11 v135
  let v139 : BitVec 32 := Scalar.select v138 c6560_i32_13 v137
  let v141 : BitVec 32 := Scalar.select v140 c4780_i32_15 v139
  let v143 : BitVec 32 := Scalar.select v142 c3350_i32_17 v141
  let v145 : BitVec 32 := Scalar.select v144 c7573_i32_19 v143
  let v147 : BitVec 32 := Scalar.select v146 c5970_i32_21 v145
  let v149 : BitVec 32 := Scalar.select v148 c2818_i32_23 v147
  let v151 : BitVec 32 := Scalar.select v150 c6176_i32_25 v149
  let v153 : BitVec 32 := Scalar.select v152 c4161_i32_27 v151
  let v155 : BitVec 32 := Scalar.select v154 c2562_i32_29 v153
  let v157 : BitVec 32 := Scalar.select v156 c1378_i32_31 v155
  let v159 : BitVec 32 := Scalar.select v158 c8174_i32_33 v157
  let v161 : BitVec 32 := Scalar.select v160 c6170_i32_35 v159
  let v163 : BitVec 32 := Scalar.select v162 c4241_i32_37 v161
  let v165 : BitVec 32 := Scalar.select v164 c7767_i32_39 v163
  let v167 : BitVec 32 := Scalar.select v166 c91_i32_41 v165
  let v169 : BitVec 32 := Scalar.select v168 c4026_i32_43 v167
  let v171 : BitVec 32 := Scalar.select v170 c6840_i32_45 v169
  let v173 : BitVec 32 := Scalar.select v172 c5652_i32_47 v171
  let v175 : BitVec 32 := Scalar.select v174 c56_i32_49 v173
  let v177 : BitVec 32 := Scalar.select v176 c3018_i32_51 v175
  let v179 : BitVec 32 := Scalar.select v178 c7654_i32_53 v177
  let v181 : BitVec 32 := Scalar.select v180 c6943_i32_55 v179
  let v183 : BitVec 32 := Scalar.select v182 c5978_i32_57 v181
  let v185 : BitVec 32 := Scalar.select v184 c2339_i32_59 v183
  let v187 : BitVec 32 := Scalar.select v186 c2760_i32_61 v185
  let v189 : BitVec 32 := Scalar.select v188 c4806_i32_63 v187
  let v191 : BitVec 32 := Scalar.select v190 c2916_i32_65 v189
  let v193 : BitVec 32 := Scalar.select v192 c6151_i32_67 v191
  let v195 : BitVec 32 := Scalar.select v194 c2835_i32_69 v193
  let v197 : BitVec 32 := Scalar.select v196 c1851_i32_71 v195
  let v199 : BitVec 32 := Scalar.select v198 c5685_i32_73 v197
  let v201 : BitVec 32 := Scalar.select v200 c1105_i32_75 v199
  let v203 : BitVec 32 := Scalar.select v202 c2937_i32_77 v201
  let v205 : BitVec 32 := Scalar.select v204 c6570_i32_79 v203
  let v207 : BitVec 32 := Scalar.select v206 c3980_i32_81 v205
  let v209 : BitVec 32 := Scalar.select v208 c7714_i32_83 v207
  let v211 : BitVec 32 := Scalar.select v210 c1846_i32_85 v209
  let v213 : BitVec 32 := Scalar.select v212 c3866_i32_87 v211
  let v215 : BitVec 32 := Scalar.select v214 c2914_i32_89 v213
  let v217 : BitVec 32 := Scalar.select v216 c1936_i32_91 v215
  let v219 : BitVec 32 := Scalar.select v218 c4871_i32_93 v217
  let v221 : BitVec 32 := Scalar.select v220 c2834_i32_95 v219
  let v223 : BitVec 32 := Scalar.select v222 c6125_i32_97 v221
  let v225 : BitVec 32 := Scalar.select v224 c3618_i32_99 v223
  let v227 : BitVec 32 := Scalar.select v226 c7487_i32_101 v225
  let v229 : BitVec 32 := Scalar.select v228 c593_i32_103 v227
  let v231 : BitVec 32 := Scalar.select v230 c7351_i32_105 v229
  let v233 : BitVec 32 := Scalar.select v232 c5479_i32_107 v231
  let v235 : BitVec 32 := Scalar.select v234 c572_i32_109 v233
  let v237 : BitVec 32 := Scalar.select v236 c1765_i32_111 v235
  let v239 : BitVec 32 := Scalar.select v238 c3913_i32_113 v237
  let v241 : BitVec 32 := Scalar.select v240 c2687_i32_115 v239
  let v243 : BitVec 32 := Scalar.select v242 c5257_i32_117 v241
  let v245 : BitVec 32 := Scalar.select v244 c6147_i32_119 v243
  let v247 : BitVec 32 := Scalar.select v246 c7228_i32_121 v245
  let v249 : BitVec 32 := Scalar.select v248 c2263_i32_123 v247
  let v251 : BitVec 32 := Scalar.select v250 c3132_i32_125 v249
  let v253 : BitVec 32 := Scalar.select v252 c722_i32_127 v251
  let v255 : BitVec 32 := Scalar.select v254 c1196_i32_129 v253
  let v257 : BitVec 32 := Scalar.select v256 c1763_i32_131 v255
  let c7_i32_134 : BitVec 32 := 7#32
  let v263 : BitVec 32 := Scalar.shrsi v257 c7_i32_134
  let v264 : BitVec 32 := Scalar.addi v262 v263
  let c256_i32_135 : BitVec 32 := 256#32
  let v265 : BitVec 32 := Scalar.muli v264 c256_i32_135
  let c1_i32_303 : BitVec 32 := 1#32
  let c0_i32_305 : BitVec 32 := 0#32
  let v680 : BitVec 1 := Scalar.cmpi .sgt c1_i32_303 c0_i32_305
  let v681 : BitVec 32 := Scalar.extui v680
  let c0_i32_306 : BitVec 32 := 0#32
  let v682 : BitVec 1 := Scalar.cmpi .slt c1_i32_303 c0_i32_306
  let v683 : BitVec 32 := Scalar.extui v682
  let v684 : BitVec 32 := Scalar.subi v681 v683
  let c2_i32_304 : BitVec 32 := 2#32
  let c0_i32_307 : BitVec 32 := 0#32
  let v685 : BitVec 1 := Scalar.cmpi .sgt c2_i32_304 c0_i32_307
  let v686 : BitVec 32 := Scalar.extui v685
  let c0_i32_308 : BitVec 32 := 0#32
  let v687 : BitVec 1 := Scalar.cmpi .slt c2_i32_304 c0_i32_308
  let v688 : BitVec 32 := Scalar.extui v687
  let v689 : BitVec 32 := Scalar.subi v686 v688
  let v690 : BitVec 1 := Scalar.cmpi .ne v684 v689
  let v691 : BitVec 32 := Scalar.remsi c1_i32_303 c2_i32_304
  let c0_i32_309 : BitVec 32 := 0#32
  let v692 : BitVec 1 := Scalar.cmpi .ne v691 c0_i32_309
  let v693 : BitVec 1 := Scalar.andi v690 v692
  let v679 : BitVec 32 := Scalar.divsi c1_i32_303 c2_i32_304
  let c1_i32_310 : BitVec 32 := 1#32
  let v694 : BitVec 32 := Scalar.subi v679 c1_i32_310
  let v695 : BitVec 32 := Scalar.select v693 v694 v679
  let c15872_i32_311 : BitVec 32 := 15872#32
  let v696 : BitVec 32 := Scalar.muli v695 c15872_i32_311
  let v697 : BitVec 32 := Scalar.addi v265 v696
  v697
def k0_mult3 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32 : BitVec 32 := 0#32
  let v3 : BitVec 32 := Scalar.addi v2 c0_i32
  let c2048_i32 : BitVec 32 := 2048#32
  let v258 : BitVec 32 := Scalar.muli v3 c2048_i32
  let c63_i32 : BitVec 32 := 63#32
  let v130 : BitVec 1 := Scalar.cmpi .eq v3 c63_i32
  let c1763_i32 : BitVec 32 := 1763#32
  let c62_i32 : BitVec 32 := 62#32
  let v128 : BitVec 1 := Scalar.cmpi .eq v3 c62_i32
  let c1196_i32 : BitVec 32 := 1196#32
  let c61_i32 : BitVec 32 := 61#32
  let v126 : BitVec 1 := Scalar.cmpi .eq v3 c61_i32
  let c722_i32 : BitVec 32 := 722#32
  let c60_i32 : BitVec 32 := 60#32
  let v124 : BitVec 1 := Scalar.cmpi .eq v3 c60_i32
  let c3132_i32 : BitVec 32 := 3132#32
  let c59_i32 : BitVec 32 := 59#32
  let v122 : BitVec 1 := Scalar.cmpi .eq v3 c59_i32
  let c2263_i32 : BitVec 32 := 2263#32
  let c58_i32 : BitVec 32 := 58#32
  let v120 : BitVec 1 := Scalar.cmpi .eq v3 c58_i32
  let c7228_i32 : BitVec 32 := 7228#32
  let c57_i32 : BitVec 32 := 57#32
  let v118 : BitVec 1 := Scalar.cmpi .eq v3 c57_i32
  let c6147_i32 : BitVec 32 := 6147#32
  let c56_i32_4 : BitVec 32 := 56#32
  let v116 : BitVec 1 := Scalar.cmpi .eq v3 c56_i32_4
  let c5257_i32 : BitVec 32 := 5257#32
  let c55_i32 : BitVec 32 := 55#32
  let v114 : BitVec 1 := Scalar.cmpi .eq v3 c55_i32
  let c2687_i32 : BitVec 32 := 2687#32
  let c54_i32 : BitVec 32 := 54#32
  let v112 : BitVec 1 := Scalar.cmpi .eq v3 c54_i32
  let c3913_i32 : BitVec 32 := 3913#32
  let c53_i32 : BitVec 32 := 53#32
  let v110 : BitVec 1 := Scalar.cmpi .eq v3 c53_i32
  let c1765_i32 : BitVec 32 := 1765#32
  let c52_i32 : BitVec 32 := 52#32
  let v108 : BitVec 1 := Scalar.cmpi .eq v3 c52_i32
  let c572_i32 : BitVec 32 := 572#32
  let c51_i32 : BitVec 32 := 51#32
  let v106 : BitVec 1 := Scalar.cmpi .eq v3 c51_i32
  let c5479_i32 : BitVec 32 := 5479#32
  let c50_i32 : BitVec 32 := 50#32
  let v104 : BitVec 1 := Scalar.cmpi .eq v3 c50_i32
  let c7351_i32 : BitVec 32 := 7351#32
  let c49_i32 : BitVec 32 := 49#32
  let v102 : BitVec 1 := Scalar.cmpi .eq v3 c49_i32
  let c593_i32 : BitVec 32 := 593#32
  let c48_i32 : BitVec 32 := 48#32
  let v100 : BitVec 1 := Scalar.cmpi .eq v3 c48_i32
  let c7487_i32 : BitVec 32 := 7487#32
  let c47_i32 : BitVec 32 := 47#32
  let v98 : BitVec 1 := Scalar.cmpi .eq v3 c47_i32
  let c3618_i32 : BitVec 32 := 3618#32
  let c46_i32 : BitVec 32 := 46#32
  let v96 : BitVec 1 := Scalar.cmpi .eq v3 c46_i32
  let c6125_i32 : BitVec 32 := 6125#32
  let c45_i32 : BitVec 32 := 45#32
  let v94 : BitVec 1 := Scalar.cmpi .eq v3 c45_i32
  let c2834_i32 : BitVec 32 := 2834#32
  let c44_i32 : BitVec 32 := 44#32
  let v92 : BitVec 1 := Scalar.cmpi .eq v3 c44_i32
  let c4871_i32 : BitVec 32 := 4871#32
  let c43_i32 : BitVec 32 := 43#32
  let v90 : BitVec 1 := Scalar.cmpi .eq v3 c43_i32
  let c1936_i32 : BitVec 32 := 1936#32
  let c42_i32 : BitVec 32 := 42#32
  let v88 : BitVec 1 := Scalar.cmpi .eq v3 c42_i32
  let c2914_i32 : BitVec 32 := 2914#32
  let c41_i32 : BitVec 32 := 41#32
  let v86 : BitVec 1 := Scalar.cmpi .eq v3 c41_i32
  let c3866_i32 : BitVec 32 := 3866#32
  let c40_i32 : BitVec 32 := 40#32
  let v84 : BitVec 1 := Scalar.cmpi .eq v3 c40_i32
  let c1846_i32 : BitVec 32 := 1846#32
  let c39_i32 : BitVec 32 := 39#32
  let v82 : BitVec 1 := Scalar.cmpi .eq v3 c39_i32
  let c7714_i32 : BitVec 32 := 7714#32
  let c38_i32 : BitVec 32 := 38#32
  let v80 : BitVec 1 := Scalar.cmpi .eq v3 c38_i32
  let c3980_i32 : BitVec 32 := 3980#32
  let c37_i32 : BitVec 32 := 37#32
  let v78 : BitVec 1 := Scalar.cmpi .eq v3 c37_i32
  let c6570_i32 : BitVec 32 := 6570#32
  let c36_i32 : BitVec 32 := 36#32
  let v76 : BitVec 1 := Scalar.cmpi .eq v3 c36_i32
  let c2937_i32 : BitVec 32 := 2937#32
  let c35_i32 : BitVec 32 := 35#32
  let v74 : BitVec 1 := Scalar.cmpi .eq v3 c35_i32
  let c1105_i32 : BitVec 32 := 1105#32
  let c34_i32 : BitVec 32 := 34#32
  let v72 : BitVec 1 := Scalar.cmpi .eq v3 c34_i32
  let c5685_i32 : BitVec 32 := 5685#32
  let c33_i32 : BitVec 32 := 33#32
  let v70 : BitVec 1 := Scalar.cmpi .eq v3 c33_i32
  let c1851_i32 : BitVec 32 := 1851#32
  let c32_i32 : BitVec 32 := 32#32
  let v68 : BitVec 1 := Scalar.cmpi .eq v3 c32_i32
  let c2835_i32 : BitVec 32 := 2835#32
  let c31_i32 : BitVec 32 := 31#32
  let v66 : BitVec 1 := Scalar.cmpi .eq v3 c31_i32
  let c6151_i32 : BitVec 32 := 6151#32
  let c30_i32 : BitVec 32 := 30#32
  let v64 : BitVec 1 := Scalar.cmpi .eq v3 c30_i32
  let c2916_i32 : BitVec 32 := 2916#32
  let c29_i32 : BitVec 32 := 29#32
  let v62 : BitVec 1 := Scalar.cmpi .eq v3 c29_i32
  let c4806_i32 : BitVec 32 := 4806#32
  let c28_i32 : BitVec 32 := 28#32
  let v60 : BitVec 1 := Scalar.cmpi .eq v3 c28_i32
  let c2760_i32 : BitVec 32 := 2760#32
  let c27_i32 : BitVec 32 := 27#32
  let v58 : BitVec 1 := Scalar.cmpi .eq v3 c27_i32
  let c2339_i32 : BitVec 32 := 2339#32
  let c26_i32 : BitVec 32 := 26#32
  let v56 : BitVec 1 := Scalar.cmpi .eq v3 c26_i32
  let c5978_i32 : BitVec 32 := 5978#32
  let c25_i32 : BitVec 32 := 25#32
  let v54 : BitVec 1 := Scalar.cmpi .eq v3 c25_i32
  let c6943_i32 : BitVec 32 := 6943#32
  let c24_i32 : BitVec 32 := 24#32
  let v52 : BitVec 1 := Scalar.cmpi .eq v3 c24_i32
  let c7654_i32 : BitVec 32 := 7654#32
  let c23_i32 : BitVec 32 := 23#32
  let v50 : BitVec 1 := Scalar.cmpi .eq v3 c23_i32
  let c3018_i32 : BitVec 32 := 3018#32
  let c22_i32 : BitVec 32 := 22#32
  let v48 : BitVec 1 := Scalar.cmpi .eq v3 c22_i32
  let c56_i32 : BitVec 32 := 56#32
  let c21_i32 : BitVec 32 := 21#32
  let v46 : BitVec 1 := Scalar.cmpi .eq v3 c21_i32
  let c5652_i32 : BitVec 32 := 5652#32
  let c20_i32 : BitVec 32 := 20#32
  let v44 : BitVec 1 := Scalar.cmpi .eq v3 c20_i32
  let c6840_i32 : BitVec 32 := 6840#32
  let c19_i32 : BitVec 32 := 19#32
  let v42 : BitVec 1 := Scalar.cmpi .eq v3 c19_i32
  let c4026_i32 : BitVec 32 := 4026#32
  let c18_i32 : BitVec 32 := 18#32
  let v40 : BitVec 1 := Scalar.cmpi .eq v3 c18_i32
  let c91_i32 : BitVec 32 := 91#32
  let c17_i32 : BitVec 32 := 17#32
  let v38 : BitVec 1 := Scalar.cmpi .eq v3 c17_i32
  let c7767_i32 : BitVec 32 := 7767#32
  let c16_i32 : BitVec 32 := 16#32
  let v36 : BitVec 1 := Scalar.cmpi .eq v3 c16_i32
  let c4241_i32 : BitVec 32 := 4241#32
  let c15_i32 : BitVec 32 := 15#32
  let v34 : BitVec 1 := Scalar.cmpi .eq v3 c15_i32
  let c6170_i32 : BitVec 32 := 6170#32
  let c14_i32 : BitVec 32 := 14#32
  let v32 : BitVec 1 := Scalar.cmpi .eq v3 c14_i32
  let c8174_i32 : BitVec 32 := 8174#32
  let c13_i32 : BitVec 32 := 13#32
  let v30 : BitVec 1 := Scalar.cmpi .eq v3 c13_i32
  let c1378_i32 : BitVec 32 := 1378#32
  let c12_i32 : BitVec 32 := 12#32
  let v28 : BitVec 1 := Scalar.cmpi .eq v3 c12_i32
  let c2562_i32 : BitVec 32 := 2562#32
  let c11_i32 : BitVec 32 := 11#32
  let v26 : BitVec 1 := Scalar.cmpi .eq v3 c11_i32
  let c4161_i32 : BitVec 32 := 4161#32
  let c10_i32 : BitVec 32 := 10#32
  let v24 : BitVec 1 := Scalar.cmpi .eq v3 c10_i32
  let c6176_i32 : BitVec 32 := 6176#32
  let c9_i32 : BitVec 32 := 9#32
  let v22 : BitVec 1 := Scalar.cmpi .eq v3 c9_i32
  let c2818_i32 : BitVec 32 := 2818#32
  let c8_i32 : BitVec 32 := 8#32
  let v20 : BitVec 1 := Scalar.cmpi .eq v3 c8_i32
  let c5970_i32 : BitVec 32 := 5970#32
  let c7_i32 : BitVec 32 := 7#32
  let v18 : BitVec 1 := Scalar.cmpi .eq v3 c7_i32
  let c7573_i32 : BitVec 32 := 7573#32
  let c6_i32 : BitVec 32 := 6#32
  let v16 : BitVec 1 := Scalar.cmpi .eq v3 c6_i32
  let c3350_i32 : BitVec 32 := 3350#32
  let c5_i32 : BitVec 32 := 5#32
  let v14 : BitVec 1 := Scalar.cmpi .eq v3 c5_i32
  let c4780_i32 : BitVec 32 := 4780#32
  let c4_i32 : BitVec 32 := 4#32
  let v12 : BitVec 1 := Scalar.cmpi .eq v3 c4_i32
  let c6560_i32 : BitVec 32 := 6560#32
  let c3_i32 : BitVec 32 := 3#32
  let v10 : BitVec 1 := Scalar.cmpi .eq v3 c3_i32
  let c7017_i32 : BitVec 32 := 7017#32
  let c2_i32_3 : BitVec 32 := 2#32
  let v8 : BitVec 1 := Scalar.cmpi .eq v3 c2_i32_3
  let c736_i32 : BitVec 32 := 736#32
  let c1_i32_2 : BitVec 32 := 1#32
  let v6 : BitVec 1 := Scalar.cmpi .eq v3 c1_i32_2
  let c943_i32 : BitVec 32 := 943#32
  let c7932_i32 : BitVec 32 := 7932#32
  let v7 : BitVec 32 := Scalar.select v6 c943_i32 c7932_i32
  let v9 : BitVec 32 := Scalar.select v8 c736_i32 v7
  let v11 : BitVec 32 := Scalar.select v10 c7017_i32 v9
  let v13 : BitVec 32 := Scalar.select v12 c6560_i32 v11
  let v15 : BitVec 32 := Scalar.select v14 c4780_i32 v13
  let v17 : BitVec 32 := Scalar.select v16 c3350_i32 v15
  let v19 : BitVec 32 := Scalar.select v18 c7573_i32 v17
  let v21 : BitVec 32 := Scalar.select v20 c5970_i32 v19
  let v23 : BitVec 32 := Scalar.select v22 c2818_i32 v21
  let v25 : BitVec 32 := Scalar.select v24 c6176_i32 v23
  let v27 : BitVec 32 := Scalar.select v26 c4161_i32 v25
  let v29 : BitVec 32 := Scalar.select v28 c2562_i32 v27
  let v31 : BitVec 32 := Scalar.select v30 c1378_i32 v29
  let v33 : BitVec 32 := Scalar.select v32 c8174_i32 v31
  let v35 : BitVec 32 := Scalar.select v34 c6170_i32 v33
  let v37 : BitVec 32 := Scalar.select v36 c4241_i32 v35
  let v39 : BitVec 32 := Scalar.select v38 c7767_i32 v37
  let v41 : BitVec 32 := Scalar.select v40 c91_i32 v39
  let v43 : BitVec 32 := Scalar.select v42 c4026_i32 v41
  let v45 : BitVec 32 := Scalar.select v44 c6840_i32 v43
  let v47 : BitVec 32 := Scalar.select v46 c5652_i32 v45
  let v49 : BitVec 32 := Scalar.select v48 c56_i32 v47
  let v51 : BitVec 32 := Scalar.select v50 c3018_i32 v49
  let v53 : BitVec 32 := Scalar.select v52 c7654_i32 v51
  let v55 : BitVec 32 := Scalar.select v54 c6943_i32 v53
  let v57 : BitVec 32 := Scalar.select v56 c5978_i32 v55
  let v59 : BitVec 32 := Scalar.select v58 c2339_i32 v57
  let v61 : BitVec 32 := Scalar.select v60 c2760_i32 v59
  let v63 : BitVec 32 := Scalar.select v62 c4806_i32 v61
  let v65 : BitVec 32 := Scalar.select v64 c2916_i32 v63
  let v67 : BitVec 32 := Scalar.select v66 c6151_i32 v65
  let v69 : BitVec 32 := Scalar.select v68 c2835_i32 v67
  let v71 : BitVec 32 := Scalar.select v70 c1851_i32 v69
  let v73 : BitVec 32 := Scalar.select v72 c5685_i32 v71
  let v75 : BitVec 32 := Scalar.select v74 c1105_i32 v73
  let v77 : BitVec 32 := Scalar.select v76 c2937_i32 v75
  let v79 : BitVec 32 := Scalar.select v78 c6570_i32 v77
  let v81 : BitVec 32 := Scalar.select v80 c3980_i32 v79
  let v83 : BitVec 32 := Scalar.select v82 c7714_i32 v81
  let v85 : BitVec 32 := Scalar.select v84 c1846_i32 v83
  let v87 : BitVec 32 := Scalar.select v86 c3866_i32 v85
  let v89 : BitVec 32 := Scalar.select v88 c2914_i32 v87
  let v91 : BitVec 32 := Scalar.select v90 c1936_i32 v89
  let v93 : BitVec 32 := Scalar.select v92 c4871_i32 v91
  let v95 : BitVec 32 := Scalar.select v94 c2834_i32 v93
  let v97 : BitVec 32 := Scalar.select v96 c6125_i32 v95
  let v99 : BitVec 32 := Scalar.select v98 c3618_i32 v97
  let v101 : BitVec 32 := Scalar.select v100 c7487_i32 v99
  let v103 : BitVec 32 := Scalar.select v102 c593_i32 v101
  let v105 : BitVec 32 := Scalar.select v104 c7351_i32 v103
  let v107 : BitVec 32 := Scalar.select v106 c5479_i32 v105
  let v109 : BitVec 32 := Scalar.select v108 c572_i32 v107
  let v111 : BitVec 32 := Scalar.select v110 c1765_i32 v109
  let v113 : BitVec 32 := Scalar.select v112 c3913_i32 v111
  let v115 : BitVec 32 := Scalar.select v114 c2687_i32 v113
  let v117 : BitVec 32 := Scalar.select v116 c5257_i32 v115
  let v119 : BitVec 32 := Scalar.select v118 c6147_i32 v117
  let v121 : BitVec 32 := Scalar.select v120 c7228_i32 v119
  let v123 : BitVec 32 := Scalar.select v122 c2263_i32 v121
  let v125 : BitVec 32 := Scalar.select v124 c3132_i32 v123
  let v127 : BitVec 32 := Scalar.select v126 c722_i32 v125
  let v129 : BitVec 32 := Scalar.select v128 c1196_i32 v127
  let v131 : BitVec 32 := Scalar.select v130 c1763_i32 v129
  let c7_i32_132 : BitVec 32 := 7#32
  let v259 : BitVec 32 := Scalar.shrsi v131 c7_i32_132
  let v260 : BitVec 32 := Scalar.addi v258 v259
  let c256_i32 : BitVec 32 := 256#32
  let v261 : BitVec 32 := Scalar.muli v260 c256_i32
  let c2_i32_312 : BitVec 32 := 2#32
  let c0_i32_314 : BitVec 32 := 0#32
  let v702 : BitVec 1 := Scalar.cmpi .sgt c2_i32_312 c0_i32_314
  let v703 : BitVec 32 := Scalar.extui v702
  let c0_i32_315 : BitVec 32 := 0#32
  let v704 : BitVec 1 := Scalar.cmpi .slt c2_i32_312 c0_i32_315
  let v705 : BitVec 32 := Scalar.extui v704
  let v706 : BitVec 32 := Scalar.subi v703 v705
  let c2_i32_313 : BitVec 32 := 2#32
  let c0_i32_316 : BitVec 32 := 0#32
  let v707 : BitVec 1 := Scalar.cmpi .sgt c2_i32_313 c0_i32_316
  let v708 : BitVec 32 := Scalar.extui v707
  let c0_i32_317 : BitVec 32 := 0#32
  let v709 : BitVec 1 := Scalar.cmpi .slt c2_i32_313 c0_i32_317
  let v710 : BitVec 32 := Scalar.extui v709
  let v711 : BitVec 32 := Scalar.subi v708 v710
  let v712 : BitVec 1 := Scalar.cmpi .ne v706 v711
  let v713 : BitVec 32 := Scalar.remsi c2_i32_312 c2_i32_313
  let c0_i32_318 : BitVec 32 := 0#32
  let v714 : BitVec 1 := Scalar.cmpi .ne v713 c0_i32_318
  let v715 : BitVec 1 := Scalar.andi v712 v714
  let v701 : BitVec 32 := Scalar.divsi c2_i32_312 c2_i32_313
  let c1_i32_319 : BitVec 32 := 1#32
  let v716 : BitVec 32 := Scalar.subi v701 c1_i32_319
  let v717 : BitVec 32 := Scalar.select v715 v716 v701
  let c15872_i32_320 : BitVec 32 := 15872#32
  let v718 : BitVec 32 := Scalar.muli v717 c15872_i32_320
  let v719 : BitVec 32 := Scalar.addi v261 v718
  v719
def k0_mult4 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_1 : BitVec 32 := 2#32
  let v4 : BitVec 32 := Scalar.muli v1 c2_i32_1
  let c1_i32 : BitVec 32 := 1#32
  let v5 : BitVec 32 := Scalar.addi v4 c1_i32
  let c2048_i32_133 : BitVec 32 := 2048#32
  let v262 : BitVec 32 := Scalar.muli v5 c2048_i32_133
  let c63_i32_130 : BitVec 32 := 63#32
  let v256 : BitVec 1 := Scalar.cmpi .eq v5 c63_i32_130
  let c1763_i32_131 : BitVec 32 := 1763#32
  let c62_i32_128 : BitVec 32 := 62#32
  let v254 : BitVec 1 := Scalar.cmpi .eq v5 c62_i32_128
  let c1196_i32_129 : BitVec 32 := 1196#32
  let c61_i32_126 : BitVec 32 := 61#32
  let v252 : BitVec 1 := Scalar.cmpi .eq v5 c61_i32_126
  let c722_i32_127 : BitVec 32 := 722#32
  let c60_i32_124 : BitVec 32 := 60#32
  let v250 : BitVec 1 := Scalar.cmpi .eq v5 c60_i32_124
  let c3132_i32_125 : BitVec 32 := 3132#32
  let c59_i32_122 : BitVec 32 := 59#32
  let v248 : BitVec 1 := Scalar.cmpi .eq v5 c59_i32_122
  let c2263_i32_123 : BitVec 32 := 2263#32
  let c58_i32_120 : BitVec 32 := 58#32
  let v246 : BitVec 1 := Scalar.cmpi .eq v5 c58_i32_120
  let c7228_i32_121 : BitVec 32 := 7228#32
  let c57_i32_118 : BitVec 32 := 57#32
  let v244 : BitVec 1 := Scalar.cmpi .eq v5 c57_i32_118
  let c6147_i32_119 : BitVec 32 := 6147#32
  let c56_i32_116 : BitVec 32 := 56#32
  let v242 : BitVec 1 := Scalar.cmpi .eq v5 c56_i32_116
  let c5257_i32_117 : BitVec 32 := 5257#32
  let c55_i32_114 : BitVec 32 := 55#32
  let v240 : BitVec 1 := Scalar.cmpi .eq v5 c55_i32_114
  let c2687_i32_115 : BitVec 32 := 2687#32
  let c54_i32_112 : BitVec 32 := 54#32
  let v238 : BitVec 1 := Scalar.cmpi .eq v5 c54_i32_112
  let c3913_i32_113 : BitVec 32 := 3913#32
  let c53_i32_110 : BitVec 32 := 53#32
  let v236 : BitVec 1 := Scalar.cmpi .eq v5 c53_i32_110
  let c1765_i32_111 : BitVec 32 := 1765#32
  let c52_i32_108 : BitVec 32 := 52#32
  let v234 : BitVec 1 := Scalar.cmpi .eq v5 c52_i32_108
  let c572_i32_109 : BitVec 32 := 572#32
  let c51_i32_106 : BitVec 32 := 51#32
  let v232 : BitVec 1 := Scalar.cmpi .eq v5 c51_i32_106
  let c5479_i32_107 : BitVec 32 := 5479#32
  let c50_i32_104 : BitVec 32 := 50#32
  let v230 : BitVec 1 := Scalar.cmpi .eq v5 c50_i32_104
  let c7351_i32_105 : BitVec 32 := 7351#32
  let c49_i32_102 : BitVec 32 := 49#32
  let v228 : BitVec 1 := Scalar.cmpi .eq v5 c49_i32_102
  let c593_i32_103 : BitVec 32 := 593#32
  let c48_i32_100 : BitVec 32 := 48#32
  let v226 : BitVec 1 := Scalar.cmpi .eq v5 c48_i32_100
  let c7487_i32_101 : BitVec 32 := 7487#32
  let c47_i32_98 : BitVec 32 := 47#32
  let v224 : BitVec 1 := Scalar.cmpi .eq v5 c47_i32_98
  let c3618_i32_99 : BitVec 32 := 3618#32
  let c46_i32_96 : BitVec 32 := 46#32
  let v222 : BitVec 1 := Scalar.cmpi .eq v5 c46_i32_96
  let c6125_i32_97 : BitVec 32 := 6125#32
  let c45_i32_94 : BitVec 32 := 45#32
  let v220 : BitVec 1 := Scalar.cmpi .eq v5 c45_i32_94
  let c2834_i32_95 : BitVec 32 := 2834#32
  let c44_i32_92 : BitVec 32 := 44#32
  let v218 : BitVec 1 := Scalar.cmpi .eq v5 c44_i32_92
  let c4871_i32_93 : BitVec 32 := 4871#32
  let c43_i32_90 : BitVec 32 := 43#32
  let v216 : BitVec 1 := Scalar.cmpi .eq v5 c43_i32_90
  let c1936_i32_91 : BitVec 32 := 1936#32
  let c42_i32_88 : BitVec 32 := 42#32
  let v214 : BitVec 1 := Scalar.cmpi .eq v5 c42_i32_88
  let c2914_i32_89 : BitVec 32 := 2914#32
  let c41_i32_86 : BitVec 32 := 41#32
  let v212 : BitVec 1 := Scalar.cmpi .eq v5 c41_i32_86
  let c3866_i32_87 : BitVec 32 := 3866#32
  let c40_i32_84 : BitVec 32 := 40#32
  let v210 : BitVec 1 := Scalar.cmpi .eq v5 c40_i32_84
  let c1846_i32_85 : BitVec 32 := 1846#32
  let c39_i32_82 : BitVec 32 := 39#32
  let v208 : BitVec 1 := Scalar.cmpi .eq v5 c39_i32_82
  let c7714_i32_83 : BitVec 32 := 7714#32
  let c38_i32_80 : BitVec 32 := 38#32
  let v206 : BitVec 1 := Scalar.cmpi .eq v5 c38_i32_80
  let c3980_i32_81 : BitVec 32 := 3980#32
  let c37_i32_78 : BitVec 32 := 37#32
  let v204 : BitVec 1 := Scalar.cmpi .eq v5 c37_i32_78
  let c6570_i32_79 : BitVec 32 := 6570#32
  let c36_i32_76 : BitVec 32 := 36#32
  let v202 : BitVec 1 := Scalar.cmpi .eq v5 c36_i32_76
  let c2937_i32_77 : BitVec 32 := 2937#32
  let c35_i32_74 : BitVec 32 := 35#32
  let v200 : BitVec 1 := Scalar.cmpi .eq v5 c35_i32_74
  let c1105_i32_75 : BitVec 32 := 1105#32
  let c34_i32_72 : BitVec 32 := 34#32
  let v198 : BitVec 1 := Scalar.cmpi .eq v5 c34_i32_72
  let c5685_i32_73 : BitVec 32 := 5685#32
  let c33_i32_70 : BitVec 32 := 33#32
  let v196 : BitVec 1 := Scalar.cmpi .eq v5 c33_i32_70
  let c1851_i32_71 : BitVec 32 := 1851#32
  let c32_i32_68 : BitVec 32 := 32#32
  let v194 : BitVec 1 := Scalar.cmpi .eq v5 c32_i32_68
  let c2835_i32_69 : BitVec 32 := 2835#32
  let c31_i32_66 : BitVec 32 := 31#32
  let v192 : BitVec 1 := Scalar.cmpi .eq v5 c31_i32_66
  let c6151_i32_67 : BitVec 32 := 6151#32
  let c30_i32_64 : BitVec 32 := 30#32
  let v190 : BitVec 1 := Scalar.cmpi .eq v5 c30_i32_64
  let c2916_i32_65 : BitVec 32 := 2916#32
  let c29_i32_62 : BitVec 32 := 29#32
  let v188 : BitVec 1 := Scalar.cmpi .eq v5 c29_i32_62
  let c4806_i32_63 : BitVec 32 := 4806#32
  let c28_i32_60 : BitVec 32 := 28#32
  let v186 : BitVec 1 := Scalar.cmpi .eq v5 c28_i32_60
  let c2760_i32_61 : BitVec 32 := 2760#32
  let c27_i32_58 : BitVec 32 := 27#32
  let v184 : BitVec 1 := Scalar.cmpi .eq v5 c27_i32_58
  let c2339_i32_59 : BitVec 32 := 2339#32
  let c26_i32_56 : BitVec 32 := 26#32
  let v182 : BitVec 1 := Scalar.cmpi .eq v5 c26_i32_56
  let c5978_i32_57 : BitVec 32 := 5978#32
  let c25_i32_54 : BitVec 32 := 25#32
  let v180 : BitVec 1 := Scalar.cmpi .eq v5 c25_i32_54
  let c6943_i32_55 : BitVec 32 := 6943#32
  let c24_i32_52 : BitVec 32 := 24#32
  let v178 : BitVec 1 := Scalar.cmpi .eq v5 c24_i32_52
  let c7654_i32_53 : BitVec 32 := 7654#32
  let c23_i32_50 : BitVec 32 := 23#32
  let v176 : BitVec 1 := Scalar.cmpi .eq v5 c23_i32_50
  let c3018_i32_51 : BitVec 32 := 3018#32
  let c22_i32_48 : BitVec 32 := 22#32
  let v174 : BitVec 1 := Scalar.cmpi .eq v5 c22_i32_48
  let c56_i32_49 : BitVec 32 := 56#32
  let c21_i32_46 : BitVec 32 := 21#32
  let v172 : BitVec 1 := Scalar.cmpi .eq v5 c21_i32_46
  let c5652_i32_47 : BitVec 32 := 5652#32
  let c20_i32_44 : BitVec 32 := 20#32
  let v170 : BitVec 1 := Scalar.cmpi .eq v5 c20_i32_44
  let c6840_i32_45 : BitVec 32 := 6840#32
  let c19_i32_42 : BitVec 32 := 19#32
  let v168 : BitVec 1 := Scalar.cmpi .eq v5 c19_i32_42
  let c4026_i32_43 : BitVec 32 := 4026#32
  let c18_i32_40 : BitVec 32 := 18#32
  let v166 : BitVec 1 := Scalar.cmpi .eq v5 c18_i32_40
  let c91_i32_41 : BitVec 32 := 91#32
  let c17_i32_38 : BitVec 32 := 17#32
  let v164 : BitVec 1 := Scalar.cmpi .eq v5 c17_i32_38
  let c7767_i32_39 : BitVec 32 := 7767#32
  let c16_i32_36 : BitVec 32 := 16#32
  let v162 : BitVec 1 := Scalar.cmpi .eq v5 c16_i32_36
  let c4241_i32_37 : BitVec 32 := 4241#32
  let c15_i32_34 : BitVec 32 := 15#32
  let v160 : BitVec 1 := Scalar.cmpi .eq v5 c15_i32_34
  let c6170_i32_35 : BitVec 32 := 6170#32
  let c14_i32_32 : BitVec 32 := 14#32
  let v158 : BitVec 1 := Scalar.cmpi .eq v5 c14_i32_32
  let c8174_i32_33 : BitVec 32 := 8174#32
  let c13_i32_30 : BitVec 32 := 13#32
  let v156 : BitVec 1 := Scalar.cmpi .eq v5 c13_i32_30
  let c1378_i32_31 : BitVec 32 := 1378#32
  let c12_i32_28 : BitVec 32 := 12#32
  let v154 : BitVec 1 := Scalar.cmpi .eq v5 c12_i32_28
  let c2562_i32_29 : BitVec 32 := 2562#32
  let c11_i32_26 : BitVec 32 := 11#32
  let v152 : BitVec 1 := Scalar.cmpi .eq v5 c11_i32_26
  let c4161_i32_27 : BitVec 32 := 4161#32
  let c10_i32_24 : BitVec 32 := 10#32
  let v150 : BitVec 1 := Scalar.cmpi .eq v5 c10_i32_24
  let c6176_i32_25 : BitVec 32 := 6176#32
  let c9_i32_22 : BitVec 32 := 9#32
  let v148 : BitVec 1 := Scalar.cmpi .eq v5 c9_i32_22
  let c2818_i32_23 : BitVec 32 := 2818#32
  let c8_i32_20 : BitVec 32 := 8#32
  let v146 : BitVec 1 := Scalar.cmpi .eq v5 c8_i32_20
  let c5970_i32_21 : BitVec 32 := 5970#32
  let c7_i32_18 : BitVec 32 := 7#32
  let v144 : BitVec 1 := Scalar.cmpi .eq v5 c7_i32_18
  let c7573_i32_19 : BitVec 32 := 7573#32
  let c6_i32_16 : BitVec 32 := 6#32
  let v142 : BitVec 1 := Scalar.cmpi .eq v5 c6_i32_16
  let c3350_i32_17 : BitVec 32 := 3350#32
  let c5_i32_14 : BitVec 32 := 5#32
  let v140 : BitVec 1 := Scalar.cmpi .eq v5 c5_i32_14
  let c4780_i32_15 : BitVec 32 := 4780#32
  let c4_i32_12 : BitVec 32 := 4#32
  let v138 : BitVec 1 := Scalar.cmpi .eq v5 c4_i32_12
  let c6560_i32_13 : BitVec 32 := 6560#32
  let c3_i32_10 : BitVec 32 := 3#32
  let v136 : BitVec 1 := Scalar.cmpi .eq v5 c3_i32_10
  let c7017_i32_11 : BitVec 32 := 7017#32
  let c2_i32_8 : BitVec 32 := 2#32
  let v134 : BitVec 1 := Scalar.cmpi .eq v5 c2_i32_8
  let c736_i32_9 : BitVec 32 := 736#32
  let c1_i32_5 : BitVec 32 := 1#32
  let v132 : BitVec 1 := Scalar.cmpi .eq v5 c1_i32_5
  let c943_i32_7 : BitVec 32 := 943#32
  let c7932_i32_6 : BitVec 32 := 7932#32
  let v133 : BitVec 32 := Scalar.select v132 c943_i32_7 c7932_i32_6
  let v135 : BitVec 32 := Scalar.select v134 c736_i32_9 v133
  let v137 : BitVec 32 := Scalar.select v136 c7017_i32_11 v135
  let v139 : BitVec 32 := Scalar.select v138 c6560_i32_13 v137
  let v141 : BitVec 32 := Scalar.select v140 c4780_i32_15 v139
  let v143 : BitVec 32 := Scalar.select v142 c3350_i32_17 v141
  let v145 : BitVec 32 := Scalar.select v144 c7573_i32_19 v143
  let v147 : BitVec 32 := Scalar.select v146 c5970_i32_21 v145
  let v149 : BitVec 32 := Scalar.select v148 c2818_i32_23 v147
  let v151 : BitVec 32 := Scalar.select v150 c6176_i32_25 v149
  let v153 : BitVec 32 := Scalar.select v152 c4161_i32_27 v151
  let v155 : BitVec 32 := Scalar.select v154 c2562_i32_29 v153
  let v157 : BitVec 32 := Scalar.select v156 c1378_i32_31 v155
  let v159 : BitVec 32 := Scalar.select v158 c8174_i32_33 v157
  let v161 : BitVec 32 := Scalar.select v160 c6170_i32_35 v159
  let v163 : BitVec 32 := Scalar.select v162 c4241_i32_37 v161
  let v165 : BitVec 32 := Scalar.select v164 c7767_i32_39 v163
  let v167 : BitVec 32 := Scalar.select v166 c91_i32_41 v165
  let v169 : BitVec 32 := Scalar.select v168 c4026_i32_43 v167
  let v171 : BitVec 32 := Scalar.select v170 c6840_i32_45 v169
  let v173 : BitVec 32 := Scalar.select v172 c5652_i32_47 v171
  let v175 : BitVec 32 := Scalar.select v174 c56_i32_49 v173
  let v177 : BitVec 32 := Scalar.select v176 c3018_i32_51 v175
  let v179 : BitVec 32 := Scalar.select v178 c7654_i32_53 v177
  let v181 : BitVec 32 := Scalar.select v180 c6943_i32_55 v179
  let v183 : BitVec 32 := Scalar.select v182 c5978_i32_57 v181
  let v185 : BitVec 32 := Scalar.select v184 c2339_i32_59 v183
  let v187 : BitVec 32 := Scalar.select v186 c2760_i32_61 v185
  let v189 : BitVec 32 := Scalar.select v188 c4806_i32_63 v187
  let v191 : BitVec 32 := Scalar.select v190 c2916_i32_65 v189
  let v193 : BitVec 32 := Scalar.select v192 c6151_i32_67 v191
  let v195 : BitVec 32 := Scalar.select v194 c2835_i32_69 v193
  let v197 : BitVec 32 := Scalar.select v196 c1851_i32_71 v195
  let v199 : BitVec 32 := Scalar.select v198 c5685_i32_73 v197
  let v201 : BitVec 32 := Scalar.select v200 c1105_i32_75 v199
  let v203 : BitVec 32 := Scalar.select v202 c2937_i32_77 v201
  let v205 : BitVec 32 := Scalar.select v204 c6570_i32_79 v203
  let v207 : BitVec 32 := Scalar.select v206 c3980_i32_81 v205
  let v209 : BitVec 32 := Scalar.select v208 c7714_i32_83 v207
  let v211 : BitVec 32 := Scalar.select v210 c1846_i32_85 v209
  let v213 : BitVec 32 := Scalar.select v212 c3866_i32_87 v211
  let v215 : BitVec 32 := Scalar.select v214 c2914_i32_89 v213
  let v217 : BitVec 32 := Scalar.select v216 c1936_i32_91 v215
  let v219 : BitVec 32 := Scalar.select v218 c4871_i32_93 v217
  let v221 : BitVec 32 := Scalar.select v220 c2834_i32_95 v219
  let v223 : BitVec 32 := Scalar.select v222 c6125_i32_97 v221
  let v225 : BitVec 32 := Scalar.select v224 c3618_i32_99 v223
  let v227 : BitVec 32 := Scalar.select v226 c7487_i32_101 v225
  let v229 : BitVec 32 := Scalar.select v228 c593_i32_103 v227
  let v231 : BitVec 32 := Scalar.select v230 c7351_i32_105 v229
  let v233 : BitVec 32 := Scalar.select v232 c5479_i32_107 v231
  let v235 : BitVec 32 := Scalar.select v234 c572_i32_109 v233
  let v237 : BitVec 32 := Scalar.select v236 c1765_i32_111 v235
  let v239 : BitVec 32 := Scalar.select v238 c3913_i32_113 v237
  let v241 : BitVec 32 := Scalar.select v240 c2687_i32_115 v239
  let v243 : BitVec 32 := Scalar.select v242 c5257_i32_117 v241
  let v245 : BitVec 32 := Scalar.select v244 c6147_i32_119 v243
  let v247 : BitVec 32 := Scalar.select v246 c7228_i32_121 v245
  let v249 : BitVec 32 := Scalar.select v248 c2263_i32_123 v247
  let v251 : BitVec 32 := Scalar.select v250 c3132_i32_125 v249
  let v253 : BitVec 32 := Scalar.select v252 c722_i32_127 v251
  let v255 : BitVec 32 := Scalar.select v254 c1196_i32_129 v253
  let v257 : BitVec 32 := Scalar.select v256 c1763_i32_131 v255
  let c7_i32_134 : BitVec 32 := 7#32
  let v263 : BitVec 32 := Scalar.shrsi v257 c7_i32_134
  let v264 : BitVec 32 := Scalar.addi v262 v263
  let c256_i32_135 : BitVec 32 := 256#32
  let v265 : BitVec 32 := Scalar.muli v264 c256_i32_135
  let c3_i32_321 : BitVec 32 := 3#32
  let c0_i32_323 : BitVec 32 := 0#32
  let v724 : BitVec 1 := Scalar.cmpi .sgt c3_i32_321 c0_i32_323
  let v725 : BitVec 32 := Scalar.extui v724
  let c0_i32_324 : BitVec 32 := 0#32
  let v726 : BitVec 1 := Scalar.cmpi .slt c3_i32_321 c0_i32_324
  let v727 : BitVec 32 := Scalar.extui v726
  let v728 : BitVec 32 := Scalar.subi v725 v727
  let c2_i32_322 : BitVec 32 := 2#32
  let c0_i32_325 : BitVec 32 := 0#32
  let v729 : BitVec 1 := Scalar.cmpi .sgt c2_i32_322 c0_i32_325
  let v730 : BitVec 32 := Scalar.extui v729
  let c0_i32_326 : BitVec 32 := 0#32
  let v731 : BitVec 1 := Scalar.cmpi .slt c2_i32_322 c0_i32_326
  let v732 : BitVec 32 := Scalar.extui v731
  let v733 : BitVec 32 := Scalar.subi v730 v732
  let v734 : BitVec 1 := Scalar.cmpi .ne v728 v733
  let v735 : BitVec 32 := Scalar.remsi c3_i32_321 c2_i32_322
  let c0_i32_327 : BitVec 32 := 0#32
  let v736 : BitVec 1 := Scalar.cmpi .ne v735 c0_i32_327
  let v737 : BitVec 1 := Scalar.andi v734 v736
  let v723 : BitVec 32 := Scalar.divsi c3_i32_321 c2_i32_322
  let c1_i32_328 : BitVec 32 := 1#32
  let v738 : BitVec 32 := Scalar.subi v723 c1_i32_328
  let v739 : BitVec 32 := Scalar.select v737 v738 v723
  let c15872_i32_329 : BitVec 32 := 15872#32
  let v740 : BitVec 32 := Scalar.muli v739 c15872_i32_329
  let v741 : BitVec 32 := Scalar.addi v265 v740
  v741
def k0_mult5 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32 : BitVec 32 := 0#32
  let v3 : BitVec 32 := Scalar.addi v2 c0_i32
  let c2048_i32 : BitVec 32 := 2048#32
  let v258 : BitVec 32 := Scalar.muli v3 c2048_i32
  let c63_i32 : BitVec 32 := 63#32
  let v130 : BitVec 1 := Scalar.cmpi .eq v3 c63_i32
  let c1763_i32 : BitVec 32 := 1763#32
  let c62_i32 : BitVec 32 := 62#32
  let v128 : BitVec 1 := Scalar.cmpi .eq v3 c62_i32
  let c1196_i32 : BitVec 32 := 1196#32
  let c61_i32 : BitVec 32 := 61#32
  let v126 : BitVec 1 := Scalar.cmpi .eq v3 c61_i32
  let c722_i32 : BitVec 32 := 722#32
  let c60_i32 : BitVec 32 := 60#32
  let v124 : BitVec 1 := Scalar.cmpi .eq v3 c60_i32
  let c3132_i32 : BitVec 32 := 3132#32
  let c59_i32 : BitVec 32 := 59#32
  let v122 : BitVec 1 := Scalar.cmpi .eq v3 c59_i32
  let c2263_i32 : BitVec 32 := 2263#32
  let c58_i32 : BitVec 32 := 58#32
  let v120 : BitVec 1 := Scalar.cmpi .eq v3 c58_i32
  let c7228_i32 : BitVec 32 := 7228#32
  let c57_i32 : BitVec 32 := 57#32
  let v118 : BitVec 1 := Scalar.cmpi .eq v3 c57_i32
  let c6147_i32 : BitVec 32 := 6147#32
  let c56_i32_4 : BitVec 32 := 56#32
  let v116 : BitVec 1 := Scalar.cmpi .eq v3 c56_i32_4
  let c5257_i32 : BitVec 32 := 5257#32
  let c55_i32 : BitVec 32 := 55#32
  let v114 : BitVec 1 := Scalar.cmpi .eq v3 c55_i32
  let c2687_i32 : BitVec 32 := 2687#32
  let c54_i32 : BitVec 32 := 54#32
  let v112 : BitVec 1 := Scalar.cmpi .eq v3 c54_i32
  let c3913_i32 : BitVec 32 := 3913#32
  let c53_i32 : BitVec 32 := 53#32
  let v110 : BitVec 1 := Scalar.cmpi .eq v3 c53_i32
  let c1765_i32 : BitVec 32 := 1765#32
  let c52_i32 : BitVec 32 := 52#32
  let v108 : BitVec 1 := Scalar.cmpi .eq v3 c52_i32
  let c572_i32 : BitVec 32 := 572#32
  let c51_i32 : BitVec 32 := 51#32
  let v106 : BitVec 1 := Scalar.cmpi .eq v3 c51_i32
  let c5479_i32 : BitVec 32 := 5479#32
  let c50_i32 : BitVec 32 := 50#32
  let v104 : BitVec 1 := Scalar.cmpi .eq v3 c50_i32
  let c7351_i32 : BitVec 32 := 7351#32
  let c49_i32 : BitVec 32 := 49#32
  let v102 : BitVec 1 := Scalar.cmpi .eq v3 c49_i32
  let c593_i32 : BitVec 32 := 593#32
  let c48_i32 : BitVec 32 := 48#32
  let v100 : BitVec 1 := Scalar.cmpi .eq v3 c48_i32
  let c7487_i32 : BitVec 32 := 7487#32
  let c47_i32 : BitVec 32 := 47#32
  let v98 : BitVec 1 := Scalar.cmpi .eq v3 c47_i32
  let c3618_i32 : BitVec 32 := 3618#32
  let c46_i32 : BitVec 32 := 46#32
  let v96 : BitVec 1 := Scalar.cmpi .eq v3 c46_i32
  let c6125_i32 : BitVec 32 := 6125#32
  let c45_i32 : BitVec 32 := 45#32
  let v94 : BitVec 1 := Scalar.cmpi .eq v3 c45_i32
  let c2834_i32 : BitVec 32 := 2834#32
  let c44_i32 : BitVec 32 := 44#32
  let v92 : BitVec 1 := Scalar.cmpi .eq v3 c44_i32
  let c4871_i32 : BitVec 32 := 4871#32
  let c43_i32 : BitVec 32 := 43#32
  let v90 : BitVec 1 := Scalar.cmpi .eq v3 c43_i32
  let c1936_i32 : BitVec 32 := 1936#32
  let c42_i32 : BitVec 32 := 42#32
  let v88 : BitVec 1 := Scalar.cmpi .eq v3 c42_i32
  let c2914_i32 : BitVec 32 := 2914#32
  let c41_i32 : BitVec 32 := 41#32
  let v86 : BitVec 1 := Scalar.cmpi .eq v3 c41_i32
  let c3866_i32 : BitVec 32 := 3866#32
  let c40_i32 : BitVec 32 := 40#32
  let v84 : BitVec 1 := Scalar.cmpi .eq v3 c40_i32
  let c1846_i32 : BitVec 32 := 1846#32
  let c39_i32 : BitVec 32 := 39#32
  let v82 : BitVec 1 := Scalar.cmpi .eq v3 c39_i32
  let c7714_i32 : BitVec 32 := 7714#32
  let c38_i32 : BitVec 32 := 38#32
  let v80 : BitVec 1 := Scalar.cmpi .eq v3 c38_i32
  let c3980_i32 : BitVec 32 := 3980#32
  let c37_i32 : BitVec 32 := 37#32
  let v78 : BitVec 1 := Scalar.cmpi .eq v3 c37_i32
  let c6570_i32 : BitVec 32 := 6570#32
  let c36_i32 : BitVec 32 := 36#32
  let v76 : BitVec 1 := Scalar.cmpi .eq v3 c36_i32
  let c2937_i32 : BitVec 32 := 2937#32
  let c35_i32 : BitVec 32 := 35#32
  let v74 : BitVec 1 := Scalar.cmpi .eq v3 c35_i32
  let c1105_i32 : BitVec 32 := 1105#32
  let c34_i32 : BitVec 32 := 34#32
  let v72 : BitVec 1 := Scalar.cmpi .eq v3 c34_i32
  let c5685_i32 : BitVec 32 := 5685#32
  let c33_i32 : BitVec 32 := 33#32
  let v70 : BitVec 1 := Scalar.cmpi .eq v3 c33_i32
  let c1851_i32 : BitVec 32 := 1851#32
  let c32_i32 : BitVec 32 := 32#32
  let v68 : BitVec 1 := Scalar.cmpi .eq v3 c32_i32
  let c2835_i32 : BitVec 32 := 2835#32
  let c31_i32 : BitVec 32 := 31#32
  let v66 : BitVec 1 := Scalar.cmpi .eq v3 c31_i32
  let c6151_i32 : BitVec 32 := 6151#32
  let c30_i32 : BitVec 32 := 30#32
  let v64 : BitVec 1 := Scalar.cmpi .eq v3 c30_i32
  let c2916_i32 : BitVec 32 := 2916#32
  let c29_i32 : BitVec 32 := 29#32
  let v62 : BitVec 1 := Scalar.cmpi .eq v3 c29_i32
  let c4806_i32 : BitVec 32 := 4806#32
  let c28_i32 : BitVec 32 := 28#32
  let v60 : BitVec 1 := Scalar.cmpi .eq v3 c28_i32
  let c2760_i32 : BitVec 32 := 2760#32
  let c27_i32 : BitVec 32 := 27#32
  let v58 : BitVec 1 := Scalar.cmpi .eq v3 c27_i32
  let c2339_i32 : BitVec 32 := 2339#32
  let c26_i32 : BitVec 32 := 26#32
  let v56 : BitVec 1 := Scalar.cmpi .eq v3 c26_i32
  let c5978_i32 : BitVec 32 := 5978#32
  let c25_i32 : BitVec 32 := 25#32
  let v54 : BitVec 1 := Scalar.cmpi .eq v3 c25_i32
  let c6943_i32 : BitVec 32 := 6943#32
  let c24_i32 : BitVec 32 := 24#32
  let v52 : BitVec 1 := Scalar.cmpi .eq v3 c24_i32
  let c7654_i32 : BitVec 32 := 7654#32
  let c23_i32 : BitVec 32 := 23#32
  let v50 : BitVec 1 := Scalar.cmpi .eq v3 c23_i32
  let c3018_i32 : BitVec 32 := 3018#32
  let c22_i32 : BitVec 32 := 22#32
  let v48 : BitVec 1 := Scalar.cmpi .eq v3 c22_i32
  let c56_i32 : BitVec 32 := 56#32
  let c21_i32 : BitVec 32 := 21#32
  let v46 : BitVec 1 := Scalar.cmpi .eq v3 c21_i32
  let c5652_i32 : BitVec 32 := 5652#32
  let c20_i32 : BitVec 32 := 20#32
  let v44 : BitVec 1 := Scalar.cmpi .eq v3 c20_i32
  let c6840_i32 : BitVec 32 := 6840#32
  let c19_i32 : BitVec 32 := 19#32
  let v42 : BitVec 1 := Scalar.cmpi .eq v3 c19_i32
  let c4026_i32 : BitVec 32 := 4026#32
  let c18_i32 : BitVec 32 := 18#32
  let v40 : BitVec 1 := Scalar.cmpi .eq v3 c18_i32
  let c91_i32 : BitVec 32 := 91#32
  let c17_i32 : BitVec 32 := 17#32
  let v38 : BitVec 1 := Scalar.cmpi .eq v3 c17_i32
  let c7767_i32 : BitVec 32 := 7767#32
  let c16_i32 : BitVec 32 := 16#32
  let v36 : BitVec 1 := Scalar.cmpi .eq v3 c16_i32
  let c4241_i32 : BitVec 32 := 4241#32
  let c15_i32 : BitVec 32 := 15#32
  let v34 : BitVec 1 := Scalar.cmpi .eq v3 c15_i32
  let c6170_i32 : BitVec 32 := 6170#32
  let c14_i32 : BitVec 32 := 14#32
  let v32 : BitVec 1 := Scalar.cmpi .eq v3 c14_i32
  let c8174_i32 : BitVec 32 := 8174#32
  let c13_i32 : BitVec 32 := 13#32
  let v30 : BitVec 1 := Scalar.cmpi .eq v3 c13_i32
  let c1378_i32 : BitVec 32 := 1378#32
  let c12_i32 : BitVec 32 := 12#32
  let v28 : BitVec 1 := Scalar.cmpi .eq v3 c12_i32
  let c2562_i32 : BitVec 32 := 2562#32
  let c11_i32 : BitVec 32 := 11#32
  let v26 : BitVec 1 := Scalar.cmpi .eq v3 c11_i32
  let c4161_i32 : BitVec 32 := 4161#32
  let c10_i32 : BitVec 32 := 10#32
  let v24 : BitVec 1 := Scalar.cmpi .eq v3 c10_i32
  let c6176_i32 : BitVec 32 := 6176#32
  let c9_i32 : BitVec 32 := 9#32
  let v22 : BitVec 1 := Scalar.cmpi .eq v3 c9_i32
  let c2818_i32 : BitVec 32 := 2818#32
  let c8_i32 : BitVec 32 := 8#32
  let v20 : BitVec 1 := Scalar.cmpi .eq v3 c8_i32
  let c5970_i32 : BitVec 32 := 5970#32
  let c7_i32 : BitVec 32 := 7#32
  let v18 : BitVec 1 := Scalar.cmpi .eq v3 c7_i32
  let c7573_i32 : BitVec 32 := 7573#32
  let c6_i32 : BitVec 32 := 6#32
  let v16 : BitVec 1 := Scalar.cmpi .eq v3 c6_i32
  let c3350_i32 : BitVec 32 := 3350#32
  let c5_i32 : BitVec 32 := 5#32
  let v14 : BitVec 1 := Scalar.cmpi .eq v3 c5_i32
  let c4780_i32 : BitVec 32 := 4780#32
  let c4_i32 : BitVec 32 := 4#32
  let v12 : BitVec 1 := Scalar.cmpi .eq v3 c4_i32
  let c6560_i32 : BitVec 32 := 6560#32
  let c3_i32 : BitVec 32 := 3#32
  let v10 : BitVec 1 := Scalar.cmpi .eq v3 c3_i32
  let c7017_i32 : BitVec 32 := 7017#32
  let c2_i32_3 : BitVec 32 := 2#32
  let v8 : BitVec 1 := Scalar.cmpi .eq v3 c2_i32_3
  let c736_i32 : BitVec 32 := 736#32
  let c1_i32_2 : BitVec 32 := 1#32
  let v6 : BitVec 1 := Scalar.cmpi .eq v3 c1_i32_2
  let c943_i32 : BitVec 32 := 943#32
  let c7932_i32 : BitVec 32 := 7932#32
  let v7 : BitVec 32 := Scalar.select v6 c943_i32 c7932_i32
  let v9 : BitVec 32 := Scalar.select v8 c736_i32 v7
  let v11 : BitVec 32 := Scalar.select v10 c7017_i32 v9
  let v13 : BitVec 32 := Scalar.select v12 c6560_i32 v11
  let v15 : BitVec 32 := Scalar.select v14 c4780_i32 v13
  let v17 : BitVec 32 := Scalar.select v16 c3350_i32 v15
  let v19 : BitVec 32 := Scalar.select v18 c7573_i32 v17
  let v21 : BitVec 32 := Scalar.select v20 c5970_i32 v19
  let v23 : BitVec 32 := Scalar.select v22 c2818_i32 v21
  let v25 : BitVec 32 := Scalar.select v24 c6176_i32 v23
  let v27 : BitVec 32 := Scalar.select v26 c4161_i32 v25
  let v29 : BitVec 32 := Scalar.select v28 c2562_i32 v27
  let v31 : BitVec 32 := Scalar.select v30 c1378_i32 v29
  let v33 : BitVec 32 := Scalar.select v32 c8174_i32 v31
  let v35 : BitVec 32 := Scalar.select v34 c6170_i32 v33
  let v37 : BitVec 32 := Scalar.select v36 c4241_i32 v35
  let v39 : BitVec 32 := Scalar.select v38 c7767_i32 v37
  let v41 : BitVec 32 := Scalar.select v40 c91_i32 v39
  let v43 : BitVec 32 := Scalar.select v42 c4026_i32 v41
  let v45 : BitVec 32 := Scalar.select v44 c6840_i32 v43
  let v47 : BitVec 32 := Scalar.select v46 c5652_i32 v45
  let v49 : BitVec 32 := Scalar.select v48 c56_i32 v47
  let v51 : BitVec 32 := Scalar.select v50 c3018_i32 v49
  let v53 : BitVec 32 := Scalar.select v52 c7654_i32 v51
  let v55 : BitVec 32 := Scalar.select v54 c6943_i32 v53
  let v57 : BitVec 32 := Scalar.select v56 c5978_i32 v55
  let v59 : BitVec 32 := Scalar.select v58 c2339_i32 v57
  let v61 : BitVec 32 := Scalar.select v60 c2760_i32 v59
  let v63 : BitVec 32 := Scalar.select v62 c4806_i32 v61
  let v65 : BitVec 32 := Scalar.select v64 c2916_i32 v63
  let v67 : BitVec 32 := Scalar.select v66 c6151_i32 v65
  let v69 : BitVec 32 := Scalar.select v68 c2835_i32 v67
  let v71 : BitVec 32 := Scalar.select v70 c1851_i32 v69
  let v73 : BitVec 32 := Scalar.select v72 c5685_i32 v71
  let v75 : BitVec 32 := Scalar.select v74 c1105_i32 v73
  let v77 : BitVec 32 := Scalar.select v76 c2937_i32 v75
  let v79 : BitVec 32 := Scalar.select v78 c6570_i32 v77
  let v81 : BitVec 32 := Scalar.select v80 c3980_i32 v79
  let v83 : BitVec 32 := Scalar.select v82 c7714_i32 v81
  let v85 : BitVec 32 := Scalar.select v84 c1846_i32 v83
  let v87 : BitVec 32 := Scalar.select v86 c3866_i32 v85
  let v89 : BitVec 32 := Scalar.select v88 c2914_i32 v87
  let v91 : BitVec 32 := Scalar.select v90 c1936_i32 v89
  let v93 : BitVec 32 := Scalar.select v92 c4871_i32 v91
  let v95 : BitVec 32 := Scalar.select v94 c2834_i32 v93
  let v97 : BitVec 32 := Scalar.select v96 c6125_i32 v95
  let v99 : BitVec 32 := Scalar.select v98 c3618_i32 v97
  let v101 : BitVec 32 := Scalar.select v100 c7487_i32 v99
  let v103 : BitVec 32 := Scalar.select v102 c593_i32 v101
  let v105 : BitVec 32 := Scalar.select v104 c7351_i32 v103
  let v107 : BitVec 32 := Scalar.select v106 c5479_i32 v105
  let v109 : BitVec 32 := Scalar.select v108 c572_i32 v107
  let v111 : BitVec 32 := Scalar.select v110 c1765_i32 v109
  let v113 : BitVec 32 := Scalar.select v112 c3913_i32 v111
  let v115 : BitVec 32 := Scalar.select v114 c2687_i32 v113
  let v117 : BitVec 32 := Scalar.select v116 c5257_i32 v115
  let v119 : BitVec 32 := Scalar.select v118 c6147_i32 v117
  let v121 : BitVec 32 := Scalar.select v120 c7228_i32 v119
  let v123 : BitVec 32 := Scalar.select v122 c2263_i32 v121
  let v125 : BitVec 32 := Scalar.select v124 c3132_i32 v123
  let v127 : BitVec 32 := Scalar.select v126 c722_i32 v125
  let v129 : BitVec 32 := Scalar.select v128 c1196_i32 v127
  let v131 : BitVec 32 := Scalar.select v130 c1763_i32 v129
  let c7_i32_132 : BitVec 32 := 7#32
  let v259 : BitVec 32 := Scalar.shrsi v131 c7_i32_132
  let v260 : BitVec 32 := Scalar.addi v258 v259
  let c256_i32 : BitVec 32 := 256#32
  let v261 : BitVec 32 := Scalar.muli v260 c256_i32
  let c0_i32_330 : BitVec 32 := 0#32
  let c0_i32_332 : BitVec 32 := 0#32
  let v746 : BitVec 1 := Scalar.cmpi .sgt c0_i32_330 c0_i32_332
  let v747 : BitVec 32 := Scalar.extui v746
  let c0_i32_333 : BitVec 32 := 0#32
  let v748 : BitVec 1 := Scalar.cmpi .slt c0_i32_330 c0_i32_333
  let v749 : BitVec 32 := Scalar.extui v748
  let v750 : BitVec 32 := Scalar.subi v747 v749
  let c2_i32_331 : BitVec 32 := 2#32
  let c0_i32_334 : BitVec 32 := 0#32
  let v751 : BitVec 1 := Scalar.cmpi .sgt c2_i32_331 c0_i32_334
  let v752 : BitVec 32 := Scalar.extui v751
  let c0_i32_335 : BitVec 32 := 0#32
  let v753 : BitVec 1 := Scalar.cmpi .slt c2_i32_331 c0_i32_335
  let v754 : BitVec 32 := Scalar.extui v753
  let v755 : BitVec 32 := Scalar.subi v752 v754
  let v756 : BitVec 1 := Scalar.cmpi .ne v750 v755
  let v757 : BitVec 32 := Scalar.remsi c0_i32_330 c2_i32_331
  let c0_i32_336 : BitVec 32 := 0#32
  let v758 : BitVec 1 := Scalar.cmpi .ne v757 c0_i32_336
  let v759 : BitVec 1 := Scalar.andi v756 v758
  let v745 : BitVec 32 := Scalar.divsi c0_i32_330 c2_i32_331
  let c1_i32_337 : BitVec 32 := 1#32
  let v760 : BitVec 32 := Scalar.subi v745 c1_i32_337
  let v761 : BitVec 32 := Scalar.select v759 v760 v745
  let c15872_i32_338 : BitVec 32 := 15872#32
  let v762 : BitVec 32 := Scalar.muli v761 c15872_i32_338
  let v763 : BitVec 32 := Scalar.addi v261 v762
  v763
@[reducible] def k0_t1_loop : Scf.Loop 32 :=
  let c0_i32_339 : BitVec 32 := 0#32
  let c62_i32_340 : BitVec 32 := 62#32
  let v767 : BitVec 32 := Scalar.addi c0_i32_339 c62_i32_340
  let c1_i32_341 : BitVec 32 := 1#32
  ⟨c0_i32_339, v767, c1_i32_341⟩

def k0_chk1 (v1381 : IVec S16 32) : Prop :=
  (∀ a x, ((![v1381] : Fin 1 → IVec S16 32) a x).toNat < S16128.size a)
theorem k0_idx1_inb : ∀ (v1381 : IVec S16 32) (k0_hw1 : k0_chk1 v1381), ∀ a x, ((![v1381] : Fin 1 → IVec S16 32) a x).toNat < S16128.size a := fun v1381 k0_hw1 => k0_hw1
def k0_mult6 (k0_t1 : Fin k0_t1_loop.trips) : BitVec 32 :=
  let c0_i32_624 : BitVec 32 := 0#32
  let c0_i32_339 : BitVec 32 := 0#32
  let c1_i32_341 : BitVec 32 := 1#32
  let arg20 : BitVec 32 := Scf.iv c0_i32_339 c1_i32_341 k0_t1
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c0_i32_627 : BitVec 32 := 0#32
  let v1383 : BitVec 32 := Scalar.addi v1377 c0_i32_627
  v1383
def k0_off2 (k0_t1 : Fin k0_t1_loop.trips) : Fin 1 → Nat :=
  let c0_i32_624 : BitVec 32 := 0#32
  let c0_i32_339 : BitVec 32 := 0#32
  let c1_i32_341 : BitVec 32 := 1#32
  let arg20 : BitVec 32 := Scf.iv c0_i32_339 c1_i32_341 k0_t1
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c0_i32_627 : BitVec 32 := 0#32
  let v1383 : BitVec 32 := Scalar.addi v1377 c0_i32_627
  let v1384 : BitVec 32 := v1383
  let v1385 : Index := Scalar.indexCast v1384
  ![v1385.toNat]

def k0_chk2 (v1387 : IVec S16 32) : Prop :=
  (∀ a x, ((![v1387] : Fin 1 → IVec S16 32) a x).toNat < S16128.size a)
theorem k0_idx2_inb : ∀ (v1387 : IVec S16 32) (k0_hw2 : k0_chk2 v1387), ∀ a x, ((![v1387] : Fin 1 → IVec S16 32) a x).toNat < S16128.size a := fun v1387 k0_hw2 => k0_hw2
def k0_mult7 (k0_t1 : Fin k0_t1_loop.trips) : BitVec 32 :=
  let c0_i32_624 : BitVec 32 := 0#32
  let c0_i32_339 : BitVec 32 := 0#32
  let c1_i32_341 : BitVec 32 := 1#32
  let arg20 : BitVec 32 := Scf.iv c0_i32_339 c1_i32_341 k0_t1
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c16_i32_628 : BitVec 32 := 16#32
  let v1389 : BitVec 32 := Scalar.addi v1377 c16_i32_628
  v1389
def k0_off3 (k0_t1 : Fin k0_t1_loop.trips) : Fin 1 → Nat :=
  let c0_i32_624 : BitVec 32 := 0#32
  let c0_i32_339 : BitVec 32 := 0#32
  let c1_i32_341 : BitVec 32 := 1#32
  let arg20 : BitVec 32 := Scf.iv c0_i32_339 c1_i32_341 k0_t1
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c16_i32_628 : BitVec 32 := 16#32
  let v1389 : BitVec 32 := Scalar.addi v1377 c16_i32_628
  let v1390 : BitVec 32 := v1389
  let v1391 : Index := Scalar.indexCast v1390
  ![v1391.toNat]

def k0_chk3 (v1393 : IVec S16 32) : Prop :=
  (∀ a x, ((![v1393] : Fin 1 → IVec S16 32) a x).toNat < S16128.size a)
theorem k0_idx3_inb : ∀ (v1393 : IVec S16 32) (k0_hw3 : k0_chk3 v1393), ∀ a x, ((![v1393] : Fin 1 → IVec S16 32) a x).toNat < S16128.size a := fun v1393 k0_hw3 => k0_hw3
def k0_mult8 (k0_t1 : Fin k0_t1_loop.trips) : BitVec 32 :=
  let c0_i32_624 : BitVec 32 := 0#32
  let c0_i32_339 : BitVec 32 := 0#32
  let c1_i32_341 : BitVec 32 := 1#32
  let arg20 : BitVec 32 := Scf.iv c0_i32_339 c1_i32_341 k0_t1
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c32_i32_629 : BitVec 32 := 32#32
  let v1395 : BitVec 32 := Scalar.addi v1377 c32_i32_629
  v1395
def k0_off4 (k0_t1 : Fin k0_t1_loop.trips) : Fin 1 → Nat :=
  let c0_i32_624 : BitVec 32 := 0#32
  let c0_i32_339 : BitVec 32 := 0#32
  let c1_i32_341 : BitVec 32 := 1#32
  let arg20 : BitVec 32 := Scf.iv c0_i32_339 c1_i32_341 k0_t1
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c32_i32_629 : BitVec 32 := 32#32
  let v1395 : BitVec 32 := Scalar.addi v1377 c32_i32_629
  let v1396 : BitVec 32 := v1395
  let v1397 : Index := Scalar.indexCast v1396
  ![v1397.toNat]

def k0_chk4 (v1399 : IVec S16 32) : Prop :=
  (∀ a x, ((![v1399] : Fin 1 → IVec S16 32) a x).toNat < S16128.size a)
theorem k0_idx4_inb : ∀ (v1399 : IVec S16 32) (k0_hw4 : k0_chk4 v1399), ∀ a x, ((![v1399] : Fin 1 → IVec S16 32) a x).toNat < S16128.size a := fun v1399 k0_hw4 => k0_hw4
def k0_mult9 (k0_t1 : Fin k0_t1_loop.trips) : BitVec 32 :=
  let c0_i32_624 : BitVec 32 := 0#32
  let c0_i32_339 : BitVec 32 := 0#32
  let c1_i32_341 : BitVec 32 := 1#32
  let arg20 : BitVec 32 := Scf.iv c0_i32_339 c1_i32_341 k0_t1
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c48_i32_630 : BitVec 32 := 48#32
  let v1401 : BitVec 32 := Scalar.addi v1377 c48_i32_630
  v1401
def k0_off5 (k0_t1 : Fin k0_t1_loop.trips) : Fin 1 → Nat :=
  let c0_i32_624 : BitVec 32 := 0#32
  let c0_i32_339 : BitVec 32 := 0#32
  let c1_i32_341 : BitVec 32 := 1#32
  let arg20 : BitVec 32 := Scf.iv c0_i32_339 c1_i32_341 k0_t1
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c48_i32_630 : BitVec 32 := 48#32
  let v1401 : BitVec 32 := Scalar.addi v1377 c48_i32_630
  let v1402 : BitVec 32 := v1401
  let v1403 : Index := Scalar.indexCast v1402
  ![v1403.toNat]

def k0_chk5 (v1405 : IVec S16 32) : Prop :=
  (∀ a x, ((![v1405] : Fin 1 → IVec S16 32) a x).toNat < S16128.size a)
theorem k0_idx5_inb : ∀ (v1405 : IVec S16 32) (k0_hw5 : k0_chk5 v1405), ∀ a x, ((![v1405] : Fin 1 → IVec S16 32) a x).toNat < S16128.size a := fun v1405 k0_hw5 => k0_hw5
def k0_mult10 (k0_t1 : Fin k0_t1_loop.trips) : BitVec 32 :=
  let c0_i32_624 : BitVec 32 := 0#32
  let c0_i32_339 : BitVec 32 := 0#32
  let c1_i32_341 : BitVec 32 := 1#32
  let arg20 : BitVec 32 := Scf.iv c0_i32_339 c1_i32_341 k0_t1
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c64_i32_631 : BitVec 32 := 64#32
  let v1407 : BitVec 32 := Scalar.addi v1377 c64_i32_631
  v1407
def k0_off6 (k0_t1 : Fin k0_t1_loop.trips) : Fin 1 → Nat :=
  let c0_i32_624 : BitVec 32 := 0#32
  let c0_i32_339 : BitVec 32 := 0#32
  let c1_i32_341 : BitVec 32 := 1#32
  let arg20 : BitVec 32 := Scf.iv c0_i32_339 c1_i32_341 k0_t1
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c64_i32_631 : BitVec 32 := 64#32
  let v1407 : BitVec 32 := Scalar.addi v1377 c64_i32_631
  let v1408 : BitVec 32 := v1407
  let v1409 : Index := Scalar.indexCast v1408
  ![v1409.toNat]

def k0_chk6 (v1411 : IVec S16 32) : Prop :=
  (∀ a x, ((![v1411] : Fin 1 → IVec S16 32) a x).toNat < S16128.size a)
theorem k0_idx6_inb : ∀ (v1411 : IVec S16 32) (k0_hw6 : k0_chk6 v1411), ∀ a x, ((![v1411] : Fin 1 → IVec S16 32) a x).toNat < S16128.size a := fun v1411 k0_hw6 => k0_hw6
def k0_mult11 (k0_t1 : Fin k0_t1_loop.trips) : BitVec 32 :=
  let c0_i32_624 : BitVec 32 := 0#32
  let c0_i32_339 : BitVec 32 := 0#32
  let c1_i32_341 : BitVec 32 := 1#32
  let arg20 : BitVec 32 := Scf.iv c0_i32_339 c1_i32_341 k0_t1
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c80_i32_632 : BitVec 32 := 80#32
  let v1413 : BitVec 32 := Scalar.addi v1377 c80_i32_632
  v1413
def k0_off7 (k0_t1 : Fin k0_t1_loop.trips) : Fin 1 → Nat :=
  let c0_i32_624 : BitVec 32 := 0#32
  let c0_i32_339 : BitVec 32 := 0#32
  let c1_i32_341 : BitVec 32 := 1#32
  let arg20 : BitVec 32 := Scf.iv c0_i32_339 c1_i32_341 k0_t1
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c80_i32_632 : BitVec 32 := 80#32
  let v1413 : BitVec 32 := Scalar.addi v1377 c80_i32_632
  let v1414 : BitVec 32 := v1413
  let v1415 : Index := Scalar.indexCast v1414
  ![v1415.toNat]

def k0_chk7 (v1417 : IVec S16 32) : Prop :=
  (∀ a x, ((![v1417] : Fin 1 → IVec S16 32) a x).toNat < S16128.size a)
theorem k0_idx7_inb : ∀ (v1417 : IVec S16 32) (k0_hw7 : k0_chk7 v1417), ∀ a x, ((![v1417] : Fin 1 → IVec S16 32) a x).toNat < S16128.size a := fun v1417 k0_hw7 => k0_hw7
def k0_mult12 (k0_t1 : Fin k0_t1_loop.trips) : BitVec 32 :=
  let c0_i32_624 : BitVec 32 := 0#32
  let c0_i32_339 : BitVec 32 := 0#32
  let c1_i32_341 : BitVec 32 := 1#32
  let arg20 : BitVec 32 := Scf.iv c0_i32_339 c1_i32_341 k0_t1
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c96_i32_633 : BitVec 32 := 96#32
  let v1419 : BitVec 32 := Scalar.addi v1377 c96_i32_633
  v1419
def k0_off8 (k0_t1 : Fin k0_t1_loop.trips) : Fin 1 → Nat :=
  let c0_i32_624 : BitVec 32 := 0#32
  let c0_i32_339 : BitVec 32 := 0#32
  let c1_i32_341 : BitVec 32 := 1#32
  let arg20 : BitVec 32 := Scf.iv c0_i32_339 c1_i32_341 k0_t1
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c96_i32_633 : BitVec 32 := 96#32
  let v1419 : BitVec 32 := Scalar.addi v1377 c96_i32_633
  let v1420 : BitVec 32 := v1419
  let v1421 : Index := Scalar.indexCast v1420
  ![v1421.toNat]

def k0_chk8 (v1423 : IVec S16 32) : Prop :=
  (∀ a x, ((![v1423] : Fin 1 → IVec S16 32) a x).toNat < S16128.size a)
theorem k0_idx8_inb : ∀ (v1423 : IVec S16 32) (k0_hw8 : k0_chk8 v1423), ∀ a x, ((![v1423] : Fin 1 → IVec S16 32) a x).toNat < S16128.size a := fun v1423 k0_hw8 => k0_hw8
def k0_mult13 (k0_t1 : Fin k0_t1_loop.trips) : BitVec 32 :=
  let c0_i32_624 : BitVec 32 := 0#32
  let c0_i32_339 : BitVec 32 := 0#32
  let c1_i32_341 : BitVec 32 := 1#32
  let arg20 : BitVec 32 := Scf.iv c0_i32_339 c1_i32_341 k0_t1
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c112_i32_634 : BitVec 32 := 112#32
  let v1425 : BitVec 32 := Scalar.addi v1377 c112_i32_634
  v1425
def k0_off9 (k0_t1 : Fin k0_t1_loop.trips) : Fin 1 → Nat :=
  let c0_i32_624 : BitVec 32 := 0#32
  let c0_i32_339 : BitVec 32 := 0#32
  let c1_i32_341 : BitVec 32 := 1#32
  let arg20 : BitVec 32 := Scf.iv c0_i32_339 c1_i32_341 k0_t1
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c112_i32_634 : BitVec 32 := 112#32
  let v1425 : BitVec 32 := Scalar.addi v1377 c112_i32_634
  let v1426 : BitVec 32 := v1425
  let v1427 : Index := Scalar.indexCast v1426
  ![v1427.toNat]

def k0_chk9 (v1429 : IVec S16 32) : Prop :=
  (∀ a x, ((![v1429] : Fin 1 → IVec S16 32) a x).toNat < S16128.size a)
theorem k0_idx9_inb : ∀ (v1429 : IVec S16 32) (k0_hw9 : k0_chk9 v1429), ∀ a x, ((![v1429] : Fin 1 → IVec S16 32) a x).toNat < S16128.size a := fun v1429 k0_hw9 => k0_hw9
def k0_mult14 (k0_t1 : Fin k0_t1_loop.trips) : BitVec 32 :=
  let c0_i32_624 : BitVec 32 := 0#32
  let c0_i32_339 : BitVec 32 := 0#32
  let c1_i32_341 : BitVec 32 := 1#32
  let arg20 : BitVec 32 := Scf.iv c0_i32_339 c1_i32_341 k0_t1
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c128_i32_635 : BitVec 32 := 128#32
  let v1431 : BitVec 32 := Scalar.addi v1377 c128_i32_635
  v1431
def k0_off10 (k0_t1 : Fin k0_t1_loop.trips) : Fin 1 → Nat :=
  let c0_i32_624 : BitVec 32 := 0#32
  let c0_i32_339 : BitVec 32 := 0#32
  let c1_i32_341 : BitVec 32 := 1#32
  let arg20 : BitVec 32 := Scf.iv c0_i32_339 c1_i32_341 k0_t1
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c128_i32_635 : BitVec 32 := 128#32
  let v1431 : BitVec 32 := Scalar.addi v1377 c128_i32_635
  let v1432 : BitVec 32 := v1431
  let v1433 : Index := Scalar.indexCast v1432
  ![v1433.toNat]

def k0_chk10 (v1435 : IVec S16 32) : Prop :=
  (∀ a x, ((![v1435] : Fin 1 → IVec S16 32) a x).toNat < S16128.size a)
theorem k0_idx10_inb : ∀ (v1435 : IVec S16 32) (k0_hw10 : k0_chk10 v1435), ∀ a x, ((![v1435] : Fin 1 → IVec S16 32) a x).toNat < S16128.size a := fun v1435 k0_hw10 => k0_hw10
def k0_mult15 (k0_t1 : Fin k0_t1_loop.trips) : BitVec 32 :=
  let c0_i32_624 : BitVec 32 := 0#32
  let c0_i32_339 : BitVec 32 := 0#32
  let c1_i32_341 : BitVec 32 := 1#32
  let arg20 : BitVec 32 := Scf.iv c0_i32_339 c1_i32_341 k0_t1
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c144_i32 : BitVec 32 := 144#32
  let v1437 : BitVec 32 := Scalar.addi v1377 c144_i32
  v1437
def k0_off11 (k0_t1 : Fin k0_t1_loop.trips) : Fin 1 → Nat :=
  let c0_i32_624 : BitVec 32 := 0#32
  let c0_i32_339 : BitVec 32 := 0#32
  let c1_i32_341 : BitVec 32 := 1#32
  let arg20 : BitVec 32 := Scf.iv c0_i32_339 c1_i32_341 k0_t1
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c144_i32 : BitVec 32 := 144#32
  let v1437 : BitVec 32 := Scalar.addi v1377 c144_i32
  let v1438 : BitVec 32 := v1437
  let v1439 : Index := Scalar.indexCast v1438
  ![v1439.toNat]

def k0_chk11 (v1441 : IVec S16 32) : Prop :=
  (∀ a x, ((![v1441] : Fin 1 → IVec S16 32) a x).toNat < S16128.size a)
theorem k0_idx11_inb : ∀ (v1441 : IVec S16 32) (k0_hw11 : k0_chk11 v1441), ∀ a x, ((![v1441] : Fin 1 → IVec S16 32) a x).toNat < S16128.size a := fun v1441 k0_hw11 => k0_hw11
def k0_mult16 (k0_t1 : Fin k0_t1_loop.trips) : BitVec 32 :=
  let c0_i32_624 : BitVec 32 := 0#32
  let c0_i32_339 : BitVec 32 := 0#32
  let c1_i32_341 : BitVec 32 := 1#32
  let arg20 : BitVec 32 := Scf.iv c0_i32_339 c1_i32_341 k0_t1
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c160_i32 : BitVec 32 := 160#32
  let v1443 : BitVec 32 := Scalar.addi v1377 c160_i32
  v1443
def k0_off12 (k0_t1 : Fin k0_t1_loop.trips) : Fin 1 → Nat :=
  let c0_i32_624 : BitVec 32 := 0#32
  let c0_i32_339 : BitVec 32 := 0#32
  let c1_i32_341 : BitVec 32 := 1#32
  let arg20 : BitVec 32 := Scf.iv c0_i32_339 c1_i32_341 k0_t1
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c160_i32 : BitVec 32 := 160#32
  let v1443 : BitVec 32 := Scalar.addi v1377 c160_i32
  let v1444 : BitVec 32 := v1443
  let v1445 : Index := Scalar.indexCast v1444
  ![v1445.toNat]

def k0_chk12 (v1447 : IVec S16 32) : Prop :=
  (∀ a x, ((![v1447] : Fin 1 → IVec S16 32) a x).toNat < S16128.size a)
theorem k0_idx12_inb : ∀ (v1447 : IVec S16 32) (k0_hw12 : k0_chk12 v1447), ∀ a x, ((![v1447] : Fin 1 → IVec S16 32) a x).toNat < S16128.size a := fun v1447 k0_hw12 => k0_hw12
def k0_mult17 (k0_t1 : Fin k0_t1_loop.trips) : BitVec 32 :=
  let c0_i32_624 : BitVec 32 := 0#32
  let c0_i32_339 : BitVec 32 := 0#32
  let c1_i32_341 : BitVec 32 := 1#32
  let arg20 : BitVec 32 := Scf.iv c0_i32_339 c1_i32_341 k0_t1
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c176_i32 : BitVec 32 := 176#32
  let v1449 : BitVec 32 := Scalar.addi v1377 c176_i32
  v1449
def k0_off13 (k0_t1 : Fin k0_t1_loop.trips) : Fin 1 → Nat :=
  let c0_i32_624 : BitVec 32 := 0#32
  let c0_i32_339 : BitVec 32 := 0#32
  let c1_i32_341 : BitVec 32 := 1#32
  let arg20 : BitVec 32 := Scf.iv c0_i32_339 c1_i32_341 k0_t1
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c176_i32 : BitVec 32 := 176#32
  let v1449 : BitVec 32 := Scalar.addi v1377 c176_i32
  let v1450 : BitVec 32 := v1449
  let v1451 : Index := Scalar.indexCast v1450
  ![v1451.toNat]

def k0_chk13 (v1453 : IVec S16 32) : Prop :=
  (∀ a x, ((![v1453] : Fin 1 → IVec S16 32) a x).toNat < S16128.size a)
theorem k0_idx13_inb : ∀ (v1453 : IVec S16 32) (k0_hw13 : k0_chk13 v1453), ∀ a x, ((![v1453] : Fin 1 → IVec S16 32) a x).toNat < S16128.size a := fun v1453 k0_hw13 => k0_hw13
def k0_mult18 (k0_t1 : Fin k0_t1_loop.trips) : BitVec 32 :=
  let c0_i32_624 : BitVec 32 := 0#32
  let c0_i32_339 : BitVec 32 := 0#32
  let c1_i32_341 : BitVec 32 := 1#32
  let arg20 : BitVec 32 := Scf.iv c0_i32_339 c1_i32_341 k0_t1
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c192_i32 : BitVec 32 := 192#32
  let v1455 : BitVec 32 := Scalar.addi v1377 c192_i32
  v1455
def k0_off14 (k0_t1 : Fin k0_t1_loop.trips) : Fin 1 → Nat :=
  let c0_i32_624 : BitVec 32 := 0#32
  let c0_i32_339 : BitVec 32 := 0#32
  let c1_i32_341 : BitVec 32 := 1#32
  let arg20 : BitVec 32 := Scf.iv c0_i32_339 c1_i32_341 k0_t1
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c192_i32 : BitVec 32 := 192#32
  let v1455 : BitVec 32 := Scalar.addi v1377 c192_i32
  let v1456 : BitVec 32 := v1455
  let v1457 : Index := Scalar.indexCast v1456
  ![v1457.toNat]

def k0_chk14 (v1459 : IVec S16 32) : Prop :=
  (∀ a x, ((![v1459] : Fin 1 → IVec S16 32) a x).toNat < S16128.size a)
theorem k0_idx14_inb : ∀ (v1459 : IVec S16 32) (k0_hw14 : k0_chk14 v1459), ∀ a x, ((![v1459] : Fin 1 → IVec S16 32) a x).toNat < S16128.size a := fun v1459 k0_hw14 => k0_hw14
def k0_mult19 (k0_t1 : Fin k0_t1_loop.trips) : BitVec 32 :=
  let c0_i32_624 : BitVec 32 := 0#32
  let c0_i32_339 : BitVec 32 := 0#32
  let c1_i32_341 : BitVec 32 := 1#32
  let arg20 : BitVec 32 := Scf.iv c0_i32_339 c1_i32_341 k0_t1
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c208_i32 : BitVec 32 := 208#32
  let v1461 : BitVec 32 := Scalar.addi v1377 c208_i32
  v1461
def k0_off15 (k0_t1 : Fin k0_t1_loop.trips) : Fin 1 → Nat :=
  let c0_i32_624 : BitVec 32 := 0#32
  let c0_i32_339 : BitVec 32 := 0#32
  let c1_i32_341 : BitVec 32 := 1#32
  let arg20 : BitVec 32 := Scf.iv c0_i32_339 c1_i32_341 k0_t1
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c208_i32 : BitVec 32 := 208#32
  let v1461 : BitVec 32 := Scalar.addi v1377 c208_i32
  let v1462 : BitVec 32 := v1461
  let v1463 : Index := Scalar.indexCast v1462
  ![v1463.toNat]

def k0_chk15 (v1465 : IVec S16 32) : Prop :=
  (∀ a x, ((![v1465] : Fin 1 → IVec S16 32) a x).toNat < S16128.size a)
theorem k0_idx15_inb : ∀ (v1465 : IVec S16 32) (k0_hw15 : k0_chk15 v1465), ∀ a x, ((![v1465] : Fin 1 → IVec S16 32) a x).toNat < S16128.size a := fun v1465 k0_hw15 => k0_hw15
def k0_mult20 (k0_t1 : Fin k0_t1_loop.trips) : BitVec 32 :=
  let c0_i32_624 : BitVec 32 := 0#32
  let c0_i32_339 : BitVec 32 := 0#32
  let c1_i32_341 : BitVec 32 := 1#32
  let arg20 : BitVec 32 := Scf.iv c0_i32_339 c1_i32_341 k0_t1
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c224_i32 : BitVec 32 := 224#32
  let v1467 : BitVec 32 := Scalar.addi v1377 c224_i32
  v1467
def k0_off16 (k0_t1 : Fin k0_t1_loop.trips) : Fin 1 → Nat :=
  let c0_i32_624 : BitVec 32 := 0#32
  let c0_i32_339 : BitVec 32 := 0#32
  let c1_i32_341 : BitVec 32 := 1#32
  let arg20 : BitVec 32 := Scf.iv c0_i32_339 c1_i32_341 k0_t1
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c224_i32 : BitVec 32 := 224#32
  let v1467 : BitVec 32 := Scalar.addi v1377 c224_i32
  let v1468 : BitVec 32 := v1467
  let v1469 : Index := Scalar.indexCast v1468
  ![v1469.toNat]

def k0_chk16 (v1471 : IVec S16 32) : Prop :=
  (∀ a x, ((![v1471] : Fin 1 → IVec S16 32) a x).toNat < S16128.size a)
theorem k0_idx16_inb : ∀ (v1471 : IVec S16 32) (k0_hw16 : k0_chk16 v1471), ∀ a x, ((![v1471] : Fin 1 → IVec S16 32) a x).toNat < S16128.size a := fun v1471 k0_hw16 => k0_hw16
def k0_mult21 (k0_t1 : Fin k0_t1_loop.trips) : BitVec 32 :=
  let c0_i32_624 : BitVec 32 := 0#32
  let c0_i32_339 : BitVec 32 := 0#32
  let c1_i32_341 : BitVec 32 := 1#32
  let arg20 : BitVec 32 := Scf.iv c0_i32_339 c1_i32_341 k0_t1
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c240_i32 : BitVec 32 := 240#32
  let v1473 : BitVec 32 := Scalar.addi v1377 c240_i32
  v1473
def k0_off17 (k0_t1 : Fin k0_t1_loop.trips) : Fin 1 → Nat :=
  let c0_i32_624 : BitVec 32 := 0#32
  let c0_i32_339 : BitVec 32 := 0#32
  let c1_i32_341 : BitVec 32 := 1#32
  let arg20 : BitVec 32 := Scf.iv c0_i32_339 c1_i32_341 k0_t1
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c240_i32 : BitVec 32 := 240#32
  let v1473 : BitVec 32 := Scalar.addi v1377 c240_i32
  let v1474 : BitVec 32 := v1473
  let v1475 : Index := Scalar.indexCast v1474
  ![v1475.toNat]
def k0_mult22 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32 : BitVec 32 := 0#32
  let v3 : BitVec 32 := Scalar.addi v2 c0_i32
  let c1984_i32 : BitVec 32 := 1984#32
  let v266 : BitVec 32 := Scalar.muli v3 c1984_i32
  let c256_i32_136 : BitVec 32 := 256#32
  let v267 : BitVec 32 := Scalar.muli v266 c256_i32_136
  let c0_i32_343 : BitVec 32 := 0#32
  let c0_i32_345 : BitVec 32 := 0#32
  let v769 : BitVec 1 := Scalar.cmpi .sgt c0_i32_343 c0_i32_345
  let v770 : BitVec 32 := Scalar.extui v769
  let c0_i32_346 : BitVec 32 := 0#32
  let v771 : BitVec 1 := Scalar.cmpi .slt c0_i32_343 c0_i32_346
  let v772 : BitVec 32 := Scalar.extui v771
  let v773 : BitVec 32 := Scalar.subi v770 v772
  let c2_i32_344 : BitVec 32 := 2#32
  let c0_i32_347 : BitVec 32 := 0#32
  let v774 : BitVec 1 := Scalar.cmpi .sgt c2_i32_344 c0_i32_347
  let v775 : BitVec 32 := Scalar.extui v774
  let c0_i32_348 : BitVec 32 := 0#32
  let v776 : BitVec 1 := Scalar.cmpi .slt c2_i32_344 c0_i32_348
  let v777 : BitVec 32 := Scalar.extui v776
  let v778 : BitVec 32 := Scalar.subi v775 v777
  let v779 : BitVec 1 := Scalar.cmpi .ne v773 v778
  let v780 : BitVec 32 := Scalar.remsi c0_i32_343 c2_i32_344
  let c0_i32_349 : BitVec 32 := 0#32
  let v781 : BitVec 1 := Scalar.cmpi .ne v780 c0_i32_349
  let v782 : BitVec 1 := Scalar.andi v779 v781
  let v768 : BitVec 32 := Scalar.divsi c0_i32_343 c2_i32_344
  let c1_i32_350 : BitVec 32 := 1#32
  let v783 : BitVec 32 := Scalar.subi v768 c1_i32_350
  let v784 : BitVec 32 := Scalar.select v782 v783 v768
  let c15872_i32_351 : BitVec 32 := 15872#32
  let v785 : BitVec 32 := Scalar.muli v784 c15872_i32_351
  let v786 : BitVec 32 := Scalar.addi v267 v785
  v786
def k0_off18 (i : grid0.Coords) (c0_i32 : BitVec 32) (c0_i32_343 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let v3 : BitVec 32 := Scalar.addi v2 c0_i32
  let c1984_i32 : BitVec 32 := 1984#32
  let v266 : BitVec 32 := Scalar.muli v3 c1984_i32
  let c256_i32_136 : BitVec 32 := 256#32
  let v267 : BitVec 32 := Scalar.muli v266 c256_i32_136
  let c0_i32_345 : BitVec 32 := 0#32
  let v769 : BitVec 1 := Scalar.cmpi .sgt c0_i32_343 c0_i32_345
  let v770 : BitVec 32 := Scalar.extui v769
  let c0_i32_346 : BitVec 32 := 0#32
  let v771 : BitVec 1 := Scalar.cmpi .slt c0_i32_343 c0_i32_346
  let v772 : BitVec 32 := Scalar.extui v771
  let v773 : BitVec 32 := Scalar.subi v770 v772
  let c2_i32_344 : BitVec 32 := 2#32
  let c0_i32_347 : BitVec 32 := 0#32
  let v774 : BitVec 1 := Scalar.cmpi .sgt c2_i32_344 c0_i32_347
  let v775 : BitVec 32 := Scalar.extui v774
  let c0_i32_348 : BitVec 32 := 0#32
  let v776 : BitVec 1 := Scalar.cmpi .slt c2_i32_344 c0_i32_348
  let v777 : BitVec 32 := Scalar.extui v776
  let v778 : BitVec 32 := Scalar.subi v775 v777
  let v779 : BitVec 1 := Scalar.cmpi .ne v773 v778
  let v780 : BitVec 32 := Scalar.remsi c0_i32_343 c2_i32_344
  let c0_i32_349 : BitVec 32 := 0#32
  let v781 : BitVec 1 := Scalar.cmpi .ne v780 c0_i32_349
  let v782 : BitVec 1 := Scalar.andi v779 v781
  let v768 : BitVec 32 := Scalar.divsi c0_i32_343 c2_i32_344
  let c1_i32_350 : BitVec 32 := 1#32
  let v783 : BitVec 32 := Scalar.subi v768 c1_i32_350
  let v784 : BitVec 32 := Scalar.select v782 v783 v768
  let c15872_i32_351 : BitVec 32 := 15872#32
  let v785 : BitVec 32 := Scalar.muli v784 c15872_i32_351
  let v786 : BitVec 32 := Scalar.addi v267 v785
  let v787 : BitVec 32 := v786
  ![v787.toNat]
def k0_off18_at (r : Fin 8) : BitVec 32 × BitVec 32 :=
  if r.val < 4 then
    if r.val < 2 then
      if r.val < 1 then
        (0#32, 0#32)
      else
        (1#32, 1#32)
    else
      if r.val < 3 then
        (0#32, 2#32)
      else
        (1#32, 3#32)
  else
    if r.val < 6 then
      if r.val < 5 then
        (0#32, 60#32)
      else
        (1#32, 61#32)
    else
      if r.val < 7 then
        (0#32, 62#32)
      else
        (1#32, 63#32)
def k0_mult23 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32 : BitVec 32 := 0#32
  let v3 : BitVec 32 := Scalar.addi v2 c0_i32
  let c2048_i32 : BitVec 32 := 2048#32
  let v258 : BitVec 32 := Scalar.muli v3 c2048_i32
  let c63_i32 : BitVec 32 := 63#32
  let v130 : BitVec 1 := Scalar.cmpi .eq v3 c63_i32
  let c1763_i32 : BitVec 32 := 1763#32
  let c62_i32 : BitVec 32 := 62#32
  let v128 : BitVec 1 := Scalar.cmpi .eq v3 c62_i32
  let c1196_i32 : BitVec 32 := 1196#32
  let c61_i32 : BitVec 32 := 61#32
  let v126 : BitVec 1 := Scalar.cmpi .eq v3 c61_i32
  let c722_i32 : BitVec 32 := 722#32
  let c60_i32 : BitVec 32 := 60#32
  let v124 : BitVec 1 := Scalar.cmpi .eq v3 c60_i32
  let c3132_i32 : BitVec 32 := 3132#32
  let c59_i32 : BitVec 32 := 59#32
  let v122 : BitVec 1 := Scalar.cmpi .eq v3 c59_i32
  let c2263_i32 : BitVec 32 := 2263#32
  let c58_i32 : BitVec 32 := 58#32
  let v120 : BitVec 1 := Scalar.cmpi .eq v3 c58_i32
  let c7228_i32 : BitVec 32 := 7228#32
  let c57_i32 : BitVec 32 := 57#32
  let v118 : BitVec 1 := Scalar.cmpi .eq v3 c57_i32
  let c6147_i32 : BitVec 32 := 6147#32
  let c56_i32_4 : BitVec 32 := 56#32
  let v116 : BitVec 1 := Scalar.cmpi .eq v3 c56_i32_4
  let c5257_i32 : BitVec 32 := 5257#32
  let c55_i32 : BitVec 32 := 55#32
  let v114 : BitVec 1 := Scalar.cmpi .eq v3 c55_i32
  let c2687_i32 : BitVec 32 := 2687#32
  let c54_i32 : BitVec 32 := 54#32
  let v112 : BitVec 1 := Scalar.cmpi .eq v3 c54_i32
  let c3913_i32 : BitVec 32 := 3913#32
  let c53_i32 : BitVec 32 := 53#32
  let v110 : BitVec 1 := Scalar.cmpi .eq v3 c53_i32
  let c1765_i32 : BitVec 32 := 1765#32
  let c52_i32 : BitVec 32 := 52#32
  let v108 : BitVec 1 := Scalar.cmpi .eq v3 c52_i32
  let c572_i32 : BitVec 32 := 572#32
  let c51_i32 : BitVec 32 := 51#32
  let v106 : BitVec 1 := Scalar.cmpi .eq v3 c51_i32
  let c5479_i32 : BitVec 32 := 5479#32
  let c50_i32 : BitVec 32 := 50#32
  let v104 : BitVec 1 := Scalar.cmpi .eq v3 c50_i32
  let c7351_i32 : BitVec 32 := 7351#32
  let c49_i32 : BitVec 32 := 49#32
  let v102 : BitVec 1 := Scalar.cmpi .eq v3 c49_i32
  let c593_i32 : BitVec 32 := 593#32
  let c48_i32 : BitVec 32 := 48#32
  let v100 : BitVec 1 := Scalar.cmpi .eq v3 c48_i32
  let c7487_i32 : BitVec 32 := 7487#32
  let c47_i32 : BitVec 32 := 47#32
  let v98 : BitVec 1 := Scalar.cmpi .eq v3 c47_i32
  let c3618_i32 : BitVec 32 := 3618#32
  let c46_i32 : BitVec 32 := 46#32
  let v96 : BitVec 1 := Scalar.cmpi .eq v3 c46_i32
  let c6125_i32 : BitVec 32 := 6125#32
  let c45_i32 : BitVec 32 := 45#32
  let v94 : BitVec 1 := Scalar.cmpi .eq v3 c45_i32
  let c2834_i32 : BitVec 32 := 2834#32
  let c44_i32 : BitVec 32 := 44#32
  let v92 : BitVec 1 := Scalar.cmpi .eq v3 c44_i32
  let c4871_i32 : BitVec 32 := 4871#32
  let c43_i32 : BitVec 32 := 43#32
  let v90 : BitVec 1 := Scalar.cmpi .eq v3 c43_i32
  let c1936_i32 : BitVec 32 := 1936#32
  let c42_i32 : BitVec 32 := 42#32
  let v88 : BitVec 1 := Scalar.cmpi .eq v3 c42_i32
  let c2914_i32 : BitVec 32 := 2914#32
  let c41_i32 : BitVec 32 := 41#32
  let v86 : BitVec 1 := Scalar.cmpi .eq v3 c41_i32
  let c3866_i32 : BitVec 32 := 3866#32
  let c40_i32 : BitVec 32 := 40#32
  let v84 : BitVec 1 := Scalar.cmpi .eq v3 c40_i32
  let c1846_i32 : BitVec 32 := 1846#32
  let c39_i32 : BitVec 32 := 39#32
  let v82 : BitVec 1 := Scalar.cmpi .eq v3 c39_i32
  let c7714_i32 : BitVec 32 := 7714#32
  let c38_i32 : BitVec 32 := 38#32
  let v80 : BitVec 1 := Scalar.cmpi .eq v3 c38_i32
  let c3980_i32 : BitVec 32 := 3980#32
  let c37_i32 : BitVec 32 := 37#32
  let v78 : BitVec 1 := Scalar.cmpi .eq v3 c37_i32
  let c6570_i32 : BitVec 32 := 6570#32
  let c36_i32 : BitVec 32 := 36#32
  let v76 : BitVec 1 := Scalar.cmpi .eq v3 c36_i32
  let c2937_i32 : BitVec 32 := 2937#32
  let c35_i32 : BitVec 32 := 35#32
  let v74 : BitVec 1 := Scalar.cmpi .eq v3 c35_i32
  let c1105_i32 : BitVec 32 := 1105#32
  let c34_i32 : BitVec 32 := 34#32
  let v72 : BitVec 1 := Scalar.cmpi .eq v3 c34_i32
  let c5685_i32 : BitVec 32 := 5685#32
  let c33_i32 : BitVec 32 := 33#32
  let v70 : BitVec 1 := Scalar.cmpi .eq v3 c33_i32
  let c1851_i32 : BitVec 32 := 1851#32
  let c32_i32 : BitVec 32 := 32#32
  let v68 : BitVec 1 := Scalar.cmpi .eq v3 c32_i32
  let c2835_i32 : BitVec 32 := 2835#32
  let c31_i32 : BitVec 32 := 31#32
  let v66 : BitVec 1 := Scalar.cmpi .eq v3 c31_i32
  let c6151_i32 : BitVec 32 := 6151#32
  let c30_i32 : BitVec 32 := 30#32
  let v64 : BitVec 1 := Scalar.cmpi .eq v3 c30_i32
  let c2916_i32 : BitVec 32 := 2916#32
  let c29_i32 : BitVec 32 := 29#32
  let v62 : BitVec 1 := Scalar.cmpi .eq v3 c29_i32
  let c4806_i32 : BitVec 32 := 4806#32
  let c28_i32 : BitVec 32 := 28#32
  let v60 : BitVec 1 := Scalar.cmpi .eq v3 c28_i32
  let c2760_i32 : BitVec 32 := 2760#32
  let c27_i32 : BitVec 32 := 27#32
  let v58 : BitVec 1 := Scalar.cmpi .eq v3 c27_i32
  let c2339_i32 : BitVec 32 := 2339#32
  let c26_i32 : BitVec 32 := 26#32
  let v56 : BitVec 1 := Scalar.cmpi .eq v3 c26_i32
  let c5978_i32 : BitVec 32 := 5978#32
  let c25_i32 : BitVec 32 := 25#32
  let v54 : BitVec 1 := Scalar.cmpi .eq v3 c25_i32
  let c6943_i32 : BitVec 32 := 6943#32
  let c24_i32 : BitVec 32 := 24#32
  let v52 : BitVec 1 := Scalar.cmpi .eq v3 c24_i32
  let c7654_i32 : BitVec 32 := 7654#32
  let c23_i32 : BitVec 32 := 23#32
  let v50 : BitVec 1 := Scalar.cmpi .eq v3 c23_i32
  let c3018_i32 : BitVec 32 := 3018#32
  let c22_i32 : BitVec 32 := 22#32
  let v48 : BitVec 1 := Scalar.cmpi .eq v3 c22_i32
  let c56_i32 : BitVec 32 := 56#32
  let c21_i32 : BitVec 32 := 21#32
  let v46 : BitVec 1 := Scalar.cmpi .eq v3 c21_i32
  let c5652_i32 : BitVec 32 := 5652#32
  let c20_i32 : BitVec 32 := 20#32
  let v44 : BitVec 1 := Scalar.cmpi .eq v3 c20_i32
  let c6840_i32 : BitVec 32 := 6840#32
  let c19_i32 : BitVec 32 := 19#32
  let v42 : BitVec 1 := Scalar.cmpi .eq v3 c19_i32
  let c4026_i32 : BitVec 32 := 4026#32
  let c18_i32 : BitVec 32 := 18#32
  let v40 : BitVec 1 := Scalar.cmpi .eq v3 c18_i32
  let c91_i32 : BitVec 32 := 91#32
  let c17_i32 : BitVec 32 := 17#32
  let v38 : BitVec 1 := Scalar.cmpi .eq v3 c17_i32
  let c7767_i32 : BitVec 32 := 7767#32
  let c16_i32 : BitVec 32 := 16#32
  let v36 : BitVec 1 := Scalar.cmpi .eq v3 c16_i32
  let c4241_i32 : BitVec 32 := 4241#32
  let c15_i32 : BitVec 32 := 15#32
  let v34 : BitVec 1 := Scalar.cmpi .eq v3 c15_i32
  let c6170_i32 : BitVec 32 := 6170#32
  let c14_i32 : BitVec 32 := 14#32
  let v32 : BitVec 1 := Scalar.cmpi .eq v3 c14_i32
  let c8174_i32 : BitVec 32 := 8174#32
  let c13_i32 : BitVec 32 := 13#32
  let v30 : BitVec 1 := Scalar.cmpi .eq v3 c13_i32
  let c1378_i32 : BitVec 32 := 1378#32
  let c12_i32 : BitVec 32 := 12#32
  let v28 : BitVec 1 := Scalar.cmpi .eq v3 c12_i32
  let c2562_i32 : BitVec 32 := 2562#32
  let c11_i32 : BitVec 32 := 11#32
  let v26 : BitVec 1 := Scalar.cmpi .eq v3 c11_i32
  let c4161_i32 : BitVec 32 := 4161#32
  let c10_i32 : BitVec 32 := 10#32
  let v24 : BitVec 1 := Scalar.cmpi .eq v3 c10_i32
  let c6176_i32 : BitVec 32 := 6176#32
  let c9_i32 : BitVec 32 := 9#32
  let v22 : BitVec 1 := Scalar.cmpi .eq v3 c9_i32
  let c2818_i32 : BitVec 32 := 2818#32
  let c8_i32 : BitVec 32 := 8#32
  let v20 : BitVec 1 := Scalar.cmpi .eq v3 c8_i32
  let c5970_i32 : BitVec 32 := 5970#32
  let c7_i32 : BitVec 32 := 7#32
  let v18 : BitVec 1 := Scalar.cmpi .eq v3 c7_i32
  let c7573_i32 : BitVec 32 := 7573#32
  let c6_i32 : BitVec 32 := 6#32
  let v16 : BitVec 1 := Scalar.cmpi .eq v3 c6_i32
  let c3350_i32 : BitVec 32 := 3350#32
  let c5_i32 : BitVec 32 := 5#32
  let v14 : BitVec 1 := Scalar.cmpi .eq v3 c5_i32
  let c4780_i32 : BitVec 32 := 4780#32
  let c4_i32 : BitVec 32 := 4#32
  let v12 : BitVec 1 := Scalar.cmpi .eq v3 c4_i32
  let c6560_i32 : BitVec 32 := 6560#32
  let c3_i32 : BitVec 32 := 3#32
  let v10 : BitVec 1 := Scalar.cmpi .eq v3 c3_i32
  let c7017_i32 : BitVec 32 := 7017#32
  let c2_i32_3 : BitVec 32 := 2#32
  let v8 : BitVec 1 := Scalar.cmpi .eq v3 c2_i32_3
  let c736_i32 : BitVec 32 := 736#32
  let c1_i32_2 : BitVec 32 := 1#32
  let v6 : BitVec 1 := Scalar.cmpi .eq v3 c1_i32_2
  let c943_i32 : BitVec 32 := 943#32
  let c7932_i32 : BitVec 32 := 7932#32
  let v7 : BitVec 32 := Scalar.select v6 c943_i32 c7932_i32
  let v9 : BitVec 32 := Scalar.select v8 c736_i32 v7
  let v11 : BitVec 32 := Scalar.select v10 c7017_i32 v9
  let v13 : BitVec 32 := Scalar.select v12 c6560_i32 v11
  let v15 : BitVec 32 := Scalar.select v14 c4780_i32 v13
  let v17 : BitVec 32 := Scalar.select v16 c3350_i32 v15
  let v19 : BitVec 32 := Scalar.select v18 c7573_i32 v17
  let v21 : BitVec 32 := Scalar.select v20 c5970_i32 v19
  let v23 : BitVec 32 := Scalar.select v22 c2818_i32 v21
  let v25 : BitVec 32 := Scalar.select v24 c6176_i32 v23
  let v27 : BitVec 32 := Scalar.select v26 c4161_i32 v25
  let v29 : BitVec 32 := Scalar.select v28 c2562_i32 v27
  let v31 : BitVec 32 := Scalar.select v30 c1378_i32 v29
  let v33 : BitVec 32 := Scalar.select v32 c8174_i32 v31
  let v35 : BitVec 32 := Scalar.select v34 c6170_i32 v33
  let v37 : BitVec 32 := Scalar.select v36 c4241_i32 v35
  let v39 : BitVec 32 := Scalar.select v38 c7767_i32 v37
  let v41 : BitVec 32 := Scalar.select v40 c91_i32 v39
  let v43 : BitVec 32 := Scalar.select v42 c4026_i32 v41
  let v45 : BitVec 32 := Scalar.select v44 c6840_i32 v43
  let v47 : BitVec 32 := Scalar.select v46 c5652_i32 v45
  let v49 : BitVec 32 := Scalar.select v48 c56_i32 v47
  let v51 : BitVec 32 := Scalar.select v50 c3018_i32 v49
  let v53 : BitVec 32 := Scalar.select v52 c7654_i32 v51
  let v55 : BitVec 32 := Scalar.select v54 c6943_i32 v53
  let v57 : BitVec 32 := Scalar.select v56 c5978_i32 v55
  let v59 : BitVec 32 := Scalar.select v58 c2339_i32 v57
  let v61 : BitVec 32 := Scalar.select v60 c2760_i32 v59
  let v63 : BitVec 32 := Scalar.select v62 c4806_i32 v61
  let v65 : BitVec 32 := Scalar.select v64 c2916_i32 v63
  let v67 : BitVec 32 := Scalar.select v66 c6151_i32 v65
  let v69 : BitVec 32 := Scalar.select v68 c2835_i32 v67
  let v71 : BitVec 32 := Scalar.select v70 c1851_i32 v69
  let v73 : BitVec 32 := Scalar.select v72 c5685_i32 v71
  let v75 : BitVec 32 := Scalar.select v74 c1105_i32 v73
  let v77 : BitVec 32 := Scalar.select v76 c2937_i32 v75
  let v79 : BitVec 32 := Scalar.select v78 c6570_i32 v77
  let v81 : BitVec 32 := Scalar.select v80 c3980_i32 v79
  let v83 : BitVec 32 := Scalar.select v82 c7714_i32 v81
  let v85 : BitVec 32 := Scalar.select v84 c1846_i32 v83
  let v87 : BitVec 32 := Scalar.select v86 c3866_i32 v85
  let v89 : BitVec 32 := Scalar.select v88 c2914_i32 v87
  let v91 : BitVec 32 := Scalar.select v90 c1936_i32 v89
  let v93 : BitVec 32 := Scalar.select v92 c4871_i32 v91
  let v95 : BitVec 32 := Scalar.select v94 c2834_i32 v93
  let v97 : BitVec 32 := Scalar.select v96 c6125_i32 v95
  let v99 : BitVec 32 := Scalar.select v98 c3618_i32 v97
  let v101 : BitVec 32 := Scalar.select v100 c7487_i32 v99
  let v103 : BitVec 32 := Scalar.select v102 c593_i32 v101
  let v105 : BitVec 32 := Scalar.select v104 c7351_i32 v103
  let v107 : BitVec 32 := Scalar.select v106 c5479_i32 v105
  let v109 : BitVec 32 := Scalar.select v108 c572_i32 v107
  let v111 : BitVec 32 := Scalar.select v110 c1765_i32 v109
  let v113 : BitVec 32 := Scalar.select v112 c3913_i32 v111
  let v115 : BitVec 32 := Scalar.select v114 c2687_i32 v113
  let v117 : BitVec 32 := Scalar.select v116 c5257_i32 v115
  let v119 : BitVec 32 := Scalar.select v118 c6147_i32 v117
  let v121 : BitVec 32 := Scalar.select v120 c7228_i32 v119
  let v123 : BitVec 32 := Scalar.select v122 c2263_i32 v121
  let v125 : BitVec 32 := Scalar.select v124 c3132_i32 v123
  let v127 : BitVec 32 := Scalar.select v126 c722_i32 v125
  let v129 : BitVec 32 := Scalar.select v128 c1196_i32 v127
  let v131 : BitVec 32 := Scalar.select v130 c1763_i32 v129
  let c7_i32_132 : BitVec 32 := 7#32
  let v259 : BitVec 32 := Scalar.shrsi v131 c7_i32_132
  let v260 : BitVec 32 := Scalar.addi v258 v259
  let c256_i32 : BitVec 32 := 256#32
  let v261 : BitVec 32 := Scalar.muli v260 c256_i32
  let c4_i32_352 : BitVec 32 := 4#32
  let c0_i32_354 : BitVec 32 := 0#32
  let v791 : BitVec 1 := Scalar.cmpi .sgt c4_i32_352 c0_i32_354
  let v792 : BitVec 32 := Scalar.extui v791
  let c0_i32_355 : BitVec 32 := 0#32
  let v793 : BitVec 1 := Scalar.cmpi .slt c4_i32_352 c0_i32_355
  let v794 : BitVec 32 := Scalar.extui v793
  let v795 : BitVec 32 := Scalar.subi v792 v794
  let c2_i32_353 : BitVec 32 := 2#32
  let c0_i32_356 : BitVec 32 := 0#32
  let v796 : BitVec 1 := Scalar.cmpi .sgt c2_i32_353 c0_i32_356
  let v797 : BitVec 32 := Scalar.extui v796
  let c0_i32_357 : BitVec 32 := 0#32
  let v798 : BitVec 1 := Scalar.cmpi .slt c2_i32_353 c0_i32_357
  let v799 : BitVec 32 := Scalar.extui v798
  let v800 : BitVec 32 := Scalar.subi v797 v799
  let v801 : BitVec 1 := Scalar.cmpi .ne v795 v800
  let v802 : BitVec 32 := Scalar.remsi c4_i32_352 c2_i32_353
  let c0_i32_358 : BitVec 32 := 0#32
  let v803 : BitVec 1 := Scalar.cmpi .ne v802 c0_i32_358
  let v804 : BitVec 1 := Scalar.andi v801 v803
  let v790 : BitVec 32 := Scalar.divsi c4_i32_352 c2_i32_353
  let c1_i32_359 : BitVec 32 := 1#32
  let v805 : BitVec 32 := Scalar.subi v790 c1_i32_359
  let v806 : BitVec 32 := Scalar.select v804 v805 v790
  let c15872_i32_360 : BitVec 32 := 15872#32
  let v807 : BitVec 32 := Scalar.muli v806 c15872_i32_360
  let v808 : BitVec 32 := Scalar.addi v261 v807
  v808
def k0_mult24 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_1 : BitVec 32 := 2#32
  let v4 : BitVec 32 := Scalar.muli v1 c2_i32_1
  let c1_i32 : BitVec 32 := 1#32
  let v5 : BitVec 32 := Scalar.addi v4 c1_i32
  let c2048_i32_133 : BitVec 32 := 2048#32
  let v262 : BitVec 32 := Scalar.muli v5 c2048_i32_133
  let c63_i32_130 : BitVec 32 := 63#32
  let v256 : BitVec 1 := Scalar.cmpi .eq v5 c63_i32_130
  let c1763_i32_131 : BitVec 32 := 1763#32
  let c62_i32_128 : BitVec 32 := 62#32
  let v254 : BitVec 1 := Scalar.cmpi .eq v5 c62_i32_128
  let c1196_i32_129 : BitVec 32 := 1196#32
  let c61_i32_126 : BitVec 32 := 61#32
  let v252 : BitVec 1 := Scalar.cmpi .eq v5 c61_i32_126
  let c722_i32_127 : BitVec 32 := 722#32
  let c60_i32_124 : BitVec 32 := 60#32
  let v250 : BitVec 1 := Scalar.cmpi .eq v5 c60_i32_124
  let c3132_i32_125 : BitVec 32 := 3132#32
  let c59_i32_122 : BitVec 32 := 59#32
  let v248 : BitVec 1 := Scalar.cmpi .eq v5 c59_i32_122
  let c2263_i32_123 : BitVec 32 := 2263#32
  let c58_i32_120 : BitVec 32 := 58#32
  let v246 : BitVec 1 := Scalar.cmpi .eq v5 c58_i32_120
  let c7228_i32_121 : BitVec 32 := 7228#32
  let c57_i32_118 : BitVec 32 := 57#32
  let v244 : BitVec 1 := Scalar.cmpi .eq v5 c57_i32_118
  let c6147_i32_119 : BitVec 32 := 6147#32
  let c56_i32_116 : BitVec 32 := 56#32
  let v242 : BitVec 1 := Scalar.cmpi .eq v5 c56_i32_116
  let c5257_i32_117 : BitVec 32 := 5257#32
  let c55_i32_114 : BitVec 32 := 55#32
  let v240 : BitVec 1 := Scalar.cmpi .eq v5 c55_i32_114
  let c2687_i32_115 : BitVec 32 := 2687#32
  let c54_i32_112 : BitVec 32 := 54#32
  let v238 : BitVec 1 := Scalar.cmpi .eq v5 c54_i32_112
  let c3913_i32_113 : BitVec 32 := 3913#32
  let c53_i32_110 : BitVec 32 := 53#32
  let v236 : BitVec 1 := Scalar.cmpi .eq v5 c53_i32_110
  let c1765_i32_111 : BitVec 32 := 1765#32
  let c52_i32_108 : BitVec 32 := 52#32
  let v234 : BitVec 1 := Scalar.cmpi .eq v5 c52_i32_108
  let c572_i32_109 : BitVec 32 := 572#32
  let c51_i32_106 : BitVec 32 := 51#32
  let v232 : BitVec 1 := Scalar.cmpi .eq v5 c51_i32_106
  let c5479_i32_107 : BitVec 32 := 5479#32
  let c50_i32_104 : BitVec 32 := 50#32
  let v230 : BitVec 1 := Scalar.cmpi .eq v5 c50_i32_104
  let c7351_i32_105 : BitVec 32 := 7351#32
  let c49_i32_102 : BitVec 32 := 49#32
  let v228 : BitVec 1 := Scalar.cmpi .eq v5 c49_i32_102
  let c593_i32_103 : BitVec 32 := 593#32
  let c48_i32_100 : BitVec 32 := 48#32
  let v226 : BitVec 1 := Scalar.cmpi .eq v5 c48_i32_100
  let c7487_i32_101 : BitVec 32 := 7487#32
  let c47_i32_98 : BitVec 32 := 47#32
  let v224 : BitVec 1 := Scalar.cmpi .eq v5 c47_i32_98
  let c3618_i32_99 : BitVec 32 := 3618#32
  let c46_i32_96 : BitVec 32 := 46#32
  let v222 : BitVec 1 := Scalar.cmpi .eq v5 c46_i32_96
  let c6125_i32_97 : BitVec 32 := 6125#32
  let c45_i32_94 : BitVec 32 := 45#32
  let v220 : BitVec 1 := Scalar.cmpi .eq v5 c45_i32_94
  let c2834_i32_95 : BitVec 32 := 2834#32
  let c44_i32_92 : BitVec 32 := 44#32
  let v218 : BitVec 1 := Scalar.cmpi .eq v5 c44_i32_92
  let c4871_i32_93 : BitVec 32 := 4871#32
  let c43_i32_90 : BitVec 32 := 43#32
  let v216 : BitVec 1 := Scalar.cmpi .eq v5 c43_i32_90
  let c1936_i32_91 : BitVec 32 := 1936#32
  let c42_i32_88 : BitVec 32 := 42#32
  let v214 : BitVec 1 := Scalar.cmpi .eq v5 c42_i32_88
  let c2914_i32_89 : BitVec 32 := 2914#32
  let c41_i32_86 : BitVec 32 := 41#32
  let v212 : BitVec 1 := Scalar.cmpi .eq v5 c41_i32_86
  let c3866_i32_87 : BitVec 32 := 3866#32
  let c40_i32_84 : BitVec 32 := 40#32
  let v210 : BitVec 1 := Scalar.cmpi .eq v5 c40_i32_84
  let c1846_i32_85 : BitVec 32 := 1846#32
  let c39_i32_82 : BitVec 32 := 39#32
  let v208 : BitVec 1 := Scalar.cmpi .eq v5 c39_i32_82
  let c7714_i32_83 : BitVec 32 := 7714#32
  let c38_i32_80 : BitVec 32 := 38#32
  let v206 : BitVec 1 := Scalar.cmpi .eq v5 c38_i32_80
  let c3980_i32_81 : BitVec 32 := 3980#32
  let c37_i32_78 : BitVec 32 := 37#32
  let v204 : BitVec 1 := Scalar.cmpi .eq v5 c37_i32_78
  let c6570_i32_79 : BitVec 32 := 6570#32
  let c36_i32_76 : BitVec 32 := 36#32
  let v202 : BitVec 1 := Scalar.cmpi .eq v5 c36_i32_76
  let c2937_i32_77 : BitVec 32 := 2937#32
  let c35_i32_74 : BitVec 32 := 35#32
  let v200 : BitVec 1 := Scalar.cmpi .eq v5 c35_i32_74
  let c1105_i32_75 : BitVec 32 := 1105#32
  let c34_i32_72 : BitVec 32 := 34#32
  let v198 : BitVec 1 := Scalar.cmpi .eq v5 c34_i32_72
  let c5685_i32_73 : BitVec 32 := 5685#32
  let c33_i32_70 : BitVec 32 := 33#32
  let v196 : BitVec 1 := Scalar.cmpi .eq v5 c33_i32_70
  let c1851_i32_71 : BitVec 32 := 1851#32
  let c32_i32_68 : BitVec 32 := 32#32
  let v194 : BitVec 1 := Scalar.cmpi .eq v5 c32_i32_68
  let c2835_i32_69 : BitVec 32 := 2835#32
  let c31_i32_66 : BitVec 32 := 31#32
  let v192 : BitVec 1 := Scalar.cmpi .eq v5 c31_i32_66
  let c6151_i32_67 : BitVec 32 := 6151#32
  let c30_i32_64 : BitVec 32 := 30#32
  let v190 : BitVec 1 := Scalar.cmpi .eq v5 c30_i32_64
  let c2916_i32_65 : BitVec 32 := 2916#32
  let c29_i32_62 : BitVec 32 := 29#32
  let v188 : BitVec 1 := Scalar.cmpi .eq v5 c29_i32_62
  let c4806_i32_63 : BitVec 32 := 4806#32
  let c28_i32_60 : BitVec 32 := 28#32
  let v186 : BitVec 1 := Scalar.cmpi .eq v5 c28_i32_60
  let c2760_i32_61 : BitVec 32 := 2760#32
  let c27_i32_58 : BitVec 32 := 27#32
  let v184 : BitVec 1 := Scalar.cmpi .eq v5 c27_i32_58
  let c2339_i32_59 : BitVec 32 := 2339#32
  let c26_i32_56 : BitVec 32 := 26#32
  let v182 : BitVec 1 := Scalar.cmpi .eq v5 c26_i32_56
  let c5978_i32_57 : BitVec 32 := 5978#32
  let c25_i32_54 : BitVec 32 := 25#32
  let v180 : BitVec 1 := Scalar.cmpi .eq v5 c25_i32_54
  let c6943_i32_55 : BitVec 32 := 6943#32
  let c24_i32_52 : BitVec 32 := 24#32
  let v178 : BitVec 1 := Scalar.cmpi .eq v5 c24_i32_52
  let c7654_i32_53 : BitVec 32 := 7654#32
  let c23_i32_50 : BitVec 32 := 23#32
  let v176 : BitVec 1 := Scalar.cmpi .eq v5 c23_i32_50
  let c3018_i32_51 : BitVec 32 := 3018#32
  let c22_i32_48 : BitVec 32 := 22#32
  let v174 : BitVec 1 := Scalar.cmpi .eq v5 c22_i32_48
  let c56_i32_49 : BitVec 32 := 56#32
  let c21_i32_46 : BitVec 32 := 21#32
  let v172 : BitVec 1 := Scalar.cmpi .eq v5 c21_i32_46
  let c5652_i32_47 : BitVec 32 := 5652#32
  let c20_i32_44 : BitVec 32 := 20#32
  let v170 : BitVec 1 := Scalar.cmpi .eq v5 c20_i32_44
  let c6840_i32_45 : BitVec 32 := 6840#32
  let c19_i32_42 : BitVec 32 := 19#32
  let v168 : BitVec 1 := Scalar.cmpi .eq v5 c19_i32_42
  let c4026_i32_43 : BitVec 32 := 4026#32
  let c18_i32_40 : BitVec 32 := 18#32
  let v166 : BitVec 1 := Scalar.cmpi .eq v5 c18_i32_40
  let c91_i32_41 : BitVec 32 := 91#32
  let c17_i32_38 : BitVec 32 := 17#32
  let v164 : BitVec 1 := Scalar.cmpi .eq v5 c17_i32_38
  let c7767_i32_39 : BitVec 32 := 7767#32
  let c16_i32_36 : BitVec 32 := 16#32
  let v162 : BitVec 1 := Scalar.cmpi .eq v5 c16_i32_36
  let c4241_i32_37 : BitVec 32 := 4241#32
  let c15_i32_34 : BitVec 32 := 15#32
  let v160 : BitVec 1 := Scalar.cmpi .eq v5 c15_i32_34
  let c6170_i32_35 : BitVec 32 := 6170#32
  let c14_i32_32 : BitVec 32 := 14#32
  let v158 : BitVec 1 := Scalar.cmpi .eq v5 c14_i32_32
  let c8174_i32_33 : BitVec 32 := 8174#32
  let c13_i32_30 : BitVec 32 := 13#32
  let v156 : BitVec 1 := Scalar.cmpi .eq v5 c13_i32_30
  let c1378_i32_31 : BitVec 32 := 1378#32
  let c12_i32_28 : BitVec 32 := 12#32
  let v154 : BitVec 1 := Scalar.cmpi .eq v5 c12_i32_28
  let c2562_i32_29 : BitVec 32 := 2562#32
  let c11_i32_26 : BitVec 32 := 11#32
  let v152 : BitVec 1 := Scalar.cmpi .eq v5 c11_i32_26
  let c4161_i32_27 : BitVec 32 := 4161#32
  let c10_i32_24 : BitVec 32 := 10#32
  let v150 : BitVec 1 := Scalar.cmpi .eq v5 c10_i32_24
  let c6176_i32_25 : BitVec 32 := 6176#32
  let c9_i32_22 : BitVec 32 := 9#32
  let v148 : BitVec 1 := Scalar.cmpi .eq v5 c9_i32_22
  let c2818_i32_23 : BitVec 32 := 2818#32
  let c8_i32_20 : BitVec 32 := 8#32
  let v146 : BitVec 1 := Scalar.cmpi .eq v5 c8_i32_20
  let c5970_i32_21 : BitVec 32 := 5970#32
  let c7_i32_18 : BitVec 32 := 7#32
  let v144 : BitVec 1 := Scalar.cmpi .eq v5 c7_i32_18
  let c7573_i32_19 : BitVec 32 := 7573#32
  let c6_i32_16 : BitVec 32 := 6#32
  let v142 : BitVec 1 := Scalar.cmpi .eq v5 c6_i32_16
  let c3350_i32_17 : BitVec 32 := 3350#32
  let c5_i32_14 : BitVec 32 := 5#32
  let v140 : BitVec 1 := Scalar.cmpi .eq v5 c5_i32_14
  let c4780_i32_15 : BitVec 32 := 4780#32
  let c4_i32_12 : BitVec 32 := 4#32
  let v138 : BitVec 1 := Scalar.cmpi .eq v5 c4_i32_12
  let c6560_i32_13 : BitVec 32 := 6560#32
  let c3_i32_10 : BitVec 32 := 3#32
  let v136 : BitVec 1 := Scalar.cmpi .eq v5 c3_i32_10
  let c7017_i32_11 : BitVec 32 := 7017#32
  let c2_i32_8 : BitVec 32 := 2#32
  let v134 : BitVec 1 := Scalar.cmpi .eq v5 c2_i32_8
  let c736_i32_9 : BitVec 32 := 736#32
  let c1_i32_5 : BitVec 32 := 1#32
  let v132 : BitVec 1 := Scalar.cmpi .eq v5 c1_i32_5
  let c943_i32_7 : BitVec 32 := 943#32
  let c7932_i32_6 : BitVec 32 := 7932#32
  let v133 : BitVec 32 := Scalar.select v132 c943_i32_7 c7932_i32_6
  let v135 : BitVec 32 := Scalar.select v134 c736_i32_9 v133
  let v137 : BitVec 32 := Scalar.select v136 c7017_i32_11 v135
  let v139 : BitVec 32 := Scalar.select v138 c6560_i32_13 v137
  let v141 : BitVec 32 := Scalar.select v140 c4780_i32_15 v139
  let v143 : BitVec 32 := Scalar.select v142 c3350_i32_17 v141
  let v145 : BitVec 32 := Scalar.select v144 c7573_i32_19 v143
  let v147 : BitVec 32 := Scalar.select v146 c5970_i32_21 v145
  let v149 : BitVec 32 := Scalar.select v148 c2818_i32_23 v147
  let v151 : BitVec 32 := Scalar.select v150 c6176_i32_25 v149
  let v153 : BitVec 32 := Scalar.select v152 c4161_i32_27 v151
  let v155 : BitVec 32 := Scalar.select v154 c2562_i32_29 v153
  let v157 : BitVec 32 := Scalar.select v156 c1378_i32_31 v155
  let v159 : BitVec 32 := Scalar.select v158 c8174_i32_33 v157
  let v161 : BitVec 32 := Scalar.select v160 c6170_i32_35 v159
  let v163 : BitVec 32 := Scalar.select v162 c4241_i32_37 v161
  let v165 : BitVec 32 := Scalar.select v164 c7767_i32_39 v163
  let v167 : BitVec 32 := Scalar.select v166 c91_i32_41 v165
  let v169 : BitVec 32 := Scalar.select v168 c4026_i32_43 v167
  let v171 : BitVec 32 := Scalar.select v170 c6840_i32_45 v169
  let v173 : BitVec 32 := Scalar.select v172 c5652_i32_47 v171
  let v175 : BitVec 32 := Scalar.select v174 c56_i32_49 v173
  let v177 : BitVec 32 := Scalar.select v176 c3018_i32_51 v175
  let v179 : BitVec 32 := Scalar.select v178 c7654_i32_53 v177
  let v181 : BitVec 32 := Scalar.select v180 c6943_i32_55 v179
  let v183 : BitVec 32 := Scalar.select v182 c5978_i32_57 v181
  let v185 : BitVec 32 := Scalar.select v184 c2339_i32_59 v183
  let v187 : BitVec 32 := Scalar.select v186 c2760_i32_61 v185
  let v189 : BitVec 32 := Scalar.select v188 c4806_i32_63 v187
  let v191 : BitVec 32 := Scalar.select v190 c2916_i32_65 v189
  let v193 : BitVec 32 := Scalar.select v192 c6151_i32_67 v191
  let v195 : BitVec 32 := Scalar.select v194 c2835_i32_69 v193
  let v197 : BitVec 32 := Scalar.select v196 c1851_i32_71 v195
  let v199 : BitVec 32 := Scalar.select v198 c5685_i32_73 v197
  let v201 : BitVec 32 := Scalar.select v200 c1105_i32_75 v199
  let v203 : BitVec 32 := Scalar.select v202 c2937_i32_77 v201
  let v205 : BitVec 32 := Scalar.select v204 c6570_i32_79 v203
  let v207 : BitVec 32 := Scalar.select v206 c3980_i32_81 v205
  let v209 : BitVec 32 := Scalar.select v208 c7714_i32_83 v207
  let v211 : BitVec 32 := Scalar.select v210 c1846_i32_85 v209
  let v213 : BitVec 32 := Scalar.select v212 c3866_i32_87 v211
  let v215 : BitVec 32 := Scalar.select v214 c2914_i32_89 v213
  let v217 : BitVec 32 := Scalar.select v216 c1936_i32_91 v215
  let v219 : BitVec 32 := Scalar.select v218 c4871_i32_93 v217
  let v221 : BitVec 32 := Scalar.select v220 c2834_i32_95 v219
  let v223 : BitVec 32 := Scalar.select v222 c6125_i32_97 v221
  let v225 : BitVec 32 := Scalar.select v224 c3618_i32_99 v223
  let v227 : BitVec 32 := Scalar.select v226 c7487_i32_101 v225
  let v229 : BitVec 32 := Scalar.select v228 c593_i32_103 v227
  let v231 : BitVec 32 := Scalar.select v230 c7351_i32_105 v229
  let v233 : BitVec 32 := Scalar.select v232 c5479_i32_107 v231
  let v235 : BitVec 32 := Scalar.select v234 c572_i32_109 v233
  let v237 : BitVec 32 := Scalar.select v236 c1765_i32_111 v235
  let v239 : BitVec 32 := Scalar.select v238 c3913_i32_113 v237
  let v241 : BitVec 32 := Scalar.select v240 c2687_i32_115 v239
  let v243 : BitVec 32 := Scalar.select v242 c5257_i32_117 v241
  let v245 : BitVec 32 := Scalar.select v244 c6147_i32_119 v243
  let v247 : BitVec 32 := Scalar.select v246 c7228_i32_121 v245
  let v249 : BitVec 32 := Scalar.select v248 c2263_i32_123 v247
  let v251 : BitVec 32 := Scalar.select v250 c3132_i32_125 v249
  let v253 : BitVec 32 := Scalar.select v252 c722_i32_127 v251
  let v255 : BitVec 32 := Scalar.select v254 c1196_i32_129 v253
  let v257 : BitVec 32 := Scalar.select v256 c1763_i32_131 v255
  let c7_i32_134 : BitVec 32 := 7#32
  let v263 : BitVec 32 := Scalar.shrsi v257 c7_i32_134
  let v264 : BitVec 32 := Scalar.addi v262 v263
  let c256_i32_135 : BitVec 32 := 256#32
  let v265 : BitVec 32 := Scalar.muli v264 c256_i32_135
  let c1_i32_361 : BitVec 32 := 1#32
  let c0_i32_363 : BitVec 32 := 0#32
  let v813 : BitVec 1 := Scalar.cmpi .sgt c1_i32_361 c0_i32_363
  let v814 : BitVec 32 := Scalar.extui v813
  let c0_i32_364 : BitVec 32 := 0#32
  let v815 : BitVec 1 := Scalar.cmpi .slt c1_i32_361 c0_i32_364
  let v816 : BitVec 32 := Scalar.extui v815
  let v817 : BitVec 32 := Scalar.subi v814 v816
  let c2_i32_362 : BitVec 32 := 2#32
  let c0_i32_365 : BitVec 32 := 0#32
  let v818 : BitVec 1 := Scalar.cmpi .sgt c2_i32_362 c0_i32_365
  let v819 : BitVec 32 := Scalar.extui v818
  let c0_i32_366 : BitVec 32 := 0#32
  let v820 : BitVec 1 := Scalar.cmpi .slt c2_i32_362 c0_i32_366
  let v821 : BitVec 32 := Scalar.extui v820
  let v822 : BitVec 32 := Scalar.subi v819 v821
  let v823 : BitVec 1 := Scalar.cmpi .ne v817 v822
  let v824 : BitVec 32 := Scalar.remsi c1_i32_361 c2_i32_362
  let c0_i32_367 : BitVec 32 := 0#32
  let v825 : BitVec 1 := Scalar.cmpi .ne v824 c0_i32_367
  let v826 : BitVec 1 := Scalar.andi v823 v825
  let v812 : BitVec 32 := Scalar.divsi c1_i32_361 c2_i32_362
  let c1_i32_368 : BitVec 32 := 1#32
  let v827 : BitVec 32 := Scalar.subi v812 c1_i32_368
  let v828 : BitVec 32 := Scalar.select v826 v827 v812
  let c15872_i32_369 : BitVec 32 := 15872#32
  let v829 : BitVec 32 := Scalar.muli v828 c15872_i32_369
  let v830 : BitVec 32 := Scalar.addi v265 v829
  v830
@[reducible] def k0_t2_loop : Scf.Loop 32 :=
  let c0_i32_370 : BitVec 32 := 0#32
  let c62_i32_371 : BitVec 32 := 62#32
  let v834 : BitVec 32 := Scalar.addi c0_i32_370 c62_i32_371
  let c1_i32_372 : BitVec 32 := 1#32
  ⟨c0_i32_370, v834, c1_i32_372⟩

def k0_chk17 (v1381 : IVec S16 32) : Prop :=
  (∀ a x, ((![v1381] : Fin 1 → IVec S16 32) a x).toNat < S16128.size a)
theorem k0_idx17_inb : ∀ (v1381 : IVec S16 32) (k0_hw17 : k0_chk17 v1381), ∀ a x, ((![v1381] : Fin 1 → IVec S16 32) a x).toNat < S16128.size a := fun v1381 k0_hw17 => k0_hw17
def k0_mult25 (k0_t2 : Fin k0_t2_loop.trips) : BitVec 32 :=
  let c0_i32_624 : BitVec 32 := 0#32
  let c0_i32_370 : BitVec 32 := 0#32
  let c1_i32_372 : BitVec 32 := 1#32
  let arg20 : BitVec 32 := Scf.iv c0_i32_370 c1_i32_372 k0_t2
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c0_i32_627 : BitVec 32 := 0#32
  let v1383 : BitVec 32 := Scalar.addi v1377 c0_i32_627
  v1383
def k0_off19 (k0_t2 : Fin k0_t2_loop.trips) : Fin 1 → Nat :=
  let c0_i32_624 : BitVec 32 := 0#32
  let c0_i32_370 : BitVec 32 := 0#32
  let c1_i32_372 : BitVec 32 := 1#32
  let arg20 : BitVec 32 := Scf.iv c0_i32_370 c1_i32_372 k0_t2
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c0_i32_627 : BitVec 32 := 0#32
  let v1383 : BitVec 32 := Scalar.addi v1377 c0_i32_627
  let v1384 : BitVec 32 := v1383
  let v1385 : Index := Scalar.indexCast v1384
  ![v1385.toNat]

def k0_chk18 (v1387 : IVec S16 32) : Prop :=
  (∀ a x, ((![v1387] : Fin 1 → IVec S16 32) a x).toNat < S16128.size a)
theorem k0_idx18_inb : ∀ (v1387 : IVec S16 32) (k0_hw18 : k0_chk18 v1387), ∀ a x, ((![v1387] : Fin 1 → IVec S16 32) a x).toNat < S16128.size a := fun v1387 k0_hw18 => k0_hw18
def k0_mult26 (k0_t2 : Fin k0_t2_loop.trips) : BitVec 32 :=
  let c0_i32_624 : BitVec 32 := 0#32
  let c0_i32_370 : BitVec 32 := 0#32
  let c1_i32_372 : BitVec 32 := 1#32
  let arg20 : BitVec 32 := Scf.iv c0_i32_370 c1_i32_372 k0_t2
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c16_i32_628 : BitVec 32 := 16#32
  let v1389 : BitVec 32 := Scalar.addi v1377 c16_i32_628
  v1389
def k0_off20 (k0_t2 : Fin k0_t2_loop.trips) : Fin 1 → Nat :=
  let c0_i32_624 : BitVec 32 := 0#32
  let c0_i32_370 : BitVec 32 := 0#32
  let c1_i32_372 : BitVec 32 := 1#32
  let arg20 : BitVec 32 := Scf.iv c0_i32_370 c1_i32_372 k0_t2
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c16_i32_628 : BitVec 32 := 16#32
  let v1389 : BitVec 32 := Scalar.addi v1377 c16_i32_628
  let v1390 : BitVec 32 := v1389
  let v1391 : Index := Scalar.indexCast v1390
  ![v1391.toNat]

def k0_chk19 (v1393 : IVec S16 32) : Prop :=
  (∀ a x, ((![v1393] : Fin 1 → IVec S16 32) a x).toNat < S16128.size a)
theorem k0_idx19_inb : ∀ (v1393 : IVec S16 32) (k0_hw19 : k0_chk19 v1393), ∀ a x, ((![v1393] : Fin 1 → IVec S16 32) a x).toNat < S16128.size a := fun v1393 k0_hw19 => k0_hw19
def k0_mult27 (k0_t2 : Fin k0_t2_loop.trips) : BitVec 32 :=
  let c0_i32_624 : BitVec 32 := 0#32
  let c0_i32_370 : BitVec 32 := 0#32
  let c1_i32_372 : BitVec 32 := 1#32
  let arg20 : BitVec 32 := Scf.iv c0_i32_370 c1_i32_372 k0_t2
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c32_i32_629 : BitVec 32 := 32#32
  let v1395 : BitVec 32 := Scalar.addi v1377 c32_i32_629
  v1395
def k0_off21 (k0_t2 : Fin k0_t2_loop.trips) : Fin 1 → Nat :=
  let c0_i32_624 : BitVec 32 := 0#32
  let c0_i32_370 : BitVec 32 := 0#32
  let c1_i32_372 : BitVec 32 := 1#32
  let arg20 : BitVec 32 := Scf.iv c0_i32_370 c1_i32_372 k0_t2
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c32_i32_629 : BitVec 32 := 32#32
  let v1395 : BitVec 32 := Scalar.addi v1377 c32_i32_629
  let v1396 : BitVec 32 := v1395
  let v1397 : Index := Scalar.indexCast v1396
  ![v1397.toNat]

def k0_chk20 (v1399 : IVec S16 32) : Prop :=
  (∀ a x, ((![v1399] : Fin 1 → IVec S16 32) a x).toNat < S16128.size a)
theorem k0_idx20_inb : ∀ (v1399 : IVec S16 32) (k0_hw20 : k0_chk20 v1399), ∀ a x, ((![v1399] : Fin 1 → IVec S16 32) a x).toNat < S16128.size a := fun v1399 k0_hw20 => k0_hw20
def k0_mult28 (k0_t2 : Fin k0_t2_loop.trips) : BitVec 32 :=
  let c0_i32_624 : BitVec 32 := 0#32
  let c0_i32_370 : BitVec 32 := 0#32
  let c1_i32_372 : BitVec 32 := 1#32
  let arg20 : BitVec 32 := Scf.iv c0_i32_370 c1_i32_372 k0_t2
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c48_i32_630 : BitVec 32 := 48#32
  let v1401 : BitVec 32 := Scalar.addi v1377 c48_i32_630
  v1401
def k0_off22 (k0_t2 : Fin k0_t2_loop.trips) : Fin 1 → Nat :=
  let c0_i32_624 : BitVec 32 := 0#32
  let c0_i32_370 : BitVec 32 := 0#32
  let c1_i32_372 : BitVec 32 := 1#32
  let arg20 : BitVec 32 := Scf.iv c0_i32_370 c1_i32_372 k0_t2
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c48_i32_630 : BitVec 32 := 48#32
  let v1401 : BitVec 32 := Scalar.addi v1377 c48_i32_630
  let v1402 : BitVec 32 := v1401
  let v1403 : Index := Scalar.indexCast v1402
  ![v1403.toNat]

def k0_chk21 (v1405 : IVec S16 32) : Prop :=
  (∀ a x, ((![v1405] : Fin 1 → IVec S16 32) a x).toNat < S16128.size a)
theorem k0_idx21_inb : ∀ (v1405 : IVec S16 32) (k0_hw21 : k0_chk21 v1405), ∀ a x, ((![v1405] : Fin 1 → IVec S16 32) a x).toNat < S16128.size a := fun v1405 k0_hw21 => k0_hw21
def k0_mult29 (k0_t2 : Fin k0_t2_loop.trips) : BitVec 32 :=
  let c0_i32_624 : BitVec 32 := 0#32
  let c0_i32_370 : BitVec 32 := 0#32
  let c1_i32_372 : BitVec 32 := 1#32
  let arg20 : BitVec 32 := Scf.iv c0_i32_370 c1_i32_372 k0_t2
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c64_i32_631 : BitVec 32 := 64#32
  let v1407 : BitVec 32 := Scalar.addi v1377 c64_i32_631
  v1407
def k0_off23 (k0_t2 : Fin k0_t2_loop.trips) : Fin 1 → Nat :=
  let c0_i32_624 : BitVec 32 := 0#32
  let c0_i32_370 : BitVec 32 := 0#32
  let c1_i32_372 : BitVec 32 := 1#32
  let arg20 : BitVec 32 := Scf.iv c0_i32_370 c1_i32_372 k0_t2
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c64_i32_631 : BitVec 32 := 64#32
  let v1407 : BitVec 32 := Scalar.addi v1377 c64_i32_631
  let v1408 : BitVec 32 := v1407
  let v1409 : Index := Scalar.indexCast v1408
  ![v1409.toNat]

def k0_chk22 (v1411 : IVec S16 32) : Prop :=
  (∀ a x, ((![v1411] : Fin 1 → IVec S16 32) a x).toNat < S16128.size a)
theorem k0_idx22_inb : ∀ (v1411 : IVec S16 32) (k0_hw22 : k0_chk22 v1411), ∀ a x, ((![v1411] : Fin 1 → IVec S16 32) a x).toNat < S16128.size a := fun v1411 k0_hw22 => k0_hw22
def k0_mult30 (k0_t2 : Fin k0_t2_loop.trips) : BitVec 32 :=
  let c0_i32_624 : BitVec 32 := 0#32
  let c0_i32_370 : BitVec 32 := 0#32
  let c1_i32_372 : BitVec 32 := 1#32
  let arg20 : BitVec 32 := Scf.iv c0_i32_370 c1_i32_372 k0_t2
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c80_i32_632 : BitVec 32 := 80#32
  let v1413 : BitVec 32 := Scalar.addi v1377 c80_i32_632
  v1413
def k0_off24 (k0_t2 : Fin k0_t2_loop.trips) : Fin 1 → Nat :=
  let c0_i32_624 : BitVec 32 := 0#32
  let c0_i32_370 : BitVec 32 := 0#32
  let c1_i32_372 : BitVec 32 := 1#32
  let arg20 : BitVec 32 := Scf.iv c0_i32_370 c1_i32_372 k0_t2
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c80_i32_632 : BitVec 32 := 80#32
  let v1413 : BitVec 32 := Scalar.addi v1377 c80_i32_632
  let v1414 : BitVec 32 := v1413
  let v1415 : Index := Scalar.indexCast v1414
  ![v1415.toNat]

def k0_chk23 (v1417 : IVec S16 32) : Prop :=
  (∀ a x, ((![v1417] : Fin 1 → IVec S16 32) a x).toNat < S16128.size a)
theorem k0_idx23_inb : ∀ (v1417 : IVec S16 32) (k0_hw23 : k0_chk23 v1417), ∀ a x, ((![v1417] : Fin 1 → IVec S16 32) a x).toNat < S16128.size a := fun v1417 k0_hw23 => k0_hw23
def k0_mult31 (k0_t2 : Fin k0_t2_loop.trips) : BitVec 32 :=
  let c0_i32_624 : BitVec 32 := 0#32
  let c0_i32_370 : BitVec 32 := 0#32
  let c1_i32_372 : BitVec 32 := 1#32
  let arg20 : BitVec 32 := Scf.iv c0_i32_370 c1_i32_372 k0_t2
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c96_i32_633 : BitVec 32 := 96#32
  let v1419 : BitVec 32 := Scalar.addi v1377 c96_i32_633
  v1419
def k0_off25 (k0_t2 : Fin k0_t2_loop.trips) : Fin 1 → Nat :=
  let c0_i32_624 : BitVec 32 := 0#32
  let c0_i32_370 : BitVec 32 := 0#32
  let c1_i32_372 : BitVec 32 := 1#32
  let arg20 : BitVec 32 := Scf.iv c0_i32_370 c1_i32_372 k0_t2
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c96_i32_633 : BitVec 32 := 96#32
  let v1419 : BitVec 32 := Scalar.addi v1377 c96_i32_633
  let v1420 : BitVec 32 := v1419
  let v1421 : Index := Scalar.indexCast v1420
  ![v1421.toNat]

def k0_chk24 (v1423 : IVec S16 32) : Prop :=
  (∀ a x, ((![v1423] : Fin 1 → IVec S16 32) a x).toNat < S16128.size a)
theorem k0_idx24_inb : ∀ (v1423 : IVec S16 32) (k0_hw24 : k0_chk24 v1423), ∀ a x, ((![v1423] : Fin 1 → IVec S16 32) a x).toNat < S16128.size a := fun v1423 k0_hw24 => k0_hw24
def k0_mult32 (k0_t2 : Fin k0_t2_loop.trips) : BitVec 32 :=
  let c0_i32_624 : BitVec 32 := 0#32
  let c0_i32_370 : BitVec 32 := 0#32
  let c1_i32_372 : BitVec 32 := 1#32
  let arg20 : BitVec 32 := Scf.iv c0_i32_370 c1_i32_372 k0_t2
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c112_i32_634 : BitVec 32 := 112#32
  let v1425 : BitVec 32 := Scalar.addi v1377 c112_i32_634
  v1425
def k0_off26 (k0_t2 : Fin k0_t2_loop.trips) : Fin 1 → Nat :=
  let c0_i32_624 : BitVec 32 := 0#32
  let c0_i32_370 : BitVec 32 := 0#32
  let c1_i32_372 : BitVec 32 := 1#32
  let arg20 : BitVec 32 := Scf.iv c0_i32_370 c1_i32_372 k0_t2
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c112_i32_634 : BitVec 32 := 112#32
  let v1425 : BitVec 32 := Scalar.addi v1377 c112_i32_634
  let v1426 : BitVec 32 := v1425
  let v1427 : Index := Scalar.indexCast v1426
  ![v1427.toNat]

def k0_chk25 (v1429 : IVec S16 32) : Prop :=
  (∀ a x, ((![v1429] : Fin 1 → IVec S16 32) a x).toNat < S16128.size a)
theorem k0_idx25_inb : ∀ (v1429 : IVec S16 32) (k0_hw25 : k0_chk25 v1429), ∀ a x, ((![v1429] : Fin 1 → IVec S16 32) a x).toNat < S16128.size a := fun v1429 k0_hw25 => k0_hw25
def k0_mult33 (k0_t2 : Fin k0_t2_loop.trips) : BitVec 32 :=
  let c0_i32_624 : BitVec 32 := 0#32
  let c0_i32_370 : BitVec 32 := 0#32
  let c1_i32_372 : BitVec 32 := 1#32
  let arg20 : BitVec 32 := Scf.iv c0_i32_370 c1_i32_372 k0_t2
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c128_i32_635 : BitVec 32 := 128#32
  let v1431 : BitVec 32 := Scalar.addi v1377 c128_i32_635
  v1431
def k0_off27 (k0_t2 : Fin k0_t2_loop.trips) : Fin 1 → Nat :=
  let c0_i32_624 : BitVec 32 := 0#32
  let c0_i32_370 : BitVec 32 := 0#32
  let c1_i32_372 : BitVec 32 := 1#32
  let arg20 : BitVec 32 := Scf.iv c0_i32_370 c1_i32_372 k0_t2
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c128_i32_635 : BitVec 32 := 128#32
  let v1431 : BitVec 32 := Scalar.addi v1377 c128_i32_635
  let v1432 : BitVec 32 := v1431
  let v1433 : Index := Scalar.indexCast v1432
  ![v1433.toNat]

def k0_chk26 (v1435 : IVec S16 32) : Prop :=
  (∀ a x, ((![v1435] : Fin 1 → IVec S16 32) a x).toNat < S16128.size a)
theorem k0_idx26_inb : ∀ (v1435 : IVec S16 32) (k0_hw26 : k0_chk26 v1435), ∀ a x, ((![v1435] : Fin 1 → IVec S16 32) a x).toNat < S16128.size a := fun v1435 k0_hw26 => k0_hw26
def k0_mult34 (k0_t2 : Fin k0_t2_loop.trips) : BitVec 32 :=
  let c0_i32_624 : BitVec 32 := 0#32
  let c0_i32_370 : BitVec 32 := 0#32
  let c1_i32_372 : BitVec 32 := 1#32
  let arg20 : BitVec 32 := Scf.iv c0_i32_370 c1_i32_372 k0_t2
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c144_i32 : BitVec 32 := 144#32
  let v1437 : BitVec 32 := Scalar.addi v1377 c144_i32
  v1437
def k0_off28 (k0_t2 : Fin k0_t2_loop.trips) : Fin 1 → Nat :=
  let c0_i32_624 : BitVec 32 := 0#32
  let c0_i32_370 : BitVec 32 := 0#32
  let c1_i32_372 : BitVec 32 := 1#32
  let arg20 : BitVec 32 := Scf.iv c0_i32_370 c1_i32_372 k0_t2
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c144_i32 : BitVec 32 := 144#32
  let v1437 : BitVec 32 := Scalar.addi v1377 c144_i32
  let v1438 : BitVec 32 := v1437
  let v1439 : Index := Scalar.indexCast v1438
  ![v1439.toNat]

def k0_chk27 (v1441 : IVec S16 32) : Prop :=
  (∀ a x, ((![v1441] : Fin 1 → IVec S16 32) a x).toNat < S16128.size a)
theorem k0_idx27_inb : ∀ (v1441 : IVec S16 32) (k0_hw27 : k0_chk27 v1441), ∀ a x, ((![v1441] : Fin 1 → IVec S16 32) a x).toNat < S16128.size a := fun v1441 k0_hw27 => k0_hw27
def k0_mult35 (k0_t2 : Fin k0_t2_loop.trips) : BitVec 32 :=
  let c0_i32_624 : BitVec 32 := 0#32
  let c0_i32_370 : BitVec 32 := 0#32
  let c1_i32_372 : BitVec 32 := 1#32
  let arg20 : BitVec 32 := Scf.iv c0_i32_370 c1_i32_372 k0_t2
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c160_i32 : BitVec 32 := 160#32
  let v1443 : BitVec 32 := Scalar.addi v1377 c160_i32
  v1443
def k0_off29 (k0_t2 : Fin k0_t2_loop.trips) : Fin 1 → Nat :=
  let c0_i32_624 : BitVec 32 := 0#32
  let c0_i32_370 : BitVec 32 := 0#32
  let c1_i32_372 : BitVec 32 := 1#32
  let arg20 : BitVec 32 := Scf.iv c0_i32_370 c1_i32_372 k0_t2
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c160_i32 : BitVec 32 := 160#32
  let v1443 : BitVec 32 := Scalar.addi v1377 c160_i32
  let v1444 : BitVec 32 := v1443
  let v1445 : Index := Scalar.indexCast v1444
  ![v1445.toNat]

def k0_chk28 (v1447 : IVec S16 32) : Prop :=
  (∀ a x, ((![v1447] : Fin 1 → IVec S16 32) a x).toNat < S16128.size a)
theorem k0_idx28_inb : ∀ (v1447 : IVec S16 32) (k0_hw28 : k0_chk28 v1447), ∀ a x, ((![v1447] : Fin 1 → IVec S16 32) a x).toNat < S16128.size a := fun v1447 k0_hw28 => k0_hw28
def k0_mult36 (k0_t2 : Fin k0_t2_loop.trips) : BitVec 32 :=
  let c0_i32_624 : BitVec 32 := 0#32
  let c0_i32_370 : BitVec 32 := 0#32
  let c1_i32_372 : BitVec 32 := 1#32
  let arg20 : BitVec 32 := Scf.iv c0_i32_370 c1_i32_372 k0_t2
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c176_i32 : BitVec 32 := 176#32
  let v1449 : BitVec 32 := Scalar.addi v1377 c176_i32
  v1449
def k0_off30 (k0_t2 : Fin k0_t2_loop.trips) : Fin 1 → Nat :=
  let c0_i32_624 : BitVec 32 := 0#32
  let c0_i32_370 : BitVec 32 := 0#32
  let c1_i32_372 : BitVec 32 := 1#32
  let arg20 : BitVec 32 := Scf.iv c0_i32_370 c1_i32_372 k0_t2
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c176_i32 : BitVec 32 := 176#32
  let v1449 : BitVec 32 := Scalar.addi v1377 c176_i32
  let v1450 : BitVec 32 := v1449
  let v1451 : Index := Scalar.indexCast v1450
  ![v1451.toNat]

def k0_chk29 (v1453 : IVec S16 32) : Prop :=
  (∀ a x, ((![v1453] : Fin 1 → IVec S16 32) a x).toNat < S16128.size a)
theorem k0_idx29_inb : ∀ (v1453 : IVec S16 32) (k0_hw29 : k0_chk29 v1453), ∀ a x, ((![v1453] : Fin 1 → IVec S16 32) a x).toNat < S16128.size a := fun v1453 k0_hw29 => k0_hw29
def k0_mult37 (k0_t2 : Fin k0_t2_loop.trips) : BitVec 32 :=
  let c0_i32_624 : BitVec 32 := 0#32
  let c0_i32_370 : BitVec 32 := 0#32
  let c1_i32_372 : BitVec 32 := 1#32
  let arg20 : BitVec 32 := Scf.iv c0_i32_370 c1_i32_372 k0_t2
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c192_i32 : BitVec 32 := 192#32
  let v1455 : BitVec 32 := Scalar.addi v1377 c192_i32
  v1455
def k0_off31 (k0_t2 : Fin k0_t2_loop.trips) : Fin 1 → Nat :=
  let c0_i32_624 : BitVec 32 := 0#32
  let c0_i32_370 : BitVec 32 := 0#32
  let c1_i32_372 : BitVec 32 := 1#32
  let arg20 : BitVec 32 := Scf.iv c0_i32_370 c1_i32_372 k0_t2
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c192_i32 : BitVec 32 := 192#32
  let v1455 : BitVec 32 := Scalar.addi v1377 c192_i32
  let v1456 : BitVec 32 := v1455
  let v1457 : Index := Scalar.indexCast v1456
  ![v1457.toNat]

def k0_chk30 (v1459 : IVec S16 32) : Prop :=
  (∀ a x, ((![v1459] : Fin 1 → IVec S16 32) a x).toNat < S16128.size a)
theorem k0_idx30_inb : ∀ (v1459 : IVec S16 32) (k0_hw30 : k0_chk30 v1459), ∀ a x, ((![v1459] : Fin 1 → IVec S16 32) a x).toNat < S16128.size a := fun v1459 k0_hw30 => k0_hw30
def k0_mult38 (k0_t2 : Fin k0_t2_loop.trips) : BitVec 32 :=
  let c0_i32_624 : BitVec 32 := 0#32
  let c0_i32_370 : BitVec 32 := 0#32
  let c1_i32_372 : BitVec 32 := 1#32
  let arg20 : BitVec 32 := Scf.iv c0_i32_370 c1_i32_372 k0_t2
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c208_i32 : BitVec 32 := 208#32
  let v1461 : BitVec 32 := Scalar.addi v1377 c208_i32
  v1461
def k0_off32 (k0_t2 : Fin k0_t2_loop.trips) : Fin 1 → Nat :=
  let c0_i32_624 : BitVec 32 := 0#32
  let c0_i32_370 : BitVec 32 := 0#32
  let c1_i32_372 : BitVec 32 := 1#32
  let arg20 : BitVec 32 := Scf.iv c0_i32_370 c1_i32_372 k0_t2
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c208_i32 : BitVec 32 := 208#32
  let v1461 : BitVec 32 := Scalar.addi v1377 c208_i32
  let v1462 : BitVec 32 := v1461
  let v1463 : Index := Scalar.indexCast v1462
  ![v1463.toNat]

def k0_chk31 (v1465 : IVec S16 32) : Prop :=
  (∀ a x, ((![v1465] : Fin 1 → IVec S16 32) a x).toNat < S16128.size a)
theorem k0_idx31_inb : ∀ (v1465 : IVec S16 32) (k0_hw31 : k0_chk31 v1465), ∀ a x, ((![v1465] : Fin 1 → IVec S16 32) a x).toNat < S16128.size a := fun v1465 k0_hw31 => k0_hw31
def k0_mult39 (k0_t2 : Fin k0_t2_loop.trips) : BitVec 32 :=
  let c0_i32_624 : BitVec 32 := 0#32
  let c0_i32_370 : BitVec 32 := 0#32
  let c1_i32_372 : BitVec 32 := 1#32
  let arg20 : BitVec 32 := Scf.iv c0_i32_370 c1_i32_372 k0_t2
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c224_i32 : BitVec 32 := 224#32
  let v1467 : BitVec 32 := Scalar.addi v1377 c224_i32
  v1467
def k0_off33 (k0_t2 : Fin k0_t2_loop.trips) : Fin 1 → Nat :=
  let c0_i32_624 : BitVec 32 := 0#32
  let c0_i32_370 : BitVec 32 := 0#32
  let c1_i32_372 : BitVec 32 := 1#32
  let arg20 : BitVec 32 := Scf.iv c0_i32_370 c1_i32_372 k0_t2
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c224_i32 : BitVec 32 := 224#32
  let v1467 : BitVec 32 := Scalar.addi v1377 c224_i32
  let v1468 : BitVec 32 := v1467
  let v1469 : Index := Scalar.indexCast v1468
  ![v1469.toNat]

def k0_chk32 (v1471 : IVec S16 32) : Prop :=
  (∀ a x, ((![v1471] : Fin 1 → IVec S16 32) a x).toNat < S16128.size a)
theorem k0_idx32_inb : ∀ (v1471 : IVec S16 32) (k0_hw32 : k0_chk32 v1471), ∀ a x, ((![v1471] : Fin 1 → IVec S16 32) a x).toNat < S16128.size a := fun v1471 k0_hw32 => k0_hw32
def k0_mult40 (k0_t2 : Fin k0_t2_loop.trips) : BitVec 32 :=
  let c0_i32_624 : BitVec 32 := 0#32
  let c0_i32_370 : BitVec 32 := 0#32
  let c1_i32_372 : BitVec 32 := 1#32
  let arg20 : BitVec 32 := Scf.iv c0_i32_370 c1_i32_372 k0_t2
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c240_i32 : BitVec 32 := 240#32
  let v1473 : BitVec 32 := Scalar.addi v1377 c240_i32
  v1473
def k0_off34 (k0_t2 : Fin k0_t2_loop.trips) : Fin 1 → Nat :=
  let c0_i32_624 : BitVec 32 := 0#32
  let c0_i32_370 : BitVec 32 := 0#32
  let c1_i32_372 : BitVec 32 := 1#32
  let arg20 : BitVec 32 := Scf.iv c0_i32_370 c1_i32_372 k0_t2
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c240_i32 : BitVec 32 := 240#32
  let v1473 : BitVec 32 := Scalar.addi v1377 c240_i32
  let v1474 : BitVec 32 := v1473
  let v1475 : Index := Scalar.indexCast v1474
  ![v1475.toNat]
def k0_mult41 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_1 : BitVec 32 := 2#32
  let v4 : BitVec 32 := Scalar.muli v1 c2_i32_1
  let c1_i32 : BitVec 32 := 1#32
  let v5 : BitVec 32 := Scalar.addi v4 c1_i32
  let c1984_i32_137 : BitVec 32 := 1984#32
  let v268 : BitVec 32 := Scalar.muli v5 c1984_i32_137
  let c256_i32_138 : BitVec 32 := 256#32
  let v269 : BitVec 32 := Scalar.muli v268 c256_i32_138
  let c1_i32_374 : BitVec 32 := 1#32
  let c0_i32_376 : BitVec 32 := 0#32
  let v836 : BitVec 1 := Scalar.cmpi .sgt c1_i32_374 c0_i32_376
  let v837 : BitVec 32 := Scalar.extui v836
  let c0_i32_377 : BitVec 32 := 0#32
  let v838 : BitVec 1 := Scalar.cmpi .slt c1_i32_374 c0_i32_377
  let v839 : BitVec 32 := Scalar.extui v838
  let v840 : BitVec 32 := Scalar.subi v837 v839
  let c2_i32_375 : BitVec 32 := 2#32
  let c0_i32_378 : BitVec 32 := 0#32
  let v841 : BitVec 1 := Scalar.cmpi .sgt c2_i32_375 c0_i32_378
  let v842 : BitVec 32 := Scalar.extui v841
  let c0_i32_379 : BitVec 32 := 0#32
  let v843 : BitVec 1 := Scalar.cmpi .slt c2_i32_375 c0_i32_379
  let v844 : BitVec 32 := Scalar.extui v843
  let v845 : BitVec 32 := Scalar.subi v842 v844
  let v846 : BitVec 1 := Scalar.cmpi .ne v840 v845
  let v847 : BitVec 32 := Scalar.remsi c1_i32_374 c2_i32_375
  let c0_i32_380 : BitVec 32 := 0#32
  let v848 : BitVec 1 := Scalar.cmpi .ne v847 c0_i32_380
  let v849 : BitVec 1 := Scalar.andi v846 v848
  let v835 : BitVec 32 := Scalar.divsi c1_i32_374 c2_i32_375
  let c1_i32_381 : BitVec 32 := 1#32
  let v850 : BitVec 32 := Scalar.subi v835 c1_i32_381
  let v851 : BitVec 32 := Scalar.select v849 v850 v835
  let c15872_i32_382 : BitVec 32 := 15872#32
  let v852 : BitVec 32 := Scalar.muli v851 c15872_i32_382
  let v853 : BitVec 32 := Scalar.addi v269 v852
  v853
def k0_mult42 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_1 : BitVec 32 := 2#32
  let v4 : BitVec 32 := Scalar.muli v1 c2_i32_1
  let c1_i32 : BitVec 32 := 1#32
  let v5 : BitVec 32 := Scalar.addi v4 c1_i32
  let c2048_i32_133 : BitVec 32 := 2048#32
  let v262 : BitVec 32 := Scalar.muli v5 c2048_i32_133
  let c63_i32_130 : BitVec 32 := 63#32
  let v256 : BitVec 1 := Scalar.cmpi .eq v5 c63_i32_130
  let c1763_i32_131 : BitVec 32 := 1763#32
  let c62_i32_128 : BitVec 32 := 62#32
  let v254 : BitVec 1 := Scalar.cmpi .eq v5 c62_i32_128
  let c1196_i32_129 : BitVec 32 := 1196#32
  let c61_i32_126 : BitVec 32 := 61#32
  let v252 : BitVec 1 := Scalar.cmpi .eq v5 c61_i32_126
  let c722_i32_127 : BitVec 32 := 722#32
  let c60_i32_124 : BitVec 32 := 60#32
  let v250 : BitVec 1 := Scalar.cmpi .eq v5 c60_i32_124
  let c3132_i32_125 : BitVec 32 := 3132#32
  let c59_i32_122 : BitVec 32 := 59#32
  let v248 : BitVec 1 := Scalar.cmpi .eq v5 c59_i32_122
  let c2263_i32_123 : BitVec 32 := 2263#32
  let c58_i32_120 : BitVec 32 := 58#32
  let v246 : BitVec 1 := Scalar.cmpi .eq v5 c58_i32_120
  let c7228_i32_121 : BitVec 32 := 7228#32
  let c57_i32_118 : BitVec 32 := 57#32
  let v244 : BitVec 1 := Scalar.cmpi .eq v5 c57_i32_118
  let c6147_i32_119 : BitVec 32 := 6147#32
  let c56_i32_116 : BitVec 32 := 56#32
  let v242 : BitVec 1 := Scalar.cmpi .eq v5 c56_i32_116
  let c5257_i32_117 : BitVec 32 := 5257#32
  let c55_i32_114 : BitVec 32 := 55#32
  let v240 : BitVec 1 := Scalar.cmpi .eq v5 c55_i32_114
  let c2687_i32_115 : BitVec 32 := 2687#32
  let c54_i32_112 : BitVec 32 := 54#32
  let v238 : BitVec 1 := Scalar.cmpi .eq v5 c54_i32_112
  let c3913_i32_113 : BitVec 32 := 3913#32
  let c53_i32_110 : BitVec 32 := 53#32
  let v236 : BitVec 1 := Scalar.cmpi .eq v5 c53_i32_110
  let c1765_i32_111 : BitVec 32 := 1765#32
  let c52_i32_108 : BitVec 32 := 52#32
  let v234 : BitVec 1 := Scalar.cmpi .eq v5 c52_i32_108
  let c572_i32_109 : BitVec 32 := 572#32
  let c51_i32_106 : BitVec 32 := 51#32
  let v232 : BitVec 1 := Scalar.cmpi .eq v5 c51_i32_106
  let c5479_i32_107 : BitVec 32 := 5479#32
  let c50_i32_104 : BitVec 32 := 50#32
  let v230 : BitVec 1 := Scalar.cmpi .eq v5 c50_i32_104
  let c7351_i32_105 : BitVec 32 := 7351#32
  let c49_i32_102 : BitVec 32 := 49#32
  let v228 : BitVec 1 := Scalar.cmpi .eq v5 c49_i32_102
  let c593_i32_103 : BitVec 32 := 593#32
  let c48_i32_100 : BitVec 32 := 48#32
  let v226 : BitVec 1 := Scalar.cmpi .eq v5 c48_i32_100
  let c7487_i32_101 : BitVec 32 := 7487#32
  let c47_i32_98 : BitVec 32 := 47#32
  let v224 : BitVec 1 := Scalar.cmpi .eq v5 c47_i32_98
  let c3618_i32_99 : BitVec 32 := 3618#32
  let c46_i32_96 : BitVec 32 := 46#32
  let v222 : BitVec 1 := Scalar.cmpi .eq v5 c46_i32_96
  let c6125_i32_97 : BitVec 32 := 6125#32
  let c45_i32_94 : BitVec 32 := 45#32
  let v220 : BitVec 1 := Scalar.cmpi .eq v5 c45_i32_94
  let c2834_i32_95 : BitVec 32 := 2834#32
  let c44_i32_92 : BitVec 32 := 44#32
  let v218 : BitVec 1 := Scalar.cmpi .eq v5 c44_i32_92
  let c4871_i32_93 : BitVec 32 := 4871#32
  let c43_i32_90 : BitVec 32 := 43#32
  let v216 : BitVec 1 := Scalar.cmpi .eq v5 c43_i32_90
  let c1936_i32_91 : BitVec 32 := 1936#32
  let c42_i32_88 : BitVec 32 := 42#32
  let v214 : BitVec 1 := Scalar.cmpi .eq v5 c42_i32_88
  let c2914_i32_89 : BitVec 32 := 2914#32
  let c41_i32_86 : BitVec 32 := 41#32
  let v212 : BitVec 1 := Scalar.cmpi .eq v5 c41_i32_86
  let c3866_i32_87 : BitVec 32 := 3866#32
  let c40_i32_84 : BitVec 32 := 40#32
  let v210 : BitVec 1 := Scalar.cmpi .eq v5 c40_i32_84
  let c1846_i32_85 : BitVec 32 := 1846#32
  let c39_i32_82 : BitVec 32 := 39#32
  let v208 : BitVec 1 := Scalar.cmpi .eq v5 c39_i32_82
  let c7714_i32_83 : BitVec 32 := 7714#32
  let c38_i32_80 : BitVec 32 := 38#32
  let v206 : BitVec 1 := Scalar.cmpi .eq v5 c38_i32_80
  let c3980_i32_81 : BitVec 32 := 3980#32
  let c37_i32_78 : BitVec 32 := 37#32
  let v204 : BitVec 1 := Scalar.cmpi .eq v5 c37_i32_78
  let c6570_i32_79 : BitVec 32 := 6570#32
  let c36_i32_76 : BitVec 32 := 36#32
  let v202 : BitVec 1 := Scalar.cmpi .eq v5 c36_i32_76
  let c2937_i32_77 : BitVec 32 := 2937#32
  let c35_i32_74 : BitVec 32 := 35#32
  let v200 : BitVec 1 := Scalar.cmpi .eq v5 c35_i32_74
  let c1105_i32_75 : BitVec 32 := 1105#32
  let c34_i32_72 : BitVec 32 := 34#32
  let v198 : BitVec 1 := Scalar.cmpi .eq v5 c34_i32_72
  let c5685_i32_73 : BitVec 32 := 5685#32
  let c33_i32_70 : BitVec 32 := 33#32
  let v196 : BitVec 1 := Scalar.cmpi .eq v5 c33_i32_70
  let c1851_i32_71 : BitVec 32 := 1851#32
  let c32_i32_68 : BitVec 32 := 32#32
  let v194 : BitVec 1 := Scalar.cmpi .eq v5 c32_i32_68
  let c2835_i32_69 : BitVec 32 := 2835#32
  let c31_i32_66 : BitVec 32 := 31#32
  let v192 : BitVec 1 := Scalar.cmpi .eq v5 c31_i32_66
  let c6151_i32_67 : BitVec 32 := 6151#32
  let c30_i32_64 : BitVec 32 := 30#32
  let v190 : BitVec 1 := Scalar.cmpi .eq v5 c30_i32_64
  let c2916_i32_65 : BitVec 32 := 2916#32
  let c29_i32_62 : BitVec 32 := 29#32
  let v188 : BitVec 1 := Scalar.cmpi .eq v5 c29_i32_62
  let c4806_i32_63 : BitVec 32 := 4806#32
  let c28_i32_60 : BitVec 32 := 28#32
  let v186 : BitVec 1 := Scalar.cmpi .eq v5 c28_i32_60
  let c2760_i32_61 : BitVec 32 := 2760#32
  let c27_i32_58 : BitVec 32 := 27#32
  let v184 : BitVec 1 := Scalar.cmpi .eq v5 c27_i32_58
  let c2339_i32_59 : BitVec 32 := 2339#32
  let c26_i32_56 : BitVec 32 := 26#32
  let v182 : BitVec 1 := Scalar.cmpi .eq v5 c26_i32_56
  let c5978_i32_57 : BitVec 32 := 5978#32
  let c25_i32_54 : BitVec 32 := 25#32
  let v180 : BitVec 1 := Scalar.cmpi .eq v5 c25_i32_54
  let c6943_i32_55 : BitVec 32 := 6943#32
  let c24_i32_52 : BitVec 32 := 24#32
  let v178 : BitVec 1 := Scalar.cmpi .eq v5 c24_i32_52
  let c7654_i32_53 : BitVec 32 := 7654#32
  let c23_i32_50 : BitVec 32 := 23#32
  let v176 : BitVec 1 := Scalar.cmpi .eq v5 c23_i32_50
  let c3018_i32_51 : BitVec 32 := 3018#32
  let c22_i32_48 : BitVec 32 := 22#32
  let v174 : BitVec 1 := Scalar.cmpi .eq v5 c22_i32_48
  let c56_i32_49 : BitVec 32 := 56#32
  let c21_i32_46 : BitVec 32 := 21#32
  let v172 : BitVec 1 := Scalar.cmpi .eq v5 c21_i32_46
  let c5652_i32_47 : BitVec 32 := 5652#32
  let c20_i32_44 : BitVec 32 := 20#32
  let v170 : BitVec 1 := Scalar.cmpi .eq v5 c20_i32_44
  let c6840_i32_45 : BitVec 32 := 6840#32
  let c19_i32_42 : BitVec 32 := 19#32
  let v168 : BitVec 1 := Scalar.cmpi .eq v5 c19_i32_42
  let c4026_i32_43 : BitVec 32 := 4026#32
  let c18_i32_40 : BitVec 32 := 18#32
  let v166 : BitVec 1 := Scalar.cmpi .eq v5 c18_i32_40
  let c91_i32_41 : BitVec 32 := 91#32
  let c17_i32_38 : BitVec 32 := 17#32
  let v164 : BitVec 1 := Scalar.cmpi .eq v5 c17_i32_38
  let c7767_i32_39 : BitVec 32 := 7767#32
  let c16_i32_36 : BitVec 32 := 16#32
  let v162 : BitVec 1 := Scalar.cmpi .eq v5 c16_i32_36
  let c4241_i32_37 : BitVec 32 := 4241#32
  let c15_i32_34 : BitVec 32 := 15#32
  let v160 : BitVec 1 := Scalar.cmpi .eq v5 c15_i32_34
  let c6170_i32_35 : BitVec 32 := 6170#32
  let c14_i32_32 : BitVec 32 := 14#32
  let v158 : BitVec 1 := Scalar.cmpi .eq v5 c14_i32_32
  let c8174_i32_33 : BitVec 32 := 8174#32
  let c13_i32_30 : BitVec 32 := 13#32
  let v156 : BitVec 1 := Scalar.cmpi .eq v5 c13_i32_30
  let c1378_i32_31 : BitVec 32 := 1378#32
  let c12_i32_28 : BitVec 32 := 12#32
  let v154 : BitVec 1 := Scalar.cmpi .eq v5 c12_i32_28
  let c2562_i32_29 : BitVec 32 := 2562#32
  let c11_i32_26 : BitVec 32 := 11#32
  let v152 : BitVec 1 := Scalar.cmpi .eq v5 c11_i32_26
  let c4161_i32_27 : BitVec 32 := 4161#32
  let c10_i32_24 : BitVec 32 := 10#32
  let v150 : BitVec 1 := Scalar.cmpi .eq v5 c10_i32_24
  let c6176_i32_25 : BitVec 32 := 6176#32
  let c9_i32_22 : BitVec 32 := 9#32
  let v148 : BitVec 1 := Scalar.cmpi .eq v5 c9_i32_22
  let c2818_i32_23 : BitVec 32 := 2818#32
  let c8_i32_20 : BitVec 32 := 8#32
  let v146 : BitVec 1 := Scalar.cmpi .eq v5 c8_i32_20
  let c5970_i32_21 : BitVec 32 := 5970#32
  let c7_i32_18 : BitVec 32 := 7#32
  let v144 : BitVec 1 := Scalar.cmpi .eq v5 c7_i32_18
  let c7573_i32_19 : BitVec 32 := 7573#32
  let c6_i32_16 : BitVec 32 := 6#32
  let v142 : BitVec 1 := Scalar.cmpi .eq v5 c6_i32_16
  let c3350_i32_17 : BitVec 32 := 3350#32
  let c5_i32_14 : BitVec 32 := 5#32
  let v140 : BitVec 1 := Scalar.cmpi .eq v5 c5_i32_14
  let c4780_i32_15 : BitVec 32 := 4780#32
  let c4_i32_12 : BitVec 32 := 4#32
  let v138 : BitVec 1 := Scalar.cmpi .eq v5 c4_i32_12
  let c6560_i32_13 : BitVec 32 := 6560#32
  let c3_i32_10 : BitVec 32 := 3#32
  let v136 : BitVec 1 := Scalar.cmpi .eq v5 c3_i32_10
  let c7017_i32_11 : BitVec 32 := 7017#32
  let c2_i32_8 : BitVec 32 := 2#32
  let v134 : BitVec 1 := Scalar.cmpi .eq v5 c2_i32_8
  let c736_i32_9 : BitVec 32 := 736#32
  let c1_i32_5 : BitVec 32 := 1#32
  let v132 : BitVec 1 := Scalar.cmpi .eq v5 c1_i32_5
  let c943_i32_7 : BitVec 32 := 943#32
  let c7932_i32_6 : BitVec 32 := 7932#32
  let v133 : BitVec 32 := Scalar.select v132 c943_i32_7 c7932_i32_6
  let v135 : BitVec 32 := Scalar.select v134 c736_i32_9 v133
  let v137 : BitVec 32 := Scalar.select v136 c7017_i32_11 v135
  let v139 : BitVec 32 := Scalar.select v138 c6560_i32_13 v137
  let v141 : BitVec 32 := Scalar.select v140 c4780_i32_15 v139
  let v143 : BitVec 32 := Scalar.select v142 c3350_i32_17 v141
  let v145 : BitVec 32 := Scalar.select v144 c7573_i32_19 v143
  let v147 : BitVec 32 := Scalar.select v146 c5970_i32_21 v145
  let v149 : BitVec 32 := Scalar.select v148 c2818_i32_23 v147
  let v151 : BitVec 32 := Scalar.select v150 c6176_i32_25 v149
  let v153 : BitVec 32 := Scalar.select v152 c4161_i32_27 v151
  let v155 : BitVec 32 := Scalar.select v154 c2562_i32_29 v153
  let v157 : BitVec 32 := Scalar.select v156 c1378_i32_31 v155
  let v159 : BitVec 32 := Scalar.select v158 c8174_i32_33 v157
  let v161 : BitVec 32 := Scalar.select v160 c6170_i32_35 v159
  let v163 : BitVec 32 := Scalar.select v162 c4241_i32_37 v161
  let v165 : BitVec 32 := Scalar.select v164 c7767_i32_39 v163
  let v167 : BitVec 32 := Scalar.select v166 c91_i32_41 v165
  let v169 : BitVec 32 := Scalar.select v168 c4026_i32_43 v167
  let v171 : BitVec 32 := Scalar.select v170 c6840_i32_45 v169
  let v173 : BitVec 32 := Scalar.select v172 c5652_i32_47 v171
  let v175 : BitVec 32 := Scalar.select v174 c56_i32_49 v173
  let v177 : BitVec 32 := Scalar.select v176 c3018_i32_51 v175
  let v179 : BitVec 32 := Scalar.select v178 c7654_i32_53 v177
  let v181 : BitVec 32 := Scalar.select v180 c6943_i32_55 v179
  let v183 : BitVec 32 := Scalar.select v182 c5978_i32_57 v181
  let v185 : BitVec 32 := Scalar.select v184 c2339_i32_59 v183
  let v187 : BitVec 32 := Scalar.select v186 c2760_i32_61 v185
  let v189 : BitVec 32 := Scalar.select v188 c4806_i32_63 v187
  let v191 : BitVec 32 := Scalar.select v190 c2916_i32_65 v189
  let v193 : BitVec 32 := Scalar.select v192 c6151_i32_67 v191
  let v195 : BitVec 32 := Scalar.select v194 c2835_i32_69 v193
  let v197 : BitVec 32 := Scalar.select v196 c1851_i32_71 v195
  let v199 : BitVec 32 := Scalar.select v198 c5685_i32_73 v197
  let v201 : BitVec 32 := Scalar.select v200 c1105_i32_75 v199
  let v203 : BitVec 32 := Scalar.select v202 c2937_i32_77 v201
  let v205 : BitVec 32 := Scalar.select v204 c6570_i32_79 v203
  let v207 : BitVec 32 := Scalar.select v206 c3980_i32_81 v205
  let v209 : BitVec 32 := Scalar.select v208 c7714_i32_83 v207
  let v211 : BitVec 32 := Scalar.select v210 c1846_i32_85 v209
  let v213 : BitVec 32 := Scalar.select v212 c3866_i32_87 v211
  let v215 : BitVec 32 := Scalar.select v214 c2914_i32_89 v213
  let v217 : BitVec 32 := Scalar.select v216 c1936_i32_91 v215
  let v219 : BitVec 32 := Scalar.select v218 c4871_i32_93 v217
  let v221 : BitVec 32 := Scalar.select v220 c2834_i32_95 v219
  let v223 : BitVec 32 := Scalar.select v222 c6125_i32_97 v221
  let v225 : BitVec 32 := Scalar.select v224 c3618_i32_99 v223
  let v227 : BitVec 32 := Scalar.select v226 c7487_i32_101 v225
  let v229 : BitVec 32 := Scalar.select v228 c593_i32_103 v227
  let v231 : BitVec 32 := Scalar.select v230 c7351_i32_105 v229
  let v233 : BitVec 32 := Scalar.select v232 c5479_i32_107 v231
  let v235 : BitVec 32 := Scalar.select v234 c572_i32_109 v233
  let v237 : BitVec 32 := Scalar.select v236 c1765_i32_111 v235
  let v239 : BitVec 32 := Scalar.select v238 c3913_i32_113 v237
  let v241 : BitVec 32 := Scalar.select v240 c2687_i32_115 v239
  let v243 : BitVec 32 := Scalar.select v242 c5257_i32_117 v241
  let v245 : BitVec 32 := Scalar.select v244 c6147_i32_119 v243
  let v247 : BitVec 32 := Scalar.select v246 c7228_i32_121 v245
  let v249 : BitVec 32 := Scalar.select v248 c2263_i32_123 v247
  let v251 : BitVec 32 := Scalar.select v250 c3132_i32_125 v249
  let v253 : BitVec 32 := Scalar.select v252 c722_i32_127 v251
  let v255 : BitVec 32 := Scalar.select v254 c1196_i32_129 v253
  let v257 : BitVec 32 := Scalar.select v256 c1763_i32_131 v255
  let c7_i32_134 : BitVec 32 := 7#32
  let v263 : BitVec 32 := Scalar.shrsi v257 c7_i32_134
  let v264 : BitVec 32 := Scalar.addi v262 v263
  let c256_i32_135 : BitVec 32 := 256#32
  let v265 : BitVec 32 := Scalar.muli v264 c256_i32_135
  let c5_i32_383 : BitVec 32 := 5#32
  let c0_i32_385 : BitVec 32 := 0#32
  let v858 : BitVec 1 := Scalar.cmpi .sgt c5_i32_383 c0_i32_385
  let v859 : BitVec 32 := Scalar.extui v858
  let c0_i32_386 : BitVec 32 := 0#32
  let v860 : BitVec 1 := Scalar.cmpi .slt c5_i32_383 c0_i32_386
  let v861 : BitVec 32 := Scalar.extui v860
  let v862 : BitVec 32 := Scalar.subi v859 v861
  let c2_i32_384 : BitVec 32 := 2#32
  let c0_i32_387 : BitVec 32 := 0#32
  let v863 : BitVec 1 := Scalar.cmpi .sgt c2_i32_384 c0_i32_387
  let v864 : BitVec 32 := Scalar.extui v863
  let c0_i32_388 : BitVec 32 := 0#32
  let v865 : BitVec 1 := Scalar.cmpi .slt c2_i32_384 c0_i32_388
  let v866 : BitVec 32 := Scalar.extui v865
  let v867 : BitVec 32 := Scalar.subi v864 v866
  let v868 : BitVec 1 := Scalar.cmpi .ne v862 v867
  let v869 : BitVec 32 := Scalar.remsi c5_i32_383 c2_i32_384
  let c0_i32_389 : BitVec 32 := 0#32
  let v870 : BitVec 1 := Scalar.cmpi .ne v869 c0_i32_389
  let v871 : BitVec 1 := Scalar.andi v868 v870
  let v857 : BitVec 32 := Scalar.divsi c5_i32_383 c2_i32_384
  let c1_i32_390 : BitVec 32 := 1#32
  let v872 : BitVec 32 := Scalar.subi v857 c1_i32_390
  let v873 : BitVec 32 := Scalar.select v871 v872 v857
  let c15872_i32_391 : BitVec 32 := 15872#32
  let v874 : BitVec 32 := Scalar.muli v873 c15872_i32_391
  let v875 : BitVec 32 := Scalar.addi v265 v874
  v875
def k0_mult43 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32 : BitVec 32 := 0#32
  let v3 : BitVec 32 := Scalar.addi v2 c0_i32
  let c2048_i32 : BitVec 32 := 2048#32
  let v258 : BitVec 32 := Scalar.muli v3 c2048_i32
  let c63_i32 : BitVec 32 := 63#32
  let v130 : BitVec 1 := Scalar.cmpi .eq v3 c63_i32
  let c1763_i32 : BitVec 32 := 1763#32
  let c62_i32 : BitVec 32 := 62#32
  let v128 : BitVec 1 := Scalar.cmpi .eq v3 c62_i32
  let c1196_i32 : BitVec 32 := 1196#32
  let c61_i32 : BitVec 32 := 61#32
  let v126 : BitVec 1 := Scalar.cmpi .eq v3 c61_i32
  let c722_i32 : BitVec 32 := 722#32
  let c60_i32 : BitVec 32 := 60#32
  let v124 : BitVec 1 := Scalar.cmpi .eq v3 c60_i32
  let c3132_i32 : BitVec 32 := 3132#32
  let c59_i32 : BitVec 32 := 59#32
  let v122 : BitVec 1 := Scalar.cmpi .eq v3 c59_i32
  let c2263_i32 : BitVec 32 := 2263#32
  let c58_i32 : BitVec 32 := 58#32
  let v120 : BitVec 1 := Scalar.cmpi .eq v3 c58_i32
  let c7228_i32 : BitVec 32 := 7228#32
  let c57_i32 : BitVec 32 := 57#32
  let v118 : BitVec 1 := Scalar.cmpi .eq v3 c57_i32
  let c6147_i32 : BitVec 32 := 6147#32
  let c56_i32_4 : BitVec 32 := 56#32
  let v116 : BitVec 1 := Scalar.cmpi .eq v3 c56_i32_4
  let c5257_i32 : BitVec 32 := 5257#32
  let c55_i32 : BitVec 32 := 55#32
  let v114 : BitVec 1 := Scalar.cmpi .eq v3 c55_i32
  let c2687_i32 : BitVec 32 := 2687#32
  let c54_i32 : BitVec 32 := 54#32
  let v112 : BitVec 1 := Scalar.cmpi .eq v3 c54_i32
  let c3913_i32 : BitVec 32 := 3913#32
  let c53_i32 : BitVec 32 := 53#32
  let v110 : BitVec 1 := Scalar.cmpi .eq v3 c53_i32
  let c1765_i32 : BitVec 32 := 1765#32
  let c52_i32 : BitVec 32 := 52#32
  let v108 : BitVec 1 := Scalar.cmpi .eq v3 c52_i32
  let c572_i32 : BitVec 32 := 572#32
  let c51_i32 : BitVec 32 := 51#32
  let v106 : BitVec 1 := Scalar.cmpi .eq v3 c51_i32
  let c5479_i32 : BitVec 32 := 5479#32
  let c50_i32 : BitVec 32 := 50#32
  let v104 : BitVec 1 := Scalar.cmpi .eq v3 c50_i32
  let c7351_i32 : BitVec 32 := 7351#32
  let c49_i32 : BitVec 32 := 49#32
  let v102 : BitVec 1 := Scalar.cmpi .eq v3 c49_i32
  let c593_i32 : BitVec 32 := 593#32
  let c48_i32 : BitVec 32 := 48#32
  let v100 : BitVec 1 := Scalar.cmpi .eq v3 c48_i32
  let c7487_i32 : BitVec 32 := 7487#32
  let c47_i32 : BitVec 32 := 47#32
  let v98 : BitVec 1 := Scalar.cmpi .eq v3 c47_i32
  let c3618_i32 : BitVec 32 := 3618#32
  let c46_i32 : BitVec 32 := 46#32
  let v96 : BitVec 1 := Scalar.cmpi .eq v3 c46_i32
  let c6125_i32 : BitVec 32 := 6125#32
  let c45_i32 : BitVec 32 := 45#32
  let v94 : BitVec 1 := Scalar.cmpi .eq v3 c45_i32
  let c2834_i32 : BitVec 32 := 2834#32
  let c44_i32 : BitVec 32 := 44#32
  let v92 : BitVec 1 := Scalar.cmpi .eq v3 c44_i32
  let c4871_i32 : BitVec 32 := 4871#32
  let c43_i32 : BitVec 32 := 43#32
  let v90 : BitVec 1 := Scalar.cmpi .eq v3 c43_i32
  let c1936_i32 : BitVec 32 := 1936#32
  let c42_i32 : BitVec 32 := 42#32
  let v88 : BitVec 1 := Scalar.cmpi .eq v3 c42_i32
  let c2914_i32 : BitVec 32 := 2914#32
  let c41_i32 : BitVec 32 := 41#32
  let v86 : BitVec 1 := Scalar.cmpi .eq v3 c41_i32
  let c3866_i32 : BitVec 32 := 3866#32
  let c40_i32 : BitVec 32 := 40#32
  let v84 : BitVec 1 := Scalar.cmpi .eq v3 c40_i32
  let c1846_i32 : BitVec 32 := 1846#32
  let c39_i32 : BitVec 32 := 39#32
  let v82 : BitVec 1 := Scalar.cmpi .eq v3 c39_i32
  let c7714_i32 : BitVec 32 := 7714#32
  let c38_i32 : BitVec 32 := 38#32
  let v80 : BitVec 1 := Scalar.cmpi .eq v3 c38_i32
  let c3980_i32 : BitVec 32 := 3980#32
  let c37_i32 : BitVec 32 := 37#32
  let v78 : BitVec 1 := Scalar.cmpi .eq v3 c37_i32
  let c6570_i32 : BitVec 32 := 6570#32
  let c36_i32 : BitVec 32 := 36#32
  let v76 : BitVec 1 := Scalar.cmpi .eq v3 c36_i32
  let c2937_i32 : BitVec 32 := 2937#32
  let c35_i32 : BitVec 32 := 35#32
  let v74 : BitVec 1 := Scalar.cmpi .eq v3 c35_i32
  let c1105_i32 : BitVec 32 := 1105#32
  let c34_i32 : BitVec 32 := 34#32
  let v72 : BitVec 1 := Scalar.cmpi .eq v3 c34_i32
  let c5685_i32 : BitVec 32 := 5685#32
  let c33_i32 : BitVec 32 := 33#32
  let v70 : BitVec 1 := Scalar.cmpi .eq v3 c33_i32
  let c1851_i32 : BitVec 32 := 1851#32
  let c32_i32 : BitVec 32 := 32#32
  let v68 : BitVec 1 := Scalar.cmpi .eq v3 c32_i32
  let c2835_i32 : BitVec 32 := 2835#32
  let c31_i32 : BitVec 32 := 31#32
  let v66 : BitVec 1 := Scalar.cmpi .eq v3 c31_i32
  let c6151_i32 : BitVec 32 := 6151#32
  let c30_i32 : BitVec 32 := 30#32
  let v64 : BitVec 1 := Scalar.cmpi .eq v3 c30_i32
  let c2916_i32 : BitVec 32 := 2916#32
  let c29_i32 : BitVec 32 := 29#32
  let v62 : BitVec 1 := Scalar.cmpi .eq v3 c29_i32
  let c4806_i32 : BitVec 32 := 4806#32
  let c28_i32 : BitVec 32 := 28#32
  let v60 : BitVec 1 := Scalar.cmpi .eq v3 c28_i32
  let c2760_i32 : BitVec 32 := 2760#32
  let c27_i32 : BitVec 32 := 27#32
  let v58 : BitVec 1 := Scalar.cmpi .eq v3 c27_i32
  let c2339_i32 : BitVec 32 := 2339#32
  let c26_i32 : BitVec 32 := 26#32
  let v56 : BitVec 1 := Scalar.cmpi .eq v3 c26_i32
  let c5978_i32 : BitVec 32 := 5978#32
  let c25_i32 : BitVec 32 := 25#32
  let v54 : BitVec 1 := Scalar.cmpi .eq v3 c25_i32
  let c6943_i32 : BitVec 32 := 6943#32
  let c24_i32 : BitVec 32 := 24#32
  let v52 : BitVec 1 := Scalar.cmpi .eq v3 c24_i32
  let c7654_i32 : BitVec 32 := 7654#32
  let c23_i32 : BitVec 32 := 23#32
  let v50 : BitVec 1 := Scalar.cmpi .eq v3 c23_i32
  let c3018_i32 : BitVec 32 := 3018#32
  let c22_i32 : BitVec 32 := 22#32
  let v48 : BitVec 1 := Scalar.cmpi .eq v3 c22_i32
  let c56_i32 : BitVec 32 := 56#32
  let c21_i32 : BitVec 32 := 21#32
  let v46 : BitVec 1 := Scalar.cmpi .eq v3 c21_i32
  let c5652_i32 : BitVec 32 := 5652#32
  let c20_i32 : BitVec 32 := 20#32
  let v44 : BitVec 1 := Scalar.cmpi .eq v3 c20_i32
  let c6840_i32 : BitVec 32 := 6840#32
  let c19_i32 : BitVec 32 := 19#32
  let v42 : BitVec 1 := Scalar.cmpi .eq v3 c19_i32
  let c4026_i32 : BitVec 32 := 4026#32
  let c18_i32 : BitVec 32 := 18#32
  let v40 : BitVec 1 := Scalar.cmpi .eq v3 c18_i32
  let c91_i32 : BitVec 32 := 91#32
  let c17_i32 : BitVec 32 := 17#32
  let v38 : BitVec 1 := Scalar.cmpi .eq v3 c17_i32
  let c7767_i32 : BitVec 32 := 7767#32
  let c16_i32 : BitVec 32 := 16#32
  let v36 : BitVec 1 := Scalar.cmpi .eq v3 c16_i32
  let c4241_i32 : BitVec 32 := 4241#32
  let c15_i32 : BitVec 32 := 15#32
  let v34 : BitVec 1 := Scalar.cmpi .eq v3 c15_i32
  let c6170_i32 : BitVec 32 := 6170#32
  let c14_i32 : BitVec 32 := 14#32
  let v32 : BitVec 1 := Scalar.cmpi .eq v3 c14_i32
  let c8174_i32 : BitVec 32 := 8174#32
  let c13_i32 : BitVec 32 := 13#32
  let v30 : BitVec 1 := Scalar.cmpi .eq v3 c13_i32
  let c1378_i32 : BitVec 32 := 1378#32
  let c12_i32 : BitVec 32 := 12#32
  let v28 : BitVec 1 := Scalar.cmpi .eq v3 c12_i32
  let c2562_i32 : BitVec 32 := 2562#32
  let c11_i32 : BitVec 32 := 11#32
  let v26 : BitVec 1 := Scalar.cmpi .eq v3 c11_i32
  let c4161_i32 : BitVec 32 := 4161#32
  let c10_i32 : BitVec 32 := 10#32
  let v24 : BitVec 1 := Scalar.cmpi .eq v3 c10_i32
  let c6176_i32 : BitVec 32 := 6176#32
  let c9_i32 : BitVec 32 := 9#32
  let v22 : BitVec 1 := Scalar.cmpi .eq v3 c9_i32
  let c2818_i32 : BitVec 32 := 2818#32
  let c8_i32 : BitVec 32 := 8#32
  let v20 : BitVec 1 := Scalar.cmpi .eq v3 c8_i32
  let c5970_i32 : BitVec 32 := 5970#32
  let c7_i32 : BitVec 32 := 7#32
  let v18 : BitVec 1 := Scalar.cmpi .eq v3 c7_i32
  let c7573_i32 : BitVec 32 := 7573#32
  let c6_i32 : BitVec 32 := 6#32
  let v16 : BitVec 1 := Scalar.cmpi .eq v3 c6_i32
  let c3350_i32 : BitVec 32 := 3350#32
  let c5_i32 : BitVec 32 := 5#32
  let v14 : BitVec 1 := Scalar.cmpi .eq v3 c5_i32
  let c4780_i32 : BitVec 32 := 4780#32
  let c4_i32 : BitVec 32 := 4#32
  let v12 : BitVec 1 := Scalar.cmpi .eq v3 c4_i32
  let c6560_i32 : BitVec 32 := 6560#32
  let c3_i32 : BitVec 32 := 3#32
  let v10 : BitVec 1 := Scalar.cmpi .eq v3 c3_i32
  let c7017_i32 : BitVec 32 := 7017#32
  let c2_i32_3 : BitVec 32 := 2#32
  let v8 : BitVec 1 := Scalar.cmpi .eq v3 c2_i32_3
  let c736_i32 : BitVec 32 := 736#32
  let c1_i32_2 : BitVec 32 := 1#32
  let v6 : BitVec 1 := Scalar.cmpi .eq v3 c1_i32_2
  let c943_i32 : BitVec 32 := 943#32
  let c7932_i32 : BitVec 32 := 7932#32
  let v7 : BitVec 32 := Scalar.select v6 c943_i32 c7932_i32
  let v9 : BitVec 32 := Scalar.select v8 c736_i32 v7
  let v11 : BitVec 32 := Scalar.select v10 c7017_i32 v9
  let v13 : BitVec 32 := Scalar.select v12 c6560_i32 v11
  let v15 : BitVec 32 := Scalar.select v14 c4780_i32 v13
  let v17 : BitVec 32 := Scalar.select v16 c3350_i32 v15
  let v19 : BitVec 32 := Scalar.select v18 c7573_i32 v17
  let v21 : BitVec 32 := Scalar.select v20 c5970_i32 v19
  let v23 : BitVec 32 := Scalar.select v22 c2818_i32 v21
  let v25 : BitVec 32 := Scalar.select v24 c6176_i32 v23
  let v27 : BitVec 32 := Scalar.select v26 c4161_i32 v25
  let v29 : BitVec 32 := Scalar.select v28 c2562_i32 v27
  let v31 : BitVec 32 := Scalar.select v30 c1378_i32 v29
  let v33 : BitVec 32 := Scalar.select v32 c8174_i32 v31
  let v35 : BitVec 32 := Scalar.select v34 c6170_i32 v33
  let v37 : BitVec 32 := Scalar.select v36 c4241_i32 v35
  let v39 : BitVec 32 := Scalar.select v38 c7767_i32 v37
  let v41 : BitVec 32 := Scalar.select v40 c91_i32 v39
  let v43 : BitVec 32 := Scalar.select v42 c4026_i32 v41
  let v45 : BitVec 32 := Scalar.select v44 c6840_i32 v43
  let v47 : BitVec 32 := Scalar.select v46 c5652_i32 v45
  let v49 : BitVec 32 := Scalar.select v48 c56_i32 v47
  let v51 : BitVec 32 := Scalar.select v50 c3018_i32 v49
  let v53 : BitVec 32 := Scalar.select v52 c7654_i32 v51
  let v55 : BitVec 32 := Scalar.select v54 c6943_i32 v53
  let v57 : BitVec 32 := Scalar.select v56 c5978_i32 v55
  let v59 : BitVec 32 := Scalar.select v58 c2339_i32 v57
  let v61 : BitVec 32 := Scalar.select v60 c2760_i32 v59
  let v63 : BitVec 32 := Scalar.select v62 c4806_i32 v61
  let v65 : BitVec 32 := Scalar.select v64 c2916_i32 v63
  let v67 : BitVec 32 := Scalar.select v66 c6151_i32 v65
  let v69 : BitVec 32 := Scalar.select v68 c2835_i32 v67
  let v71 : BitVec 32 := Scalar.select v70 c1851_i32 v69
  let v73 : BitVec 32 := Scalar.select v72 c5685_i32 v71
  let v75 : BitVec 32 := Scalar.select v74 c1105_i32 v73
  let v77 : BitVec 32 := Scalar.select v76 c2937_i32 v75
  let v79 : BitVec 32 := Scalar.select v78 c6570_i32 v77
  let v81 : BitVec 32 := Scalar.select v80 c3980_i32 v79
  let v83 : BitVec 32 := Scalar.select v82 c7714_i32 v81
  let v85 : BitVec 32 := Scalar.select v84 c1846_i32 v83
  let v87 : BitVec 32 := Scalar.select v86 c3866_i32 v85
  let v89 : BitVec 32 := Scalar.select v88 c2914_i32 v87
  let v91 : BitVec 32 := Scalar.select v90 c1936_i32 v89
  let v93 : BitVec 32 := Scalar.select v92 c4871_i32 v91
  let v95 : BitVec 32 := Scalar.select v94 c2834_i32 v93
  let v97 : BitVec 32 := Scalar.select v96 c6125_i32 v95
  let v99 : BitVec 32 := Scalar.select v98 c3618_i32 v97
  let v101 : BitVec 32 := Scalar.select v100 c7487_i32 v99
  let v103 : BitVec 32 := Scalar.select v102 c593_i32 v101
  let v105 : BitVec 32 := Scalar.select v104 c7351_i32 v103
  let v107 : BitVec 32 := Scalar.select v106 c5479_i32 v105
  let v109 : BitVec 32 := Scalar.select v108 c572_i32 v107
  let v111 : BitVec 32 := Scalar.select v110 c1765_i32 v109
  let v113 : BitVec 32 := Scalar.select v112 c3913_i32 v111
  let v115 : BitVec 32 := Scalar.select v114 c2687_i32 v113
  let v117 : BitVec 32 := Scalar.select v116 c5257_i32 v115
  let v119 : BitVec 32 := Scalar.select v118 c6147_i32 v117
  let v121 : BitVec 32 := Scalar.select v120 c7228_i32 v119
  let v123 : BitVec 32 := Scalar.select v122 c2263_i32 v121
  let v125 : BitVec 32 := Scalar.select v124 c3132_i32 v123
  let v127 : BitVec 32 := Scalar.select v126 c722_i32 v125
  let v129 : BitVec 32 := Scalar.select v128 c1196_i32 v127
  let v131 : BitVec 32 := Scalar.select v130 c1763_i32 v129
  let c7_i32_132 : BitVec 32 := 7#32
  let v259 : BitVec 32 := Scalar.shrsi v131 c7_i32_132
  let v260 : BitVec 32 := Scalar.addi v258 v259
  let c256_i32 : BitVec 32 := 256#32
  let v261 : BitVec 32 := Scalar.muli v260 c256_i32
  let c2_i32_392 : BitVec 32 := 2#32
  let c0_i32_394 : BitVec 32 := 0#32
  let v880 : BitVec 1 := Scalar.cmpi .sgt c2_i32_392 c0_i32_394
  let v881 : BitVec 32 := Scalar.extui v880
  let c0_i32_395 : BitVec 32 := 0#32
  let v882 : BitVec 1 := Scalar.cmpi .slt c2_i32_392 c0_i32_395
  let v883 : BitVec 32 := Scalar.extui v882
  let v884 : BitVec 32 := Scalar.subi v881 v883
  let c2_i32_393 : BitVec 32 := 2#32
  let c0_i32_396 : BitVec 32 := 0#32
  let v885 : BitVec 1 := Scalar.cmpi .sgt c2_i32_393 c0_i32_396
  let v886 : BitVec 32 := Scalar.extui v885
  let c0_i32_397 : BitVec 32 := 0#32
  let v887 : BitVec 1 := Scalar.cmpi .slt c2_i32_393 c0_i32_397
  let v888 : BitVec 32 := Scalar.extui v887
  let v889 : BitVec 32 := Scalar.subi v886 v888
  let v890 : BitVec 1 := Scalar.cmpi .ne v884 v889
  let v891 : BitVec 32 := Scalar.remsi c2_i32_392 c2_i32_393
  let c0_i32_398 : BitVec 32 := 0#32
  let v892 : BitVec 1 := Scalar.cmpi .ne v891 c0_i32_398
  let v893 : BitVec 1 := Scalar.andi v890 v892
  let v879 : BitVec 32 := Scalar.divsi c2_i32_392 c2_i32_393
  let c1_i32_399 : BitVec 32 := 1#32
  let v894 : BitVec 32 := Scalar.subi v879 c1_i32_399
  let v895 : BitVec 32 := Scalar.select v893 v894 v879
  let c15872_i32_400 : BitVec 32 := 15872#32
  let v896 : BitVec 32 := Scalar.muli v895 c15872_i32_400
  let v897 : BitVec 32 := Scalar.addi v261 v896
  v897
@[reducible] def k0_t3_loop : Scf.Loop 32 :=
  let c0_i32_401 : BitVec 32 := 0#32
  let c62_i32_402 : BitVec 32 := 62#32
  let v901 : BitVec 32 := Scalar.addi c0_i32_401 c62_i32_402
  let c1_i32_403 : BitVec 32 := 1#32
  ⟨c0_i32_401, v901, c1_i32_403⟩

def k0_chk33 (v1381 : IVec S16 32) : Prop :=
  (∀ a x, ((![v1381] : Fin 1 → IVec S16 32) a x).toNat < S16128.size a)
theorem k0_idx33_inb : ∀ (v1381 : IVec S16 32) (k0_hw33 : k0_chk33 v1381), ∀ a x, ((![v1381] : Fin 1 → IVec S16 32) a x).toNat < S16128.size a := fun v1381 k0_hw33 => k0_hw33
def k0_mult44 (k0_t3 : Fin k0_t3_loop.trips) : BitVec 32 :=
  let c0_i32_624 : BitVec 32 := 0#32
  let c0_i32_401 : BitVec 32 := 0#32
  let c1_i32_403 : BitVec 32 := 1#32
  let arg20 : BitVec 32 := Scf.iv c0_i32_401 c1_i32_403 k0_t3
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c0_i32_627 : BitVec 32 := 0#32
  let v1383 : BitVec 32 := Scalar.addi v1377 c0_i32_627
  v1383
def k0_off35 (k0_t3 : Fin k0_t3_loop.trips) : Fin 1 → Nat :=
  let c0_i32_624 : BitVec 32 := 0#32
  let c0_i32_401 : BitVec 32 := 0#32
  let c1_i32_403 : BitVec 32 := 1#32
  let arg20 : BitVec 32 := Scf.iv c0_i32_401 c1_i32_403 k0_t3
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c0_i32_627 : BitVec 32 := 0#32
  let v1383 : BitVec 32 := Scalar.addi v1377 c0_i32_627
  let v1384 : BitVec 32 := v1383
  let v1385 : Index := Scalar.indexCast v1384
  ![v1385.toNat]

def k0_chk34 (v1387 : IVec S16 32) : Prop :=
  (∀ a x, ((![v1387] : Fin 1 → IVec S16 32) a x).toNat < S16128.size a)
theorem k0_idx34_inb : ∀ (v1387 : IVec S16 32) (k0_hw34 : k0_chk34 v1387), ∀ a x, ((![v1387] : Fin 1 → IVec S16 32) a x).toNat < S16128.size a := fun v1387 k0_hw34 => k0_hw34
def k0_mult45 (k0_t3 : Fin k0_t3_loop.trips) : BitVec 32 :=
  let c0_i32_624 : BitVec 32 := 0#32
  let c0_i32_401 : BitVec 32 := 0#32
  let c1_i32_403 : BitVec 32 := 1#32
  let arg20 : BitVec 32 := Scf.iv c0_i32_401 c1_i32_403 k0_t3
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c16_i32_628 : BitVec 32 := 16#32
  let v1389 : BitVec 32 := Scalar.addi v1377 c16_i32_628
  v1389
def k0_off36 (k0_t3 : Fin k0_t3_loop.trips) : Fin 1 → Nat :=
  let c0_i32_624 : BitVec 32 := 0#32
  let c0_i32_401 : BitVec 32 := 0#32
  let c1_i32_403 : BitVec 32 := 1#32
  let arg20 : BitVec 32 := Scf.iv c0_i32_401 c1_i32_403 k0_t3
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c16_i32_628 : BitVec 32 := 16#32
  let v1389 : BitVec 32 := Scalar.addi v1377 c16_i32_628
  let v1390 : BitVec 32 := v1389
  let v1391 : Index := Scalar.indexCast v1390
  ![v1391.toNat]

def k0_chk35 (v1393 : IVec S16 32) : Prop :=
  (∀ a x, ((![v1393] : Fin 1 → IVec S16 32) a x).toNat < S16128.size a)
theorem k0_idx35_inb : ∀ (v1393 : IVec S16 32) (k0_hw35 : k0_chk35 v1393), ∀ a x, ((![v1393] : Fin 1 → IVec S16 32) a x).toNat < S16128.size a := fun v1393 k0_hw35 => k0_hw35
def k0_mult46 (k0_t3 : Fin k0_t3_loop.trips) : BitVec 32 :=
  let c0_i32_624 : BitVec 32 := 0#32
  let c0_i32_401 : BitVec 32 := 0#32
  let c1_i32_403 : BitVec 32 := 1#32
  let arg20 : BitVec 32 := Scf.iv c0_i32_401 c1_i32_403 k0_t3
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c32_i32_629 : BitVec 32 := 32#32
  let v1395 : BitVec 32 := Scalar.addi v1377 c32_i32_629
  v1395
def k0_off37 (k0_t3 : Fin k0_t3_loop.trips) : Fin 1 → Nat :=
  let c0_i32_624 : BitVec 32 := 0#32
  let c0_i32_401 : BitVec 32 := 0#32
  let c1_i32_403 : BitVec 32 := 1#32
  let arg20 : BitVec 32 := Scf.iv c0_i32_401 c1_i32_403 k0_t3
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c32_i32_629 : BitVec 32 := 32#32
  let v1395 : BitVec 32 := Scalar.addi v1377 c32_i32_629
  let v1396 : BitVec 32 := v1395
  let v1397 : Index := Scalar.indexCast v1396
  ![v1397.toNat]

def k0_chk36 (v1399 : IVec S16 32) : Prop :=
  (∀ a x, ((![v1399] : Fin 1 → IVec S16 32) a x).toNat < S16128.size a)
theorem k0_idx36_inb : ∀ (v1399 : IVec S16 32) (k0_hw36 : k0_chk36 v1399), ∀ a x, ((![v1399] : Fin 1 → IVec S16 32) a x).toNat < S16128.size a := fun v1399 k0_hw36 => k0_hw36
def k0_mult47 (k0_t3 : Fin k0_t3_loop.trips) : BitVec 32 :=
  let c0_i32_624 : BitVec 32 := 0#32
  let c0_i32_401 : BitVec 32 := 0#32
  let c1_i32_403 : BitVec 32 := 1#32
  let arg20 : BitVec 32 := Scf.iv c0_i32_401 c1_i32_403 k0_t3
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c48_i32_630 : BitVec 32 := 48#32
  let v1401 : BitVec 32 := Scalar.addi v1377 c48_i32_630
  v1401
def k0_off38 (k0_t3 : Fin k0_t3_loop.trips) : Fin 1 → Nat :=
  let c0_i32_624 : BitVec 32 := 0#32
  let c0_i32_401 : BitVec 32 := 0#32
  let c1_i32_403 : BitVec 32 := 1#32
  let arg20 : BitVec 32 := Scf.iv c0_i32_401 c1_i32_403 k0_t3
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c48_i32_630 : BitVec 32 := 48#32
  let v1401 : BitVec 32 := Scalar.addi v1377 c48_i32_630
  let v1402 : BitVec 32 := v1401
  let v1403 : Index := Scalar.indexCast v1402
  ![v1403.toNat]

def k0_chk37 (v1405 : IVec S16 32) : Prop :=
  (∀ a x, ((![v1405] : Fin 1 → IVec S16 32) a x).toNat < S16128.size a)
theorem k0_idx37_inb : ∀ (v1405 : IVec S16 32) (k0_hw37 : k0_chk37 v1405), ∀ a x, ((![v1405] : Fin 1 → IVec S16 32) a x).toNat < S16128.size a := fun v1405 k0_hw37 => k0_hw37
def k0_mult48 (k0_t3 : Fin k0_t3_loop.trips) : BitVec 32 :=
  let c0_i32_624 : BitVec 32 := 0#32
  let c0_i32_401 : BitVec 32 := 0#32
  let c1_i32_403 : BitVec 32 := 1#32
  let arg20 : BitVec 32 := Scf.iv c0_i32_401 c1_i32_403 k0_t3
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c64_i32_631 : BitVec 32 := 64#32
  let v1407 : BitVec 32 := Scalar.addi v1377 c64_i32_631
  v1407
def k0_off39 (k0_t3 : Fin k0_t3_loop.trips) : Fin 1 → Nat :=
  let c0_i32_624 : BitVec 32 := 0#32
  let c0_i32_401 : BitVec 32 := 0#32
  let c1_i32_403 : BitVec 32 := 1#32
  let arg20 : BitVec 32 := Scf.iv c0_i32_401 c1_i32_403 k0_t3
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c64_i32_631 : BitVec 32 := 64#32
  let v1407 : BitVec 32 := Scalar.addi v1377 c64_i32_631
  let v1408 : BitVec 32 := v1407
  let v1409 : Index := Scalar.indexCast v1408
  ![v1409.toNat]

def k0_chk38 (v1411 : IVec S16 32) : Prop :=
  (∀ a x, ((![v1411] : Fin 1 → IVec S16 32) a x).toNat < S16128.size a)
theorem k0_idx38_inb : ∀ (v1411 : IVec S16 32) (k0_hw38 : k0_chk38 v1411), ∀ a x, ((![v1411] : Fin 1 → IVec S16 32) a x).toNat < S16128.size a := fun v1411 k0_hw38 => k0_hw38
def k0_mult49 (k0_t3 : Fin k0_t3_loop.trips) : BitVec 32 :=
  let c0_i32_624 : BitVec 32 := 0#32
  let c0_i32_401 : BitVec 32 := 0#32
  let c1_i32_403 : BitVec 32 := 1#32
  let arg20 : BitVec 32 := Scf.iv c0_i32_401 c1_i32_403 k0_t3
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c80_i32_632 : BitVec 32 := 80#32
  let v1413 : BitVec 32 := Scalar.addi v1377 c80_i32_632
  v1413
def k0_off40 (k0_t3 : Fin k0_t3_loop.trips) : Fin 1 → Nat :=
  let c0_i32_624 : BitVec 32 := 0#32
  let c0_i32_401 : BitVec 32 := 0#32
  let c1_i32_403 : BitVec 32 := 1#32
  let arg20 : BitVec 32 := Scf.iv c0_i32_401 c1_i32_403 k0_t3
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c80_i32_632 : BitVec 32 := 80#32
  let v1413 : BitVec 32 := Scalar.addi v1377 c80_i32_632
  let v1414 : BitVec 32 := v1413
  let v1415 : Index := Scalar.indexCast v1414
  ![v1415.toNat]

def k0_chk39 (v1417 : IVec S16 32) : Prop :=
  (∀ a x, ((![v1417] : Fin 1 → IVec S16 32) a x).toNat < S16128.size a)
theorem k0_idx39_inb : ∀ (v1417 : IVec S16 32) (k0_hw39 : k0_chk39 v1417), ∀ a x, ((![v1417] : Fin 1 → IVec S16 32) a x).toNat < S16128.size a := fun v1417 k0_hw39 => k0_hw39
def k0_mult50 (k0_t3 : Fin k0_t3_loop.trips) : BitVec 32 :=
  let c0_i32_624 : BitVec 32 := 0#32
  let c0_i32_401 : BitVec 32 := 0#32
  let c1_i32_403 : BitVec 32 := 1#32
  let arg20 : BitVec 32 := Scf.iv c0_i32_401 c1_i32_403 k0_t3
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c96_i32_633 : BitVec 32 := 96#32
  let v1419 : BitVec 32 := Scalar.addi v1377 c96_i32_633
  v1419
def k0_off41 (k0_t3 : Fin k0_t3_loop.trips) : Fin 1 → Nat :=
  let c0_i32_624 : BitVec 32 := 0#32
  let c0_i32_401 : BitVec 32 := 0#32
  let c1_i32_403 : BitVec 32 := 1#32
  let arg20 : BitVec 32 := Scf.iv c0_i32_401 c1_i32_403 k0_t3
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c96_i32_633 : BitVec 32 := 96#32
  let v1419 : BitVec 32 := Scalar.addi v1377 c96_i32_633
  let v1420 : BitVec 32 := v1419
  let v1421 : Index := Scalar.indexCast v1420
  ![v1421.toNat]

def k0_chk40 (v1423 : IVec S16 32) : Prop :=
  (∀ a x, ((![v1423] : Fin 1 → IVec S16 32) a x).toNat < S16128.size a)
theorem k0_idx40_inb : ∀ (v1423 : IVec S16 32) (k0_hw40 : k0_chk40 v1423), ∀ a x, ((![v1423] : Fin 1 → IVec S16 32) a x).toNat < S16128.size a := fun v1423 k0_hw40 => k0_hw40
def k0_mult51 (k0_t3 : Fin k0_t3_loop.trips) : BitVec 32 :=
  let c0_i32_624 : BitVec 32 := 0#32
  let c0_i32_401 : BitVec 32 := 0#32
  let c1_i32_403 : BitVec 32 := 1#32
  let arg20 : BitVec 32 := Scf.iv c0_i32_401 c1_i32_403 k0_t3
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c112_i32_634 : BitVec 32 := 112#32
  let v1425 : BitVec 32 := Scalar.addi v1377 c112_i32_634
  v1425
def k0_off42 (k0_t3 : Fin k0_t3_loop.trips) : Fin 1 → Nat :=
  let c0_i32_624 : BitVec 32 := 0#32
  let c0_i32_401 : BitVec 32 := 0#32
  let c1_i32_403 : BitVec 32 := 1#32
  let arg20 : BitVec 32 := Scf.iv c0_i32_401 c1_i32_403 k0_t3
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c112_i32_634 : BitVec 32 := 112#32
  let v1425 : BitVec 32 := Scalar.addi v1377 c112_i32_634
  let v1426 : BitVec 32 := v1425
  let v1427 : Index := Scalar.indexCast v1426
  ![v1427.toNat]

def k0_chk41 (v1429 : IVec S16 32) : Prop :=
  (∀ a x, ((![v1429] : Fin 1 → IVec S16 32) a x).toNat < S16128.size a)
theorem k0_idx41_inb : ∀ (v1429 : IVec S16 32) (k0_hw41 : k0_chk41 v1429), ∀ a x, ((![v1429] : Fin 1 → IVec S16 32) a x).toNat < S16128.size a := fun v1429 k0_hw41 => k0_hw41
def k0_mult52 (k0_t3 : Fin k0_t3_loop.trips) : BitVec 32 :=
  let c0_i32_624 : BitVec 32 := 0#32
  let c0_i32_401 : BitVec 32 := 0#32
  let c1_i32_403 : BitVec 32 := 1#32
  let arg20 : BitVec 32 := Scf.iv c0_i32_401 c1_i32_403 k0_t3
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c128_i32_635 : BitVec 32 := 128#32
  let v1431 : BitVec 32 := Scalar.addi v1377 c128_i32_635
  v1431
def k0_off43 (k0_t3 : Fin k0_t3_loop.trips) : Fin 1 → Nat :=
  let c0_i32_624 : BitVec 32 := 0#32
  let c0_i32_401 : BitVec 32 := 0#32
  let c1_i32_403 : BitVec 32 := 1#32
  let arg20 : BitVec 32 := Scf.iv c0_i32_401 c1_i32_403 k0_t3
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c128_i32_635 : BitVec 32 := 128#32
  let v1431 : BitVec 32 := Scalar.addi v1377 c128_i32_635
  let v1432 : BitVec 32 := v1431
  let v1433 : Index := Scalar.indexCast v1432
  ![v1433.toNat]

def k0_chk42 (v1435 : IVec S16 32) : Prop :=
  (∀ a x, ((![v1435] : Fin 1 → IVec S16 32) a x).toNat < S16128.size a)
theorem k0_idx42_inb : ∀ (v1435 : IVec S16 32) (k0_hw42 : k0_chk42 v1435), ∀ a x, ((![v1435] : Fin 1 → IVec S16 32) a x).toNat < S16128.size a := fun v1435 k0_hw42 => k0_hw42
def k0_mult53 (k0_t3 : Fin k0_t3_loop.trips) : BitVec 32 :=
  let c0_i32_624 : BitVec 32 := 0#32
  let c0_i32_401 : BitVec 32 := 0#32
  let c1_i32_403 : BitVec 32 := 1#32
  let arg20 : BitVec 32 := Scf.iv c0_i32_401 c1_i32_403 k0_t3
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c144_i32 : BitVec 32 := 144#32
  let v1437 : BitVec 32 := Scalar.addi v1377 c144_i32
  v1437
def k0_off44 (k0_t3 : Fin k0_t3_loop.trips) : Fin 1 → Nat :=
  let c0_i32_624 : BitVec 32 := 0#32
  let c0_i32_401 : BitVec 32 := 0#32
  let c1_i32_403 : BitVec 32 := 1#32
  let arg20 : BitVec 32 := Scf.iv c0_i32_401 c1_i32_403 k0_t3
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c144_i32 : BitVec 32 := 144#32
  let v1437 : BitVec 32 := Scalar.addi v1377 c144_i32
  let v1438 : BitVec 32 := v1437
  let v1439 : Index := Scalar.indexCast v1438
  ![v1439.toNat]

def k0_chk43 (v1441 : IVec S16 32) : Prop :=
  (∀ a x, ((![v1441] : Fin 1 → IVec S16 32) a x).toNat < S16128.size a)
theorem k0_idx43_inb : ∀ (v1441 : IVec S16 32) (k0_hw43 : k0_chk43 v1441), ∀ a x, ((![v1441] : Fin 1 → IVec S16 32) a x).toNat < S16128.size a := fun v1441 k0_hw43 => k0_hw43
def k0_mult54 (k0_t3 : Fin k0_t3_loop.trips) : BitVec 32 :=
  let c0_i32_624 : BitVec 32 := 0#32
  let c0_i32_401 : BitVec 32 := 0#32
  let c1_i32_403 : BitVec 32 := 1#32
  let arg20 : BitVec 32 := Scf.iv c0_i32_401 c1_i32_403 k0_t3
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c160_i32 : BitVec 32 := 160#32
  let v1443 : BitVec 32 := Scalar.addi v1377 c160_i32
  v1443
def k0_off45 (k0_t3 : Fin k0_t3_loop.trips) : Fin 1 → Nat :=
  let c0_i32_624 : BitVec 32 := 0#32
  let c0_i32_401 : BitVec 32 := 0#32
  let c1_i32_403 : BitVec 32 := 1#32
  let arg20 : BitVec 32 := Scf.iv c0_i32_401 c1_i32_403 k0_t3
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c160_i32 : BitVec 32 := 160#32
  let v1443 : BitVec 32 := Scalar.addi v1377 c160_i32
  let v1444 : BitVec 32 := v1443
  let v1445 : Index := Scalar.indexCast v1444
  ![v1445.toNat]

def k0_chk44 (v1447 : IVec S16 32) : Prop :=
  (∀ a x, ((![v1447] : Fin 1 → IVec S16 32) a x).toNat < S16128.size a)
theorem k0_idx44_inb : ∀ (v1447 : IVec S16 32) (k0_hw44 : k0_chk44 v1447), ∀ a x, ((![v1447] : Fin 1 → IVec S16 32) a x).toNat < S16128.size a := fun v1447 k0_hw44 => k0_hw44
def k0_mult55 (k0_t3 : Fin k0_t3_loop.trips) : BitVec 32 :=
  let c0_i32_624 : BitVec 32 := 0#32
  let c0_i32_401 : BitVec 32 := 0#32
  let c1_i32_403 : BitVec 32 := 1#32
  let arg20 : BitVec 32 := Scf.iv c0_i32_401 c1_i32_403 k0_t3
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c176_i32 : BitVec 32 := 176#32
  let v1449 : BitVec 32 := Scalar.addi v1377 c176_i32
  v1449
def k0_off46 (k0_t3 : Fin k0_t3_loop.trips) : Fin 1 → Nat :=
  let c0_i32_624 : BitVec 32 := 0#32
  let c0_i32_401 : BitVec 32 := 0#32
  let c1_i32_403 : BitVec 32 := 1#32
  let arg20 : BitVec 32 := Scf.iv c0_i32_401 c1_i32_403 k0_t3
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c176_i32 : BitVec 32 := 176#32
  let v1449 : BitVec 32 := Scalar.addi v1377 c176_i32
  let v1450 : BitVec 32 := v1449
  let v1451 : Index := Scalar.indexCast v1450
  ![v1451.toNat]

def k0_chk45 (v1453 : IVec S16 32) : Prop :=
  (∀ a x, ((![v1453] : Fin 1 → IVec S16 32) a x).toNat < S16128.size a)
theorem k0_idx45_inb : ∀ (v1453 : IVec S16 32) (k0_hw45 : k0_chk45 v1453), ∀ a x, ((![v1453] : Fin 1 → IVec S16 32) a x).toNat < S16128.size a := fun v1453 k0_hw45 => k0_hw45
def k0_mult56 (k0_t3 : Fin k0_t3_loop.trips) : BitVec 32 :=
  let c0_i32_624 : BitVec 32 := 0#32
  let c0_i32_401 : BitVec 32 := 0#32
  let c1_i32_403 : BitVec 32 := 1#32
  let arg20 : BitVec 32 := Scf.iv c0_i32_401 c1_i32_403 k0_t3
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c192_i32 : BitVec 32 := 192#32
  let v1455 : BitVec 32 := Scalar.addi v1377 c192_i32
  v1455
def k0_off47 (k0_t3 : Fin k0_t3_loop.trips) : Fin 1 → Nat :=
  let c0_i32_624 : BitVec 32 := 0#32
  let c0_i32_401 : BitVec 32 := 0#32
  let c1_i32_403 : BitVec 32 := 1#32
  let arg20 : BitVec 32 := Scf.iv c0_i32_401 c1_i32_403 k0_t3
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c192_i32 : BitVec 32 := 192#32
  let v1455 : BitVec 32 := Scalar.addi v1377 c192_i32
  let v1456 : BitVec 32 := v1455
  let v1457 : Index := Scalar.indexCast v1456
  ![v1457.toNat]

def k0_chk46 (v1459 : IVec S16 32) : Prop :=
  (∀ a x, ((![v1459] : Fin 1 → IVec S16 32) a x).toNat < S16128.size a)
theorem k0_idx46_inb : ∀ (v1459 : IVec S16 32) (k0_hw46 : k0_chk46 v1459), ∀ a x, ((![v1459] : Fin 1 → IVec S16 32) a x).toNat < S16128.size a := fun v1459 k0_hw46 => k0_hw46
def k0_mult57 (k0_t3 : Fin k0_t3_loop.trips) : BitVec 32 :=
  let c0_i32_624 : BitVec 32 := 0#32
  let c0_i32_401 : BitVec 32 := 0#32
  let c1_i32_403 : BitVec 32 := 1#32
  let arg20 : BitVec 32 := Scf.iv c0_i32_401 c1_i32_403 k0_t3
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c208_i32 : BitVec 32 := 208#32
  let v1461 : BitVec 32 := Scalar.addi v1377 c208_i32
  v1461
def k0_off48 (k0_t3 : Fin k0_t3_loop.trips) : Fin 1 → Nat :=
  let c0_i32_624 : BitVec 32 := 0#32
  let c0_i32_401 : BitVec 32 := 0#32
  let c1_i32_403 : BitVec 32 := 1#32
  let arg20 : BitVec 32 := Scf.iv c0_i32_401 c1_i32_403 k0_t3
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c208_i32 : BitVec 32 := 208#32
  let v1461 : BitVec 32 := Scalar.addi v1377 c208_i32
  let v1462 : BitVec 32 := v1461
  let v1463 : Index := Scalar.indexCast v1462
  ![v1463.toNat]

def k0_chk47 (v1465 : IVec S16 32) : Prop :=
  (∀ a x, ((![v1465] : Fin 1 → IVec S16 32) a x).toNat < S16128.size a)
theorem k0_idx47_inb : ∀ (v1465 : IVec S16 32) (k0_hw47 : k0_chk47 v1465), ∀ a x, ((![v1465] : Fin 1 → IVec S16 32) a x).toNat < S16128.size a := fun v1465 k0_hw47 => k0_hw47
def k0_mult58 (k0_t3 : Fin k0_t3_loop.trips) : BitVec 32 :=
  let c0_i32_624 : BitVec 32 := 0#32
  let c0_i32_401 : BitVec 32 := 0#32
  let c1_i32_403 : BitVec 32 := 1#32
  let arg20 : BitVec 32 := Scf.iv c0_i32_401 c1_i32_403 k0_t3
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c224_i32 : BitVec 32 := 224#32
  let v1467 : BitVec 32 := Scalar.addi v1377 c224_i32
  v1467
def k0_off49 (k0_t3 : Fin k0_t3_loop.trips) : Fin 1 → Nat :=
  let c0_i32_624 : BitVec 32 := 0#32
  let c0_i32_401 : BitVec 32 := 0#32
  let c1_i32_403 : BitVec 32 := 1#32
  let arg20 : BitVec 32 := Scf.iv c0_i32_401 c1_i32_403 k0_t3
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c224_i32 : BitVec 32 := 224#32
  let v1467 : BitVec 32 := Scalar.addi v1377 c224_i32
  let v1468 : BitVec 32 := v1467
  let v1469 : Index := Scalar.indexCast v1468
  ![v1469.toNat]

def k0_chk48 (v1471 : IVec S16 32) : Prop :=
  (∀ a x, ((![v1471] : Fin 1 → IVec S16 32) a x).toNat < S16128.size a)
theorem k0_idx48_inb : ∀ (v1471 : IVec S16 32) (k0_hw48 : k0_chk48 v1471), ∀ a x, ((![v1471] : Fin 1 → IVec S16 32) a x).toNat < S16128.size a := fun v1471 k0_hw48 => k0_hw48
def k0_mult59 (k0_t3 : Fin k0_t3_loop.trips) : BitVec 32 :=
  let c0_i32_624 : BitVec 32 := 0#32
  let c0_i32_401 : BitVec 32 := 0#32
  let c1_i32_403 : BitVec 32 := 1#32
  let arg20 : BitVec 32 := Scf.iv c0_i32_401 c1_i32_403 k0_t3
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c240_i32 : BitVec 32 := 240#32
  let v1473 : BitVec 32 := Scalar.addi v1377 c240_i32
  v1473
def k0_off50 (k0_t3 : Fin k0_t3_loop.trips) : Fin 1 → Nat :=
  let c0_i32_624 : BitVec 32 := 0#32
  let c0_i32_401 : BitVec 32 := 0#32
  let c1_i32_403 : BitVec 32 := 1#32
  let arg20 : BitVec 32 := Scf.iv c0_i32_401 c1_i32_403 k0_t3
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c240_i32 : BitVec 32 := 240#32
  let v1473 : BitVec 32 := Scalar.addi v1377 c240_i32
  let v1474 : BitVec 32 := v1473
  let v1475 : Index := Scalar.indexCast v1474
  ![v1475.toNat]
def k0_mult60 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32 : BitVec 32 := 0#32
  let v3 : BitVec 32 := Scalar.addi v2 c0_i32
  let c1984_i32 : BitVec 32 := 1984#32
  let v266 : BitVec 32 := Scalar.muli v3 c1984_i32
  let c256_i32_136 : BitVec 32 := 256#32
  let v267 : BitVec 32 := Scalar.muli v266 c256_i32_136
  let c2_i32_405 : BitVec 32 := 2#32
  let c0_i32_407 : BitVec 32 := 0#32
  let v903 : BitVec 1 := Scalar.cmpi .sgt c2_i32_405 c0_i32_407
  let v904 : BitVec 32 := Scalar.extui v903
  let c0_i32_408 : BitVec 32 := 0#32
  let v905 : BitVec 1 := Scalar.cmpi .slt c2_i32_405 c0_i32_408
  let v906 : BitVec 32 := Scalar.extui v905
  let v907 : BitVec 32 := Scalar.subi v904 v906
  let c2_i32_406 : BitVec 32 := 2#32
  let c0_i32_409 : BitVec 32 := 0#32
  let v908 : BitVec 1 := Scalar.cmpi .sgt c2_i32_406 c0_i32_409
  let v909 : BitVec 32 := Scalar.extui v908
  let c0_i32_410 : BitVec 32 := 0#32
  let v910 : BitVec 1 := Scalar.cmpi .slt c2_i32_406 c0_i32_410
  let v911 : BitVec 32 := Scalar.extui v910
  let v912 : BitVec 32 := Scalar.subi v909 v911
  let v913 : BitVec 1 := Scalar.cmpi .ne v907 v912
  let v914 : BitVec 32 := Scalar.remsi c2_i32_405 c2_i32_406
  let c0_i32_411 : BitVec 32 := 0#32
  let v915 : BitVec 1 := Scalar.cmpi .ne v914 c0_i32_411
  let v916 : BitVec 1 := Scalar.andi v913 v915
  let v902 : BitVec 32 := Scalar.divsi c2_i32_405 c2_i32_406
  let c1_i32_412 : BitVec 32 := 1#32
  let v917 : BitVec 32 := Scalar.subi v902 c1_i32_412
  let v918 : BitVec 32 := Scalar.select v916 v917 v902
  let c15872_i32_413 : BitVec 32 := 15872#32
  let v919 : BitVec 32 := Scalar.muli v918 c15872_i32_413
  let v920 : BitVec 32 := Scalar.addi v267 v919
  v920
def k0_mult61 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32 : BitVec 32 := 0#32
  let v3 : BitVec 32 := Scalar.addi v2 c0_i32
  let c2048_i32 : BitVec 32 := 2048#32
  let v258 : BitVec 32 := Scalar.muli v3 c2048_i32
  let c63_i32 : BitVec 32 := 63#32
  let v130 : BitVec 1 := Scalar.cmpi .eq v3 c63_i32
  let c1763_i32 : BitVec 32 := 1763#32
  let c62_i32 : BitVec 32 := 62#32
  let v128 : BitVec 1 := Scalar.cmpi .eq v3 c62_i32
  let c1196_i32 : BitVec 32 := 1196#32
  let c61_i32 : BitVec 32 := 61#32
  let v126 : BitVec 1 := Scalar.cmpi .eq v3 c61_i32
  let c722_i32 : BitVec 32 := 722#32
  let c60_i32 : BitVec 32 := 60#32
  let v124 : BitVec 1 := Scalar.cmpi .eq v3 c60_i32
  let c3132_i32 : BitVec 32 := 3132#32
  let c59_i32 : BitVec 32 := 59#32
  let v122 : BitVec 1 := Scalar.cmpi .eq v3 c59_i32
  let c2263_i32 : BitVec 32 := 2263#32
  let c58_i32 : BitVec 32 := 58#32
  let v120 : BitVec 1 := Scalar.cmpi .eq v3 c58_i32
  let c7228_i32 : BitVec 32 := 7228#32
  let c57_i32 : BitVec 32 := 57#32
  let v118 : BitVec 1 := Scalar.cmpi .eq v3 c57_i32
  let c6147_i32 : BitVec 32 := 6147#32
  let c56_i32_4 : BitVec 32 := 56#32
  let v116 : BitVec 1 := Scalar.cmpi .eq v3 c56_i32_4
  let c5257_i32 : BitVec 32 := 5257#32
  let c55_i32 : BitVec 32 := 55#32
  let v114 : BitVec 1 := Scalar.cmpi .eq v3 c55_i32
  let c2687_i32 : BitVec 32 := 2687#32
  let c54_i32 : BitVec 32 := 54#32
  let v112 : BitVec 1 := Scalar.cmpi .eq v3 c54_i32
  let c3913_i32 : BitVec 32 := 3913#32
  let c53_i32 : BitVec 32 := 53#32
  let v110 : BitVec 1 := Scalar.cmpi .eq v3 c53_i32
  let c1765_i32 : BitVec 32 := 1765#32
  let c52_i32 : BitVec 32 := 52#32
  let v108 : BitVec 1 := Scalar.cmpi .eq v3 c52_i32
  let c572_i32 : BitVec 32 := 572#32
  let c51_i32 : BitVec 32 := 51#32
  let v106 : BitVec 1 := Scalar.cmpi .eq v3 c51_i32
  let c5479_i32 : BitVec 32 := 5479#32
  let c50_i32 : BitVec 32 := 50#32
  let v104 : BitVec 1 := Scalar.cmpi .eq v3 c50_i32
  let c7351_i32 : BitVec 32 := 7351#32
  let c49_i32 : BitVec 32 := 49#32
  let v102 : BitVec 1 := Scalar.cmpi .eq v3 c49_i32
  let c593_i32 : BitVec 32 := 593#32
  let c48_i32 : BitVec 32 := 48#32
  let v100 : BitVec 1 := Scalar.cmpi .eq v3 c48_i32
  let c7487_i32 : BitVec 32 := 7487#32
  let c47_i32 : BitVec 32 := 47#32
  let v98 : BitVec 1 := Scalar.cmpi .eq v3 c47_i32
  let c3618_i32 : BitVec 32 := 3618#32
  let c46_i32 : BitVec 32 := 46#32
  let v96 : BitVec 1 := Scalar.cmpi .eq v3 c46_i32
  let c6125_i32 : BitVec 32 := 6125#32
  let c45_i32 : BitVec 32 := 45#32
  let v94 : BitVec 1 := Scalar.cmpi .eq v3 c45_i32
  let c2834_i32 : BitVec 32 := 2834#32
  let c44_i32 : BitVec 32 := 44#32
  let v92 : BitVec 1 := Scalar.cmpi .eq v3 c44_i32
  let c4871_i32 : BitVec 32 := 4871#32
  let c43_i32 : BitVec 32 := 43#32
  let v90 : BitVec 1 := Scalar.cmpi .eq v3 c43_i32
  let c1936_i32 : BitVec 32 := 1936#32
  let c42_i32 : BitVec 32 := 42#32
  let v88 : BitVec 1 := Scalar.cmpi .eq v3 c42_i32
  let c2914_i32 : BitVec 32 := 2914#32
  let c41_i32 : BitVec 32 := 41#32
  let v86 : BitVec 1 := Scalar.cmpi .eq v3 c41_i32
  let c3866_i32 : BitVec 32 := 3866#32
  let c40_i32 : BitVec 32 := 40#32
  let v84 : BitVec 1 := Scalar.cmpi .eq v3 c40_i32
  let c1846_i32 : BitVec 32 := 1846#32
  let c39_i32 : BitVec 32 := 39#32
  let v82 : BitVec 1 := Scalar.cmpi .eq v3 c39_i32
  let c7714_i32 : BitVec 32 := 7714#32
  let c38_i32 : BitVec 32 := 38#32
  let v80 : BitVec 1 := Scalar.cmpi .eq v3 c38_i32
  let c3980_i32 : BitVec 32 := 3980#32
  let c37_i32 : BitVec 32 := 37#32
  let v78 : BitVec 1 := Scalar.cmpi .eq v3 c37_i32
  let c6570_i32 : BitVec 32 := 6570#32
  let c36_i32 : BitVec 32 := 36#32
  let v76 : BitVec 1 := Scalar.cmpi .eq v3 c36_i32
  let c2937_i32 : BitVec 32 := 2937#32
  let c35_i32 : BitVec 32 := 35#32
  let v74 : BitVec 1 := Scalar.cmpi .eq v3 c35_i32
  let c1105_i32 : BitVec 32 := 1105#32
  let c34_i32 : BitVec 32 := 34#32
  let v72 : BitVec 1 := Scalar.cmpi .eq v3 c34_i32
  let c5685_i32 : BitVec 32 := 5685#32
  let c33_i32 : BitVec 32 := 33#32
  let v70 : BitVec 1 := Scalar.cmpi .eq v3 c33_i32
  let c1851_i32 : BitVec 32 := 1851#32
  let c32_i32 : BitVec 32 := 32#32
  let v68 : BitVec 1 := Scalar.cmpi .eq v3 c32_i32
  let c2835_i32 : BitVec 32 := 2835#32
  let c31_i32 : BitVec 32 := 31#32
  let v66 : BitVec 1 := Scalar.cmpi .eq v3 c31_i32
  let c6151_i32 : BitVec 32 := 6151#32
  let c30_i32 : BitVec 32 := 30#32
  let v64 : BitVec 1 := Scalar.cmpi .eq v3 c30_i32
  let c2916_i32 : BitVec 32 := 2916#32
  let c29_i32 : BitVec 32 := 29#32
  let v62 : BitVec 1 := Scalar.cmpi .eq v3 c29_i32
  let c4806_i32 : BitVec 32 := 4806#32
  let c28_i32 : BitVec 32 := 28#32
  let v60 : BitVec 1 := Scalar.cmpi .eq v3 c28_i32
  let c2760_i32 : BitVec 32 := 2760#32
  let c27_i32 : BitVec 32 := 27#32
  let v58 : BitVec 1 := Scalar.cmpi .eq v3 c27_i32
  let c2339_i32 : BitVec 32 := 2339#32
  let c26_i32 : BitVec 32 := 26#32
  let v56 : BitVec 1 := Scalar.cmpi .eq v3 c26_i32
  let c5978_i32 : BitVec 32 := 5978#32
  let c25_i32 : BitVec 32 := 25#32
  let v54 : BitVec 1 := Scalar.cmpi .eq v3 c25_i32
  let c6943_i32 : BitVec 32 := 6943#32
  let c24_i32 : BitVec 32 := 24#32
  let v52 : BitVec 1 := Scalar.cmpi .eq v3 c24_i32
  let c7654_i32 : BitVec 32 := 7654#32
  let c23_i32 : BitVec 32 := 23#32
  let v50 : BitVec 1 := Scalar.cmpi .eq v3 c23_i32
  let c3018_i32 : BitVec 32 := 3018#32
  let c22_i32 : BitVec 32 := 22#32
  let v48 : BitVec 1 := Scalar.cmpi .eq v3 c22_i32
  let c56_i32 : BitVec 32 := 56#32
  let c21_i32 : BitVec 32 := 21#32
  let v46 : BitVec 1 := Scalar.cmpi .eq v3 c21_i32
  let c5652_i32 : BitVec 32 := 5652#32
  let c20_i32 : BitVec 32 := 20#32
  let v44 : BitVec 1 := Scalar.cmpi .eq v3 c20_i32
  let c6840_i32 : BitVec 32 := 6840#32
  let c19_i32 : BitVec 32 := 19#32
  let v42 : BitVec 1 := Scalar.cmpi .eq v3 c19_i32
  let c4026_i32 : BitVec 32 := 4026#32
  let c18_i32 : BitVec 32 := 18#32
  let v40 : BitVec 1 := Scalar.cmpi .eq v3 c18_i32
  let c91_i32 : BitVec 32 := 91#32
  let c17_i32 : BitVec 32 := 17#32
  let v38 : BitVec 1 := Scalar.cmpi .eq v3 c17_i32
  let c7767_i32 : BitVec 32 := 7767#32
  let c16_i32 : BitVec 32 := 16#32
  let v36 : BitVec 1 := Scalar.cmpi .eq v3 c16_i32
  let c4241_i32 : BitVec 32 := 4241#32
  let c15_i32 : BitVec 32 := 15#32
  let v34 : BitVec 1 := Scalar.cmpi .eq v3 c15_i32
  let c6170_i32 : BitVec 32 := 6170#32
  let c14_i32 : BitVec 32 := 14#32
  let v32 : BitVec 1 := Scalar.cmpi .eq v3 c14_i32
  let c8174_i32 : BitVec 32 := 8174#32
  let c13_i32 : BitVec 32 := 13#32
  let v30 : BitVec 1 := Scalar.cmpi .eq v3 c13_i32
  let c1378_i32 : BitVec 32 := 1378#32
  let c12_i32 : BitVec 32 := 12#32
  let v28 : BitVec 1 := Scalar.cmpi .eq v3 c12_i32
  let c2562_i32 : BitVec 32 := 2562#32
  let c11_i32 : BitVec 32 := 11#32
  let v26 : BitVec 1 := Scalar.cmpi .eq v3 c11_i32
  let c4161_i32 : BitVec 32 := 4161#32
  let c10_i32 : BitVec 32 := 10#32
  let v24 : BitVec 1 := Scalar.cmpi .eq v3 c10_i32
  let c6176_i32 : BitVec 32 := 6176#32
  let c9_i32 : BitVec 32 := 9#32
  let v22 : BitVec 1 := Scalar.cmpi .eq v3 c9_i32
  let c2818_i32 : BitVec 32 := 2818#32
  let c8_i32 : BitVec 32 := 8#32
  let v20 : BitVec 1 := Scalar.cmpi .eq v3 c8_i32
  let c5970_i32 : BitVec 32 := 5970#32
  let c7_i32 : BitVec 32 := 7#32
  let v18 : BitVec 1 := Scalar.cmpi .eq v3 c7_i32
  let c7573_i32 : BitVec 32 := 7573#32
  let c6_i32 : BitVec 32 := 6#32
  let v16 : BitVec 1 := Scalar.cmpi .eq v3 c6_i32
  let c3350_i32 : BitVec 32 := 3350#32
  let c5_i32 : BitVec 32 := 5#32
  let v14 : BitVec 1 := Scalar.cmpi .eq v3 c5_i32
  let c4780_i32 : BitVec 32 := 4780#32
  let c4_i32 : BitVec 32 := 4#32
  let v12 : BitVec 1 := Scalar.cmpi .eq v3 c4_i32
  let c6560_i32 : BitVec 32 := 6560#32
  let c3_i32 : BitVec 32 := 3#32
  let v10 : BitVec 1 := Scalar.cmpi .eq v3 c3_i32
  let c7017_i32 : BitVec 32 := 7017#32
  let c2_i32_3 : BitVec 32 := 2#32
  let v8 : BitVec 1 := Scalar.cmpi .eq v3 c2_i32_3
  let c736_i32 : BitVec 32 := 736#32
  let c1_i32_2 : BitVec 32 := 1#32
  let v6 : BitVec 1 := Scalar.cmpi .eq v3 c1_i32_2
  let c943_i32 : BitVec 32 := 943#32
  let c7932_i32 : BitVec 32 := 7932#32
  let v7 : BitVec 32 := Scalar.select v6 c943_i32 c7932_i32
  let v9 : BitVec 32 := Scalar.select v8 c736_i32 v7
  let v11 : BitVec 32 := Scalar.select v10 c7017_i32 v9
  let v13 : BitVec 32 := Scalar.select v12 c6560_i32 v11
  let v15 : BitVec 32 := Scalar.select v14 c4780_i32 v13
  let v17 : BitVec 32 := Scalar.select v16 c3350_i32 v15
  let v19 : BitVec 32 := Scalar.select v18 c7573_i32 v17
  let v21 : BitVec 32 := Scalar.select v20 c5970_i32 v19
  let v23 : BitVec 32 := Scalar.select v22 c2818_i32 v21
  let v25 : BitVec 32 := Scalar.select v24 c6176_i32 v23
  let v27 : BitVec 32 := Scalar.select v26 c4161_i32 v25
  let v29 : BitVec 32 := Scalar.select v28 c2562_i32 v27
  let v31 : BitVec 32 := Scalar.select v30 c1378_i32 v29
  let v33 : BitVec 32 := Scalar.select v32 c8174_i32 v31
  let v35 : BitVec 32 := Scalar.select v34 c6170_i32 v33
  let v37 : BitVec 32 := Scalar.select v36 c4241_i32 v35
  let v39 : BitVec 32 := Scalar.select v38 c7767_i32 v37
  let v41 : BitVec 32 := Scalar.select v40 c91_i32 v39
  let v43 : BitVec 32 := Scalar.select v42 c4026_i32 v41
  let v45 : BitVec 32 := Scalar.select v44 c6840_i32 v43
  let v47 : BitVec 32 := Scalar.select v46 c5652_i32 v45
  let v49 : BitVec 32 := Scalar.select v48 c56_i32 v47
  let v51 : BitVec 32 := Scalar.select v50 c3018_i32 v49
  let v53 : BitVec 32 := Scalar.select v52 c7654_i32 v51
  let v55 : BitVec 32 := Scalar.select v54 c6943_i32 v53
  let v57 : BitVec 32 := Scalar.select v56 c5978_i32 v55
  let v59 : BitVec 32 := Scalar.select v58 c2339_i32 v57
  let v61 : BitVec 32 := Scalar.select v60 c2760_i32 v59
  let v63 : BitVec 32 := Scalar.select v62 c4806_i32 v61
  let v65 : BitVec 32 := Scalar.select v64 c2916_i32 v63
  let v67 : BitVec 32 := Scalar.select v66 c6151_i32 v65
  let v69 : BitVec 32 := Scalar.select v68 c2835_i32 v67
  let v71 : BitVec 32 := Scalar.select v70 c1851_i32 v69
  let v73 : BitVec 32 := Scalar.select v72 c5685_i32 v71
  let v75 : BitVec 32 := Scalar.select v74 c1105_i32 v73
  let v77 : BitVec 32 := Scalar.select v76 c2937_i32 v75
  let v79 : BitVec 32 := Scalar.select v78 c6570_i32 v77
  let v81 : BitVec 32 := Scalar.select v80 c3980_i32 v79
  let v83 : BitVec 32 := Scalar.select v82 c7714_i32 v81
  let v85 : BitVec 32 := Scalar.select v84 c1846_i32 v83
  let v87 : BitVec 32 := Scalar.select v86 c3866_i32 v85
  let v89 : BitVec 32 := Scalar.select v88 c2914_i32 v87
  let v91 : BitVec 32 := Scalar.select v90 c1936_i32 v89
  let v93 : BitVec 32 := Scalar.select v92 c4871_i32 v91
  let v95 : BitVec 32 := Scalar.select v94 c2834_i32 v93
  let v97 : BitVec 32 := Scalar.select v96 c6125_i32 v95
  let v99 : BitVec 32 := Scalar.select v98 c3618_i32 v97
  let v101 : BitVec 32 := Scalar.select v100 c7487_i32 v99
  let v103 : BitVec 32 := Scalar.select v102 c593_i32 v101
  let v105 : BitVec 32 := Scalar.select v104 c7351_i32 v103
  let v107 : BitVec 32 := Scalar.select v106 c5479_i32 v105
  let v109 : BitVec 32 := Scalar.select v108 c572_i32 v107
  let v111 : BitVec 32 := Scalar.select v110 c1765_i32 v109
  let v113 : BitVec 32 := Scalar.select v112 c3913_i32 v111
  let v115 : BitVec 32 := Scalar.select v114 c2687_i32 v113
  let v117 : BitVec 32 := Scalar.select v116 c5257_i32 v115
  let v119 : BitVec 32 := Scalar.select v118 c6147_i32 v117
  let v121 : BitVec 32 := Scalar.select v120 c7228_i32 v119
  let v123 : BitVec 32 := Scalar.select v122 c2263_i32 v121
  let v125 : BitVec 32 := Scalar.select v124 c3132_i32 v123
  let v127 : BitVec 32 := Scalar.select v126 c722_i32 v125
  let v129 : BitVec 32 := Scalar.select v128 c1196_i32 v127
  let v131 : BitVec 32 := Scalar.select v130 c1763_i32 v129
  let c7_i32_132 : BitVec 32 := 7#32
  let v259 : BitVec 32 := Scalar.shrsi v131 c7_i32_132
  let v260 : BitVec 32 := Scalar.addi v258 v259
  let c256_i32 : BitVec 32 := 256#32
  let v261 : BitVec 32 := Scalar.muli v260 c256_i32
  let c6_i32_414 : BitVec 32 := 6#32
  let c0_i32_416 : BitVec 32 := 0#32
  let v925 : BitVec 1 := Scalar.cmpi .sgt c6_i32_414 c0_i32_416
  let v926 : BitVec 32 := Scalar.extui v925
  let c0_i32_417 : BitVec 32 := 0#32
  let v927 : BitVec 1 := Scalar.cmpi .slt c6_i32_414 c0_i32_417
  let v928 : BitVec 32 := Scalar.extui v927
  let v929 : BitVec 32 := Scalar.subi v926 v928
  let c2_i32_415 : BitVec 32 := 2#32
  let c0_i32_418 : BitVec 32 := 0#32
  let v930 : BitVec 1 := Scalar.cmpi .sgt c2_i32_415 c0_i32_418
  let v931 : BitVec 32 := Scalar.extui v930
  let c0_i32_419 : BitVec 32 := 0#32
  let v932 : BitVec 1 := Scalar.cmpi .slt c2_i32_415 c0_i32_419
  let v933 : BitVec 32 := Scalar.extui v932
  let v934 : BitVec 32 := Scalar.subi v931 v933
  let v935 : BitVec 1 := Scalar.cmpi .ne v929 v934
  let v936 : BitVec 32 := Scalar.remsi c6_i32_414 c2_i32_415
  let c0_i32_420 : BitVec 32 := 0#32
  let v937 : BitVec 1 := Scalar.cmpi .ne v936 c0_i32_420
  let v938 : BitVec 1 := Scalar.andi v935 v937
  let v924 : BitVec 32 := Scalar.divsi c6_i32_414 c2_i32_415
  let c1_i32_421 : BitVec 32 := 1#32
  let v939 : BitVec 32 := Scalar.subi v924 c1_i32_421
  let v940 : BitVec 32 := Scalar.select v938 v939 v924
  let c15872_i32_422 : BitVec 32 := 15872#32
  let v941 : BitVec 32 := Scalar.muli v940 c15872_i32_422
  let v942 : BitVec 32 := Scalar.addi v261 v941
  v942
def k0_mult62 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_1 : BitVec 32 := 2#32
  let v4 : BitVec 32 := Scalar.muli v1 c2_i32_1
  let c1_i32 : BitVec 32 := 1#32
  let v5 : BitVec 32 := Scalar.addi v4 c1_i32
  let c2048_i32_133 : BitVec 32 := 2048#32
  let v262 : BitVec 32 := Scalar.muli v5 c2048_i32_133
  let c63_i32_130 : BitVec 32 := 63#32
  let v256 : BitVec 1 := Scalar.cmpi .eq v5 c63_i32_130
  let c1763_i32_131 : BitVec 32 := 1763#32
  let c62_i32_128 : BitVec 32 := 62#32
  let v254 : BitVec 1 := Scalar.cmpi .eq v5 c62_i32_128
  let c1196_i32_129 : BitVec 32 := 1196#32
  let c61_i32_126 : BitVec 32 := 61#32
  let v252 : BitVec 1 := Scalar.cmpi .eq v5 c61_i32_126
  let c722_i32_127 : BitVec 32 := 722#32
  let c60_i32_124 : BitVec 32 := 60#32
  let v250 : BitVec 1 := Scalar.cmpi .eq v5 c60_i32_124
  let c3132_i32_125 : BitVec 32 := 3132#32
  let c59_i32_122 : BitVec 32 := 59#32
  let v248 : BitVec 1 := Scalar.cmpi .eq v5 c59_i32_122
  let c2263_i32_123 : BitVec 32 := 2263#32
  let c58_i32_120 : BitVec 32 := 58#32
  let v246 : BitVec 1 := Scalar.cmpi .eq v5 c58_i32_120
  let c7228_i32_121 : BitVec 32 := 7228#32
  let c57_i32_118 : BitVec 32 := 57#32
  let v244 : BitVec 1 := Scalar.cmpi .eq v5 c57_i32_118
  let c6147_i32_119 : BitVec 32 := 6147#32
  let c56_i32_116 : BitVec 32 := 56#32
  let v242 : BitVec 1 := Scalar.cmpi .eq v5 c56_i32_116
  let c5257_i32_117 : BitVec 32 := 5257#32
  let c55_i32_114 : BitVec 32 := 55#32
  let v240 : BitVec 1 := Scalar.cmpi .eq v5 c55_i32_114
  let c2687_i32_115 : BitVec 32 := 2687#32
  let c54_i32_112 : BitVec 32 := 54#32
  let v238 : BitVec 1 := Scalar.cmpi .eq v5 c54_i32_112
  let c3913_i32_113 : BitVec 32 := 3913#32
  let c53_i32_110 : BitVec 32 := 53#32
  let v236 : BitVec 1 := Scalar.cmpi .eq v5 c53_i32_110
  let c1765_i32_111 : BitVec 32 := 1765#32
  let c52_i32_108 : BitVec 32 := 52#32
  let v234 : BitVec 1 := Scalar.cmpi .eq v5 c52_i32_108
  let c572_i32_109 : BitVec 32 := 572#32
  let c51_i32_106 : BitVec 32 := 51#32
  let v232 : BitVec 1 := Scalar.cmpi .eq v5 c51_i32_106
  let c5479_i32_107 : BitVec 32 := 5479#32
  let c50_i32_104 : BitVec 32 := 50#32
  let v230 : BitVec 1 := Scalar.cmpi .eq v5 c50_i32_104
  let c7351_i32_105 : BitVec 32 := 7351#32
  let c49_i32_102 : BitVec 32 := 49#32
  let v228 : BitVec 1 := Scalar.cmpi .eq v5 c49_i32_102
  let c593_i32_103 : BitVec 32 := 593#32
  let c48_i32_100 : BitVec 32 := 48#32
  let v226 : BitVec 1 := Scalar.cmpi .eq v5 c48_i32_100
  let c7487_i32_101 : BitVec 32 := 7487#32
  let c47_i32_98 : BitVec 32 := 47#32
  let v224 : BitVec 1 := Scalar.cmpi .eq v5 c47_i32_98
  let c3618_i32_99 : BitVec 32 := 3618#32
  let c46_i32_96 : BitVec 32 := 46#32
  let v222 : BitVec 1 := Scalar.cmpi .eq v5 c46_i32_96
  let c6125_i32_97 : BitVec 32 := 6125#32
  let c45_i32_94 : BitVec 32 := 45#32
  let v220 : BitVec 1 := Scalar.cmpi .eq v5 c45_i32_94
  let c2834_i32_95 : BitVec 32 := 2834#32
  let c44_i32_92 : BitVec 32 := 44#32
  let v218 : BitVec 1 := Scalar.cmpi .eq v5 c44_i32_92
  let c4871_i32_93 : BitVec 32 := 4871#32
  let c43_i32_90 : BitVec 32 := 43#32
  let v216 : BitVec 1 := Scalar.cmpi .eq v5 c43_i32_90
  let c1936_i32_91 : BitVec 32 := 1936#32
  let c42_i32_88 : BitVec 32 := 42#32
  let v214 : BitVec 1 := Scalar.cmpi .eq v5 c42_i32_88
  let c2914_i32_89 : BitVec 32 := 2914#32
  let c41_i32_86 : BitVec 32 := 41#32
  let v212 : BitVec 1 := Scalar.cmpi .eq v5 c41_i32_86
  let c3866_i32_87 : BitVec 32 := 3866#32
  let c40_i32_84 : BitVec 32 := 40#32
  let v210 : BitVec 1 := Scalar.cmpi .eq v5 c40_i32_84
  let c1846_i32_85 : BitVec 32 := 1846#32
  let c39_i32_82 : BitVec 32 := 39#32
  let v208 : BitVec 1 := Scalar.cmpi .eq v5 c39_i32_82
  let c7714_i32_83 : BitVec 32 := 7714#32
  let c38_i32_80 : BitVec 32 := 38#32
  let v206 : BitVec 1 := Scalar.cmpi .eq v5 c38_i32_80
  let c3980_i32_81 : BitVec 32 := 3980#32
  let c37_i32_78 : BitVec 32 := 37#32
  let v204 : BitVec 1 := Scalar.cmpi .eq v5 c37_i32_78
  let c6570_i32_79 : BitVec 32 := 6570#32
  let c36_i32_76 : BitVec 32 := 36#32
  let v202 : BitVec 1 := Scalar.cmpi .eq v5 c36_i32_76
  let c2937_i32_77 : BitVec 32 := 2937#32
  let c35_i32_74 : BitVec 32 := 35#32
  let v200 : BitVec 1 := Scalar.cmpi .eq v5 c35_i32_74
  let c1105_i32_75 : BitVec 32 := 1105#32
  let c34_i32_72 : BitVec 32 := 34#32
  let v198 : BitVec 1 := Scalar.cmpi .eq v5 c34_i32_72
  let c5685_i32_73 : BitVec 32 := 5685#32
  let c33_i32_70 : BitVec 32 := 33#32
  let v196 : BitVec 1 := Scalar.cmpi .eq v5 c33_i32_70
  let c1851_i32_71 : BitVec 32 := 1851#32
  let c32_i32_68 : BitVec 32 := 32#32
  let v194 : BitVec 1 := Scalar.cmpi .eq v5 c32_i32_68
  let c2835_i32_69 : BitVec 32 := 2835#32
  let c31_i32_66 : BitVec 32 := 31#32
  let v192 : BitVec 1 := Scalar.cmpi .eq v5 c31_i32_66
  let c6151_i32_67 : BitVec 32 := 6151#32
  let c30_i32_64 : BitVec 32 := 30#32
  let v190 : BitVec 1 := Scalar.cmpi .eq v5 c30_i32_64
  let c2916_i32_65 : BitVec 32 := 2916#32
  let c29_i32_62 : BitVec 32 := 29#32
  let v188 : BitVec 1 := Scalar.cmpi .eq v5 c29_i32_62
  let c4806_i32_63 : BitVec 32 := 4806#32
  let c28_i32_60 : BitVec 32 := 28#32
  let v186 : BitVec 1 := Scalar.cmpi .eq v5 c28_i32_60
  let c2760_i32_61 : BitVec 32 := 2760#32
  let c27_i32_58 : BitVec 32 := 27#32
  let v184 : BitVec 1 := Scalar.cmpi .eq v5 c27_i32_58
  let c2339_i32_59 : BitVec 32 := 2339#32
  let c26_i32_56 : BitVec 32 := 26#32
  let v182 : BitVec 1 := Scalar.cmpi .eq v5 c26_i32_56
  let c5978_i32_57 : BitVec 32 := 5978#32
  let c25_i32_54 : BitVec 32 := 25#32
  let v180 : BitVec 1 := Scalar.cmpi .eq v5 c25_i32_54
  let c6943_i32_55 : BitVec 32 := 6943#32
  let c24_i32_52 : BitVec 32 := 24#32
  let v178 : BitVec 1 := Scalar.cmpi .eq v5 c24_i32_52
  let c7654_i32_53 : BitVec 32 := 7654#32
  let c23_i32_50 : BitVec 32 := 23#32
  let v176 : BitVec 1 := Scalar.cmpi .eq v5 c23_i32_50
  let c3018_i32_51 : BitVec 32 := 3018#32
  let c22_i32_48 : BitVec 32 := 22#32
  let v174 : BitVec 1 := Scalar.cmpi .eq v5 c22_i32_48
  let c56_i32_49 : BitVec 32 := 56#32
  let c21_i32_46 : BitVec 32 := 21#32
  let v172 : BitVec 1 := Scalar.cmpi .eq v5 c21_i32_46
  let c5652_i32_47 : BitVec 32 := 5652#32
  let c20_i32_44 : BitVec 32 := 20#32
  let v170 : BitVec 1 := Scalar.cmpi .eq v5 c20_i32_44
  let c6840_i32_45 : BitVec 32 := 6840#32
  let c19_i32_42 : BitVec 32 := 19#32
  let v168 : BitVec 1 := Scalar.cmpi .eq v5 c19_i32_42
  let c4026_i32_43 : BitVec 32 := 4026#32
  let c18_i32_40 : BitVec 32 := 18#32
  let v166 : BitVec 1 := Scalar.cmpi .eq v5 c18_i32_40
  let c91_i32_41 : BitVec 32 := 91#32
  let c17_i32_38 : BitVec 32 := 17#32
  let v164 : BitVec 1 := Scalar.cmpi .eq v5 c17_i32_38
  let c7767_i32_39 : BitVec 32 := 7767#32
  let c16_i32_36 : BitVec 32 := 16#32
  let v162 : BitVec 1 := Scalar.cmpi .eq v5 c16_i32_36
  let c4241_i32_37 : BitVec 32 := 4241#32
  let c15_i32_34 : BitVec 32 := 15#32
  let v160 : BitVec 1 := Scalar.cmpi .eq v5 c15_i32_34
  let c6170_i32_35 : BitVec 32 := 6170#32
  let c14_i32_32 : BitVec 32 := 14#32
  let v158 : BitVec 1 := Scalar.cmpi .eq v5 c14_i32_32
  let c8174_i32_33 : BitVec 32 := 8174#32
  let c13_i32_30 : BitVec 32 := 13#32
  let v156 : BitVec 1 := Scalar.cmpi .eq v5 c13_i32_30
  let c1378_i32_31 : BitVec 32 := 1378#32
  let c12_i32_28 : BitVec 32 := 12#32
  let v154 : BitVec 1 := Scalar.cmpi .eq v5 c12_i32_28
  let c2562_i32_29 : BitVec 32 := 2562#32
  let c11_i32_26 : BitVec 32 := 11#32
  let v152 : BitVec 1 := Scalar.cmpi .eq v5 c11_i32_26
  let c4161_i32_27 : BitVec 32 := 4161#32
  let c10_i32_24 : BitVec 32 := 10#32
  let v150 : BitVec 1 := Scalar.cmpi .eq v5 c10_i32_24
  let c6176_i32_25 : BitVec 32 := 6176#32
  let c9_i32_22 : BitVec 32 := 9#32
  let v148 : BitVec 1 := Scalar.cmpi .eq v5 c9_i32_22
  let c2818_i32_23 : BitVec 32 := 2818#32
  let c8_i32_20 : BitVec 32 := 8#32
  let v146 : BitVec 1 := Scalar.cmpi .eq v5 c8_i32_20
  let c5970_i32_21 : BitVec 32 := 5970#32
  let c7_i32_18 : BitVec 32 := 7#32
  let v144 : BitVec 1 := Scalar.cmpi .eq v5 c7_i32_18
  let c7573_i32_19 : BitVec 32 := 7573#32
  let c6_i32_16 : BitVec 32 := 6#32
  let v142 : BitVec 1 := Scalar.cmpi .eq v5 c6_i32_16
  let c3350_i32_17 : BitVec 32 := 3350#32
  let c5_i32_14 : BitVec 32 := 5#32
  let v140 : BitVec 1 := Scalar.cmpi .eq v5 c5_i32_14
  let c4780_i32_15 : BitVec 32 := 4780#32
  let c4_i32_12 : BitVec 32 := 4#32
  let v138 : BitVec 1 := Scalar.cmpi .eq v5 c4_i32_12
  let c6560_i32_13 : BitVec 32 := 6560#32
  let c3_i32_10 : BitVec 32 := 3#32
  let v136 : BitVec 1 := Scalar.cmpi .eq v5 c3_i32_10
  let c7017_i32_11 : BitVec 32 := 7017#32
  let c2_i32_8 : BitVec 32 := 2#32
  let v134 : BitVec 1 := Scalar.cmpi .eq v5 c2_i32_8
  let c736_i32_9 : BitVec 32 := 736#32
  let c1_i32_5 : BitVec 32 := 1#32
  let v132 : BitVec 1 := Scalar.cmpi .eq v5 c1_i32_5
  let c943_i32_7 : BitVec 32 := 943#32
  let c7932_i32_6 : BitVec 32 := 7932#32
  let v133 : BitVec 32 := Scalar.select v132 c943_i32_7 c7932_i32_6
  let v135 : BitVec 32 := Scalar.select v134 c736_i32_9 v133
  let v137 : BitVec 32 := Scalar.select v136 c7017_i32_11 v135
  let v139 : BitVec 32 := Scalar.select v138 c6560_i32_13 v137
  let v141 : BitVec 32 := Scalar.select v140 c4780_i32_15 v139
  let v143 : BitVec 32 := Scalar.select v142 c3350_i32_17 v141
  let v145 : BitVec 32 := Scalar.select v144 c7573_i32_19 v143
  let v147 : BitVec 32 := Scalar.select v146 c5970_i32_21 v145
  let v149 : BitVec 32 := Scalar.select v148 c2818_i32_23 v147
  let v151 : BitVec 32 := Scalar.select v150 c6176_i32_25 v149
  let v153 : BitVec 32 := Scalar.select v152 c4161_i32_27 v151
  let v155 : BitVec 32 := Scalar.select v154 c2562_i32_29 v153
  let v157 : BitVec 32 := Scalar.select v156 c1378_i32_31 v155
  let v159 : BitVec 32 := Scalar.select v158 c8174_i32_33 v157
  let v161 : BitVec 32 := Scalar.select v160 c6170_i32_35 v159
  let v163 : BitVec 32 := Scalar.select v162 c4241_i32_37 v161
  let v165 : BitVec 32 := Scalar.select v164 c7767_i32_39 v163
  let v167 : BitVec 32 := Scalar.select v166 c91_i32_41 v165
  let v169 : BitVec 32 := Scalar.select v168 c4026_i32_43 v167
  let v171 : BitVec 32 := Scalar.select v170 c6840_i32_45 v169
  let v173 : BitVec 32 := Scalar.select v172 c5652_i32_47 v171
  let v175 : BitVec 32 := Scalar.select v174 c56_i32_49 v173
  let v177 : BitVec 32 := Scalar.select v176 c3018_i32_51 v175
  let v179 : BitVec 32 := Scalar.select v178 c7654_i32_53 v177
  let v181 : BitVec 32 := Scalar.select v180 c6943_i32_55 v179
  let v183 : BitVec 32 := Scalar.select v182 c5978_i32_57 v181
  let v185 : BitVec 32 := Scalar.select v184 c2339_i32_59 v183
  let v187 : BitVec 32 := Scalar.select v186 c2760_i32_61 v185
  let v189 : BitVec 32 := Scalar.select v188 c4806_i32_63 v187
  let v191 : BitVec 32 := Scalar.select v190 c2916_i32_65 v189
  let v193 : BitVec 32 := Scalar.select v192 c6151_i32_67 v191
  let v195 : BitVec 32 := Scalar.select v194 c2835_i32_69 v193
  let v197 : BitVec 32 := Scalar.select v196 c1851_i32_71 v195
  let v199 : BitVec 32 := Scalar.select v198 c5685_i32_73 v197
  let v201 : BitVec 32 := Scalar.select v200 c1105_i32_75 v199
  let v203 : BitVec 32 := Scalar.select v202 c2937_i32_77 v201
  let v205 : BitVec 32 := Scalar.select v204 c6570_i32_79 v203
  let v207 : BitVec 32 := Scalar.select v206 c3980_i32_81 v205
  let v209 : BitVec 32 := Scalar.select v208 c7714_i32_83 v207
  let v211 : BitVec 32 := Scalar.select v210 c1846_i32_85 v209
  let v213 : BitVec 32 := Scalar.select v212 c3866_i32_87 v211
  let v215 : BitVec 32 := Scalar.select v214 c2914_i32_89 v213
  let v217 : BitVec 32 := Scalar.select v216 c1936_i32_91 v215
  let v219 : BitVec 32 := Scalar.select v218 c4871_i32_93 v217
  let v221 : BitVec 32 := Scalar.select v220 c2834_i32_95 v219
  let v223 : BitVec 32 := Scalar.select v222 c6125_i32_97 v221
  let v225 : BitVec 32 := Scalar.select v224 c3618_i32_99 v223
  let v227 : BitVec 32 := Scalar.select v226 c7487_i32_101 v225
  let v229 : BitVec 32 := Scalar.select v228 c593_i32_103 v227
  let v231 : BitVec 32 := Scalar.select v230 c7351_i32_105 v229
  let v233 : BitVec 32 := Scalar.select v232 c5479_i32_107 v231
  let v235 : BitVec 32 := Scalar.select v234 c572_i32_109 v233
  let v237 : BitVec 32 := Scalar.select v236 c1765_i32_111 v235
  let v239 : BitVec 32 := Scalar.select v238 c3913_i32_113 v237
  let v241 : BitVec 32 := Scalar.select v240 c2687_i32_115 v239
  let v243 : BitVec 32 := Scalar.select v242 c5257_i32_117 v241
  let v245 : BitVec 32 := Scalar.select v244 c6147_i32_119 v243
  let v247 : BitVec 32 := Scalar.select v246 c7228_i32_121 v245
  let v249 : BitVec 32 := Scalar.select v248 c2263_i32_123 v247
  let v251 : BitVec 32 := Scalar.select v250 c3132_i32_125 v249
  let v253 : BitVec 32 := Scalar.select v252 c722_i32_127 v251
  let v255 : BitVec 32 := Scalar.select v254 c1196_i32_129 v253
  let v257 : BitVec 32 := Scalar.select v256 c1763_i32_131 v255
  let c7_i32_134 : BitVec 32 := 7#32
  let v263 : BitVec 32 := Scalar.shrsi v257 c7_i32_134
  let v264 : BitVec 32 := Scalar.addi v262 v263
  let c256_i32_135 : BitVec 32 := 256#32
  let v265 : BitVec 32 := Scalar.muli v264 c256_i32_135
  let c3_i32_423 : BitVec 32 := 3#32
  let c0_i32_425 : BitVec 32 := 0#32
  let v947 : BitVec 1 := Scalar.cmpi .sgt c3_i32_423 c0_i32_425
  let v948 : BitVec 32 := Scalar.extui v947
  let c0_i32_426 : BitVec 32 := 0#32
  let v949 : BitVec 1 := Scalar.cmpi .slt c3_i32_423 c0_i32_426
  let v950 : BitVec 32 := Scalar.extui v949
  let v951 : BitVec 32 := Scalar.subi v948 v950
  let c2_i32_424 : BitVec 32 := 2#32
  let c0_i32_427 : BitVec 32 := 0#32
  let v952 : BitVec 1 := Scalar.cmpi .sgt c2_i32_424 c0_i32_427
  let v953 : BitVec 32 := Scalar.extui v952
  let c0_i32_428 : BitVec 32 := 0#32
  let v954 : BitVec 1 := Scalar.cmpi .slt c2_i32_424 c0_i32_428
  let v955 : BitVec 32 := Scalar.extui v954
  let v956 : BitVec 32 := Scalar.subi v953 v955
  let v957 : BitVec 1 := Scalar.cmpi .ne v951 v956
  let v958 : BitVec 32 := Scalar.remsi c3_i32_423 c2_i32_424
  let c0_i32_429 : BitVec 32 := 0#32
  let v959 : BitVec 1 := Scalar.cmpi .ne v958 c0_i32_429
  let v960 : BitVec 1 := Scalar.andi v957 v959
  let v946 : BitVec 32 := Scalar.divsi c3_i32_423 c2_i32_424
  let c1_i32_430 : BitVec 32 := 1#32
  let v961 : BitVec 32 := Scalar.subi v946 c1_i32_430
  let v962 : BitVec 32 := Scalar.select v960 v961 v946
  let c15872_i32_431 : BitVec 32 := 15872#32
  let v963 : BitVec 32 := Scalar.muli v962 c15872_i32_431
  let v964 : BitVec 32 := Scalar.addi v265 v963
  v964
@[reducible] def k0_t4_loop : Scf.Loop 32 :=
  let c0_i32_432 : BitVec 32 := 0#32
  let c62_i32_433 : BitVec 32 := 62#32
  let v968 : BitVec 32 := Scalar.addi c0_i32_432 c62_i32_433
  let c1_i32_434 : BitVec 32 := 1#32
  ⟨c0_i32_432, v968, c1_i32_434⟩

def k0_chk49 (v1381 : IVec S16 32) : Prop :=
  (∀ a x, ((![v1381] : Fin 1 → IVec S16 32) a x).toNat < S16128.size a)
theorem k0_idx49_inb : ∀ (v1381 : IVec S16 32) (k0_hw49 : k0_chk49 v1381), ∀ a x, ((![v1381] : Fin 1 → IVec S16 32) a x).toNat < S16128.size a := fun v1381 k0_hw49 => k0_hw49
def k0_mult63 (k0_t4 : Fin k0_t4_loop.trips) : BitVec 32 :=
  let c0_i32_624 : BitVec 32 := 0#32
  let c0_i32_432 : BitVec 32 := 0#32
  let c1_i32_434 : BitVec 32 := 1#32
  let arg20 : BitVec 32 := Scf.iv c0_i32_432 c1_i32_434 k0_t4
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c0_i32_627 : BitVec 32 := 0#32
  let v1383 : BitVec 32 := Scalar.addi v1377 c0_i32_627
  v1383
def k0_off51 (k0_t4 : Fin k0_t4_loop.trips) : Fin 1 → Nat :=
  let c0_i32_624 : BitVec 32 := 0#32
  let c0_i32_432 : BitVec 32 := 0#32
  let c1_i32_434 : BitVec 32 := 1#32
  let arg20 : BitVec 32 := Scf.iv c0_i32_432 c1_i32_434 k0_t4
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c0_i32_627 : BitVec 32 := 0#32
  let v1383 : BitVec 32 := Scalar.addi v1377 c0_i32_627
  let v1384 : BitVec 32 := v1383
  let v1385 : Index := Scalar.indexCast v1384
  ![v1385.toNat]

def k0_chk50 (v1387 : IVec S16 32) : Prop :=
  (∀ a x, ((![v1387] : Fin 1 → IVec S16 32) a x).toNat < S16128.size a)
theorem k0_idx50_inb : ∀ (v1387 : IVec S16 32) (k0_hw50 : k0_chk50 v1387), ∀ a x, ((![v1387] : Fin 1 → IVec S16 32) a x).toNat < S16128.size a := fun v1387 k0_hw50 => k0_hw50
def k0_mult64 (k0_t4 : Fin k0_t4_loop.trips) : BitVec 32 :=
  let c0_i32_624 : BitVec 32 := 0#32
  let c0_i32_432 : BitVec 32 := 0#32
  let c1_i32_434 : BitVec 32 := 1#32
  let arg20 : BitVec 32 := Scf.iv c0_i32_432 c1_i32_434 k0_t4
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c16_i32_628 : BitVec 32 := 16#32
  let v1389 : BitVec 32 := Scalar.addi v1377 c16_i32_628
  v1389
def k0_off52 (k0_t4 : Fin k0_t4_loop.trips) : Fin 1 → Nat :=
  let c0_i32_624 : BitVec 32 := 0#32
  let c0_i32_432 : BitVec 32 := 0#32
  let c1_i32_434 : BitVec 32 := 1#32
  let arg20 : BitVec 32 := Scf.iv c0_i32_432 c1_i32_434 k0_t4
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c16_i32_628 : BitVec 32 := 16#32
  let v1389 : BitVec 32 := Scalar.addi v1377 c16_i32_628
  let v1390 : BitVec 32 := v1389
  let v1391 : Index := Scalar.indexCast v1390
  ![v1391.toNat]

def k0_chk51 (v1393 : IVec S16 32) : Prop :=
  (∀ a x, ((![v1393] : Fin 1 → IVec S16 32) a x).toNat < S16128.size a)
theorem k0_idx51_inb : ∀ (v1393 : IVec S16 32) (k0_hw51 : k0_chk51 v1393), ∀ a x, ((![v1393] : Fin 1 → IVec S16 32) a x).toNat < S16128.size a := fun v1393 k0_hw51 => k0_hw51
def k0_mult65 (k0_t4 : Fin k0_t4_loop.trips) : BitVec 32 :=
  let c0_i32_624 : BitVec 32 := 0#32
  let c0_i32_432 : BitVec 32 := 0#32
  let c1_i32_434 : BitVec 32 := 1#32
  let arg20 : BitVec 32 := Scf.iv c0_i32_432 c1_i32_434 k0_t4
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c32_i32_629 : BitVec 32 := 32#32
  let v1395 : BitVec 32 := Scalar.addi v1377 c32_i32_629
  v1395
def k0_off53 (k0_t4 : Fin k0_t4_loop.trips) : Fin 1 → Nat :=
  let c0_i32_624 : BitVec 32 := 0#32
  let c0_i32_432 : BitVec 32 := 0#32
  let c1_i32_434 : BitVec 32 := 1#32
  let arg20 : BitVec 32 := Scf.iv c0_i32_432 c1_i32_434 k0_t4
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c32_i32_629 : BitVec 32 := 32#32
  let v1395 : BitVec 32 := Scalar.addi v1377 c32_i32_629
  let v1396 : BitVec 32 := v1395
  let v1397 : Index := Scalar.indexCast v1396
  ![v1397.toNat]

def k0_chk52 (v1399 : IVec S16 32) : Prop :=
  (∀ a x, ((![v1399] : Fin 1 → IVec S16 32) a x).toNat < S16128.size a)
theorem k0_idx52_inb : ∀ (v1399 : IVec S16 32) (k0_hw52 : k0_chk52 v1399), ∀ a x, ((![v1399] : Fin 1 → IVec S16 32) a x).toNat < S16128.size a := fun v1399 k0_hw52 => k0_hw52
def k0_mult66 (k0_t4 : Fin k0_t4_loop.trips) : BitVec 32 :=
  let c0_i32_624 : BitVec 32 := 0#32
  let c0_i32_432 : BitVec 32 := 0#32
  let c1_i32_434 : BitVec 32 := 1#32
  let arg20 : BitVec 32 := Scf.iv c0_i32_432 c1_i32_434 k0_t4
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c48_i32_630 : BitVec 32 := 48#32
  let v1401 : BitVec 32 := Scalar.addi v1377 c48_i32_630
  v1401
def k0_off54 (k0_t4 : Fin k0_t4_loop.trips) : Fin 1 → Nat :=
  let c0_i32_624 : BitVec 32 := 0#32
  let c0_i32_432 : BitVec 32 := 0#32
  let c1_i32_434 : BitVec 32 := 1#32
  let arg20 : BitVec 32 := Scf.iv c0_i32_432 c1_i32_434 k0_t4
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c48_i32_630 : BitVec 32 := 48#32
  let v1401 : BitVec 32 := Scalar.addi v1377 c48_i32_630
  let v1402 : BitVec 32 := v1401
  let v1403 : Index := Scalar.indexCast v1402
  ![v1403.toNat]

def k0_chk53 (v1405 : IVec S16 32) : Prop :=
  (∀ a x, ((![v1405] : Fin 1 → IVec S16 32) a x).toNat < S16128.size a)
theorem k0_idx53_inb : ∀ (v1405 : IVec S16 32) (k0_hw53 : k0_chk53 v1405), ∀ a x, ((![v1405] : Fin 1 → IVec S16 32) a x).toNat < S16128.size a := fun v1405 k0_hw53 => k0_hw53
def k0_mult67 (k0_t4 : Fin k0_t4_loop.trips) : BitVec 32 :=
  let c0_i32_624 : BitVec 32 := 0#32
  let c0_i32_432 : BitVec 32 := 0#32
  let c1_i32_434 : BitVec 32 := 1#32
  let arg20 : BitVec 32 := Scf.iv c0_i32_432 c1_i32_434 k0_t4
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c64_i32_631 : BitVec 32 := 64#32
  let v1407 : BitVec 32 := Scalar.addi v1377 c64_i32_631
  v1407
def k0_off55 (k0_t4 : Fin k0_t4_loop.trips) : Fin 1 → Nat :=
  let c0_i32_624 : BitVec 32 := 0#32
  let c0_i32_432 : BitVec 32 := 0#32
  let c1_i32_434 : BitVec 32 := 1#32
  let arg20 : BitVec 32 := Scf.iv c0_i32_432 c1_i32_434 k0_t4
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c64_i32_631 : BitVec 32 := 64#32
  let v1407 : BitVec 32 := Scalar.addi v1377 c64_i32_631
  let v1408 : BitVec 32 := v1407
  let v1409 : Index := Scalar.indexCast v1408
  ![v1409.toNat]

def k0_chk54 (v1411 : IVec S16 32) : Prop :=
  (∀ a x, ((![v1411] : Fin 1 → IVec S16 32) a x).toNat < S16128.size a)
theorem k0_idx54_inb : ∀ (v1411 : IVec S16 32) (k0_hw54 : k0_chk54 v1411), ∀ a x, ((![v1411] : Fin 1 → IVec S16 32) a x).toNat < S16128.size a := fun v1411 k0_hw54 => k0_hw54
def k0_mult68 (k0_t4 : Fin k0_t4_loop.trips) : BitVec 32 :=
  let c0_i32_624 : BitVec 32 := 0#32
  let c0_i32_432 : BitVec 32 := 0#32
  let c1_i32_434 : BitVec 32 := 1#32
  let arg20 : BitVec 32 := Scf.iv c0_i32_432 c1_i32_434 k0_t4
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c80_i32_632 : BitVec 32 := 80#32
  let v1413 : BitVec 32 := Scalar.addi v1377 c80_i32_632
  v1413
def k0_off56 (k0_t4 : Fin k0_t4_loop.trips) : Fin 1 → Nat :=
  let c0_i32_624 : BitVec 32 := 0#32
  let c0_i32_432 : BitVec 32 := 0#32
  let c1_i32_434 : BitVec 32 := 1#32
  let arg20 : BitVec 32 := Scf.iv c0_i32_432 c1_i32_434 k0_t4
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c80_i32_632 : BitVec 32 := 80#32
  let v1413 : BitVec 32 := Scalar.addi v1377 c80_i32_632
  let v1414 : BitVec 32 := v1413
  let v1415 : Index := Scalar.indexCast v1414
  ![v1415.toNat]

def k0_chk55 (v1417 : IVec S16 32) : Prop :=
  (∀ a x, ((![v1417] : Fin 1 → IVec S16 32) a x).toNat < S16128.size a)
theorem k0_idx55_inb : ∀ (v1417 : IVec S16 32) (k0_hw55 : k0_chk55 v1417), ∀ a x, ((![v1417] : Fin 1 → IVec S16 32) a x).toNat < S16128.size a := fun v1417 k0_hw55 => k0_hw55
def k0_mult69 (k0_t4 : Fin k0_t4_loop.trips) : BitVec 32 :=
  let c0_i32_624 : BitVec 32 := 0#32
  let c0_i32_432 : BitVec 32 := 0#32
  let c1_i32_434 : BitVec 32 := 1#32
  let arg20 : BitVec 32 := Scf.iv c0_i32_432 c1_i32_434 k0_t4
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c96_i32_633 : BitVec 32 := 96#32
  let v1419 : BitVec 32 := Scalar.addi v1377 c96_i32_633
  v1419
def k0_off57 (k0_t4 : Fin k0_t4_loop.trips) : Fin 1 → Nat :=
  let c0_i32_624 : BitVec 32 := 0#32
  let c0_i32_432 : BitVec 32 := 0#32
  let c1_i32_434 : BitVec 32 := 1#32
  let arg20 : BitVec 32 := Scf.iv c0_i32_432 c1_i32_434 k0_t4
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c96_i32_633 : BitVec 32 := 96#32
  let v1419 : BitVec 32 := Scalar.addi v1377 c96_i32_633
  let v1420 : BitVec 32 := v1419
  let v1421 : Index := Scalar.indexCast v1420
  ![v1421.toNat]

def k0_chk56 (v1423 : IVec S16 32) : Prop :=
  (∀ a x, ((![v1423] : Fin 1 → IVec S16 32) a x).toNat < S16128.size a)
theorem k0_idx56_inb : ∀ (v1423 : IVec S16 32) (k0_hw56 : k0_chk56 v1423), ∀ a x, ((![v1423] : Fin 1 → IVec S16 32) a x).toNat < S16128.size a := fun v1423 k0_hw56 => k0_hw56
def k0_mult70 (k0_t4 : Fin k0_t4_loop.trips) : BitVec 32 :=
  let c0_i32_624 : BitVec 32 := 0#32
  let c0_i32_432 : BitVec 32 := 0#32
  let c1_i32_434 : BitVec 32 := 1#32
  let arg20 : BitVec 32 := Scf.iv c0_i32_432 c1_i32_434 k0_t4
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c112_i32_634 : BitVec 32 := 112#32
  let v1425 : BitVec 32 := Scalar.addi v1377 c112_i32_634
  v1425
def k0_off58 (k0_t4 : Fin k0_t4_loop.trips) : Fin 1 → Nat :=
  let c0_i32_624 : BitVec 32 := 0#32
  let c0_i32_432 : BitVec 32 := 0#32
  let c1_i32_434 : BitVec 32 := 1#32
  let arg20 : BitVec 32 := Scf.iv c0_i32_432 c1_i32_434 k0_t4
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c112_i32_634 : BitVec 32 := 112#32
  let v1425 : BitVec 32 := Scalar.addi v1377 c112_i32_634
  let v1426 : BitVec 32 := v1425
  let v1427 : Index := Scalar.indexCast v1426
  ![v1427.toNat]

def k0_chk57 (v1429 : IVec S16 32) : Prop :=
  (∀ a x, ((![v1429] : Fin 1 → IVec S16 32) a x).toNat < S16128.size a)
theorem k0_idx57_inb : ∀ (v1429 : IVec S16 32) (k0_hw57 : k0_chk57 v1429), ∀ a x, ((![v1429] : Fin 1 → IVec S16 32) a x).toNat < S16128.size a := fun v1429 k0_hw57 => k0_hw57
def k0_mult71 (k0_t4 : Fin k0_t4_loop.trips) : BitVec 32 :=
  let c0_i32_624 : BitVec 32 := 0#32
  let c0_i32_432 : BitVec 32 := 0#32
  let c1_i32_434 : BitVec 32 := 1#32
  let arg20 : BitVec 32 := Scf.iv c0_i32_432 c1_i32_434 k0_t4
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c128_i32_635 : BitVec 32 := 128#32
  let v1431 : BitVec 32 := Scalar.addi v1377 c128_i32_635
  v1431
def k0_off59 (k0_t4 : Fin k0_t4_loop.trips) : Fin 1 → Nat :=
  let c0_i32_624 : BitVec 32 := 0#32
  let c0_i32_432 : BitVec 32 := 0#32
  let c1_i32_434 : BitVec 32 := 1#32
  let arg20 : BitVec 32 := Scf.iv c0_i32_432 c1_i32_434 k0_t4
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c128_i32_635 : BitVec 32 := 128#32
  let v1431 : BitVec 32 := Scalar.addi v1377 c128_i32_635
  let v1432 : BitVec 32 := v1431
  let v1433 : Index := Scalar.indexCast v1432
  ![v1433.toNat]

def k0_chk58 (v1435 : IVec S16 32) : Prop :=
  (∀ a x, ((![v1435] : Fin 1 → IVec S16 32) a x).toNat < S16128.size a)
theorem k0_idx58_inb : ∀ (v1435 : IVec S16 32) (k0_hw58 : k0_chk58 v1435), ∀ a x, ((![v1435] : Fin 1 → IVec S16 32) a x).toNat < S16128.size a := fun v1435 k0_hw58 => k0_hw58
def k0_mult72 (k0_t4 : Fin k0_t4_loop.trips) : BitVec 32 :=
  let c0_i32_624 : BitVec 32 := 0#32
  let c0_i32_432 : BitVec 32 := 0#32
  let c1_i32_434 : BitVec 32 := 1#32
  let arg20 : BitVec 32 := Scf.iv c0_i32_432 c1_i32_434 k0_t4
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c144_i32 : BitVec 32 := 144#32
  let v1437 : BitVec 32 := Scalar.addi v1377 c144_i32
  v1437
def k0_off60 (k0_t4 : Fin k0_t4_loop.trips) : Fin 1 → Nat :=
  let c0_i32_624 : BitVec 32 := 0#32
  let c0_i32_432 : BitVec 32 := 0#32
  let c1_i32_434 : BitVec 32 := 1#32
  let arg20 : BitVec 32 := Scf.iv c0_i32_432 c1_i32_434 k0_t4
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c144_i32 : BitVec 32 := 144#32
  let v1437 : BitVec 32 := Scalar.addi v1377 c144_i32
  let v1438 : BitVec 32 := v1437
  let v1439 : Index := Scalar.indexCast v1438
  ![v1439.toNat]

def k0_chk59 (v1441 : IVec S16 32) : Prop :=
  (∀ a x, ((![v1441] : Fin 1 → IVec S16 32) a x).toNat < S16128.size a)
theorem k0_idx59_inb : ∀ (v1441 : IVec S16 32) (k0_hw59 : k0_chk59 v1441), ∀ a x, ((![v1441] : Fin 1 → IVec S16 32) a x).toNat < S16128.size a := fun v1441 k0_hw59 => k0_hw59
def k0_mult73 (k0_t4 : Fin k0_t4_loop.trips) : BitVec 32 :=
  let c0_i32_624 : BitVec 32 := 0#32
  let c0_i32_432 : BitVec 32 := 0#32
  let c1_i32_434 : BitVec 32 := 1#32
  let arg20 : BitVec 32 := Scf.iv c0_i32_432 c1_i32_434 k0_t4
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c160_i32 : BitVec 32 := 160#32
  let v1443 : BitVec 32 := Scalar.addi v1377 c160_i32
  v1443
def k0_off61 (k0_t4 : Fin k0_t4_loop.trips) : Fin 1 → Nat :=
  let c0_i32_624 : BitVec 32 := 0#32
  let c0_i32_432 : BitVec 32 := 0#32
  let c1_i32_434 : BitVec 32 := 1#32
  let arg20 : BitVec 32 := Scf.iv c0_i32_432 c1_i32_434 k0_t4
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c160_i32 : BitVec 32 := 160#32
  let v1443 : BitVec 32 := Scalar.addi v1377 c160_i32
  let v1444 : BitVec 32 := v1443
  let v1445 : Index := Scalar.indexCast v1444
  ![v1445.toNat]

def k0_chk60 (v1447 : IVec S16 32) : Prop :=
  (∀ a x, ((![v1447] : Fin 1 → IVec S16 32) a x).toNat < S16128.size a)
theorem k0_idx60_inb : ∀ (v1447 : IVec S16 32) (k0_hw60 : k0_chk60 v1447), ∀ a x, ((![v1447] : Fin 1 → IVec S16 32) a x).toNat < S16128.size a := fun v1447 k0_hw60 => k0_hw60
def k0_mult74 (k0_t4 : Fin k0_t4_loop.trips) : BitVec 32 :=
  let c0_i32_624 : BitVec 32 := 0#32
  let c0_i32_432 : BitVec 32 := 0#32
  let c1_i32_434 : BitVec 32 := 1#32
  let arg20 : BitVec 32 := Scf.iv c0_i32_432 c1_i32_434 k0_t4
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c176_i32 : BitVec 32 := 176#32
  let v1449 : BitVec 32 := Scalar.addi v1377 c176_i32
  v1449
def k0_off62 (k0_t4 : Fin k0_t4_loop.trips) : Fin 1 → Nat :=
  let c0_i32_624 : BitVec 32 := 0#32
  let c0_i32_432 : BitVec 32 := 0#32
  let c1_i32_434 : BitVec 32 := 1#32
  let arg20 : BitVec 32 := Scf.iv c0_i32_432 c1_i32_434 k0_t4
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c176_i32 : BitVec 32 := 176#32
  let v1449 : BitVec 32 := Scalar.addi v1377 c176_i32
  let v1450 : BitVec 32 := v1449
  let v1451 : Index := Scalar.indexCast v1450
  ![v1451.toNat]

def k0_chk61 (v1453 : IVec S16 32) : Prop :=
  (∀ a x, ((![v1453] : Fin 1 → IVec S16 32) a x).toNat < S16128.size a)
theorem k0_idx61_inb : ∀ (v1453 : IVec S16 32) (k0_hw61 : k0_chk61 v1453), ∀ a x, ((![v1453] : Fin 1 → IVec S16 32) a x).toNat < S16128.size a := fun v1453 k0_hw61 => k0_hw61
def k0_mult75 (k0_t4 : Fin k0_t4_loop.trips) : BitVec 32 :=
  let c0_i32_624 : BitVec 32 := 0#32
  let c0_i32_432 : BitVec 32 := 0#32
  let c1_i32_434 : BitVec 32 := 1#32
  let arg20 : BitVec 32 := Scf.iv c0_i32_432 c1_i32_434 k0_t4
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c192_i32 : BitVec 32 := 192#32
  let v1455 : BitVec 32 := Scalar.addi v1377 c192_i32
  v1455
def k0_off63 (k0_t4 : Fin k0_t4_loop.trips) : Fin 1 → Nat :=
  let c0_i32_624 : BitVec 32 := 0#32
  let c0_i32_432 : BitVec 32 := 0#32
  let c1_i32_434 : BitVec 32 := 1#32
  let arg20 : BitVec 32 := Scf.iv c0_i32_432 c1_i32_434 k0_t4
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c192_i32 : BitVec 32 := 192#32
  let v1455 : BitVec 32 := Scalar.addi v1377 c192_i32
  let v1456 : BitVec 32 := v1455
  let v1457 : Index := Scalar.indexCast v1456
  ![v1457.toNat]

def k0_chk62 (v1459 : IVec S16 32) : Prop :=
  (∀ a x, ((![v1459] : Fin 1 → IVec S16 32) a x).toNat < S16128.size a)
theorem k0_idx62_inb : ∀ (v1459 : IVec S16 32) (k0_hw62 : k0_chk62 v1459), ∀ a x, ((![v1459] : Fin 1 → IVec S16 32) a x).toNat < S16128.size a := fun v1459 k0_hw62 => k0_hw62
def k0_mult76 (k0_t4 : Fin k0_t4_loop.trips) : BitVec 32 :=
  let c0_i32_624 : BitVec 32 := 0#32
  let c0_i32_432 : BitVec 32 := 0#32
  let c1_i32_434 : BitVec 32 := 1#32
  let arg20 : BitVec 32 := Scf.iv c0_i32_432 c1_i32_434 k0_t4
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c208_i32 : BitVec 32 := 208#32
  let v1461 : BitVec 32 := Scalar.addi v1377 c208_i32
  v1461
def k0_off64 (k0_t4 : Fin k0_t4_loop.trips) : Fin 1 → Nat :=
  let c0_i32_624 : BitVec 32 := 0#32
  let c0_i32_432 : BitVec 32 := 0#32
  let c1_i32_434 : BitVec 32 := 1#32
  let arg20 : BitVec 32 := Scf.iv c0_i32_432 c1_i32_434 k0_t4
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c208_i32 : BitVec 32 := 208#32
  let v1461 : BitVec 32 := Scalar.addi v1377 c208_i32
  let v1462 : BitVec 32 := v1461
  let v1463 : Index := Scalar.indexCast v1462
  ![v1463.toNat]

def k0_chk63 (v1465 : IVec S16 32) : Prop :=
  (∀ a x, ((![v1465] : Fin 1 → IVec S16 32) a x).toNat < S16128.size a)
theorem k0_idx63_inb : ∀ (v1465 : IVec S16 32) (k0_hw63 : k0_chk63 v1465), ∀ a x, ((![v1465] : Fin 1 → IVec S16 32) a x).toNat < S16128.size a := fun v1465 k0_hw63 => k0_hw63
def k0_mult77 (k0_t4 : Fin k0_t4_loop.trips) : BitVec 32 :=
  let c0_i32_624 : BitVec 32 := 0#32
  let c0_i32_432 : BitVec 32 := 0#32
  let c1_i32_434 : BitVec 32 := 1#32
  let arg20 : BitVec 32 := Scf.iv c0_i32_432 c1_i32_434 k0_t4
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c224_i32 : BitVec 32 := 224#32
  let v1467 : BitVec 32 := Scalar.addi v1377 c224_i32
  v1467
def k0_off65 (k0_t4 : Fin k0_t4_loop.trips) : Fin 1 → Nat :=
  let c0_i32_624 : BitVec 32 := 0#32
  let c0_i32_432 : BitVec 32 := 0#32
  let c1_i32_434 : BitVec 32 := 1#32
  let arg20 : BitVec 32 := Scf.iv c0_i32_432 c1_i32_434 k0_t4
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c224_i32 : BitVec 32 := 224#32
  let v1467 : BitVec 32 := Scalar.addi v1377 c224_i32
  let v1468 : BitVec 32 := v1467
  let v1469 : Index := Scalar.indexCast v1468
  ![v1469.toNat]

def k0_chk64 (v1471 : IVec S16 32) : Prop :=
  (∀ a x, ((![v1471] : Fin 1 → IVec S16 32) a x).toNat < S16128.size a)
theorem k0_idx64_inb : ∀ (v1471 : IVec S16 32) (k0_hw64 : k0_chk64 v1471), ∀ a x, ((![v1471] : Fin 1 → IVec S16 32) a x).toNat < S16128.size a := fun v1471 k0_hw64 => k0_hw64
def k0_mult78 (k0_t4 : Fin k0_t4_loop.trips) : BitVec 32 :=
  let c0_i32_624 : BitVec 32 := 0#32
  let c0_i32_432 : BitVec 32 := 0#32
  let c1_i32_434 : BitVec 32 := 1#32
  let arg20 : BitVec 32 := Scf.iv c0_i32_432 c1_i32_434 k0_t4
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c240_i32 : BitVec 32 := 240#32
  let v1473 : BitVec 32 := Scalar.addi v1377 c240_i32
  v1473
def k0_off66 (k0_t4 : Fin k0_t4_loop.trips) : Fin 1 → Nat :=
  let c0_i32_624 : BitVec 32 := 0#32
  let c0_i32_432 : BitVec 32 := 0#32
  let c1_i32_434 : BitVec 32 := 1#32
  let arg20 : BitVec 32 := Scf.iv c0_i32_432 c1_i32_434 k0_t4
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c240_i32 : BitVec 32 := 240#32
  let v1473 : BitVec 32 := Scalar.addi v1377 c240_i32
  let v1474 : BitVec 32 := v1473
  let v1475 : Index := Scalar.indexCast v1474
  ![v1475.toNat]
def k0_mult79 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_1 : BitVec 32 := 2#32
  let v4 : BitVec 32 := Scalar.muli v1 c2_i32_1
  let c1_i32 : BitVec 32 := 1#32
  let v5 : BitVec 32 := Scalar.addi v4 c1_i32
  let c1984_i32_137 : BitVec 32 := 1984#32
  let v268 : BitVec 32 := Scalar.muli v5 c1984_i32_137
  let c256_i32_138 : BitVec 32 := 256#32
  let v269 : BitVec 32 := Scalar.muli v268 c256_i32_138
  let c3_i32_436 : BitVec 32 := 3#32
  let c0_i32_438 : BitVec 32 := 0#32
  let v970 : BitVec 1 := Scalar.cmpi .sgt c3_i32_436 c0_i32_438
  let v971 : BitVec 32 := Scalar.extui v970
  let c0_i32_439 : BitVec 32 := 0#32
  let v972 : BitVec 1 := Scalar.cmpi .slt c3_i32_436 c0_i32_439
  let v973 : BitVec 32 := Scalar.extui v972
  let v974 : BitVec 32 := Scalar.subi v971 v973
  let c2_i32_437 : BitVec 32 := 2#32
  let c0_i32_440 : BitVec 32 := 0#32
  let v975 : BitVec 1 := Scalar.cmpi .sgt c2_i32_437 c0_i32_440
  let v976 : BitVec 32 := Scalar.extui v975
  let c0_i32_441 : BitVec 32 := 0#32
  let v977 : BitVec 1 := Scalar.cmpi .slt c2_i32_437 c0_i32_441
  let v978 : BitVec 32 := Scalar.extui v977
  let v979 : BitVec 32 := Scalar.subi v976 v978
  let v980 : BitVec 1 := Scalar.cmpi .ne v974 v979
  let v981 : BitVec 32 := Scalar.remsi c3_i32_436 c2_i32_437
  let c0_i32_442 : BitVec 32 := 0#32
  let v982 : BitVec 1 := Scalar.cmpi .ne v981 c0_i32_442
  let v983 : BitVec 1 := Scalar.andi v980 v982
  let v969 : BitVec 32 := Scalar.divsi c3_i32_436 c2_i32_437
  let c1_i32_443 : BitVec 32 := 1#32
  let v984 : BitVec 32 := Scalar.subi v969 c1_i32_443
  let v985 : BitVec 32 := Scalar.select v983 v984 v969
  let c15872_i32_444 : BitVec 32 := 15872#32
  let v986 : BitVec 32 := Scalar.muli v985 c15872_i32_444
  let v987 : BitVec 32 := Scalar.addi v269 v986
  v987
def k0_mult80 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_1 : BitVec 32 := 2#32
  let v4 : BitVec 32 := Scalar.muli v1 c2_i32_1
  let c1_i32 : BitVec 32 := 1#32
  let v5 : BitVec 32 := Scalar.addi v4 c1_i32
  let c2048_i32_133 : BitVec 32 := 2048#32
  let v262 : BitVec 32 := Scalar.muli v5 c2048_i32_133
  let c63_i32_130 : BitVec 32 := 63#32
  let v256 : BitVec 1 := Scalar.cmpi .eq v5 c63_i32_130
  let c1763_i32_131 : BitVec 32 := 1763#32
  let c62_i32_128 : BitVec 32 := 62#32
  let v254 : BitVec 1 := Scalar.cmpi .eq v5 c62_i32_128
  let c1196_i32_129 : BitVec 32 := 1196#32
  let c61_i32_126 : BitVec 32 := 61#32
  let v252 : BitVec 1 := Scalar.cmpi .eq v5 c61_i32_126
  let c722_i32_127 : BitVec 32 := 722#32
  let c60_i32_124 : BitVec 32 := 60#32
  let v250 : BitVec 1 := Scalar.cmpi .eq v5 c60_i32_124
  let c3132_i32_125 : BitVec 32 := 3132#32
  let c59_i32_122 : BitVec 32 := 59#32
  let v248 : BitVec 1 := Scalar.cmpi .eq v5 c59_i32_122
  let c2263_i32_123 : BitVec 32 := 2263#32
  let c58_i32_120 : BitVec 32 := 58#32
  let v246 : BitVec 1 := Scalar.cmpi .eq v5 c58_i32_120
  let c7228_i32_121 : BitVec 32 := 7228#32
  let c57_i32_118 : BitVec 32 := 57#32
  let v244 : BitVec 1 := Scalar.cmpi .eq v5 c57_i32_118
  let c6147_i32_119 : BitVec 32 := 6147#32
  let c56_i32_116 : BitVec 32 := 56#32
  let v242 : BitVec 1 := Scalar.cmpi .eq v5 c56_i32_116
  let c5257_i32_117 : BitVec 32 := 5257#32
  let c55_i32_114 : BitVec 32 := 55#32
  let v240 : BitVec 1 := Scalar.cmpi .eq v5 c55_i32_114
  let c2687_i32_115 : BitVec 32 := 2687#32
  let c54_i32_112 : BitVec 32 := 54#32
  let v238 : BitVec 1 := Scalar.cmpi .eq v5 c54_i32_112
  let c3913_i32_113 : BitVec 32 := 3913#32
  let c53_i32_110 : BitVec 32 := 53#32
  let v236 : BitVec 1 := Scalar.cmpi .eq v5 c53_i32_110
  let c1765_i32_111 : BitVec 32 := 1765#32
  let c52_i32_108 : BitVec 32 := 52#32
  let v234 : BitVec 1 := Scalar.cmpi .eq v5 c52_i32_108
  let c572_i32_109 : BitVec 32 := 572#32
  let c51_i32_106 : BitVec 32 := 51#32
  let v232 : BitVec 1 := Scalar.cmpi .eq v5 c51_i32_106
  let c5479_i32_107 : BitVec 32 := 5479#32
  let c50_i32_104 : BitVec 32 := 50#32
  let v230 : BitVec 1 := Scalar.cmpi .eq v5 c50_i32_104
  let c7351_i32_105 : BitVec 32 := 7351#32
  let c49_i32_102 : BitVec 32 := 49#32
  let v228 : BitVec 1 := Scalar.cmpi .eq v5 c49_i32_102
  let c593_i32_103 : BitVec 32 := 593#32
  let c48_i32_100 : BitVec 32 := 48#32
  let v226 : BitVec 1 := Scalar.cmpi .eq v5 c48_i32_100
  let c7487_i32_101 : BitVec 32 := 7487#32
  let c47_i32_98 : BitVec 32 := 47#32
  let v224 : BitVec 1 := Scalar.cmpi .eq v5 c47_i32_98
  let c3618_i32_99 : BitVec 32 := 3618#32
  let c46_i32_96 : BitVec 32 := 46#32
  let v222 : BitVec 1 := Scalar.cmpi .eq v5 c46_i32_96
  let c6125_i32_97 : BitVec 32 := 6125#32
  let c45_i32_94 : BitVec 32 := 45#32
  let v220 : BitVec 1 := Scalar.cmpi .eq v5 c45_i32_94
  let c2834_i32_95 : BitVec 32 := 2834#32
  let c44_i32_92 : BitVec 32 := 44#32
  let v218 : BitVec 1 := Scalar.cmpi .eq v5 c44_i32_92
  let c4871_i32_93 : BitVec 32 := 4871#32
  let c43_i32_90 : BitVec 32 := 43#32
  let v216 : BitVec 1 := Scalar.cmpi .eq v5 c43_i32_90
  let c1936_i32_91 : BitVec 32 := 1936#32
  let c42_i32_88 : BitVec 32 := 42#32
  let v214 : BitVec 1 := Scalar.cmpi .eq v5 c42_i32_88
  let c2914_i32_89 : BitVec 32 := 2914#32
  let c41_i32_86 : BitVec 32 := 41#32
  let v212 : BitVec 1 := Scalar.cmpi .eq v5 c41_i32_86
  let c3866_i32_87 : BitVec 32 := 3866#32
  let c40_i32_84 : BitVec 32 := 40#32
  let v210 : BitVec 1 := Scalar.cmpi .eq v5 c40_i32_84
  let c1846_i32_85 : BitVec 32 := 1846#32
  let c39_i32_82 : BitVec 32 := 39#32
  let v208 : BitVec 1 := Scalar.cmpi .eq v5 c39_i32_82
  let c7714_i32_83 : BitVec 32 := 7714#32
  let c38_i32_80 : BitVec 32 := 38#32
  let v206 : BitVec 1 := Scalar.cmpi .eq v5 c38_i32_80
  let c3980_i32_81 : BitVec 32 := 3980#32
  let c37_i32_78 : BitVec 32 := 37#32
  let v204 : BitVec 1 := Scalar.cmpi .eq v5 c37_i32_78
  let c6570_i32_79 : BitVec 32 := 6570#32
  let c36_i32_76 : BitVec 32 := 36#32
  let v202 : BitVec 1 := Scalar.cmpi .eq v5 c36_i32_76
  let c2937_i32_77 : BitVec 32 := 2937#32
  let c35_i32_74 : BitVec 32 := 35#32
  let v200 : BitVec 1 := Scalar.cmpi .eq v5 c35_i32_74
  let c1105_i32_75 : BitVec 32 := 1105#32
  let c34_i32_72 : BitVec 32 := 34#32
  let v198 : BitVec 1 := Scalar.cmpi .eq v5 c34_i32_72
  let c5685_i32_73 : BitVec 32 := 5685#32
  let c33_i32_70 : BitVec 32 := 33#32
  let v196 : BitVec 1 := Scalar.cmpi .eq v5 c33_i32_70
  let c1851_i32_71 : BitVec 32 := 1851#32
  let c32_i32_68 : BitVec 32 := 32#32
  let v194 : BitVec 1 := Scalar.cmpi .eq v5 c32_i32_68
  let c2835_i32_69 : BitVec 32 := 2835#32
  let c31_i32_66 : BitVec 32 := 31#32
  let v192 : BitVec 1 := Scalar.cmpi .eq v5 c31_i32_66
  let c6151_i32_67 : BitVec 32 := 6151#32
  let c30_i32_64 : BitVec 32 := 30#32
  let v190 : BitVec 1 := Scalar.cmpi .eq v5 c30_i32_64
  let c2916_i32_65 : BitVec 32 := 2916#32
  let c29_i32_62 : BitVec 32 := 29#32
  let v188 : BitVec 1 := Scalar.cmpi .eq v5 c29_i32_62
  let c4806_i32_63 : BitVec 32 := 4806#32
  let c28_i32_60 : BitVec 32 := 28#32
  let v186 : BitVec 1 := Scalar.cmpi .eq v5 c28_i32_60
  let c2760_i32_61 : BitVec 32 := 2760#32
  let c27_i32_58 : BitVec 32 := 27#32
  let v184 : BitVec 1 := Scalar.cmpi .eq v5 c27_i32_58
  let c2339_i32_59 : BitVec 32 := 2339#32
  let c26_i32_56 : BitVec 32 := 26#32
  let v182 : BitVec 1 := Scalar.cmpi .eq v5 c26_i32_56
  let c5978_i32_57 : BitVec 32 := 5978#32
  let c25_i32_54 : BitVec 32 := 25#32
  let v180 : BitVec 1 := Scalar.cmpi .eq v5 c25_i32_54
  let c6943_i32_55 : BitVec 32 := 6943#32
  let c24_i32_52 : BitVec 32 := 24#32
  let v178 : BitVec 1 := Scalar.cmpi .eq v5 c24_i32_52
  let c7654_i32_53 : BitVec 32 := 7654#32
  let c23_i32_50 : BitVec 32 := 23#32
  let v176 : BitVec 1 := Scalar.cmpi .eq v5 c23_i32_50
  let c3018_i32_51 : BitVec 32 := 3018#32
  let c22_i32_48 : BitVec 32 := 22#32
  let v174 : BitVec 1 := Scalar.cmpi .eq v5 c22_i32_48
  let c56_i32_49 : BitVec 32 := 56#32
  let c21_i32_46 : BitVec 32 := 21#32
  let v172 : BitVec 1 := Scalar.cmpi .eq v5 c21_i32_46
  let c5652_i32_47 : BitVec 32 := 5652#32
  let c20_i32_44 : BitVec 32 := 20#32
  let v170 : BitVec 1 := Scalar.cmpi .eq v5 c20_i32_44
  let c6840_i32_45 : BitVec 32 := 6840#32
  let c19_i32_42 : BitVec 32 := 19#32
  let v168 : BitVec 1 := Scalar.cmpi .eq v5 c19_i32_42
  let c4026_i32_43 : BitVec 32 := 4026#32
  let c18_i32_40 : BitVec 32 := 18#32
  let v166 : BitVec 1 := Scalar.cmpi .eq v5 c18_i32_40
  let c91_i32_41 : BitVec 32 := 91#32
  let c17_i32_38 : BitVec 32 := 17#32
  let v164 : BitVec 1 := Scalar.cmpi .eq v5 c17_i32_38
  let c7767_i32_39 : BitVec 32 := 7767#32
  let c16_i32_36 : BitVec 32 := 16#32
  let v162 : BitVec 1 := Scalar.cmpi .eq v5 c16_i32_36
  let c4241_i32_37 : BitVec 32 := 4241#32
  let c15_i32_34 : BitVec 32 := 15#32
  let v160 : BitVec 1 := Scalar.cmpi .eq v5 c15_i32_34
  let c6170_i32_35 : BitVec 32 := 6170#32
  let c14_i32_32 : BitVec 32 := 14#32
  let v158 : BitVec 1 := Scalar.cmpi .eq v5 c14_i32_32
  let c8174_i32_33 : BitVec 32 := 8174#32
  let c13_i32_30 : BitVec 32 := 13#32
  let v156 : BitVec 1 := Scalar.cmpi .eq v5 c13_i32_30
  let c1378_i32_31 : BitVec 32 := 1378#32
  let c12_i32_28 : BitVec 32 := 12#32
  let v154 : BitVec 1 := Scalar.cmpi .eq v5 c12_i32_28
  let c2562_i32_29 : BitVec 32 := 2562#32
  let c11_i32_26 : BitVec 32 := 11#32
  let v152 : BitVec 1 := Scalar.cmpi .eq v5 c11_i32_26
  let c4161_i32_27 : BitVec 32 := 4161#32
  let c10_i32_24 : BitVec 32 := 10#32
  let v150 : BitVec 1 := Scalar.cmpi .eq v5 c10_i32_24
  let c6176_i32_25 : BitVec 32 := 6176#32
  let c9_i32_22 : BitVec 32 := 9#32
  let v148 : BitVec 1 := Scalar.cmpi .eq v5 c9_i32_22
  let c2818_i32_23 : BitVec 32 := 2818#32
  let c8_i32_20 : BitVec 32 := 8#32
  let v146 : BitVec 1 := Scalar.cmpi .eq v5 c8_i32_20
  let c5970_i32_21 : BitVec 32 := 5970#32
  let c7_i32_18 : BitVec 32 := 7#32
  let v144 : BitVec 1 := Scalar.cmpi .eq v5 c7_i32_18
  let c7573_i32_19 : BitVec 32 := 7573#32
  let c6_i32_16 : BitVec 32 := 6#32
  let v142 : BitVec 1 := Scalar.cmpi .eq v5 c6_i32_16
  let c3350_i32_17 : BitVec 32 := 3350#32
  let c5_i32_14 : BitVec 32 := 5#32
  let v140 : BitVec 1 := Scalar.cmpi .eq v5 c5_i32_14
  let c4780_i32_15 : BitVec 32 := 4780#32
  let c4_i32_12 : BitVec 32 := 4#32
  let v138 : BitVec 1 := Scalar.cmpi .eq v5 c4_i32_12
  let c6560_i32_13 : BitVec 32 := 6560#32
  let c3_i32_10 : BitVec 32 := 3#32
  let v136 : BitVec 1 := Scalar.cmpi .eq v5 c3_i32_10
  let c7017_i32_11 : BitVec 32 := 7017#32
  let c2_i32_8 : BitVec 32 := 2#32
  let v134 : BitVec 1 := Scalar.cmpi .eq v5 c2_i32_8
  let c736_i32_9 : BitVec 32 := 736#32
  let c1_i32_5 : BitVec 32 := 1#32
  let v132 : BitVec 1 := Scalar.cmpi .eq v5 c1_i32_5
  let c943_i32_7 : BitVec 32 := 943#32
  let c7932_i32_6 : BitVec 32 := 7932#32
  let v133 : BitVec 32 := Scalar.select v132 c943_i32_7 c7932_i32_6
  let v135 : BitVec 32 := Scalar.select v134 c736_i32_9 v133
  let v137 : BitVec 32 := Scalar.select v136 c7017_i32_11 v135
  let v139 : BitVec 32 := Scalar.select v138 c6560_i32_13 v137
  let v141 : BitVec 32 := Scalar.select v140 c4780_i32_15 v139
  let v143 : BitVec 32 := Scalar.select v142 c3350_i32_17 v141
  let v145 : BitVec 32 := Scalar.select v144 c7573_i32_19 v143
  let v147 : BitVec 32 := Scalar.select v146 c5970_i32_21 v145
  let v149 : BitVec 32 := Scalar.select v148 c2818_i32_23 v147
  let v151 : BitVec 32 := Scalar.select v150 c6176_i32_25 v149
  let v153 : BitVec 32 := Scalar.select v152 c4161_i32_27 v151
  let v155 : BitVec 32 := Scalar.select v154 c2562_i32_29 v153
  let v157 : BitVec 32 := Scalar.select v156 c1378_i32_31 v155
  let v159 : BitVec 32 := Scalar.select v158 c8174_i32_33 v157
  let v161 : BitVec 32 := Scalar.select v160 c6170_i32_35 v159
  let v163 : BitVec 32 := Scalar.select v162 c4241_i32_37 v161
  let v165 : BitVec 32 := Scalar.select v164 c7767_i32_39 v163
  let v167 : BitVec 32 := Scalar.select v166 c91_i32_41 v165
  let v169 : BitVec 32 := Scalar.select v168 c4026_i32_43 v167
  let v171 : BitVec 32 := Scalar.select v170 c6840_i32_45 v169
  let v173 : BitVec 32 := Scalar.select v172 c5652_i32_47 v171
  let v175 : BitVec 32 := Scalar.select v174 c56_i32_49 v173
  let v177 : BitVec 32 := Scalar.select v176 c3018_i32_51 v175
  let v179 : BitVec 32 := Scalar.select v178 c7654_i32_53 v177
  let v181 : BitVec 32 := Scalar.select v180 c6943_i32_55 v179
  let v183 : BitVec 32 := Scalar.select v182 c5978_i32_57 v181
  let v185 : BitVec 32 := Scalar.select v184 c2339_i32_59 v183
  let v187 : BitVec 32 := Scalar.select v186 c2760_i32_61 v185
  let v189 : BitVec 32 := Scalar.select v188 c4806_i32_63 v187
  let v191 : BitVec 32 := Scalar.select v190 c2916_i32_65 v189
  let v193 : BitVec 32 := Scalar.select v192 c6151_i32_67 v191
  let v195 : BitVec 32 := Scalar.select v194 c2835_i32_69 v193
  let v197 : BitVec 32 := Scalar.select v196 c1851_i32_71 v195
  let v199 : BitVec 32 := Scalar.select v198 c5685_i32_73 v197
  let v201 : BitVec 32 := Scalar.select v200 c1105_i32_75 v199
  let v203 : BitVec 32 := Scalar.select v202 c2937_i32_77 v201
  let v205 : BitVec 32 := Scalar.select v204 c6570_i32_79 v203
  let v207 : BitVec 32 := Scalar.select v206 c3980_i32_81 v205
  let v209 : BitVec 32 := Scalar.select v208 c7714_i32_83 v207
  let v211 : BitVec 32 := Scalar.select v210 c1846_i32_85 v209
  let v213 : BitVec 32 := Scalar.select v212 c3866_i32_87 v211
  let v215 : BitVec 32 := Scalar.select v214 c2914_i32_89 v213
  let v217 : BitVec 32 := Scalar.select v216 c1936_i32_91 v215
  let v219 : BitVec 32 := Scalar.select v218 c4871_i32_93 v217
  let v221 : BitVec 32 := Scalar.select v220 c2834_i32_95 v219
  let v223 : BitVec 32 := Scalar.select v222 c6125_i32_97 v221
  let v225 : BitVec 32 := Scalar.select v224 c3618_i32_99 v223
  let v227 : BitVec 32 := Scalar.select v226 c7487_i32_101 v225
  let v229 : BitVec 32 := Scalar.select v228 c593_i32_103 v227
  let v231 : BitVec 32 := Scalar.select v230 c7351_i32_105 v229
  let v233 : BitVec 32 := Scalar.select v232 c5479_i32_107 v231
  let v235 : BitVec 32 := Scalar.select v234 c572_i32_109 v233
  let v237 : BitVec 32 := Scalar.select v236 c1765_i32_111 v235
  let v239 : BitVec 32 := Scalar.select v238 c3913_i32_113 v237
  let v241 : BitVec 32 := Scalar.select v240 c2687_i32_115 v239
  let v243 : BitVec 32 := Scalar.select v242 c5257_i32_117 v241
  let v245 : BitVec 32 := Scalar.select v244 c6147_i32_119 v243
  let v247 : BitVec 32 := Scalar.select v246 c7228_i32_121 v245
  let v249 : BitVec 32 := Scalar.select v248 c2263_i32_123 v247
  let v251 : BitVec 32 := Scalar.select v250 c3132_i32_125 v249
  let v253 : BitVec 32 := Scalar.select v252 c722_i32_127 v251
  let v255 : BitVec 32 := Scalar.select v254 c1196_i32_129 v253
  let v257 : BitVec 32 := Scalar.select v256 c1763_i32_131 v255
  let c7_i32_134 : BitVec 32 := 7#32
  let v263 : BitVec 32 := Scalar.shrsi v257 c7_i32_134
  let v264 : BitVec 32 := Scalar.addi v262 v263
  let c256_i32_135 : BitVec 32 := 256#32
  let v265 : BitVec 32 := Scalar.muli v264 c256_i32_135
  let c7_i32_445 : BitVec 32 := 7#32
  let c0_i32_447 : BitVec 32 := 0#32
  let v992 : BitVec 1 := Scalar.cmpi .sgt c7_i32_445 c0_i32_447
  let v993 : BitVec 32 := Scalar.extui v992
  let c0_i32_448 : BitVec 32 := 0#32
  let v994 : BitVec 1 := Scalar.cmpi .slt c7_i32_445 c0_i32_448
  let v995 : BitVec 32 := Scalar.extui v994
  let v996 : BitVec 32 := Scalar.subi v993 v995
  let c2_i32_446 : BitVec 32 := 2#32
  let c0_i32_449 : BitVec 32 := 0#32
  let v997 : BitVec 1 := Scalar.cmpi .sgt c2_i32_446 c0_i32_449
  let v998 : BitVec 32 := Scalar.extui v997
  let c0_i32_450 : BitVec 32 := 0#32
  let v999 : BitVec 1 := Scalar.cmpi .slt c2_i32_446 c0_i32_450
  let v1000 : BitVec 32 := Scalar.extui v999
  let v1001 : BitVec 32 := Scalar.subi v998 v1000
  let v1002 : BitVec 1 := Scalar.cmpi .ne v996 v1001
  let v1003 : BitVec 32 := Scalar.remsi c7_i32_445 c2_i32_446
  let c0_i32_451 : BitVec 32 := 0#32
  let v1004 : BitVec 1 := Scalar.cmpi .ne v1003 c0_i32_451
  let v1005 : BitVec 1 := Scalar.andi v1002 v1004
  let v991 : BitVec 32 := Scalar.divsi c7_i32_445 c2_i32_446
  let c1_i32_452 : BitVec 32 := 1#32
  let v1006 : BitVec 32 := Scalar.subi v991 c1_i32_452
  let v1007 : BitVec 32 := Scalar.select v1005 v1006 v991
  let c15872_i32_453 : BitVec 32 := 15872#32
  let v1008 : BitVec 32 := Scalar.muli v1007 c15872_i32_453
  let v1009 : BitVec 32 := Scalar.addi v265 v1008
  v1009
@[reducible] def k0_t5_loop : Scf.Loop 32 :=
  let c1_i32_455 : BitVec 32 := 1#32
  let c14_i32_456 : BitVec 32 := 14#32
  let v1013 : BitVec 32 := Scalar.addi c1_i32_455 c14_i32_456
  let c1_i32_457 : BitVec 32 := 1#32
  ⟨c1_i32_455, v1013, c1_i32_457⟩
def k0_mult81 (i : grid0.Coords) (k0_t5 : Fin k0_t5_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32 : BitVec 32 := 0#32
  let v3 : BitVec 32 := Scalar.addi v2 c0_i32
  let c2048_i32 : BitVec 32 := 2048#32
  let v258 : BitVec 32 := Scalar.muli v3 c2048_i32
  let c63_i32 : BitVec 32 := 63#32
  let v130 : BitVec 1 := Scalar.cmpi .eq v3 c63_i32
  let c1763_i32 : BitVec 32 := 1763#32
  let c62_i32 : BitVec 32 := 62#32
  let v128 : BitVec 1 := Scalar.cmpi .eq v3 c62_i32
  let c1196_i32 : BitVec 32 := 1196#32
  let c61_i32 : BitVec 32 := 61#32
  let v126 : BitVec 1 := Scalar.cmpi .eq v3 c61_i32
  let c722_i32 : BitVec 32 := 722#32
  let c60_i32 : BitVec 32 := 60#32
  let v124 : BitVec 1 := Scalar.cmpi .eq v3 c60_i32
  let c3132_i32 : BitVec 32 := 3132#32
  let c59_i32 : BitVec 32 := 59#32
  let v122 : BitVec 1 := Scalar.cmpi .eq v3 c59_i32
  let c2263_i32 : BitVec 32 := 2263#32
  let c58_i32 : BitVec 32 := 58#32
  let v120 : BitVec 1 := Scalar.cmpi .eq v3 c58_i32
  let c7228_i32 : BitVec 32 := 7228#32
  let c57_i32 : BitVec 32 := 57#32
  let v118 : BitVec 1 := Scalar.cmpi .eq v3 c57_i32
  let c6147_i32 : BitVec 32 := 6147#32
  let c56_i32_4 : BitVec 32 := 56#32
  let v116 : BitVec 1 := Scalar.cmpi .eq v3 c56_i32_4
  let c5257_i32 : BitVec 32 := 5257#32
  let c55_i32 : BitVec 32 := 55#32
  let v114 : BitVec 1 := Scalar.cmpi .eq v3 c55_i32
  let c2687_i32 : BitVec 32 := 2687#32
  let c54_i32 : BitVec 32 := 54#32
  let v112 : BitVec 1 := Scalar.cmpi .eq v3 c54_i32
  let c3913_i32 : BitVec 32 := 3913#32
  let c53_i32 : BitVec 32 := 53#32
  let v110 : BitVec 1 := Scalar.cmpi .eq v3 c53_i32
  let c1765_i32 : BitVec 32 := 1765#32
  let c52_i32 : BitVec 32 := 52#32
  let v108 : BitVec 1 := Scalar.cmpi .eq v3 c52_i32
  let c572_i32 : BitVec 32 := 572#32
  let c51_i32 : BitVec 32 := 51#32
  let v106 : BitVec 1 := Scalar.cmpi .eq v3 c51_i32
  let c5479_i32 : BitVec 32 := 5479#32
  let c50_i32 : BitVec 32 := 50#32
  let v104 : BitVec 1 := Scalar.cmpi .eq v3 c50_i32
  let c7351_i32 : BitVec 32 := 7351#32
  let c49_i32 : BitVec 32 := 49#32
  let v102 : BitVec 1 := Scalar.cmpi .eq v3 c49_i32
  let c593_i32 : BitVec 32 := 593#32
  let c48_i32 : BitVec 32 := 48#32
  let v100 : BitVec 1 := Scalar.cmpi .eq v3 c48_i32
  let c7487_i32 : BitVec 32 := 7487#32
  let c47_i32 : BitVec 32 := 47#32
  let v98 : BitVec 1 := Scalar.cmpi .eq v3 c47_i32
  let c3618_i32 : BitVec 32 := 3618#32
  let c46_i32 : BitVec 32 := 46#32
  let v96 : BitVec 1 := Scalar.cmpi .eq v3 c46_i32
  let c6125_i32 : BitVec 32 := 6125#32
  let c45_i32 : BitVec 32 := 45#32
  let v94 : BitVec 1 := Scalar.cmpi .eq v3 c45_i32
  let c2834_i32 : BitVec 32 := 2834#32
  let c44_i32 : BitVec 32 := 44#32
  let v92 : BitVec 1 := Scalar.cmpi .eq v3 c44_i32
  let c4871_i32 : BitVec 32 := 4871#32
  let c43_i32 : BitVec 32 := 43#32
  let v90 : BitVec 1 := Scalar.cmpi .eq v3 c43_i32
  let c1936_i32 : BitVec 32 := 1936#32
  let c42_i32 : BitVec 32 := 42#32
  let v88 : BitVec 1 := Scalar.cmpi .eq v3 c42_i32
  let c2914_i32 : BitVec 32 := 2914#32
  let c41_i32 : BitVec 32 := 41#32
  let v86 : BitVec 1 := Scalar.cmpi .eq v3 c41_i32
  let c3866_i32 : BitVec 32 := 3866#32
  let c40_i32 : BitVec 32 := 40#32
  let v84 : BitVec 1 := Scalar.cmpi .eq v3 c40_i32
  let c1846_i32 : BitVec 32 := 1846#32
  let c39_i32 : BitVec 32 := 39#32
  let v82 : BitVec 1 := Scalar.cmpi .eq v3 c39_i32
  let c7714_i32 : BitVec 32 := 7714#32
  let c38_i32 : BitVec 32 := 38#32
  let v80 : BitVec 1 := Scalar.cmpi .eq v3 c38_i32
  let c3980_i32 : BitVec 32 := 3980#32
  let c37_i32 : BitVec 32 := 37#32
  let v78 : BitVec 1 := Scalar.cmpi .eq v3 c37_i32
  let c6570_i32 : BitVec 32 := 6570#32
  let c36_i32 : BitVec 32 := 36#32
  let v76 : BitVec 1 := Scalar.cmpi .eq v3 c36_i32
  let c2937_i32 : BitVec 32 := 2937#32
  let c35_i32 : BitVec 32 := 35#32
  let v74 : BitVec 1 := Scalar.cmpi .eq v3 c35_i32
  let c1105_i32 : BitVec 32 := 1105#32
  let c34_i32 : BitVec 32 := 34#32
  let v72 : BitVec 1 := Scalar.cmpi .eq v3 c34_i32
  let c5685_i32 : BitVec 32 := 5685#32
  let c33_i32 : BitVec 32 := 33#32
  let v70 : BitVec 1 := Scalar.cmpi .eq v3 c33_i32
  let c1851_i32 : BitVec 32 := 1851#32
  let c32_i32 : BitVec 32 := 32#32
  let v68 : BitVec 1 := Scalar.cmpi .eq v3 c32_i32
  let c2835_i32 : BitVec 32 := 2835#32
  let c31_i32 : BitVec 32 := 31#32
  let v66 : BitVec 1 := Scalar.cmpi .eq v3 c31_i32
  let c6151_i32 : BitVec 32 := 6151#32
  let c30_i32 : BitVec 32 := 30#32
  let v64 : BitVec 1 := Scalar.cmpi .eq v3 c30_i32
  let c2916_i32 : BitVec 32 := 2916#32
  let c29_i32 : BitVec 32 := 29#32
  let v62 : BitVec 1 := Scalar.cmpi .eq v3 c29_i32
  let c4806_i32 : BitVec 32 := 4806#32
  let c28_i32 : BitVec 32 := 28#32
  let v60 : BitVec 1 := Scalar.cmpi .eq v3 c28_i32
  let c2760_i32 : BitVec 32 := 2760#32
  let c27_i32 : BitVec 32 := 27#32
  let v58 : BitVec 1 := Scalar.cmpi .eq v3 c27_i32
  let c2339_i32 : BitVec 32 := 2339#32
  let c26_i32 : BitVec 32 := 26#32
  let v56 : BitVec 1 := Scalar.cmpi .eq v3 c26_i32
  let c5978_i32 : BitVec 32 := 5978#32
  let c25_i32 : BitVec 32 := 25#32
  let v54 : BitVec 1 := Scalar.cmpi .eq v3 c25_i32
  let c6943_i32 : BitVec 32 := 6943#32
  let c24_i32 : BitVec 32 := 24#32
  let v52 : BitVec 1 := Scalar.cmpi .eq v3 c24_i32
  let c7654_i32 : BitVec 32 := 7654#32
  let c23_i32 : BitVec 32 := 23#32
  let v50 : BitVec 1 := Scalar.cmpi .eq v3 c23_i32
  let c3018_i32 : BitVec 32 := 3018#32
  let c22_i32 : BitVec 32 := 22#32
  let v48 : BitVec 1 := Scalar.cmpi .eq v3 c22_i32
  let c56_i32 : BitVec 32 := 56#32
  let c21_i32 : BitVec 32 := 21#32
  let v46 : BitVec 1 := Scalar.cmpi .eq v3 c21_i32
  let c5652_i32 : BitVec 32 := 5652#32
  let c20_i32 : BitVec 32 := 20#32
  let v44 : BitVec 1 := Scalar.cmpi .eq v3 c20_i32
  let c6840_i32 : BitVec 32 := 6840#32
  let c19_i32 : BitVec 32 := 19#32
  let v42 : BitVec 1 := Scalar.cmpi .eq v3 c19_i32
  let c4026_i32 : BitVec 32 := 4026#32
  let c18_i32 : BitVec 32 := 18#32
  let v40 : BitVec 1 := Scalar.cmpi .eq v3 c18_i32
  let c91_i32 : BitVec 32 := 91#32
  let c17_i32 : BitVec 32 := 17#32
  let v38 : BitVec 1 := Scalar.cmpi .eq v3 c17_i32
  let c7767_i32 : BitVec 32 := 7767#32
  let c16_i32 : BitVec 32 := 16#32
  let v36 : BitVec 1 := Scalar.cmpi .eq v3 c16_i32
  let c4241_i32 : BitVec 32 := 4241#32
  let c15_i32 : BitVec 32 := 15#32
  let v34 : BitVec 1 := Scalar.cmpi .eq v3 c15_i32
  let c6170_i32 : BitVec 32 := 6170#32
  let c14_i32 : BitVec 32 := 14#32
  let v32 : BitVec 1 := Scalar.cmpi .eq v3 c14_i32
  let c8174_i32 : BitVec 32 := 8174#32
  let c13_i32 : BitVec 32 := 13#32
  let v30 : BitVec 1 := Scalar.cmpi .eq v3 c13_i32
  let c1378_i32 : BitVec 32 := 1378#32
  let c12_i32 : BitVec 32 := 12#32
  let v28 : BitVec 1 := Scalar.cmpi .eq v3 c12_i32
  let c2562_i32 : BitVec 32 := 2562#32
  let c11_i32 : BitVec 32 := 11#32
  let v26 : BitVec 1 := Scalar.cmpi .eq v3 c11_i32
  let c4161_i32 : BitVec 32 := 4161#32
  let c10_i32 : BitVec 32 := 10#32
  let v24 : BitVec 1 := Scalar.cmpi .eq v3 c10_i32
  let c6176_i32 : BitVec 32 := 6176#32
  let c9_i32 : BitVec 32 := 9#32
  let v22 : BitVec 1 := Scalar.cmpi .eq v3 c9_i32
  let c2818_i32 : BitVec 32 := 2818#32
  let c8_i32 : BitVec 32 := 8#32
  let v20 : BitVec 1 := Scalar.cmpi .eq v3 c8_i32
  let c5970_i32 : BitVec 32 := 5970#32
  let c7_i32 : BitVec 32 := 7#32
  let v18 : BitVec 1 := Scalar.cmpi .eq v3 c7_i32
  let c7573_i32 : BitVec 32 := 7573#32
  let c6_i32 : BitVec 32 := 6#32
  let v16 : BitVec 1 := Scalar.cmpi .eq v3 c6_i32
  let c3350_i32 : BitVec 32 := 3350#32
  let c5_i32 : BitVec 32 := 5#32
  let v14 : BitVec 1 := Scalar.cmpi .eq v3 c5_i32
  let c4780_i32 : BitVec 32 := 4780#32
  let c4_i32 : BitVec 32 := 4#32
  let v12 : BitVec 1 := Scalar.cmpi .eq v3 c4_i32
  let c6560_i32 : BitVec 32 := 6560#32
  let c3_i32 : BitVec 32 := 3#32
  let v10 : BitVec 1 := Scalar.cmpi .eq v3 c3_i32
  let c7017_i32 : BitVec 32 := 7017#32
  let c2_i32_3 : BitVec 32 := 2#32
  let v8 : BitVec 1 := Scalar.cmpi .eq v3 c2_i32_3
  let c736_i32 : BitVec 32 := 736#32
  let c1_i32_2 : BitVec 32 := 1#32
  let v6 : BitVec 1 := Scalar.cmpi .eq v3 c1_i32_2
  let c943_i32 : BitVec 32 := 943#32
  let c7932_i32 : BitVec 32 := 7932#32
  let v7 : BitVec 32 := Scalar.select v6 c943_i32 c7932_i32
  let v9 : BitVec 32 := Scalar.select v8 c736_i32 v7
  let v11 : BitVec 32 := Scalar.select v10 c7017_i32 v9
  let v13 : BitVec 32 := Scalar.select v12 c6560_i32 v11
  let v15 : BitVec 32 := Scalar.select v14 c4780_i32 v13
  let v17 : BitVec 32 := Scalar.select v16 c3350_i32 v15
  let v19 : BitVec 32 := Scalar.select v18 c7573_i32 v17
  let v21 : BitVec 32 := Scalar.select v20 c5970_i32 v19
  let v23 : BitVec 32 := Scalar.select v22 c2818_i32 v21
  let v25 : BitVec 32 := Scalar.select v24 c6176_i32 v23
  let v27 : BitVec 32 := Scalar.select v26 c4161_i32 v25
  let v29 : BitVec 32 := Scalar.select v28 c2562_i32 v27
  let v31 : BitVec 32 := Scalar.select v30 c1378_i32 v29
  let v33 : BitVec 32 := Scalar.select v32 c8174_i32 v31
  let v35 : BitVec 32 := Scalar.select v34 c6170_i32 v33
  let v37 : BitVec 32 := Scalar.select v36 c4241_i32 v35
  let v39 : BitVec 32 := Scalar.select v38 c7767_i32 v37
  let v41 : BitVec 32 := Scalar.select v40 c91_i32 v39
  let v43 : BitVec 32 := Scalar.select v42 c4026_i32 v41
  let v45 : BitVec 32 := Scalar.select v44 c6840_i32 v43
  let v47 : BitVec 32 := Scalar.select v46 c5652_i32 v45
  let v49 : BitVec 32 := Scalar.select v48 c56_i32 v47
  let v51 : BitVec 32 := Scalar.select v50 c3018_i32 v49
  let v53 : BitVec 32 := Scalar.select v52 c7654_i32 v51
  let v55 : BitVec 32 := Scalar.select v54 c6943_i32 v53
  let v57 : BitVec 32 := Scalar.select v56 c5978_i32 v55
  let v59 : BitVec 32 := Scalar.select v58 c2339_i32 v57
  let v61 : BitVec 32 := Scalar.select v60 c2760_i32 v59
  let v63 : BitVec 32 := Scalar.select v62 c4806_i32 v61
  let v65 : BitVec 32 := Scalar.select v64 c2916_i32 v63
  let v67 : BitVec 32 := Scalar.select v66 c6151_i32 v65
  let v69 : BitVec 32 := Scalar.select v68 c2835_i32 v67
  let v71 : BitVec 32 := Scalar.select v70 c1851_i32 v69
  let v73 : BitVec 32 := Scalar.select v72 c5685_i32 v71
  let v75 : BitVec 32 := Scalar.select v74 c1105_i32 v73
  let v77 : BitVec 32 := Scalar.select v76 c2937_i32 v75
  let v79 : BitVec 32 := Scalar.select v78 c6570_i32 v77
  let v81 : BitVec 32 := Scalar.select v80 c3980_i32 v79
  let v83 : BitVec 32 := Scalar.select v82 c7714_i32 v81
  let v85 : BitVec 32 := Scalar.select v84 c1846_i32 v83
  let v87 : BitVec 32 := Scalar.select v86 c3866_i32 v85
  let v89 : BitVec 32 := Scalar.select v88 c2914_i32 v87
  let v91 : BitVec 32 := Scalar.select v90 c1936_i32 v89
  let v93 : BitVec 32 := Scalar.select v92 c4871_i32 v91
  let v95 : BitVec 32 := Scalar.select v94 c2834_i32 v93
  let v97 : BitVec 32 := Scalar.select v96 c6125_i32 v95
  let v99 : BitVec 32 := Scalar.select v98 c3618_i32 v97
  let v101 : BitVec 32 := Scalar.select v100 c7487_i32 v99
  let v103 : BitVec 32 := Scalar.select v102 c593_i32 v101
  let v105 : BitVec 32 := Scalar.select v104 c7351_i32 v103
  let v107 : BitVec 32 := Scalar.select v106 c5479_i32 v105
  let v109 : BitVec 32 := Scalar.select v108 c572_i32 v107
  let v111 : BitVec 32 := Scalar.select v110 c1765_i32 v109
  let v113 : BitVec 32 := Scalar.select v112 c3913_i32 v111
  let v115 : BitVec 32 := Scalar.select v114 c2687_i32 v113
  let v117 : BitVec 32 := Scalar.select v116 c5257_i32 v115
  let v119 : BitVec 32 := Scalar.select v118 c6147_i32 v117
  let v121 : BitVec 32 := Scalar.select v120 c7228_i32 v119
  let v123 : BitVec 32 := Scalar.select v122 c2263_i32 v121
  let v125 : BitVec 32 := Scalar.select v124 c3132_i32 v123
  let v127 : BitVec 32 := Scalar.select v126 c722_i32 v125
  let v129 : BitVec 32 := Scalar.select v128 c1196_i32 v127
  let v131 : BitVec 32 := Scalar.select v130 c1763_i32 v129
  let c7_i32_132 : BitVec 32 := 7#32
  let v259 : BitVec 32 := Scalar.shrsi v131 c7_i32_132
  let v260 : BitVec 32 := Scalar.addi v258 v259
  let c256_i32 : BitVec 32 := 256#32
  let v261 : BitVec 32 := Scalar.muli v260 c256_i32
  let c1_i32_455 : BitVec 32 := 1#32
  let c1_i32_457 : BitVec 32 := 1#32
  let arg20 : BitVec 32 := Scf.iv c1_i32_455 c1_i32_457 k0_t5
  let c4_i32_623 : BitVec 32 := 4#32
  let v1375 : BitVec 32 := Scalar.muli arg20 c4_i32_623
  let c0_i32_624 : BitVec 32 := 0#32
  let v1376 : BitVec 32 := Scalar.addi v1375 c0_i32_624
  let c0_i32_626 : BitVec 32 := 0#32
  let v1378 : BitVec 1 := Scalar.cmpi .sgt v1376 c0_i32_626
  let v1379 : BitVec 32 := Scalar.extui v1378
  let c0_i32_627 : BitVec 32 := 0#32
  let v1380 : BitVec 1 := Scalar.cmpi .slt v1376 c0_i32_627
  let v1381 : BitVec 32 := Scalar.extui v1380
  let v1382 : BitVec 32 := Scalar.subi v1379 v1381
  let c2_i32_625 : BitVec 32 := 2#32
  let c0_i32_628 : BitVec 32 := 0#32
  let v1383 : BitVec 1 := Scalar.cmpi .sgt c2_i32_625 c0_i32_628
  let v1384 : BitVec 32 := Scalar.extui v1383
  let c0_i32_629 : BitVec 32 := 0#32
  let v1385 : BitVec 1 := Scalar.cmpi .slt c2_i32_625 c0_i32_629
  let v1386 : BitVec 32 := Scalar.extui v1385
  let v1387 : BitVec 32 := Scalar.subi v1384 v1386
  let v1388 : BitVec 1 := Scalar.cmpi .ne v1382 v1387
  let v1389 : BitVec 32 := Scalar.remsi v1376 c2_i32_625
  let c0_i32_630 : BitVec 32 := 0#32
  let v1390 : BitVec 1 := Scalar.cmpi .ne v1389 c0_i32_630
  let v1391 : BitVec 1 := Scalar.andi v1388 v1390
  let v1377 : BitVec 32 := Scalar.divsi v1376 c2_i32_625
  let c1_i32_631 : BitVec 32 := 1#32
  let v1392 : BitVec 32 := Scalar.subi v1377 c1_i32_631
  let v1393 : BitVec 32 := Scalar.select v1391 v1392 v1377
  let c15872_i32_632 : BitVec 32 := 15872#32
  let v1394 : BitVec 32 := Scalar.muli v1393 c15872_i32_632
  let v1395 : BitVec 32 := Scalar.addi v261 v1394
  v1395
def k0_off67 (i : grid0.Coords) (k0_t5 : Fin k0_t5_loop.trips) (c0_i32 : BitVec 32) (c0_i32_624 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let v3 : BitVec 32 := Scalar.addi v2 c0_i32
  let c2048_i32 : BitVec 32 := 2048#32
  let v258 : BitVec 32 := Scalar.muli v3 c2048_i32
  let c63_i32 : BitVec 32 := 63#32
  let v130 : BitVec 1 := Scalar.cmpi .eq v3 c63_i32
  let c1763_i32 : BitVec 32 := 1763#32
  let c62_i32 : BitVec 32 := 62#32
  let v128 : BitVec 1 := Scalar.cmpi .eq v3 c62_i32
  let c1196_i32 : BitVec 32 := 1196#32
  let c61_i32 : BitVec 32 := 61#32
  let v126 : BitVec 1 := Scalar.cmpi .eq v3 c61_i32
  let c722_i32 : BitVec 32 := 722#32
  let c60_i32 : BitVec 32 := 60#32
  let v124 : BitVec 1 := Scalar.cmpi .eq v3 c60_i32
  let c3132_i32 : BitVec 32 := 3132#32
  let c59_i32 : BitVec 32 := 59#32
  let v122 : BitVec 1 := Scalar.cmpi .eq v3 c59_i32
  let c2263_i32 : BitVec 32 := 2263#32
  let c58_i32 : BitVec 32 := 58#32
  let v120 : BitVec 1 := Scalar.cmpi .eq v3 c58_i32
  let c7228_i32 : BitVec 32 := 7228#32
  let c57_i32 : BitVec 32 := 57#32
  let v118 : BitVec 1 := Scalar.cmpi .eq v3 c57_i32
  let c6147_i32 : BitVec 32 := 6147#32
  let c56_i32_4 : BitVec 32 := 56#32
  let v116 : BitVec 1 := Scalar.cmpi .eq v3 c56_i32_4
  let c5257_i32 : BitVec 32 := 5257#32
  let c55_i32 : BitVec 32 := 55#32
  let v114 : BitVec 1 := Scalar.cmpi .eq v3 c55_i32
  let c2687_i32 : BitVec 32 := 2687#32
  let c54_i32 : BitVec 32 := 54#32
  let v112 : BitVec 1 := Scalar.cmpi .eq v3 c54_i32
  let c3913_i32 : BitVec 32 := 3913#32
  let c53_i32 : BitVec 32 := 53#32
  let v110 : BitVec 1 := Scalar.cmpi .eq v3 c53_i32
  let c1765_i32 : BitVec 32 := 1765#32
  let c52_i32 : BitVec 32 := 52#32
  let v108 : BitVec 1 := Scalar.cmpi .eq v3 c52_i32
  let c572_i32 : BitVec 32 := 572#32
  let c51_i32 : BitVec 32 := 51#32
  let v106 : BitVec 1 := Scalar.cmpi .eq v3 c51_i32
  let c5479_i32 : BitVec 32 := 5479#32
  let c50_i32 : BitVec 32 := 50#32
  let v104 : BitVec 1 := Scalar.cmpi .eq v3 c50_i32
  let c7351_i32 : BitVec 32 := 7351#32
  let c49_i32 : BitVec 32 := 49#32
  let v102 : BitVec 1 := Scalar.cmpi .eq v3 c49_i32
  let c593_i32 : BitVec 32 := 593#32
  let c48_i32 : BitVec 32 := 48#32
  let v100 : BitVec 1 := Scalar.cmpi .eq v3 c48_i32
  let c7487_i32 : BitVec 32 := 7487#32
  let c47_i32 : BitVec 32 := 47#32
  let v98 : BitVec 1 := Scalar.cmpi .eq v3 c47_i32
  let c3618_i32 : BitVec 32 := 3618#32
  let c46_i32 : BitVec 32 := 46#32
  let v96 : BitVec 1 := Scalar.cmpi .eq v3 c46_i32
  let c6125_i32 : BitVec 32 := 6125#32
  let c45_i32 : BitVec 32 := 45#32
  let v94 : BitVec 1 := Scalar.cmpi .eq v3 c45_i32
  let c2834_i32 : BitVec 32 := 2834#32
  let c44_i32 : BitVec 32 := 44#32
  let v92 : BitVec 1 := Scalar.cmpi .eq v3 c44_i32
  let c4871_i32 : BitVec 32 := 4871#32
  let c43_i32 : BitVec 32 := 43#32
  let v90 : BitVec 1 := Scalar.cmpi .eq v3 c43_i32
  let c1936_i32 : BitVec 32 := 1936#32
  let c42_i32 : BitVec 32 := 42#32
  let v88 : BitVec 1 := Scalar.cmpi .eq v3 c42_i32
  let c2914_i32 : BitVec 32 := 2914#32
  let c41_i32 : BitVec 32 := 41#32
  let v86 : BitVec 1 := Scalar.cmpi .eq v3 c41_i32
  let c3866_i32 : BitVec 32 := 3866#32
  let c40_i32 : BitVec 32 := 40#32
  let v84 : BitVec 1 := Scalar.cmpi .eq v3 c40_i32
  let c1846_i32 : BitVec 32 := 1846#32
  let c39_i32 : BitVec 32 := 39#32
  let v82 : BitVec 1 := Scalar.cmpi .eq v3 c39_i32
  let c7714_i32 : BitVec 32 := 7714#32
  let c38_i32 : BitVec 32 := 38#32
  let v80 : BitVec 1 := Scalar.cmpi .eq v3 c38_i32
  let c3980_i32 : BitVec 32 := 3980#32
  let c37_i32 : BitVec 32 := 37#32
  let v78 : BitVec 1 := Scalar.cmpi .eq v3 c37_i32
  let c6570_i32 : BitVec 32 := 6570#32
  let c36_i32 : BitVec 32 := 36#32
  let v76 : BitVec 1 := Scalar.cmpi .eq v3 c36_i32
  let c2937_i32 : BitVec 32 := 2937#32
  let c35_i32 : BitVec 32 := 35#32
  let v74 : BitVec 1 := Scalar.cmpi .eq v3 c35_i32
  let c1105_i32 : BitVec 32 := 1105#32
  let c34_i32 : BitVec 32 := 34#32
  let v72 : BitVec 1 := Scalar.cmpi .eq v3 c34_i32
  let c5685_i32 : BitVec 32 := 5685#32
  let c33_i32 : BitVec 32 := 33#32
  let v70 : BitVec 1 := Scalar.cmpi .eq v3 c33_i32
  let c1851_i32 : BitVec 32 := 1851#32
  let c32_i32 : BitVec 32 := 32#32
  let v68 : BitVec 1 := Scalar.cmpi .eq v3 c32_i32
  let c2835_i32 : BitVec 32 := 2835#32
  let c31_i32 : BitVec 32 := 31#32
  let v66 : BitVec 1 := Scalar.cmpi .eq v3 c31_i32
  let c6151_i32 : BitVec 32 := 6151#32
  let c30_i32 : BitVec 32 := 30#32
  let v64 : BitVec 1 := Scalar.cmpi .eq v3 c30_i32
  let c2916_i32 : BitVec 32 := 2916#32
  let c29_i32 : BitVec 32 := 29#32
  let v62 : BitVec 1 := Scalar.cmpi .eq v3 c29_i32
  let c4806_i32 : BitVec 32 := 4806#32
  let c28_i32 : BitVec 32 := 28#32
  let v60 : BitVec 1 := Scalar.cmpi .eq v3 c28_i32
  let c2760_i32 : BitVec 32 := 2760#32
  let c27_i32 : BitVec 32 := 27#32
  let v58 : BitVec 1 := Scalar.cmpi .eq v3 c27_i32
  let c2339_i32 : BitVec 32 := 2339#32
  let c26_i32 : BitVec 32 := 26#32
  let v56 : BitVec 1 := Scalar.cmpi .eq v3 c26_i32
  let c5978_i32 : BitVec 32 := 5978#32
  let c25_i32 : BitVec 32 := 25#32
  let v54 : BitVec 1 := Scalar.cmpi .eq v3 c25_i32
  let c6943_i32 : BitVec 32 := 6943#32
  let c24_i32 : BitVec 32 := 24#32
  let v52 : BitVec 1 := Scalar.cmpi .eq v3 c24_i32
  let c7654_i32 : BitVec 32 := 7654#32
  let c23_i32 : BitVec 32 := 23#32
  let v50 : BitVec 1 := Scalar.cmpi .eq v3 c23_i32
  let c3018_i32 : BitVec 32 := 3018#32
  let c22_i32 : BitVec 32 := 22#32
  let v48 : BitVec 1 := Scalar.cmpi .eq v3 c22_i32
  let c56_i32 : BitVec 32 := 56#32
  let c21_i32 : BitVec 32 := 21#32
  let v46 : BitVec 1 := Scalar.cmpi .eq v3 c21_i32
  let c5652_i32 : BitVec 32 := 5652#32
  let c20_i32 : BitVec 32 := 20#32
  let v44 : BitVec 1 := Scalar.cmpi .eq v3 c20_i32
  let c6840_i32 : BitVec 32 := 6840#32
  let c19_i32 : BitVec 32 := 19#32
  let v42 : BitVec 1 := Scalar.cmpi .eq v3 c19_i32
  let c4026_i32 : BitVec 32 := 4026#32
  let c18_i32 : BitVec 32 := 18#32
  let v40 : BitVec 1 := Scalar.cmpi .eq v3 c18_i32
  let c91_i32 : BitVec 32 := 91#32
  let c17_i32 : BitVec 32 := 17#32
  let v38 : BitVec 1 := Scalar.cmpi .eq v3 c17_i32
  let c7767_i32 : BitVec 32 := 7767#32
  let c16_i32 : BitVec 32 := 16#32
  let v36 : BitVec 1 := Scalar.cmpi .eq v3 c16_i32
  let c4241_i32 : BitVec 32 := 4241#32
  let c15_i32 : BitVec 32 := 15#32
  let v34 : BitVec 1 := Scalar.cmpi .eq v3 c15_i32
  let c6170_i32 : BitVec 32 := 6170#32
  let c14_i32 : BitVec 32 := 14#32
  let v32 : BitVec 1 := Scalar.cmpi .eq v3 c14_i32
  let c8174_i32 : BitVec 32 := 8174#32
  let c13_i32 : BitVec 32 := 13#32
  let v30 : BitVec 1 := Scalar.cmpi .eq v3 c13_i32
  let c1378_i32 : BitVec 32 := 1378#32
  let c12_i32 : BitVec 32 := 12#32
  let v28 : BitVec 1 := Scalar.cmpi .eq v3 c12_i32
  let c2562_i32 : BitVec 32 := 2562#32
  let c11_i32 : BitVec 32 := 11#32
  let v26 : BitVec 1 := Scalar.cmpi .eq v3 c11_i32
  let c4161_i32 : BitVec 32 := 4161#32
  let c10_i32 : BitVec 32 := 10#32
  let v24 : BitVec 1 := Scalar.cmpi .eq v3 c10_i32
  let c6176_i32 : BitVec 32 := 6176#32
  let c9_i32 : BitVec 32 := 9#32
  let v22 : BitVec 1 := Scalar.cmpi .eq v3 c9_i32
  let c2818_i32 : BitVec 32 := 2818#32
  let c8_i32 : BitVec 32 := 8#32
  let v20 : BitVec 1 := Scalar.cmpi .eq v3 c8_i32
  let c5970_i32 : BitVec 32 := 5970#32
  let c7_i32 : BitVec 32 := 7#32
  let v18 : BitVec 1 := Scalar.cmpi .eq v3 c7_i32
  let c7573_i32 : BitVec 32 := 7573#32
  let c6_i32 : BitVec 32 := 6#32
  let v16 : BitVec 1 := Scalar.cmpi .eq v3 c6_i32
  let c3350_i32 : BitVec 32 := 3350#32
  let c5_i32 : BitVec 32 := 5#32
  let v14 : BitVec 1 := Scalar.cmpi .eq v3 c5_i32
  let c4780_i32 : BitVec 32 := 4780#32
  let c4_i32 : BitVec 32 := 4#32
  let v12 : BitVec 1 := Scalar.cmpi .eq v3 c4_i32
  let c6560_i32 : BitVec 32 := 6560#32
  let c3_i32 : BitVec 32 := 3#32
  let v10 : BitVec 1 := Scalar.cmpi .eq v3 c3_i32
  let c7017_i32 : BitVec 32 := 7017#32
  let c2_i32_3 : BitVec 32 := 2#32
  let v8 : BitVec 1 := Scalar.cmpi .eq v3 c2_i32_3
  let c736_i32 : BitVec 32 := 736#32
  let c1_i32_2 : BitVec 32 := 1#32
  let v6 : BitVec 1 := Scalar.cmpi .eq v3 c1_i32_2
  let c943_i32 : BitVec 32 := 943#32
  let c7932_i32 : BitVec 32 := 7932#32
  let v7 : BitVec 32 := Scalar.select v6 c943_i32 c7932_i32
  let v9 : BitVec 32 := Scalar.select v8 c736_i32 v7
  let v11 : BitVec 32 := Scalar.select v10 c7017_i32 v9
  let v13 : BitVec 32 := Scalar.select v12 c6560_i32 v11
  let v15 : BitVec 32 := Scalar.select v14 c4780_i32 v13
  let v17 : BitVec 32 := Scalar.select v16 c3350_i32 v15
  let v19 : BitVec 32 := Scalar.select v18 c7573_i32 v17
  let v21 : BitVec 32 := Scalar.select v20 c5970_i32 v19
  let v23 : BitVec 32 := Scalar.select v22 c2818_i32 v21
  let v25 : BitVec 32 := Scalar.select v24 c6176_i32 v23
  let v27 : BitVec 32 := Scalar.select v26 c4161_i32 v25
  let v29 : BitVec 32 := Scalar.select v28 c2562_i32 v27
  let v31 : BitVec 32 := Scalar.select v30 c1378_i32 v29
  let v33 : BitVec 32 := Scalar.select v32 c8174_i32 v31
  let v35 : BitVec 32 := Scalar.select v34 c6170_i32 v33
  let v37 : BitVec 32 := Scalar.select v36 c4241_i32 v35
  let v39 : BitVec 32 := Scalar.select v38 c7767_i32 v37
  let v41 : BitVec 32 := Scalar.select v40 c91_i32 v39
  let v43 : BitVec 32 := Scalar.select v42 c4026_i32 v41
  let v45 : BitVec 32 := Scalar.select v44 c6840_i32 v43
  let v47 : BitVec 32 := Scalar.select v46 c5652_i32 v45
  let v49 : BitVec 32 := Scalar.select v48 c56_i32 v47
  let v51 : BitVec 32 := Scalar.select v50 c3018_i32 v49
  let v53 : BitVec 32 := Scalar.select v52 c7654_i32 v51
  let v55 : BitVec 32 := Scalar.select v54 c6943_i32 v53
  let v57 : BitVec 32 := Scalar.select v56 c5978_i32 v55
  let v59 : BitVec 32 := Scalar.select v58 c2339_i32 v57
  let v61 : BitVec 32 := Scalar.select v60 c2760_i32 v59
  let v63 : BitVec 32 := Scalar.select v62 c4806_i32 v61
  let v65 : BitVec 32 := Scalar.select v64 c2916_i32 v63
  let v67 : BitVec 32 := Scalar.select v66 c6151_i32 v65
  let v69 : BitVec 32 := Scalar.select v68 c2835_i32 v67
  let v71 : BitVec 32 := Scalar.select v70 c1851_i32 v69
  let v73 : BitVec 32 := Scalar.select v72 c5685_i32 v71
  let v75 : BitVec 32 := Scalar.select v74 c1105_i32 v73
  let v77 : BitVec 32 := Scalar.select v76 c2937_i32 v75
  let v79 : BitVec 32 := Scalar.select v78 c6570_i32 v77
  let v81 : BitVec 32 := Scalar.select v80 c3980_i32 v79
  let v83 : BitVec 32 := Scalar.select v82 c7714_i32 v81
  let v85 : BitVec 32 := Scalar.select v84 c1846_i32 v83
  let v87 : BitVec 32 := Scalar.select v86 c3866_i32 v85
  let v89 : BitVec 32 := Scalar.select v88 c2914_i32 v87
  let v91 : BitVec 32 := Scalar.select v90 c1936_i32 v89
  let v93 : BitVec 32 := Scalar.select v92 c4871_i32 v91
  let v95 : BitVec 32 := Scalar.select v94 c2834_i32 v93
  let v97 : BitVec 32 := Scalar.select v96 c6125_i32 v95
  let v99 : BitVec 32 := Scalar.select v98 c3618_i32 v97
  let v101 : BitVec 32 := Scalar.select v100 c7487_i32 v99
  let v103 : BitVec 32 := Scalar.select v102 c593_i32 v101
  let v105 : BitVec 32 := Scalar.select v104 c7351_i32 v103
  let v107 : BitVec 32 := Scalar.select v106 c5479_i32 v105
  let v109 : BitVec 32 := Scalar.select v108 c572_i32 v107
  let v111 : BitVec 32 := Scalar.select v110 c1765_i32 v109
  let v113 : BitVec 32 := Scalar.select v112 c3913_i32 v111
  let v115 : BitVec 32 := Scalar.select v114 c2687_i32 v113
  let v117 : BitVec 32 := Scalar.select v116 c5257_i32 v115
  let v119 : BitVec 32 := Scalar.select v118 c6147_i32 v117
  let v121 : BitVec 32 := Scalar.select v120 c7228_i32 v119
  let v123 : BitVec 32 := Scalar.select v122 c2263_i32 v121
  let v125 : BitVec 32 := Scalar.select v124 c3132_i32 v123
  let v127 : BitVec 32 := Scalar.select v126 c722_i32 v125
  let v129 : BitVec 32 := Scalar.select v128 c1196_i32 v127
  let v131 : BitVec 32 := Scalar.select v130 c1763_i32 v129
  let c7_i32_132 : BitVec 32 := 7#32
  let v259 : BitVec 32 := Scalar.shrsi v131 c7_i32_132
  let v260 : BitVec 32 := Scalar.addi v258 v259
  let c256_i32 : BitVec 32 := 256#32
  let v261 : BitVec 32 := Scalar.muli v260 c256_i32
  let c1_i32_455 : BitVec 32 := 1#32
  let c1_i32_457 : BitVec 32 := 1#32
  let arg20 : BitVec 32 := Scf.iv c1_i32_455 c1_i32_457 k0_t5
  let c4_i32_623 : BitVec 32 := 4#32
  let v1375 : BitVec 32 := Scalar.muli arg20 c4_i32_623
  let v1376 : BitVec 32 := Scalar.addi v1375 c0_i32_624
  let c0_i32_626 : BitVec 32 := 0#32
  let v1378 : BitVec 1 := Scalar.cmpi .sgt v1376 c0_i32_626
  let v1379 : BitVec 32 := Scalar.extui v1378
  let c0_i32_627 : BitVec 32 := 0#32
  let v1380 : BitVec 1 := Scalar.cmpi .slt v1376 c0_i32_627
  let v1381 : BitVec 32 := Scalar.extui v1380
  let v1382 : BitVec 32 := Scalar.subi v1379 v1381
  let c2_i32_625 : BitVec 32 := 2#32
  let c0_i32_628 : BitVec 32 := 0#32
  let v1383 : BitVec 1 := Scalar.cmpi .sgt c2_i32_625 c0_i32_628
  let v1384 : BitVec 32 := Scalar.extui v1383
  let c0_i32_629 : BitVec 32 := 0#32
  let v1385 : BitVec 1 := Scalar.cmpi .slt c2_i32_625 c0_i32_629
  let v1386 : BitVec 32 := Scalar.extui v1385
  let v1387 : BitVec 32 := Scalar.subi v1384 v1386
  let v1388 : BitVec 1 := Scalar.cmpi .ne v1382 v1387
  let v1389 : BitVec 32 := Scalar.remsi v1376 c2_i32_625
  let c0_i32_630 : BitVec 32 := 0#32
  let v1390 : BitVec 1 := Scalar.cmpi .ne v1389 c0_i32_630
  let v1391 : BitVec 1 := Scalar.andi v1388 v1390
  let v1377 : BitVec 32 := Scalar.divsi v1376 c2_i32_625
  let c1_i32_631 : BitVec 32 := 1#32
  let v1392 : BitVec 32 := Scalar.subi v1377 c1_i32_631
  let v1393 : BitVec 32 := Scalar.select v1391 v1392 v1377
  let c15872_i32_632 : BitVec 32 := 15872#32
  let v1394 : BitVec 32 := Scalar.muli v1393 c15872_i32_632
  let v1395 : BitVec 32 := Scalar.addi v261 v1394
  let v1396 : BitVec 32 := v1395
  ![v1396.toNat]
def k0_off67_at (r : Fin 4) : BitVec 32 × BitVec 32 :=
  if r.val < 2 then
    if r.val < 1 then
      (0#32, 0#32)
    else
      (1#32, 1#32)
  else
    if r.val < 3 then
      (0#32, 2#32)
    else
      (1#32, 3#32)
def k0_mult82 (i : grid0.Coords) (k0_t5 : Fin k0_t5_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32 : BitVec 32 := 0#32
  let v3 : BitVec 32 := Scalar.addi v2 c0_i32
  let c1984_i32 : BitVec 32 := 1984#32
  let v266 : BitVec 32 := Scalar.muli v3 c1984_i32
  let c256_i32_136 : BitVec 32 := 256#32
  let v267 : BitVec 32 := Scalar.muli v266 c256_i32_136
  let c1_i32_455 : BitVec 32 := 1#32
  let c1_i32_457 : BitVec 32 := 1#32
  let arg20 : BitVec 32 := Scf.iv c1_i32_455 c1_i32_457 k0_t5
  let c4_i32_623 : BitVec 32 := 4#32
  let v1375 : BitVec 32 := Scalar.muli arg20 c4_i32_623
  let c0_i32_624 : BitVec 32 := 0#32
  let v1376 : BitVec 32 := Scalar.addi v1375 c0_i32_624
  let c4_i32_633 : BitVec 32 := 4#32
  let v1399 : BitVec 32 := Scalar.subi v1376 c4_i32_633
  let c0_i32_635 : BitVec 32 := 0#32
  let v1401 : BitVec 1 := Scalar.cmpi .sgt v1399 c0_i32_635
  let v1402 : BitVec 32 := Scalar.extui v1401
  let c0_i32_636 : BitVec 32 := 0#32
  let v1403 : BitVec 1 := Scalar.cmpi .slt v1399 c0_i32_636
  let v1404 : BitVec 32 := Scalar.extui v1403
  let v1405 : BitVec 32 := Scalar.subi v1402 v1404
  let c2_i32_634 : BitVec 32 := 2#32
  let c0_i32_637 : BitVec 32 := 0#32
  let v1406 : BitVec 1 := Scalar.cmpi .sgt c2_i32_634 c0_i32_637
  let v1407 : BitVec 32 := Scalar.extui v1406
  let c0_i32_638 : BitVec 32 := 0#32
  let v1408 : BitVec 1 := Scalar.cmpi .slt c2_i32_634 c0_i32_638
  let v1409 : BitVec 32 := Scalar.extui v1408
  let v1410 : BitVec 32 := Scalar.subi v1407 v1409
  let v1411 : BitVec 1 := Scalar.cmpi .ne v1405 v1410
  let v1412 : BitVec 32 := Scalar.remsi v1399 c2_i32_634
  let c0_i32_639 : BitVec 32 := 0#32
  let v1413 : BitVec 1 := Scalar.cmpi .ne v1412 c0_i32_639
  let v1414 : BitVec 1 := Scalar.andi v1411 v1413
  let v1400 : BitVec 32 := Scalar.divsi v1399 c2_i32_634
  let c1_i32_640 : BitVec 32 := 1#32
  let v1415 : BitVec 32 := Scalar.subi v1400 c1_i32_640
  let v1416 : BitVec 32 := Scalar.select v1414 v1415 v1400
  let c15872_i32_641 : BitVec 32 := 15872#32
  let v1417 : BitVec 32 := Scalar.muli v1416 c15872_i32_641
  let v1418 : BitVec 32 := Scalar.addi v267 v1417
  v1418
def k0_off68 (i : grid0.Coords) (k0_t5 : Fin k0_t5_loop.trips) (c0_i32 : BitVec 32) (c0_i32_624 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let v3 : BitVec 32 := Scalar.addi v2 c0_i32
  let c1984_i32 : BitVec 32 := 1984#32
  let v266 : BitVec 32 := Scalar.muli v3 c1984_i32
  let c256_i32_136 : BitVec 32 := 256#32
  let v267 : BitVec 32 := Scalar.muli v266 c256_i32_136
  let c1_i32_455 : BitVec 32 := 1#32
  let c1_i32_457 : BitVec 32 := 1#32
  let arg20 : BitVec 32 := Scf.iv c1_i32_455 c1_i32_457 k0_t5
  let c4_i32_623 : BitVec 32 := 4#32
  let v1375 : BitVec 32 := Scalar.muli arg20 c4_i32_623
  let v1376 : BitVec 32 := Scalar.addi v1375 c0_i32_624
  let c4_i32_633 : BitVec 32 := 4#32
  let v1399 : BitVec 32 := Scalar.subi v1376 c4_i32_633
  let c0_i32_635 : BitVec 32 := 0#32
  let v1401 : BitVec 1 := Scalar.cmpi .sgt v1399 c0_i32_635
  let v1402 : BitVec 32 := Scalar.extui v1401
  let c0_i32_636 : BitVec 32 := 0#32
  let v1403 : BitVec 1 := Scalar.cmpi .slt v1399 c0_i32_636
  let v1404 : BitVec 32 := Scalar.extui v1403
  let v1405 : BitVec 32 := Scalar.subi v1402 v1404
  let c2_i32_634 : BitVec 32 := 2#32
  let c0_i32_637 : BitVec 32 := 0#32
  let v1406 : BitVec 1 := Scalar.cmpi .sgt c2_i32_634 c0_i32_637
  let v1407 : BitVec 32 := Scalar.extui v1406
  let c0_i32_638 : BitVec 32 := 0#32
  let v1408 : BitVec 1 := Scalar.cmpi .slt c2_i32_634 c0_i32_638
  let v1409 : BitVec 32 := Scalar.extui v1408
  let v1410 : BitVec 32 := Scalar.subi v1407 v1409
  let v1411 : BitVec 1 := Scalar.cmpi .ne v1405 v1410
  let v1412 : BitVec 32 := Scalar.remsi v1399 c2_i32_634
  let c0_i32_639 : BitVec 32 := 0#32
  let v1413 : BitVec 1 := Scalar.cmpi .ne v1412 c0_i32_639
  let v1414 : BitVec 1 := Scalar.andi v1411 v1413
  let v1400 : BitVec 32 := Scalar.divsi v1399 c2_i32_634
  let c1_i32_640 : BitVec 32 := 1#32
  let v1415 : BitVec 32 := Scalar.subi v1400 c1_i32_640
  let v1416 : BitVec 32 := Scalar.select v1414 v1415 v1400
  let c15872_i32_641 : BitVec 32 := 15872#32
  let v1417 : BitVec 32 := Scalar.muli v1416 c15872_i32_641
  let v1418 : BitVec 32 := Scalar.addi v267 v1417
  let v1419 : BitVec 32 := v1418
  ![v1419.toNat]
def k0_off68_at (r : Fin 4) : BitVec 32 × BitVec 32 :=
  if r.val < 2 then
    if r.val < 1 then
      (0#32, 0#32)
    else
      (1#32, 1#32)
  else
    if r.val < 3 then
      (0#32, 2#32)
    else
      (1#32, 3#32)
@[reducible] def k0_t6_loop : Scf.Loop 32 :=
  let c0_i32_642 : BitVec 32 := 0#32
  let c62_i32_643 : BitVec 32 := 62#32
  let v1422 : BitVec 32 := Scalar.addi c0_i32_642 c62_i32_643
  let c1_i32_644 : BitVec 32 := 1#32
  ⟨c0_i32_642, v1422, c1_i32_644⟩

def k0_chk65 (v1753 : IVec S16 32) : Prop :=
  (∀ a x, ((![v1753] : Fin 1 → IVec S16 32) a x).toNat < S16128.size a)
theorem k0_idx65_inb : ∀ (v1753 : IVec S16 32) (k0_hw65 : k0_chk65 v1753), ∀ a x, ((![v1753] : Fin 1 → IVec S16 32) a x).toNat < S16128.size a := fun v1753 k0_hw65 => k0_hw65
def k0_mult83 (k0_t6 : Fin k0_t6_loop.trips) : BitVec 32 :=
  let c0_i32_785 : BitVec 32 := 0#32
  let c0_i32_642 : BitVec 32 := 0#32
  let c1_i32_644 : BitVec 32 := 1#32
  let arg22 : BitVec 32 := Scf.iv c0_i32_642 c1_i32_644 k0_t6
  let c1_i32_784 : BitVec 32 := 1#32
  let v1747 : BitVec 32 := Scalar.muli arg22 c1_i32_784
  let v1748 : BitVec 32 := Scalar.addi c0_i32_785 v1747
  let c256_i32_786 : BitVec 32 := 256#32
  let v1749 : BitVec 32 := Scalar.muli v1748 c256_i32_786
  let c0_i32_788 : BitVec 32 := 0#32
  let v1755 : BitVec 32 := Scalar.addi v1749 c0_i32_788
  v1755
def k0_off69 (k0_t6 : Fin k0_t6_loop.trips) : Fin 1 → Nat :=
  let c0_i32_785 : BitVec 32 := 0#32
  let c0_i32_642 : BitVec 32 := 0#32
  let c1_i32_644 : BitVec 32 := 1#32
  let arg22 : BitVec 32 := Scf.iv c0_i32_642 c1_i32_644 k0_t6
  let c1_i32_784 : BitVec 32 := 1#32
  let v1747 : BitVec 32 := Scalar.muli arg22 c1_i32_784
  let v1748 : BitVec 32 := Scalar.addi c0_i32_785 v1747
  let c256_i32_786 : BitVec 32 := 256#32
  let v1749 : BitVec 32 := Scalar.muli v1748 c256_i32_786
  let c0_i32_788 : BitVec 32 := 0#32
  let v1755 : BitVec 32 := Scalar.addi v1749 c0_i32_788
  let v1756 : BitVec 32 := v1755
  let v1757 : Index := Scalar.indexCast v1756
  ![v1757.toNat]

def k0_chk66 (v1759 : IVec S16 32) : Prop :=
  (∀ a x, ((![v1759] : Fin 1 → IVec S16 32) a x).toNat < S16128.size a)
theorem k0_idx66_inb : ∀ (v1759 : IVec S16 32) (k0_hw66 : k0_chk66 v1759), ∀ a x, ((![v1759] : Fin 1 → IVec S16 32) a x).toNat < S16128.size a := fun v1759 k0_hw66 => k0_hw66
def k0_mult84 (k0_t6 : Fin k0_t6_loop.trips) : BitVec 32 :=
  let c0_i32_785 : BitVec 32 := 0#32
  let c0_i32_642 : BitVec 32 := 0#32
  let c1_i32_644 : BitVec 32 := 1#32
  let arg22 : BitVec 32 := Scf.iv c0_i32_642 c1_i32_644 k0_t6
  let c1_i32_784 : BitVec 32 := 1#32
  let v1747 : BitVec 32 := Scalar.muli arg22 c1_i32_784
  let v1748 : BitVec 32 := Scalar.addi c0_i32_785 v1747
  let c256_i32_786 : BitVec 32 := 256#32
  let v1749 : BitVec 32 := Scalar.muli v1748 c256_i32_786
  let c16_i32_789 : BitVec 32 := 16#32
  let v1761 : BitVec 32 := Scalar.addi v1749 c16_i32_789
  v1761
def k0_off70 (k0_t6 : Fin k0_t6_loop.trips) : Fin 1 → Nat :=
  let c0_i32_785 : BitVec 32 := 0#32
  let c0_i32_642 : BitVec 32 := 0#32
  let c1_i32_644 : BitVec 32 := 1#32
  let arg22 : BitVec 32 := Scf.iv c0_i32_642 c1_i32_644 k0_t6
  let c1_i32_784 : BitVec 32 := 1#32
  let v1747 : BitVec 32 := Scalar.muli arg22 c1_i32_784
  let v1748 : BitVec 32 := Scalar.addi c0_i32_785 v1747
  let c256_i32_786 : BitVec 32 := 256#32
  let v1749 : BitVec 32 := Scalar.muli v1748 c256_i32_786
  let c16_i32_789 : BitVec 32 := 16#32
  let v1761 : BitVec 32 := Scalar.addi v1749 c16_i32_789
  let v1762 : BitVec 32 := v1761
  let v1763 : Index := Scalar.indexCast v1762
  ![v1763.toNat]

def k0_chk67 (v1765 : IVec S16 32) : Prop :=
  (∀ a x, ((![v1765] : Fin 1 → IVec S16 32) a x).toNat < S16128.size a)
theorem k0_idx67_inb : ∀ (v1765 : IVec S16 32) (k0_hw67 : k0_chk67 v1765), ∀ a x, ((![v1765] : Fin 1 → IVec S16 32) a x).toNat < S16128.size a := fun v1765 k0_hw67 => k0_hw67
def k0_mult85 (k0_t6 : Fin k0_t6_loop.trips) : BitVec 32 :=
  let c0_i32_785 : BitVec 32 := 0#32
  let c0_i32_642 : BitVec 32 := 0#32
  let c1_i32_644 : BitVec 32 := 1#32
  let arg22 : BitVec 32 := Scf.iv c0_i32_642 c1_i32_644 k0_t6
  let c1_i32_784 : BitVec 32 := 1#32
  let v1747 : BitVec 32 := Scalar.muli arg22 c1_i32_784
  let v1748 : BitVec 32 := Scalar.addi c0_i32_785 v1747
  let c256_i32_786 : BitVec 32 := 256#32
  let v1749 : BitVec 32 := Scalar.muli v1748 c256_i32_786
  let c32_i32_790 : BitVec 32 := 32#32
  let v1767 : BitVec 32 := Scalar.addi v1749 c32_i32_790
  v1767
def k0_off71 (k0_t6 : Fin k0_t6_loop.trips) : Fin 1 → Nat :=
  let c0_i32_785 : BitVec 32 := 0#32
  let c0_i32_642 : BitVec 32 := 0#32
  let c1_i32_644 : BitVec 32 := 1#32
  let arg22 : BitVec 32 := Scf.iv c0_i32_642 c1_i32_644 k0_t6
  let c1_i32_784 : BitVec 32 := 1#32
  let v1747 : BitVec 32 := Scalar.muli arg22 c1_i32_784
  let v1748 : BitVec 32 := Scalar.addi c0_i32_785 v1747
  let c256_i32_786 : BitVec 32 := 256#32
  let v1749 : BitVec 32 := Scalar.muli v1748 c256_i32_786
  let c32_i32_790 : BitVec 32 := 32#32
  let v1767 : BitVec 32 := Scalar.addi v1749 c32_i32_790
  let v1768 : BitVec 32 := v1767
  let v1769 : Index := Scalar.indexCast v1768
  ![v1769.toNat]

def k0_chk68 (v1771 : IVec S16 32) : Prop :=
  (∀ a x, ((![v1771] : Fin 1 → IVec S16 32) a x).toNat < S16128.size a)
theorem k0_idx68_inb : ∀ (v1771 : IVec S16 32) (k0_hw68 : k0_chk68 v1771), ∀ a x, ((![v1771] : Fin 1 → IVec S16 32) a x).toNat < S16128.size a := fun v1771 k0_hw68 => k0_hw68
def k0_mult86 (k0_t6 : Fin k0_t6_loop.trips) : BitVec 32 :=
  let c0_i32_785 : BitVec 32 := 0#32
  let c0_i32_642 : BitVec 32 := 0#32
  let c1_i32_644 : BitVec 32 := 1#32
  let arg22 : BitVec 32 := Scf.iv c0_i32_642 c1_i32_644 k0_t6
  let c1_i32_784 : BitVec 32 := 1#32
  let v1747 : BitVec 32 := Scalar.muli arg22 c1_i32_784
  let v1748 : BitVec 32 := Scalar.addi c0_i32_785 v1747
  let c256_i32_786 : BitVec 32 := 256#32
  let v1749 : BitVec 32 := Scalar.muli v1748 c256_i32_786
  let c48_i32_791 : BitVec 32 := 48#32
  let v1773 : BitVec 32 := Scalar.addi v1749 c48_i32_791
  v1773
def k0_off72 (k0_t6 : Fin k0_t6_loop.trips) : Fin 1 → Nat :=
  let c0_i32_785 : BitVec 32 := 0#32
  let c0_i32_642 : BitVec 32 := 0#32
  let c1_i32_644 : BitVec 32 := 1#32
  let arg22 : BitVec 32 := Scf.iv c0_i32_642 c1_i32_644 k0_t6
  let c1_i32_784 : BitVec 32 := 1#32
  let v1747 : BitVec 32 := Scalar.muli arg22 c1_i32_784
  let v1748 : BitVec 32 := Scalar.addi c0_i32_785 v1747
  let c256_i32_786 : BitVec 32 := 256#32
  let v1749 : BitVec 32 := Scalar.muli v1748 c256_i32_786
  let c48_i32_791 : BitVec 32 := 48#32
  let v1773 : BitVec 32 := Scalar.addi v1749 c48_i32_791
  let v1774 : BitVec 32 := v1773
  let v1775 : Index := Scalar.indexCast v1774
  ![v1775.toNat]

def k0_chk69 (v1777 : IVec S16 32) : Prop :=
  (∀ a x, ((![v1777] : Fin 1 → IVec S16 32) a x).toNat < S16128.size a)
theorem k0_idx69_inb : ∀ (v1777 : IVec S16 32) (k0_hw69 : k0_chk69 v1777), ∀ a x, ((![v1777] : Fin 1 → IVec S16 32) a x).toNat < S16128.size a := fun v1777 k0_hw69 => k0_hw69
def k0_mult87 (k0_t6 : Fin k0_t6_loop.trips) : BitVec 32 :=
  let c0_i32_785 : BitVec 32 := 0#32
  let c0_i32_642 : BitVec 32 := 0#32
  let c1_i32_644 : BitVec 32 := 1#32
  let arg22 : BitVec 32 := Scf.iv c0_i32_642 c1_i32_644 k0_t6
  let c1_i32_784 : BitVec 32 := 1#32
  let v1747 : BitVec 32 := Scalar.muli arg22 c1_i32_784
  let v1748 : BitVec 32 := Scalar.addi c0_i32_785 v1747
  let c256_i32_786 : BitVec 32 := 256#32
  let v1749 : BitVec 32 := Scalar.muli v1748 c256_i32_786
  let c64_i32_792 : BitVec 32 := 64#32
  let v1779 : BitVec 32 := Scalar.addi v1749 c64_i32_792
  v1779
def k0_off73 (k0_t6 : Fin k0_t6_loop.trips) : Fin 1 → Nat :=
  let c0_i32_785 : BitVec 32 := 0#32
  let c0_i32_642 : BitVec 32 := 0#32
  let c1_i32_644 : BitVec 32 := 1#32
  let arg22 : BitVec 32 := Scf.iv c0_i32_642 c1_i32_644 k0_t6
  let c1_i32_784 : BitVec 32 := 1#32
  let v1747 : BitVec 32 := Scalar.muli arg22 c1_i32_784
  let v1748 : BitVec 32 := Scalar.addi c0_i32_785 v1747
  let c256_i32_786 : BitVec 32 := 256#32
  let v1749 : BitVec 32 := Scalar.muli v1748 c256_i32_786
  let c64_i32_792 : BitVec 32 := 64#32
  let v1779 : BitVec 32 := Scalar.addi v1749 c64_i32_792
  let v1780 : BitVec 32 := v1779
  let v1781 : Index := Scalar.indexCast v1780
  ![v1781.toNat]

def k0_chk70 (v1783 : IVec S16 32) : Prop :=
  (∀ a x, ((![v1783] : Fin 1 → IVec S16 32) a x).toNat < S16128.size a)
theorem k0_idx70_inb : ∀ (v1783 : IVec S16 32) (k0_hw70 : k0_chk70 v1783), ∀ a x, ((![v1783] : Fin 1 → IVec S16 32) a x).toNat < S16128.size a := fun v1783 k0_hw70 => k0_hw70
def k0_mult88 (k0_t6 : Fin k0_t6_loop.trips) : BitVec 32 :=
  let c0_i32_785 : BitVec 32 := 0#32
  let c0_i32_642 : BitVec 32 := 0#32
  let c1_i32_644 : BitVec 32 := 1#32
  let arg22 : BitVec 32 := Scf.iv c0_i32_642 c1_i32_644 k0_t6
  let c1_i32_784 : BitVec 32 := 1#32
  let v1747 : BitVec 32 := Scalar.muli arg22 c1_i32_784
  let v1748 : BitVec 32 := Scalar.addi c0_i32_785 v1747
  let c256_i32_786 : BitVec 32 := 256#32
  let v1749 : BitVec 32 := Scalar.muli v1748 c256_i32_786
  let c80_i32_793 : BitVec 32 := 80#32
  let v1785 : BitVec 32 := Scalar.addi v1749 c80_i32_793
  v1785
def k0_off74 (k0_t6 : Fin k0_t6_loop.trips) : Fin 1 → Nat :=
  let c0_i32_785 : BitVec 32 := 0#32
  let c0_i32_642 : BitVec 32 := 0#32
  let c1_i32_644 : BitVec 32 := 1#32
  let arg22 : BitVec 32 := Scf.iv c0_i32_642 c1_i32_644 k0_t6
  let c1_i32_784 : BitVec 32 := 1#32
  let v1747 : BitVec 32 := Scalar.muli arg22 c1_i32_784
  let v1748 : BitVec 32 := Scalar.addi c0_i32_785 v1747
  let c256_i32_786 : BitVec 32 := 256#32
  let v1749 : BitVec 32 := Scalar.muli v1748 c256_i32_786
  let c80_i32_793 : BitVec 32 := 80#32
  let v1785 : BitVec 32 := Scalar.addi v1749 c80_i32_793
  let v1786 : BitVec 32 := v1785
  let v1787 : Index := Scalar.indexCast v1786
  ![v1787.toNat]

def k0_chk71 (v1789 : IVec S16 32) : Prop :=
  (∀ a x, ((![v1789] : Fin 1 → IVec S16 32) a x).toNat < S16128.size a)
theorem k0_idx71_inb : ∀ (v1789 : IVec S16 32) (k0_hw71 : k0_chk71 v1789), ∀ a x, ((![v1789] : Fin 1 → IVec S16 32) a x).toNat < S16128.size a := fun v1789 k0_hw71 => k0_hw71
def k0_mult89 (k0_t6 : Fin k0_t6_loop.trips) : BitVec 32 :=
  let c0_i32_785 : BitVec 32 := 0#32
  let c0_i32_642 : BitVec 32 := 0#32
  let c1_i32_644 : BitVec 32 := 1#32
  let arg22 : BitVec 32 := Scf.iv c0_i32_642 c1_i32_644 k0_t6
  let c1_i32_784 : BitVec 32 := 1#32
  let v1747 : BitVec 32 := Scalar.muli arg22 c1_i32_784
  let v1748 : BitVec 32 := Scalar.addi c0_i32_785 v1747
  let c256_i32_786 : BitVec 32 := 256#32
  let v1749 : BitVec 32 := Scalar.muli v1748 c256_i32_786
  let c96_i32_794 : BitVec 32 := 96#32
  let v1791 : BitVec 32 := Scalar.addi v1749 c96_i32_794
  v1791
def k0_off75 (k0_t6 : Fin k0_t6_loop.trips) : Fin 1 → Nat :=
  let c0_i32_785 : BitVec 32 := 0#32
  let c0_i32_642 : BitVec 32 := 0#32
  let c1_i32_644 : BitVec 32 := 1#32
  let arg22 : BitVec 32 := Scf.iv c0_i32_642 c1_i32_644 k0_t6
  let c1_i32_784 : BitVec 32 := 1#32
  let v1747 : BitVec 32 := Scalar.muli arg22 c1_i32_784
  let v1748 : BitVec 32 := Scalar.addi c0_i32_785 v1747
  let c256_i32_786 : BitVec 32 := 256#32
  let v1749 : BitVec 32 := Scalar.muli v1748 c256_i32_786
  let c96_i32_794 : BitVec 32 := 96#32
  let v1791 : BitVec 32 := Scalar.addi v1749 c96_i32_794
  let v1792 : BitVec 32 := v1791
  let v1793 : Index := Scalar.indexCast v1792
  ![v1793.toNat]

def k0_chk72 (v1795 : IVec S16 32) : Prop :=
  (∀ a x, ((![v1795] : Fin 1 → IVec S16 32) a x).toNat < S16128.size a)
theorem k0_idx72_inb : ∀ (v1795 : IVec S16 32) (k0_hw72 : k0_chk72 v1795), ∀ a x, ((![v1795] : Fin 1 → IVec S16 32) a x).toNat < S16128.size a := fun v1795 k0_hw72 => k0_hw72
def k0_mult90 (k0_t6 : Fin k0_t6_loop.trips) : BitVec 32 :=
  let c0_i32_785 : BitVec 32 := 0#32
  let c0_i32_642 : BitVec 32 := 0#32
  let c1_i32_644 : BitVec 32 := 1#32
  let arg22 : BitVec 32 := Scf.iv c0_i32_642 c1_i32_644 k0_t6
  let c1_i32_784 : BitVec 32 := 1#32
  let v1747 : BitVec 32 := Scalar.muli arg22 c1_i32_784
  let v1748 : BitVec 32 := Scalar.addi c0_i32_785 v1747
  let c256_i32_786 : BitVec 32 := 256#32
  let v1749 : BitVec 32 := Scalar.muli v1748 c256_i32_786
  let c112_i32_795 : BitVec 32 := 112#32
  let v1797 : BitVec 32 := Scalar.addi v1749 c112_i32_795
  v1797
def k0_off76 (k0_t6 : Fin k0_t6_loop.trips) : Fin 1 → Nat :=
  let c0_i32_785 : BitVec 32 := 0#32
  let c0_i32_642 : BitVec 32 := 0#32
  let c1_i32_644 : BitVec 32 := 1#32
  let arg22 : BitVec 32 := Scf.iv c0_i32_642 c1_i32_644 k0_t6
  let c1_i32_784 : BitVec 32 := 1#32
  let v1747 : BitVec 32 := Scalar.muli arg22 c1_i32_784
  let v1748 : BitVec 32 := Scalar.addi c0_i32_785 v1747
  let c256_i32_786 : BitVec 32 := 256#32
  let v1749 : BitVec 32 := Scalar.muli v1748 c256_i32_786
  let c112_i32_795 : BitVec 32 := 112#32
  let v1797 : BitVec 32 := Scalar.addi v1749 c112_i32_795
  let v1798 : BitVec 32 := v1797
  let v1799 : Index := Scalar.indexCast v1798
  ![v1799.toNat]

def k0_chk73 (v1801 : IVec S16 32) : Prop :=
  (∀ a x, ((![v1801] : Fin 1 → IVec S16 32) a x).toNat < S16128.size a)
theorem k0_idx73_inb : ∀ (v1801 : IVec S16 32) (k0_hw73 : k0_chk73 v1801), ∀ a x, ((![v1801] : Fin 1 → IVec S16 32) a x).toNat < S16128.size a := fun v1801 k0_hw73 => k0_hw73
def k0_mult91 (k0_t6 : Fin k0_t6_loop.trips) : BitVec 32 :=
  let c0_i32_785 : BitVec 32 := 0#32
  let c0_i32_642 : BitVec 32 := 0#32
  let c1_i32_644 : BitVec 32 := 1#32
  let arg22 : BitVec 32 := Scf.iv c0_i32_642 c1_i32_644 k0_t6
  let c1_i32_784 : BitVec 32 := 1#32
  let v1747 : BitVec 32 := Scalar.muli arg22 c1_i32_784
  let v1748 : BitVec 32 := Scalar.addi c0_i32_785 v1747
  let c256_i32_786 : BitVec 32 := 256#32
  let v1749 : BitVec 32 := Scalar.muli v1748 c256_i32_786
  let c128_i32_796 : BitVec 32 := 128#32
  let v1803 : BitVec 32 := Scalar.addi v1749 c128_i32_796
  v1803
def k0_off77 (k0_t6 : Fin k0_t6_loop.trips) : Fin 1 → Nat :=
  let c0_i32_785 : BitVec 32 := 0#32
  let c0_i32_642 : BitVec 32 := 0#32
  let c1_i32_644 : BitVec 32 := 1#32
  let arg22 : BitVec 32 := Scf.iv c0_i32_642 c1_i32_644 k0_t6
  let c1_i32_784 : BitVec 32 := 1#32
  let v1747 : BitVec 32 := Scalar.muli arg22 c1_i32_784
  let v1748 : BitVec 32 := Scalar.addi c0_i32_785 v1747
  let c256_i32_786 : BitVec 32 := 256#32
  let v1749 : BitVec 32 := Scalar.muli v1748 c256_i32_786
  let c128_i32_796 : BitVec 32 := 128#32
  let v1803 : BitVec 32 := Scalar.addi v1749 c128_i32_796
  let v1804 : BitVec 32 := v1803
  let v1805 : Index := Scalar.indexCast v1804
  ![v1805.toNat]

def k0_chk74 (v1807 : IVec S16 32) : Prop :=
  (∀ a x, ((![v1807] : Fin 1 → IVec S16 32) a x).toNat < S16128.size a)
theorem k0_idx74_inb : ∀ (v1807 : IVec S16 32) (k0_hw74 : k0_chk74 v1807), ∀ a x, ((![v1807] : Fin 1 → IVec S16 32) a x).toNat < S16128.size a := fun v1807 k0_hw74 => k0_hw74
def k0_mult92 (k0_t6 : Fin k0_t6_loop.trips) : BitVec 32 :=
  let c0_i32_785 : BitVec 32 := 0#32
  let c0_i32_642 : BitVec 32 := 0#32
  let c1_i32_644 : BitVec 32 := 1#32
  let arg22 : BitVec 32 := Scf.iv c0_i32_642 c1_i32_644 k0_t6
  let c1_i32_784 : BitVec 32 := 1#32
  let v1747 : BitVec 32 := Scalar.muli arg22 c1_i32_784
  let v1748 : BitVec 32 := Scalar.addi c0_i32_785 v1747
  let c256_i32_786 : BitVec 32 := 256#32
  let v1749 : BitVec 32 := Scalar.muli v1748 c256_i32_786
  let c144_i32 : BitVec 32 := 144#32
  let v1809 : BitVec 32 := Scalar.addi v1749 c144_i32
  v1809
def k0_off78 (k0_t6 : Fin k0_t6_loop.trips) : Fin 1 → Nat :=
  let c0_i32_785 : BitVec 32 := 0#32
  let c0_i32_642 : BitVec 32 := 0#32
  let c1_i32_644 : BitVec 32 := 1#32
  let arg22 : BitVec 32 := Scf.iv c0_i32_642 c1_i32_644 k0_t6
  let c1_i32_784 : BitVec 32 := 1#32
  let v1747 : BitVec 32 := Scalar.muli arg22 c1_i32_784
  let v1748 : BitVec 32 := Scalar.addi c0_i32_785 v1747
  let c256_i32_786 : BitVec 32 := 256#32
  let v1749 : BitVec 32 := Scalar.muli v1748 c256_i32_786
  let c144_i32 : BitVec 32 := 144#32
  let v1809 : BitVec 32 := Scalar.addi v1749 c144_i32
  let v1810 : BitVec 32 := v1809
  let v1811 : Index := Scalar.indexCast v1810
  ![v1811.toNat]

def k0_chk75 (v1813 : IVec S16 32) : Prop :=
  (∀ a x, ((![v1813] : Fin 1 → IVec S16 32) a x).toNat < S16128.size a)
theorem k0_idx75_inb : ∀ (v1813 : IVec S16 32) (k0_hw75 : k0_chk75 v1813), ∀ a x, ((![v1813] : Fin 1 → IVec S16 32) a x).toNat < S16128.size a := fun v1813 k0_hw75 => k0_hw75
def k0_mult93 (k0_t6 : Fin k0_t6_loop.trips) : BitVec 32 :=
  let c0_i32_785 : BitVec 32 := 0#32
  let c0_i32_642 : BitVec 32 := 0#32
  let c1_i32_644 : BitVec 32 := 1#32
  let arg22 : BitVec 32 := Scf.iv c0_i32_642 c1_i32_644 k0_t6
  let c1_i32_784 : BitVec 32 := 1#32
  let v1747 : BitVec 32 := Scalar.muli arg22 c1_i32_784
  let v1748 : BitVec 32 := Scalar.addi c0_i32_785 v1747
  let c256_i32_786 : BitVec 32 := 256#32
  let v1749 : BitVec 32 := Scalar.muli v1748 c256_i32_786
  let c160_i32 : BitVec 32 := 160#32
  let v1815 : BitVec 32 := Scalar.addi v1749 c160_i32
  v1815
def k0_off79 (k0_t6 : Fin k0_t6_loop.trips) : Fin 1 → Nat :=
  let c0_i32_785 : BitVec 32 := 0#32
  let c0_i32_642 : BitVec 32 := 0#32
  let c1_i32_644 : BitVec 32 := 1#32
  let arg22 : BitVec 32 := Scf.iv c0_i32_642 c1_i32_644 k0_t6
  let c1_i32_784 : BitVec 32 := 1#32
  let v1747 : BitVec 32 := Scalar.muli arg22 c1_i32_784
  let v1748 : BitVec 32 := Scalar.addi c0_i32_785 v1747
  let c256_i32_786 : BitVec 32 := 256#32
  let v1749 : BitVec 32 := Scalar.muli v1748 c256_i32_786
  let c160_i32 : BitVec 32 := 160#32
  let v1815 : BitVec 32 := Scalar.addi v1749 c160_i32
  let v1816 : BitVec 32 := v1815
  let v1817 : Index := Scalar.indexCast v1816
  ![v1817.toNat]

def k0_chk76 (v1819 : IVec S16 32) : Prop :=
  (∀ a x, ((![v1819] : Fin 1 → IVec S16 32) a x).toNat < S16128.size a)
theorem k0_idx76_inb : ∀ (v1819 : IVec S16 32) (k0_hw76 : k0_chk76 v1819), ∀ a x, ((![v1819] : Fin 1 → IVec S16 32) a x).toNat < S16128.size a := fun v1819 k0_hw76 => k0_hw76
def k0_mult94 (k0_t6 : Fin k0_t6_loop.trips) : BitVec 32 :=
  let c0_i32_785 : BitVec 32 := 0#32
  let c0_i32_642 : BitVec 32 := 0#32
  let c1_i32_644 : BitVec 32 := 1#32
  let arg22 : BitVec 32 := Scf.iv c0_i32_642 c1_i32_644 k0_t6
  let c1_i32_784 : BitVec 32 := 1#32
  let v1747 : BitVec 32 := Scalar.muli arg22 c1_i32_784
  let v1748 : BitVec 32 := Scalar.addi c0_i32_785 v1747
  let c256_i32_786 : BitVec 32 := 256#32
  let v1749 : BitVec 32 := Scalar.muli v1748 c256_i32_786
  let c176_i32 : BitVec 32 := 176#32
  let v1821 : BitVec 32 := Scalar.addi v1749 c176_i32
  v1821
def k0_off80 (k0_t6 : Fin k0_t6_loop.trips) : Fin 1 → Nat :=
  let c0_i32_785 : BitVec 32 := 0#32
  let c0_i32_642 : BitVec 32 := 0#32
  let c1_i32_644 : BitVec 32 := 1#32
  let arg22 : BitVec 32 := Scf.iv c0_i32_642 c1_i32_644 k0_t6
  let c1_i32_784 : BitVec 32 := 1#32
  let v1747 : BitVec 32 := Scalar.muli arg22 c1_i32_784
  let v1748 : BitVec 32 := Scalar.addi c0_i32_785 v1747
  let c256_i32_786 : BitVec 32 := 256#32
  let v1749 : BitVec 32 := Scalar.muli v1748 c256_i32_786
  let c176_i32 : BitVec 32 := 176#32
  let v1821 : BitVec 32 := Scalar.addi v1749 c176_i32
  let v1822 : BitVec 32 := v1821
  let v1823 : Index := Scalar.indexCast v1822
  ![v1823.toNat]

def k0_chk77 (v1825 : IVec S16 32) : Prop :=
  (∀ a x, ((![v1825] : Fin 1 → IVec S16 32) a x).toNat < S16128.size a)
theorem k0_idx77_inb : ∀ (v1825 : IVec S16 32) (k0_hw77 : k0_chk77 v1825), ∀ a x, ((![v1825] : Fin 1 → IVec S16 32) a x).toNat < S16128.size a := fun v1825 k0_hw77 => k0_hw77
def k0_mult95 (k0_t6 : Fin k0_t6_loop.trips) : BitVec 32 :=
  let c0_i32_785 : BitVec 32 := 0#32
  let c0_i32_642 : BitVec 32 := 0#32
  let c1_i32_644 : BitVec 32 := 1#32
  let arg22 : BitVec 32 := Scf.iv c0_i32_642 c1_i32_644 k0_t6
  let c1_i32_784 : BitVec 32 := 1#32
  let v1747 : BitVec 32 := Scalar.muli arg22 c1_i32_784
  let v1748 : BitVec 32 := Scalar.addi c0_i32_785 v1747
  let c256_i32_786 : BitVec 32 := 256#32
  let v1749 : BitVec 32 := Scalar.muli v1748 c256_i32_786
  let c192_i32 : BitVec 32 := 192#32
  let v1827 : BitVec 32 := Scalar.addi v1749 c192_i32
  v1827
def k0_off81 (k0_t6 : Fin k0_t6_loop.trips) : Fin 1 → Nat :=
  let c0_i32_785 : BitVec 32 := 0#32
  let c0_i32_642 : BitVec 32 := 0#32
  let c1_i32_644 : BitVec 32 := 1#32
  let arg22 : BitVec 32 := Scf.iv c0_i32_642 c1_i32_644 k0_t6
  let c1_i32_784 : BitVec 32 := 1#32
  let v1747 : BitVec 32 := Scalar.muli arg22 c1_i32_784
  let v1748 : BitVec 32 := Scalar.addi c0_i32_785 v1747
  let c256_i32_786 : BitVec 32 := 256#32
  let v1749 : BitVec 32 := Scalar.muli v1748 c256_i32_786
  let c192_i32 : BitVec 32 := 192#32
  let v1827 : BitVec 32 := Scalar.addi v1749 c192_i32
  let v1828 : BitVec 32 := v1827
  let v1829 : Index := Scalar.indexCast v1828
  ![v1829.toNat]

def k0_chk78 (v1831 : IVec S16 32) : Prop :=
  (∀ a x, ((![v1831] : Fin 1 → IVec S16 32) a x).toNat < S16128.size a)
theorem k0_idx78_inb : ∀ (v1831 : IVec S16 32) (k0_hw78 : k0_chk78 v1831), ∀ a x, ((![v1831] : Fin 1 → IVec S16 32) a x).toNat < S16128.size a := fun v1831 k0_hw78 => k0_hw78
def k0_mult96 (k0_t6 : Fin k0_t6_loop.trips) : BitVec 32 :=
  let c0_i32_785 : BitVec 32 := 0#32
  let c0_i32_642 : BitVec 32 := 0#32
  let c1_i32_644 : BitVec 32 := 1#32
  let arg22 : BitVec 32 := Scf.iv c0_i32_642 c1_i32_644 k0_t6
  let c1_i32_784 : BitVec 32 := 1#32
  let v1747 : BitVec 32 := Scalar.muli arg22 c1_i32_784
  let v1748 : BitVec 32 := Scalar.addi c0_i32_785 v1747
  let c256_i32_786 : BitVec 32 := 256#32
  let v1749 : BitVec 32 := Scalar.muli v1748 c256_i32_786
  let c208_i32 : BitVec 32 := 208#32
  let v1833 : BitVec 32 := Scalar.addi v1749 c208_i32
  v1833
def k0_off82 (k0_t6 : Fin k0_t6_loop.trips) : Fin 1 → Nat :=
  let c0_i32_785 : BitVec 32 := 0#32
  let c0_i32_642 : BitVec 32 := 0#32
  let c1_i32_644 : BitVec 32 := 1#32
  let arg22 : BitVec 32 := Scf.iv c0_i32_642 c1_i32_644 k0_t6
  let c1_i32_784 : BitVec 32 := 1#32
  let v1747 : BitVec 32 := Scalar.muli arg22 c1_i32_784
  let v1748 : BitVec 32 := Scalar.addi c0_i32_785 v1747
  let c256_i32_786 : BitVec 32 := 256#32
  let v1749 : BitVec 32 := Scalar.muli v1748 c256_i32_786
  let c208_i32 : BitVec 32 := 208#32
  let v1833 : BitVec 32 := Scalar.addi v1749 c208_i32
  let v1834 : BitVec 32 := v1833
  let v1835 : Index := Scalar.indexCast v1834
  ![v1835.toNat]

def k0_chk79 (v1837 : IVec S16 32) : Prop :=
  (∀ a x, ((![v1837] : Fin 1 → IVec S16 32) a x).toNat < S16128.size a)
theorem k0_idx79_inb : ∀ (v1837 : IVec S16 32) (k0_hw79 : k0_chk79 v1837), ∀ a x, ((![v1837] : Fin 1 → IVec S16 32) a x).toNat < S16128.size a := fun v1837 k0_hw79 => k0_hw79
def k0_mult97 (k0_t6 : Fin k0_t6_loop.trips) : BitVec 32 :=
  let c0_i32_785 : BitVec 32 := 0#32
  let c0_i32_642 : BitVec 32 := 0#32
  let c1_i32_644 : BitVec 32 := 1#32
  let arg22 : BitVec 32 := Scf.iv c0_i32_642 c1_i32_644 k0_t6
  let c1_i32_784 : BitVec 32 := 1#32
  let v1747 : BitVec 32 := Scalar.muli arg22 c1_i32_784
  let v1748 : BitVec 32 := Scalar.addi c0_i32_785 v1747
  let c256_i32_786 : BitVec 32 := 256#32
  let v1749 : BitVec 32 := Scalar.muli v1748 c256_i32_786
  let c224_i32 : BitVec 32 := 224#32
  let v1839 : BitVec 32 := Scalar.addi v1749 c224_i32
  v1839
def k0_off83 (k0_t6 : Fin k0_t6_loop.trips) : Fin 1 → Nat :=
  let c0_i32_785 : BitVec 32 := 0#32
  let c0_i32_642 : BitVec 32 := 0#32
  let c1_i32_644 : BitVec 32 := 1#32
  let arg22 : BitVec 32 := Scf.iv c0_i32_642 c1_i32_644 k0_t6
  let c1_i32_784 : BitVec 32 := 1#32
  let v1747 : BitVec 32 := Scalar.muli arg22 c1_i32_784
  let v1748 : BitVec 32 := Scalar.addi c0_i32_785 v1747
  let c256_i32_786 : BitVec 32 := 256#32
  let v1749 : BitVec 32 := Scalar.muli v1748 c256_i32_786
  let c224_i32 : BitVec 32 := 224#32
  let v1839 : BitVec 32 := Scalar.addi v1749 c224_i32
  let v1840 : BitVec 32 := v1839
  let v1841 : Index := Scalar.indexCast v1840
  ![v1841.toNat]

def k0_chk80 (v1843 : IVec S16 32) : Prop :=
  (∀ a x, ((![v1843] : Fin 1 → IVec S16 32) a x).toNat < S16128.size a)
theorem k0_idx80_inb : ∀ (v1843 : IVec S16 32) (k0_hw80 : k0_chk80 v1843), ∀ a x, ((![v1843] : Fin 1 → IVec S16 32) a x).toNat < S16128.size a := fun v1843 k0_hw80 => k0_hw80
def k0_mult98 (k0_t6 : Fin k0_t6_loop.trips) : BitVec 32 :=
  let c0_i32_785 : BitVec 32 := 0#32
  let c0_i32_642 : BitVec 32 := 0#32
  let c1_i32_644 : BitVec 32 := 1#32
  let arg22 : BitVec 32 := Scf.iv c0_i32_642 c1_i32_644 k0_t6
  let c1_i32_784 : BitVec 32 := 1#32
  let v1747 : BitVec 32 := Scalar.muli arg22 c1_i32_784
  let v1748 : BitVec 32 := Scalar.addi c0_i32_785 v1747
  let c256_i32_786 : BitVec 32 := 256#32
  let v1749 : BitVec 32 := Scalar.muli v1748 c256_i32_786
  let c240_i32 : BitVec 32 := 240#32
  let v1845 : BitVec 32 := Scalar.addi v1749 c240_i32
  v1845
def k0_off84 (k0_t6 : Fin k0_t6_loop.trips) : Fin 1 → Nat :=
  let c0_i32_785 : BitVec 32 := 0#32
  let c0_i32_642 : BitVec 32 := 0#32
  let c1_i32_644 : BitVec 32 := 1#32
  let arg22 : BitVec 32 := Scf.iv c0_i32_642 c1_i32_644 k0_t6
  let c1_i32_784 : BitVec 32 := 1#32
  let v1747 : BitVec 32 := Scalar.muli arg22 c1_i32_784
  let v1748 : BitVec 32 := Scalar.addi c0_i32_785 v1747
  let c256_i32_786 : BitVec 32 := 256#32
  let v1749 : BitVec 32 := Scalar.muli v1748 c256_i32_786
  let c240_i32 : BitVec 32 := 240#32
  let v1845 : BitVec 32 := Scalar.addi v1749 c240_i32
  let v1846 : BitVec 32 := v1845
  let v1847 : Index := Scalar.indexCast v1846
  ![v1847.toNat]
def k0_mult99 (i : grid0.Coords) (k0_t5 : Fin k0_t5_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32 : BitVec 32 := 0#32
  let v3 : BitVec 32 := Scalar.addi v2 c0_i32
  let c1984_i32 : BitVec 32 := 1984#32
  let v266 : BitVec 32 := Scalar.muli v3 c1984_i32
  let c256_i32_136 : BitVec 32 := 256#32
  let v267 : BitVec 32 := Scalar.muli v266 c256_i32_136
  let c1_i32_455 : BitVec 32 := 1#32
  let c1_i32_457 : BitVec 32 := 1#32
  let arg20 : BitVec 32 := Scf.iv c1_i32_455 c1_i32_457 k0_t5
  let c4_i32_623 : BitVec 32 := 4#32
  let v1375 : BitVec 32 := Scalar.muli arg20 c4_i32_623
  let c0_i32_624 : BitVec 32 := 0#32
  let v1376 : BitVec 32 := Scalar.addi v1375 c0_i32_624
  let c0_i32_647 : BitVec 32 := 0#32
  let v1424 : BitVec 1 := Scalar.cmpi .sgt v1376 c0_i32_647
  let v1425 : BitVec 32 := Scalar.extui v1424
  let c0_i32_648 : BitVec 32 := 0#32
  let v1426 : BitVec 1 := Scalar.cmpi .slt v1376 c0_i32_648
  let v1427 : BitVec 32 := Scalar.extui v1426
  let v1428 : BitVec 32 := Scalar.subi v1425 v1427
  let c2_i32_646 : BitVec 32 := 2#32
  let c0_i32_649 : BitVec 32 := 0#32
  let v1429 : BitVec 1 := Scalar.cmpi .sgt c2_i32_646 c0_i32_649
  let v1430 : BitVec 32 := Scalar.extui v1429
  let c0_i32_650 : BitVec 32 := 0#32
  let v1431 : BitVec 1 := Scalar.cmpi .slt c2_i32_646 c0_i32_650
  let v1432 : BitVec 32 := Scalar.extui v1431
  let v1433 : BitVec 32 := Scalar.subi v1430 v1432
  let v1434 : BitVec 1 := Scalar.cmpi .ne v1428 v1433
  let v1435 : BitVec 32 := Scalar.remsi v1376 c2_i32_646
  let c0_i32_651 : BitVec 32 := 0#32
  let v1436 : BitVec 1 := Scalar.cmpi .ne v1435 c0_i32_651
  let v1437 : BitVec 1 := Scalar.andi v1434 v1436
  let v1423 : BitVec 32 := Scalar.divsi v1376 c2_i32_646
  let c1_i32_652 : BitVec 32 := 1#32
  let v1438 : BitVec 32 := Scalar.subi v1423 c1_i32_652
  let v1439 : BitVec 32 := Scalar.select v1437 v1438 v1423
  let c15872_i32_653 : BitVec 32 := 15872#32
  let v1440 : BitVec 32 := Scalar.muli v1439 c15872_i32_653
  let v1441 : BitVec 32 := Scalar.addi v267 v1440
  v1441
def k0_off85 (i : grid0.Coords) (k0_t5 : Fin k0_t5_loop.trips) (c0_i32 : BitVec 32) (c0_i32_624 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let v3 : BitVec 32 := Scalar.addi v2 c0_i32
  let c1984_i32 : BitVec 32 := 1984#32
  let v266 : BitVec 32 := Scalar.muli v3 c1984_i32
  let c256_i32_136 : BitVec 32 := 256#32
  let v267 : BitVec 32 := Scalar.muli v266 c256_i32_136
  let c1_i32_455 : BitVec 32 := 1#32
  let c1_i32_457 : BitVec 32 := 1#32
  let arg20 : BitVec 32 := Scf.iv c1_i32_455 c1_i32_457 k0_t5
  let c4_i32_623 : BitVec 32 := 4#32
  let v1375 : BitVec 32 := Scalar.muli arg20 c4_i32_623
  let v1376 : BitVec 32 := Scalar.addi v1375 c0_i32_624
  let c0_i32_647 : BitVec 32 := 0#32
  let v1424 : BitVec 1 := Scalar.cmpi .sgt v1376 c0_i32_647
  let v1425 : BitVec 32 := Scalar.extui v1424
  let c0_i32_648 : BitVec 32 := 0#32
  let v1426 : BitVec 1 := Scalar.cmpi .slt v1376 c0_i32_648
  let v1427 : BitVec 32 := Scalar.extui v1426
  let v1428 : BitVec 32 := Scalar.subi v1425 v1427
  let c2_i32_646 : BitVec 32 := 2#32
  let c0_i32_649 : BitVec 32 := 0#32
  let v1429 : BitVec 1 := Scalar.cmpi .sgt c2_i32_646 c0_i32_649
  let v1430 : BitVec 32 := Scalar.extui v1429
  let c0_i32_650 : BitVec 32 := 0#32
  let v1431 : BitVec 1 := Scalar.cmpi .slt c2_i32_646 c0_i32_650
  let v1432 : BitVec 32 := Scalar.extui v1431
  let v1433 : BitVec 32 := Scalar.subi v1430 v1432
  let v1434 : BitVec 1 := Scalar.cmpi .ne v1428 v1433
  let v1435 : BitVec 32 := Scalar.remsi v1376 c2_i32_646
  let c0_i32_651 : BitVec 32 := 0#32
  let v1436 : BitVec 1 := Scalar.cmpi .ne v1435 c0_i32_651
  let v1437 : BitVec 1 := Scalar.andi v1434 v1436
  let v1423 : BitVec 32 := Scalar.divsi v1376 c2_i32_646
  let c1_i32_652 : BitVec 32 := 1#32
  let v1438 : BitVec 32 := Scalar.subi v1423 c1_i32_652
  let v1439 : BitVec 32 := Scalar.select v1437 v1438 v1423
  let c15872_i32_653 : BitVec 32 := 15872#32
  let v1440 : BitVec 32 := Scalar.muli v1439 c15872_i32_653
  let v1441 : BitVec 32 := Scalar.addi v267 v1440
  let v1442 : BitVec 32 := v1441
  ![v1442.toNat]
def k0_off85_at (r : Fin 4) : BitVec 32 × BitVec 32 :=
  if r.val < 2 then
    if r.val < 1 then
      (0#32, 0#32)
    else
      (1#32, 1#32)
  else
    if r.val < 3 then
      (0#32, 2#32)
    else
      (1#32, 3#32)
def k0_mult100 (i : grid0.Coords) (k0_t5 : Fin k0_t5_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32 : BitVec 32 := 0#32
  let v3 : BitVec 32 := Scalar.addi v2 c0_i32
  let c2048_i32 : BitVec 32 := 2048#32
  let v258 : BitVec 32 := Scalar.muli v3 c2048_i32
  let c63_i32 : BitVec 32 := 63#32
  let v130 : BitVec 1 := Scalar.cmpi .eq v3 c63_i32
  let c1763_i32 : BitVec 32 := 1763#32
  let c62_i32 : BitVec 32 := 62#32
  let v128 : BitVec 1 := Scalar.cmpi .eq v3 c62_i32
  let c1196_i32 : BitVec 32 := 1196#32
  let c61_i32 : BitVec 32 := 61#32
  let v126 : BitVec 1 := Scalar.cmpi .eq v3 c61_i32
  let c722_i32 : BitVec 32 := 722#32
  let c60_i32 : BitVec 32 := 60#32
  let v124 : BitVec 1 := Scalar.cmpi .eq v3 c60_i32
  let c3132_i32 : BitVec 32 := 3132#32
  let c59_i32 : BitVec 32 := 59#32
  let v122 : BitVec 1 := Scalar.cmpi .eq v3 c59_i32
  let c2263_i32 : BitVec 32 := 2263#32
  let c58_i32 : BitVec 32 := 58#32
  let v120 : BitVec 1 := Scalar.cmpi .eq v3 c58_i32
  let c7228_i32 : BitVec 32 := 7228#32
  let c57_i32 : BitVec 32 := 57#32
  let v118 : BitVec 1 := Scalar.cmpi .eq v3 c57_i32
  let c6147_i32 : BitVec 32 := 6147#32
  let c56_i32_4 : BitVec 32 := 56#32
  let v116 : BitVec 1 := Scalar.cmpi .eq v3 c56_i32_4
  let c5257_i32 : BitVec 32 := 5257#32
  let c55_i32 : BitVec 32 := 55#32
  let v114 : BitVec 1 := Scalar.cmpi .eq v3 c55_i32
  let c2687_i32 : BitVec 32 := 2687#32
  let c54_i32 : BitVec 32 := 54#32
  let v112 : BitVec 1 := Scalar.cmpi .eq v3 c54_i32
  let c3913_i32 : BitVec 32 := 3913#32
  let c53_i32 : BitVec 32 := 53#32
  let v110 : BitVec 1 := Scalar.cmpi .eq v3 c53_i32
  let c1765_i32 : BitVec 32 := 1765#32
  let c52_i32 : BitVec 32 := 52#32
  let v108 : BitVec 1 := Scalar.cmpi .eq v3 c52_i32
  let c572_i32 : BitVec 32 := 572#32
  let c51_i32 : BitVec 32 := 51#32
  let v106 : BitVec 1 := Scalar.cmpi .eq v3 c51_i32
  let c5479_i32 : BitVec 32 := 5479#32
  let c50_i32 : BitVec 32 := 50#32
  let v104 : BitVec 1 := Scalar.cmpi .eq v3 c50_i32
  let c7351_i32 : BitVec 32 := 7351#32
  let c49_i32 : BitVec 32 := 49#32
  let v102 : BitVec 1 := Scalar.cmpi .eq v3 c49_i32
  let c593_i32 : BitVec 32 := 593#32
  let c48_i32 : BitVec 32 := 48#32
  let v100 : BitVec 1 := Scalar.cmpi .eq v3 c48_i32
  let c7487_i32 : BitVec 32 := 7487#32
  let c47_i32 : BitVec 32 := 47#32
  let v98 : BitVec 1 := Scalar.cmpi .eq v3 c47_i32
  let c3618_i32 : BitVec 32 := 3618#32
  let c46_i32 : BitVec 32 := 46#32
  let v96 : BitVec 1 := Scalar.cmpi .eq v3 c46_i32
  let c6125_i32 : BitVec 32 := 6125#32
  let c45_i32 : BitVec 32 := 45#32
  let v94 : BitVec 1 := Scalar.cmpi .eq v3 c45_i32
  let c2834_i32 : BitVec 32 := 2834#32
  let c44_i32 : BitVec 32 := 44#32
  let v92 : BitVec 1 := Scalar.cmpi .eq v3 c44_i32
  let c4871_i32 : BitVec 32 := 4871#32
  let c43_i32 : BitVec 32 := 43#32
  let v90 : BitVec 1 := Scalar.cmpi .eq v3 c43_i32
  let c1936_i32 : BitVec 32 := 1936#32
  let c42_i32 : BitVec 32 := 42#32
  let v88 : BitVec 1 := Scalar.cmpi .eq v3 c42_i32
  let c2914_i32 : BitVec 32 := 2914#32
  let c41_i32 : BitVec 32 := 41#32
  let v86 : BitVec 1 := Scalar.cmpi .eq v3 c41_i32
  let c3866_i32 : BitVec 32 := 3866#32
  let c40_i32 : BitVec 32 := 40#32
  let v84 : BitVec 1 := Scalar.cmpi .eq v3 c40_i32
  let c1846_i32 : BitVec 32 := 1846#32
  let c39_i32 : BitVec 32 := 39#32
  let v82 : BitVec 1 := Scalar.cmpi .eq v3 c39_i32
  let c7714_i32 : BitVec 32 := 7714#32
  let c38_i32 : BitVec 32 := 38#32
  let v80 : BitVec 1 := Scalar.cmpi .eq v3 c38_i32
  let c3980_i32 : BitVec 32 := 3980#32
  let c37_i32 : BitVec 32 := 37#32
  let v78 : BitVec 1 := Scalar.cmpi .eq v3 c37_i32
  let c6570_i32 : BitVec 32 := 6570#32
  let c36_i32 : BitVec 32 := 36#32
  let v76 : BitVec 1 := Scalar.cmpi .eq v3 c36_i32
  let c2937_i32 : BitVec 32 := 2937#32
  let c35_i32 : BitVec 32 := 35#32
  let v74 : BitVec 1 := Scalar.cmpi .eq v3 c35_i32
  let c1105_i32 : BitVec 32 := 1105#32
  let c34_i32 : BitVec 32 := 34#32
  let v72 : BitVec 1 := Scalar.cmpi .eq v3 c34_i32
  let c5685_i32 : BitVec 32 := 5685#32
  let c33_i32 : BitVec 32 := 33#32
  let v70 : BitVec 1 := Scalar.cmpi .eq v3 c33_i32
  let c1851_i32 : BitVec 32 := 1851#32
  let c32_i32 : BitVec 32 := 32#32
  let v68 : BitVec 1 := Scalar.cmpi .eq v3 c32_i32
  let c2835_i32 : BitVec 32 := 2835#32
  let c31_i32 : BitVec 32 := 31#32
  let v66 : BitVec 1 := Scalar.cmpi .eq v3 c31_i32
  let c6151_i32 : BitVec 32 := 6151#32
  let c30_i32 : BitVec 32 := 30#32
  let v64 : BitVec 1 := Scalar.cmpi .eq v3 c30_i32
  let c2916_i32 : BitVec 32 := 2916#32
  let c29_i32 : BitVec 32 := 29#32
  let v62 : BitVec 1 := Scalar.cmpi .eq v3 c29_i32
  let c4806_i32 : BitVec 32 := 4806#32
  let c28_i32 : BitVec 32 := 28#32
  let v60 : BitVec 1 := Scalar.cmpi .eq v3 c28_i32
  let c2760_i32 : BitVec 32 := 2760#32
  let c27_i32 : BitVec 32 := 27#32
  let v58 : BitVec 1 := Scalar.cmpi .eq v3 c27_i32
  let c2339_i32 : BitVec 32 := 2339#32
  let c26_i32 : BitVec 32 := 26#32
  let v56 : BitVec 1 := Scalar.cmpi .eq v3 c26_i32
  let c5978_i32 : BitVec 32 := 5978#32
  let c25_i32 : BitVec 32 := 25#32
  let v54 : BitVec 1 := Scalar.cmpi .eq v3 c25_i32
  let c6943_i32 : BitVec 32 := 6943#32
  let c24_i32 : BitVec 32 := 24#32
  let v52 : BitVec 1 := Scalar.cmpi .eq v3 c24_i32
  let c7654_i32 : BitVec 32 := 7654#32
  let c23_i32 : BitVec 32 := 23#32
  let v50 : BitVec 1 := Scalar.cmpi .eq v3 c23_i32
  let c3018_i32 : BitVec 32 := 3018#32
  let c22_i32 : BitVec 32 := 22#32
  let v48 : BitVec 1 := Scalar.cmpi .eq v3 c22_i32
  let c56_i32 : BitVec 32 := 56#32
  let c21_i32 : BitVec 32 := 21#32
  let v46 : BitVec 1 := Scalar.cmpi .eq v3 c21_i32
  let c5652_i32 : BitVec 32 := 5652#32
  let c20_i32 : BitVec 32 := 20#32
  let v44 : BitVec 1 := Scalar.cmpi .eq v3 c20_i32
  let c6840_i32 : BitVec 32 := 6840#32
  let c19_i32 : BitVec 32 := 19#32
  let v42 : BitVec 1 := Scalar.cmpi .eq v3 c19_i32
  let c4026_i32 : BitVec 32 := 4026#32
  let c18_i32 : BitVec 32 := 18#32
  let v40 : BitVec 1 := Scalar.cmpi .eq v3 c18_i32
  let c91_i32 : BitVec 32 := 91#32
  let c17_i32 : BitVec 32 := 17#32
  let v38 : BitVec 1 := Scalar.cmpi .eq v3 c17_i32
  let c7767_i32 : BitVec 32 := 7767#32
  let c16_i32 : BitVec 32 := 16#32
  let v36 : BitVec 1 := Scalar.cmpi .eq v3 c16_i32
  let c4241_i32 : BitVec 32 := 4241#32
  let c15_i32 : BitVec 32 := 15#32
  let v34 : BitVec 1 := Scalar.cmpi .eq v3 c15_i32
  let c6170_i32 : BitVec 32 := 6170#32
  let c14_i32 : BitVec 32 := 14#32
  let v32 : BitVec 1 := Scalar.cmpi .eq v3 c14_i32
  let c8174_i32 : BitVec 32 := 8174#32
  let c13_i32 : BitVec 32 := 13#32
  let v30 : BitVec 1 := Scalar.cmpi .eq v3 c13_i32
  let c1378_i32 : BitVec 32 := 1378#32
  let c12_i32 : BitVec 32 := 12#32
  let v28 : BitVec 1 := Scalar.cmpi .eq v3 c12_i32
  let c2562_i32 : BitVec 32 := 2562#32
  let c11_i32 : BitVec 32 := 11#32
  let v26 : BitVec 1 := Scalar.cmpi .eq v3 c11_i32
  let c4161_i32 : BitVec 32 := 4161#32
  let c10_i32 : BitVec 32 := 10#32
  let v24 : BitVec 1 := Scalar.cmpi .eq v3 c10_i32
  let c6176_i32 : BitVec 32 := 6176#32
  let c9_i32 : BitVec 32 := 9#32
  let v22 : BitVec 1 := Scalar.cmpi .eq v3 c9_i32
  let c2818_i32 : BitVec 32 := 2818#32
  let c8_i32 : BitVec 32 := 8#32
  let v20 : BitVec 1 := Scalar.cmpi .eq v3 c8_i32
  let c5970_i32 : BitVec 32 := 5970#32
  let c7_i32 : BitVec 32 := 7#32
  let v18 : BitVec 1 := Scalar.cmpi .eq v3 c7_i32
  let c7573_i32 : BitVec 32 := 7573#32
  let c6_i32 : BitVec 32 := 6#32
  let v16 : BitVec 1 := Scalar.cmpi .eq v3 c6_i32
  let c3350_i32 : BitVec 32 := 3350#32
  let c5_i32 : BitVec 32 := 5#32
  let v14 : BitVec 1 := Scalar.cmpi .eq v3 c5_i32
  let c4780_i32 : BitVec 32 := 4780#32
  let c4_i32 : BitVec 32 := 4#32
  let v12 : BitVec 1 := Scalar.cmpi .eq v3 c4_i32
  let c6560_i32 : BitVec 32 := 6560#32
  let c3_i32 : BitVec 32 := 3#32
  let v10 : BitVec 1 := Scalar.cmpi .eq v3 c3_i32
  let c7017_i32 : BitVec 32 := 7017#32
  let c2_i32_3 : BitVec 32 := 2#32
  let v8 : BitVec 1 := Scalar.cmpi .eq v3 c2_i32_3
  let c736_i32 : BitVec 32 := 736#32
  let c1_i32_2 : BitVec 32 := 1#32
  let v6 : BitVec 1 := Scalar.cmpi .eq v3 c1_i32_2
  let c943_i32 : BitVec 32 := 943#32
  let c7932_i32 : BitVec 32 := 7932#32
  let v7 : BitVec 32 := Scalar.select v6 c943_i32 c7932_i32
  let v9 : BitVec 32 := Scalar.select v8 c736_i32 v7
  let v11 : BitVec 32 := Scalar.select v10 c7017_i32 v9
  let v13 : BitVec 32 := Scalar.select v12 c6560_i32 v11
  let v15 : BitVec 32 := Scalar.select v14 c4780_i32 v13
  let v17 : BitVec 32 := Scalar.select v16 c3350_i32 v15
  let v19 : BitVec 32 := Scalar.select v18 c7573_i32 v17
  let v21 : BitVec 32 := Scalar.select v20 c5970_i32 v19
  let v23 : BitVec 32 := Scalar.select v22 c2818_i32 v21
  let v25 : BitVec 32 := Scalar.select v24 c6176_i32 v23
  let v27 : BitVec 32 := Scalar.select v26 c4161_i32 v25
  let v29 : BitVec 32 := Scalar.select v28 c2562_i32 v27
  let v31 : BitVec 32 := Scalar.select v30 c1378_i32 v29
  let v33 : BitVec 32 := Scalar.select v32 c8174_i32 v31
  let v35 : BitVec 32 := Scalar.select v34 c6170_i32 v33
  let v37 : BitVec 32 := Scalar.select v36 c4241_i32 v35
  let v39 : BitVec 32 := Scalar.select v38 c7767_i32 v37
  let v41 : BitVec 32 := Scalar.select v40 c91_i32 v39
  let v43 : BitVec 32 := Scalar.select v42 c4026_i32 v41
  let v45 : BitVec 32 := Scalar.select v44 c6840_i32 v43
  let v47 : BitVec 32 := Scalar.select v46 c5652_i32 v45
  let v49 : BitVec 32 := Scalar.select v48 c56_i32 v47
  let v51 : BitVec 32 := Scalar.select v50 c3018_i32 v49
  let v53 : BitVec 32 := Scalar.select v52 c7654_i32 v51
  let v55 : BitVec 32 := Scalar.select v54 c6943_i32 v53
  let v57 : BitVec 32 := Scalar.select v56 c5978_i32 v55
  let v59 : BitVec 32 := Scalar.select v58 c2339_i32 v57
  let v61 : BitVec 32 := Scalar.select v60 c2760_i32 v59
  let v63 : BitVec 32 := Scalar.select v62 c4806_i32 v61
  let v65 : BitVec 32 := Scalar.select v64 c2916_i32 v63
  let v67 : BitVec 32 := Scalar.select v66 c6151_i32 v65
  let v69 : BitVec 32 := Scalar.select v68 c2835_i32 v67
  let v71 : BitVec 32 := Scalar.select v70 c1851_i32 v69
  let v73 : BitVec 32 := Scalar.select v72 c5685_i32 v71
  let v75 : BitVec 32 := Scalar.select v74 c1105_i32 v73
  let v77 : BitVec 32 := Scalar.select v76 c2937_i32 v75
  let v79 : BitVec 32 := Scalar.select v78 c6570_i32 v77
  let v81 : BitVec 32 := Scalar.select v80 c3980_i32 v79
  let v83 : BitVec 32 := Scalar.select v82 c7714_i32 v81
  let v85 : BitVec 32 := Scalar.select v84 c1846_i32 v83
  let v87 : BitVec 32 := Scalar.select v86 c3866_i32 v85
  let v89 : BitVec 32 := Scalar.select v88 c2914_i32 v87
  let v91 : BitVec 32 := Scalar.select v90 c1936_i32 v89
  let v93 : BitVec 32 := Scalar.select v92 c4871_i32 v91
  let v95 : BitVec 32 := Scalar.select v94 c2834_i32 v93
  let v97 : BitVec 32 := Scalar.select v96 c6125_i32 v95
  let v99 : BitVec 32 := Scalar.select v98 c3618_i32 v97
  let v101 : BitVec 32 := Scalar.select v100 c7487_i32 v99
  let v103 : BitVec 32 := Scalar.select v102 c593_i32 v101
  let v105 : BitVec 32 := Scalar.select v104 c7351_i32 v103
  let v107 : BitVec 32 := Scalar.select v106 c5479_i32 v105
  let v109 : BitVec 32 := Scalar.select v108 c572_i32 v107
  let v111 : BitVec 32 := Scalar.select v110 c1765_i32 v109
  let v113 : BitVec 32 := Scalar.select v112 c3913_i32 v111
  let v115 : BitVec 32 := Scalar.select v114 c2687_i32 v113
  let v117 : BitVec 32 := Scalar.select v116 c5257_i32 v115
  let v119 : BitVec 32 := Scalar.select v118 c6147_i32 v117
  let v121 : BitVec 32 := Scalar.select v120 c7228_i32 v119
  let v123 : BitVec 32 := Scalar.select v122 c2263_i32 v121
  let v125 : BitVec 32 := Scalar.select v124 c3132_i32 v123
  let v127 : BitVec 32 := Scalar.select v126 c722_i32 v125
  let v129 : BitVec 32 := Scalar.select v128 c1196_i32 v127
  let v131 : BitVec 32 := Scalar.select v130 c1763_i32 v129
  let c7_i32_132 : BitVec 32 := 7#32
  let v259 : BitVec 32 := Scalar.shrsi v131 c7_i32_132
  let v260 : BitVec 32 := Scalar.addi v258 v259
  let c256_i32 : BitVec 32 := 256#32
  let v261 : BitVec 32 := Scalar.muli v260 c256_i32
  let c1_i32_455 : BitVec 32 := 1#32
  let c1_i32_457 : BitVec 32 := 1#32
  let arg20 : BitVec 32 := Scf.iv c1_i32_455 c1_i32_457 k0_t5
  let c4_i32_623 : BitVec 32 := 4#32
  let v1375 : BitVec 32 := Scalar.muli arg20 c4_i32_623
  let c0_i32_624 : BitVec 32 := 0#32
  let v1376 : BitVec 32 := Scalar.addi v1375 c0_i32_624
  let c4_i32_654 : BitVec 32 := 4#32
  let v1445 : BitVec 32 := Scalar.addi v1376 c4_i32_654
  let c0_i32_656 : BitVec 32 := 0#32
  let v1447 : BitVec 1 := Scalar.cmpi .sgt v1445 c0_i32_656
  let v1448 : BitVec 32 := Scalar.extui v1447
  let c0_i32_657 : BitVec 32 := 0#32
  let v1449 : BitVec 1 := Scalar.cmpi .slt v1445 c0_i32_657
  let v1450 : BitVec 32 := Scalar.extui v1449
  let v1451 : BitVec 32 := Scalar.subi v1448 v1450
  let c2_i32_655 : BitVec 32 := 2#32
  let c0_i32_658 : BitVec 32 := 0#32
  let v1452 : BitVec 1 := Scalar.cmpi .sgt c2_i32_655 c0_i32_658
  let v1453 : BitVec 32 := Scalar.extui v1452
  let c0_i32_659 : BitVec 32 := 0#32
  let v1454 : BitVec 1 := Scalar.cmpi .slt c2_i32_655 c0_i32_659
  let v1455 : BitVec 32 := Scalar.extui v1454
  let v1456 : BitVec 32 := Scalar.subi v1453 v1455
  let v1457 : BitVec 1 := Scalar.cmpi .ne v1451 v1456
  let v1458 : BitVec 32 := Scalar.remsi v1445 c2_i32_655
  let c0_i32_660 : BitVec 32 := 0#32
  let v1459 : BitVec 1 := Scalar.cmpi .ne v1458 c0_i32_660
  let v1460 : BitVec 1 := Scalar.andi v1457 v1459
  let v1446 : BitVec 32 := Scalar.divsi v1445 c2_i32_655
  let c1_i32_661 : BitVec 32 := 1#32
  let v1461 : BitVec 32 := Scalar.subi v1446 c1_i32_661
  let v1462 : BitVec 32 := Scalar.select v1460 v1461 v1446
  let c15872_i32_662 : BitVec 32 := 15872#32
  let v1463 : BitVec 32 := Scalar.muli v1462 c15872_i32_662
  let v1464 : BitVec 32 := Scalar.addi v261 v1463
  v1464
def k0_off86 (i : grid0.Coords) (k0_t5 : Fin k0_t5_loop.trips) (c0_i32 : BitVec 32) (c0_i32_624 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let v3 : BitVec 32 := Scalar.addi v2 c0_i32
  let c2048_i32 : BitVec 32 := 2048#32
  let v258 : BitVec 32 := Scalar.muli v3 c2048_i32
  let c63_i32 : BitVec 32 := 63#32
  let v130 : BitVec 1 := Scalar.cmpi .eq v3 c63_i32
  let c1763_i32 : BitVec 32 := 1763#32
  let c62_i32 : BitVec 32 := 62#32
  let v128 : BitVec 1 := Scalar.cmpi .eq v3 c62_i32
  let c1196_i32 : BitVec 32 := 1196#32
  let c61_i32 : BitVec 32 := 61#32
  let v126 : BitVec 1 := Scalar.cmpi .eq v3 c61_i32
  let c722_i32 : BitVec 32 := 722#32
  let c60_i32 : BitVec 32 := 60#32
  let v124 : BitVec 1 := Scalar.cmpi .eq v3 c60_i32
  let c3132_i32 : BitVec 32 := 3132#32
  let c59_i32 : BitVec 32 := 59#32
  let v122 : BitVec 1 := Scalar.cmpi .eq v3 c59_i32
  let c2263_i32 : BitVec 32 := 2263#32
  let c58_i32 : BitVec 32 := 58#32
  let v120 : BitVec 1 := Scalar.cmpi .eq v3 c58_i32
  let c7228_i32 : BitVec 32 := 7228#32
  let c57_i32 : BitVec 32 := 57#32
  let v118 : BitVec 1 := Scalar.cmpi .eq v3 c57_i32
  let c6147_i32 : BitVec 32 := 6147#32
  let c56_i32_4 : BitVec 32 := 56#32
  let v116 : BitVec 1 := Scalar.cmpi .eq v3 c56_i32_4
  let c5257_i32 : BitVec 32 := 5257#32
  let c55_i32 : BitVec 32 := 55#32
  let v114 : BitVec 1 := Scalar.cmpi .eq v3 c55_i32
  let c2687_i32 : BitVec 32 := 2687#32
  let c54_i32 : BitVec 32 := 54#32
  let v112 : BitVec 1 := Scalar.cmpi .eq v3 c54_i32
  let c3913_i32 : BitVec 32 := 3913#32
  let c53_i32 : BitVec 32 := 53#32
  let v110 : BitVec 1 := Scalar.cmpi .eq v3 c53_i32
  let c1765_i32 : BitVec 32 := 1765#32
  let c52_i32 : BitVec 32 := 52#32
  let v108 : BitVec 1 := Scalar.cmpi .eq v3 c52_i32
  let c572_i32 : BitVec 32 := 572#32
  let c51_i32 : BitVec 32 := 51#32
  let v106 : BitVec 1 := Scalar.cmpi .eq v3 c51_i32
  let c5479_i32 : BitVec 32 := 5479#32
  let c50_i32 : BitVec 32 := 50#32
  let v104 : BitVec 1 := Scalar.cmpi .eq v3 c50_i32
  let c7351_i32 : BitVec 32 := 7351#32
  let c49_i32 : BitVec 32 := 49#32
  let v102 : BitVec 1 := Scalar.cmpi .eq v3 c49_i32
  let c593_i32 : BitVec 32 := 593#32
  let c48_i32 : BitVec 32 := 48#32
  let v100 : BitVec 1 := Scalar.cmpi .eq v3 c48_i32
  let c7487_i32 : BitVec 32 := 7487#32
  let c47_i32 : BitVec 32 := 47#32
  let v98 : BitVec 1 := Scalar.cmpi .eq v3 c47_i32
  let c3618_i32 : BitVec 32 := 3618#32
  let c46_i32 : BitVec 32 := 46#32
  let v96 : BitVec 1 := Scalar.cmpi .eq v3 c46_i32
  let c6125_i32 : BitVec 32 := 6125#32
  let c45_i32 : BitVec 32 := 45#32
  let v94 : BitVec 1 := Scalar.cmpi .eq v3 c45_i32
  let c2834_i32 : BitVec 32 := 2834#32
  let c44_i32 : BitVec 32 := 44#32
  let v92 : BitVec 1 := Scalar.cmpi .eq v3 c44_i32
  let c4871_i32 : BitVec 32 := 4871#32
  let c43_i32 : BitVec 32 := 43#32
  let v90 : BitVec 1 := Scalar.cmpi .eq v3 c43_i32
  let c1936_i32 : BitVec 32 := 1936#32
  let c42_i32 : BitVec 32 := 42#32
  let v88 : BitVec 1 := Scalar.cmpi .eq v3 c42_i32
  let c2914_i32 : BitVec 32 := 2914#32
  let c41_i32 : BitVec 32 := 41#32
  let v86 : BitVec 1 := Scalar.cmpi .eq v3 c41_i32
  let c3866_i32 : BitVec 32 := 3866#32
  let c40_i32 : BitVec 32 := 40#32
  let v84 : BitVec 1 := Scalar.cmpi .eq v3 c40_i32
  let c1846_i32 : BitVec 32 := 1846#32
  let c39_i32 : BitVec 32 := 39#32
  let v82 : BitVec 1 := Scalar.cmpi .eq v3 c39_i32
  let c7714_i32 : BitVec 32 := 7714#32
  let c38_i32 : BitVec 32 := 38#32
  let v80 : BitVec 1 := Scalar.cmpi .eq v3 c38_i32
  let c3980_i32 : BitVec 32 := 3980#32
  let c37_i32 : BitVec 32 := 37#32
  let v78 : BitVec 1 := Scalar.cmpi .eq v3 c37_i32
  let c6570_i32 : BitVec 32 := 6570#32
  let c36_i32 : BitVec 32 := 36#32
  let v76 : BitVec 1 := Scalar.cmpi .eq v3 c36_i32
  let c2937_i32 : BitVec 32 := 2937#32
  let c35_i32 : BitVec 32 := 35#32
  let v74 : BitVec 1 := Scalar.cmpi .eq v3 c35_i32
  let c1105_i32 : BitVec 32 := 1105#32
  let c34_i32 : BitVec 32 := 34#32
  let v72 : BitVec 1 := Scalar.cmpi .eq v3 c34_i32
  let c5685_i32 : BitVec 32 := 5685#32
  let c33_i32 : BitVec 32 := 33#32
  let v70 : BitVec 1 := Scalar.cmpi .eq v3 c33_i32
  let c1851_i32 : BitVec 32 := 1851#32
  let c32_i32 : BitVec 32 := 32#32
  let v68 : BitVec 1 := Scalar.cmpi .eq v3 c32_i32
  let c2835_i32 : BitVec 32 := 2835#32
  let c31_i32 : BitVec 32 := 31#32
  let v66 : BitVec 1 := Scalar.cmpi .eq v3 c31_i32
  let c6151_i32 : BitVec 32 := 6151#32
  let c30_i32 : BitVec 32 := 30#32
  let v64 : BitVec 1 := Scalar.cmpi .eq v3 c30_i32
  let c2916_i32 : BitVec 32 := 2916#32
  let c29_i32 : BitVec 32 := 29#32
  let v62 : BitVec 1 := Scalar.cmpi .eq v3 c29_i32
  let c4806_i32 : BitVec 32 := 4806#32
  let c28_i32 : BitVec 32 := 28#32
  let v60 : BitVec 1 := Scalar.cmpi .eq v3 c28_i32
  let c2760_i32 : BitVec 32 := 2760#32
  let c27_i32 : BitVec 32 := 27#32
  let v58 : BitVec 1 := Scalar.cmpi .eq v3 c27_i32
  let c2339_i32 : BitVec 32 := 2339#32
  let c26_i32 : BitVec 32 := 26#32
  let v56 : BitVec 1 := Scalar.cmpi .eq v3 c26_i32
  let c5978_i32 : BitVec 32 := 5978#32
  let c25_i32 : BitVec 32 := 25#32
  let v54 : BitVec 1 := Scalar.cmpi .eq v3 c25_i32
  let c6943_i32 : BitVec 32 := 6943#32
  let c24_i32 : BitVec 32 := 24#32
  let v52 : BitVec 1 := Scalar.cmpi .eq v3 c24_i32
  let c7654_i32 : BitVec 32 := 7654#32
  let c23_i32 : BitVec 32 := 23#32
  let v50 : BitVec 1 := Scalar.cmpi .eq v3 c23_i32
  let c3018_i32 : BitVec 32 := 3018#32
  let c22_i32 : BitVec 32 := 22#32
  let v48 : BitVec 1 := Scalar.cmpi .eq v3 c22_i32
  let c56_i32 : BitVec 32 := 56#32
  let c21_i32 : BitVec 32 := 21#32
  let v46 : BitVec 1 := Scalar.cmpi .eq v3 c21_i32
  let c5652_i32 : BitVec 32 := 5652#32
  let c20_i32 : BitVec 32 := 20#32
  let v44 : BitVec 1 := Scalar.cmpi .eq v3 c20_i32
  let c6840_i32 : BitVec 32 := 6840#32
  let c19_i32 : BitVec 32 := 19#32
  let v42 : BitVec 1 := Scalar.cmpi .eq v3 c19_i32
  let c4026_i32 : BitVec 32 := 4026#32
  let c18_i32 : BitVec 32 := 18#32
  let v40 : BitVec 1 := Scalar.cmpi .eq v3 c18_i32
  let c91_i32 : BitVec 32 := 91#32
  let c17_i32 : BitVec 32 := 17#32
  let v38 : BitVec 1 := Scalar.cmpi .eq v3 c17_i32
  let c7767_i32 : BitVec 32 := 7767#32
  let c16_i32 : BitVec 32 := 16#32
  let v36 : BitVec 1 := Scalar.cmpi .eq v3 c16_i32
  let c4241_i32 : BitVec 32 := 4241#32
  let c15_i32 : BitVec 32 := 15#32
  let v34 : BitVec 1 := Scalar.cmpi .eq v3 c15_i32
  let c6170_i32 : BitVec 32 := 6170#32
  let c14_i32 : BitVec 32 := 14#32
  let v32 : BitVec 1 := Scalar.cmpi .eq v3 c14_i32
  let c8174_i32 : BitVec 32 := 8174#32
  let c13_i32 : BitVec 32 := 13#32
  let v30 : BitVec 1 := Scalar.cmpi .eq v3 c13_i32
  let c1378_i32 : BitVec 32 := 1378#32
  let c12_i32 : BitVec 32 := 12#32
  let v28 : BitVec 1 := Scalar.cmpi .eq v3 c12_i32
  let c2562_i32 : BitVec 32 := 2562#32
  let c11_i32 : BitVec 32 := 11#32
  let v26 : BitVec 1 := Scalar.cmpi .eq v3 c11_i32
  let c4161_i32 : BitVec 32 := 4161#32
  let c10_i32 : BitVec 32 := 10#32
  let v24 : BitVec 1 := Scalar.cmpi .eq v3 c10_i32
  let c6176_i32 : BitVec 32 := 6176#32
  let c9_i32 : BitVec 32 := 9#32
  let v22 : BitVec 1 := Scalar.cmpi .eq v3 c9_i32
  let c2818_i32 : BitVec 32 := 2818#32
  let c8_i32 : BitVec 32 := 8#32
  let v20 : BitVec 1 := Scalar.cmpi .eq v3 c8_i32
  let c5970_i32 : BitVec 32 := 5970#32
  let c7_i32 : BitVec 32 := 7#32
  let v18 : BitVec 1 := Scalar.cmpi .eq v3 c7_i32
  let c7573_i32 : BitVec 32 := 7573#32
  let c6_i32 : BitVec 32 := 6#32
  let v16 : BitVec 1 := Scalar.cmpi .eq v3 c6_i32
  let c3350_i32 : BitVec 32 := 3350#32
  let c5_i32 : BitVec 32 := 5#32
  let v14 : BitVec 1 := Scalar.cmpi .eq v3 c5_i32
  let c4780_i32 : BitVec 32 := 4780#32
  let c4_i32 : BitVec 32 := 4#32
  let v12 : BitVec 1 := Scalar.cmpi .eq v3 c4_i32
  let c6560_i32 : BitVec 32 := 6560#32
  let c3_i32 : BitVec 32 := 3#32
  let v10 : BitVec 1 := Scalar.cmpi .eq v3 c3_i32
  let c7017_i32 : BitVec 32 := 7017#32
  let c2_i32_3 : BitVec 32 := 2#32
  let v8 : BitVec 1 := Scalar.cmpi .eq v3 c2_i32_3
  let c736_i32 : BitVec 32 := 736#32
  let c1_i32_2 : BitVec 32 := 1#32
  let v6 : BitVec 1 := Scalar.cmpi .eq v3 c1_i32_2
  let c943_i32 : BitVec 32 := 943#32
  let c7932_i32 : BitVec 32 := 7932#32
  let v7 : BitVec 32 := Scalar.select v6 c943_i32 c7932_i32
  let v9 : BitVec 32 := Scalar.select v8 c736_i32 v7
  let v11 : BitVec 32 := Scalar.select v10 c7017_i32 v9
  let v13 : BitVec 32 := Scalar.select v12 c6560_i32 v11
  let v15 : BitVec 32 := Scalar.select v14 c4780_i32 v13
  let v17 : BitVec 32 := Scalar.select v16 c3350_i32 v15
  let v19 : BitVec 32 := Scalar.select v18 c7573_i32 v17
  let v21 : BitVec 32 := Scalar.select v20 c5970_i32 v19
  let v23 : BitVec 32 := Scalar.select v22 c2818_i32 v21
  let v25 : BitVec 32 := Scalar.select v24 c6176_i32 v23
  let v27 : BitVec 32 := Scalar.select v26 c4161_i32 v25
  let v29 : BitVec 32 := Scalar.select v28 c2562_i32 v27
  let v31 : BitVec 32 := Scalar.select v30 c1378_i32 v29
  let v33 : BitVec 32 := Scalar.select v32 c8174_i32 v31
  let v35 : BitVec 32 := Scalar.select v34 c6170_i32 v33
  let v37 : BitVec 32 := Scalar.select v36 c4241_i32 v35
  let v39 : BitVec 32 := Scalar.select v38 c7767_i32 v37
  let v41 : BitVec 32 := Scalar.select v40 c91_i32 v39
  let v43 : BitVec 32 := Scalar.select v42 c4026_i32 v41
  let v45 : BitVec 32 := Scalar.select v44 c6840_i32 v43
  let v47 : BitVec 32 := Scalar.select v46 c5652_i32 v45
  let v49 : BitVec 32 := Scalar.select v48 c56_i32 v47
  let v51 : BitVec 32 := Scalar.select v50 c3018_i32 v49
  let v53 : BitVec 32 := Scalar.select v52 c7654_i32 v51
  let v55 : BitVec 32 := Scalar.select v54 c6943_i32 v53
  let v57 : BitVec 32 := Scalar.select v56 c5978_i32 v55
  let v59 : BitVec 32 := Scalar.select v58 c2339_i32 v57
  let v61 : BitVec 32 := Scalar.select v60 c2760_i32 v59
  let v63 : BitVec 32 := Scalar.select v62 c4806_i32 v61
  let v65 : BitVec 32 := Scalar.select v64 c2916_i32 v63
  let v67 : BitVec 32 := Scalar.select v66 c6151_i32 v65
  let v69 : BitVec 32 := Scalar.select v68 c2835_i32 v67
  let v71 : BitVec 32 := Scalar.select v70 c1851_i32 v69
  let v73 : BitVec 32 := Scalar.select v72 c5685_i32 v71
  let v75 : BitVec 32 := Scalar.select v74 c1105_i32 v73
  let v77 : BitVec 32 := Scalar.select v76 c2937_i32 v75
  let v79 : BitVec 32 := Scalar.select v78 c6570_i32 v77
  let v81 : BitVec 32 := Scalar.select v80 c3980_i32 v79
  let v83 : BitVec 32 := Scalar.select v82 c7714_i32 v81
  let v85 : BitVec 32 := Scalar.select v84 c1846_i32 v83
  let v87 : BitVec 32 := Scalar.select v86 c3866_i32 v85
  let v89 : BitVec 32 := Scalar.select v88 c2914_i32 v87
  let v91 : BitVec 32 := Scalar.select v90 c1936_i32 v89
  let v93 : BitVec 32 := Scalar.select v92 c4871_i32 v91
  let v95 : BitVec 32 := Scalar.select v94 c2834_i32 v93
  let v97 : BitVec 32 := Scalar.select v96 c6125_i32 v95
  let v99 : BitVec 32 := Scalar.select v98 c3618_i32 v97
  let v101 : BitVec 32 := Scalar.select v100 c7487_i32 v99
  let v103 : BitVec 32 := Scalar.select v102 c593_i32 v101
  let v105 : BitVec 32 := Scalar.select v104 c7351_i32 v103
  let v107 : BitVec 32 := Scalar.select v106 c5479_i32 v105
  let v109 : BitVec 32 := Scalar.select v108 c572_i32 v107
  let v111 : BitVec 32 := Scalar.select v110 c1765_i32 v109
  let v113 : BitVec 32 := Scalar.select v112 c3913_i32 v111
  let v115 : BitVec 32 := Scalar.select v114 c2687_i32 v113
  let v117 : BitVec 32 := Scalar.select v116 c5257_i32 v115
  let v119 : BitVec 32 := Scalar.select v118 c6147_i32 v117
  let v121 : BitVec 32 := Scalar.select v120 c7228_i32 v119
  let v123 : BitVec 32 := Scalar.select v122 c2263_i32 v121
  let v125 : BitVec 32 := Scalar.select v124 c3132_i32 v123
  let v127 : BitVec 32 := Scalar.select v126 c722_i32 v125
  let v129 : BitVec 32 := Scalar.select v128 c1196_i32 v127
  let v131 : BitVec 32 := Scalar.select v130 c1763_i32 v129
  let c7_i32_132 : BitVec 32 := 7#32
  let v259 : BitVec 32 := Scalar.shrsi v131 c7_i32_132
  let v260 : BitVec 32 := Scalar.addi v258 v259
  let c256_i32 : BitVec 32 := 256#32
  let v261 : BitVec 32 := Scalar.muli v260 c256_i32
  let c1_i32_455 : BitVec 32 := 1#32
  let c1_i32_457 : BitVec 32 := 1#32
  let arg20 : BitVec 32 := Scf.iv c1_i32_455 c1_i32_457 k0_t5
  let c4_i32_623 : BitVec 32 := 4#32
  let v1375 : BitVec 32 := Scalar.muli arg20 c4_i32_623
  let v1376 : BitVec 32 := Scalar.addi v1375 c0_i32_624
  let c4_i32_654 : BitVec 32 := 4#32
  let v1445 : BitVec 32 := Scalar.addi v1376 c4_i32_654
  let c0_i32_656 : BitVec 32 := 0#32
  let v1447 : BitVec 1 := Scalar.cmpi .sgt v1445 c0_i32_656
  let v1448 : BitVec 32 := Scalar.extui v1447
  let c0_i32_657 : BitVec 32 := 0#32
  let v1449 : BitVec 1 := Scalar.cmpi .slt v1445 c0_i32_657
  let v1450 : BitVec 32 := Scalar.extui v1449
  let v1451 : BitVec 32 := Scalar.subi v1448 v1450
  let c2_i32_655 : BitVec 32 := 2#32
  let c0_i32_658 : BitVec 32 := 0#32
  let v1452 : BitVec 1 := Scalar.cmpi .sgt c2_i32_655 c0_i32_658
  let v1453 : BitVec 32 := Scalar.extui v1452
  let c0_i32_659 : BitVec 32 := 0#32
  let v1454 : BitVec 1 := Scalar.cmpi .slt c2_i32_655 c0_i32_659
  let v1455 : BitVec 32 := Scalar.extui v1454
  let v1456 : BitVec 32 := Scalar.subi v1453 v1455
  let v1457 : BitVec 1 := Scalar.cmpi .ne v1451 v1456
  let v1458 : BitVec 32 := Scalar.remsi v1445 c2_i32_655
  let c0_i32_660 : BitVec 32 := 0#32
  let v1459 : BitVec 1 := Scalar.cmpi .ne v1458 c0_i32_660
  let v1460 : BitVec 1 := Scalar.andi v1457 v1459
  let v1446 : BitVec 32 := Scalar.divsi v1445 c2_i32_655
  let c1_i32_661 : BitVec 32 := 1#32
  let v1461 : BitVec 32 := Scalar.subi v1446 c1_i32_661
  let v1462 : BitVec 32 := Scalar.select v1460 v1461 v1446
  let c15872_i32_662 : BitVec 32 := 15872#32
  let v1463 : BitVec 32 := Scalar.muli v1462 c15872_i32_662
  let v1464 : BitVec 32 := Scalar.addi v261 v1463
  let v1465 : BitVec 32 := v1464
  ![v1465.toNat]
def k0_off86_at (r : Fin 4) : BitVec 32 × BitVec 32 :=
  if r.val < 2 then
    if r.val < 1 then
      (0#32, 0#32)
    else
      (1#32, 1#32)
  else
    if r.val < 3 then
      (0#32, 2#32)
    else
      (1#32, 3#32)
def k0_mult101 (i : grid0.Coords) (k0_t5 : Fin k0_t5_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_1 : BitVec 32 := 2#32
  let v4 : BitVec 32 := Scalar.muli v1 c2_i32_1
  let c1_i32 : BitVec 32 := 1#32
  let v5 : BitVec 32 := Scalar.addi v4 c1_i32
  let c2048_i32_133 : BitVec 32 := 2048#32
  let v262 : BitVec 32 := Scalar.muli v5 c2048_i32_133
  let c63_i32_130 : BitVec 32 := 63#32
  let v256 : BitVec 1 := Scalar.cmpi .eq v5 c63_i32_130
  let c1763_i32_131 : BitVec 32 := 1763#32
  let c62_i32_128 : BitVec 32 := 62#32
  let v254 : BitVec 1 := Scalar.cmpi .eq v5 c62_i32_128
  let c1196_i32_129 : BitVec 32 := 1196#32
  let c61_i32_126 : BitVec 32 := 61#32
  let v252 : BitVec 1 := Scalar.cmpi .eq v5 c61_i32_126
  let c722_i32_127 : BitVec 32 := 722#32
  let c60_i32_124 : BitVec 32 := 60#32
  let v250 : BitVec 1 := Scalar.cmpi .eq v5 c60_i32_124
  let c3132_i32_125 : BitVec 32 := 3132#32
  let c59_i32_122 : BitVec 32 := 59#32
  let v248 : BitVec 1 := Scalar.cmpi .eq v5 c59_i32_122
  let c2263_i32_123 : BitVec 32 := 2263#32
  let c58_i32_120 : BitVec 32 := 58#32
  let v246 : BitVec 1 := Scalar.cmpi .eq v5 c58_i32_120
  let c7228_i32_121 : BitVec 32 := 7228#32
  let c57_i32_118 : BitVec 32 := 57#32
  let v244 : BitVec 1 := Scalar.cmpi .eq v5 c57_i32_118
  let c6147_i32_119 : BitVec 32 := 6147#32
  let c56_i32_116 : BitVec 32 := 56#32
  let v242 : BitVec 1 := Scalar.cmpi .eq v5 c56_i32_116
  let c5257_i32_117 : BitVec 32 := 5257#32
  let c55_i32_114 : BitVec 32 := 55#32
  let v240 : BitVec 1 := Scalar.cmpi .eq v5 c55_i32_114
  let c2687_i32_115 : BitVec 32 := 2687#32
  let c54_i32_112 : BitVec 32 := 54#32
  let v238 : BitVec 1 := Scalar.cmpi .eq v5 c54_i32_112
  let c3913_i32_113 : BitVec 32 := 3913#32
  let c53_i32_110 : BitVec 32 := 53#32
  let v236 : BitVec 1 := Scalar.cmpi .eq v5 c53_i32_110
  let c1765_i32_111 : BitVec 32 := 1765#32
  let c52_i32_108 : BitVec 32 := 52#32
  let v234 : BitVec 1 := Scalar.cmpi .eq v5 c52_i32_108
  let c572_i32_109 : BitVec 32 := 572#32
  let c51_i32_106 : BitVec 32 := 51#32
  let v232 : BitVec 1 := Scalar.cmpi .eq v5 c51_i32_106
  let c5479_i32_107 : BitVec 32 := 5479#32
  let c50_i32_104 : BitVec 32 := 50#32
  let v230 : BitVec 1 := Scalar.cmpi .eq v5 c50_i32_104
  let c7351_i32_105 : BitVec 32 := 7351#32
  let c49_i32_102 : BitVec 32 := 49#32
  let v228 : BitVec 1 := Scalar.cmpi .eq v5 c49_i32_102
  let c593_i32_103 : BitVec 32 := 593#32
  let c48_i32_100 : BitVec 32 := 48#32
  let v226 : BitVec 1 := Scalar.cmpi .eq v5 c48_i32_100
  let c7487_i32_101 : BitVec 32 := 7487#32
  let c47_i32_98 : BitVec 32 := 47#32
  let v224 : BitVec 1 := Scalar.cmpi .eq v5 c47_i32_98
  let c3618_i32_99 : BitVec 32 := 3618#32
  let c46_i32_96 : BitVec 32 := 46#32
  let v222 : BitVec 1 := Scalar.cmpi .eq v5 c46_i32_96
  let c6125_i32_97 : BitVec 32 := 6125#32
  let c45_i32_94 : BitVec 32 := 45#32
  let v220 : BitVec 1 := Scalar.cmpi .eq v5 c45_i32_94
  let c2834_i32_95 : BitVec 32 := 2834#32
  let c44_i32_92 : BitVec 32 := 44#32
  let v218 : BitVec 1 := Scalar.cmpi .eq v5 c44_i32_92
  let c4871_i32_93 : BitVec 32 := 4871#32
  let c43_i32_90 : BitVec 32 := 43#32
  let v216 : BitVec 1 := Scalar.cmpi .eq v5 c43_i32_90
  let c1936_i32_91 : BitVec 32 := 1936#32
  let c42_i32_88 : BitVec 32 := 42#32
  let v214 : BitVec 1 := Scalar.cmpi .eq v5 c42_i32_88
  let c2914_i32_89 : BitVec 32 := 2914#32
  let c41_i32_86 : BitVec 32 := 41#32
  let v212 : BitVec 1 := Scalar.cmpi .eq v5 c41_i32_86
  let c3866_i32_87 : BitVec 32 := 3866#32
  let c40_i32_84 : BitVec 32 := 40#32
  let v210 : BitVec 1 := Scalar.cmpi .eq v5 c40_i32_84
  let c1846_i32_85 : BitVec 32 := 1846#32
  let c39_i32_82 : BitVec 32 := 39#32
  let v208 : BitVec 1 := Scalar.cmpi .eq v5 c39_i32_82
  let c7714_i32_83 : BitVec 32 := 7714#32
  let c38_i32_80 : BitVec 32 := 38#32
  let v206 : BitVec 1 := Scalar.cmpi .eq v5 c38_i32_80
  let c3980_i32_81 : BitVec 32 := 3980#32
  let c37_i32_78 : BitVec 32 := 37#32
  let v204 : BitVec 1 := Scalar.cmpi .eq v5 c37_i32_78
  let c6570_i32_79 : BitVec 32 := 6570#32
  let c36_i32_76 : BitVec 32 := 36#32
  let v202 : BitVec 1 := Scalar.cmpi .eq v5 c36_i32_76
  let c2937_i32_77 : BitVec 32 := 2937#32
  let c35_i32_74 : BitVec 32 := 35#32
  let v200 : BitVec 1 := Scalar.cmpi .eq v5 c35_i32_74
  let c1105_i32_75 : BitVec 32 := 1105#32
  let c34_i32_72 : BitVec 32 := 34#32
  let v198 : BitVec 1 := Scalar.cmpi .eq v5 c34_i32_72
  let c5685_i32_73 : BitVec 32 := 5685#32
  let c33_i32_70 : BitVec 32 := 33#32
  let v196 : BitVec 1 := Scalar.cmpi .eq v5 c33_i32_70
  let c1851_i32_71 : BitVec 32 := 1851#32
  let c32_i32_68 : BitVec 32 := 32#32
  let v194 : BitVec 1 := Scalar.cmpi .eq v5 c32_i32_68
  let c2835_i32_69 : BitVec 32 := 2835#32
  let c31_i32_66 : BitVec 32 := 31#32
  let v192 : BitVec 1 := Scalar.cmpi .eq v5 c31_i32_66
  let c6151_i32_67 : BitVec 32 := 6151#32
  let c30_i32_64 : BitVec 32 := 30#32
  let v190 : BitVec 1 := Scalar.cmpi .eq v5 c30_i32_64
  let c2916_i32_65 : BitVec 32 := 2916#32
  let c29_i32_62 : BitVec 32 := 29#32
  let v188 : BitVec 1 := Scalar.cmpi .eq v5 c29_i32_62
  let c4806_i32_63 : BitVec 32 := 4806#32
  let c28_i32_60 : BitVec 32 := 28#32
  let v186 : BitVec 1 := Scalar.cmpi .eq v5 c28_i32_60
  let c2760_i32_61 : BitVec 32 := 2760#32
  let c27_i32_58 : BitVec 32 := 27#32
  let v184 : BitVec 1 := Scalar.cmpi .eq v5 c27_i32_58
  let c2339_i32_59 : BitVec 32 := 2339#32
  let c26_i32_56 : BitVec 32 := 26#32
  let v182 : BitVec 1 := Scalar.cmpi .eq v5 c26_i32_56
  let c5978_i32_57 : BitVec 32 := 5978#32
  let c25_i32_54 : BitVec 32 := 25#32
  let v180 : BitVec 1 := Scalar.cmpi .eq v5 c25_i32_54
  let c6943_i32_55 : BitVec 32 := 6943#32
  let c24_i32_52 : BitVec 32 := 24#32
  let v178 : BitVec 1 := Scalar.cmpi .eq v5 c24_i32_52
  let c7654_i32_53 : BitVec 32 := 7654#32
  let c23_i32_50 : BitVec 32 := 23#32
  let v176 : BitVec 1 := Scalar.cmpi .eq v5 c23_i32_50
  let c3018_i32_51 : BitVec 32 := 3018#32
  let c22_i32_48 : BitVec 32 := 22#32
  let v174 : BitVec 1 := Scalar.cmpi .eq v5 c22_i32_48
  let c56_i32_49 : BitVec 32 := 56#32
  let c21_i32_46 : BitVec 32 := 21#32
  let v172 : BitVec 1 := Scalar.cmpi .eq v5 c21_i32_46
  let c5652_i32_47 : BitVec 32 := 5652#32
  let c20_i32_44 : BitVec 32 := 20#32
  let v170 : BitVec 1 := Scalar.cmpi .eq v5 c20_i32_44
  let c6840_i32_45 : BitVec 32 := 6840#32
  let c19_i32_42 : BitVec 32 := 19#32
  let v168 : BitVec 1 := Scalar.cmpi .eq v5 c19_i32_42
  let c4026_i32_43 : BitVec 32 := 4026#32
  let c18_i32_40 : BitVec 32 := 18#32
  let v166 : BitVec 1 := Scalar.cmpi .eq v5 c18_i32_40
  let c91_i32_41 : BitVec 32 := 91#32
  let c17_i32_38 : BitVec 32 := 17#32
  let v164 : BitVec 1 := Scalar.cmpi .eq v5 c17_i32_38
  let c7767_i32_39 : BitVec 32 := 7767#32
  let c16_i32_36 : BitVec 32 := 16#32
  let v162 : BitVec 1 := Scalar.cmpi .eq v5 c16_i32_36
  let c4241_i32_37 : BitVec 32 := 4241#32
  let c15_i32_34 : BitVec 32 := 15#32
  let v160 : BitVec 1 := Scalar.cmpi .eq v5 c15_i32_34
  let c6170_i32_35 : BitVec 32 := 6170#32
  let c14_i32_32 : BitVec 32 := 14#32
  let v158 : BitVec 1 := Scalar.cmpi .eq v5 c14_i32_32
  let c8174_i32_33 : BitVec 32 := 8174#32
  let c13_i32_30 : BitVec 32 := 13#32
  let v156 : BitVec 1 := Scalar.cmpi .eq v5 c13_i32_30
  let c1378_i32_31 : BitVec 32 := 1378#32
  let c12_i32_28 : BitVec 32 := 12#32
  let v154 : BitVec 1 := Scalar.cmpi .eq v5 c12_i32_28
  let c2562_i32_29 : BitVec 32 := 2562#32
  let c11_i32_26 : BitVec 32 := 11#32
  let v152 : BitVec 1 := Scalar.cmpi .eq v5 c11_i32_26
  let c4161_i32_27 : BitVec 32 := 4161#32
  let c10_i32_24 : BitVec 32 := 10#32
  let v150 : BitVec 1 := Scalar.cmpi .eq v5 c10_i32_24
  let c6176_i32_25 : BitVec 32 := 6176#32
  let c9_i32_22 : BitVec 32 := 9#32
  let v148 : BitVec 1 := Scalar.cmpi .eq v5 c9_i32_22
  let c2818_i32_23 : BitVec 32 := 2818#32
  let c8_i32_20 : BitVec 32 := 8#32
  let v146 : BitVec 1 := Scalar.cmpi .eq v5 c8_i32_20
  let c5970_i32_21 : BitVec 32 := 5970#32
  let c7_i32_18 : BitVec 32 := 7#32
  let v144 : BitVec 1 := Scalar.cmpi .eq v5 c7_i32_18
  let c7573_i32_19 : BitVec 32 := 7573#32
  let c6_i32_16 : BitVec 32 := 6#32
  let v142 : BitVec 1 := Scalar.cmpi .eq v5 c6_i32_16
  let c3350_i32_17 : BitVec 32 := 3350#32
  let c5_i32_14 : BitVec 32 := 5#32
  let v140 : BitVec 1 := Scalar.cmpi .eq v5 c5_i32_14
  let c4780_i32_15 : BitVec 32 := 4780#32
  let c4_i32_12 : BitVec 32 := 4#32
  let v138 : BitVec 1 := Scalar.cmpi .eq v5 c4_i32_12
  let c6560_i32_13 : BitVec 32 := 6560#32
  let c3_i32_10 : BitVec 32 := 3#32
  let v136 : BitVec 1 := Scalar.cmpi .eq v5 c3_i32_10
  let c7017_i32_11 : BitVec 32 := 7017#32
  let c2_i32_8 : BitVec 32 := 2#32
  let v134 : BitVec 1 := Scalar.cmpi .eq v5 c2_i32_8
  let c736_i32_9 : BitVec 32 := 736#32
  let c1_i32_5 : BitVec 32 := 1#32
  let v132 : BitVec 1 := Scalar.cmpi .eq v5 c1_i32_5
  let c943_i32_7 : BitVec 32 := 943#32
  let c7932_i32_6 : BitVec 32 := 7932#32
  let v133 : BitVec 32 := Scalar.select v132 c943_i32_7 c7932_i32_6
  let v135 : BitVec 32 := Scalar.select v134 c736_i32_9 v133
  let v137 : BitVec 32 := Scalar.select v136 c7017_i32_11 v135
  let v139 : BitVec 32 := Scalar.select v138 c6560_i32_13 v137
  let v141 : BitVec 32 := Scalar.select v140 c4780_i32_15 v139
  let v143 : BitVec 32 := Scalar.select v142 c3350_i32_17 v141
  let v145 : BitVec 32 := Scalar.select v144 c7573_i32_19 v143
  let v147 : BitVec 32 := Scalar.select v146 c5970_i32_21 v145
  let v149 : BitVec 32 := Scalar.select v148 c2818_i32_23 v147
  let v151 : BitVec 32 := Scalar.select v150 c6176_i32_25 v149
  let v153 : BitVec 32 := Scalar.select v152 c4161_i32_27 v151
  let v155 : BitVec 32 := Scalar.select v154 c2562_i32_29 v153
  let v157 : BitVec 32 := Scalar.select v156 c1378_i32_31 v155
  let v159 : BitVec 32 := Scalar.select v158 c8174_i32_33 v157
  let v161 : BitVec 32 := Scalar.select v160 c6170_i32_35 v159
  let v163 : BitVec 32 := Scalar.select v162 c4241_i32_37 v161
  let v165 : BitVec 32 := Scalar.select v164 c7767_i32_39 v163
  let v167 : BitVec 32 := Scalar.select v166 c91_i32_41 v165
  let v169 : BitVec 32 := Scalar.select v168 c4026_i32_43 v167
  let v171 : BitVec 32 := Scalar.select v170 c6840_i32_45 v169
  let v173 : BitVec 32 := Scalar.select v172 c5652_i32_47 v171
  let v175 : BitVec 32 := Scalar.select v174 c56_i32_49 v173
  let v177 : BitVec 32 := Scalar.select v176 c3018_i32_51 v175
  let v179 : BitVec 32 := Scalar.select v178 c7654_i32_53 v177
  let v181 : BitVec 32 := Scalar.select v180 c6943_i32_55 v179
  let v183 : BitVec 32 := Scalar.select v182 c5978_i32_57 v181
  let v185 : BitVec 32 := Scalar.select v184 c2339_i32_59 v183
  let v187 : BitVec 32 := Scalar.select v186 c2760_i32_61 v185
  let v189 : BitVec 32 := Scalar.select v188 c4806_i32_63 v187
  let v191 : BitVec 32 := Scalar.select v190 c2916_i32_65 v189
  let v193 : BitVec 32 := Scalar.select v192 c6151_i32_67 v191
  let v195 : BitVec 32 := Scalar.select v194 c2835_i32_69 v193
  let v197 : BitVec 32 := Scalar.select v196 c1851_i32_71 v195
  let v199 : BitVec 32 := Scalar.select v198 c5685_i32_73 v197
  let v201 : BitVec 32 := Scalar.select v200 c1105_i32_75 v199
  let v203 : BitVec 32 := Scalar.select v202 c2937_i32_77 v201
  let v205 : BitVec 32 := Scalar.select v204 c6570_i32_79 v203
  let v207 : BitVec 32 := Scalar.select v206 c3980_i32_81 v205
  let v209 : BitVec 32 := Scalar.select v208 c7714_i32_83 v207
  let v211 : BitVec 32 := Scalar.select v210 c1846_i32_85 v209
  let v213 : BitVec 32 := Scalar.select v212 c3866_i32_87 v211
  let v215 : BitVec 32 := Scalar.select v214 c2914_i32_89 v213
  let v217 : BitVec 32 := Scalar.select v216 c1936_i32_91 v215
  let v219 : BitVec 32 := Scalar.select v218 c4871_i32_93 v217
  let v221 : BitVec 32 := Scalar.select v220 c2834_i32_95 v219
  let v223 : BitVec 32 := Scalar.select v222 c6125_i32_97 v221
  let v225 : BitVec 32 := Scalar.select v224 c3618_i32_99 v223
  let v227 : BitVec 32 := Scalar.select v226 c7487_i32_101 v225
  let v229 : BitVec 32 := Scalar.select v228 c593_i32_103 v227
  let v231 : BitVec 32 := Scalar.select v230 c7351_i32_105 v229
  let v233 : BitVec 32 := Scalar.select v232 c5479_i32_107 v231
  let v235 : BitVec 32 := Scalar.select v234 c572_i32_109 v233
  let v237 : BitVec 32 := Scalar.select v236 c1765_i32_111 v235
  let v239 : BitVec 32 := Scalar.select v238 c3913_i32_113 v237
  let v241 : BitVec 32 := Scalar.select v240 c2687_i32_115 v239
  let v243 : BitVec 32 := Scalar.select v242 c5257_i32_117 v241
  let v245 : BitVec 32 := Scalar.select v244 c6147_i32_119 v243
  let v247 : BitVec 32 := Scalar.select v246 c7228_i32_121 v245
  let v249 : BitVec 32 := Scalar.select v248 c2263_i32_123 v247
  let v251 : BitVec 32 := Scalar.select v250 c3132_i32_125 v249
  let v253 : BitVec 32 := Scalar.select v252 c722_i32_127 v251
  let v255 : BitVec 32 := Scalar.select v254 c1196_i32_129 v253
  let v257 : BitVec 32 := Scalar.select v256 c1763_i32_131 v255
  let c7_i32_134 : BitVec 32 := 7#32
  let v263 : BitVec 32 := Scalar.shrsi v257 c7_i32_134
  let v264 : BitVec 32 := Scalar.addi v262 v263
  let c256_i32_135 : BitVec 32 := 256#32
  let v265 : BitVec 32 := Scalar.muli v264 c256_i32_135
  let c1_i32_455 : BitVec 32 := 1#32
  let c1_i32_457 : BitVec 32 := 1#32
  let arg20 : BitVec 32 := Scf.iv c1_i32_455 c1_i32_457 k0_t5
  let c4_i32_663 : BitVec 32 := 4#32
  let v1468 : BitVec 32 := Scalar.muli arg20 c4_i32_663
  let c1_i32_664 : BitVec 32 := 1#32
  let v1469 : BitVec 32 := Scalar.addi v1468 c1_i32_664
  let c0_i32_666 : BitVec 32 := 0#32
  let v1471 : BitVec 1 := Scalar.cmpi .sgt v1469 c0_i32_666
  let v1472 : BitVec 32 := Scalar.extui v1471
  let c0_i32_667 : BitVec 32 := 0#32
  let v1473 : BitVec 1 := Scalar.cmpi .slt v1469 c0_i32_667
  let v1474 : BitVec 32 := Scalar.extui v1473
  let v1475 : BitVec 32 := Scalar.subi v1472 v1474
  let c2_i32_665 : BitVec 32 := 2#32
  let c0_i32_668 : BitVec 32 := 0#32
  let v1476 : BitVec 1 := Scalar.cmpi .sgt c2_i32_665 c0_i32_668
  let v1477 : BitVec 32 := Scalar.extui v1476
  let c0_i32_669 : BitVec 32 := 0#32
  let v1478 : BitVec 1 := Scalar.cmpi .slt c2_i32_665 c0_i32_669
  let v1479 : BitVec 32 := Scalar.extui v1478
  let v1480 : BitVec 32 := Scalar.subi v1477 v1479
  let v1481 : BitVec 1 := Scalar.cmpi .ne v1475 v1480
  let v1482 : BitVec 32 := Scalar.remsi v1469 c2_i32_665
  let c0_i32_670 : BitVec 32 := 0#32
  let v1483 : BitVec 1 := Scalar.cmpi .ne v1482 c0_i32_670
  let v1484 : BitVec 1 := Scalar.andi v1481 v1483
  let v1470 : BitVec 32 := Scalar.divsi v1469 c2_i32_665
  let c1_i32_671 : BitVec 32 := 1#32
  let v1485 : BitVec 32 := Scalar.subi v1470 c1_i32_671
  let v1486 : BitVec 32 := Scalar.select v1484 v1485 v1470
  let c15872_i32_672 : BitVec 32 := 15872#32
  let v1487 : BitVec 32 := Scalar.muli v1486 c15872_i32_672
  let v1488 : BitVec 32 := Scalar.addi v265 v1487
  v1488
def k0_mult102 (i : grid0.Coords) (k0_t5 : Fin k0_t5_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_1 : BitVec 32 := 2#32
  let v4 : BitVec 32 := Scalar.muli v1 c2_i32_1
  let c1_i32 : BitVec 32 := 1#32
  let v5 : BitVec 32 := Scalar.addi v4 c1_i32
  let c1984_i32_137 : BitVec 32 := 1984#32
  let v268 : BitVec 32 := Scalar.muli v5 c1984_i32_137
  let c256_i32_138 : BitVec 32 := 256#32
  let v269 : BitVec 32 := Scalar.muli v268 c256_i32_138
  let c1_i32_455 : BitVec 32 := 1#32
  let c1_i32_457 : BitVec 32 := 1#32
  let arg20 : BitVec 32 := Scf.iv c1_i32_455 c1_i32_457 k0_t5
  let c4_i32_663 : BitVec 32 := 4#32
  let v1468 : BitVec 32 := Scalar.muli arg20 c4_i32_663
  let c1_i32_664 : BitVec 32 := 1#32
  let v1469 : BitVec 32 := Scalar.addi v1468 c1_i32_664
  let c4_i32_673 : BitVec 32 := 4#32
  let v1492 : BitVec 32 := Scalar.subi v1469 c4_i32_673
  let c0_i32_675 : BitVec 32 := 0#32
  let v1494 : BitVec 1 := Scalar.cmpi .sgt v1492 c0_i32_675
  let v1495 : BitVec 32 := Scalar.extui v1494
  let c0_i32_676 : BitVec 32 := 0#32
  let v1496 : BitVec 1 := Scalar.cmpi .slt v1492 c0_i32_676
  let v1497 : BitVec 32 := Scalar.extui v1496
  let v1498 : BitVec 32 := Scalar.subi v1495 v1497
  let c2_i32_674 : BitVec 32 := 2#32
  let c0_i32_677 : BitVec 32 := 0#32
  let v1499 : BitVec 1 := Scalar.cmpi .sgt c2_i32_674 c0_i32_677
  let v1500 : BitVec 32 := Scalar.extui v1499
  let c0_i32_678 : BitVec 32 := 0#32
  let v1501 : BitVec 1 := Scalar.cmpi .slt c2_i32_674 c0_i32_678
  let v1502 : BitVec 32 := Scalar.extui v1501
  let v1503 : BitVec 32 := Scalar.subi v1500 v1502
  let v1504 : BitVec 1 := Scalar.cmpi .ne v1498 v1503
  let v1505 : BitVec 32 := Scalar.remsi v1492 c2_i32_674
  let c0_i32_679 : BitVec 32 := 0#32
  let v1506 : BitVec 1 := Scalar.cmpi .ne v1505 c0_i32_679
  let v1507 : BitVec 1 := Scalar.andi v1504 v1506
  let v1493 : BitVec 32 := Scalar.divsi v1492 c2_i32_674
  let c1_i32_680 : BitVec 32 := 1#32
  let v1508 : BitVec 32 := Scalar.subi v1493 c1_i32_680
  let v1509 : BitVec 32 := Scalar.select v1507 v1508 v1493
  let c15872_i32_681 : BitVec 32 := 15872#32
  let v1510 : BitVec 32 := Scalar.muli v1509 c15872_i32_681
  let v1511 : BitVec 32 := Scalar.addi v269 v1510
  v1511
@[reducible] def k0_t7_loop : Scf.Loop 32 :=
  let c0_i32_682 : BitVec 32 := 0#32
  let c62_i32_683 : BitVec 32 := 62#32
  let v1515 : BitVec 32 := Scalar.addi c0_i32_682 c62_i32_683
  let c1_i32_684 : BitVec 32 := 1#32
  ⟨c0_i32_682, v1515, c1_i32_684⟩

def k0_chk81 (v1753 : IVec S16 32) : Prop :=
  (∀ a x, ((![v1753] : Fin 1 → IVec S16 32) a x).toNat < S16128.size a)
theorem k0_idx81_inb : ∀ (v1753 : IVec S16 32) (k0_hw81 : k0_chk81 v1753), ∀ a x, ((![v1753] : Fin 1 → IVec S16 32) a x).toNat < S16128.size a := fun v1753 k0_hw81 => k0_hw81
def k0_mult103 (k0_t7 : Fin k0_t7_loop.trips) : BitVec 32 :=
  let c0_i32_785 : BitVec 32 := 0#32
  let c0_i32_682 : BitVec 32 := 0#32
  let c1_i32_684 : BitVec 32 := 1#32
  let arg22 : BitVec 32 := Scf.iv c0_i32_682 c1_i32_684 k0_t7
  let c1_i32_784 : BitVec 32 := 1#32
  let v1747 : BitVec 32 := Scalar.muli arg22 c1_i32_784
  let v1748 : BitVec 32 := Scalar.addi c0_i32_785 v1747
  let c256_i32_786 : BitVec 32 := 256#32
  let v1749 : BitVec 32 := Scalar.muli v1748 c256_i32_786
  let c0_i32_788 : BitVec 32 := 0#32
  let v1755 : BitVec 32 := Scalar.addi v1749 c0_i32_788
  v1755
def k0_off87 (k0_t7 : Fin k0_t7_loop.trips) : Fin 1 → Nat :=
  let c0_i32_785 : BitVec 32 := 0#32
  let c0_i32_682 : BitVec 32 := 0#32
  let c1_i32_684 : BitVec 32 := 1#32
  let arg22 : BitVec 32 := Scf.iv c0_i32_682 c1_i32_684 k0_t7
  let c1_i32_784 : BitVec 32 := 1#32
  let v1747 : BitVec 32 := Scalar.muli arg22 c1_i32_784
  let v1748 : BitVec 32 := Scalar.addi c0_i32_785 v1747
  let c256_i32_786 : BitVec 32 := 256#32
  let v1749 : BitVec 32 := Scalar.muli v1748 c256_i32_786
  let c0_i32_788 : BitVec 32 := 0#32
  let v1755 : BitVec 32 := Scalar.addi v1749 c0_i32_788
  let v1756 : BitVec 32 := v1755
  let v1757 : Index := Scalar.indexCast v1756
  ![v1757.toNat]

def k0_chk82 (v1759 : IVec S16 32) : Prop :=
  (∀ a x, ((![v1759] : Fin 1 → IVec S16 32) a x).toNat < S16128.size a)
theorem k0_idx82_inb : ∀ (v1759 : IVec S16 32) (k0_hw82 : k0_chk82 v1759), ∀ a x, ((![v1759] : Fin 1 → IVec S16 32) a x).toNat < S16128.size a := fun v1759 k0_hw82 => k0_hw82
def k0_mult104 (k0_t7 : Fin k0_t7_loop.trips) : BitVec 32 :=
  let c0_i32_785 : BitVec 32 := 0#32
  let c0_i32_682 : BitVec 32 := 0#32
  let c1_i32_684 : BitVec 32 := 1#32
  let arg22 : BitVec 32 := Scf.iv c0_i32_682 c1_i32_684 k0_t7
  let c1_i32_784 : BitVec 32 := 1#32
  let v1747 : BitVec 32 := Scalar.muli arg22 c1_i32_784
  let v1748 : BitVec 32 := Scalar.addi c0_i32_785 v1747
  let c256_i32_786 : BitVec 32 := 256#32
  let v1749 : BitVec 32 := Scalar.muli v1748 c256_i32_786
  let c16_i32_789 : BitVec 32 := 16#32
  let v1761 : BitVec 32 := Scalar.addi v1749 c16_i32_789
  v1761
def k0_off88 (k0_t7 : Fin k0_t7_loop.trips) : Fin 1 → Nat :=
  let c0_i32_785 : BitVec 32 := 0#32
  let c0_i32_682 : BitVec 32 := 0#32
  let c1_i32_684 : BitVec 32 := 1#32
  let arg22 : BitVec 32 := Scf.iv c0_i32_682 c1_i32_684 k0_t7
  let c1_i32_784 : BitVec 32 := 1#32
  let v1747 : BitVec 32 := Scalar.muli arg22 c1_i32_784
  let v1748 : BitVec 32 := Scalar.addi c0_i32_785 v1747
  let c256_i32_786 : BitVec 32 := 256#32
  let v1749 : BitVec 32 := Scalar.muli v1748 c256_i32_786
  let c16_i32_789 : BitVec 32 := 16#32
  let v1761 : BitVec 32 := Scalar.addi v1749 c16_i32_789
  let v1762 : BitVec 32 := v1761
  let v1763 : Index := Scalar.indexCast v1762
  ![v1763.toNat]

def k0_chk83 (v1765 : IVec S16 32) : Prop :=
  (∀ a x, ((![v1765] : Fin 1 → IVec S16 32) a x).toNat < S16128.size a)
theorem k0_idx83_inb : ∀ (v1765 : IVec S16 32) (k0_hw83 : k0_chk83 v1765), ∀ a x, ((![v1765] : Fin 1 → IVec S16 32) a x).toNat < S16128.size a := fun v1765 k0_hw83 => k0_hw83
def k0_mult105 (k0_t7 : Fin k0_t7_loop.trips) : BitVec 32 :=
  let c0_i32_785 : BitVec 32 := 0#32
  let c0_i32_682 : BitVec 32 := 0#32
  let c1_i32_684 : BitVec 32 := 1#32
  let arg22 : BitVec 32 := Scf.iv c0_i32_682 c1_i32_684 k0_t7
  let c1_i32_784 : BitVec 32 := 1#32
  let v1747 : BitVec 32 := Scalar.muli arg22 c1_i32_784
  let v1748 : BitVec 32 := Scalar.addi c0_i32_785 v1747
  let c256_i32_786 : BitVec 32 := 256#32
  let v1749 : BitVec 32 := Scalar.muli v1748 c256_i32_786
  let c32_i32_790 : BitVec 32 := 32#32
  let v1767 : BitVec 32 := Scalar.addi v1749 c32_i32_790
  v1767
def k0_off89 (k0_t7 : Fin k0_t7_loop.trips) : Fin 1 → Nat :=
  let c0_i32_785 : BitVec 32 := 0#32
  let c0_i32_682 : BitVec 32 := 0#32
  let c1_i32_684 : BitVec 32 := 1#32
  let arg22 : BitVec 32 := Scf.iv c0_i32_682 c1_i32_684 k0_t7
  let c1_i32_784 : BitVec 32 := 1#32
  let v1747 : BitVec 32 := Scalar.muli arg22 c1_i32_784
  let v1748 : BitVec 32 := Scalar.addi c0_i32_785 v1747
  let c256_i32_786 : BitVec 32 := 256#32
  let v1749 : BitVec 32 := Scalar.muli v1748 c256_i32_786
  let c32_i32_790 : BitVec 32 := 32#32
  let v1767 : BitVec 32 := Scalar.addi v1749 c32_i32_790
  let v1768 : BitVec 32 := v1767
  let v1769 : Index := Scalar.indexCast v1768
  ![v1769.toNat]

def k0_chk84 (v1771 : IVec S16 32) : Prop :=
  (∀ a x, ((![v1771] : Fin 1 → IVec S16 32) a x).toNat < S16128.size a)
theorem k0_idx84_inb : ∀ (v1771 : IVec S16 32) (k0_hw84 : k0_chk84 v1771), ∀ a x, ((![v1771] : Fin 1 → IVec S16 32) a x).toNat < S16128.size a := fun v1771 k0_hw84 => k0_hw84
def k0_mult106 (k0_t7 : Fin k0_t7_loop.trips) : BitVec 32 :=
  let c0_i32_785 : BitVec 32 := 0#32
  let c0_i32_682 : BitVec 32 := 0#32
  let c1_i32_684 : BitVec 32 := 1#32
  let arg22 : BitVec 32 := Scf.iv c0_i32_682 c1_i32_684 k0_t7
  let c1_i32_784 : BitVec 32 := 1#32
  let v1747 : BitVec 32 := Scalar.muli arg22 c1_i32_784
  let v1748 : BitVec 32 := Scalar.addi c0_i32_785 v1747
  let c256_i32_786 : BitVec 32 := 256#32
  let v1749 : BitVec 32 := Scalar.muli v1748 c256_i32_786
  let c48_i32_791 : BitVec 32 := 48#32
  let v1773 : BitVec 32 := Scalar.addi v1749 c48_i32_791
  v1773
def k0_off90 (k0_t7 : Fin k0_t7_loop.trips) : Fin 1 → Nat :=
  let c0_i32_785 : BitVec 32 := 0#32
  let c0_i32_682 : BitVec 32 := 0#32
  let c1_i32_684 : BitVec 32 := 1#32
  let arg22 : BitVec 32 := Scf.iv c0_i32_682 c1_i32_684 k0_t7
  let c1_i32_784 : BitVec 32 := 1#32
  let v1747 : BitVec 32 := Scalar.muli arg22 c1_i32_784
  let v1748 : BitVec 32 := Scalar.addi c0_i32_785 v1747
  let c256_i32_786 : BitVec 32 := 256#32
  let v1749 : BitVec 32 := Scalar.muli v1748 c256_i32_786
  let c48_i32_791 : BitVec 32 := 48#32
  let v1773 : BitVec 32 := Scalar.addi v1749 c48_i32_791
  let v1774 : BitVec 32 := v1773
  let v1775 : Index := Scalar.indexCast v1774
  ![v1775.toNat]

def k0_chk85 (v1777 : IVec S16 32) : Prop :=
  (∀ a x, ((![v1777] : Fin 1 → IVec S16 32) a x).toNat < S16128.size a)
theorem k0_idx85_inb : ∀ (v1777 : IVec S16 32) (k0_hw85 : k0_chk85 v1777), ∀ a x, ((![v1777] : Fin 1 → IVec S16 32) a x).toNat < S16128.size a := fun v1777 k0_hw85 => k0_hw85
def k0_mult107 (k0_t7 : Fin k0_t7_loop.trips) : BitVec 32 :=
  let c0_i32_785 : BitVec 32 := 0#32
  let c0_i32_682 : BitVec 32 := 0#32
  let c1_i32_684 : BitVec 32 := 1#32
  let arg22 : BitVec 32 := Scf.iv c0_i32_682 c1_i32_684 k0_t7
  let c1_i32_784 : BitVec 32 := 1#32
  let v1747 : BitVec 32 := Scalar.muli arg22 c1_i32_784
  let v1748 : BitVec 32 := Scalar.addi c0_i32_785 v1747
  let c256_i32_786 : BitVec 32 := 256#32
  let v1749 : BitVec 32 := Scalar.muli v1748 c256_i32_786
  let c64_i32_792 : BitVec 32 := 64#32
  let v1779 : BitVec 32 := Scalar.addi v1749 c64_i32_792
  v1779
def k0_off91 (k0_t7 : Fin k0_t7_loop.trips) : Fin 1 → Nat :=
  let c0_i32_785 : BitVec 32 := 0#32
  let c0_i32_682 : BitVec 32 := 0#32
  let c1_i32_684 : BitVec 32 := 1#32
  let arg22 : BitVec 32 := Scf.iv c0_i32_682 c1_i32_684 k0_t7
  let c1_i32_784 : BitVec 32 := 1#32
  let v1747 : BitVec 32 := Scalar.muli arg22 c1_i32_784
  let v1748 : BitVec 32 := Scalar.addi c0_i32_785 v1747
  let c256_i32_786 : BitVec 32 := 256#32
  let v1749 : BitVec 32 := Scalar.muli v1748 c256_i32_786
  let c64_i32_792 : BitVec 32 := 64#32
  let v1779 : BitVec 32 := Scalar.addi v1749 c64_i32_792
  let v1780 : BitVec 32 := v1779
  let v1781 : Index := Scalar.indexCast v1780
  ![v1781.toNat]

def k0_chk86 (v1783 : IVec S16 32) : Prop :=
  (∀ a x, ((![v1783] : Fin 1 → IVec S16 32) a x).toNat < S16128.size a)
theorem k0_idx86_inb : ∀ (v1783 : IVec S16 32) (k0_hw86 : k0_chk86 v1783), ∀ a x, ((![v1783] : Fin 1 → IVec S16 32) a x).toNat < S16128.size a := fun v1783 k0_hw86 => k0_hw86
def k0_mult108 (k0_t7 : Fin k0_t7_loop.trips) : BitVec 32 :=
  let c0_i32_785 : BitVec 32 := 0#32
  let c0_i32_682 : BitVec 32 := 0#32
  let c1_i32_684 : BitVec 32 := 1#32
  let arg22 : BitVec 32 := Scf.iv c0_i32_682 c1_i32_684 k0_t7
  let c1_i32_784 : BitVec 32 := 1#32
  let v1747 : BitVec 32 := Scalar.muli arg22 c1_i32_784
  let v1748 : BitVec 32 := Scalar.addi c0_i32_785 v1747
  let c256_i32_786 : BitVec 32 := 256#32
  let v1749 : BitVec 32 := Scalar.muli v1748 c256_i32_786
  let c80_i32_793 : BitVec 32 := 80#32
  let v1785 : BitVec 32 := Scalar.addi v1749 c80_i32_793
  v1785
def k0_off92 (k0_t7 : Fin k0_t7_loop.trips) : Fin 1 → Nat :=
  let c0_i32_785 : BitVec 32 := 0#32
  let c0_i32_682 : BitVec 32 := 0#32
  let c1_i32_684 : BitVec 32 := 1#32
  let arg22 : BitVec 32 := Scf.iv c0_i32_682 c1_i32_684 k0_t7
  let c1_i32_784 : BitVec 32 := 1#32
  let v1747 : BitVec 32 := Scalar.muli arg22 c1_i32_784
  let v1748 : BitVec 32 := Scalar.addi c0_i32_785 v1747
  let c256_i32_786 : BitVec 32 := 256#32
  let v1749 : BitVec 32 := Scalar.muli v1748 c256_i32_786
  let c80_i32_793 : BitVec 32 := 80#32
  let v1785 : BitVec 32 := Scalar.addi v1749 c80_i32_793
  let v1786 : BitVec 32 := v1785
  let v1787 : Index := Scalar.indexCast v1786
  ![v1787.toNat]

def k0_chk87 (v1789 : IVec S16 32) : Prop :=
  (∀ a x, ((![v1789] : Fin 1 → IVec S16 32) a x).toNat < S16128.size a)
theorem k0_idx87_inb : ∀ (v1789 : IVec S16 32) (k0_hw87 : k0_chk87 v1789), ∀ a x, ((![v1789] : Fin 1 → IVec S16 32) a x).toNat < S16128.size a := fun v1789 k0_hw87 => k0_hw87
def k0_mult109 (k0_t7 : Fin k0_t7_loop.trips) : BitVec 32 :=
  let c0_i32_785 : BitVec 32 := 0#32
  let c0_i32_682 : BitVec 32 := 0#32
  let c1_i32_684 : BitVec 32 := 1#32
  let arg22 : BitVec 32 := Scf.iv c0_i32_682 c1_i32_684 k0_t7
  let c1_i32_784 : BitVec 32 := 1#32
  let v1747 : BitVec 32 := Scalar.muli arg22 c1_i32_784
  let v1748 : BitVec 32 := Scalar.addi c0_i32_785 v1747
  let c256_i32_786 : BitVec 32 := 256#32
  let v1749 : BitVec 32 := Scalar.muli v1748 c256_i32_786
  let c96_i32_794 : BitVec 32 := 96#32
  let v1791 : BitVec 32 := Scalar.addi v1749 c96_i32_794
  v1791
def k0_off93 (k0_t7 : Fin k0_t7_loop.trips) : Fin 1 → Nat :=
  let c0_i32_785 : BitVec 32 := 0#32
  let c0_i32_682 : BitVec 32 := 0#32
  let c1_i32_684 : BitVec 32 := 1#32
  let arg22 : BitVec 32 := Scf.iv c0_i32_682 c1_i32_684 k0_t7
  let c1_i32_784 : BitVec 32 := 1#32
  let v1747 : BitVec 32 := Scalar.muli arg22 c1_i32_784
  let v1748 : BitVec 32 := Scalar.addi c0_i32_785 v1747
  let c256_i32_786 : BitVec 32 := 256#32
  let v1749 : BitVec 32 := Scalar.muli v1748 c256_i32_786
  let c96_i32_794 : BitVec 32 := 96#32
  let v1791 : BitVec 32 := Scalar.addi v1749 c96_i32_794
  let v1792 : BitVec 32 := v1791
  let v1793 : Index := Scalar.indexCast v1792
  ![v1793.toNat]

def k0_chk88 (v1795 : IVec S16 32) : Prop :=
  (∀ a x, ((![v1795] : Fin 1 → IVec S16 32) a x).toNat < S16128.size a)
theorem k0_idx88_inb : ∀ (v1795 : IVec S16 32) (k0_hw88 : k0_chk88 v1795), ∀ a x, ((![v1795] : Fin 1 → IVec S16 32) a x).toNat < S16128.size a := fun v1795 k0_hw88 => k0_hw88
def k0_mult110 (k0_t7 : Fin k0_t7_loop.trips) : BitVec 32 :=
  let c0_i32_785 : BitVec 32 := 0#32
  let c0_i32_682 : BitVec 32 := 0#32
  let c1_i32_684 : BitVec 32 := 1#32
  let arg22 : BitVec 32 := Scf.iv c0_i32_682 c1_i32_684 k0_t7
  let c1_i32_784 : BitVec 32 := 1#32
  let v1747 : BitVec 32 := Scalar.muli arg22 c1_i32_784
  let v1748 : BitVec 32 := Scalar.addi c0_i32_785 v1747
  let c256_i32_786 : BitVec 32 := 256#32
  let v1749 : BitVec 32 := Scalar.muli v1748 c256_i32_786
  let c112_i32_795 : BitVec 32 := 112#32
  let v1797 : BitVec 32 := Scalar.addi v1749 c112_i32_795
  v1797
def k0_off94 (k0_t7 : Fin k0_t7_loop.trips) : Fin 1 → Nat :=
  let c0_i32_785 : BitVec 32 := 0#32
  let c0_i32_682 : BitVec 32 := 0#32
  let c1_i32_684 : BitVec 32 := 1#32
  let arg22 : BitVec 32 := Scf.iv c0_i32_682 c1_i32_684 k0_t7
  let c1_i32_784 : BitVec 32 := 1#32
  let v1747 : BitVec 32 := Scalar.muli arg22 c1_i32_784
  let v1748 : BitVec 32 := Scalar.addi c0_i32_785 v1747
  let c256_i32_786 : BitVec 32 := 256#32
  let v1749 : BitVec 32 := Scalar.muli v1748 c256_i32_786
  let c112_i32_795 : BitVec 32 := 112#32
  let v1797 : BitVec 32 := Scalar.addi v1749 c112_i32_795
  let v1798 : BitVec 32 := v1797
  let v1799 : Index := Scalar.indexCast v1798
  ![v1799.toNat]

def k0_chk89 (v1801 : IVec S16 32) : Prop :=
  (∀ a x, ((![v1801] : Fin 1 → IVec S16 32) a x).toNat < S16128.size a)
theorem k0_idx89_inb : ∀ (v1801 : IVec S16 32) (k0_hw89 : k0_chk89 v1801), ∀ a x, ((![v1801] : Fin 1 → IVec S16 32) a x).toNat < S16128.size a := fun v1801 k0_hw89 => k0_hw89
def k0_mult111 (k0_t7 : Fin k0_t7_loop.trips) : BitVec 32 :=
  let c0_i32_785 : BitVec 32 := 0#32
  let c0_i32_682 : BitVec 32 := 0#32
  let c1_i32_684 : BitVec 32 := 1#32
  let arg22 : BitVec 32 := Scf.iv c0_i32_682 c1_i32_684 k0_t7
  let c1_i32_784 : BitVec 32 := 1#32
  let v1747 : BitVec 32 := Scalar.muli arg22 c1_i32_784
  let v1748 : BitVec 32 := Scalar.addi c0_i32_785 v1747
  let c256_i32_786 : BitVec 32 := 256#32
  let v1749 : BitVec 32 := Scalar.muli v1748 c256_i32_786
  let c128_i32_796 : BitVec 32 := 128#32
  let v1803 : BitVec 32 := Scalar.addi v1749 c128_i32_796
  v1803
def k0_off95 (k0_t7 : Fin k0_t7_loop.trips) : Fin 1 → Nat :=
  let c0_i32_785 : BitVec 32 := 0#32
  let c0_i32_682 : BitVec 32 := 0#32
  let c1_i32_684 : BitVec 32 := 1#32
  let arg22 : BitVec 32 := Scf.iv c0_i32_682 c1_i32_684 k0_t7
  let c1_i32_784 : BitVec 32 := 1#32
  let v1747 : BitVec 32 := Scalar.muli arg22 c1_i32_784
  let v1748 : BitVec 32 := Scalar.addi c0_i32_785 v1747
  let c256_i32_786 : BitVec 32 := 256#32
  let v1749 : BitVec 32 := Scalar.muli v1748 c256_i32_786
  let c128_i32_796 : BitVec 32 := 128#32
  let v1803 : BitVec 32 := Scalar.addi v1749 c128_i32_796
  let v1804 : BitVec 32 := v1803
  let v1805 : Index := Scalar.indexCast v1804
  ![v1805.toNat]

def k0_chk90 (v1807 : IVec S16 32) : Prop :=
  (∀ a x, ((![v1807] : Fin 1 → IVec S16 32) a x).toNat < S16128.size a)
theorem k0_idx90_inb : ∀ (v1807 : IVec S16 32) (k0_hw90 : k0_chk90 v1807), ∀ a x, ((![v1807] : Fin 1 → IVec S16 32) a x).toNat < S16128.size a := fun v1807 k0_hw90 => k0_hw90
def k0_mult112 (k0_t7 : Fin k0_t7_loop.trips) : BitVec 32 :=
  let c0_i32_785 : BitVec 32 := 0#32
  let c0_i32_682 : BitVec 32 := 0#32
  let c1_i32_684 : BitVec 32 := 1#32
  let arg22 : BitVec 32 := Scf.iv c0_i32_682 c1_i32_684 k0_t7
  let c1_i32_784 : BitVec 32 := 1#32
  let v1747 : BitVec 32 := Scalar.muli arg22 c1_i32_784
  let v1748 : BitVec 32 := Scalar.addi c0_i32_785 v1747
  let c256_i32_786 : BitVec 32 := 256#32
  let v1749 : BitVec 32 := Scalar.muli v1748 c256_i32_786
  let c144_i32 : BitVec 32 := 144#32
  let v1809 : BitVec 32 := Scalar.addi v1749 c144_i32
  v1809
def k0_off96 (k0_t7 : Fin k0_t7_loop.trips) : Fin 1 → Nat :=
  let c0_i32_785 : BitVec 32 := 0#32
  let c0_i32_682 : BitVec 32 := 0#32
  let c1_i32_684 : BitVec 32 := 1#32
  let arg22 : BitVec 32 := Scf.iv c0_i32_682 c1_i32_684 k0_t7
  let c1_i32_784 : BitVec 32 := 1#32
  let v1747 : BitVec 32 := Scalar.muli arg22 c1_i32_784
  let v1748 : BitVec 32 := Scalar.addi c0_i32_785 v1747
  let c256_i32_786 : BitVec 32 := 256#32
  let v1749 : BitVec 32 := Scalar.muli v1748 c256_i32_786
  let c144_i32 : BitVec 32 := 144#32
  let v1809 : BitVec 32 := Scalar.addi v1749 c144_i32
  let v1810 : BitVec 32 := v1809
  let v1811 : Index := Scalar.indexCast v1810
  ![v1811.toNat]

def k0_chk91 (v1813 : IVec S16 32) : Prop :=
  (∀ a x, ((![v1813] : Fin 1 → IVec S16 32) a x).toNat < S16128.size a)
theorem k0_idx91_inb : ∀ (v1813 : IVec S16 32) (k0_hw91 : k0_chk91 v1813), ∀ a x, ((![v1813] : Fin 1 → IVec S16 32) a x).toNat < S16128.size a := fun v1813 k0_hw91 => k0_hw91
def k0_mult113 (k0_t7 : Fin k0_t7_loop.trips) : BitVec 32 :=
  let c0_i32_785 : BitVec 32 := 0#32
  let c0_i32_682 : BitVec 32 := 0#32
  let c1_i32_684 : BitVec 32 := 1#32
  let arg22 : BitVec 32 := Scf.iv c0_i32_682 c1_i32_684 k0_t7
  let c1_i32_784 : BitVec 32 := 1#32
  let v1747 : BitVec 32 := Scalar.muli arg22 c1_i32_784
  let v1748 : BitVec 32 := Scalar.addi c0_i32_785 v1747
  let c256_i32_786 : BitVec 32 := 256#32
  let v1749 : BitVec 32 := Scalar.muli v1748 c256_i32_786
  let c160_i32 : BitVec 32 := 160#32
  let v1815 : BitVec 32 := Scalar.addi v1749 c160_i32
  v1815
def k0_off97 (k0_t7 : Fin k0_t7_loop.trips) : Fin 1 → Nat :=
  let c0_i32_785 : BitVec 32 := 0#32
  let c0_i32_682 : BitVec 32 := 0#32
  let c1_i32_684 : BitVec 32 := 1#32
  let arg22 : BitVec 32 := Scf.iv c0_i32_682 c1_i32_684 k0_t7
  let c1_i32_784 : BitVec 32 := 1#32
  let v1747 : BitVec 32 := Scalar.muli arg22 c1_i32_784
  let v1748 : BitVec 32 := Scalar.addi c0_i32_785 v1747
  let c256_i32_786 : BitVec 32 := 256#32
  let v1749 : BitVec 32 := Scalar.muli v1748 c256_i32_786
  let c160_i32 : BitVec 32 := 160#32
  let v1815 : BitVec 32 := Scalar.addi v1749 c160_i32
  let v1816 : BitVec 32 := v1815
  let v1817 : Index := Scalar.indexCast v1816
  ![v1817.toNat]

def k0_chk92 (v1819 : IVec S16 32) : Prop :=
  (∀ a x, ((![v1819] : Fin 1 → IVec S16 32) a x).toNat < S16128.size a)
theorem k0_idx92_inb : ∀ (v1819 : IVec S16 32) (k0_hw92 : k0_chk92 v1819), ∀ a x, ((![v1819] : Fin 1 → IVec S16 32) a x).toNat < S16128.size a := fun v1819 k0_hw92 => k0_hw92
def k0_mult114 (k0_t7 : Fin k0_t7_loop.trips) : BitVec 32 :=
  let c0_i32_785 : BitVec 32 := 0#32
  let c0_i32_682 : BitVec 32 := 0#32
  let c1_i32_684 : BitVec 32 := 1#32
  let arg22 : BitVec 32 := Scf.iv c0_i32_682 c1_i32_684 k0_t7
  let c1_i32_784 : BitVec 32 := 1#32
  let v1747 : BitVec 32 := Scalar.muli arg22 c1_i32_784
  let v1748 : BitVec 32 := Scalar.addi c0_i32_785 v1747
  let c256_i32_786 : BitVec 32 := 256#32
  let v1749 : BitVec 32 := Scalar.muli v1748 c256_i32_786
  let c176_i32 : BitVec 32 := 176#32
  let v1821 : BitVec 32 := Scalar.addi v1749 c176_i32
  v1821
def k0_off98 (k0_t7 : Fin k0_t7_loop.trips) : Fin 1 → Nat :=
  let c0_i32_785 : BitVec 32 := 0#32
  let c0_i32_682 : BitVec 32 := 0#32
  let c1_i32_684 : BitVec 32 := 1#32
  let arg22 : BitVec 32 := Scf.iv c0_i32_682 c1_i32_684 k0_t7
  let c1_i32_784 : BitVec 32 := 1#32
  let v1747 : BitVec 32 := Scalar.muli arg22 c1_i32_784
  let v1748 : BitVec 32 := Scalar.addi c0_i32_785 v1747
  let c256_i32_786 : BitVec 32 := 256#32
  let v1749 : BitVec 32 := Scalar.muli v1748 c256_i32_786
  let c176_i32 : BitVec 32 := 176#32
  let v1821 : BitVec 32 := Scalar.addi v1749 c176_i32
  let v1822 : BitVec 32 := v1821
  let v1823 : Index := Scalar.indexCast v1822
  ![v1823.toNat]

def k0_chk93 (v1825 : IVec S16 32) : Prop :=
  (∀ a x, ((![v1825] : Fin 1 → IVec S16 32) a x).toNat < S16128.size a)
theorem k0_idx93_inb : ∀ (v1825 : IVec S16 32) (k0_hw93 : k0_chk93 v1825), ∀ a x, ((![v1825] : Fin 1 → IVec S16 32) a x).toNat < S16128.size a := fun v1825 k0_hw93 => k0_hw93
def k0_mult115 (k0_t7 : Fin k0_t7_loop.trips) : BitVec 32 :=
  let c0_i32_785 : BitVec 32 := 0#32
  let c0_i32_682 : BitVec 32 := 0#32
  let c1_i32_684 : BitVec 32 := 1#32
  let arg22 : BitVec 32 := Scf.iv c0_i32_682 c1_i32_684 k0_t7
  let c1_i32_784 : BitVec 32 := 1#32
  let v1747 : BitVec 32 := Scalar.muli arg22 c1_i32_784
  let v1748 : BitVec 32 := Scalar.addi c0_i32_785 v1747
  let c256_i32_786 : BitVec 32 := 256#32
  let v1749 : BitVec 32 := Scalar.muli v1748 c256_i32_786
  let c192_i32 : BitVec 32 := 192#32
  let v1827 : BitVec 32 := Scalar.addi v1749 c192_i32
  v1827
def k0_off99 (k0_t7 : Fin k0_t7_loop.trips) : Fin 1 → Nat :=
  let c0_i32_785 : BitVec 32 := 0#32
  let c0_i32_682 : BitVec 32 := 0#32
  let c1_i32_684 : BitVec 32 := 1#32
  let arg22 : BitVec 32 := Scf.iv c0_i32_682 c1_i32_684 k0_t7
  let c1_i32_784 : BitVec 32 := 1#32
  let v1747 : BitVec 32 := Scalar.muli arg22 c1_i32_784
  let v1748 : BitVec 32 := Scalar.addi c0_i32_785 v1747
  let c256_i32_786 : BitVec 32 := 256#32
  let v1749 : BitVec 32 := Scalar.muli v1748 c256_i32_786
  let c192_i32 : BitVec 32 := 192#32
  let v1827 : BitVec 32 := Scalar.addi v1749 c192_i32
  let v1828 : BitVec 32 := v1827
  let v1829 : Index := Scalar.indexCast v1828
  ![v1829.toNat]

def k0_chk94 (v1831 : IVec S16 32) : Prop :=
  (∀ a x, ((![v1831] : Fin 1 → IVec S16 32) a x).toNat < S16128.size a)
theorem k0_idx94_inb : ∀ (v1831 : IVec S16 32) (k0_hw94 : k0_chk94 v1831), ∀ a x, ((![v1831] : Fin 1 → IVec S16 32) a x).toNat < S16128.size a := fun v1831 k0_hw94 => k0_hw94
def k0_mult116 (k0_t7 : Fin k0_t7_loop.trips) : BitVec 32 :=
  let c0_i32_785 : BitVec 32 := 0#32
  let c0_i32_682 : BitVec 32 := 0#32
  let c1_i32_684 : BitVec 32 := 1#32
  let arg22 : BitVec 32 := Scf.iv c0_i32_682 c1_i32_684 k0_t7
  let c1_i32_784 : BitVec 32 := 1#32
  let v1747 : BitVec 32 := Scalar.muli arg22 c1_i32_784
  let v1748 : BitVec 32 := Scalar.addi c0_i32_785 v1747
  let c256_i32_786 : BitVec 32 := 256#32
  let v1749 : BitVec 32 := Scalar.muli v1748 c256_i32_786
  let c208_i32 : BitVec 32 := 208#32
  let v1833 : BitVec 32 := Scalar.addi v1749 c208_i32
  v1833
def k0_off100 (k0_t7 : Fin k0_t7_loop.trips) : Fin 1 → Nat :=
  let c0_i32_785 : BitVec 32 := 0#32
  let c0_i32_682 : BitVec 32 := 0#32
  let c1_i32_684 : BitVec 32 := 1#32
  let arg22 : BitVec 32 := Scf.iv c0_i32_682 c1_i32_684 k0_t7
  let c1_i32_784 : BitVec 32 := 1#32
  let v1747 : BitVec 32 := Scalar.muli arg22 c1_i32_784
  let v1748 : BitVec 32 := Scalar.addi c0_i32_785 v1747
  let c256_i32_786 : BitVec 32 := 256#32
  let v1749 : BitVec 32 := Scalar.muli v1748 c256_i32_786
  let c208_i32 : BitVec 32 := 208#32
  let v1833 : BitVec 32 := Scalar.addi v1749 c208_i32
  let v1834 : BitVec 32 := v1833
  let v1835 : Index := Scalar.indexCast v1834
  ![v1835.toNat]

def k0_chk95 (v1837 : IVec S16 32) : Prop :=
  (∀ a x, ((![v1837] : Fin 1 → IVec S16 32) a x).toNat < S16128.size a)
theorem k0_idx95_inb : ∀ (v1837 : IVec S16 32) (k0_hw95 : k0_chk95 v1837), ∀ a x, ((![v1837] : Fin 1 → IVec S16 32) a x).toNat < S16128.size a := fun v1837 k0_hw95 => k0_hw95
def k0_mult117 (k0_t7 : Fin k0_t7_loop.trips) : BitVec 32 :=
  let c0_i32_785 : BitVec 32 := 0#32
  let c0_i32_682 : BitVec 32 := 0#32
  let c1_i32_684 : BitVec 32 := 1#32
  let arg22 : BitVec 32 := Scf.iv c0_i32_682 c1_i32_684 k0_t7
  let c1_i32_784 : BitVec 32 := 1#32
  let v1747 : BitVec 32 := Scalar.muli arg22 c1_i32_784
  let v1748 : BitVec 32 := Scalar.addi c0_i32_785 v1747
  let c256_i32_786 : BitVec 32 := 256#32
  let v1749 : BitVec 32 := Scalar.muli v1748 c256_i32_786
  let c224_i32 : BitVec 32 := 224#32
  let v1839 : BitVec 32 := Scalar.addi v1749 c224_i32
  v1839
def k0_off101 (k0_t7 : Fin k0_t7_loop.trips) : Fin 1 → Nat :=
  let c0_i32_785 : BitVec 32 := 0#32
  let c0_i32_682 : BitVec 32 := 0#32
  let c1_i32_684 : BitVec 32 := 1#32
  let arg22 : BitVec 32 := Scf.iv c0_i32_682 c1_i32_684 k0_t7
  let c1_i32_784 : BitVec 32 := 1#32
  let v1747 : BitVec 32 := Scalar.muli arg22 c1_i32_784
  let v1748 : BitVec 32 := Scalar.addi c0_i32_785 v1747
  let c256_i32_786 : BitVec 32 := 256#32
  let v1749 : BitVec 32 := Scalar.muli v1748 c256_i32_786
  let c224_i32 : BitVec 32 := 224#32
  let v1839 : BitVec 32 := Scalar.addi v1749 c224_i32
  let v1840 : BitVec 32 := v1839
  let v1841 : Index := Scalar.indexCast v1840
  ![v1841.toNat]

def k0_chk96 (v1843 : IVec S16 32) : Prop :=
  (∀ a x, ((![v1843] : Fin 1 → IVec S16 32) a x).toNat < S16128.size a)
theorem k0_idx96_inb : ∀ (v1843 : IVec S16 32) (k0_hw96 : k0_chk96 v1843), ∀ a x, ((![v1843] : Fin 1 → IVec S16 32) a x).toNat < S16128.size a := fun v1843 k0_hw96 => k0_hw96
def k0_mult118 (k0_t7 : Fin k0_t7_loop.trips) : BitVec 32 :=
  let c0_i32_785 : BitVec 32 := 0#32
  let c0_i32_682 : BitVec 32 := 0#32
  let c1_i32_684 : BitVec 32 := 1#32
  let arg22 : BitVec 32 := Scf.iv c0_i32_682 c1_i32_684 k0_t7
  let c1_i32_784 : BitVec 32 := 1#32
  let v1747 : BitVec 32 := Scalar.muli arg22 c1_i32_784
  let v1748 : BitVec 32 := Scalar.addi c0_i32_785 v1747
  let c256_i32_786 : BitVec 32 := 256#32
  let v1749 : BitVec 32 := Scalar.muli v1748 c256_i32_786
  let c240_i32 : BitVec 32 := 240#32
  let v1845 : BitVec 32 := Scalar.addi v1749 c240_i32
  v1845
def k0_off102 (k0_t7 : Fin k0_t7_loop.trips) : Fin 1 → Nat :=
  let c0_i32_785 : BitVec 32 := 0#32
  let c0_i32_682 : BitVec 32 := 0#32
  let c1_i32_684 : BitVec 32 := 1#32
  let arg22 : BitVec 32 := Scf.iv c0_i32_682 c1_i32_684 k0_t7
  let c1_i32_784 : BitVec 32 := 1#32
  let v1747 : BitVec 32 := Scalar.muli arg22 c1_i32_784
  let v1748 : BitVec 32 := Scalar.addi c0_i32_785 v1747
  let c256_i32_786 : BitVec 32 := 256#32
  let v1749 : BitVec 32 := Scalar.muli v1748 c256_i32_786
  let c240_i32 : BitVec 32 := 240#32
  let v1845 : BitVec 32 := Scalar.addi v1749 c240_i32
  let v1846 : BitVec 32 := v1845
  let v1847 : Index := Scalar.indexCast v1846
  ![v1847.toNat]
def k0_mult119 (i : grid0.Coords) (k0_t5 : Fin k0_t5_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_1 : BitVec 32 := 2#32
  let v4 : BitVec 32 := Scalar.muli v1 c2_i32_1
  let c1_i32 : BitVec 32 := 1#32
  let v5 : BitVec 32 := Scalar.addi v4 c1_i32
  let c1984_i32_137 : BitVec 32 := 1984#32
  let v268 : BitVec 32 := Scalar.muli v5 c1984_i32_137
  let c256_i32_138 : BitVec 32 := 256#32
  let v269 : BitVec 32 := Scalar.muli v268 c256_i32_138
  let c1_i32_455 : BitVec 32 := 1#32
  let c1_i32_457 : BitVec 32 := 1#32
  let arg20 : BitVec 32 := Scf.iv c1_i32_455 c1_i32_457 k0_t5
  let c4_i32_663 : BitVec 32 := 4#32
  let v1468 : BitVec 32 := Scalar.muli arg20 c4_i32_663
  let c1_i32_664 : BitVec 32 := 1#32
  let v1469 : BitVec 32 := Scalar.addi v1468 c1_i32_664
  let c0_i32_687 : BitVec 32 := 0#32
  let v1517 : BitVec 1 := Scalar.cmpi .sgt v1469 c0_i32_687
  let v1518 : BitVec 32 := Scalar.extui v1517
  let c0_i32_688 : BitVec 32 := 0#32
  let v1519 : BitVec 1 := Scalar.cmpi .slt v1469 c0_i32_688
  let v1520 : BitVec 32 := Scalar.extui v1519
  let v1521 : BitVec 32 := Scalar.subi v1518 v1520
  let c2_i32_686 : BitVec 32 := 2#32
  let c0_i32_689 : BitVec 32 := 0#32
  let v1522 : BitVec 1 := Scalar.cmpi .sgt c2_i32_686 c0_i32_689
  let v1523 : BitVec 32 := Scalar.extui v1522
  let c0_i32_690 : BitVec 32 := 0#32
  let v1524 : BitVec 1 := Scalar.cmpi .slt c2_i32_686 c0_i32_690
  let v1525 : BitVec 32 := Scalar.extui v1524
  let v1526 : BitVec 32 := Scalar.subi v1523 v1525
  let v1527 : BitVec 1 := Scalar.cmpi .ne v1521 v1526
  let v1528 : BitVec 32 := Scalar.remsi v1469 c2_i32_686
  let c0_i32_691 : BitVec 32 := 0#32
  let v1529 : BitVec 1 := Scalar.cmpi .ne v1528 c0_i32_691
  let v1530 : BitVec 1 := Scalar.andi v1527 v1529
  let v1516 : BitVec 32 := Scalar.divsi v1469 c2_i32_686
  let c1_i32_692 : BitVec 32 := 1#32
  let v1531 : BitVec 32 := Scalar.subi v1516 c1_i32_692
  let v1532 : BitVec 32 := Scalar.select v1530 v1531 v1516
  let c15872_i32_693 : BitVec 32 := 15872#32
  let v1533 : BitVec 32 := Scalar.muli v1532 c15872_i32_693
  let v1534 : BitVec 32 := Scalar.addi v269 v1533
  v1534
def k0_mult120 (i : grid0.Coords) (k0_t5 : Fin k0_t5_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_1 : BitVec 32 := 2#32
  let v4 : BitVec 32 := Scalar.muli v1 c2_i32_1
  let c1_i32 : BitVec 32 := 1#32
  let v5 : BitVec 32 := Scalar.addi v4 c1_i32
  let c2048_i32_133 : BitVec 32 := 2048#32
  let v262 : BitVec 32 := Scalar.muli v5 c2048_i32_133
  let c63_i32_130 : BitVec 32 := 63#32
  let v256 : BitVec 1 := Scalar.cmpi .eq v5 c63_i32_130
  let c1763_i32_131 : BitVec 32 := 1763#32
  let c62_i32_128 : BitVec 32 := 62#32
  let v254 : BitVec 1 := Scalar.cmpi .eq v5 c62_i32_128
  let c1196_i32_129 : BitVec 32 := 1196#32
  let c61_i32_126 : BitVec 32 := 61#32
  let v252 : BitVec 1 := Scalar.cmpi .eq v5 c61_i32_126
  let c722_i32_127 : BitVec 32 := 722#32
  let c60_i32_124 : BitVec 32 := 60#32
  let v250 : BitVec 1 := Scalar.cmpi .eq v5 c60_i32_124
  let c3132_i32_125 : BitVec 32 := 3132#32
  let c59_i32_122 : BitVec 32 := 59#32
  let v248 : BitVec 1 := Scalar.cmpi .eq v5 c59_i32_122
  let c2263_i32_123 : BitVec 32 := 2263#32
  let c58_i32_120 : BitVec 32 := 58#32
  let v246 : BitVec 1 := Scalar.cmpi .eq v5 c58_i32_120
  let c7228_i32_121 : BitVec 32 := 7228#32
  let c57_i32_118 : BitVec 32 := 57#32
  let v244 : BitVec 1 := Scalar.cmpi .eq v5 c57_i32_118
  let c6147_i32_119 : BitVec 32 := 6147#32
  let c56_i32_116 : BitVec 32 := 56#32
  let v242 : BitVec 1 := Scalar.cmpi .eq v5 c56_i32_116
  let c5257_i32_117 : BitVec 32 := 5257#32
  let c55_i32_114 : BitVec 32 := 55#32
  let v240 : BitVec 1 := Scalar.cmpi .eq v5 c55_i32_114
  let c2687_i32_115 : BitVec 32 := 2687#32
  let c54_i32_112 : BitVec 32 := 54#32
  let v238 : BitVec 1 := Scalar.cmpi .eq v5 c54_i32_112
  let c3913_i32_113 : BitVec 32 := 3913#32
  let c53_i32_110 : BitVec 32 := 53#32
  let v236 : BitVec 1 := Scalar.cmpi .eq v5 c53_i32_110
  let c1765_i32_111 : BitVec 32 := 1765#32
  let c52_i32_108 : BitVec 32 := 52#32
  let v234 : BitVec 1 := Scalar.cmpi .eq v5 c52_i32_108
  let c572_i32_109 : BitVec 32 := 572#32
  let c51_i32_106 : BitVec 32 := 51#32
  let v232 : BitVec 1 := Scalar.cmpi .eq v5 c51_i32_106
  let c5479_i32_107 : BitVec 32 := 5479#32
  let c50_i32_104 : BitVec 32 := 50#32
  let v230 : BitVec 1 := Scalar.cmpi .eq v5 c50_i32_104
  let c7351_i32_105 : BitVec 32 := 7351#32
  let c49_i32_102 : BitVec 32 := 49#32
  let v228 : BitVec 1 := Scalar.cmpi .eq v5 c49_i32_102
  let c593_i32_103 : BitVec 32 := 593#32
  let c48_i32_100 : BitVec 32 := 48#32
  let v226 : BitVec 1 := Scalar.cmpi .eq v5 c48_i32_100
  let c7487_i32_101 : BitVec 32 := 7487#32
  let c47_i32_98 : BitVec 32 := 47#32
  let v224 : BitVec 1 := Scalar.cmpi .eq v5 c47_i32_98
  let c3618_i32_99 : BitVec 32 := 3618#32
  let c46_i32_96 : BitVec 32 := 46#32
  let v222 : BitVec 1 := Scalar.cmpi .eq v5 c46_i32_96
  let c6125_i32_97 : BitVec 32 := 6125#32
  let c45_i32_94 : BitVec 32 := 45#32
  let v220 : BitVec 1 := Scalar.cmpi .eq v5 c45_i32_94
  let c2834_i32_95 : BitVec 32 := 2834#32
  let c44_i32_92 : BitVec 32 := 44#32
  let v218 : BitVec 1 := Scalar.cmpi .eq v5 c44_i32_92
  let c4871_i32_93 : BitVec 32 := 4871#32
  let c43_i32_90 : BitVec 32 := 43#32
  let v216 : BitVec 1 := Scalar.cmpi .eq v5 c43_i32_90
  let c1936_i32_91 : BitVec 32 := 1936#32
  let c42_i32_88 : BitVec 32 := 42#32
  let v214 : BitVec 1 := Scalar.cmpi .eq v5 c42_i32_88
  let c2914_i32_89 : BitVec 32 := 2914#32
  let c41_i32_86 : BitVec 32 := 41#32
  let v212 : BitVec 1 := Scalar.cmpi .eq v5 c41_i32_86
  let c3866_i32_87 : BitVec 32 := 3866#32
  let c40_i32_84 : BitVec 32 := 40#32
  let v210 : BitVec 1 := Scalar.cmpi .eq v5 c40_i32_84
  let c1846_i32_85 : BitVec 32 := 1846#32
  let c39_i32_82 : BitVec 32 := 39#32
  let v208 : BitVec 1 := Scalar.cmpi .eq v5 c39_i32_82
  let c7714_i32_83 : BitVec 32 := 7714#32
  let c38_i32_80 : BitVec 32 := 38#32
  let v206 : BitVec 1 := Scalar.cmpi .eq v5 c38_i32_80
  let c3980_i32_81 : BitVec 32 := 3980#32
  let c37_i32_78 : BitVec 32 := 37#32
  let v204 : BitVec 1 := Scalar.cmpi .eq v5 c37_i32_78
  let c6570_i32_79 : BitVec 32 := 6570#32
  let c36_i32_76 : BitVec 32 := 36#32
  let v202 : BitVec 1 := Scalar.cmpi .eq v5 c36_i32_76
  let c2937_i32_77 : BitVec 32 := 2937#32
  let c35_i32_74 : BitVec 32 := 35#32
  let v200 : BitVec 1 := Scalar.cmpi .eq v5 c35_i32_74
  let c1105_i32_75 : BitVec 32 := 1105#32
  let c34_i32_72 : BitVec 32 := 34#32
  let v198 : BitVec 1 := Scalar.cmpi .eq v5 c34_i32_72
  let c5685_i32_73 : BitVec 32 := 5685#32
  let c33_i32_70 : BitVec 32 := 33#32
  let v196 : BitVec 1 := Scalar.cmpi .eq v5 c33_i32_70
  let c1851_i32_71 : BitVec 32 := 1851#32
  let c32_i32_68 : BitVec 32 := 32#32
  let v194 : BitVec 1 := Scalar.cmpi .eq v5 c32_i32_68
  let c2835_i32_69 : BitVec 32 := 2835#32
  let c31_i32_66 : BitVec 32 := 31#32
  let v192 : BitVec 1 := Scalar.cmpi .eq v5 c31_i32_66
  let c6151_i32_67 : BitVec 32 := 6151#32
  let c30_i32_64 : BitVec 32 := 30#32
  let v190 : BitVec 1 := Scalar.cmpi .eq v5 c30_i32_64
  let c2916_i32_65 : BitVec 32 := 2916#32
  let c29_i32_62 : BitVec 32 := 29#32
  let v188 : BitVec 1 := Scalar.cmpi .eq v5 c29_i32_62
  let c4806_i32_63 : BitVec 32 := 4806#32
  let c28_i32_60 : BitVec 32 := 28#32
  let v186 : BitVec 1 := Scalar.cmpi .eq v5 c28_i32_60
  let c2760_i32_61 : BitVec 32 := 2760#32
  let c27_i32_58 : BitVec 32 := 27#32
  let v184 : BitVec 1 := Scalar.cmpi .eq v5 c27_i32_58
  let c2339_i32_59 : BitVec 32 := 2339#32
  let c26_i32_56 : BitVec 32 := 26#32
  let v182 : BitVec 1 := Scalar.cmpi .eq v5 c26_i32_56
  let c5978_i32_57 : BitVec 32 := 5978#32
  let c25_i32_54 : BitVec 32 := 25#32
  let v180 : BitVec 1 := Scalar.cmpi .eq v5 c25_i32_54
  let c6943_i32_55 : BitVec 32 := 6943#32
  let c24_i32_52 : BitVec 32 := 24#32
  let v178 : BitVec 1 := Scalar.cmpi .eq v5 c24_i32_52
  let c7654_i32_53 : BitVec 32 := 7654#32
  let c23_i32_50 : BitVec 32 := 23#32
  let v176 : BitVec 1 := Scalar.cmpi .eq v5 c23_i32_50
  let c3018_i32_51 : BitVec 32 := 3018#32
  let c22_i32_48 : BitVec 32 := 22#32
  let v174 : BitVec 1 := Scalar.cmpi .eq v5 c22_i32_48
  let c56_i32_49 : BitVec 32 := 56#32
  let c21_i32_46 : BitVec 32 := 21#32
  let v172 : BitVec 1 := Scalar.cmpi .eq v5 c21_i32_46
  let c5652_i32_47 : BitVec 32 := 5652#32
  let c20_i32_44 : BitVec 32 := 20#32
  let v170 : BitVec 1 := Scalar.cmpi .eq v5 c20_i32_44
  let c6840_i32_45 : BitVec 32 := 6840#32
  let c19_i32_42 : BitVec 32 := 19#32
  let v168 : BitVec 1 := Scalar.cmpi .eq v5 c19_i32_42
  let c4026_i32_43 : BitVec 32 := 4026#32
  let c18_i32_40 : BitVec 32 := 18#32
  let v166 : BitVec 1 := Scalar.cmpi .eq v5 c18_i32_40
  let c91_i32_41 : BitVec 32 := 91#32
  let c17_i32_38 : BitVec 32 := 17#32
  let v164 : BitVec 1 := Scalar.cmpi .eq v5 c17_i32_38
  let c7767_i32_39 : BitVec 32 := 7767#32
  let c16_i32_36 : BitVec 32 := 16#32
  let v162 : BitVec 1 := Scalar.cmpi .eq v5 c16_i32_36
  let c4241_i32_37 : BitVec 32 := 4241#32
  let c15_i32_34 : BitVec 32 := 15#32
  let v160 : BitVec 1 := Scalar.cmpi .eq v5 c15_i32_34
  let c6170_i32_35 : BitVec 32 := 6170#32
  let c14_i32_32 : BitVec 32 := 14#32
  let v158 : BitVec 1 := Scalar.cmpi .eq v5 c14_i32_32
  let c8174_i32_33 : BitVec 32 := 8174#32
  let c13_i32_30 : BitVec 32 := 13#32
  let v156 : BitVec 1 := Scalar.cmpi .eq v5 c13_i32_30
  let c1378_i32_31 : BitVec 32 := 1378#32
  let c12_i32_28 : BitVec 32 := 12#32
  let v154 : BitVec 1 := Scalar.cmpi .eq v5 c12_i32_28
  let c2562_i32_29 : BitVec 32 := 2562#32
  let c11_i32_26 : BitVec 32 := 11#32
  let v152 : BitVec 1 := Scalar.cmpi .eq v5 c11_i32_26
  let c4161_i32_27 : BitVec 32 := 4161#32
  let c10_i32_24 : BitVec 32 := 10#32
  let v150 : BitVec 1 := Scalar.cmpi .eq v5 c10_i32_24
  let c6176_i32_25 : BitVec 32 := 6176#32
  let c9_i32_22 : BitVec 32 := 9#32
  let v148 : BitVec 1 := Scalar.cmpi .eq v5 c9_i32_22
  let c2818_i32_23 : BitVec 32 := 2818#32
  let c8_i32_20 : BitVec 32 := 8#32
  let v146 : BitVec 1 := Scalar.cmpi .eq v5 c8_i32_20
  let c5970_i32_21 : BitVec 32 := 5970#32
  let c7_i32_18 : BitVec 32 := 7#32
  let v144 : BitVec 1 := Scalar.cmpi .eq v5 c7_i32_18
  let c7573_i32_19 : BitVec 32 := 7573#32
  let c6_i32_16 : BitVec 32 := 6#32
  let v142 : BitVec 1 := Scalar.cmpi .eq v5 c6_i32_16
  let c3350_i32_17 : BitVec 32 := 3350#32
  let c5_i32_14 : BitVec 32 := 5#32
  let v140 : BitVec 1 := Scalar.cmpi .eq v5 c5_i32_14
  let c4780_i32_15 : BitVec 32 := 4780#32
  let c4_i32_12 : BitVec 32 := 4#32
  let v138 : BitVec 1 := Scalar.cmpi .eq v5 c4_i32_12
  let c6560_i32_13 : BitVec 32 := 6560#32
  let c3_i32_10 : BitVec 32 := 3#32
  let v136 : BitVec 1 := Scalar.cmpi .eq v5 c3_i32_10
  let c7017_i32_11 : BitVec 32 := 7017#32
  let c2_i32_8 : BitVec 32 := 2#32
  let v134 : BitVec 1 := Scalar.cmpi .eq v5 c2_i32_8
  let c736_i32_9 : BitVec 32 := 736#32
  let c1_i32_5 : BitVec 32 := 1#32
  let v132 : BitVec 1 := Scalar.cmpi .eq v5 c1_i32_5
  let c943_i32_7 : BitVec 32 := 943#32
  let c7932_i32_6 : BitVec 32 := 7932#32
  let v133 : BitVec 32 := Scalar.select v132 c943_i32_7 c7932_i32_6
  let v135 : BitVec 32 := Scalar.select v134 c736_i32_9 v133
  let v137 : BitVec 32 := Scalar.select v136 c7017_i32_11 v135
  let v139 : BitVec 32 := Scalar.select v138 c6560_i32_13 v137
  let v141 : BitVec 32 := Scalar.select v140 c4780_i32_15 v139
  let v143 : BitVec 32 := Scalar.select v142 c3350_i32_17 v141
  let v145 : BitVec 32 := Scalar.select v144 c7573_i32_19 v143
  let v147 : BitVec 32 := Scalar.select v146 c5970_i32_21 v145
  let v149 : BitVec 32 := Scalar.select v148 c2818_i32_23 v147
  let v151 : BitVec 32 := Scalar.select v150 c6176_i32_25 v149
  let v153 : BitVec 32 := Scalar.select v152 c4161_i32_27 v151
  let v155 : BitVec 32 := Scalar.select v154 c2562_i32_29 v153
  let v157 : BitVec 32 := Scalar.select v156 c1378_i32_31 v155
  let v159 : BitVec 32 := Scalar.select v158 c8174_i32_33 v157
  let v161 : BitVec 32 := Scalar.select v160 c6170_i32_35 v159
  let v163 : BitVec 32 := Scalar.select v162 c4241_i32_37 v161
  let v165 : BitVec 32 := Scalar.select v164 c7767_i32_39 v163
  let v167 : BitVec 32 := Scalar.select v166 c91_i32_41 v165
  let v169 : BitVec 32 := Scalar.select v168 c4026_i32_43 v167
  let v171 : BitVec 32 := Scalar.select v170 c6840_i32_45 v169
  let v173 : BitVec 32 := Scalar.select v172 c5652_i32_47 v171
  let v175 : BitVec 32 := Scalar.select v174 c56_i32_49 v173
  let v177 : BitVec 32 := Scalar.select v176 c3018_i32_51 v175
  let v179 : BitVec 32 := Scalar.select v178 c7654_i32_53 v177
  let v181 : BitVec 32 := Scalar.select v180 c6943_i32_55 v179
  let v183 : BitVec 32 := Scalar.select v182 c5978_i32_57 v181
  let v185 : BitVec 32 := Scalar.select v184 c2339_i32_59 v183
  let v187 : BitVec 32 := Scalar.select v186 c2760_i32_61 v185
  let v189 : BitVec 32 := Scalar.select v188 c4806_i32_63 v187
  let v191 : BitVec 32 := Scalar.select v190 c2916_i32_65 v189
  let v193 : BitVec 32 := Scalar.select v192 c6151_i32_67 v191
  let v195 : BitVec 32 := Scalar.select v194 c2835_i32_69 v193
  let v197 : BitVec 32 := Scalar.select v196 c1851_i32_71 v195
  let v199 : BitVec 32 := Scalar.select v198 c5685_i32_73 v197
  let v201 : BitVec 32 := Scalar.select v200 c1105_i32_75 v199
  let v203 : BitVec 32 := Scalar.select v202 c2937_i32_77 v201
  let v205 : BitVec 32 := Scalar.select v204 c6570_i32_79 v203
  let v207 : BitVec 32 := Scalar.select v206 c3980_i32_81 v205
  let v209 : BitVec 32 := Scalar.select v208 c7714_i32_83 v207
  let v211 : BitVec 32 := Scalar.select v210 c1846_i32_85 v209
  let v213 : BitVec 32 := Scalar.select v212 c3866_i32_87 v211
  let v215 : BitVec 32 := Scalar.select v214 c2914_i32_89 v213
  let v217 : BitVec 32 := Scalar.select v216 c1936_i32_91 v215
  let v219 : BitVec 32 := Scalar.select v218 c4871_i32_93 v217
  let v221 : BitVec 32 := Scalar.select v220 c2834_i32_95 v219
  let v223 : BitVec 32 := Scalar.select v222 c6125_i32_97 v221
  let v225 : BitVec 32 := Scalar.select v224 c3618_i32_99 v223
  let v227 : BitVec 32 := Scalar.select v226 c7487_i32_101 v225
  let v229 : BitVec 32 := Scalar.select v228 c593_i32_103 v227
  let v231 : BitVec 32 := Scalar.select v230 c7351_i32_105 v229
  let v233 : BitVec 32 := Scalar.select v232 c5479_i32_107 v231
  let v235 : BitVec 32 := Scalar.select v234 c572_i32_109 v233
  let v237 : BitVec 32 := Scalar.select v236 c1765_i32_111 v235
  let v239 : BitVec 32 := Scalar.select v238 c3913_i32_113 v237
  let v241 : BitVec 32 := Scalar.select v240 c2687_i32_115 v239
  let v243 : BitVec 32 := Scalar.select v242 c5257_i32_117 v241
  let v245 : BitVec 32 := Scalar.select v244 c6147_i32_119 v243
  let v247 : BitVec 32 := Scalar.select v246 c7228_i32_121 v245
  let v249 : BitVec 32 := Scalar.select v248 c2263_i32_123 v247
  let v251 : BitVec 32 := Scalar.select v250 c3132_i32_125 v249
  let v253 : BitVec 32 := Scalar.select v252 c722_i32_127 v251
  let v255 : BitVec 32 := Scalar.select v254 c1196_i32_129 v253
  let v257 : BitVec 32 := Scalar.select v256 c1763_i32_131 v255
  let c7_i32_134 : BitVec 32 := 7#32
  let v263 : BitVec 32 := Scalar.shrsi v257 c7_i32_134
  let v264 : BitVec 32 := Scalar.addi v262 v263
  let c256_i32_135 : BitVec 32 := 256#32
  let v265 : BitVec 32 := Scalar.muli v264 c256_i32_135
  let c1_i32_455 : BitVec 32 := 1#32
  let c1_i32_457 : BitVec 32 := 1#32
  let arg20 : BitVec 32 := Scf.iv c1_i32_455 c1_i32_457 k0_t5
  let c4_i32_663 : BitVec 32 := 4#32
  let v1468 : BitVec 32 := Scalar.muli arg20 c4_i32_663
  let c1_i32_664 : BitVec 32 := 1#32
  let v1469 : BitVec 32 := Scalar.addi v1468 c1_i32_664
  let c4_i32_694 : BitVec 32 := 4#32
  let v1538 : BitVec 32 := Scalar.addi v1469 c4_i32_694
  let c0_i32_696 : BitVec 32 := 0#32
  let v1540 : BitVec 1 := Scalar.cmpi .sgt v1538 c0_i32_696
  let v1541 : BitVec 32 := Scalar.extui v1540
  let c0_i32_697 : BitVec 32 := 0#32
  let v1542 : BitVec 1 := Scalar.cmpi .slt v1538 c0_i32_697
  let v1543 : BitVec 32 := Scalar.extui v1542
  let v1544 : BitVec 32 := Scalar.subi v1541 v1543
  let c2_i32_695 : BitVec 32 := 2#32
  let c0_i32_698 : BitVec 32 := 0#32
  let v1545 : BitVec 1 := Scalar.cmpi .sgt c2_i32_695 c0_i32_698
  let v1546 : BitVec 32 := Scalar.extui v1545
  let c0_i32_699 : BitVec 32 := 0#32
  let v1547 : BitVec 1 := Scalar.cmpi .slt c2_i32_695 c0_i32_699
  let v1548 : BitVec 32 := Scalar.extui v1547
  let v1549 : BitVec 32 := Scalar.subi v1546 v1548
  let v1550 : BitVec 1 := Scalar.cmpi .ne v1544 v1549
  let v1551 : BitVec 32 := Scalar.remsi v1538 c2_i32_695
  let c0_i32_700 : BitVec 32 := 0#32
  let v1552 : BitVec 1 := Scalar.cmpi .ne v1551 c0_i32_700
  let v1553 : BitVec 1 := Scalar.andi v1550 v1552
  let v1539 : BitVec 32 := Scalar.divsi v1538 c2_i32_695
  let c1_i32_701 : BitVec 32 := 1#32
  let v1554 : BitVec 32 := Scalar.subi v1539 c1_i32_701
  let v1555 : BitVec 32 := Scalar.select v1553 v1554 v1539
  let c15872_i32_702 : BitVec 32 := 15872#32
  let v1556 : BitVec 32 := Scalar.muli v1555 c15872_i32_702
  let v1557 : BitVec 32 := Scalar.addi v265 v1556
  v1557
def k0_mult121 (i : grid0.Coords) (k0_t5 : Fin k0_t5_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32 : BitVec 32 := 0#32
  let v3 : BitVec 32 := Scalar.addi v2 c0_i32
  let c2048_i32 : BitVec 32 := 2048#32
  let v258 : BitVec 32 := Scalar.muli v3 c2048_i32
  let c63_i32 : BitVec 32 := 63#32
  let v130 : BitVec 1 := Scalar.cmpi .eq v3 c63_i32
  let c1763_i32 : BitVec 32 := 1763#32
  let c62_i32 : BitVec 32 := 62#32
  let v128 : BitVec 1 := Scalar.cmpi .eq v3 c62_i32
  let c1196_i32 : BitVec 32 := 1196#32
  let c61_i32 : BitVec 32 := 61#32
  let v126 : BitVec 1 := Scalar.cmpi .eq v3 c61_i32
  let c722_i32 : BitVec 32 := 722#32
  let c60_i32 : BitVec 32 := 60#32
  let v124 : BitVec 1 := Scalar.cmpi .eq v3 c60_i32
  let c3132_i32 : BitVec 32 := 3132#32
  let c59_i32 : BitVec 32 := 59#32
  let v122 : BitVec 1 := Scalar.cmpi .eq v3 c59_i32
  let c2263_i32 : BitVec 32 := 2263#32
  let c58_i32 : BitVec 32 := 58#32
  let v120 : BitVec 1 := Scalar.cmpi .eq v3 c58_i32
  let c7228_i32 : BitVec 32 := 7228#32
  let c57_i32 : BitVec 32 := 57#32
  let v118 : BitVec 1 := Scalar.cmpi .eq v3 c57_i32
  let c6147_i32 : BitVec 32 := 6147#32
  let c56_i32_4 : BitVec 32 := 56#32
  let v116 : BitVec 1 := Scalar.cmpi .eq v3 c56_i32_4
  let c5257_i32 : BitVec 32 := 5257#32
  let c55_i32 : BitVec 32 := 55#32
  let v114 : BitVec 1 := Scalar.cmpi .eq v3 c55_i32
  let c2687_i32 : BitVec 32 := 2687#32
  let c54_i32 : BitVec 32 := 54#32
  let v112 : BitVec 1 := Scalar.cmpi .eq v3 c54_i32
  let c3913_i32 : BitVec 32 := 3913#32
  let c53_i32 : BitVec 32 := 53#32
  let v110 : BitVec 1 := Scalar.cmpi .eq v3 c53_i32
  let c1765_i32 : BitVec 32 := 1765#32
  let c52_i32 : BitVec 32 := 52#32
  let v108 : BitVec 1 := Scalar.cmpi .eq v3 c52_i32
  let c572_i32 : BitVec 32 := 572#32
  let c51_i32 : BitVec 32 := 51#32
  let v106 : BitVec 1 := Scalar.cmpi .eq v3 c51_i32
  let c5479_i32 : BitVec 32 := 5479#32
  let c50_i32 : BitVec 32 := 50#32
  let v104 : BitVec 1 := Scalar.cmpi .eq v3 c50_i32
  let c7351_i32 : BitVec 32 := 7351#32
  let c49_i32 : BitVec 32 := 49#32
  let v102 : BitVec 1 := Scalar.cmpi .eq v3 c49_i32
  let c593_i32 : BitVec 32 := 593#32
  let c48_i32 : BitVec 32 := 48#32
  let v100 : BitVec 1 := Scalar.cmpi .eq v3 c48_i32
  let c7487_i32 : BitVec 32 := 7487#32
  let c47_i32 : BitVec 32 := 47#32
  let v98 : BitVec 1 := Scalar.cmpi .eq v3 c47_i32
  let c3618_i32 : BitVec 32 := 3618#32
  let c46_i32 : BitVec 32 := 46#32
  let v96 : BitVec 1 := Scalar.cmpi .eq v3 c46_i32
  let c6125_i32 : BitVec 32 := 6125#32
  let c45_i32 : BitVec 32 := 45#32
  let v94 : BitVec 1 := Scalar.cmpi .eq v3 c45_i32
  let c2834_i32 : BitVec 32 := 2834#32
  let c44_i32 : BitVec 32 := 44#32
  let v92 : BitVec 1 := Scalar.cmpi .eq v3 c44_i32
  let c4871_i32 : BitVec 32 := 4871#32
  let c43_i32 : BitVec 32 := 43#32
  let v90 : BitVec 1 := Scalar.cmpi .eq v3 c43_i32
  let c1936_i32 : BitVec 32 := 1936#32
  let c42_i32 : BitVec 32 := 42#32
  let v88 : BitVec 1 := Scalar.cmpi .eq v3 c42_i32
  let c2914_i32 : BitVec 32 := 2914#32
  let c41_i32 : BitVec 32 := 41#32
  let v86 : BitVec 1 := Scalar.cmpi .eq v3 c41_i32
  let c3866_i32 : BitVec 32 := 3866#32
  let c40_i32 : BitVec 32 := 40#32
  let v84 : BitVec 1 := Scalar.cmpi .eq v3 c40_i32
  let c1846_i32 : BitVec 32 := 1846#32
  let c39_i32 : BitVec 32 := 39#32
  let v82 : BitVec 1 := Scalar.cmpi .eq v3 c39_i32
  let c7714_i32 : BitVec 32 := 7714#32
  let c38_i32 : BitVec 32 := 38#32
  let v80 : BitVec 1 := Scalar.cmpi .eq v3 c38_i32
  let c3980_i32 : BitVec 32 := 3980#32
  let c37_i32 : BitVec 32 := 37#32
  let v78 : BitVec 1 := Scalar.cmpi .eq v3 c37_i32
  let c6570_i32 : BitVec 32 := 6570#32
  let c36_i32 : BitVec 32 := 36#32
  let v76 : BitVec 1 := Scalar.cmpi .eq v3 c36_i32
  let c2937_i32 : BitVec 32 := 2937#32
  let c35_i32 : BitVec 32 := 35#32
  let v74 : BitVec 1 := Scalar.cmpi .eq v3 c35_i32
  let c1105_i32 : BitVec 32 := 1105#32
  let c34_i32 : BitVec 32 := 34#32
  let v72 : BitVec 1 := Scalar.cmpi .eq v3 c34_i32
  let c5685_i32 : BitVec 32 := 5685#32
  let c33_i32 : BitVec 32 := 33#32
  let v70 : BitVec 1 := Scalar.cmpi .eq v3 c33_i32
  let c1851_i32 : BitVec 32 := 1851#32
  let c32_i32 : BitVec 32 := 32#32
  let v68 : BitVec 1 := Scalar.cmpi .eq v3 c32_i32
  let c2835_i32 : BitVec 32 := 2835#32
  let c31_i32 : BitVec 32 := 31#32
  let v66 : BitVec 1 := Scalar.cmpi .eq v3 c31_i32
  let c6151_i32 : BitVec 32 := 6151#32
  let c30_i32 : BitVec 32 := 30#32
  let v64 : BitVec 1 := Scalar.cmpi .eq v3 c30_i32
  let c2916_i32 : BitVec 32 := 2916#32
  let c29_i32 : BitVec 32 := 29#32
  let v62 : BitVec 1 := Scalar.cmpi .eq v3 c29_i32
  let c4806_i32 : BitVec 32 := 4806#32
  let c28_i32 : BitVec 32 := 28#32
  let v60 : BitVec 1 := Scalar.cmpi .eq v3 c28_i32
  let c2760_i32 : BitVec 32 := 2760#32
  let c27_i32 : BitVec 32 := 27#32
  let v58 : BitVec 1 := Scalar.cmpi .eq v3 c27_i32
  let c2339_i32 : BitVec 32 := 2339#32
  let c26_i32 : BitVec 32 := 26#32
  let v56 : BitVec 1 := Scalar.cmpi .eq v3 c26_i32
  let c5978_i32 : BitVec 32 := 5978#32
  let c25_i32 : BitVec 32 := 25#32
  let v54 : BitVec 1 := Scalar.cmpi .eq v3 c25_i32
  let c6943_i32 : BitVec 32 := 6943#32
  let c24_i32 : BitVec 32 := 24#32
  let v52 : BitVec 1 := Scalar.cmpi .eq v3 c24_i32
  let c7654_i32 : BitVec 32 := 7654#32
  let c23_i32 : BitVec 32 := 23#32
  let v50 : BitVec 1 := Scalar.cmpi .eq v3 c23_i32
  let c3018_i32 : BitVec 32 := 3018#32
  let c22_i32 : BitVec 32 := 22#32
  let v48 : BitVec 1 := Scalar.cmpi .eq v3 c22_i32
  let c56_i32 : BitVec 32 := 56#32
  let c21_i32 : BitVec 32 := 21#32
  let v46 : BitVec 1 := Scalar.cmpi .eq v3 c21_i32
  let c5652_i32 : BitVec 32 := 5652#32
  let c20_i32 : BitVec 32 := 20#32
  let v44 : BitVec 1 := Scalar.cmpi .eq v3 c20_i32
  let c6840_i32 : BitVec 32 := 6840#32
  let c19_i32 : BitVec 32 := 19#32
  let v42 : BitVec 1 := Scalar.cmpi .eq v3 c19_i32
  let c4026_i32 : BitVec 32 := 4026#32
  let c18_i32 : BitVec 32 := 18#32
  let v40 : BitVec 1 := Scalar.cmpi .eq v3 c18_i32
  let c91_i32 : BitVec 32 := 91#32
  let c17_i32 : BitVec 32 := 17#32
  let v38 : BitVec 1 := Scalar.cmpi .eq v3 c17_i32
  let c7767_i32 : BitVec 32 := 7767#32
  let c16_i32 : BitVec 32 := 16#32
  let v36 : BitVec 1 := Scalar.cmpi .eq v3 c16_i32
  let c4241_i32 : BitVec 32 := 4241#32
  let c15_i32 : BitVec 32 := 15#32
  let v34 : BitVec 1 := Scalar.cmpi .eq v3 c15_i32
  let c6170_i32 : BitVec 32 := 6170#32
  let c14_i32 : BitVec 32 := 14#32
  let v32 : BitVec 1 := Scalar.cmpi .eq v3 c14_i32
  let c8174_i32 : BitVec 32 := 8174#32
  let c13_i32 : BitVec 32 := 13#32
  let v30 : BitVec 1 := Scalar.cmpi .eq v3 c13_i32
  let c1378_i32 : BitVec 32 := 1378#32
  let c12_i32 : BitVec 32 := 12#32
  let v28 : BitVec 1 := Scalar.cmpi .eq v3 c12_i32
  let c2562_i32 : BitVec 32 := 2562#32
  let c11_i32 : BitVec 32 := 11#32
  let v26 : BitVec 1 := Scalar.cmpi .eq v3 c11_i32
  let c4161_i32 : BitVec 32 := 4161#32
  let c10_i32 : BitVec 32 := 10#32
  let v24 : BitVec 1 := Scalar.cmpi .eq v3 c10_i32
  let c6176_i32 : BitVec 32 := 6176#32
  let c9_i32 : BitVec 32 := 9#32
  let v22 : BitVec 1 := Scalar.cmpi .eq v3 c9_i32
  let c2818_i32 : BitVec 32 := 2818#32
  let c8_i32 : BitVec 32 := 8#32
  let v20 : BitVec 1 := Scalar.cmpi .eq v3 c8_i32
  let c5970_i32 : BitVec 32 := 5970#32
  let c7_i32 : BitVec 32 := 7#32
  let v18 : BitVec 1 := Scalar.cmpi .eq v3 c7_i32
  let c7573_i32 : BitVec 32 := 7573#32
  let c6_i32 : BitVec 32 := 6#32
  let v16 : BitVec 1 := Scalar.cmpi .eq v3 c6_i32
  let c3350_i32 : BitVec 32 := 3350#32
  let c5_i32 : BitVec 32 := 5#32
  let v14 : BitVec 1 := Scalar.cmpi .eq v3 c5_i32
  let c4780_i32 : BitVec 32 := 4780#32
  let c4_i32 : BitVec 32 := 4#32
  let v12 : BitVec 1 := Scalar.cmpi .eq v3 c4_i32
  let c6560_i32 : BitVec 32 := 6560#32
  let c3_i32 : BitVec 32 := 3#32
  let v10 : BitVec 1 := Scalar.cmpi .eq v3 c3_i32
  let c7017_i32 : BitVec 32 := 7017#32
  let c2_i32_3 : BitVec 32 := 2#32
  let v8 : BitVec 1 := Scalar.cmpi .eq v3 c2_i32_3
  let c736_i32 : BitVec 32 := 736#32
  let c1_i32_2 : BitVec 32 := 1#32
  let v6 : BitVec 1 := Scalar.cmpi .eq v3 c1_i32_2
  let c943_i32 : BitVec 32 := 943#32
  let c7932_i32 : BitVec 32 := 7932#32
  let v7 : BitVec 32 := Scalar.select v6 c943_i32 c7932_i32
  let v9 : BitVec 32 := Scalar.select v8 c736_i32 v7
  let v11 : BitVec 32 := Scalar.select v10 c7017_i32 v9
  let v13 : BitVec 32 := Scalar.select v12 c6560_i32 v11
  let v15 : BitVec 32 := Scalar.select v14 c4780_i32 v13
  let v17 : BitVec 32 := Scalar.select v16 c3350_i32 v15
  let v19 : BitVec 32 := Scalar.select v18 c7573_i32 v17
  let v21 : BitVec 32 := Scalar.select v20 c5970_i32 v19
  let v23 : BitVec 32 := Scalar.select v22 c2818_i32 v21
  let v25 : BitVec 32 := Scalar.select v24 c6176_i32 v23
  let v27 : BitVec 32 := Scalar.select v26 c4161_i32 v25
  let v29 : BitVec 32 := Scalar.select v28 c2562_i32 v27
  let v31 : BitVec 32 := Scalar.select v30 c1378_i32 v29
  let v33 : BitVec 32 := Scalar.select v32 c8174_i32 v31
  let v35 : BitVec 32 := Scalar.select v34 c6170_i32 v33
  let v37 : BitVec 32 := Scalar.select v36 c4241_i32 v35
  let v39 : BitVec 32 := Scalar.select v38 c7767_i32 v37
  let v41 : BitVec 32 := Scalar.select v40 c91_i32 v39
  let v43 : BitVec 32 := Scalar.select v42 c4026_i32 v41
  let v45 : BitVec 32 := Scalar.select v44 c6840_i32 v43
  let v47 : BitVec 32 := Scalar.select v46 c5652_i32 v45
  let v49 : BitVec 32 := Scalar.select v48 c56_i32 v47
  let v51 : BitVec 32 := Scalar.select v50 c3018_i32 v49
  let v53 : BitVec 32 := Scalar.select v52 c7654_i32 v51
  let v55 : BitVec 32 := Scalar.select v54 c6943_i32 v53
  let v57 : BitVec 32 := Scalar.select v56 c5978_i32 v55
  let v59 : BitVec 32 := Scalar.select v58 c2339_i32 v57
  let v61 : BitVec 32 := Scalar.select v60 c2760_i32 v59
  let v63 : BitVec 32 := Scalar.select v62 c4806_i32 v61
  let v65 : BitVec 32 := Scalar.select v64 c2916_i32 v63
  let v67 : BitVec 32 := Scalar.select v66 c6151_i32 v65
  let v69 : BitVec 32 := Scalar.select v68 c2835_i32 v67
  let v71 : BitVec 32 := Scalar.select v70 c1851_i32 v69
  let v73 : BitVec 32 := Scalar.select v72 c5685_i32 v71
  let v75 : BitVec 32 := Scalar.select v74 c1105_i32 v73
  let v77 : BitVec 32 := Scalar.select v76 c2937_i32 v75
  let v79 : BitVec 32 := Scalar.select v78 c6570_i32 v77
  let v81 : BitVec 32 := Scalar.select v80 c3980_i32 v79
  let v83 : BitVec 32 := Scalar.select v82 c7714_i32 v81
  let v85 : BitVec 32 := Scalar.select v84 c1846_i32 v83
  let v87 : BitVec 32 := Scalar.select v86 c3866_i32 v85
  let v89 : BitVec 32 := Scalar.select v88 c2914_i32 v87
  let v91 : BitVec 32 := Scalar.select v90 c1936_i32 v89
  let v93 : BitVec 32 := Scalar.select v92 c4871_i32 v91
  let v95 : BitVec 32 := Scalar.select v94 c2834_i32 v93
  let v97 : BitVec 32 := Scalar.select v96 c6125_i32 v95
  let v99 : BitVec 32 := Scalar.select v98 c3618_i32 v97
  let v101 : BitVec 32 := Scalar.select v100 c7487_i32 v99
  let v103 : BitVec 32 := Scalar.select v102 c593_i32 v101
  let v105 : BitVec 32 := Scalar.select v104 c7351_i32 v103
  let v107 : BitVec 32 := Scalar.select v106 c5479_i32 v105
  let v109 : BitVec 32 := Scalar.select v108 c572_i32 v107
  let v111 : BitVec 32 := Scalar.select v110 c1765_i32 v109
  let v113 : BitVec 32 := Scalar.select v112 c3913_i32 v111
  let v115 : BitVec 32 := Scalar.select v114 c2687_i32 v113
  let v117 : BitVec 32 := Scalar.select v116 c5257_i32 v115
  let v119 : BitVec 32 := Scalar.select v118 c6147_i32 v117
  let v121 : BitVec 32 := Scalar.select v120 c7228_i32 v119
  let v123 : BitVec 32 := Scalar.select v122 c2263_i32 v121
  let v125 : BitVec 32 := Scalar.select v124 c3132_i32 v123
  let v127 : BitVec 32 := Scalar.select v126 c722_i32 v125
  let v129 : BitVec 32 := Scalar.select v128 c1196_i32 v127
  let v131 : BitVec 32 := Scalar.select v130 c1763_i32 v129
  let c7_i32_132 : BitVec 32 := 7#32
  let v259 : BitVec 32 := Scalar.shrsi v131 c7_i32_132
  let v260 : BitVec 32 := Scalar.addi v258 v259
  let c256_i32 : BitVec 32 := 256#32
  let v261 : BitVec 32 := Scalar.muli v260 c256_i32
  let c1_i32_455 : BitVec 32 := 1#32
  let c1_i32_457 : BitVec 32 := 1#32
  let arg20 : BitVec 32 := Scf.iv c1_i32_455 c1_i32_457 k0_t5
  let c4_i32_703 : BitVec 32 := 4#32
  let v1561 : BitVec 32 := Scalar.muli arg20 c4_i32_703
  let c2_i32_704 : BitVec 32 := 2#32
  let v1562 : BitVec 32 := Scalar.addi v1561 c2_i32_704
  let c0_i32_706 : BitVec 32 := 0#32
  let v1564 : BitVec 1 := Scalar.cmpi .sgt v1562 c0_i32_706
  let v1565 : BitVec 32 := Scalar.extui v1564
  let c0_i32_707 : BitVec 32 := 0#32
  let v1566 : BitVec 1 := Scalar.cmpi .slt v1562 c0_i32_707
  let v1567 : BitVec 32 := Scalar.extui v1566
  let v1568 : BitVec 32 := Scalar.subi v1565 v1567
  let c2_i32_705 : BitVec 32 := 2#32
  let c0_i32_708 : BitVec 32 := 0#32
  let v1569 : BitVec 1 := Scalar.cmpi .sgt c2_i32_705 c0_i32_708
  let v1570 : BitVec 32 := Scalar.extui v1569
  let c0_i32_709 : BitVec 32 := 0#32
  let v1571 : BitVec 1 := Scalar.cmpi .slt c2_i32_705 c0_i32_709
  let v1572 : BitVec 32 := Scalar.extui v1571
  let v1573 : BitVec 32 := Scalar.subi v1570 v1572
  let v1574 : BitVec 1 := Scalar.cmpi .ne v1568 v1573
  let v1575 : BitVec 32 := Scalar.remsi v1562 c2_i32_705
  let c0_i32_710 : BitVec 32 := 0#32
  let v1576 : BitVec 1 := Scalar.cmpi .ne v1575 c0_i32_710
  let v1577 : BitVec 1 := Scalar.andi v1574 v1576
  let v1563 : BitVec 32 := Scalar.divsi v1562 c2_i32_705
  let c1_i32_711 : BitVec 32 := 1#32
  let v1578 : BitVec 32 := Scalar.subi v1563 c1_i32_711
  let v1579 : BitVec 32 := Scalar.select v1577 v1578 v1563
  let c15872_i32_712 : BitVec 32 := 15872#32
  let v1580 : BitVec 32 := Scalar.muli v1579 c15872_i32_712
  let v1581 : BitVec 32 := Scalar.addi v261 v1580
  v1581
def k0_mult122 (i : grid0.Coords) (k0_t5 : Fin k0_t5_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32 : BitVec 32 := 0#32
  let v3 : BitVec 32 := Scalar.addi v2 c0_i32
  let c1984_i32 : BitVec 32 := 1984#32
  let v266 : BitVec 32 := Scalar.muli v3 c1984_i32
  let c256_i32_136 : BitVec 32 := 256#32
  let v267 : BitVec 32 := Scalar.muli v266 c256_i32_136
  let c1_i32_455 : BitVec 32 := 1#32
  let c1_i32_457 : BitVec 32 := 1#32
  let arg20 : BitVec 32 := Scf.iv c1_i32_455 c1_i32_457 k0_t5
  let c4_i32_703 : BitVec 32 := 4#32
  let v1561 : BitVec 32 := Scalar.muli arg20 c4_i32_703
  let c2_i32_704 : BitVec 32 := 2#32
  let v1562 : BitVec 32 := Scalar.addi v1561 c2_i32_704
  let c4_i32_713 : BitVec 32 := 4#32
  let v1585 : BitVec 32 := Scalar.subi v1562 c4_i32_713
  let c0_i32_715 : BitVec 32 := 0#32
  let v1587 : BitVec 1 := Scalar.cmpi .sgt v1585 c0_i32_715
  let v1588 : BitVec 32 := Scalar.extui v1587
  let c0_i32_716 : BitVec 32 := 0#32
  let v1589 : BitVec 1 := Scalar.cmpi .slt v1585 c0_i32_716
  let v1590 : BitVec 32 := Scalar.extui v1589
  let v1591 : BitVec 32 := Scalar.subi v1588 v1590
  let c2_i32_714 : BitVec 32 := 2#32
  let c0_i32_717 : BitVec 32 := 0#32
  let v1592 : BitVec 1 := Scalar.cmpi .sgt c2_i32_714 c0_i32_717
  let v1593 : BitVec 32 := Scalar.extui v1592
  let c0_i32_718 : BitVec 32 := 0#32
  let v1594 : BitVec 1 := Scalar.cmpi .slt c2_i32_714 c0_i32_718
  let v1595 : BitVec 32 := Scalar.extui v1594
  let v1596 : BitVec 32 := Scalar.subi v1593 v1595
  let v1597 : BitVec 1 := Scalar.cmpi .ne v1591 v1596
  let v1598 : BitVec 32 := Scalar.remsi v1585 c2_i32_714
  let c0_i32_719 : BitVec 32 := 0#32
  let v1599 : BitVec 1 := Scalar.cmpi .ne v1598 c0_i32_719
  let v1600 : BitVec 1 := Scalar.andi v1597 v1599
  let v1586 : BitVec 32 := Scalar.divsi v1585 c2_i32_714
  let c1_i32_720 : BitVec 32 := 1#32
  let v1601 : BitVec 32 := Scalar.subi v1586 c1_i32_720
  let v1602 : BitVec 32 := Scalar.select v1600 v1601 v1586
  let c15872_i32_721 : BitVec 32 := 15872#32
  let v1603 : BitVec 32 := Scalar.muli v1602 c15872_i32_721
  let v1604 : BitVec 32 := Scalar.addi v267 v1603
  v1604
@[reducible] def k0_t8_loop : Scf.Loop 32 :=
  let c0_i32_722 : BitVec 32 := 0#32
  let c62_i32_723 : BitVec 32 := 62#32
  let v1608 : BitVec 32 := Scalar.addi c0_i32_722 c62_i32_723
  let c1_i32_724 : BitVec 32 := 1#32
  ⟨c0_i32_722, v1608, c1_i32_724⟩

def k0_chk97 (v1753 : IVec S16 32) : Prop :=
  (∀ a x, ((![v1753] : Fin 1 → IVec S16 32) a x).toNat < S16128.size a)
theorem k0_idx97_inb : ∀ (v1753 : IVec S16 32) (k0_hw97 : k0_chk97 v1753), ∀ a x, ((![v1753] : Fin 1 → IVec S16 32) a x).toNat < S16128.size a := fun v1753 k0_hw97 => k0_hw97
def k0_mult123 (k0_t8 : Fin k0_t8_loop.trips) : BitVec 32 :=
  let c0_i32_785 : BitVec 32 := 0#32
  let c0_i32_722 : BitVec 32 := 0#32
  let c1_i32_724 : BitVec 32 := 1#32
  let arg22 : BitVec 32 := Scf.iv c0_i32_722 c1_i32_724 k0_t8
  let c1_i32_784 : BitVec 32 := 1#32
  let v1747 : BitVec 32 := Scalar.muli arg22 c1_i32_784
  let v1748 : BitVec 32 := Scalar.addi c0_i32_785 v1747
  let c256_i32_786 : BitVec 32 := 256#32
  let v1749 : BitVec 32 := Scalar.muli v1748 c256_i32_786
  let c0_i32_788 : BitVec 32 := 0#32
  let v1755 : BitVec 32 := Scalar.addi v1749 c0_i32_788
  v1755
def k0_off103 (k0_t8 : Fin k0_t8_loop.trips) : Fin 1 → Nat :=
  let c0_i32_785 : BitVec 32 := 0#32
  let c0_i32_722 : BitVec 32 := 0#32
  let c1_i32_724 : BitVec 32 := 1#32
  let arg22 : BitVec 32 := Scf.iv c0_i32_722 c1_i32_724 k0_t8
  let c1_i32_784 : BitVec 32 := 1#32
  let v1747 : BitVec 32 := Scalar.muli arg22 c1_i32_784
  let v1748 : BitVec 32 := Scalar.addi c0_i32_785 v1747
  let c256_i32_786 : BitVec 32 := 256#32
  let v1749 : BitVec 32 := Scalar.muli v1748 c256_i32_786
  let c0_i32_788 : BitVec 32 := 0#32
  let v1755 : BitVec 32 := Scalar.addi v1749 c0_i32_788
  let v1756 : BitVec 32 := v1755
  let v1757 : Index := Scalar.indexCast v1756
  ![v1757.toNat]

def k0_chk98 (v1759 : IVec S16 32) : Prop :=
  (∀ a x, ((![v1759] : Fin 1 → IVec S16 32) a x).toNat < S16128.size a)
theorem k0_idx98_inb : ∀ (v1759 : IVec S16 32) (k0_hw98 : k0_chk98 v1759), ∀ a x, ((![v1759] : Fin 1 → IVec S16 32) a x).toNat < S16128.size a := fun v1759 k0_hw98 => k0_hw98
def k0_mult124 (k0_t8 : Fin k0_t8_loop.trips) : BitVec 32 :=
  let c0_i32_785 : BitVec 32 := 0#32
  let c0_i32_722 : BitVec 32 := 0#32
  let c1_i32_724 : BitVec 32 := 1#32
  let arg22 : BitVec 32 := Scf.iv c0_i32_722 c1_i32_724 k0_t8
  let c1_i32_784 : BitVec 32 := 1#32
  let v1747 : BitVec 32 := Scalar.muli arg22 c1_i32_784
  let v1748 : BitVec 32 := Scalar.addi c0_i32_785 v1747
  let c256_i32_786 : BitVec 32 := 256#32
  let v1749 : BitVec 32 := Scalar.muli v1748 c256_i32_786
  let c16_i32_789 : BitVec 32 := 16#32
  let v1761 : BitVec 32 := Scalar.addi v1749 c16_i32_789
  v1761
def k0_off104 (k0_t8 : Fin k0_t8_loop.trips) : Fin 1 → Nat :=
  let c0_i32_785 : BitVec 32 := 0#32
  let c0_i32_722 : BitVec 32 := 0#32
  let c1_i32_724 : BitVec 32 := 1#32
  let arg22 : BitVec 32 := Scf.iv c0_i32_722 c1_i32_724 k0_t8
  let c1_i32_784 : BitVec 32 := 1#32
  let v1747 : BitVec 32 := Scalar.muli arg22 c1_i32_784
  let v1748 : BitVec 32 := Scalar.addi c0_i32_785 v1747
  let c256_i32_786 : BitVec 32 := 256#32
  let v1749 : BitVec 32 := Scalar.muli v1748 c256_i32_786
  let c16_i32_789 : BitVec 32 := 16#32
  let v1761 : BitVec 32 := Scalar.addi v1749 c16_i32_789
  let v1762 : BitVec 32 := v1761
  let v1763 : Index := Scalar.indexCast v1762
  ![v1763.toNat]

def k0_chk99 (v1765 : IVec S16 32) : Prop :=
  (∀ a x, ((![v1765] : Fin 1 → IVec S16 32) a x).toNat < S16128.size a)
theorem k0_idx99_inb : ∀ (v1765 : IVec S16 32) (k0_hw99 : k0_chk99 v1765), ∀ a x, ((![v1765] : Fin 1 → IVec S16 32) a x).toNat < S16128.size a := fun v1765 k0_hw99 => k0_hw99
def k0_mult125 (k0_t8 : Fin k0_t8_loop.trips) : BitVec 32 :=
  let c0_i32_785 : BitVec 32 := 0#32
  let c0_i32_722 : BitVec 32 := 0#32
  let c1_i32_724 : BitVec 32 := 1#32
  let arg22 : BitVec 32 := Scf.iv c0_i32_722 c1_i32_724 k0_t8
  let c1_i32_784 : BitVec 32 := 1#32
  let v1747 : BitVec 32 := Scalar.muli arg22 c1_i32_784
  let v1748 : BitVec 32 := Scalar.addi c0_i32_785 v1747
  let c256_i32_786 : BitVec 32 := 256#32
  let v1749 : BitVec 32 := Scalar.muli v1748 c256_i32_786
  let c32_i32_790 : BitVec 32 := 32#32
  let v1767 : BitVec 32 := Scalar.addi v1749 c32_i32_790
  v1767
def k0_off105 (k0_t8 : Fin k0_t8_loop.trips) : Fin 1 → Nat :=
  let c0_i32_785 : BitVec 32 := 0#32
  let c0_i32_722 : BitVec 32 := 0#32
  let c1_i32_724 : BitVec 32 := 1#32
  let arg22 : BitVec 32 := Scf.iv c0_i32_722 c1_i32_724 k0_t8
  let c1_i32_784 : BitVec 32 := 1#32
  let v1747 : BitVec 32 := Scalar.muli arg22 c1_i32_784
  let v1748 : BitVec 32 := Scalar.addi c0_i32_785 v1747
  let c256_i32_786 : BitVec 32 := 256#32
  let v1749 : BitVec 32 := Scalar.muli v1748 c256_i32_786
  let c32_i32_790 : BitVec 32 := 32#32
  let v1767 : BitVec 32 := Scalar.addi v1749 c32_i32_790
  let v1768 : BitVec 32 := v1767
  let v1769 : Index := Scalar.indexCast v1768
  ![v1769.toNat]

def k0_chk100 (v1771 : IVec S16 32) : Prop :=
  (∀ a x, ((![v1771] : Fin 1 → IVec S16 32) a x).toNat < S16128.size a)
theorem k0_idx100_inb : ∀ (v1771 : IVec S16 32) (k0_hw100 : k0_chk100 v1771), ∀ a x, ((![v1771] : Fin 1 → IVec S16 32) a x).toNat < S16128.size a := fun v1771 k0_hw100 => k0_hw100
def k0_mult126 (k0_t8 : Fin k0_t8_loop.trips) : BitVec 32 :=
  let c0_i32_785 : BitVec 32 := 0#32
  let c0_i32_722 : BitVec 32 := 0#32
  let c1_i32_724 : BitVec 32 := 1#32
  let arg22 : BitVec 32 := Scf.iv c0_i32_722 c1_i32_724 k0_t8
  let c1_i32_784 : BitVec 32 := 1#32
  let v1747 : BitVec 32 := Scalar.muli arg22 c1_i32_784
  let v1748 : BitVec 32 := Scalar.addi c0_i32_785 v1747
  let c256_i32_786 : BitVec 32 := 256#32
  let v1749 : BitVec 32 := Scalar.muli v1748 c256_i32_786
  let c48_i32_791 : BitVec 32 := 48#32
  let v1773 : BitVec 32 := Scalar.addi v1749 c48_i32_791
  v1773
def k0_off106 (k0_t8 : Fin k0_t8_loop.trips) : Fin 1 → Nat :=
  let c0_i32_785 : BitVec 32 := 0#32
  let c0_i32_722 : BitVec 32 := 0#32
  let c1_i32_724 : BitVec 32 := 1#32
  let arg22 : BitVec 32 := Scf.iv c0_i32_722 c1_i32_724 k0_t8
  let c1_i32_784 : BitVec 32 := 1#32
  let v1747 : BitVec 32 := Scalar.muli arg22 c1_i32_784
  let v1748 : BitVec 32 := Scalar.addi c0_i32_785 v1747
  let c256_i32_786 : BitVec 32 := 256#32
  let v1749 : BitVec 32 := Scalar.muli v1748 c256_i32_786
  let c48_i32_791 : BitVec 32 := 48#32
  let v1773 : BitVec 32 := Scalar.addi v1749 c48_i32_791
  let v1774 : BitVec 32 := v1773
  let v1775 : Index := Scalar.indexCast v1774
  ![v1775.toNat]

def k0_chk101 (v1777 : IVec S16 32) : Prop :=
  (∀ a x, ((![v1777] : Fin 1 → IVec S16 32) a x).toNat < S16128.size a)
theorem k0_idx101_inb : ∀ (v1777 : IVec S16 32) (k0_hw101 : k0_chk101 v1777), ∀ a x, ((![v1777] : Fin 1 → IVec S16 32) a x).toNat < S16128.size a := fun v1777 k0_hw101 => k0_hw101
def k0_mult127 (k0_t8 : Fin k0_t8_loop.trips) : BitVec 32 :=
  let c0_i32_785 : BitVec 32 := 0#32
  let c0_i32_722 : BitVec 32 := 0#32
  let c1_i32_724 : BitVec 32 := 1#32
  let arg22 : BitVec 32 := Scf.iv c0_i32_722 c1_i32_724 k0_t8
  let c1_i32_784 : BitVec 32 := 1#32
  let v1747 : BitVec 32 := Scalar.muli arg22 c1_i32_784
  let v1748 : BitVec 32 := Scalar.addi c0_i32_785 v1747
  let c256_i32_786 : BitVec 32 := 256#32
  let v1749 : BitVec 32 := Scalar.muli v1748 c256_i32_786
  let c64_i32_792 : BitVec 32 := 64#32
  let v1779 : BitVec 32 := Scalar.addi v1749 c64_i32_792
  v1779
def k0_off107 (k0_t8 : Fin k0_t8_loop.trips) : Fin 1 → Nat :=
  let c0_i32_785 : BitVec 32 := 0#32
  let c0_i32_722 : BitVec 32 := 0#32
  let c1_i32_724 : BitVec 32 := 1#32
  let arg22 : BitVec 32 := Scf.iv c0_i32_722 c1_i32_724 k0_t8
  let c1_i32_784 : BitVec 32 := 1#32
  let v1747 : BitVec 32 := Scalar.muli arg22 c1_i32_784
  let v1748 : BitVec 32 := Scalar.addi c0_i32_785 v1747
  let c256_i32_786 : BitVec 32 := 256#32
  let v1749 : BitVec 32 := Scalar.muli v1748 c256_i32_786
  let c64_i32_792 : BitVec 32 := 64#32
  let v1779 : BitVec 32 := Scalar.addi v1749 c64_i32_792
  let v1780 : BitVec 32 := v1779
  let v1781 : Index := Scalar.indexCast v1780
  ![v1781.toNat]

def k0_chk102 (v1783 : IVec S16 32) : Prop :=
  (∀ a x, ((![v1783] : Fin 1 → IVec S16 32) a x).toNat < S16128.size a)
theorem k0_idx102_inb : ∀ (v1783 : IVec S16 32) (k0_hw102 : k0_chk102 v1783), ∀ a x, ((![v1783] : Fin 1 → IVec S16 32) a x).toNat < S16128.size a := fun v1783 k0_hw102 => k0_hw102
def k0_mult128 (k0_t8 : Fin k0_t8_loop.trips) : BitVec 32 :=
  let c0_i32_785 : BitVec 32 := 0#32
  let c0_i32_722 : BitVec 32 := 0#32
  let c1_i32_724 : BitVec 32 := 1#32
  let arg22 : BitVec 32 := Scf.iv c0_i32_722 c1_i32_724 k0_t8
  let c1_i32_784 : BitVec 32 := 1#32
  let v1747 : BitVec 32 := Scalar.muli arg22 c1_i32_784
  let v1748 : BitVec 32 := Scalar.addi c0_i32_785 v1747
  let c256_i32_786 : BitVec 32 := 256#32
  let v1749 : BitVec 32 := Scalar.muli v1748 c256_i32_786
  let c80_i32_793 : BitVec 32 := 80#32
  let v1785 : BitVec 32 := Scalar.addi v1749 c80_i32_793
  v1785
def k0_off108 (k0_t8 : Fin k0_t8_loop.trips) : Fin 1 → Nat :=
  let c0_i32_785 : BitVec 32 := 0#32
  let c0_i32_722 : BitVec 32 := 0#32
  let c1_i32_724 : BitVec 32 := 1#32
  let arg22 : BitVec 32 := Scf.iv c0_i32_722 c1_i32_724 k0_t8
  let c1_i32_784 : BitVec 32 := 1#32
  let v1747 : BitVec 32 := Scalar.muli arg22 c1_i32_784
  let v1748 : BitVec 32 := Scalar.addi c0_i32_785 v1747
  let c256_i32_786 : BitVec 32 := 256#32
  let v1749 : BitVec 32 := Scalar.muli v1748 c256_i32_786
  let c80_i32_793 : BitVec 32 := 80#32
  let v1785 : BitVec 32 := Scalar.addi v1749 c80_i32_793
  let v1786 : BitVec 32 := v1785
  let v1787 : Index := Scalar.indexCast v1786
  ![v1787.toNat]

def k0_chk103 (v1789 : IVec S16 32) : Prop :=
  (∀ a x, ((![v1789] : Fin 1 → IVec S16 32) a x).toNat < S16128.size a)
theorem k0_idx103_inb : ∀ (v1789 : IVec S16 32) (k0_hw103 : k0_chk103 v1789), ∀ a x, ((![v1789] : Fin 1 → IVec S16 32) a x).toNat < S16128.size a := fun v1789 k0_hw103 => k0_hw103
def k0_mult129 (k0_t8 : Fin k0_t8_loop.trips) : BitVec 32 :=
  let c0_i32_785 : BitVec 32 := 0#32
  let c0_i32_722 : BitVec 32 := 0#32
  let c1_i32_724 : BitVec 32 := 1#32
  let arg22 : BitVec 32 := Scf.iv c0_i32_722 c1_i32_724 k0_t8
  let c1_i32_784 : BitVec 32 := 1#32
  let v1747 : BitVec 32 := Scalar.muli arg22 c1_i32_784
  let v1748 : BitVec 32 := Scalar.addi c0_i32_785 v1747
  let c256_i32_786 : BitVec 32 := 256#32
  let v1749 : BitVec 32 := Scalar.muli v1748 c256_i32_786
  let c96_i32_794 : BitVec 32 := 96#32
  let v1791 : BitVec 32 := Scalar.addi v1749 c96_i32_794
  v1791
def k0_off109 (k0_t8 : Fin k0_t8_loop.trips) : Fin 1 → Nat :=
  let c0_i32_785 : BitVec 32 := 0#32
  let c0_i32_722 : BitVec 32 := 0#32
  let c1_i32_724 : BitVec 32 := 1#32
  let arg22 : BitVec 32 := Scf.iv c0_i32_722 c1_i32_724 k0_t8
  let c1_i32_784 : BitVec 32 := 1#32
  let v1747 : BitVec 32 := Scalar.muli arg22 c1_i32_784
  let v1748 : BitVec 32 := Scalar.addi c0_i32_785 v1747
  let c256_i32_786 : BitVec 32 := 256#32
  let v1749 : BitVec 32 := Scalar.muli v1748 c256_i32_786
  let c96_i32_794 : BitVec 32 := 96#32
  let v1791 : BitVec 32 := Scalar.addi v1749 c96_i32_794
  let v1792 : BitVec 32 := v1791
  let v1793 : Index := Scalar.indexCast v1792
  ![v1793.toNat]

def k0_chk104 (v1795 : IVec S16 32) : Prop :=
  (∀ a x, ((![v1795] : Fin 1 → IVec S16 32) a x).toNat < S16128.size a)
theorem k0_idx104_inb : ∀ (v1795 : IVec S16 32) (k0_hw104 : k0_chk104 v1795), ∀ a x, ((![v1795] : Fin 1 → IVec S16 32) a x).toNat < S16128.size a := fun v1795 k0_hw104 => k0_hw104
def k0_mult130 (k0_t8 : Fin k0_t8_loop.trips) : BitVec 32 :=
  let c0_i32_785 : BitVec 32 := 0#32
  let c0_i32_722 : BitVec 32 := 0#32
  let c1_i32_724 : BitVec 32 := 1#32
  let arg22 : BitVec 32 := Scf.iv c0_i32_722 c1_i32_724 k0_t8
  let c1_i32_784 : BitVec 32 := 1#32
  let v1747 : BitVec 32 := Scalar.muli arg22 c1_i32_784
  let v1748 : BitVec 32 := Scalar.addi c0_i32_785 v1747
  let c256_i32_786 : BitVec 32 := 256#32
  let v1749 : BitVec 32 := Scalar.muli v1748 c256_i32_786
  let c112_i32_795 : BitVec 32 := 112#32
  let v1797 : BitVec 32 := Scalar.addi v1749 c112_i32_795
  v1797
def k0_off110 (k0_t8 : Fin k0_t8_loop.trips) : Fin 1 → Nat :=
  let c0_i32_785 : BitVec 32 := 0#32
  let c0_i32_722 : BitVec 32 := 0#32
  let c1_i32_724 : BitVec 32 := 1#32
  let arg22 : BitVec 32 := Scf.iv c0_i32_722 c1_i32_724 k0_t8
  let c1_i32_784 : BitVec 32 := 1#32
  let v1747 : BitVec 32 := Scalar.muli arg22 c1_i32_784
  let v1748 : BitVec 32 := Scalar.addi c0_i32_785 v1747
  let c256_i32_786 : BitVec 32 := 256#32
  let v1749 : BitVec 32 := Scalar.muli v1748 c256_i32_786
  let c112_i32_795 : BitVec 32 := 112#32
  let v1797 : BitVec 32 := Scalar.addi v1749 c112_i32_795
  let v1798 : BitVec 32 := v1797
  let v1799 : Index := Scalar.indexCast v1798
  ![v1799.toNat]

def k0_chk105 (v1801 : IVec S16 32) : Prop :=
  (∀ a x, ((![v1801] : Fin 1 → IVec S16 32) a x).toNat < S16128.size a)
theorem k0_idx105_inb : ∀ (v1801 : IVec S16 32) (k0_hw105 : k0_chk105 v1801), ∀ a x, ((![v1801] : Fin 1 → IVec S16 32) a x).toNat < S16128.size a := fun v1801 k0_hw105 => k0_hw105
def k0_mult131 (k0_t8 : Fin k0_t8_loop.trips) : BitVec 32 :=
  let c0_i32_785 : BitVec 32 := 0#32
  let c0_i32_722 : BitVec 32 := 0#32
  let c1_i32_724 : BitVec 32 := 1#32
  let arg22 : BitVec 32 := Scf.iv c0_i32_722 c1_i32_724 k0_t8
  let c1_i32_784 : BitVec 32 := 1#32
  let v1747 : BitVec 32 := Scalar.muli arg22 c1_i32_784
  let v1748 : BitVec 32 := Scalar.addi c0_i32_785 v1747
  let c256_i32_786 : BitVec 32 := 256#32
  let v1749 : BitVec 32 := Scalar.muli v1748 c256_i32_786
  let c128_i32_796 : BitVec 32 := 128#32
  let v1803 : BitVec 32 := Scalar.addi v1749 c128_i32_796
  v1803
def k0_off111 (k0_t8 : Fin k0_t8_loop.trips) : Fin 1 → Nat :=
  let c0_i32_785 : BitVec 32 := 0#32
  let c0_i32_722 : BitVec 32 := 0#32
  let c1_i32_724 : BitVec 32 := 1#32
  let arg22 : BitVec 32 := Scf.iv c0_i32_722 c1_i32_724 k0_t8
  let c1_i32_784 : BitVec 32 := 1#32
  let v1747 : BitVec 32 := Scalar.muli arg22 c1_i32_784
  let v1748 : BitVec 32 := Scalar.addi c0_i32_785 v1747
  let c256_i32_786 : BitVec 32 := 256#32
  let v1749 : BitVec 32 := Scalar.muli v1748 c256_i32_786
  let c128_i32_796 : BitVec 32 := 128#32
  let v1803 : BitVec 32 := Scalar.addi v1749 c128_i32_796
  let v1804 : BitVec 32 := v1803
  let v1805 : Index := Scalar.indexCast v1804
  ![v1805.toNat]

def k0_chk106 (v1807 : IVec S16 32) : Prop :=
  (∀ a x, ((![v1807] : Fin 1 → IVec S16 32) a x).toNat < S16128.size a)
theorem k0_idx106_inb : ∀ (v1807 : IVec S16 32) (k0_hw106 : k0_chk106 v1807), ∀ a x, ((![v1807] : Fin 1 → IVec S16 32) a x).toNat < S16128.size a := fun v1807 k0_hw106 => k0_hw106
def k0_mult132 (k0_t8 : Fin k0_t8_loop.trips) : BitVec 32 :=
  let c0_i32_785 : BitVec 32 := 0#32
  let c0_i32_722 : BitVec 32 := 0#32
  let c1_i32_724 : BitVec 32 := 1#32
  let arg22 : BitVec 32 := Scf.iv c0_i32_722 c1_i32_724 k0_t8
  let c1_i32_784 : BitVec 32 := 1#32
  let v1747 : BitVec 32 := Scalar.muli arg22 c1_i32_784
  let v1748 : BitVec 32 := Scalar.addi c0_i32_785 v1747
  let c256_i32_786 : BitVec 32 := 256#32
  let v1749 : BitVec 32 := Scalar.muli v1748 c256_i32_786
  let c144_i32 : BitVec 32 := 144#32
  let v1809 : BitVec 32 := Scalar.addi v1749 c144_i32
  v1809
def k0_off112 (k0_t8 : Fin k0_t8_loop.trips) : Fin 1 → Nat :=
  let c0_i32_785 : BitVec 32 := 0#32
  let c0_i32_722 : BitVec 32 := 0#32
  let c1_i32_724 : BitVec 32 := 1#32
  let arg22 : BitVec 32 := Scf.iv c0_i32_722 c1_i32_724 k0_t8
  let c1_i32_784 : BitVec 32 := 1#32
  let v1747 : BitVec 32 := Scalar.muli arg22 c1_i32_784
  let v1748 : BitVec 32 := Scalar.addi c0_i32_785 v1747
  let c256_i32_786 : BitVec 32 := 256#32
  let v1749 : BitVec 32 := Scalar.muli v1748 c256_i32_786
  let c144_i32 : BitVec 32 := 144#32
  let v1809 : BitVec 32 := Scalar.addi v1749 c144_i32
  let v1810 : BitVec 32 := v1809
  let v1811 : Index := Scalar.indexCast v1810
  ![v1811.toNat]

def k0_chk107 (v1813 : IVec S16 32) : Prop :=
  (∀ a x, ((![v1813] : Fin 1 → IVec S16 32) a x).toNat < S16128.size a)
theorem k0_idx107_inb : ∀ (v1813 : IVec S16 32) (k0_hw107 : k0_chk107 v1813), ∀ a x, ((![v1813] : Fin 1 → IVec S16 32) a x).toNat < S16128.size a := fun v1813 k0_hw107 => k0_hw107
def k0_mult133 (k0_t8 : Fin k0_t8_loop.trips) : BitVec 32 :=
  let c0_i32_785 : BitVec 32 := 0#32
  let c0_i32_722 : BitVec 32 := 0#32
  let c1_i32_724 : BitVec 32 := 1#32
  let arg22 : BitVec 32 := Scf.iv c0_i32_722 c1_i32_724 k0_t8
  let c1_i32_784 : BitVec 32 := 1#32
  let v1747 : BitVec 32 := Scalar.muli arg22 c1_i32_784
  let v1748 : BitVec 32 := Scalar.addi c0_i32_785 v1747
  let c256_i32_786 : BitVec 32 := 256#32
  let v1749 : BitVec 32 := Scalar.muli v1748 c256_i32_786
  let c160_i32 : BitVec 32 := 160#32
  let v1815 : BitVec 32 := Scalar.addi v1749 c160_i32
  v1815
def k0_off113 (k0_t8 : Fin k0_t8_loop.trips) : Fin 1 → Nat :=
  let c0_i32_785 : BitVec 32 := 0#32
  let c0_i32_722 : BitVec 32 := 0#32
  let c1_i32_724 : BitVec 32 := 1#32
  let arg22 : BitVec 32 := Scf.iv c0_i32_722 c1_i32_724 k0_t8
  let c1_i32_784 : BitVec 32 := 1#32
  let v1747 : BitVec 32 := Scalar.muli arg22 c1_i32_784
  let v1748 : BitVec 32 := Scalar.addi c0_i32_785 v1747
  let c256_i32_786 : BitVec 32 := 256#32
  let v1749 : BitVec 32 := Scalar.muli v1748 c256_i32_786
  let c160_i32 : BitVec 32 := 160#32
  let v1815 : BitVec 32 := Scalar.addi v1749 c160_i32
  let v1816 : BitVec 32 := v1815
  let v1817 : Index := Scalar.indexCast v1816
  ![v1817.toNat]

def k0_chk108 (v1819 : IVec S16 32) : Prop :=
  (∀ a x, ((![v1819] : Fin 1 → IVec S16 32) a x).toNat < S16128.size a)
theorem k0_idx108_inb : ∀ (v1819 : IVec S16 32) (k0_hw108 : k0_chk108 v1819), ∀ a x, ((![v1819] : Fin 1 → IVec S16 32) a x).toNat < S16128.size a := fun v1819 k0_hw108 => k0_hw108
def k0_mult134 (k0_t8 : Fin k0_t8_loop.trips) : BitVec 32 :=
  let c0_i32_785 : BitVec 32 := 0#32
  let c0_i32_722 : BitVec 32 := 0#32
  let c1_i32_724 : BitVec 32 := 1#32
  let arg22 : BitVec 32 := Scf.iv c0_i32_722 c1_i32_724 k0_t8
  let c1_i32_784 : BitVec 32 := 1#32
  let v1747 : BitVec 32 := Scalar.muli arg22 c1_i32_784
  let v1748 : BitVec 32 := Scalar.addi c0_i32_785 v1747
  let c256_i32_786 : BitVec 32 := 256#32
  let v1749 : BitVec 32 := Scalar.muli v1748 c256_i32_786
  let c176_i32 : BitVec 32 := 176#32
  let v1821 : BitVec 32 := Scalar.addi v1749 c176_i32
  v1821
def k0_off114 (k0_t8 : Fin k0_t8_loop.trips) : Fin 1 → Nat :=
  let c0_i32_785 : BitVec 32 := 0#32
  let c0_i32_722 : BitVec 32 := 0#32
  let c1_i32_724 : BitVec 32 := 1#32
  let arg22 : BitVec 32 := Scf.iv c0_i32_722 c1_i32_724 k0_t8
  let c1_i32_784 : BitVec 32 := 1#32
  let v1747 : BitVec 32 := Scalar.muli arg22 c1_i32_784
  let v1748 : BitVec 32 := Scalar.addi c0_i32_785 v1747
  let c256_i32_786 : BitVec 32 := 256#32
  let v1749 : BitVec 32 := Scalar.muli v1748 c256_i32_786
  let c176_i32 : BitVec 32 := 176#32
  let v1821 : BitVec 32 := Scalar.addi v1749 c176_i32
  let v1822 : BitVec 32 := v1821
  let v1823 : Index := Scalar.indexCast v1822
  ![v1823.toNat]

def k0_chk109 (v1825 : IVec S16 32) : Prop :=
  (∀ a x, ((![v1825] : Fin 1 → IVec S16 32) a x).toNat < S16128.size a)
theorem k0_idx109_inb : ∀ (v1825 : IVec S16 32) (k0_hw109 : k0_chk109 v1825), ∀ a x, ((![v1825] : Fin 1 → IVec S16 32) a x).toNat < S16128.size a := fun v1825 k0_hw109 => k0_hw109
def k0_mult135 (k0_t8 : Fin k0_t8_loop.trips) : BitVec 32 :=
  let c0_i32_785 : BitVec 32 := 0#32
  let c0_i32_722 : BitVec 32 := 0#32
  let c1_i32_724 : BitVec 32 := 1#32
  let arg22 : BitVec 32 := Scf.iv c0_i32_722 c1_i32_724 k0_t8
  let c1_i32_784 : BitVec 32 := 1#32
  let v1747 : BitVec 32 := Scalar.muli arg22 c1_i32_784
  let v1748 : BitVec 32 := Scalar.addi c0_i32_785 v1747
  let c256_i32_786 : BitVec 32 := 256#32
  let v1749 : BitVec 32 := Scalar.muli v1748 c256_i32_786
  let c192_i32 : BitVec 32 := 192#32
  let v1827 : BitVec 32 := Scalar.addi v1749 c192_i32
  v1827
def k0_off115 (k0_t8 : Fin k0_t8_loop.trips) : Fin 1 → Nat :=
  let c0_i32_785 : BitVec 32 := 0#32
  let c0_i32_722 : BitVec 32 := 0#32
  let c1_i32_724 : BitVec 32 := 1#32
  let arg22 : BitVec 32 := Scf.iv c0_i32_722 c1_i32_724 k0_t8
  let c1_i32_784 : BitVec 32 := 1#32
  let v1747 : BitVec 32 := Scalar.muli arg22 c1_i32_784
  let v1748 : BitVec 32 := Scalar.addi c0_i32_785 v1747
  let c256_i32_786 : BitVec 32 := 256#32
  let v1749 : BitVec 32 := Scalar.muli v1748 c256_i32_786
  let c192_i32 : BitVec 32 := 192#32
  let v1827 : BitVec 32 := Scalar.addi v1749 c192_i32
  let v1828 : BitVec 32 := v1827
  let v1829 : Index := Scalar.indexCast v1828
  ![v1829.toNat]

def k0_chk110 (v1831 : IVec S16 32) : Prop :=
  (∀ a x, ((![v1831] : Fin 1 → IVec S16 32) a x).toNat < S16128.size a)
theorem k0_idx110_inb : ∀ (v1831 : IVec S16 32) (k0_hw110 : k0_chk110 v1831), ∀ a x, ((![v1831] : Fin 1 → IVec S16 32) a x).toNat < S16128.size a := fun v1831 k0_hw110 => k0_hw110
def k0_mult136 (k0_t8 : Fin k0_t8_loop.trips) : BitVec 32 :=
  let c0_i32_785 : BitVec 32 := 0#32
  let c0_i32_722 : BitVec 32 := 0#32
  let c1_i32_724 : BitVec 32 := 1#32
  let arg22 : BitVec 32 := Scf.iv c0_i32_722 c1_i32_724 k0_t8
  let c1_i32_784 : BitVec 32 := 1#32
  let v1747 : BitVec 32 := Scalar.muli arg22 c1_i32_784
  let v1748 : BitVec 32 := Scalar.addi c0_i32_785 v1747
  let c256_i32_786 : BitVec 32 := 256#32
  let v1749 : BitVec 32 := Scalar.muli v1748 c256_i32_786
  let c208_i32 : BitVec 32 := 208#32
  let v1833 : BitVec 32 := Scalar.addi v1749 c208_i32
  v1833
def k0_off116 (k0_t8 : Fin k0_t8_loop.trips) : Fin 1 → Nat :=
  let c0_i32_785 : BitVec 32 := 0#32
  let c0_i32_722 : BitVec 32 := 0#32
  let c1_i32_724 : BitVec 32 := 1#32
  let arg22 : BitVec 32 := Scf.iv c0_i32_722 c1_i32_724 k0_t8
  let c1_i32_784 : BitVec 32 := 1#32
  let v1747 : BitVec 32 := Scalar.muli arg22 c1_i32_784
  let v1748 : BitVec 32 := Scalar.addi c0_i32_785 v1747
  let c256_i32_786 : BitVec 32 := 256#32
  let v1749 : BitVec 32 := Scalar.muli v1748 c256_i32_786
  let c208_i32 : BitVec 32 := 208#32
  let v1833 : BitVec 32 := Scalar.addi v1749 c208_i32
  let v1834 : BitVec 32 := v1833
  let v1835 : Index := Scalar.indexCast v1834
  ![v1835.toNat]

def k0_chk111 (v1837 : IVec S16 32) : Prop :=
  (∀ a x, ((![v1837] : Fin 1 → IVec S16 32) a x).toNat < S16128.size a)
theorem k0_idx111_inb : ∀ (v1837 : IVec S16 32) (k0_hw111 : k0_chk111 v1837), ∀ a x, ((![v1837] : Fin 1 → IVec S16 32) a x).toNat < S16128.size a := fun v1837 k0_hw111 => k0_hw111
def k0_mult137 (k0_t8 : Fin k0_t8_loop.trips) : BitVec 32 :=
  let c0_i32_785 : BitVec 32 := 0#32
  let c0_i32_722 : BitVec 32 := 0#32
  let c1_i32_724 : BitVec 32 := 1#32
  let arg22 : BitVec 32 := Scf.iv c0_i32_722 c1_i32_724 k0_t8
  let c1_i32_784 : BitVec 32 := 1#32
  let v1747 : BitVec 32 := Scalar.muli arg22 c1_i32_784
  let v1748 : BitVec 32 := Scalar.addi c0_i32_785 v1747
  let c256_i32_786 : BitVec 32 := 256#32
  let v1749 : BitVec 32 := Scalar.muli v1748 c256_i32_786
  let c224_i32 : BitVec 32 := 224#32
  let v1839 : BitVec 32 := Scalar.addi v1749 c224_i32
  v1839
def k0_off117 (k0_t8 : Fin k0_t8_loop.trips) : Fin 1 → Nat :=
  let c0_i32_785 : BitVec 32 := 0#32
  let c0_i32_722 : BitVec 32 := 0#32
  let c1_i32_724 : BitVec 32 := 1#32
  let arg22 : BitVec 32 := Scf.iv c0_i32_722 c1_i32_724 k0_t8
  let c1_i32_784 : BitVec 32 := 1#32
  let v1747 : BitVec 32 := Scalar.muli arg22 c1_i32_784
  let v1748 : BitVec 32 := Scalar.addi c0_i32_785 v1747
  let c256_i32_786 : BitVec 32 := 256#32
  let v1749 : BitVec 32 := Scalar.muli v1748 c256_i32_786
  let c224_i32 : BitVec 32 := 224#32
  let v1839 : BitVec 32 := Scalar.addi v1749 c224_i32
  let v1840 : BitVec 32 := v1839
  let v1841 : Index := Scalar.indexCast v1840
  ![v1841.toNat]

def k0_chk112 (v1843 : IVec S16 32) : Prop :=
  (∀ a x, ((![v1843] : Fin 1 → IVec S16 32) a x).toNat < S16128.size a)
theorem k0_idx112_inb : ∀ (v1843 : IVec S16 32) (k0_hw112 : k0_chk112 v1843), ∀ a x, ((![v1843] : Fin 1 → IVec S16 32) a x).toNat < S16128.size a := fun v1843 k0_hw112 => k0_hw112
def k0_mult138 (k0_t8 : Fin k0_t8_loop.trips) : BitVec 32 :=
  let c0_i32_785 : BitVec 32 := 0#32
  let c0_i32_722 : BitVec 32 := 0#32
  let c1_i32_724 : BitVec 32 := 1#32
  let arg22 : BitVec 32 := Scf.iv c0_i32_722 c1_i32_724 k0_t8
  let c1_i32_784 : BitVec 32 := 1#32
  let v1747 : BitVec 32 := Scalar.muli arg22 c1_i32_784
  let v1748 : BitVec 32 := Scalar.addi c0_i32_785 v1747
  let c256_i32_786 : BitVec 32 := 256#32
  let v1749 : BitVec 32 := Scalar.muli v1748 c256_i32_786
  let c240_i32 : BitVec 32 := 240#32
  let v1845 : BitVec 32 := Scalar.addi v1749 c240_i32
  v1845
def k0_off118 (k0_t8 : Fin k0_t8_loop.trips) : Fin 1 → Nat :=
  let c0_i32_785 : BitVec 32 := 0#32
  let c0_i32_722 : BitVec 32 := 0#32
  let c1_i32_724 : BitVec 32 := 1#32
  let arg22 : BitVec 32 := Scf.iv c0_i32_722 c1_i32_724 k0_t8
  let c1_i32_784 : BitVec 32 := 1#32
  let v1747 : BitVec 32 := Scalar.muli arg22 c1_i32_784
  let v1748 : BitVec 32 := Scalar.addi c0_i32_785 v1747
  let c256_i32_786 : BitVec 32 := 256#32
  let v1749 : BitVec 32 := Scalar.muli v1748 c256_i32_786
  let c240_i32 : BitVec 32 := 240#32
  let v1845 : BitVec 32 := Scalar.addi v1749 c240_i32
  let v1846 : BitVec 32 := v1845
  let v1847 : Index := Scalar.indexCast v1846
  ![v1847.toNat]
def k0_mult139 (i : grid0.Coords) (k0_t5 : Fin k0_t5_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32 : BitVec 32 := 0#32
  let v3 : BitVec 32 := Scalar.addi v2 c0_i32
  let c1984_i32 : BitVec 32 := 1984#32
  let v266 : BitVec 32 := Scalar.muli v3 c1984_i32
  let c256_i32_136 : BitVec 32 := 256#32
  let v267 : BitVec 32 := Scalar.muli v266 c256_i32_136
  let c1_i32_455 : BitVec 32 := 1#32
  let c1_i32_457 : BitVec 32 := 1#32
  let arg20 : BitVec 32 := Scf.iv c1_i32_455 c1_i32_457 k0_t5
  let c4_i32_703 : BitVec 32 := 4#32
  let v1561 : BitVec 32 := Scalar.muli arg20 c4_i32_703
  let c2_i32_704 : BitVec 32 := 2#32
  let v1562 : BitVec 32 := Scalar.addi v1561 c2_i32_704
  let c0_i32_727 : BitVec 32 := 0#32
  let v1610 : BitVec 1 := Scalar.cmpi .sgt v1562 c0_i32_727
  let v1611 : BitVec 32 := Scalar.extui v1610
  let c0_i32_728 : BitVec 32 := 0#32
  let v1612 : BitVec 1 := Scalar.cmpi .slt v1562 c0_i32_728
  let v1613 : BitVec 32 := Scalar.extui v1612
  let v1614 : BitVec 32 := Scalar.subi v1611 v1613
  let c2_i32_726 : BitVec 32 := 2#32
  let c0_i32_729 : BitVec 32 := 0#32
  let v1615 : BitVec 1 := Scalar.cmpi .sgt c2_i32_726 c0_i32_729
  let v1616 : BitVec 32 := Scalar.extui v1615
  let c0_i32_730 : BitVec 32 := 0#32
  let v1617 : BitVec 1 := Scalar.cmpi .slt c2_i32_726 c0_i32_730
  let v1618 : BitVec 32 := Scalar.extui v1617
  let v1619 : BitVec 32 := Scalar.subi v1616 v1618
  let v1620 : BitVec 1 := Scalar.cmpi .ne v1614 v1619
  let v1621 : BitVec 32 := Scalar.remsi v1562 c2_i32_726
  let c0_i32_731 : BitVec 32 := 0#32
  let v1622 : BitVec 1 := Scalar.cmpi .ne v1621 c0_i32_731
  let v1623 : BitVec 1 := Scalar.andi v1620 v1622
  let v1609 : BitVec 32 := Scalar.divsi v1562 c2_i32_726
  let c1_i32_732 : BitVec 32 := 1#32
  let v1624 : BitVec 32 := Scalar.subi v1609 c1_i32_732
  let v1625 : BitVec 32 := Scalar.select v1623 v1624 v1609
  let c15872_i32_733 : BitVec 32 := 15872#32
  let v1626 : BitVec 32 := Scalar.muli v1625 c15872_i32_733
  let v1627 : BitVec 32 := Scalar.addi v267 v1626
  v1627
def k0_mult140 (i : grid0.Coords) (k0_t5 : Fin k0_t5_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32 : BitVec 32 := 0#32
  let v3 : BitVec 32 := Scalar.addi v2 c0_i32
  let c2048_i32 : BitVec 32 := 2048#32
  let v258 : BitVec 32 := Scalar.muli v3 c2048_i32
  let c63_i32 : BitVec 32 := 63#32
  let v130 : BitVec 1 := Scalar.cmpi .eq v3 c63_i32
  let c1763_i32 : BitVec 32 := 1763#32
  let c62_i32 : BitVec 32 := 62#32
  let v128 : BitVec 1 := Scalar.cmpi .eq v3 c62_i32
  let c1196_i32 : BitVec 32 := 1196#32
  let c61_i32 : BitVec 32 := 61#32
  let v126 : BitVec 1 := Scalar.cmpi .eq v3 c61_i32
  let c722_i32 : BitVec 32 := 722#32
  let c60_i32 : BitVec 32 := 60#32
  let v124 : BitVec 1 := Scalar.cmpi .eq v3 c60_i32
  let c3132_i32 : BitVec 32 := 3132#32
  let c59_i32 : BitVec 32 := 59#32
  let v122 : BitVec 1 := Scalar.cmpi .eq v3 c59_i32
  let c2263_i32 : BitVec 32 := 2263#32
  let c58_i32 : BitVec 32 := 58#32
  let v120 : BitVec 1 := Scalar.cmpi .eq v3 c58_i32
  let c7228_i32 : BitVec 32 := 7228#32
  let c57_i32 : BitVec 32 := 57#32
  let v118 : BitVec 1 := Scalar.cmpi .eq v3 c57_i32
  let c6147_i32 : BitVec 32 := 6147#32
  let c56_i32_4 : BitVec 32 := 56#32
  let v116 : BitVec 1 := Scalar.cmpi .eq v3 c56_i32_4
  let c5257_i32 : BitVec 32 := 5257#32
  let c55_i32 : BitVec 32 := 55#32
  let v114 : BitVec 1 := Scalar.cmpi .eq v3 c55_i32
  let c2687_i32 : BitVec 32 := 2687#32
  let c54_i32 : BitVec 32 := 54#32
  let v112 : BitVec 1 := Scalar.cmpi .eq v3 c54_i32
  let c3913_i32 : BitVec 32 := 3913#32
  let c53_i32 : BitVec 32 := 53#32
  let v110 : BitVec 1 := Scalar.cmpi .eq v3 c53_i32
  let c1765_i32 : BitVec 32 := 1765#32
  let c52_i32 : BitVec 32 := 52#32
  let v108 : BitVec 1 := Scalar.cmpi .eq v3 c52_i32
  let c572_i32 : BitVec 32 := 572#32
  let c51_i32 : BitVec 32 := 51#32
  let v106 : BitVec 1 := Scalar.cmpi .eq v3 c51_i32
  let c5479_i32 : BitVec 32 := 5479#32
  let c50_i32 : BitVec 32 := 50#32
  let v104 : BitVec 1 := Scalar.cmpi .eq v3 c50_i32
  let c7351_i32 : BitVec 32 := 7351#32
  let c49_i32 : BitVec 32 := 49#32
  let v102 : BitVec 1 := Scalar.cmpi .eq v3 c49_i32
  let c593_i32 : BitVec 32 := 593#32
  let c48_i32 : BitVec 32 := 48#32
  let v100 : BitVec 1 := Scalar.cmpi .eq v3 c48_i32
  let c7487_i32 : BitVec 32 := 7487#32
  let c47_i32 : BitVec 32 := 47#32
  let v98 : BitVec 1 := Scalar.cmpi .eq v3 c47_i32
  let c3618_i32 : BitVec 32 := 3618#32
  let c46_i32 : BitVec 32 := 46#32
  let v96 : BitVec 1 := Scalar.cmpi .eq v3 c46_i32
  let c6125_i32 : BitVec 32 := 6125#32
  let c45_i32 : BitVec 32 := 45#32
  let v94 : BitVec 1 := Scalar.cmpi .eq v3 c45_i32
  let c2834_i32 : BitVec 32 := 2834#32
  let c44_i32 : BitVec 32 := 44#32
  let v92 : BitVec 1 := Scalar.cmpi .eq v3 c44_i32
  let c4871_i32 : BitVec 32 := 4871#32
  let c43_i32 : BitVec 32 := 43#32
  let v90 : BitVec 1 := Scalar.cmpi .eq v3 c43_i32
  let c1936_i32 : BitVec 32 := 1936#32
  let c42_i32 : BitVec 32 := 42#32
  let v88 : BitVec 1 := Scalar.cmpi .eq v3 c42_i32
  let c2914_i32 : BitVec 32 := 2914#32
  let c41_i32 : BitVec 32 := 41#32
  let v86 : BitVec 1 := Scalar.cmpi .eq v3 c41_i32
  let c3866_i32 : BitVec 32 := 3866#32
  let c40_i32 : BitVec 32 := 40#32
  let v84 : BitVec 1 := Scalar.cmpi .eq v3 c40_i32
  let c1846_i32 : BitVec 32 := 1846#32
  let c39_i32 : BitVec 32 := 39#32
  let v82 : BitVec 1 := Scalar.cmpi .eq v3 c39_i32
  let c7714_i32 : BitVec 32 := 7714#32
  let c38_i32 : BitVec 32 := 38#32
  let v80 : BitVec 1 := Scalar.cmpi .eq v3 c38_i32
  let c3980_i32 : BitVec 32 := 3980#32
  let c37_i32 : BitVec 32 := 37#32
  let v78 : BitVec 1 := Scalar.cmpi .eq v3 c37_i32
  let c6570_i32 : BitVec 32 := 6570#32
  let c36_i32 : BitVec 32 := 36#32
  let v76 : BitVec 1 := Scalar.cmpi .eq v3 c36_i32
  let c2937_i32 : BitVec 32 := 2937#32
  let c35_i32 : BitVec 32 := 35#32
  let v74 : BitVec 1 := Scalar.cmpi .eq v3 c35_i32
  let c1105_i32 : BitVec 32 := 1105#32
  let c34_i32 : BitVec 32 := 34#32
  let v72 : BitVec 1 := Scalar.cmpi .eq v3 c34_i32
  let c5685_i32 : BitVec 32 := 5685#32
  let c33_i32 : BitVec 32 := 33#32
  let v70 : BitVec 1 := Scalar.cmpi .eq v3 c33_i32
  let c1851_i32 : BitVec 32 := 1851#32
  let c32_i32 : BitVec 32 := 32#32
  let v68 : BitVec 1 := Scalar.cmpi .eq v3 c32_i32
  let c2835_i32 : BitVec 32 := 2835#32
  let c31_i32 : BitVec 32 := 31#32
  let v66 : BitVec 1 := Scalar.cmpi .eq v3 c31_i32
  let c6151_i32 : BitVec 32 := 6151#32
  let c30_i32 : BitVec 32 := 30#32
  let v64 : BitVec 1 := Scalar.cmpi .eq v3 c30_i32
  let c2916_i32 : BitVec 32 := 2916#32
  let c29_i32 : BitVec 32 := 29#32
  let v62 : BitVec 1 := Scalar.cmpi .eq v3 c29_i32
  let c4806_i32 : BitVec 32 := 4806#32
  let c28_i32 : BitVec 32 := 28#32
  let v60 : BitVec 1 := Scalar.cmpi .eq v3 c28_i32
  let c2760_i32 : BitVec 32 := 2760#32
  let c27_i32 : BitVec 32 := 27#32
  let v58 : BitVec 1 := Scalar.cmpi .eq v3 c27_i32
  let c2339_i32 : BitVec 32 := 2339#32
  let c26_i32 : BitVec 32 := 26#32
  let v56 : BitVec 1 := Scalar.cmpi .eq v3 c26_i32
  let c5978_i32 : BitVec 32 := 5978#32
  let c25_i32 : BitVec 32 := 25#32
  let v54 : BitVec 1 := Scalar.cmpi .eq v3 c25_i32
  let c6943_i32 : BitVec 32 := 6943#32
  let c24_i32 : BitVec 32 := 24#32
  let v52 : BitVec 1 := Scalar.cmpi .eq v3 c24_i32
  let c7654_i32 : BitVec 32 := 7654#32
  let c23_i32 : BitVec 32 := 23#32
  let v50 : BitVec 1 := Scalar.cmpi .eq v3 c23_i32
  let c3018_i32 : BitVec 32 := 3018#32
  let c22_i32 : BitVec 32 := 22#32
  let v48 : BitVec 1 := Scalar.cmpi .eq v3 c22_i32
  let c56_i32 : BitVec 32 := 56#32
  let c21_i32 : BitVec 32 := 21#32
  let v46 : BitVec 1 := Scalar.cmpi .eq v3 c21_i32
  let c5652_i32 : BitVec 32 := 5652#32
  let c20_i32 : BitVec 32 := 20#32
  let v44 : BitVec 1 := Scalar.cmpi .eq v3 c20_i32
  let c6840_i32 : BitVec 32 := 6840#32
  let c19_i32 : BitVec 32 := 19#32
  let v42 : BitVec 1 := Scalar.cmpi .eq v3 c19_i32
  let c4026_i32 : BitVec 32 := 4026#32
  let c18_i32 : BitVec 32 := 18#32
  let v40 : BitVec 1 := Scalar.cmpi .eq v3 c18_i32
  let c91_i32 : BitVec 32 := 91#32
  let c17_i32 : BitVec 32 := 17#32
  let v38 : BitVec 1 := Scalar.cmpi .eq v3 c17_i32
  let c7767_i32 : BitVec 32 := 7767#32
  let c16_i32 : BitVec 32 := 16#32
  let v36 : BitVec 1 := Scalar.cmpi .eq v3 c16_i32
  let c4241_i32 : BitVec 32 := 4241#32
  let c15_i32 : BitVec 32 := 15#32
  let v34 : BitVec 1 := Scalar.cmpi .eq v3 c15_i32
  let c6170_i32 : BitVec 32 := 6170#32
  let c14_i32 : BitVec 32 := 14#32
  let v32 : BitVec 1 := Scalar.cmpi .eq v3 c14_i32
  let c8174_i32 : BitVec 32 := 8174#32
  let c13_i32 : BitVec 32 := 13#32
  let v30 : BitVec 1 := Scalar.cmpi .eq v3 c13_i32
  let c1378_i32 : BitVec 32 := 1378#32
  let c12_i32 : BitVec 32 := 12#32
  let v28 : BitVec 1 := Scalar.cmpi .eq v3 c12_i32
  let c2562_i32 : BitVec 32 := 2562#32
  let c11_i32 : BitVec 32 := 11#32
  let v26 : BitVec 1 := Scalar.cmpi .eq v3 c11_i32
  let c4161_i32 : BitVec 32 := 4161#32
  let c10_i32 : BitVec 32 := 10#32
  let v24 : BitVec 1 := Scalar.cmpi .eq v3 c10_i32
  let c6176_i32 : BitVec 32 := 6176#32
  let c9_i32 : BitVec 32 := 9#32
  let v22 : BitVec 1 := Scalar.cmpi .eq v3 c9_i32
  let c2818_i32 : BitVec 32 := 2818#32
  let c8_i32 : BitVec 32 := 8#32
  let v20 : BitVec 1 := Scalar.cmpi .eq v3 c8_i32
  let c5970_i32 : BitVec 32 := 5970#32
  let c7_i32 : BitVec 32 := 7#32
  let v18 : BitVec 1 := Scalar.cmpi .eq v3 c7_i32
  let c7573_i32 : BitVec 32 := 7573#32
  let c6_i32 : BitVec 32 := 6#32
  let v16 : BitVec 1 := Scalar.cmpi .eq v3 c6_i32
  let c3350_i32 : BitVec 32 := 3350#32
  let c5_i32 : BitVec 32 := 5#32
  let v14 : BitVec 1 := Scalar.cmpi .eq v3 c5_i32
  let c4780_i32 : BitVec 32 := 4780#32
  let c4_i32 : BitVec 32 := 4#32
  let v12 : BitVec 1 := Scalar.cmpi .eq v3 c4_i32
  let c6560_i32 : BitVec 32 := 6560#32
  let c3_i32 : BitVec 32 := 3#32
  let v10 : BitVec 1 := Scalar.cmpi .eq v3 c3_i32
  let c7017_i32 : BitVec 32 := 7017#32
  let c2_i32_3 : BitVec 32 := 2#32
  let v8 : BitVec 1 := Scalar.cmpi .eq v3 c2_i32_3
  let c736_i32 : BitVec 32 := 736#32
  let c1_i32_2 : BitVec 32 := 1#32
  let v6 : BitVec 1 := Scalar.cmpi .eq v3 c1_i32_2
  let c943_i32 : BitVec 32 := 943#32
  let c7932_i32 : BitVec 32 := 7932#32
  let v7 : BitVec 32 := Scalar.select v6 c943_i32 c7932_i32
  let v9 : BitVec 32 := Scalar.select v8 c736_i32 v7
  let v11 : BitVec 32 := Scalar.select v10 c7017_i32 v9
  let v13 : BitVec 32 := Scalar.select v12 c6560_i32 v11
  let v15 : BitVec 32 := Scalar.select v14 c4780_i32 v13
  let v17 : BitVec 32 := Scalar.select v16 c3350_i32 v15
  let v19 : BitVec 32 := Scalar.select v18 c7573_i32 v17
  let v21 : BitVec 32 := Scalar.select v20 c5970_i32 v19
  let v23 : BitVec 32 := Scalar.select v22 c2818_i32 v21
  let v25 : BitVec 32 := Scalar.select v24 c6176_i32 v23
  let v27 : BitVec 32 := Scalar.select v26 c4161_i32 v25
  let v29 : BitVec 32 := Scalar.select v28 c2562_i32 v27
  let v31 : BitVec 32 := Scalar.select v30 c1378_i32 v29
  let v33 : BitVec 32 := Scalar.select v32 c8174_i32 v31
  let v35 : BitVec 32 := Scalar.select v34 c6170_i32 v33
  let v37 : BitVec 32 := Scalar.select v36 c4241_i32 v35
  let v39 : BitVec 32 := Scalar.select v38 c7767_i32 v37
  let v41 : BitVec 32 := Scalar.select v40 c91_i32 v39
  let v43 : BitVec 32 := Scalar.select v42 c4026_i32 v41
  let v45 : BitVec 32 := Scalar.select v44 c6840_i32 v43
  let v47 : BitVec 32 := Scalar.select v46 c5652_i32 v45
  let v49 : BitVec 32 := Scalar.select v48 c56_i32 v47
  let v51 : BitVec 32 := Scalar.select v50 c3018_i32 v49
  let v53 : BitVec 32 := Scalar.select v52 c7654_i32 v51
  let v55 : BitVec 32 := Scalar.select v54 c6943_i32 v53
  let v57 : BitVec 32 := Scalar.select v56 c5978_i32 v55
  let v59 : BitVec 32 := Scalar.select v58 c2339_i32 v57
  let v61 : BitVec 32 := Scalar.select v60 c2760_i32 v59
  let v63 : BitVec 32 := Scalar.select v62 c4806_i32 v61
  let v65 : BitVec 32 := Scalar.select v64 c2916_i32 v63
  let v67 : BitVec 32 := Scalar.select v66 c6151_i32 v65
  let v69 : BitVec 32 := Scalar.select v68 c2835_i32 v67
  let v71 : BitVec 32 := Scalar.select v70 c1851_i32 v69
  let v73 : BitVec 32 := Scalar.select v72 c5685_i32 v71
  let v75 : BitVec 32 := Scalar.select v74 c1105_i32 v73
  let v77 : BitVec 32 := Scalar.select v76 c2937_i32 v75
  let v79 : BitVec 32 := Scalar.select v78 c6570_i32 v77
  let v81 : BitVec 32 := Scalar.select v80 c3980_i32 v79
  let v83 : BitVec 32 := Scalar.select v82 c7714_i32 v81
  let v85 : BitVec 32 := Scalar.select v84 c1846_i32 v83
  let v87 : BitVec 32 := Scalar.select v86 c3866_i32 v85
  let v89 : BitVec 32 := Scalar.select v88 c2914_i32 v87
  let v91 : BitVec 32 := Scalar.select v90 c1936_i32 v89
  let v93 : BitVec 32 := Scalar.select v92 c4871_i32 v91
  let v95 : BitVec 32 := Scalar.select v94 c2834_i32 v93
  let v97 : BitVec 32 := Scalar.select v96 c6125_i32 v95
  let v99 : BitVec 32 := Scalar.select v98 c3618_i32 v97
  let v101 : BitVec 32 := Scalar.select v100 c7487_i32 v99
  let v103 : BitVec 32 := Scalar.select v102 c593_i32 v101
  let v105 : BitVec 32 := Scalar.select v104 c7351_i32 v103
  let v107 : BitVec 32 := Scalar.select v106 c5479_i32 v105
  let v109 : BitVec 32 := Scalar.select v108 c572_i32 v107
  let v111 : BitVec 32 := Scalar.select v110 c1765_i32 v109
  let v113 : BitVec 32 := Scalar.select v112 c3913_i32 v111
  let v115 : BitVec 32 := Scalar.select v114 c2687_i32 v113
  let v117 : BitVec 32 := Scalar.select v116 c5257_i32 v115
  let v119 : BitVec 32 := Scalar.select v118 c6147_i32 v117
  let v121 : BitVec 32 := Scalar.select v120 c7228_i32 v119
  let v123 : BitVec 32 := Scalar.select v122 c2263_i32 v121
  let v125 : BitVec 32 := Scalar.select v124 c3132_i32 v123
  let v127 : BitVec 32 := Scalar.select v126 c722_i32 v125
  let v129 : BitVec 32 := Scalar.select v128 c1196_i32 v127
  let v131 : BitVec 32 := Scalar.select v130 c1763_i32 v129
  let c7_i32_132 : BitVec 32 := 7#32
  let v259 : BitVec 32 := Scalar.shrsi v131 c7_i32_132
  let v260 : BitVec 32 := Scalar.addi v258 v259
  let c256_i32 : BitVec 32 := 256#32
  let v261 : BitVec 32 := Scalar.muli v260 c256_i32
  let c1_i32_455 : BitVec 32 := 1#32
  let c1_i32_457 : BitVec 32 := 1#32
  let arg20 : BitVec 32 := Scf.iv c1_i32_455 c1_i32_457 k0_t5
  let c4_i32_703 : BitVec 32 := 4#32
  let v1561 : BitVec 32 := Scalar.muli arg20 c4_i32_703
  let c2_i32_704 : BitVec 32 := 2#32
  let v1562 : BitVec 32 := Scalar.addi v1561 c2_i32_704
  let c4_i32_734 : BitVec 32 := 4#32
  let v1631 : BitVec 32 := Scalar.addi v1562 c4_i32_734
  let c0_i32_736 : BitVec 32 := 0#32
  let v1633 : BitVec 1 := Scalar.cmpi .sgt v1631 c0_i32_736
  let v1634 : BitVec 32 := Scalar.extui v1633
  let c0_i32_737 : BitVec 32 := 0#32
  let v1635 : BitVec 1 := Scalar.cmpi .slt v1631 c0_i32_737
  let v1636 : BitVec 32 := Scalar.extui v1635
  let v1637 : BitVec 32 := Scalar.subi v1634 v1636
  let c2_i32_735 : BitVec 32 := 2#32
  let c0_i32_738 : BitVec 32 := 0#32
  let v1638 : BitVec 1 := Scalar.cmpi .sgt c2_i32_735 c0_i32_738
  let v1639 : BitVec 32 := Scalar.extui v1638
  let c0_i32_739 : BitVec 32 := 0#32
  let v1640 : BitVec 1 := Scalar.cmpi .slt c2_i32_735 c0_i32_739
  let v1641 : BitVec 32 := Scalar.extui v1640
  let v1642 : BitVec 32 := Scalar.subi v1639 v1641
  let v1643 : BitVec 1 := Scalar.cmpi .ne v1637 v1642
  let v1644 : BitVec 32 := Scalar.remsi v1631 c2_i32_735
  let c0_i32_740 : BitVec 32 := 0#32
  let v1645 : BitVec 1 := Scalar.cmpi .ne v1644 c0_i32_740
  let v1646 : BitVec 1 := Scalar.andi v1643 v1645
  let v1632 : BitVec 32 := Scalar.divsi v1631 c2_i32_735
  let c1_i32_741 : BitVec 32 := 1#32
  let v1647 : BitVec 32 := Scalar.subi v1632 c1_i32_741
  let v1648 : BitVec 32 := Scalar.select v1646 v1647 v1632
  let c15872_i32_742 : BitVec 32 := 15872#32
  let v1649 : BitVec 32 := Scalar.muli v1648 c15872_i32_742
  let v1650 : BitVec 32 := Scalar.addi v261 v1649
  v1650
def k0_mult141 (i : grid0.Coords) (k0_t5 : Fin k0_t5_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_1 : BitVec 32 := 2#32
  let v4 : BitVec 32 := Scalar.muli v1 c2_i32_1
  let c1_i32 : BitVec 32 := 1#32
  let v5 : BitVec 32 := Scalar.addi v4 c1_i32
  let c2048_i32_133 : BitVec 32 := 2048#32
  let v262 : BitVec 32 := Scalar.muli v5 c2048_i32_133
  let c63_i32_130 : BitVec 32 := 63#32
  let v256 : BitVec 1 := Scalar.cmpi .eq v5 c63_i32_130
  let c1763_i32_131 : BitVec 32 := 1763#32
  let c62_i32_128 : BitVec 32 := 62#32
  let v254 : BitVec 1 := Scalar.cmpi .eq v5 c62_i32_128
  let c1196_i32_129 : BitVec 32 := 1196#32
  let c61_i32_126 : BitVec 32 := 61#32
  let v252 : BitVec 1 := Scalar.cmpi .eq v5 c61_i32_126
  let c722_i32_127 : BitVec 32 := 722#32
  let c60_i32_124 : BitVec 32 := 60#32
  let v250 : BitVec 1 := Scalar.cmpi .eq v5 c60_i32_124
  let c3132_i32_125 : BitVec 32 := 3132#32
  let c59_i32_122 : BitVec 32 := 59#32
  let v248 : BitVec 1 := Scalar.cmpi .eq v5 c59_i32_122
  let c2263_i32_123 : BitVec 32 := 2263#32
  let c58_i32_120 : BitVec 32 := 58#32
  let v246 : BitVec 1 := Scalar.cmpi .eq v5 c58_i32_120
  let c7228_i32_121 : BitVec 32 := 7228#32
  let c57_i32_118 : BitVec 32 := 57#32
  let v244 : BitVec 1 := Scalar.cmpi .eq v5 c57_i32_118
  let c6147_i32_119 : BitVec 32 := 6147#32
  let c56_i32_116 : BitVec 32 := 56#32
  let v242 : BitVec 1 := Scalar.cmpi .eq v5 c56_i32_116
  let c5257_i32_117 : BitVec 32 := 5257#32
  let c55_i32_114 : BitVec 32 := 55#32
  let v240 : BitVec 1 := Scalar.cmpi .eq v5 c55_i32_114
  let c2687_i32_115 : BitVec 32 := 2687#32
  let c54_i32_112 : BitVec 32 := 54#32
  let v238 : BitVec 1 := Scalar.cmpi .eq v5 c54_i32_112
  let c3913_i32_113 : BitVec 32 := 3913#32
  let c53_i32_110 : BitVec 32 := 53#32
  let v236 : BitVec 1 := Scalar.cmpi .eq v5 c53_i32_110
  let c1765_i32_111 : BitVec 32 := 1765#32
  let c52_i32_108 : BitVec 32 := 52#32
  let v234 : BitVec 1 := Scalar.cmpi .eq v5 c52_i32_108
  let c572_i32_109 : BitVec 32 := 572#32
  let c51_i32_106 : BitVec 32 := 51#32
  let v232 : BitVec 1 := Scalar.cmpi .eq v5 c51_i32_106
  let c5479_i32_107 : BitVec 32 := 5479#32
  let c50_i32_104 : BitVec 32 := 50#32
  let v230 : BitVec 1 := Scalar.cmpi .eq v5 c50_i32_104
  let c7351_i32_105 : BitVec 32 := 7351#32
  let c49_i32_102 : BitVec 32 := 49#32
  let v228 : BitVec 1 := Scalar.cmpi .eq v5 c49_i32_102
  let c593_i32_103 : BitVec 32 := 593#32
  let c48_i32_100 : BitVec 32 := 48#32
  let v226 : BitVec 1 := Scalar.cmpi .eq v5 c48_i32_100
  let c7487_i32_101 : BitVec 32 := 7487#32
  let c47_i32_98 : BitVec 32 := 47#32
  let v224 : BitVec 1 := Scalar.cmpi .eq v5 c47_i32_98
  let c3618_i32_99 : BitVec 32 := 3618#32
  let c46_i32_96 : BitVec 32 := 46#32
  let v222 : BitVec 1 := Scalar.cmpi .eq v5 c46_i32_96
  let c6125_i32_97 : BitVec 32 := 6125#32
  let c45_i32_94 : BitVec 32 := 45#32
  let v220 : BitVec 1 := Scalar.cmpi .eq v5 c45_i32_94
  let c2834_i32_95 : BitVec 32 := 2834#32
  let c44_i32_92 : BitVec 32 := 44#32
  let v218 : BitVec 1 := Scalar.cmpi .eq v5 c44_i32_92
  let c4871_i32_93 : BitVec 32 := 4871#32
  let c43_i32_90 : BitVec 32 := 43#32
  let v216 : BitVec 1 := Scalar.cmpi .eq v5 c43_i32_90
  let c1936_i32_91 : BitVec 32 := 1936#32
  let c42_i32_88 : BitVec 32 := 42#32
  let v214 : BitVec 1 := Scalar.cmpi .eq v5 c42_i32_88
  let c2914_i32_89 : BitVec 32 := 2914#32
  let c41_i32_86 : BitVec 32 := 41#32
  let v212 : BitVec 1 := Scalar.cmpi .eq v5 c41_i32_86
  let c3866_i32_87 : BitVec 32 := 3866#32
  let c40_i32_84 : BitVec 32 := 40#32
  let v210 : BitVec 1 := Scalar.cmpi .eq v5 c40_i32_84
  let c1846_i32_85 : BitVec 32 := 1846#32
  let c39_i32_82 : BitVec 32 := 39#32
  let v208 : BitVec 1 := Scalar.cmpi .eq v5 c39_i32_82
  let c7714_i32_83 : BitVec 32 := 7714#32
  let c38_i32_80 : BitVec 32 := 38#32
  let v206 : BitVec 1 := Scalar.cmpi .eq v5 c38_i32_80
  let c3980_i32_81 : BitVec 32 := 3980#32
  let c37_i32_78 : BitVec 32 := 37#32
  let v204 : BitVec 1 := Scalar.cmpi .eq v5 c37_i32_78
  let c6570_i32_79 : BitVec 32 := 6570#32
  let c36_i32_76 : BitVec 32 := 36#32
  let v202 : BitVec 1 := Scalar.cmpi .eq v5 c36_i32_76
  let c2937_i32_77 : BitVec 32 := 2937#32
  let c35_i32_74 : BitVec 32 := 35#32
  let v200 : BitVec 1 := Scalar.cmpi .eq v5 c35_i32_74
  let c1105_i32_75 : BitVec 32 := 1105#32
  let c34_i32_72 : BitVec 32 := 34#32
  let v198 : BitVec 1 := Scalar.cmpi .eq v5 c34_i32_72
  let c5685_i32_73 : BitVec 32 := 5685#32
  let c33_i32_70 : BitVec 32 := 33#32
  let v196 : BitVec 1 := Scalar.cmpi .eq v5 c33_i32_70
  let c1851_i32_71 : BitVec 32 := 1851#32
  let c32_i32_68 : BitVec 32 := 32#32
  let v194 : BitVec 1 := Scalar.cmpi .eq v5 c32_i32_68
  let c2835_i32_69 : BitVec 32 := 2835#32
  let c31_i32_66 : BitVec 32 := 31#32
  let v192 : BitVec 1 := Scalar.cmpi .eq v5 c31_i32_66
  let c6151_i32_67 : BitVec 32 := 6151#32
  let c30_i32_64 : BitVec 32 := 30#32
  let v190 : BitVec 1 := Scalar.cmpi .eq v5 c30_i32_64
  let c2916_i32_65 : BitVec 32 := 2916#32
  let c29_i32_62 : BitVec 32 := 29#32
  let v188 : BitVec 1 := Scalar.cmpi .eq v5 c29_i32_62
  let c4806_i32_63 : BitVec 32 := 4806#32
  let c28_i32_60 : BitVec 32 := 28#32
  let v186 : BitVec 1 := Scalar.cmpi .eq v5 c28_i32_60
  let c2760_i32_61 : BitVec 32 := 2760#32
  let c27_i32_58 : BitVec 32 := 27#32
  let v184 : BitVec 1 := Scalar.cmpi .eq v5 c27_i32_58
  let c2339_i32_59 : BitVec 32 := 2339#32
  let c26_i32_56 : BitVec 32 := 26#32
  let v182 : BitVec 1 := Scalar.cmpi .eq v5 c26_i32_56
  let c5978_i32_57 : BitVec 32 := 5978#32
  let c25_i32_54 : BitVec 32 := 25#32
  let v180 : BitVec 1 := Scalar.cmpi .eq v5 c25_i32_54
  let c6943_i32_55 : BitVec 32 := 6943#32
  let c24_i32_52 : BitVec 32 := 24#32
  let v178 : BitVec 1 := Scalar.cmpi .eq v5 c24_i32_52
  let c7654_i32_53 : BitVec 32 := 7654#32
  let c23_i32_50 : BitVec 32 := 23#32
  let v176 : BitVec 1 := Scalar.cmpi .eq v5 c23_i32_50
  let c3018_i32_51 : BitVec 32 := 3018#32
  let c22_i32_48 : BitVec 32 := 22#32
  let v174 : BitVec 1 := Scalar.cmpi .eq v5 c22_i32_48
  let c56_i32_49 : BitVec 32 := 56#32
  let c21_i32_46 : BitVec 32 := 21#32
  let v172 : BitVec 1 := Scalar.cmpi .eq v5 c21_i32_46
  let c5652_i32_47 : BitVec 32 := 5652#32
  let c20_i32_44 : BitVec 32 := 20#32
  let v170 : BitVec 1 := Scalar.cmpi .eq v5 c20_i32_44
  let c6840_i32_45 : BitVec 32 := 6840#32
  let c19_i32_42 : BitVec 32 := 19#32
  let v168 : BitVec 1 := Scalar.cmpi .eq v5 c19_i32_42
  let c4026_i32_43 : BitVec 32 := 4026#32
  let c18_i32_40 : BitVec 32 := 18#32
  let v166 : BitVec 1 := Scalar.cmpi .eq v5 c18_i32_40
  let c91_i32_41 : BitVec 32 := 91#32
  let c17_i32_38 : BitVec 32 := 17#32
  let v164 : BitVec 1 := Scalar.cmpi .eq v5 c17_i32_38
  let c7767_i32_39 : BitVec 32 := 7767#32
  let c16_i32_36 : BitVec 32 := 16#32
  let v162 : BitVec 1 := Scalar.cmpi .eq v5 c16_i32_36
  let c4241_i32_37 : BitVec 32 := 4241#32
  let c15_i32_34 : BitVec 32 := 15#32
  let v160 : BitVec 1 := Scalar.cmpi .eq v5 c15_i32_34
  let c6170_i32_35 : BitVec 32 := 6170#32
  let c14_i32_32 : BitVec 32 := 14#32
  let v158 : BitVec 1 := Scalar.cmpi .eq v5 c14_i32_32
  let c8174_i32_33 : BitVec 32 := 8174#32
  let c13_i32_30 : BitVec 32 := 13#32
  let v156 : BitVec 1 := Scalar.cmpi .eq v5 c13_i32_30
  let c1378_i32_31 : BitVec 32 := 1378#32
  let c12_i32_28 : BitVec 32 := 12#32
  let v154 : BitVec 1 := Scalar.cmpi .eq v5 c12_i32_28
  let c2562_i32_29 : BitVec 32 := 2562#32
  let c11_i32_26 : BitVec 32 := 11#32
  let v152 : BitVec 1 := Scalar.cmpi .eq v5 c11_i32_26
  let c4161_i32_27 : BitVec 32 := 4161#32
  let c10_i32_24 : BitVec 32 := 10#32
  let v150 : BitVec 1 := Scalar.cmpi .eq v5 c10_i32_24
  let c6176_i32_25 : BitVec 32 := 6176#32
  let c9_i32_22 : BitVec 32 := 9#32
  let v148 : BitVec 1 := Scalar.cmpi .eq v5 c9_i32_22
  let c2818_i32_23 : BitVec 32 := 2818#32
  let c8_i32_20 : BitVec 32 := 8#32
  let v146 : BitVec 1 := Scalar.cmpi .eq v5 c8_i32_20
  let c5970_i32_21 : BitVec 32 := 5970#32
  let c7_i32_18 : BitVec 32 := 7#32
  let v144 : BitVec 1 := Scalar.cmpi .eq v5 c7_i32_18
  let c7573_i32_19 : BitVec 32 := 7573#32
  let c6_i32_16 : BitVec 32 := 6#32
  let v142 : BitVec 1 := Scalar.cmpi .eq v5 c6_i32_16
  let c3350_i32_17 : BitVec 32 := 3350#32
  let c5_i32_14 : BitVec 32 := 5#32
  let v140 : BitVec 1 := Scalar.cmpi .eq v5 c5_i32_14
  let c4780_i32_15 : BitVec 32 := 4780#32
  let c4_i32_12 : BitVec 32 := 4#32
  let v138 : BitVec 1 := Scalar.cmpi .eq v5 c4_i32_12
  let c6560_i32_13 : BitVec 32 := 6560#32
  let c3_i32_10 : BitVec 32 := 3#32
  let v136 : BitVec 1 := Scalar.cmpi .eq v5 c3_i32_10
  let c7017_i32_11 : BitVec 32 := 7017#32
  let c2_i32_8 : BitVec 32 := 2#32
  let v134 : BitVec 1 := Scalar.cmpi .eq v5 c2_i32_8
  let c736_i32_9 : BitVec 32 := 736#32
  let c1_i32_5 : BitVec 32 := 1#32
  let v132 : BitVec 1 := Scalar.cmpi .eq v5 c1_i32_5
  let c943_i32_7 : BitVec 32 := 943#32
  let c7932_i32_6 : BitVec 32 := 7932#32
  let v133 : BitVec 32 := Scalar.select v132 c943_i32_7 c7932_i32_6
  let v135 : BitVec 32 := Scalar.select v134 c736_i32_9 v133
  let v137 : BitVec 32 := Scalar.select v136 c7017_i32_11 v135
  let v139 : BitVec 32 := Scalar.select v138 c6560_i32_13 v137
  let v141 : BitVec 32 := Scalar.select v140 c4780_i32_15 v139
  let v143 : BitVec 32 := Scalar.select v142 c3350_i32_17 v141
  let v145 : BitVec 32 := Scalar.select v144 c7573_i32_19 v143
  let v147 : BitVec 32 := Scalar.select v146 c5970_i32_21 v145
  let v149 : BitVec 32 := Scalar.select v148 c2818_i32_23 v147
  let v151 : BitVec 32 := Scalar.select v150 c6176_i32_25 v149
  let v153 : BitVec 32 := Scalar.select v152 c4161_i32_27 v151
  let v155 : BitVec 32 := Scalar.select v154 c2562_i32_29 v153
  let v157 : BitVec 32 := Scalar.select v156 c1378_i32_31 v155
  let v159 : BitVec 32 := Scalar.select v158 c8174_i32_33 v157
  let v161 : BitVec 32 := Scalar.select v160 c6170_i32_35 v159
  let v163 : BitVec 32 := Scalar.select v162 c4241_i32_37 v161
  let v165 : BitVec 32 := Scalar.select v164 c7767_i32_39 v163
  let v167 : BitVec 32 := Scalar.select v166 c91_i32_41 v165
  let v169 : BitVec 32 := Scalar.select v168 c4026_i32_43 v167
  let v171 : BitVec 32 := Scalar.select v170 c6840_i32_45 v169
  let v173 : BitVec 32 := Scalar.select v172 c5652_i32_47 v171
  let v175 : BitVec 32 := Scalar.select v174 c56_i32_49 v173
  let v177 : BitVec 32 := Scalar.select v176 c3018_i32_51 v175
  let v179 : BitVec 32 := Scalar.select v178 c7654_i32_53 v177
  let v181 : BitVec 32 := Scalar.select v180 c6943_i32_55 v179
  let v183 : BitVec 32 := Scalar.select v182 c5978_i32_57 v181
  let v185 : BitVec 32 := Scalar.select v184 c2339_i32_59 v183
  let v187 : BitVec 32 := Scalar.select v186 c2760_i32_61 v185
  let v189 : BitVec 32 := Scalar.select v188 c4806_i32_63 v187
  let v191 : BitVec 32 := Scalar.select v190 c2916_i32_65 v189
  let v193 : BitVec 32 := Scalar.select v192 c6151_i32_67 v191
  let v195 : BitVec 32 := Scalar.select v194 c2835_i32_69 v193
  let v197 : BitVec 32 := Scalar.select v196 c1851_i32_71 v195
  let v199 : BitVec 32 := Scalar.select v198 c5685_i32_73 v197
  let v201 : BitVec 32 := Scalar.select v200 c1105_i32_75 v199
  let v203 : BitVec 32 := Scalar.select v202 c2937_i32_77 v201
  let v205 : BitVec 32 := Scalar.select v204 c6570_i32_79 v203
  let v207 : BitVec 32 := Scalar.select v206 c3980_i32_81 v205
  let v209 : BitVec 32 := Scalar.select v208 c7714_i32_83 v207
  let v211 : BitVec 32 := Scalar.select v210 c1846_i32_85 v209
  let v213 : BitVec 32 := Scalar.select v212 c3866_i32_87 v211
  let v215 : BitVec 32 := Scalar.select v214 c2914_i32_89 v213
  let v217 : BitVec 32 := Scalar.select v216 c1936_i32_91 v215
  let v219 : BitVec 32 := Scalar.select v218 c4871_i32_93 v217
  let v221 : BitVec 32 := Scalar.select v220 c2834_i32_95 v219
  let v223 : BitVec 32 := Scalar.select v222 c6125_i32_97 v221
  let v225 : BitVec 32 := Scalar.select v224 c3618_i32_99 v223
  let v227 : BitVec 32 := Scalar.select v226 c7487_i32_101 v225
  let v229 : BitVec 32 := Scalar.select v228 c593_i32_103 v227
  let v231 : BitVec 32 := Scalar.select v230 c7351_i32_105 v229
  let v233 : BitVec 32 := Scalar.select v232 c5479_i32_107 v231
  let v235 : BitVec 32 := Scalar.select v234 c572_i32_109 v233
  let v237 : BitVec 32 := Scalar.select v236 c1765_i32_111 v235
  let v239 : BitVec 32 := Scalar.select v238 c3913_i32_113 v237
  let v241 : BitVec 32 := Scalar.select v240 c2687_i32_115 v239
  let v243 : BitVec 32 := Scalar.select v242 c5257_i32_117 v241
  let v245 : BitVec 32 := Scalar.select v244 c6147_i32_119 v243
  let v247 : BitVec 32 := Scalar.select v246 c7228_i32_121 v245
  let v249 : BitVec 32 := Scalar.select v248 c2263_i32_123 v247
  let v251 : BitVec 32 := Scalar.select v250 c3132_i32_125 v249
  let v253 : BitVec 32 := Scalar.select v252 c722_i32_127 v251
  let v255 : BitVec 32 := Scalar.select v254 c1196_i32_129 v253
  let v257 : BitVec 32 := Scalar.select v256 c1763_i32_131 v255
  let c7_i32_134 : BitVec 32 := 7#32
  let v263 : BitVec 32 := Scalar.shrsi v257 c7_i32_134
  let v264 : BitVec 32 := Scalar.addi v262 v263
  let c256_i32_135 : BitVec 32 := 256#32
  let v265 : BitVec 32 := Scalar.muli v264 c256_i32_135
  let c1_i32_455 : BitVec 32 := 1#32
  let c1_i32_457 : BitVec 32 := 1#32
  let arg20 : BitVec 32 := Scf.iv c1_i32_455 c1_i32_457 k0_t5
  let c4_i32_743 : BitVec 32 := 4#32
  let v1654 : BitVec 32 := Scalar.muli arg20 c4_i32_743
  let c3_i32_744 : BitVec 32 := 3#32
  let v1655 : BitVec 32 := Scalar.addi v1654 c3_i32_744
  let c0_i32_746 : BitVec 32 := 0#32
  let v1657 : BitVec 1 := Scalar.cmpi .sgt v1655 c0_i32_746
  let v1658 : BitVec 32 := Scalar.extui v1657
  let c0_i32_747 : BitVec 32 := 0#32
  let v1659 : BitVec 1 := Scalar.cmpi .slt v1655 c0_i32_747
  let v1660 : BitVec 32 := Scalar.extui v1659
  let v1661 : BitVec 32 := Scalar.subi v1658 v1660
  let c2_i32_745 : BitVec 32 := 2#32
  let c0_i32_748 : BitVec 32 := 0#32
  let v1662 : BitVec 1 := Scalar.cmpi .sgt c2_i32_745 c0_i32_748
  let v1663 : BitVec 32 := Scalar.extui v1662
  let c0_i32_749 : BitVec 32 := 0#32
  let v1664 : BitVec 1 := Scalar.cmpi .slt c2_i32_745 c0_i32_749
  let v1665 : BitVec 32 := Scalar.extui v1664
  let v1666 : BitVec 32 := Scalar.subi v1663 v1665
  let v1667 : BitVec 1 := Scalar.cmpi .ne v1661 v1666
  let v1668 : BitVec 32 := Scalar.remsi v1655 c2_i32_745
  let c0_i32_750 : BitVec 32 := 0#32
  let v1669 : BitVec 1 := Scalar.cmpi .ne v1668 c0_i32_750
  let v1670 : BitVec 1 := Scalar.andi v1667 v1669
  let v1656 : BitVec 32 := Scalar.divsi v1655 c2_i32_745
  let c1_i32_751 : BitVec 32 := 1#32
  let v1671 : BitVec 32 := Scalar.subi v1656 c1_i32_751
  let v1672 : BitVec 32 := Scalar.select v1670 v1671 v1656
  let c15872_i32_752 : BitVec 32 := 15872#32
  let v1673 : BitVec 32 := Scalar.muli v1672 c15872_i32_752
  let v1674 : BitVec 32 := Scalar.addi v265 v1673
  v1674
def k0_mult142 (i : grid0.Coords) (k0_t5 : Fin k0_t5_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_1 : BitVec 32 := 2#32
  let v4 : BitVec 32 := Scalar.muli v1 c2_i32_1
  let c1_i32 : BitVec 32 := 1#32
  let v5 : BitVec 32 := Scalar.addi v4 c1_i32
  let c1984_i32_137 : BitVec 32 := 1984#32
  let v268 : BitVec 32 := Scalar.muli v5 c1984_i32_137
  let c256_i32_138 : BitVec 32 := 256#32
  let v269 : BitVec 32 := Scalar.muli v268 c256_i32_138
  let c1_i32_455 : BitVec 32 := 1#32
  let c1_i32_457 : BitVec 32 := 1#32
  let arg20 : BitVec 32 := Scf.iv c1_i32_455 c1_i32_457 k0_t5
  let c4_i32_743 : BitVec 32 := 4#32
  let v1654 : BitVec 32 := Scalar.muli arg20 c4_i32_743
  let c3_i32_744 : BitVec 32 := 3#32
  let v1655 : BitVec 32 := Scalar.addi v1654 c3_i32_744
  let c4_i32_753 : BitVec 32 := 4#32
  let v1678 : BitVec 32 := Scalar.subi v1655 c4_i32_753
  let c0_i32_755 : BitVec 32 := 0#32
  let v1680 : BitVec 1 := Scalar.cmpi .sgt v1678 c0_i32_755
  let v1681 : BitVec 32 := Scalar.extui v1680
  let c0_i32_756 : BitVec 32 := 0#32
  let v1682 : BitVec 1 := Scalar.cmpi .slt v1678 c0_i32_756
  let v1683 : BitVec 32 := Scalar.extui v1682
  let v1684 : BitVec 32 := Scalar.subi v1681 v1683
  let c2_i32_754 : BitVec 32 := 2#32
  let c0_i32_757 : BitVec 32 := 0#32
  let v1685 : BitVec 1 := Scalar.cmpi .sgt c2_i32_754 c0_i32_757
  let v1686 : BitVec 32 := Scalar.extui v1685
  let c0_i32_758 : BitVec 32 := 0#32
  let v1687 : BitVec 1 := Scalar.cmpi .slt c2_i32_754 c0_i32_758
  let v1688 : BitVec 32 := Scalar.extui v1687
  let v1689 : BitVec 32 := Scalar.subi v1686 v1688
  let v1690 : BitVec 1 := Scalar.cmpi .ne v1684 v1689
  let v1691 : BitVec 32 := Scalar.remsi v1678 c2_i32_754
  let c0_i32_759 : BitVec 32 := 0#32
  let v1692 : BitVec 1 := Scalar.cmpi .ne v1691 c0_i32_759
  let v1693 : BitVec 1 := Scalar.andi v1690 v1692
  let v1679 : BitVec 32 := Scalar.divsi v1678 c2_i32_754
  let c1_i32_760 : BitVec 32 := 1#32
  let v1694 : BitVec 32 := Scalar.subi v1679 c1_i32_760
  let v1695 : BitVec 32 := Scalar.select v1693 v1694 v1679
  let c15872_i32_761 : BitVec 32 := 15872#32
  let v1696 : BitVec 32 := Scalar.muli v1695 c15872_i32_761
  let v1697 : BitVec 32 := Scalar.addi v269 v1696
  v1697
@[reducible] def k0_t9_loop : Scf.Loop 32 :=
  let c0_i32_762 : BitVec 32 := 0#32
  let c62_i32_763 : BitVec 32 := 62#32
  let v1701 : BitVec 32 := Scalar.addi c0_i32_762 c62_i32_763
  let c1_i32_764 : BitVec 32 := 1#32
  ⟨c0_i32_762, v1701, c1_i32_764⟩

def k0_chk113 (v1753 : IVec S16 32) : Prop :=
  (∀ a x, ((![v1753] : Fin 1 → IVec S16 32) a x).toNat < S16128.size a)
theorem k0_idx113_inb : ∀ (v1753 : IVec S16 32) (k0_hw113 : k0_chk113 v1753), ∀ a x, ((![v1753] : Fin 1 → IVec S16 32) a x).toNat < S16128.size a := fun v1753 k0_hw113 => k0_hw113
def k0_mult143 (k0_t9 : Fin k0_t9_loop.trips) : BitVec 32 :=
  let c0_i32_785 : BitVec 32 := 0#32
  let c0_i32_762 : BitVec 32 := 0#32
  let c1_i32_764 : BitVec 32 := 1#32
  let arg22 : BitVec 32 := Scf.iv c0_i32_762 c1_i32_764 k0_t9
  let c1_i32_784 : BitVec 32 := 1#32
  let v1747 : BitVec 32 := Scalar.muli arg22 c1_i32_784
  let v1748 : BitVec 32 := Scalar.addi c0_i32_785 v1747
  let c256_i32_786 : BitVec 32 := 256#32
  let v1749 : BitVec 32 := Scalar.muli v1748 c256_i32_786
  let c0_i32_788 : BitVec 32 := 0#32
  let v1755 : BitVec 32 := Scalar.addi v1749 c0_i32_788
  v1755
def k0_off119 (k0_t9 : Fin k0_t9_loop.trips) : Fin 1 → Nat :=
  let c0_i32_785 : BitVec 32 := 0#32
  let c0_i32_762 : BitVec 32 := 0#32
  let c1_i32_764 : BitVec 32 := 1#32
  let arg22 : BitVec 32 := Scf.iv c0_i32_762 c1_i32_764 k0_t9
  let c1_i32_784 : BitVec 32 := 1#32
  let v1747 : BitVec 32 := Scalar.muli arg22 c1_i32_784
  let v1748 : BitVec 32 := Scalar.addi c0_i32_785 v1747
  let c256_i32_786 : BitVec 32 := 256#32
  let v1749 : BitVec 32 := Scalar.muli v1748 c256_i32_786
  let c0_i32_788 : BitVec 32 := 0#32
  let v1755 : BitVec 32 := Scalar.addi v1749 c0_i32_788
  let v1756 : BitVec 32 := v1755
  let v1757 : Index := Scalar.indexCast v1756
  ![v1757.toNat]

def k0_chk114 (v1759 : IVec S16 32) : Prop :=
  (∀ a x, ((![v1759] : Fin 1 → IVec S16 32) a x).toNat < S16128.size a)
theorem k0_idx114_inb : ∀ (v1759 : IVec S16 32) (k0_hw114 : k0_chk114 v1759), ∀ a x, ((![v1759] : Fin 1 → IVec S16 32) a x).toNat < S16128.size a := fun v1759 k0_hw114 => k0_hw114
def k0_mult144 (k0_t9 : Fin k0_t9_loop.trips) : BitVec 32 :=
  let c0_i32_785 : BitVec 32 := 0#32
  let c0_i32_762 : BitVec 32 := 0#32
  let c1_i32_764 : BitVec 32 := 1#32
  let arg22 : BitVec 32 := Scf.iv c0_i32_762 c1_i32_764 k0_t9
  let c1_i32_784 : BitVec 32 := 1#32
  let v1747 : BitVec 32 := Scalar.muli arg22 c1_i32_784
  let v1748 : BitVec 32 := Scalar.addi c0_i32_785 v1747
  let c256_i32_786 : BitVec 32 := 256#32
  let v1749 : BitVec 32 := Scalar.muli v1748 c256_i32_786
  let c16_i32_789 : BitVec 32 := 16#32
  let v1761 : BitVec 32 := Scalar.addi v1749 c16_i32_789
  v1761
def k0_off120 (k0_t9 : Fin k0_t9_loop.trips) : Fin 1 → Nat :=
  let c0_i32_785 : BitVec 32 := 0#32
  let c0_i32_762 : BitVec 32 := 0#32
  let c1_i32_764 : BitVec 32 := 1#32
  let arg22 : BitVec 32 := Scf.iv c0_i32_762 c1_i32_764 k0_t9
  let c1_i32_784 : BitVec 32 := 1#32
  let v1747 : BitVec 32 := Scalar.muli arg22 c1_i32_784
  let v1748 : BitVec 32 := Scalar.addi c0_i32_785 v1747
  let c256_i32_786 : BitVec 32 := 256#32
  let v1749 : BitVec 32 := Scalar.muli v1748 c256_i32_786
  let c16_i32_789 : BitVec 32 := 16#32
  let v1761 : BitVec 32 := Scalar.addi v1749 c16_i32_789
  let v1762 : BitVec 32 := v1761
  let v1763 : Index := Scalar.indexCast v1762
  ![v1763.toNat]

def k0_chk115 (v1765 : IVec S16 32) : Prop :=
  (∀ a x, ((![v1765] : Fin 1 → IVec S16 32) a x).toNat < S16128.size a)
theorem k0_idx115_inb : ∀ (v1765 : IVec S16 32) (k0_hw115 : k0_chk115 v1765), ∀ a x, ((![v1765] : Fin 1 → IVec S16 32) a x).toNat < S16128.size a := fun v1765 k0_hw115 => k0_hw115
def k0_mult145 (k0_t9 : Fin k0_t9_loop.trips) : BitVec 32 :=
  let c0_i32_785 : BitVec 32 := 0#32
  let c0_i32_762 : BitVec 32 := 0#32
  let c1_i32_764 : BitVec 32 := 1#32
  let arg22 : BitVec 32 := Scf.iv c0_i32_762 c1_i32_764 k0_t9
  let c1_i32_784 : BitVec 32 := 1#32
  let v1747 : BitVec 32 := Scalar.muli arg22 c1_i32_784
  let v1748 : BitVec 32 := Scalar.addi c0_i32_785 v1747
  let c256_i32_786 : BitVec 32 := 256#32
  let v1749 : BitVec 32 := Scalar.muli v1748 c256_i32_786
  let c32_i32_790 : BitVec 32 := 32#32
  let v1767 : BitVec 32 := Scalar.addi v1749 c32_i32_790
  v1767
def k0_off121 (k0_t9 : Fin k0_t9_loop.trips) : Fin 1 → Nat :=
  let c0_i32_785 : BitVec 32 := 0#32
  let c0_i32_762 : BitVec 32 := 0#32
  let c1_i32_764 : BitVec 32 := 1#32
  let arg22 : BitVec 32 := Scf.iv c0_i32_762 c1_i32_764 k0_t9
  let c1_i32_784 : BitVec 32 := 1#32
  let v1747 : BitVec 32 := Scalar.muli arg22 c1_i32_784
  let v1748 : BitVec 32 := Scalar.addi c0_i32_785 v1747
  let c256_i32_786 : BitVec 32 := 256#32
  let v1749 : BitVec 32 := Scalar.muli v1748 c256_i32_786
  let c32_i32_790 : BitVec 32 := 32#32
  let v1767 : BitVec 32 := Scalar.addi v1749 c32_i32_790
  let v1768 : BitVec 32 := v1767
  let v1769 : Index := Scalar.indexCast v1768
  ![v1769.toNat]

def k0_chk116 (v1771 : IVec S16 32) : Prop :=
  (∀ a x, ((![v1771] : Fin 1 → IVec S16 32) a x).toNat < S16128.size a)
theorem k0_idx116_inb : ∀ (v1771 : IVec S16 32) (k0_hw116 : k0_chk116 v1771), ∀ a x, ((![v1771] : Fin 1 → IVec S16 32) a x).toNat < S16128.size a := fun v1771 k0_hw116 => k0_hw116
def k0_mult146 (k0_t9 : Fin k0_t9_loop.trips) : BitVec 32 :=
  let c0_i32_785 : BitVec 32 := 0#32
  let c0_i32_762 : BitVec 32 := 0#32
  let c1_i32_764 : BitVec 32 := 1#32
  let arg22 : BitVec 32 := Scf.iv c0_i32_762 c1_i32_764 k0_t9
  let c1_i32_784 : BitVec 32 := 1#32
  let v1747 : BitVec 32 := Scalar.muli arg22 c1_i32_784
  let v1748 : BitVec 32 := Scalar.addi c0_i32_785 v1747
  let c256_i32_786 : BitVec 32 := 256#32
  let v1749 : BitVec 32 := Scalar.muli v1748 c256_i32_786
  let c48_i32_791 : BitVec 32 := 48#32
  let v1773 : BitVec 32 := Scalar.addi v1749 c48_i32_791
  v1773
def k0_off122 (k0_t9 : Fin k0_t9_loop.trips) : Fin 1 → Nat :=
  let c0_i32_785 : BitVec 32 := 0#32
  let c0_i32_762 : BitVec 32 := 0#32
  let c1_i32_764 : BitVec 32 := 1#32
  let arg22 : BitVec 32 := Scf.iv c0_i32_762 c1_i32_764 k0_t9
  let c1_i32_784 : BitVec 32 := 1#32
  let v1747 : BitVec 32 := Scalar.muli arg22 c1_i32_784
  let v1748 : BitVec 32 := Scalar.addi c0_i32_785 v1747
  let c256_i32_786 : BitVec 32 := 256#32
  let v1749 : BitVec 32 := Scalar.muli v1748 c256_i32_786
  let c48_i32_791 : BitVec 32 := 48#32
  let v1773 : BitVec 32 := Scalar.addi v1749 c48_i32_791
  let v1774 : BitVec 32 := v1773
  let v1775 : Index := Scalar.indexCast v1774
  ![v1775.toNat]

def k0_chk117 (v1777 : IVec S16 32) : Prop :=
  (∀ a x, ((![v1777] : Fin 1 → IVec S16 32) a x).toNat < S16128.size a)
theorem k0_idx117_inb : ∀ (v1777 : IVec S16 32) (k0_hw117 : k0_chk117 v1777), ∀ a x, ((![v1777] : Fin 1 → IVec S16 32) a x).toNat < S16128.size a := fun v1777 k0_hw117 => k0_hw117
def k0_mult147 (k0_t9 : Fin k0_t9_loop.trips) : BitVec 32 :=
  let c0_i32_785 : BitVec 32 := 0#32
  let c0_i32_762 : BitVec 32 := 0#32
  let c1_i32_764 : BitVec 32 := 1#32
  let arg22 : BitVec 32 := Scf.iv c0_i32_762 c1_i32_764 k0_t9
  let c1_i32_784 : BitVec 32 := 1#32
  let v1747 : BitVec 32 := Scalar.muli arg22 c1_i32_784
  let v1748 : BitVec 32 := Scalar.addi c0_i32_785 v1747
  let c256_i32_786 : BitVec 32 := 256#32
  let v1749 : BitVec 32 := Scalar.muli v1748 c256_i32_786
  let c64_i32_792 : BitVec 32 := 64#32
  let v1779 : BitVec 32 := Scalar.addi v1749 c64_i32_792
  v1779
def k0_off123 (k0_t9 : Fin k0_t9_loop.trips) : Fin 1 → Nat :=
  let c0_i32_785 : BitVec 32 := 0#32
  let c0_i32_762 : BitVec 32 := 0#32
  let c1_i32_764 : BitVec 32 := 1#32
  let arg22 : BitVec 32 := Scf.iv c0_i32_762 c1_i32_764 k0_t9
  let c1_i32_784 : BitVec 32 := 1#32
  let v1747 : BitVec 32 := Scalar.muli arg22 c1_i32_784
  let v1748 : BitVec 32 := Scalar.addi c0_i32_785 v1747
  let c256_i32_786 : BitVec 32 := 256#32
  let v1749 : BitVec 32 := Scalar.muli v1748 c256_i32_786
  let c64_i32_792 : BitVec 32 := 64#32
  let v1779 : BitVec 32 := Scalar.addi v1749 c64_i32_792
  let v1780 : BitVec 32 := v1779
  let v1781 : Index := Scalar.indexCast v1780
  ![v1781.toNat]

def k0_chk118 (v1783 : IVec S16 32) : Prop :=
  (∀ a x, ((![v1783] : Fin 1 → IVec S16 32) a x).toNat < S16128.size a)
theorem k0_idx118_inb : ∀ (v1783 : IVec S16 32) (k0_hw118 : k0_chk118 v1783), ∀ a x, ((![v1783] : Fin 1 → IVec S16 32) a x).toNat < S16128.size a := fun v1783 k0_hw118 => k0_hw118
def k0_mult148 (k0_t9 : Fin k0_t9_loop.trips) : BitVec 32 :=
  let c0_i32_785 : BitVec 32 := 0#32
  let c0_i32_762 : BitVec 32 := 0#32
  let c1_i32_764 : BitVec 32 := 1#32
  let arg22 : BitVec 32 := Scf.iv c0_i32_762 c1_i32_764 k0_t9
  let c1_i32_784 : BitVec 32 := 1#32
  let v1747 : BitVec 32 := Scalar.muli arg22 c1_i32_784
  let v1748 : BitVec 32 := Scalar.addi c0_i32_785 v1747
  let c256_i32_786 : BitVec 32 := 256#32
  let v1749 : BitVec 32 := Scalar.muli v1748 c256_i32_786
  let c80_i32_793 : BitVec 32 := 80#32
  let v1785 : BitVec 32 := Scalar.addi v1749 c80_i32_793
  v1785
def k0_off124 (k0_t9 : Fin k0_t9_loop.trips) : Fin 1 → Nat :=
  let c0_i32_785 : BitVec 32 := 0#32
  let c0_i32_762 : BitVec 32 := 0#32
  let c1_i32_764 : BitVec 32 := 1#32
  let arg22 : BitVec 32 := Scf.iv c0_i32_762 c1_i32_764 k0_t9
  let c1_i32_784 : BitVec 32 := 1#32
  let v1747 : BitVec 32 := Scalar.muli arg22 c1_i32_784
  let v1748 : BitVec 32 := Scalar.addi c0_i32_785 v1747
  let c256_i32_786 : BitVec 32 := 256#32
  let v1749 : BitVec 32 := Scalar.muli v1748 c256_i32_786
  let c80_i32_793 : BitVec 32 := 80#32
  let v1785 : BitVec 32 := Scalar.addi v1749 c80_i32_793
  let v1786 : BitVec 32 := v1785
  let v1787 : Index := Scalar.indexCast v1786
  ![v1787.toNat]

def k0_chk119 (v1789 : IVec S16 32) : Prop :=
  (∀ a x, ((![v1789] : Fin 1 → IVec S16 32) a x).toNat < S16128.size a)
theorem k0_idx119_inb : ∀ (v1789 : IVec S16 32) (k0_hw119 : k0_chk119 v1789), ∀ a x, ((![v1789] : Fin 1 → IVec S16 32) a x).toNat < S16128.size a := fun v1789 k0_hw119 => k0_hw119
def k0_mult149 (k0_t9 : Fin k0_t9_loop.trips) : BitVec 32 :=
  let c0_i32_785 : BitVec 32 := 0#32
  let c0_i32_762 : BitVec 32 := 0#32
  let c1_i32_764 : BitVec 32 := 1#32
  let arg22 : BitVec 32 := Scf.iv c0_i32_762 c1_i32_764 k0_t9
  let c1_i32_784 : BitVec 32 := 1#32
  let v1747 : BitVec 32 := Scalar.muli arg22 c1_i32_784
  let v1748 : BitVec 32 := Scalar.addi c0_i32_785 v1747
  let c256_i32_786 : BitVec 32 := 256#32
  let v1749 : BitVec 32 := Scalar.muli v1748 c256_i32_786
  let c96_i32_794 : BitVec 32 := 96#32
  let v1791 : BitVec 32 := Scalar.addi v1749 c96_i32_794
  v1791
def k0_off125 (k0_t9 : Fin k0_t9_loop.trips) : Fin 1 → Nat :=
  let c0_i32_785 : BitVec 32 := 0#32
  let c0_i32_762 : BitVec 32 := 0#32
  let c1_i32_764 : BitVec 32 := 1#32
  let arg22 : BitVec 32 := Scf.iv c0_i32_762 c1_i32_764 k0_t9
  let c1_i32_784 : BitVec 32 := 1#32
  let v1747 : BitVec 32 := Scalar.muli arg22 c1_i32_784
  let v1748 : BitVec 32 := Scalar.addi c0_i32_785 v1747
  let c256_i32_786 : BitVec 32 := 256#32
  let v1749 : BitVec 32 := Scalar.muli v1748 c256_i32_786
  let c96_i32_794 : BitVec 32 := 96#32
  let v1791 : BitVec 32 := Scalar.addi v1749 c96_i32_794
  let v1792 : BitVec 32 := v1791
  let v1793 : Index := Scalar.indexCast v1792
  ![v1793.toNat]

def k0_chk120 (v1795 : IVec S16 32) : Prop :=
  (∀ a x, ((![v1795] : Fin 1 → IVec S16 32) a x).toNat < S16128.size a)
theorem k0_idx120_inb : ∀ (v1795 : IVec S16 32) (k0_hw120 : k0_chk120 v1795), ∀ a x, ((![v1795] : Fin 1 → IVec S16 32) a x).toNat < S16128.size a := fun v1795 k0_hw120 => k0_hw120
def k0_mult150 (k0_t9 : Fin k0_t9_loop.trips) : BitVec 32 :=
  let c0_i32_785 : BitVec 32 := 0#32
  let c0_i32_762 : BitVec 32 := 0#32
  let c1_i32_764 : BitVec 32 := 1#32
  let arg22 : BitVec 32 := Scf.iv c0_i32_762 c1_i32_764 k0_t9
  let c1_i32_784 : BitVec 32 := 1#32
  let v1747 : BitVec 32 := Scalar.muli arg22 c1_i32_784
  let v1748 : BitVec 32 := Scalar.addi c0_i32_785 v1747
  let c256_i32_786 : BitVec 32 := 256#32
  let v1749 : BitVec 32 := Scalar.muli v1748 c256_i32_786
  let c112_i32_795 : BitVec 32 := 112#32
  let v1797 : BitVec 32 := Scalar.addi v1749 c112_i32_795
  v1797
def k0_off126 (k0_t9 : Fin k0_t9_loop.trips) : Fin 1 → Nat :=
  let c0_i32_785 : BitVec 32 := 0#32
  let c0_i32_762 : BitVec 32 := 0#32
  let c1_i32_764 : BitVec 32 := 1#32
  let arg22 : BitVec 32 := Scf.iv c0_i32_762 c1_i32_764 k0_t9
  let c1_i32_784 : BitVec 32 := 1#32
  let v1747 : BitVec 32 := Scalar.muli arg22 c1_i32_784
  let v1748 : BitVec 32 := Scalar.addi c0_i32_785 v1747
  let c256_i32_786 : BitVec 32 := 256#32
  let v1749 : BitVec 32 := Scalar.muli v1748 c256_i32_786
  let c112_i32_795 : BitVec 32 := 112#32
  let v1797 : BitVec 32 := Scalar.addi v1749 c112_i32_795
  let v1798 : BitVec 32 := v1797
  let v1799 : Index := Scalar.indexCast v1798
  ![v1799.toNat]

def k0_chk121 (v1801 : IVec S16 32) : Prop :=
  (∀ a x, ((![v1801] : Fin 1 → IVec S16 32) a x).toNat < S16128.size a)
theorem k0_idx121_inb : ∀ (v1801 : IVec S16 32) (k0_hw121 : k0_chk121 v1801), ∀ a x, ((![v1801] : Fin 1 → IVec S16 32) a x).toNat < S16128.size a := fun v1801 k0_hw121 => k0_hw121
def k0_mult151 (k0_t9 : Fin k0_t9_loop.trips) : BitVec 32 :=
  let c0_i32_785 : BitVec 32 := 0#32
  let c0_i32_762 : BitVec 32 := 0#32
  let c1_i32_764 : BitVec 32 := 1#32
  let arg22 : BitVec 32 := Scf.iv c0_i32_762 c1_i32_764 k0_t9
  let c1_i32_784 : BitVec 32 := 1#32
  let v1747 : BitVec 32 := Scalar.muli arg22 c1_i32_784
  let v1748 : BitVec 32 := Scalar.addi c0_i32_785 v1747
  let c256_i32_786 : BitVec 32 := 256#32
  let v1749 : BitVec 32 := Scalar.muli v1748 c256_i32_786
  let c128_i32_796 : BitVec 32 := 128#32
  let v1803 : BitVec 32 := Scalar.addi v1749 c128_i32_796
  v1803
def k0_off127 (k0_t9 : Fin k0_t9_loop.trips) : Fin 1 → Nat :=
  let c0_i32_785 : BitVec 32 := 0#32
  let c0_i32_762 : BitVec 32 := 0#32
  let c1_i32_764 : BitVec 32 := 1#32
  let arg22 : BitVec 32 := Scf.iv c0_i32_762 c1_i32_764 k0_t9
  let c1_i32_784 : BitVec 32 := 1#32
  let v1747 : BitVec 32 := Scalar.muli arg22 c1_i32_784
  let v1748 : BitVec 32 := Scalar.addi c0_i32_785 v1747
  let c256_i32_786 : BitVec 32 := 256#32
  let v1749 : BitVec 32 := Scalar.muli v1748 c256_i32_786
  let c128_i32_796 : BitVec 32 := 128#32
  let v1803 : BitVec 32 := Scalar.addi v1749 c128_i32_796
  let v1804 : BitVec 32 := v1803
  let v1805 : Index := Scalar.indexCast v1804
  ![v1805.toNat]

def k0_chk122 (v1807 : IVec S16 32) : Prop :=
  (∀ a x, ((![v1807] : Fin 1 → IVec S16 32) a x).toNat < S16128.size a)
theorem k0_idx122_inb : ∀ (v1807 : IVec S16 32) (k0_hw122 : k0_chk122 v1807), ∀ a x, ((![v1807] : Fin 1 → IVec S16 32) a x).toNat < S16128.size a := fun v1807 k0_hw122 => k0_hw122
def k0_mult152 (k0_t9 : Fin k0_t9_loop.trips) : BitVec 32 :=
  let c0_i32_785 : BitVec 32 := 0#32
  let c0_i32_762 : BitVec 32 := 0#32
  let c1_i32_764 : BitVec 32 := 1#32
  let arg22 : BitVec 32 := Scf.iv c0_i32_762 c1_i32_764 k0_t9
  let c1_i32_784 : BitVec 32 := 1#32
  let v1747 : BitVec 32 := Scalar.muli arg22 c1_i32_784
  let v1748 : BitVec 32 := Scalar.addi c0_i32_785 v1747
  let c256_i32_786 : BitVec 32 := 256#32
  let v1749 : BitVec 32 := Scalar.muli v1748 c256_i32_786
  let c144_i32 : BitVec 32 := 144#32
  let v1809 : BitVec 32 := Scalar.addi v1749 c144_i32
  v1809
def k0_off128 (k0_t9 : Fin k0_t9_loop.trips) : Fin 1 → Nat :=
  let c0_i32_785 : BitVec 32 := 0#32
  let c0_i32_762 : BitVec 32 := 0#32
  let c1_i32_764 : BitVec 32 := 1#32
  let arg22 : BitVec 32 := Scf.iv c0_i32_762 c1_i32_764 k0_t9
  let c1_i32_784 : BitVec 32 := 1#32
  let v1747 : BitVec 32 := Scalar.muli arg22 c1_i32_784
  let v1748 : BitVec 32 := Scalar.addi c0_i32_785 v1747
  let c256_i32_786 : BitVec 32 := 256#32
  let v1749 : BitVec 32 := Scalar.muli v1748 c256_i32_786
  let c144_i32 : BitVec 32 := 144#32
  let v1809 : BitVec 32 := Scalar.addi v1749 c144_i32
  let v1810 : BitVec 32 := v1809
  let v1811 : Index := Scalar.indexCast v1810
  ![v1811.toNat]

def k0_chk123 (v1813 : IVec S16 32) : Prop :=
  (∀ a x, ((![v1813] : Fin 1 → IVec S16 32) a x).toNat < S16128.size a)
theorem k0_idx123_inb : ∀ (v1813 : IVec S16 32) (k0_hw123 : k0_chk123 v1813), ∀ a x, ((![v1813] : Fin 1 → IVec S16 32) a x).toNat < S16128.size a := fun v1813 k0_hw123 => k0_hw123
def k0_mult153 (k0_t9 : Fin k0_t9_loop.trips) : BitVec 32 :=
  let c0_i32_785 : BitVec 32 := 0#32
  let c0_i32_762 : BitVec 32 := 0#32
  let c1_i32_764 : BitVec 32 := 1#32
  let arg22 : BitVec 32 := Scf.iv c0_i32_762 c1_i32_764 k0_t9
  let c1_i32_784 : BitVec 32 := 1#32
  let v1747 : BitVec 32 := Scalar.muli arg22 c1_i32_784
  let v1748 : BitVec 32 := Scalar.addi c0_i32_785 v1747
  let c256_i32_786 : BitVec 32 := 256#32
  let v1749 : BitVec 32 := Scalar.muli v1748 c256_i32_786
  let c160_i32 : BitVec 32 := 160#32
  let v1815 : BitVec 32 := Scalar.addi v1749 c160_i32
  v1815
def k0_off129 (k0_t9 : Fin k0_t9_loop.trips) : Fin 1 → Nat :=
  let c0_i32_785 : BitVec 32 := 0#32
  let c0_i32_762 : BitVec 32 := 0#32
  let c1_i32_764 : BitVec 32 := 1#32
  let arg22 : BitVec 32 := Scf.iv c0_i32_762 c1_i32_764 k0_t9
  let c1_i32_784 : BitVec 32 := 1#32
  let v1747 : BitVec 32 := Scalar.muli arg22 c1_i32_784
  let v1748 : BitVec 32 := Scalar.addi c0_i32_785 v1747
  let c256_i32_786 : BitVec 32 := 256#32
  let v1749 : BitVec 32 := Scalar.muli v1748 c256_i32_786
  let c160_i32 : BitVec 32 := 160#32
  let v1815 : BitVec 32 := Scalar.addi v1749 c160_i32
  let v1816 : BitVec 32 := v1815
  let v1817 : Index := Scalar.indexCast v1816
  ![v1817.toNat]

def k0_chk124 (v1819 : IVec S16 32) : Prop :=
  (∀ a x, ((![v1819] : Fin 1 → IVec S16 32) a x).toNat < S16128.size a)
theorem k0_idx124_inb : ∀ (v1819 : IVec S16 32) (k0_hw124 : k0_chk124 v1819), ∀ a x, ((![v1819] : Fin 1 → IVec S16 32) a x).toNat < S16128.size a := fun v1819 k0_hw124 => k0_hw124
def k0_mult154 (k0_t9 : Fin k0_t9_loop.trips) : BitVec 32 :=
  let c0_i32_785 : BitVec 32 := 0#32
  let c0_i32_762 : BitVec 32 := 0#32
  let c1_i32_764 : BitVec 32 := 1#32
  let arg22 : BitVec 32 := Scf.iv c0_i32_762 c1_i32_764 k0_t9
  let c1_i32_784 : BitVec 32 := 1#32
  let v1747 : BitVec 32 := Scalar.muli arg22 c1_i32_784
  let v1748 : BitVec 32 := Scalar.addi c0_i32_785 v1747
  let c256_i32_786 : BitVec 32 := 256#32
  let v1749 : BitVec 32 := Scalar.muli v1748 c256_i32_786
  let c176_i32 : BitVec 32 := 176#32
  let v1821 : BitVec 32 := Scalar.addi v1749 c176_i32
  v1821
def k0_off130 (k0_t9 : Fin k0_t9_loop.trips) : Fin 1 → Nat :=
  let c0_i32_785 : BitVec 32 := 0#32
  let c0_i32_762 : BitVec 32 := 0#32
  let c1_i32_764 : BitVec 32 := 1#32
  let arg22 : BitVec 32 := Scf.iv c0_i32_762 c1_i32_764 k0_t9
  let c1_i32_784 : BitVec 32 := 1#32
  let v1747 : BitVec 32 := Scalar.muli arg22 c1_i32_784
  let v1748 : BitVec 32 := Scalar.addi c0_i32_785 v1747
  let c256_i32_786 : BitVec 32 := 256#32
  let v1749 : BitVec 32 := Scalar.muli v1748 c256_i32_786
  let c176_i32 : BitVec 32 := 176#32
  let v1821 : BitVec 32 := Scalar.addi v1749 c176_i32
  let v1822 : BitVec 32 := v1821
  let v1823 : Index := Scalar.indexCast v1822
  ![v1823.toNat]

def k0_chk125 (v1825 : IVec S16 32) : Prop :=
  (∀ a x, ((![v1825] : Fin 1 → IVec S16 32) a x).toNat < S16128.size a)
theorem k0_idx125_inb : ∀ (v1825 : IVec S16 32) (k0_hw125 : k0_chk125 v1825), ∀ a x, ((![v1825] : Fin 1 → IVec S16 32) a x).toNat < S16128.size a := fun v1825 k0_hw125 => k0_hw125
def k0_mult155 (k0_t9 : Fin k0_t9_loop.trips) : BitVec 32 :=
  let c0_i32_785 : BitVec 32 := 0#32
  let c0_i32_762 : BitVec 32 := 0#32
  let c1_i32_764 : BitVec 32 := 1#32
  let arg22 : BitVec 32 := Scf.iv c0_i32_762 c1_i32_764 k0_t9
  let c1_i32_784 : BitVec 32 := 1#32
  let v1747 : BitVec 32 := Scalar.muli arg22 c1_i32_784
  let v1748 : BitVec 32 := Scalar.addi c0_i32_785 v1747
  let c256_i32_786 : BitVec 32 := 256#32
  let v1749 : BitVec 32 := Scalar.muli v1748 c256_i32_786
  let c192_i32 : BitVec 32 := 192#32
  let v1827 : BitVec 32 := Scalar.addi v1749 c192_i32
  v1827
def k0_off131 (k0_t9 : Fin k0_t9_loop.trips) : Fin 1 → Nat :=
  let c0_i32_785 : BitVec 32 := 0#32
  let c0_i32_762 : BitVec 32 := 0#32
  let c1_i32_764 : BitVec 32 := 1#32
  let arg22 : BitVec 32 := Scf.iv c0_i32_762 c1_i32_764 k0_t9
  let c1_i32_784 : BitVec 32 := 1#32
  let v1747 : BitVec 32 := Scalar.muli arg22 c1_i32_784
  let v1748 : BitVec 32 := Scalar.addi c0_i32_785 v1747
  let c256_i32_786 : BitVec 32 := 256#32
  let v1749 : BitVec 32 := Scalar.muli v1748 c256_i32_786
  let c192_i32 : BitVec 32 := 192#32
  let v1827 : BitVec 32 := Scalar.addi v1749 c192_i32
  let v1828 : BitVec 32 := v1827
  let v1829 : Index := Scalar.indexCast v1828
  ![v1829.toNat]

def k0_chk126 (v1831 : IVec S16 32) : Prop :=
  (∀ a x, ((![v1831] : Fin 1 → IVec S16 32) a x).toNat < S16128.size a)
theorem k0_idx126_inb : ∀ (v1831 : IVec S16 32) (k0_hw126 : k0_chk126 v1831), ∀ a x, ((![v1831] : Fin 1 → IVec S16 32) a x).toNat < S16128.size a := fun v1831 k0_hw126 => k0_hw126
def k0_mult156 (k0_t9 : Fin k0_t9_loop.trips) : BitVec 32 :=
  let c0_i32_785 : BitVec 32 := 0#32
  let c0_i32_762 : BitVec 32 := 0#32
  let c1_i32_764 : BitVec 32 := 1#32
  let arg22 : BitVec 32 := Scf.iv c0_i32_762 c1_i32_764 k0_t9
  let c1_i32_784 : BitVec 32 := 1#32
  let v1747 : BitVec 32 := Scalar.muli arg22 c1_i32_784
  let v1748 : BitVec 32 := Scalar.addi c0_i32_785 v1747
  let c256_i32_786 : BitVec 32 := 256#32
  let v1749 : BitVec 32 := Scalar.muli v1748 c256_i32_786
  let c208_i32 : BitVec 32 := 208#32
  let v1833 : BitVec 32 := Scalar.addi v1749 c208_i32
  v1833
def k0_off132 (k0_t9 : Fin k0_t9_loop.trips) : Fin 1 → Nat :=
  let c0_i32_785 : BitVec 32 := 0#32
  let c0_i32_762 : BitVec 32 := 0#32
  let c1_i32_764 : BitVec 32 := 1#32
  let arg22 : BitVec 32 := Scf.iv c0_i32_762 c1_i32_764 k0_t9
  let c1_i32_784 : BitVec 32 := 1#32
  let v1747 : BitVec 32 := Scalar.muli arg22 c1_i32_784
  let v1748 : BitVec 32 := Scalar.addi c0_i32_785 v1747
  let c256_i32_786 : BitVec 32 := 256#32
  let v1749 : BitVec 32 := Scalar.muli v1748 c256_i32_786
  let c208_i32 : BitVec 32 := 208#32
  let v1833 : BitVec 32 := Scalar.addi v1749 c208_i32
  let v1834 : BitVec 32 := v1833
  let v1835 : Index := Scalar.indexCast v1834
  ![v1835.toNat]

def k0_chk127 (v1837 : IVec S16 32) : Prop :=
  (∀ a x, ((![v1837] : Fin 1 → IVec S16 32) a x).toNat < S16128.size a)
theorem k0_idx127_inb : ∀ (v1837 : IVec S16 32) (k0_hw127 : k0_chk127 v1837), ∀ a x, ((![v1837] : Fin 1 → IVec S16 32) a x).toNat < S16128.size a := fun v1837 k0_hw127 => k0_hw127
def k0_mult157 (k0_t9 : Fin k0_t9_loop.trips) : BitVec 32 :=
  let c0_i32_785 : BitVec 32 := 0#32
  let c0_i32_762 : BitVec 32 := 0#32
  let c1_i32_764 : BitVec 32 := 1#32
  let arg22 : BitVec 32 := Scf.iv c0_i32_762 c1_i32_764 k0_t9
  let c1_i32_784 : BitVec 32 := 1#32
  let v1747 : BitVec 32 := Scalar.muli arg22 c1_i32_784
  let v1748 : BitVec 32 := Scalar.addi c0_i32_785 v1747
  let c256_i32_786 : BitVec 32 := 256#32
  let v1749 : BitVec 32 := Scalar.muli v1748 c256_i32_786
  let c224_i32 : BitVec 32 := 224#32
  let v1839 : BitVec 32 := Scalar.addi v1749 c224_i32
  v1839
def k0_off133 (k0_t9 : Fin k0_t9_loop.trips) : Fin 1 → Nat :=
  let c0_i32_785 : BitVec 32 := 0#32
  let c0_i32_762 : BitVec 32 := 0#32
  let c1_i32_764 : BitVec 32 := 1#32
  let arg22 : BitVec 32 := Scf.iv c0_i32_762 c1_i32_764 k0_t9
  let c1_i32_784 : BitVec 32 := 1#32
  let v1747 : BitVec 32 := Scalar.muli arg22 c1_i32_784
  let v1748 : BitVec 32 := Scalar.addi c0_i32_785 v1747
  let c256_i32_786 : BitVec 32 := 256#32
  let v1749 : BitVec 32 := Scalar.muli v1748 c256_i32_786
  let c224_i32 : BitVec 32 := 224#32
  let v1839 : BitVec 32 := Scalar.addi v1749 c224_i32
  let v1840 : BitVec 32 := v1839
  let v1841 : Index := Scalar.indexCast v1840
  ![v1841.toNat]

def k0_chk128 (v1843 : IVec S16 32) : Prop :=
  (∀ a x, ((![v1843] : Fin 1 → IVec S16 32) a x).toNat < S16128.size a)
theorem k0_idx128_inb : ∀ (v1843 : IVec S16 32) (k0_hw128 : k0_chk128 v1843), ∀ a x, ((![v1843] : Fin 1 → IVec S16 32) a x).toNat < S16128.size a := fun v1843 k0_hw128 => k0_hw128
def k0_mult158 (k0_t9 : Fin k0_t9_loop.trips) : BitVec 32 :=
  let c0_i32_785 : BitVec 32 := 0#32
  let c0_i32_762 : BitVec 32 := 0#32
  let c1_i32_764 : BitVec 32 := 1#32
  let arg22 : BitVec 32 := Scf.iv c0_i32_762 c1_i32_764 k0_t9
  let c1_i32_784 : BitVec 32 := 1#32
  let v1747 : BitVec 32 := Scalar.muli arg22 c1_i32_784
  let v1748 : BitVec 32 := Scalar.addi c0_i32_785 v1747
  let c256_i32_786 : BitVec 32 := 256#32
  let v1749 : BitVec 32 := Scalar.muli v1748 c256_i32_786
  let c240_i32 : BitVec 32 := 240#32
  let v1845 : BitVec 32 := Scalar.addi v1749 c240_i32
  v1845
def k0_off134 (k0_t9 : Fin k0_t9_loop.trips) : Fin 1 → Nat :=
  let c0_i32_785 : BitVec 32 := 0#32
  let c0_i32_762 : BitVec 32 := 0#32
  let c1_i32_764 : BitVec 32 := 1#32
  let arg22 : BitVec 32 := Scf.iv c0_i32_762 c1_i32_764 k0_t9
  let c1_i32_784 : BitVec 32 := 1#32
  let v1747 : BitVec 32 := Scalar.muli arg22 c1_i32_784
  let v1748 : BitVec 32 := Scalar.addi c0_i32_785 v1747
  let c256_i32_786 : BitVec 32 := 256#32
  let v1749 : BitVec 32 := Scalar.muli v1748 c256_i32_786
  let c240_i32 : BitVec 32 := 240#32
  let v1845 : BitVec 32 := Scalar.addi v1749 c240_i32
  let v1846 : BitVec 32 := v1845
  let v1847 : Index := Scalar.indexCast v1846
  ![v1847.toNat]
def k0_mult159 (i : grid0.Coords) (k0_t5 : Fin k0_t5_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_1 : BitVec 32 := 2#32
  let v4 : BitVec 32 := Scalar.muli v1 c2_i32_1
  let c1_i32 : BitVec 32 := 1#32
  let v5 : BitVec 32 := Scalar.addi v4 c1_i32
  let c1984_i32_137 : BitVec 32 := 1984#32
  let v268 : BitVec 32 := Scalar.muli v5 c1984_i32_137
  let c256_i32_138 : BitVec 32 := 256#32
  let v269 : BitVec 32 := Scalar.muli v268 c256_i32_138
  let c1_i32_455 : BitVec 32 := 1#32
  let c1_i32_457 : BitVec 32 := 1#32
  let arg20 : BitVec 32 := Scf.iv c1_i32_455 c1_i32_457 k0_t5
  let c4_i32_743 : BitVec 32 := 4#32
  let v1654 : BitVec 32 := Scalar.muli arg20 c4_i32_743
  let c3_i32_744 : BitVec 32 := 3#32
  let v1655 : BitVec 32 := Scalar.addi v1654 c3_i32_744
  let c0_i32_767 : BitVec 32 := 0#32
  let v1703 : BitVec 1 := Scalar.cmpi .sgt v1655 c0_i32_767
  let v1704 : BitVec 32 := Scalar.extui v1703
  let c0_i32_768 : BitVec 32 := 0#32
  let v1705 : BitVec 1 := Scalar.cmpi .slt v1655 c0_i32_768
  let v1706 : BitVec 32 := Scalar.extui v1705
  let v1707 : BitVec 32 := Scalar.subi v1704 v1706
  let c2_i32_766 : BitVec 32 := 2#32
  let c0_i32_769 : BitVec 32 := 0#32
  let v1708 : BitVec 1 := Scalar.cmpi .sgt c2_i32_766 c0_i32_769
  let v1709 : BitVec 32 := Scalar.extui v1708
  let c0_i32_770 : BitVec 32 := 0#32
  let v1710 : BitVec 1 := Scalar.cmpi .slt c2_i32_766 c0_i32_770
  let v1711 : BitVec 32 := Scalar.extui v1710
  let v1712 : BitVec 32 := Scalar.subi v1709 v1711
  let v1713 : BitVec 1 := Scalar.cmpi .ne v1707 v1712
  let v1714 : BitVec 32 := Scalar.remsi v1655 c2_i32_766
  let c0_i32_771 : BitVec 32 := 0#32
  let v1715 : BitVec 1 := Scalar.cmpi .ne v1714 c0_i32_771
  let v1716 : BitVec 1 := Scalar.andi v1713 v1715
  let v1702 : BitVec 32 := Scalar.divsi v1655 c2_i32_766
  let c1_i32_772 : BitVec 32 := 1#32
  let v1717 : BitVec 32 := Scalar.subi v1702 c1_i32_772
  let v1718 : BitVec 32 := Scalar.select v1716 v1717 v1702
  let c15872_i32_773 : BitVec 32 := 15872#32
  let v1719 : BitVec 32 := Scalar.muli v1718 c15872_i32_773
  let v1720 : BitVec 32 := Scalar.addi v269 v1719
  v1720
def k0_mult160 (i : grid0.Coords) (k0_t5 : Fin k0_t5_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_1 : BitVec 32 := 2#32
  let v4 : BitVec 32 := Scalar.muli v1 c2_i32_1
  let c1_i32 : BitVec 32 := 1#32
  let v5 : BitVec 32 := Scalar.addi v4 c1_i32
  let c2048_i32_133 : BitVec 32 := 2048#32
  let v262 : BitVec 32 := Scalar.muli v5 c2048_i32_133
  let c63_i32_130 : BitVec 32 := 63#32
  let v256 : BitVec 1 := Scalar.cmpi .eq v5 c63_i32_130
  let c1763_i32_131 : BitVec 32 := 1763#32
  let c62_i32_128 : BitVec 32 := 62#32
  let v254 : BitVec 1 := Scalar.cmpi .eq v5 c62_i32_128
  let c1196_i32_129 : BitVec 32 := 1196#32
  let c61_i32_126 : BitVec 32 := 61#32
  let v252 : BitVec 1 := Scalar.cmpi .eq v5 c61_i32_126
  let c722_i32_127 : BitVec 32 := 722#32
  let c60_i32_124 : BitVec 32 := 60#32
  let v250 : BitVec 1 := Scalar.cmpi .eq v5 c60_i32_124
  let c3132_i32_125 : BitVec 32 := 3132#32
  let c59_i32_122 : BitVec 32 := 59#32
  let v248 : BitVec 1 := Scalar.cmpi .eq v5 c59_i32_122
  let c2263_i32_123 : BitVec 32 := 2263#32
  let c58_i32_120 : BitVec 32 := 58#32
  let v246 : BitVec 1 := Scalar.cmpi .eq v5 c58_i32_120
  let c7228_i32_121 : BitVec 32 := 7228#32
  let c57_i32_118 : BitVec 32 := 57#32
  let v244 : BitVec 1 := Scalar.cmpi .eq v5 c57_i32_118
  let c6147_i32_119 : BitVec 32 := 6147#32
  let c56_i32_116 : BitVec 32 := 56#32
  let v242 : BitVec 1 := Scalar.cmpi .eq v5 c56_i32_116
  let c5257_i32_117 : BitVec 32 := 5257#32
  let c55_i32_114 : BitVec 32 := 55#32
  let v240 : BitVec 1 := Scalar.cmpi .eq v5 c55_i32_114
  let c2687_i32_115 : BitVec 32 := 2687#32
  let c54_i32_112 : BitVec 32 := 54#32
  let v238 : BitVec 1 := Scalar.cmpi .eq v5 c54_i32_112
  let c3913_i32_113 : BitVec 32 := 3913#32
  let c53_i32_110 : BitVec 32 := 53#32
  let v236 : BitVec 1 := Scalar.cmpi .eq v5 c53_i32_110
  let c1765_i32_111 : BitVec 32 := 1765#32
  let c52_i32_108 : BitVec 32 := 52#32
  let v234 : BitVec 1 := Scalar.cmpi .eq v5 c52_i32_108
  let c572_i32_109 : BitVec 32 := 572#32
  let c51_i32_106 : BitVec 32 := 51#32
  let v232 : BitVec 1 := Scalar.cmpi .eq v5 c51_i32_106
  let c5479_i32_107 : BitVec 32 := 5479#32
  let c50_i32_104 : BitVec 32 := 50#32
  let v230 : BitVec 1 := Scalar.cmpi .eq v5 c50_i32_104
  let c7351_i32_105 : BitVec 32 := 7351#32
  let c49_i32_102 : BitVec 32 := 49#32
  let v228 : BitVec 1 := Scalar.cmpi .eq v5 c49_i32_102
  let c593_i32_103 : BitVec 32 := 593#32
  let c48_i32_100 : BitVec 32 := 48#32
  let v226 : BitVec 1 := Scalar.cmpi .eq v5 c48_i32_100
  let c7487_i32_101 : BitVec 32 := 7487#32
  let c47_i32_98 : BitVec 32 := 47#32
  let v224 : BitVec 1 := Scalar.cmpi .eq v5 c47_i32_98
  let c3618_i32_99 : BitVec 32 := 3618#32
  let c46_i32_96 : BitVec 32 := 46#32
  let v222 : BitVec 1 := Scalar.cmpi .eq v5 c46_i32_96
  let c6125_i32_97 : BitVec 32 := 6125#32
  let c45_i32_94 : BitVec 32 := 45#32
  let v220 : BitVec 1 := Scalar.cmpi .eq v5 c45_i32_94
  let c2834_i32_95 : BitVec 32 := 2834#32
  let c44_i32_92 : BitVec 32 := 44#32
  let v218 : BitVec 1 := Scalar.cmpi .eq v5 c44_i32_92
  let c4871_i32_93 : BitVec 32 := 4871#32
  let c43_i32_90 : BitVec 32 := 43#32
  let v216 : BitVec 1 := Scalar.cmpi .eq v5 c43_i32_90
  let c1936_i32_91 : BitVec 32 := 1936#32
  let c42_i32_88 : BitVec 32 := 42#32
  let v214 : BitVec 1 := Scalar.cmpi .eq v5 c42_i32_88
  let c2914_i32_89 : BitVec 32 := 2914#32
  let c41_i32_86 : BitVec 32 := 41#32
  let v212 : BitVec 1 := Scalar.cmpi .eq v5 c41_i32_86
  let c3866_i32_87 : BitVec 32 := 3866#32
  let c40_i32_84 : BitVec 32 := 40#32
  let v210 : BitVec 1 := Scalar.cmpi .eq v5 c40_i32_84
  let c1846_i32_85 : BitVec 32 := 1846#32
  let c39_i32_82 : BitVec 32 := 39#32
  let v208 : BitVec 1 := Scalar.cmpi .eq v5 c39_i32_82
  let c7714_i32_83 : BitVec 32 := 7714#32
  let c38_i32_80 : BitVec 32 := 38#32
  let v206 : BitVec 1 := Scalar.cmpi .eq v5 c38_i32_80
  let c3980_i32_81 : BitVec 32 := 3980#32
  let c37_i32_78 : BitVec 32 := 37#32
  let v204 : BitVec 1 := Scalar.cmpi .eq v5 c37_i32_78
  let c6570_i32_79 : BitVec 32 := 6570#32
  let c36_i32_76 : BitVec 32 := 36#32
  let v202 : BitVec 1 := Scalar.cmpi .eq v5 c36_i32_76
  let c2937_i32_77 : BitVec 32 := 2937#32
  let c35_i32_74 : BitVec 32 := 35#32
  let v200 : BitVec 1 := Scalar.cmpi .eq v5 c35_i32_74
  let c1105_i32_75 : BitVec 32 := 1105#32
  let c34_i32_72 : BitVec 32 := 34#32
  let v198 : BitVec 1 := Scalar.cmpi .eq v5 c34_i32_72
  let c5685_i32_73 : BitVec 32 := 5685#32
  let c33_i32_70 : BitVec 32 := 33#32
  let v196 : BitVec 1 := Scalar.cmpi .eq v5 c33_i32_70
  let c1851_i32_71 : BitVec 32 := 1851#32
  let c32_i32_68 : BitVec 32 := 32#32
  let v194 : BitVec 1 := Scalar.cmpi .eq v5 c32_i32_68
  let c2835_i32_69 : BitVec 32 := 2835#32
  let c31_i32_66 : BitVec 32 := 31#32
  let v192 : BitVec 1 := Scalar.cmpi .eq v5 c31_i32_66
  let c6151_i32_67 : BitVec 32 := 6151#32
  let c30_i32_64 : BitVec 32 := 30#32
  let v190 : BitVec 1 := Scalar.cmpi .eq v5 c30_i32_64
  let c2916_i32_65 : BitVec 32 := 2916#32
  let c29_i32_62 : BitVec 32 := 29#32
  let v188 : BitVec 1 := Scalar.cmpi .eq v5 c29_i32_62
  let c4806_i32_63 : BitVec 32 := 4806#32
  let c28_i32_60 : BitVec 32 := 28#32
  let v186 : BitVec 1 := Scalar.cmpi .eq v5 c28_i32_60
  let c2760_i32_61 : BitVec 32 := 2760#32
  let c27_i32_58 : BitVec 32 := 27#32
  let v184 : BitVec 1 := Scalar.cmpi .eq v5 c27_i32_58
  let c2339_i32_59 : BitVec 32 := 2339#32
  let c26_i32_56 : BitVec 32 := 26#32
  let v182 : BitVec 1 := Scalar.cmpi .eq v5 c26_i32_56
  let c5978_i32_57 : BitVec 32 := 5978#32
  let c25_i32_54 : BitVec 32 := 25#32
  let v180 : BitVec 1 := Scalar.cmpi .eq v5 c25_i32_54
  let c6943_i32_55 : BitVec 32 := 6943#32
  let c24_i32_52 : BitVec 32 := 24#32
  let v178 : BitVec 1 := Scalar.cmpi .eq v5 c24_i32_52
  let c7654_i32_53 : BitVec 32 := 7654#32
  let c23_i32_50 : BitVec 32 := 23#32
  let v176 : BitVec 1 := Scalar.cmpi .eq v5 c23_i32_50
  let c3018_i32_51 : BitVec 32 := 3018#32
  let c22_i32_48 : BitVec 32 := 22#32
  let v174 : BitVec 1 := Scalar.cmpi .eq v5 c22_i32_48
  let c56_i32_49 : BitVec 32 := 56#32
  let c21_i32_46 : BitVec 32 := 21#32
  let v172 : BitVec 1 := Scalar.cmpi .eq v5 c21_i32_46
  let c5652_i32_47 : BitVec 32 := 5652#32
  let c20_i32_44 : BitVec 32 := 20#32
  let v170 : BitVec 1 := Scalar.cmpi .eq v5 c20_i32_44
  let c6840_i32_45 : BitVec 32 := 6840#32
  let c19_i32_42 : BitVec 32 := 19#32
  let v168 : BitVec 1 := Scalar.cmpi .eq v5 c19_i32_42
  let c4026_i32_43 : BitVec 32 := 4026#32
  let c18_i32_40 : BitVec 32 := 18#32
  let v166 : BitVec 1 := Scalar.cmpi .eq v5 c18_i32_40
  let c91_i32_41 : BitVec 32 := 91#32
  let c17_i32_38 : BitVec 32 := 17#32
  let v164 : BitVec 1 := Scalar.cmpi .eq v5 c17_i32_38
  let c7767_i32_39 : BitVec 32 := 7767#32
  let c16_i32_36 : BitVec 32 := 16#32
  let v162 : BitVec 1 := Scalar.cmpi .eq v5 c16_i32_36
  let c4241_i32_37 : BitVec 32 := 4241#32
  let c15_i32_34 : BitVec 32 := 15#32
  let v160 : BitVec 1 := Scalar.cmpi .eq v5 c15_i32_34
  let c6170_i32_35 : BitVec 32 := 6170#32
  let c14_i32_32 : BitVec 32 := 14#32
  let v158 : BitVec 1 := Scalar.cmpi .eq v5 c14_i32_32
  let c8174_i32_33 : BitVec 32 := 8174#32
  let c13_i32_30 : BitVec 32 := 13#32
  let v156 : BitVec 1 := Scalar.cmpi .eq v5 c13_i32_30
  let c1378_i32_31 : BitVec 32 := 1378#32
  let c12_i32_28 : BitVec 32 := 12#32
  let v154 : BitVec 1 := Scalar.cmpi .eq v5 c12_i32_28
  let c2562_i32_29 : BitVec 32 := 2562#32
  let c11_i32_26 : BitVec 32 := 11#32
  let v152 : BitVec 1 := Scalar.cmpi .eq v5 c11_i32_26
  let c4161_i32_27 : BitVec 32 := 4161#32
  let c10_i32_24 : BitVec 32 := 10#32
  let v150 : BitVec 1 := Scalar.cmpi .eq v5 c10_i32_24
  let c6176_i32_25 : BitVec 32 := 6176#32
  let c9_i32_22 : BitVec 32 := 9#32
  let v148 : BitVec 1 := Scalar.cmpi .eq v5 c9_i32_22
  let c2818_i32_23 : BitVec 32 := 2818#32
  let c8_i32_20 : BitVec 32 := 8#32
  let v146 : BitVec 1 := Scalar.cmpi .eq v5 c8_i32_20
  let c5970_i32_21 : BitVec 32 := 5970#32
  let c7_i32_18 : BitVec 32 := 7#32
  let v144 : BitVec 1 := Scalar.cmpi .eq v5 c7_i32_18
  let c7573_i32_19 : BitVec 32 := 7573#32
  let c6_i32_16 : BitVec 32 := 6#32
  let v142 : BitVec 1 := Scalar.cmpi .eq v5 c6_i32_16
  let c3350_i32_17 : BitVec 32 := 3350#32
  let c5_i32_14 : BitVec 32 := 5#32
  let v140 : BitVec 1 := Scalar.cmpi .eq v5 c5_i32_14
  let c4780_i32_15 : BitVec 32 := 4780#32
  let c4_i32_12 : BitVec 32 := 4#32
  let v138 : BitVec 1 := Scalar.cmpi .eq v5 c4_i32_12
  let c6560_i32_13 : BitVec 32 := 6560#32
  let c3_i32_10 : BitVec 32 := 3#32
  let v136 : BitVec 1 := Scalar.cmpi .eq v5 c3_i32_10
  let c7017_i32_11 : BitVec 32 := 7017#32
  let c2_i32_8 : BitVec 32 := 2#32
  let v134 : BitVec 1 := Scalar.cmpi .eq v5 c2_i32_8
  let c736_i32_9 : BitVec 32 := 736#32
  let c1_i32_5 : BitVec 32 := 1#32
  let v132 : BitVec 1 := Scalar.cmpi .eq v5 c1_i32_5
  let c943_i32_7 : BitVec 32 := 943#32
  let c7932_i32_6 : BitVec 32 := 7932#32
  let v133 : BitVec 32 := Scalar.select v132 c943_i32_7 c7932_i32_6
  let v135 : BitVec 32 := Scalar.select v134 c736_i32_9 v133
  let v137 : BitVec 32 := Scalar.select v136 c7017_i32_11 v135
  let v139 : BitVec 32 := Scalar.select v138 c6560_i32_13 v137
  let v141 : BitVec 32 := Scalar.select v140 c4780_i32_15 v139
  let v143 : BitVec 32 := Scalar.select v142 c3350_i32_17 v141
  let v145 : BitVec 32 := Scalar.select v144 c7573_i32_19 v143
  let v147 : BitVec 32 := Scalar.select v146 c5970_i32_21 v145
  let v149 : BitVec 32 := Scalar.select v148 c2818_i32_23 v147
  let v151 : BitVec 32 := Scalar.select v150 c6176_i32_25 v149
  let v153 : BitVec 32 := Scalar.select v152 c4161_i32_27 v151
  let v155 : BitVec 32 := Scalar.select v154 c2562_i32_29 v153
  let v157 : BitVec 32 := Scalar.select v156 c1378_i32_31 v155
  let v159 : BitVec 32 := Scalar.select v158 c8174_i32_33 v157
  let v161 : BitVec 32 := Scalar.select v160 c6170_i32_35 v159
  let v163 : BitVec 32 := Scalar.select v162 c4241_i32_37 v161
  let v165 : BitVec 32 := Scalar.select v164 c7767_i32_39 v163
  let v167 : BitVec 32 := Scalar.select v166 c91_i32_41 v165
  let v169 : BitVec 32 := Scalar.select v168 c4026_i32_43 v167
  let v171 : BitVec 32 := Scalar.select v170 c6840_i32_45 v169
  let v173 : BitVec 32 := Scalar.select v172 c5652_i32_47 v171
  let v175 : BitVec 32 := Scalar.select v174 c56_i32_49 v173
  let v177 : BitVec 32 := Scalar.select v176 c3018_i32_51 v175
  let v179 : BitVec 32 := Scalar.select v178 c7654_i32_53 v177
  let v181 : BitVec 32 := Scalar.select v180 c6943_i32_55 v179
  let v183 : BitVec 32 := Scalar.select v182 c5978_i32_57 v181
  let v185 : BitVec 32 := Scalar.select v184 c2339_i32_59 v183
  let v187 : BitVec 32 := Scalar.select v186 c2760_i32_61 v185
  let v189 : BitVec 32 := Scalar.select v188 c4806_i32_63 v187
  let v191 : BitVec 32 := Scalar.select v190 c2916_i32_65 v189
  let v193 : BitVec 32 := Scalar.select v192 c6151_i32_67 v191
  let v195 : BitVec 32 := Scalar.select v194 c2835_i32_69 v193
  let v197 : BitVec 32 := Scalar.select v196 c1851_i32_71 v195
  let v199 : BitVec 32 := Scalar.select v198 c5685_i32_73 v197
  let v201 : BitVec 32 := Scalar.select v200 c1105_i32_75 v199
  let v203 : BitVec 32 := Scalar.select v202 c2937_i32_77 v201
  let v205 : BitVec 32 := Scalar.select v204 c6570_i32_79 v203
  let v207 : BitVec 32 := Scalar.select v206 c3980_i32_81 v205
  let v209 : BitVec 32 := Scalar.select v208 c7714_i32_83 v207
  let v211 : BitVec 32 := Scalar.select v210 c1846_i32_85 v209
  let v213 : BitVec 32 := Scalar.select v212 c3866_i32_87 v211
  let v215 : BitVec 32 := Scalar.select v214 c2914_i32_89 v213
  let v217 : BitVec 32 := Scalar.select v216 c1936_i32_91 v215
  let v219 : BitVec 32 := Scalar.select v218 c4871_i32_93 v217
  let v221 : BitVec 32 := Scalar.select v220 c2834_i32_95 v219
  let v223 : BitVec 32 := Scalar.select v222 c6125_i32_97 v221
  let v225 : BitVec 32 := Scalar.select v224 c3618_i32_99 v223
  let v227 : BitVec 32 := Scalar.select v226 c7487_i32_101 v225
  let v229 : BitVec 32 := Scalar.select v228 c593_i32_103 v227
  let v231 : BitVec 32 := Scalar.select v230 c7351_i32_105 v229
  let v233 : BitVec 32 := Scalar.select v232 c5479_i32_107 v231
  let v235 : BitVec 32 := Scalar.select v234 c572_i32_109 v233
  let v237 : BitVec 32 := Scalar.select v236 c1765_i32_111 v235
  let v239 : BitVec 32 := Scalar.select v238 c3913_i32_113 v237
  let v241 : BitVec 32 := Scalar.select v240 c2687_i32_115 v239
  let v243 : BitVec 32 := Scalar.select v242 c5257_i32_117 v241
  let v245 : BitVec 32 := Scalar.select v244 c6147_i32_119 v243
  let v247 : BitVec 32 := Scalar.select v246 c7228_i32_121 v245
  let v249 : BitVec 32 := Scalar.select v248 c2263_i32_123 v247
  let v251 : BitVec 32 := Scalar.select v250 c3132_i32_125 v249
  let v253 : BitVec 32 := Scalar.select v252 c722_i32_127 v251
  let v255 : BitVec 32 := Scalar.select v254 c1196_i32_129 v253
  let v257 : BitVec 32 := Scalar.select v256 c1763_i32_131 v255
  let c7_i32_134 : BitVec 32 := 7#32
  let v263 : BitVec 32 := Scalar.shrsi v257 c7_i32_134
  let v264 : BitVec 32 := Scalar.addi v262 v263
  let c256_i32_135 : BitVec 32 := 256#32
  let v265 : BitVec 32 := Scalar.muli v264 c256_i32_135
  let c1_i32_455 : BitVec 32 := 1#32
  let c1_i32_457 : BitVec 32 := 1#32
  let arg20 : BitVec 32 := Scf.iv c1_i32_455 c1_i32_457 k0_t5
  let c4_i32_743 : BitVec 32 := 4#32
  let v1654 : BitVec 32 := Scalar.muli arg20 c4_i32_743
  let c3_i32_744 : BitVec 32 := 3#32
  let v1655 : BitVec 32 := Scalar.addi v1654 c3_i32_744
  let c4_i32_774 : BitVec 32 := 4#32
  let v1724 : BitVec 32 := Scalar.addi v1655 c4_i32_774
  let c0_i32_776 : BitVec 32 := 0#32
  let v1726 : BitVec 1 := Scalar.cmpi .sgt v1724 c0_i32_776
  let v1727 : BitVec 32 := Scalar.extui v1726
  let c0_i32_777 : BitVec 32 := 0#32
  let v1728 : BitVec 1 := Scalar.cmpi .slt v1724 c0_i32_777
  let v1729 : BitVec 32 := Scalar.extui v1728
  let v1730 : BitVec 32 := Scalar.subi v1727 v1729
  let c2_i32_775 : BitVec 32 := 2#32
  let c0_i32_778 : BitVec 32 := 0#32
  let v1731 : BitVec 1 := Scalar.cmpi .sgt c2_i32_775 c0_i32_778
  let v1732 : BitVec 32 := Scalar.extui v1731
  let c0_i32_779 : BitVec 32 := 0#32
  let v1733 : BitVec 1 := Scalar.cmpi .slt c2_i32_775 c0_i32_779
  let v1734 : BitVec 32 := Scalar.extui v1733
  let v1735 : BitVec 32 := Scalar.subi v1732 v1734
  let v1736 : BitVec 1 := Scalar.cmpi .ne v1730 v1735
  let v1737 : BitVec 32 := Scalar.remsi v1724 c2_i32_775
  let c0_i32_780 : BitVec 32 := 0#32
  let v1738 : BitVec 1 := Scalar.cmpi .ne v1737 c0_i32_780
  let v1739 : BitVec 1 := Scalar.andi v1736 v1738
  let v1725 : BitVec 32 := Scalar.divsi v1724 c2_i32_775
  let c1_i32_781 : BitVec 32 := 1#32
  let v1740 : BitVec 32 := Scalar.subi v1725 c1_i32_781
  let v1741 : BitVec 32 := Scalar.select v1739 v1740 v1725
  let c15872_i32_782 : BitVec 32 := 15872#32
  let v1742 : BitVec 32 := Scalar.muli v1741 c15872_i32_782
  let v1743 : BitVec 32 := Scalar.addi v265 v1742
  v1743
def k0_mult161 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32 : BitVec 32 := 0#32
  let v3 : BitVec 32 := Scalar.addi v2 c0_i32
  let c2048_i32 : BitVec 32 := 2048#32
  let v258 : BitVec 32 := Scalar.muli v3 c2048_i32
  let c63_i32 : BitVec 32 := 63#32
  let v130 : BitVec 1 := Scalar.cmpi .eq v3 c63_i32
  let c1763_i32 : BitVec 32 := 1763#32
  let c62_i32 : BitVec 32 := 62#32
  let v128 : BitVec 1 := Scalar.cmpi .eq v3 c62_i32
  let c1196_i32 : BitVec 32 := 1196#32
  let c61_i32 : BitVec 32 := 61#32
  let v126 : BitVec 1 := Scalar.cmpi .eq v3 c61_i32
  let c722_i32 : BitVec 32 := 722#32
  let c60_i32 : BitVec 32 := 60#32
  let v124 : BitVec 1 := Scalar.cmpi .eq v3 c60_i32
  let c3132_i32 : BitVec 32 := 3132#32
  let c59_i32 : BitVec 32 := 59#32
  let v122 : BitVec 1 := Scalar.cmpi .eq v3 c59_i32
  let c2263_i32 : BitVec 32 := 2263#32
  let c58_i32 : BitVec 32 := 58#32
  let v120 : BitVec 1 := Scalar.cmpi .eq v3 c58_i32
  let c7228_i32 : BitVec 32 := 7228#32
  let c57_i32 : BitVec 32 := 57#32
  let v118 : BitVec 1 := Scalar.cmpi .eq v3 c57_i32
  let c6147_i32 : BitVec 32 := 6147#32
  let c56_i32_4 : BitVec 32 := 56#32
  let v116 : BitVec 1 := Scalar.cmpi .eq v3 c56_i32_4
  let c5257_i32 : BitVec 32 := 5257#32
  let c55_i32 : BitVec 32 := 55#32
  let v114 : BitVec 1 := Scalar.cmpi .eq v3 c55_i32
  let c2687_i32 : BitVec 32 := 2687#32
  let c54_i32 : BitVec 32 := 54#32
  let v112 : BitVec 1 := Scalar.cmpi .eq v3 c54_i32
  let c3913_i32 : BitVec 32 := 3913#32
  let c53_i32 : BitVec 32 := 53#32
  let v110 : BitVec 1 := Scalar.cmpi .eq v3 c53_i32
  let c1765_i32 : BitVec 32 := 1765#32
  let c52_i32 : BitVec 32 := 52#32
  let v108 : BitVec 1 := Scalar.cmpi .eq v3 c52_i32
  let c572_i32 : BitVec 32 := 572#32
  let c51_i32 : BitVec 32 := 51#32
  let v106 : BitVec 1 := Scalar.cmpi .eq v3 c51_i32
  let c5479_i32 : BitVec 32 := 5479#32
  let c50_i32 : BitVec 32 := 50#32
  let v104 : BitVec 1 := Scalar.cmpi .eq v3 c50_i32
  let c7351_i32 : BitVec 32 := 7351#32
  let c49_i32 : BitVec 32 := 49#32
  let v102 : BitVec 1 := Scalar.cmpi .eq v3 c49_i32
  let c593_i32 : BitVec 32 := 593#32
  let c48_i32 : BitVec 32 := 48#32
  let v100 : BitVec 1 := Scalar.cmpi .eq v3 c48_i32
  let c7487_i32 : BitVec 32 := 7487#32
  let c47_i32 : BitVec 32 := 47#32
  let v98 : BitVec 1 := Scalar.cmpi .eq v3 c47_i32
  let c3618_i32 : BitVec 32 := 3618#32
  let c46_i32 : BitVec 32 := 46#32
  let v96 : BitVec 1 := Scalar.cmpi .eq v3 c46_i32
  let c6125_i32 : BitVec 32 := 6125#32
  let c45_i32 : BitVec 32 := 45#32
  let v94 : BitVec 1 := Scalar.cmpi .eq v3 c45_i32
  let c2834_i32 : BitVec 32 := 2834#32
  let c44_i32 : BitVec 32 := 44#32
  let v92 : BitVec 1 := Scalar.cmpi .eq v3 c44_i32
  let c4871_i32 : BitVec 32 := 4871#32
  let c43_i32 : BitVec 32 := 43#32
  let v90 : BitVec 1 := Scalar.cmpi .eq v3 c43_i32
  let c1936_i32 : BitVec 32 := 1936#32
  let c42_i32 : BitVec 32 := 42#32
  let v88 : BitVec 1 := Scalar.cmpi .eq v3 c42_i32
  let c2914_i32 : BitVec 32 := 2914#32
  let c41_i32 : BitVec 32 := 41#32
  let v86 : BitVec 1 := Scalar.cmpi .eq v3 c41_i32
  let c3866_i32 : BitVec 32 := 3866#32
  let c40_i32 : BitVec 32 := 40#32
  let v84 : BitVec 1 := Scalar.cmpi .eq v3 c40_i32
  let c1846_i32 : BitVec 32 := 1846#32
  let c39_i32 : BitVec 32 := 39#32
  let v82 : BitVec 1 := Scalar.cmpi .eq v3 c39_i32
  let c7714_i32 : BitVec 32 := 7714#32
  let c38_i32 : BitVec 32 := 38#32
  let v80 : BitVec 1 := Scalar.cmpi .eq v3 c38_i32
  let c3980_i32 : BitVec 32 := 3980#32
  let c37_i32 : BitVec 32 := 37#32
  let v78 : BitVec 1 := Scalar.cmpi .eq v3 c37_i32
  let c6570_i32 : BitVec 32 := 6570#32
  let c36_i32 : BitVec 32 := 36#32
  let v76 : BitVec 1 := Scalar.cmpi .eq v3 c36_i32
  let c2937_i32 : BitVec 32 := 2937#32
  let c35_i32 : BitVec 32 := 35#32
  let v74 : BitVec 1 := Scalar.cmpi .eq v3 c35_i32
  let c1105_i32 : BitVec 32 := 1105#32
  let c34_i32 : BitVec 32 := 34#32
  let v72 : BitVec 1 := Scalar.cmpi .eq v3 c34_i32
  let c5685_i32 : BitVec 32 := 5685#32
  let c33_i32 : BitVec 32 := 33#32
  let v70 : BitVec 1 := Scalar.cmpi .eq v3 c33_i32
  let c1851_i32 : BitVec 32 := 1851#32
  let c32_i32 : BitVec 32 := 32#32
  let v68 : BitVec 1 := Scalar.cmpi .eq v3 c32_i32
  let c2835_i32 : BitVec 32 := 2835#32
  let c31_i32 : BitVec 32 := 31#32
  let v66 : BitVec 1 := Scalar.cmpi .eq v3 c31_i32
  let c6151_i32 : BitVec 32 := 6151#32
  let c30_i32 : BitVec 32 := 30#32
  let v64 : BitVec 1 := Scalar.cmpi .eq v3 c30_i32
  let c2916_i32 : BitVec 32 := 2916#32
  let c29_i32 : BitVec 32 := 29#32
  let v62 : BitVec 1 := Scalar.cmpi .eq v3 c29_i32
  let c4806_i32 : BitVec 32 := 4806#32
  let c28_i32 : BitVec 32 := 28#32
  let v60 : BitVec 1 := Scalar.cmpi .eq v3 c28_i32
  let c2760_i32 : BitVec 32 := 2760#32
  let c27_i32 : BitVec 32 := 27#32
  let v58 : BitVec 1 := Scalar.cmpi .eq v3 c27_i32
  let c2339_i32 : BitVec 32 := 2339#32
  let c26_i32 : BitVec 32 := 26#32
  let v56 : BitVec 1 := Scalar.cmpi .eq v3 c26_i32
  let c5978_i32 : BitVec 32 := 5978#32
  let c25_i32 : BitVec 32 := 25#32
  let v54 : BitVec 1 := Scalar.cmpi .eq v3 c25_i32
  let c6943_i32 : BitVec 32 := 6943#32
  let c24_i32 : BitVec 32 := 24#32
  let v52 : BitVec 1 := Scalar.cmpi .eq v3 c24_i32
  let c7654_i32 : BitVec 32 := 7654#32
  let c23_i32 : BitVec 32 := 23#32
  let v50 : BitVec 1 := Scalar.cmpi .eq v3 c23_i32
  let c3018_i32 : BitVec 32 := 3018#32
  let c22_i32 : BitVec 32 := 22#32
  let v48 : BitVec 1 := Scalar.cmpi .eq v3 c22_i32
  let c56_i32 : BitVec 32 := 56#32
  let c21_i32 : BitVec 32 := 21#32
  let v46 : BitVec 1 := Scalar.cmpi .eq v3 c21_i32
  let c5652_i32 : BitVec 32 := 5652#32
  let c20_i32 : BitVec 32 := 20#32
  let v44 : BitVec 1 := Scalar.cmpi .eq v3 c20_i32
  let c6840_i32 : BitVec 32 := 6840#32
  let c19_i32 : BitVec 32 := 19#32
  let v42 : BitVec 1 := Scalar.cmpi .eq v3 c19_i32
  let c4026_i32 : BitVec 32 := 4026#32
  let c18_i32 : BitVec 32 := 18#32
  let v40 : BitVec 1 := Scalar.cmpi .eq v3 c18_i32
  let c91_i32 : BitVec 32 := 91#32
  let c17_i32 : BitVec 32 := 17#32
  let v38 : BitVec 1 := Scalar.cmpi .eq v3 c17_i32
  let c7767_i32 : BitVec 32 := 7767#32
  let c16_i32 : BitVec 32 := 16#32
  let v36 : BitVec 1 := Scalar.cmpi .eq v3 c16_i32
  let c4241_i32 : BitVec 32 := 4241#32
  let c15_i32 : BitVec 32 := 15#32
  let v34 : BitVec 1 := Scalar.cmpi .eq v3 c15_i32
  let c6170_i32 : BitVec 32 := 6170#32
  let c14_i32 : BitVec 32 := 14#32
  let v32 : BitVec 1 := Scalar.cmpi .eq v3 c14_i32
  let c8174_i32 : BitVec 32 := 8174#32
  let c13_i32 : BitVec 32 := 13#32
  let v30 : BitVec 1 := Scalar.cmpi .eq v3 c13_i32
  let c1378_i32 : BitVec 32 := 1378#32
  let c12_i32 : BitVec 32 := 12#32
  let v28 : BitVec 1 := Scalar.cmpi .eq v3 c12_i32
  let c2562_i32 : BitVec 32 := 2562#32
  let c11_i32 : BitVec 32 := 11#32
  let v26 : BitVec 1 := Scalar.cmpi .eq v3 c11_i32
  let c4161_i32 : BitVec 32 := 4161#32
  let c10_i32 : BitVec 32 := 10#32
  let v24 : BitVec 1 := Scalar.cmpi .eq v3 c10_i32
  let c6176_i32 : BitVec 32 := 6176#32
  let c9_i32 : BitVec 32 := 9#32
  let v22 : BitVec 1 := Scalar.cmpi .eq v3 c9_i32
  let c2818_i32 : BitVec 32 := 2818#32
  let c8_i32 : BitVec 32 := 8#32
  let v20 : BitVec 1 := Scalar.cmpi .eq v3 c8_i32
  let c5970_i32 : BitVec 32 := 5970#32
  let c7_i32 : BitVec 32 := 7#32
  let v18 : BitVec 1 := Scalar.cmpi .eq v3 c7_i32
  let c7573_i32 : BitVec 32 := 7573#32
  let c6_i32 : BitVec 32 := 6#32
  let v16 : BitVec 1 := Scalar.cmpi .eq v3 c6_i32
  let c3350_i32 : BitVec 32 := 3350#32
  let c5_i32 : BitVec 32 := 5#32
  let v14 : BitVec 1 := Scalar.cmpi .eq v3 c5_i32
  let c4780_i32 : BitVec 32 := 4780#32
  let c4_i32 : BitVec 32 := 4#32
  let v12 : BitVec 1 := Scalar.cmpi .eq v3 c4_i32
  let c6560_i32 : BitVec 32 := 6560#32
  let c3_i32 : BitVec 32 := 3#32
  let v10 : BitVec 1 := Scalar.cmpi .eq v3 c3_i32
  let c7017_i32 : BitVec 32 := 7017#32
  let c2_i32_3 : BitVec 32 := 2#32
  let v8 : BitVec 1 := Scalar.cmpi .eq v3 c2_i32_3
  let c736_i32 : BitVec 32 := 736#32
  let c1_i32_2 : BitVec 32 := 1#32
  let v6 : BitVec 1 := Scalar.cmpi .eq v3 c1_i32_2
  let c943_i32 : BitVec 32 := 943#32
  let c7932_i32 : BitVec 32 := 7932#32
  let v7 : BitVec 32 := Scalar.select v6 c943_i32 c7932_i32
  let v9 : BitVec 32 := Scalar.select v8 c736_i32 v7
  let v11 : BitVec 32 := Scalar.select v10 c7017_i32 v9
  let v13 : BitVec 32 := Scalar.select v12 c6560_i32 v11
  let v15 : BitVec 32 := Scalar.select v14 c4780_i32 v13
  let v17 : BitVec 32 := Scalar.select v16 c3350_i32 v15
  let v19 : BitVec 32 := Scalar.select v18 c7573_i32 v17
  let v21 : BitVec 32 := Scalar.select v20 c5970_i32 v19
  let v23 : BitVec 32 := Scalar.select v22 c2818_i32 v21
  let v25 : BitVec 32 := Scalar.select v24 c6176_i32 v23
  let v27 : BitVec 32 := Scalar.select v26 c4161_i32 v25
  let v29 : BitVec 32 := Scalar.select v28 c2562_i32 v27
  let v31 : BitVec 32 := Scalar.select v30 c1378_i32 v29
  let v33 : BitVec 32 := Scalar.select v32 c8174_i32 v31
  let v35 : BitVec 32 := Scalar.select v34 c6170_i32 v33
  let v37 : BitVec 32 := Scalar.select v36 c4241_i32 v35
  let v39 : BitVec 32 := Scalar.select v38 c7767_i32 v37
  let v41 : BitVec 32 := Scalar.select v40 c91_i32 v39
  let v43 : BitVec 32 := Scalar.select v42 c4026_i32 v41
  let v45 : BitVec 32 := Scalar.select v44 c6840_i32 v43
  let v47 : BitVec 32 := Scalar.select v46 c5652_i32 v45
  let v49 : BitVec 32 := Scalar.select v48 c56_i32 v47
  let v51 : BitVec 32 := Scalar.select v50 c3018_i32 v49
  let v53 : BitVec 32 := Scalar.select v52 c7654_i32 v51
  let v55 : BitVec 32 := Scalar.select v54 c6943_i32 v53
  let v57 : BitVec 32 := Scalar.select v56 c5978_i32 v55
  let v59 : BitVec 32 := Scalar.select v58 c2339_i32 v57
  let v61 : BitVec 32 := Scalar.select v60 c2760_i32 v59
  let v63 : BitVec 32 := Scalar.select v62 c4806_i32 v61
  let v65 : BitVec 32 := Scalar.select v64 c2916_i32 v63
  let v67 : BitVec 32 := Scalar.select v66 c6151_i32 v65
  let v69 : BitVec 32 := Scalar.select v68 c2835_i32 v67
  let v71 : BitVec 32 := Scalar.select v70 c1851_i32 v69
  let v73 : BitVec 32 := Scalar.select v72 c5685_i32 v71
  let v75 : BitVec 32 := Scalar.select v74 c1105_i32 v73
  let v77 : BitVec 32 := Scalar.select v76 c2937_i32 v75
  let v79 : BitVec 32 := Scalar.select v78 c6570_i32 v77
  let v81 : BitVec 32 := Scalar.select v80 c3980_i32 v79
  let v83 : BitVec 32 := Scalar.select v82 c7714_i32 v81
  let v85 : BitVec 32 := Scalar.select v84 c1846_i32 v83
  let v87 : BitVec 32 := Scalar.select v86 c3866_i32 v85
  let v89 : BitVec 32 := Scalar.select v88 c2914_i32 v87
  let v91 : BitVec 32 := Scalar.select v90 c1936_i32 v89
  let v93 : BitVec 32 := Scalar.select v92 c4871_i32 v91
  let v95 : BitVec 32 := Scalar.select v94 c2834_i32 v93
  let v97 : BitVec 32 := Scalar.select v96 c6125_i32 v95
  let v99 : BitVec 32 := Scalar.select v98 c3618_i32 v97
  let v101 : BitVec 32 := Scalar.select v100 c7487_i32 v99
  let v103 : BitVec 32 := Scalar.select v102 c593_i32 v101
  let v105 : BitVec 32 := Scalar.select v104 c7351_i32 v103
  let v107 : BitVec 32 := Scalar.select v106 c5479_i32 v105
  let v109 : BitVec 32 := Scalar.select v108 c572_i32 v107
  let v111 : BitVec 32 := Scalar.select v110 c1765_i32 v109
  let v113 : BitVec 32 := Scalar.select v112 c3913_i32 v111
  let v115 : BitVec 32 := Scalar.select v114 c2687_i32 v113
  let v117 : BitVec 32 := Scalar.select v116 c5257_i32 v115
  let v119 : BitVec 32 := Scalar.select v118 c6147_i32 v117
  let v121 : BitVec 32 := Scalar.select v120 c7228_i32 v119
  let v123 : BitVec 32 := Scalar.select v122 c2263_i32 v121
  let v125 : BitVec 32 := Scalar.select v124 c3132_i32 v123
  let v127 : BitVec 32 := Scalar.select v126 c722_i32 v125
  let v129 : BitVec 32 := Scalar.select v128 c1196_i32 v127
  let v131 : BitVec 32 := Scalar.select v130 c1763_i32 v129
  let c7_i32_132 : BitVec 32 := 7#32
  let v259 : BitVec 32 := Scalar.shrsi v131 c7_i32_132
  let v260 : BitVec 32 := Scalar.addi v258 v259
  let c256_i32 : BitVec 32 := 256#32
  let v261 : BitVec 32 := Scalar.muli v260 c256_i32
  let c60_i32_459 : BitVec 32 := 60#32
  let c0_i32_461 : BitVec 32 := 0#32
  let v1016 : BitVec 1 := Scalar.cmpi .sgt c60_i32_459 c0_i32_461
  let v1017 : BitVec 32 := Scalar.extui v1016
  let c0_i32_462 : BitVec 32 := 0#32
  let v1018 : BitVec 1 := Scalar.cmpi .slt c60_i32_459 c0_i32_462
  let v1019 : BitVec 32 := Scalar.extui v1018
  let v1020 : BitVec 32 := Scalar.subi v1017 v1019
  let c2_i32_460 : BitVec 32 := 2#32
  let c0_i32_463 : BitVec 32 := 0#32
  let v1021 : BitVec 1 := Scalar.cmpi .sgt c2_i32_460 c0_i32_463
  let v1022 : BitVec 32 := Scalar.extui v1021
  let c0_i32_464 : BitVec 32 := 0#32
  let v1023 : BitVec 1 := Scalar.cmpi .slt c2_i32_460 c0_i32_464
  let v1024 : BitVec 32 := Scalar.extui v1023
  let v1025 : BitVec 32 := Scalar.subi v1022 v1024
  let v1026 : BitVec 1 := Scalar.cmpi .ne v1020 v1025
  let v1027 : BitVec 32 := Scalar.remsi c60_i32_459 c2_i32_460
  let c0_i32_465 : BitVec 32 := 0#32
  let v1028 : BitVec 1 := Scalar.cmpi .ne v1027 c0_i32_465
  let v1029 : BitVec 1 := Scalar.andi v1026 v1028
  let v1015 : BitVec 32 := Scalar.divsi c60_i32_459 c2_i32_460
  let c1_i32_466 : BitVec 32 := 1#32
  let v1030 : BitVec 32 := Scalar.subi v1015 c1_i32_466
  let v1031 : BitVec 32 := Scalar.select v1029 v1030 v1015
  let c15872_i32_467 : BitVec 32 := 15872#32
  let v1032 : BitVec 32 := Scalar.muli v1031 c15872_i32_467
  let v1033 : BitVec 32 := Scalar.addi v261 v1032
  v1033
def k0_mult162 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32 : BitVec 32 := 0#32
  let v3 : BitVec 32 := Scalar.addi v2 c0_i32
  let c1984_i32 : BitVec 32 := 1984#32
  let v266 : BitVec 32 := Scalar.muli v3 c1984_i32
  let c256_i32_136 : BitVec 32 := 256#32
  let v267 : BitVec 32 := Scalar.muli v266 c256_i32_136
  let c60_i32_468 : BitVec 32 := 60#32
  let c4_i32_469 : BitVec 32 := 4#32
  let v1037 : BitVec 32 := Scalar.subi c60_i32_468 c4_i32_469
  let c0_i32_471 : BitVec 32 := 0#32
  let v1039 : BitVec 1 := Scalar.cmpi .sgt v1037 c0_i32_471
  let v1040 : BitVec 32 := Scalar.extui v1039
  let c0_i32_472 : BitVec 32 := 0#32
  let v1041 : BitVec 1 := Scalar.cmpi .slt v1037 c0_i32_472
  let v1042 : BitVec 32 := Scalar.extui v1041
  let v1043 : BitVec 32 := Scalar.subi v1040 v1042
  let c2_i32_470 : BitVec 32 := 2#32
  let c0_i32_473 : BitVec 32 := 0#32
  let v1044 : BitVec 1 := Scalar.cmpi .sgt c2_i32_470 c0_i32_473
  let v1045 : BitVec 32 := Scalar.extui v1044
  let c0_i32_474 : BitVec 32 := 0#32
  let v1046 : BitVec 1 := Scalar.cmpi .slt c2_i32_470 c0_i32_474
  let v1047 : BitVec 32 := Scalar.extui v1046
  let v1048 : BitVec 32 := Scalar.subi v1045 v1047
  let v1049 : BitVec 1 := Scalar.cmpi .ne v1043 v1048
  let v1050 : BitVec 32 := Scalar.remsi v1037 c2_i32_470
  let c0_i32_475 : BitVec 32 := 0#32
  let v1051 : BitVec 1 := Scalar.cmpi .ne v1050 c0_i32_475
  let v1052 : BitVec 1 := Scalar.andi v1049 v1051
  let v1038 : BitVec 32 := Scalar.divsi v1037 c2_i32_470
  let c1_i32_476 : BitVec 32 := 1#32
  let v1053 : BitVec 32 := Scalar.subi v1038 c1_i32_476
  let v1054 : BitVec 32 := Scalar.select v1052 v1053 v1038
  let c15872_i32_477 : BitVec 32 := 15872#32
  let v1055 : BitVec 32 := Scalar.muli v1054 c15872_i32_477
  let v1056 : BitVec 32 := Scalar.addi v267 v1055
  v1056
def k0_off135 (i : grid0.Coords) (c0_i32 : BitVec 32) (c60_i32_468 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let v3 : BitVec 32 := Scalar.addi v2 c0_i32
  let c1984_i32 : BitVec 32 := 1984#32
  let v266 : BitVec 32 := Scalar.muli v3 c1984_i32
  let c256_i32_136 : BitVec 32 := 256#32
  let v267 : BitVec 32 := Scalar.muli v266 c256_i32_136
  let c4_i32_469 : BitVec 32 := 4#32
  let v1037 : BitVec 32 := Scalar.subi c60_i32_468 c4_i32_469
  let c0_i32_471 : BitVec 32 := 0#32
  let v1039 : BitVec 1 := Scalar.cmpi .sgt v1037 c0_i32_471
  let v1040 : BitVec 32 := Scalar.extui v1039
  let c0_i32_472 : BitVec 32 := 0#32
  let v1041 : BitVec 1 := Scalar.cmpi .slt v1037 c0_i32_472
  let v1042 : BitVec 32 := Scalar.extui v1041
  let v1043 : BitVec 32 := Scalar.subi v1040 v1042
  let c2_i32_470 : BitVec 32 := 2#32
  let c0_i32_473 : BitVec 32 := 0#32
  let v1044 : BitVec 1 := Scalar.cmpi .sgt c2_i32_470 c0_i32_473
  let v1045 : BitVec 32 := Scalar.extui v1044
  let c0_i32_474 : BitVec 32 := 0#32
  let v1046 : BitVec 1 := Scalar.cmpi .slt c2_i32_470 c0_i32_474
  let v1047 : BitVec 32 := Scalar.extui v1046
  let v1048 : BitVec 32 := Scalar.subi v1045 v1047
  let v1049 : BitVec 1 := Scalar.cmpi .ne v1043 v1048
  let v1050 : BitVec 32 := Scalar.remsi v1037 c2_i32_470
  let c0_i32_475 : BitVec 32 := 0#32
  let v1051 : BitVec 1 := Scalar.cmpi .ne v1050 c0_i32_475
  let v1052 : BitVec 1 := Scalar.andi v1049 v1051
  let v1038 : BitVec 32 := Scalar.divsi v1037 c2_i32_470
  let c1_i32_476 : BitVec 32 := 1#32
  let v1053 : BitVec 32 := Scalar.subi v1038 c1_i32_476
  let v1054 : BitVec 32 := Scalar.select v1052 v1053 v1038
  let c15872_i32_477 : BitVec 32 := 15872#32
  let v1055 : BitVec 32 := Scalar.muli v1054 c15872_i32_477
  let v1056 : BitVec 32 := Scalar.addi v267 v1055
  let v1057 : BitVec 32 := v1056
  ![v1057.toNat]
def k0_off135_at (r : Fin 4) : BitVec 32 × BitVec 32 :=
  if r.val < 2 then
    if r.val < 1 then
      (0#32, 60#32)
    else
      (1#32, 61#32)
  else
    if r.val < 3 then
      (0#32, 62#32)
    else
      (1#32, 63#32)
@[reducible] def k0_t10_loop : Scf.Loop 32 :=
  let c0_i32_478 : BitVec 32 := 0#32
  let c62_i32_479 : BitVec 32 := 62#32
  let v1060 : BitVec 32 := Scalar.addi c0_i32_478 c62_i32_479
  let c1_i32_480 : BitVec 32 := 1#32
  ⟨c0_i32_478, v1060, c1_i32_480⟩

def k0_chk129 (v1381 : IVec S16 32) : Prop :=
  (∀ a x, ((![v1381] : Fin 1 → IVec S16 32) a x).toNat < S16128.size a)
theorem k0_idx129_inb : ∀ (v1381 : IVec S16 32) (k0_hw129 : k0_chk129 v1381), ∀ a x, ((![v1381] : Fin 1 → IVec S16 32) a x).toNat < S16128.size a := fun v1381 k0_hw129 => k0_hw129
def k0_mult163 (k0_t10 : Fin k0_t10_loop.trips) : BitVec 32 :=
  let c0_i32_624 : BitVec 32 := 0#32
  let c0_i32_478 : BitVec 32 := 0#32
  let c1_i32_480 : BitVec 32 := 1#32
  let arg20 : BitVec 32 := Scf.iv c0_i32_478 c1_i32_480 k0_t10
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c0_i32_627 : BitVec 32 := 0#32
  let v1383 : BitVec 32 := Scalar.addi v1377 c0_i32_627
  v1383
def k0_off136 (k0_t10 : Fin k0_t10_loop.trips) : Fin 1 → Nat :=
  let c0_i32_624 : BitVec 32 := 0#32
  let c0_i32_478 : BitVec 32 := 0#32
  let c1_i32_480 : BitVec 32 := 1#32
  let arg20 : BitVec 32 := Scf.iv c0_i32_478 c1_i32_480 k0_t10
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c0_i32_627 : BitVec 32 := 0#32
  let v1383 : BitVec 32 := Scalar.addi v1377 c0_i32_627
  let v1384 : BitVec 32 := v1383
  let v1385 : Index := Scalar.indexCast v1384
  ![v1385.toNat]

def k0_chk130 (v1387 : IVec S16 32) : Prop :=
  (∀ a x, ((![v1387] : Fin 1 → IVec S16 32) a x).toNat < S16128.size a)
theorem k0_idx130_inb : ∀ (v1387 : IVec S16 32) (k0_hw130 : k0_chk130 v1387), ∀ a x, ((![v1387] : Fin 1 → IVec S16 32) a x).toNat < S16128.size a := fun v1387 k0_hw130 => k0_hw130
def k0_mult164 (k0_t10 : Fin k0_t10_loop.trips) : BitVec 32 :=
  let c0_i32_624 : BitVec 32 := 0#32
  let c0_i32_478 : BitVec 32 := 0#32
  let c1_i32_480 : BitVec 32 := 1#32
  let arg20 : BitVec 32 := Scf.iv c0_i32_478 c1_i32_480 k0_t10
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c16_i32_628 : BitVec 32 := 16#32
  let v1389 : BitVec 32 := Scalar.addi v1377 c16_i32_628
  v1389
def k0_off137 (k0_t10 : Fin k0_t10_loop.trips) : Fin 1 → Nat :=
  let c0_i32_624 : BitVec 32 := 0#32
  let c0_i32_478 : BitVec 32 := 0#32
  let c1_i32_480 : BitVec 32 := 1#32
  let arg20 : BitVec 32 := Scf.iv c0_i32_478 c1_i32_480 k0_t10
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c16_i32_628 : BitVec 32 := 16#32
  let v1389 : BitVec 32 := Scalar.addi v1377 c16_i32_628
  let v1390 : BitVec 32 := v1389
  let v1391 : Index := Scalar.indexCast v1390
  ![v1391.toNat]

def k0_chk131 (v1393 : IVec S16 32) : Prop :=
  (∀ a x, ((![v1393] : Fin 1 → IVec S16 32) a x).toNat < S16128.size a)
theorem k0_idx131_inb : ∀ (v1393 : IVec S16 32) (k0_hw131 : k0_chk131 v1393), ∀ a x, ((![v1393] : Fin 1 → IVec S16 32) a x).toNat < S16128.size a := fun v1393 k0_hw131 => k0_hw131
def k0_mult165 (k0_t10 : Fin k0_t10_loop.trips) : BitVec 32 :=
  let c0_i32_624 : BitVec 32 := 0#32
  let c0_i32_478 : BitVec 32 := 0#32
  let c1_i32_480 : BitVec 32 := 1#32
  let arg20 : BitVec 32 := Scf.iv c0_i32_478 c1_i32_480 k0_t10
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c32_i32_629 : BitVec 32 := 32#32
  let v1395 : BitVec 32 := Scalar.addi v1377 c32_i32_629
  v1395
def k0_off138 (k0_t10 : Fin k0_t10_loop.trips) : Fin 1 → Nat :=
  let c0_i32_624 : BitVec 32 := 0#32
  let c0_i32_478 : BitVec 32 := 0#32
  let c1_i32_480 : BitVec 32 := 1#32
  let arg20 : BitVec 32 := Scf.iv c0_i32_478 c1_i32_480 k0_t10
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c32_i32_629 : BitVec 32 := 32#32
  let v1395 : BitVec 32 := Scalar.addi v1377 c32_i32_629
  let v1396 : BitVec 32 := v1395
  let v1397 : Index := Scalar.indexCast v1396
  ![v1397.toNat]

def k0_chk132 (v1399 : IVec S16 32) : Prop :=
  (∀ a x, ((![v1399] : Fin 1 → IVec S16 32) a x).toNat < S16128.size a)
theorem k0_idx132_inb : ∀ (v1399 : IVec S16 32) (k0_hw132 : k0_chk132 v1399), ∀ a x, ((![v1399] : Fin 1 → IVec S16 32) a x).toNat < S16128.size a := fun v1399 k0_hw132 => k0_hw132
def k0_mult166 (k0_t10 : Fin k0_t10_loop.trips) : BitVec 32 :=
  let c0_i32_624 : BitVec 32 := 0#32
  let c0_i32_478 : BitVec 32 := 0#32
  let c1_i32_480 : BitVec 32 := 1#32
  let arg20 : BitVec 32 := Scf.iv c0_i32_478 c1_i32_480 k0_t10
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c48_i32_630 : BitVec 32 := 48#32
  let v1401 : BitVec 32 := Scalar.addi v1377 c48_i32_630
  v1401
def k0_off139 (k0_t10 : Fin k0_t10_loop.trips) : Fin 1 → Nat :=
  let c0_i32_624 : BitVec 32 := 0#32
  let c0_i32_478 : BitVec 32 := 0#32
  let c1_i32_480 : BitVec 32 := 1#32
  let arg20 : BitVec 32 := Scf.iv c0_i32_478 c1_i32_480 k0_t10
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c48_i32_630 : BitVec 32 := 48#32
  let v1401 : BitVec 32 := Scalar.addi v1377 c48_i32_630
  let v1402 : BitVec 32 := v1401
  let v1403 : Index := Scalar.indexCast v1402
  ![v1403.toNat]

def k0_chk133 (v1405 : IVec S16 32) : Prop :=
  (∀ a x, ((![v1405] : Fin 1 → IVec S16 32) a x).toNat < S16128.size a)
theorem k0_idx133_inb : ∀ (v1405 : IVec S16 32) (k0_hw133 : k0_chk133 v1405), ∀ a x, ((![v1405] : Fin 1 → IVec S16 32) a x).toNat < S16128.size a := fun v1405 k0_hw133 => k0_hw133
def k0_mult167 (k0_t10 : Fin k0_t10_loop.trips) : BitVec 32 :=
  let c0_i32_624 : BitVec 32 := 0#32
  let c0_i32_478 : BitVec 32 := 0#32
  let c1_i32_480 : BitVec 32 := 1#32
  let arg20 : BitVec 32 := Scf.iv c0_i32_478 c1_i32_480 k0_t10
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c64_i32_631 : BitVec 32 := 64#32
  let v1407 : BitVec 32 := Scalar.addi v1377 c64_i32_631
  v1407
def k0_off140 (k0_t10 : Fin k0_t10_loop.trips) : Fin 1 → Nat :=
  let c0_i32_624 : BitVec 32 := 0#32
  let c0_i32_478 : BitVec 32 := 0#32
  let c1_i32_480 : BitVec 32 := 1#32
  let arg20 : BitVec 32 := Scf.iv c0_i32_478 c1_i32_480 k0_t10
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c64_i32_631 : BitVec 32 := 64#32
  let v1407 : BitVec 32 := Scalar.addi v1377 c64_i32_631
  let v1408 : BitVec 32 := v1407
  let v1409 : Index := Scalar.indexCast v1408
  ![v1409.toNat]

def k0_chk134 (v1411 : IVec S16 32) : Prop :=
  (∀ a x, ((![v1411] : Fin 1 → IVec S16 32) a x).toNat < S16128.size a)
theorem k0_idx134_inb : ∀ (v1411 : IVec S16 32) (k0_hw134 : k0_chk134 v1411), ∀ a x, ((![v1411] : Fin 1 → IVec S16 32) a x).toNat < S16128.size a := fun v1411 k0_hw134 => k0_hw134
def k0_mult168 (k0_t10 : Fin k0_t10_loop.trips) : BitVec 32 :=
  let c0_i32_624 : BitVec 32 := 0#32
  let c0_i32_478 : BitVec 32 := 0#32
  let c1_i32_480 : BitVec 32 := 1#32
  let arg20 : BitVec 32 := Scf.iv c0_i32_478 c1_i32_480 k0_t10
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c80_i32_632 : BitVec 32 := 80#32
  let v1413 : BitVec 32 := Scalar.addi v1377 c80_i32_632
  v1413
def k0_off141 (k0_t10 : Fin k0_t10_loop.trips) : Fin 1 → Nat :=
  let c0_i32_624 : BitVec 32 := 0#32
  let c0_i32_478 : BitVec 32 := 0#32
  let c1_i32_480 : BitVec 32 := 1#32
  let arg20 : BitVec 32 := Scf.iv c0_i32_478 c1_i32_480 k0_t10
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c80_i32_632 : BitVec 32 := 80#32
  let v1413 : BitVec 32 := Scalar.addi v1377 c80_i32_632
  let v1414 : BitVec 32 := v1413
  let v1415 : Index := Scalar.indexCast v1414
  ![v1415.toNat]

def k0_chk135 (v1417 : IVec S16 32) : Prop :=
  (∀ a x, ((![v1417] : Fin 1 → IVec S16 32) a x).toNat < S16128.size a)
theorem k0_idx135_inb : ∀ (v1417 : IVec S16 32) (k0_hw135 : k0_chk135 v1417), ∀ a x, ((![v1417] : Fin 1 → IVec S16 32) a x).toNat < S16128.size a := fun v1417 k0_hw135 => k0_hw135
def k0_mult169 (k0_t10 : Fin k0_t10_loop.trips) : BitVec 32 :=
  let c0_i32_624 : BitVec 32 := 0#32
  let c0_i32_478 : BitVec 32 := 0#32
  let c1_i32_480 : BitVec 32 := 1#32
  let arg20 : BitVec 32 := Scf.iv c0_i32_478 c1_i32_480 k0_t10
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c96_i32_633 : BitVec 32 := 96#32
  let v1419 : BitVec 32 := Scalar.addi v1377 c96_i32_633
  v1419
def k0_off142 (k0_t10 : Fin k0_t10_loop.trips) : Fin 1 → Nat :=
  let c0_i32_624 : BitVec 32 := 0#32
  let c0_i32_478 : BitVec 32 := 0#32
  let c1_i32_480 : BitVec 32 := 1#32
  let arg20 : BitVec 32 := Scf.iv c0_i32_478 c1_i32_480 k0_t10
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c96_i32_633 : BitVec 32 := 96#32
  let v1419 : BitVec 32 := Scalar.addi v1377 c96_i32_633
  let v1420 : BitVec 32 := v1419
  let v1421 : Index := Scalar.indexCast v1420
  ![v1421.toNat]

def k0_chk136 (v1423 : IVec S16 32) : Prop :=
  (∀ a x, ((![v1423] : Fin 1 → IVec S16 32) a x).toNat < S16128.size a)
theorem k0_idx136_inb : ∀ (v1423 : IVec S16 32) (k0_hw136 : k0_chk136 v1423), ∀ a x, ((![v1423] : Fin 1 → IVec S16 32) a x).toNat < S16128.size a := fun v1423 k0_hw136 => k0_hw136
def k0_mult170 (k0_t10 : Fin k0_t10_loop.trips) : BitVec 32 :=
  let c0_i32_624 : BitVec 32 := 0#32
  let c0_i32_478 : BitVec 32 := 0#32
  let c1_i32_480 : BitVec 32 := 1#32
  let arg20 : BitVec 32 := Scf.iv c0_i32_478 c1_i32_480 k0_t10
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c112_i32_634 : BitVec 32 := 112#32
  let v1425 : BitVec 32 := Scalar.addi v1377 c112_i32_634
  v1425
def k0_off143 (k0_t10 : Fin k0_t10_loop.trips) : Fin 1 → Nat :=
  let c0_i32_624 : BitVec 32 := 0#32
  let c0_i32_478 : BitVec 32 := 0#32
  let c1_i32_480 : BitVec 32 := 1#32
  let arg20 : BitVec 32 := Scf.iv c0_i32_478 c1_i32_480 k0_t10
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c112_i32_634 : BitVec 32 := 112#32
  let v1425 : BitVec 32 := Scalar.addi v1377 c112_i32_634
  let v1426 : BitVec 32 := v1425
  let v1427 : Index := Scalar.indexCast v1426
  ![v1427.toNat]

def k0_chk137 (v1429 : IVec S16 32) : Prop :=
  (∀ a x, ((![v1429] : Fin 1 → IVec S16 32) a x).toNat < S16128.size a)
theorem k0_idx137_inb : ∀ (v1429 : IVec S16 32) (k0_hw137 : k0_chk137 v1429), ∀ a x, ((![v1429] : Fin 1 → IVec S16 32) a x).toNat < S16128.size a := fun v1429 k0_hw137 => k0_hw137
def k0_mult171 (k0_t10 : Fin k0_t10_loop.trips) : BitVec 32 :=
  let c0_i32_624 : BitVec 32 := 0#32
  let c0_i32_478 : BitVec 32 := 0#32
  let c1_i32_480 : BitVec 32 := 1#32
  let arg20 : BitVec 32 := Scf.iv c0_i32_478 c1_i32_480 k0_t10
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c128_i32_635 : BitVec 32 := 128#32
  let v1431 : BitVec 32 := Scalar.addi v1377 c128_i32_635
  v1431
def k0_off144 (k0_t10 : Fin k0_t10_loop.trips) : Fin 1 → Nat :=
  let c0_i32_624 : BitVec 32 := 0#32
  let c0_i32_478 : BitVec 32 := 0#32
  let c1_i32_480 : BitVec 32 := 1#32
  let arg20 : BitVec 32 := Scf.iv c0_i32_478 c1_i32_480 k0_t10
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c128_i32_635 : BitVec 32 := 128#32
  let v1431 : BitVec 32 := Scalar.addi v1377 c128_i32_635
  let v1432 : BitVec 32 := v1431
  let v1433 : Index := Scalar.indexCast v1432
  ![v1433.toNat]

def k0_chk138 (v1435 : IVec S16 32) : Prop :=
  (∀ a x, ((![v1435] : Fin 1 → IVec S16 32) a x).toNat < S16128.size a)
theorem k0_idx138_inb : ∀ (v1435 : IVec S16 32) (k0_hw138 : k0_chk138 v1435), ∀ a x, ((![v1435] : Fin 1 → IVec S16 32) a x).toNat < S16128.size a := fun v1435 k0_hw138 => k0_hw138
def k0_mult172 (k0_t10 : Fin k0_t10_loop.trips) : BitVec 32 :=
  let c0_i32_624 : BitVec 32 := 0#32
  let c0_i32_478 : BitVec 32 := 0#32
  let c1_i32_480 : BitVec 32 := 1#32
  let arg20 : BitVec 32 := Scf.iv c0_i32_478 c1_i32_480 k0_t10
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c144_i32 : BitVec 32 := 144#32
  let v1437 : BitVec 32 := Scalar.addi v1377 c144_i32
  v1437
def k0_off145 (k0_t10 : Fin k0_t10_loop.trips) : Fin 1 → Nat :=
  let c0_i32_624 : BitVec 32 := 0#32
  let c0_i32_478 : BitVec 32 := 0#32
  let c1_i32_480 : BitVec 32 := 1#32
  let arg20 : BitVec 32 := Scf.iv c0_i32_478 c1_i32_480 k0_t10
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c144_i32 : BitVec 32 := 144#32
  let v1437 : BitVec 32 := Scalar.addi v1377 c144_i32
  let v1438 : BitVec 32 := v1437
  let v1439 : Index := Scalar.indexCast v1438
  ![v1439.toNat]

def k0_chk139 (v1441 : IVec S16 32) : Prop :=
  (∀ a x, ((![v1441] : Fin 1 → IVec S16 32) a x).toNat < S16128.size a)
theorem k0_idx139_inb : ∀ (v1441 : IVec S16 32) (k0_hw139 : k0_chk139 v1441), ∀ a x, ((![v1441] : Fin 1 → IVec S16 32) a x).toNat < S16128.size a := fun v1441 k0_hw139 => k0_hw139
def k0_mult173 (k0_t10 : Fin k0_t10_loop.trips) : BitVec 32 :=
  let c0_i32_624 : BitVec 32 := 0#32
  let c0_i32_478 : BitVec 32 := 0#32
  let c1_i32_480 : BitVec 32 := 1#32
  let arg20 : BitVec 32 := Scf.iv c0_i32_478 c1_i32_480 k0_t10
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c160_i32 : BitVec 32 := 160#32
  let v1443 : BitVec 32 := Scalar.addi v1377 c160_i32
  v1443
def k0_off146 (k0_t10 : Fin k0_t10_loop.trips) : Fin 1 → Nat :=
  let c0_i32_624 : BitVec 32 := 0#32
  let c0_i32_478 : BitVec 32 := 0#32
  let c1_i32_480 : BitVec 32 := 1#32
  let arg20 : BitVec 32 := Scf.iv c0_i32_478 c1_i32_480 k0_t10
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c160_i32 : BitVec 32 := 160#32
  let v1443 : BitVec 32 := Scalar.addi v1377 c160_i32
  let v1444 : BitVec 32 := v1443
  let v1445 : Index := Scalar.indexCast v1444
  ![v1445.toNat]

def k0_chk140 (v1447 : IVec S16 32) : Prop :=
  (∀ a x, ((![v1447] : Fin 1 → IVec S16 32) a x).toNat < S16128.size a)
theorem k0_idx140_inb : ∀ (v1447 : IVec S16 32) (k0_hw140 : k0_chk140 v1447), ∀ a x, ((![v1447] : Fin 1 → IVec S16 32) a x).toNat < S16128.size a := fun v1447 k0_hw140 => k0_hw140
def k0_mult174 (k0_t10 : Fin k0_t10_loop.trips) : BitVec 32 :=
  let c0_i32_624 : BitVec 32 := 0#32
  let c0_i32_478 : BitVec 32 := 0#32
  let c1_i32_480 : BitVec 32 := 1#32
  let arg20 : BitVec 32 := Scf.iv c0_i32_478 c1_i32_480 k0_t10
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c176_i32 : BitVec 32 := 176#32
  let v1449 : BitVec 32 := Scalar.addi v1377 c176_i32
  v1449
def k0_off147 (k0_t10 : Fin k0_t10_loop.trips) : Fin 1 → Nat :=
  let c0_i32_624 : BitVec 32 := 0#32
  let c0_i32_478 : BitVec 32 := 0#32
  let c1_i32_480 : BitVec 32 := 1#32
  let arg20 : BitVec 32 := Scf.iv c0_i32_478 c1_i32_480 k0_t10
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c176_i32 : BitVec 32 := 176#32
  let v1449 : BitVec 32 := Scalar.addi v1377 c176_i32
  let v1450 : BitVec 32 := v1449
  let v1451 : Index := Scalar.indexCast v1450
  ![v1451.toNat]

def k0_chk141 (v1453 : IVec S16 32) : Prop :=
  (∀ a x, ((![v1453] : Fin 1 → IVec S16 32) a x).toNat < S16128.size a)
theorem k0_idx141_inb : ∀ (v1453 : IVec S16 32) (k0_hw141 : k0_chk141 v1453), ∀ a x, ((![v1453] : Fin 1 → IVec S16 32) a x).toNat < S16128.size a := fun v1453 k0_hw141 => k0_hw141
def k0_mult175 (k0_t10 : Fin k0_t10_loop.trips) : BitVec 32 :=
  let c0_i32_624 : BitVec 32 := 0#32
  let c0_i32_478 : BitVec 32 := 0#32
  let c1_i32_480 : BitVec 32 := 1#32
  let arg20 : BitVec 32 := Scf.iv c0_i32_478 c1_i32_480 k0_t10
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c192_i32 : BitVec 32 := 192#32
  let v1455 : BitVec 32 := Scalar.addi v1377 c192_i32
  v1455
def k0_off148 (k0_t10 : Fin k0_t10_loop.trips) : Fin 1 → Nat :=
  let c0_i32_624 : BitVec 32 := 0#32
  let c0_i32_478 : BitVec 32 := 0#32
  let c1_i32_480 : BitVec 32 := 1#32
  let arg20 : BitVec 32 := Scf.iv c0_i32_478 c1_i32_480 k0_t10
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c192_i32 : BitVec 32 := 192#32
  let v1455 : BitVec 32 := Scalar.addi v1377 c192_i32
  let v1456 : BitVec 32 := v1455
  let v1457 : Index := Scalar.indexCast v1456
  ![v1457.toNat]

def k0_chk142 (v1459 : IVec S16 32) : Prop :=
  (∀ a x, ((![v1459] : Fin 1 → IVec S16 32) a x).toNat < S16128.size a)
theorem k0_idx142_inb : ∀ (v1459 : IVec S16 32) (k0_hw142 : k0_chk142 v1459), ∀ a x, ((![v1459] : Fin 1 → IVec S16 32) a x).toNat < S16128.size a := fun v1459 k0_hw142 => k0_hw142
def k0_mult176 (k0_t10 : Fin k0_t10_loop.trips) : BitVec 32 :=
  let c0_i32_624 : BitVec 32 := 0#32
  let c0_i32_478 : BitVec 32 := 0#32
  let c1_i32_480 : BitVec 32 := 1#32
  let arg20 : BitVec 32 := Scf.iv c0_i32_478 c1_i32_480 k0_t10
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c208_i32 : BitVec 32 := 208#32
  let v1461 : BitVec 32 := Scalar.addi v1377 c208_i32
  v1461
def k0_off149 (k0_t10 : Fin k0_t10_loop.trips) : Fin 1 → Nat :=
  let c0_i32_624 : BitVec 32 := 0#32
  let c0_i32_478 : BitVec 32 := 0#32
  let c1_i32_480 : BitVec 32 := 1#32
  let arg20 : BitVec 32 := Scf.iv c0_i32_478 c1_i32_480 k0_t10
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c208_i32 : BitVec 32 := 208#32
  let v1461 : BitVec 32 := Scalar.addi v1377 c208_i32
  let v1462 : BitVec 32 := v1461
  let v1463 : Index := Scalar.indexCast v1462
  ![v1463.toNat]

def k0_chk143 (v1465 : IVec S16 32) : Prop :=
  (∀ a x, ((![v1465] : Fin 1 → IVec S16 32) a x).toNat < S16128.size a)
theorem k0_idx143_inb : ∀ (v1465 : IVec S16 32) (k0_hw143 : k0_chk143 v1465), ∀ a x, ((![v1465] : Fin 1 → IVec S16 32) a x).toNat < S16128.size a := fun v1465 k0_hw143 => k0_hw143
def k0_mult177 (k0_t10 : Fin k0_t10_loop.trips) : BitVec 32 :=
  let c0_i32_624 : BitVec 32 := 0#32
  let c0_i32_478 : BitVec 32 := 0#32
  let c1_i32_480 : BitVec 32 := 1#32
  let arg20 : BitVec 32 := Scf.iv c0_i32_478 c1_i32_480 k0_t10
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c224_i32 : BitVec 32 := 224#32
  let v1467 : BitVec 32 := Scalar.addi v1377 c224_i32
  v1467
def k0_off150 (k0_t10 : Fin k0_t10_loop.trips) : Fin 1 → Nat :=
  let c0_i32_624 : BitVec 32 := 0#32
  let c0_i32_478 : BitVec 32 := 0#32
  let c1_i32_480 : BitVec 32 := 1#32
  let arg20 : BitVec 32 := Scf.iv c0_i32_478 c1_i32_480 k0_t10
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c224_i32 : BitVec 32 := 224#32
  let v1467 : BitVec 32 := Scalar.addi v1377 c224_i32
  let v1468 : BitVec 32 := v1467
  let v1469 : Index := Scalar.indexCast v1468
  ![v1469.toNat]

def k0_chk144 (v1471 : IVec S16 32) : Prop :=
  (∀ a x, ((![v1471] : Fin 1 → IVec S16 32) a x).toNat < S16128.size a)
theorem k0_idx144_inb : ∀ (v1471 : IVec S16 32) (k0_hw144 : k0_chk144 v1471), ∀ a x, ((![v1471] : Fin 1 → IVec S16 32) a x).toNat < S16128.size a := fun v1471 k0_hw144 => k0_hw144
def k0_mult178 (k0_t10 : Fin k0_t10_loop.trips) : BitVec 32 :=
  let c0_i32_624 : BitVec 32 := 0#32
  let c0_i32_478 : BitVec 32 := 0#32
  let c1_i32_480 : BitVec 32 := 1#32
  let arg20 : BitVec 32 := Scf.iv c0_i32_478 c1_i32_480 k0_t10
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c240_i32 : BitVec 32 := 240#32
  let v1473 : BitVec 32 := Scalar.addi v1377 c240_i32
  v1473
def k0_off151 (k0_t10 : Fin k0_t10_loop.trips) : Fin 1 → Nat :=
  let c0_i32_624 : BitVec 32 := 0#32
  let c0_i32_478 : BitVec 32 := 0#32
  let c1_i32_480 : BitVec 32 := 1#32
  let arg20 : BitVec 32 := Scf.iv c0_i32_478 c1_i32_480 k0_t10
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c240_i32 : BitVec 32 := 240#32
  let v1473 : BitVec 32 := Scalar.addi v1377 c240_i32
  let v1474 : BitVec 32 := v1473
  let v1475 : Index := Scalar.indexCast v1474
  ![v1475.toNat]
def k0_mult179 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32 : BitVec 32 := 0#32
  let v3 : BitVec 32 := Scalar.addi v2 c0_i32
  let c1984_i32 : BitVec 32 := 1984#32
  let v266 : BitVec 32 := Scalar.muli v3 c1984_i32
  let c256_i32_136 : BitVec 32 := 256#32
  let v267 : BitVec 32 := Scalar.muli v266 c256_i32_136
  let c60_i32_482 : BitVec 32 := 60#32
  let c0_i32_484 : BitVec 32 := 0#32
  let v1062 : BitVec 1 := Scalar.cmpi .sgt c60_i32_482 c0_i32_484
  let v1063 : BitVec 32 := Scalar.extui v1062
  let c0_i32_485 : BitVec 32 := 0#32
  let v1064 : BitVec 1 := Scalar.cmpi .slt c60_i32_482 c0_i32_485
  let v1065 : BitVec 32 := Scalar.extui v1064
  let v1066 : BitVec 32 := Scalar.subi v1063 v1065
  let c2_i32_483 : BitVec 32 := 2#32
  let c0_i32_486 : BitVec 32 := 0#32
  let v1067 : BitVec 1 := Scalar.cmpi .sgt c2_i32_483 c0_i32_486
  let v1068 : BitVec 32 := Scalar.extui v1067
  let c0_i32_487 : BitVec 32 := 0#32
  let v1069 : BitVec 1 := Scalar.cmpi .slt c2_i32_483 c0_i32_487
  let v1070 : BitVec 32 := Scalar.extui v1069
  let v1071 : BitVec 32 := Scalar.subi v1068 v1070
  let v1072 : BitVec 1 := Scalar.cmpi .ne v1066 v1071
  let v1073 : BitVec 32 := Scalar.remsi c60_i32_482 c2_i32_483
  let c0_i32_488 : BitVec 32 := 0#32
  let v1074 : BitVec 1 := Scalar.cmpi .ne v1073 c0_i32_488
  let v1075 : BitVec 1 := Scalar.andi v1072 v1074
  let v1061 : BitVec 32 := Scalar.divsi c60_i32_482 c2_i32_483
  let c1_i32_489 : BitVec 32 := 1#32
  let v1076 : BitVec 32 := Scalar.subi v1061 c1_i32_489
  let v1077 : BitVec 32 := Scalar.select v1075 v1076 v1061
  let c15872_i32_490 : BitVec 32 := 15872#32
  let v1078 : BitVec 32 := Scalar.muli v1077 c15872_i32_490
  let v1079 : BitVec 32 := Scalar.addi v267 v1078
  v1079
def k0_mult180 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_1 : BitVec 32 := 2#32
  let v4 : BitVec 32 := Scalar.muli v1 c2_i32_1
  let c1_i32 : BitVec 32 := 1#32
  let v5 : BitVec 32 := Scalar.addi v4 c1_i32
  let c2048_i32_133 : BitVec 32 := 2048#32
  let v262 : BitVec 32 := Scalar.muli v5 c2048_i32_133
  let c63_i32_130 : BitVec 32 := 63#32
  let v256 : BitVec 1 := Scalar.cmpi .eq v5 c63_i32_130
  let c1763_i32_131 : BitVec 32 := 1763#32
  let c62_i32_128 : BitVec 32 := 62#32
  let v254 : BitVec 1 := Scalar.cmpi .eq v5 c62_i32_128
  let c1196_i32_129 : BitVec 32 := 1196#32
  let c61_i32_126 : BitVec 32 := 61#32
  let v252 : BitVec 1 := Scalar.cmpi .eq v5 c61_i32_126
  let c722_i32_127 : BitVec 32 := 722#32
  let c60_i32_124 : BitVec 32 := 60#32
  let v250 : BitVec 1 := Scalar.cmpi .eq v5 c60_i32_124
  let c3132_i32_125 : BitVec 32 := 3132#32
  let c59_i32_122 : BitVec 32 := 59#32
  let v248 : BitVec 1 := Scalar.cmpi .eq v5 c59_i32_122
  let c2263_i32_123 : BitVec 32 := 2263#32
  let c58_i32_120 : BitVec 32 := 58#32
  let v246 : BitVec 1 := Scalar.cmpi .eq v5 c58_i32_120
  let c7228_i32_121 : BitVec 32 := 7228#32
  let c57_i32_118 : BitVec 32 := 57#32
  let v244 : BitVec 1 := Scalar.cmpi .eq v5 c57_i32_118
  let c6147_i32_119 : BitVec 32 := 6147#32
  let c56_i32_116 : BitVec 32 := 56#32
  let v242 : BitVec 1 := Scalar.cmpi .eq v5 c56_i32_116
  let c5257_i32_117 : BitVec 32 := 5257#32
  let c55_i32_114 : BitVec 32 := 55#32
  let v240 : BitVec 1 := Scalar.cmpi .eq v5 c55_i32_114
  let c2687_i32_115 : BitVec 32 := 2687#32
  let c54_i32_112 : BitVec 32 := 54#32
  let v238 : BitVec 1 := Scalar.cmpi .eq v5 c54_i32_112
  let c3913_i32_113 : BitVec 32 := 3913#32
  let c53_i32_110 : BitVec 32 := 53#32
  let v236 : BitVec 1 := Scalar.cmpi .eq v5 c53_i32_110
  let c1765_i32_111 : BitVec 32 := 1765#32
  let c52_i32_108 : BitVec 32 := 52#32
  let v234 : BitVec 1 := Scalar.cmpi .eq v5 c52_i32_108
  let c572_i32_109 : BitVec 32 := 572#32
  let c51_i32_106 : BitVec 32 := 51#32
  let v232 : BitVec 1 := Scalar.cmpi .eq v5 c51_i32_106
  let c5479_i32_107 : BitVec 32 := 5479#32
  let c50_i32_104 : BitVec 32 := 50#32
  let v230 : BitVec 1 := Scalar.cmpi .eq v5 c50_i32_104
  let c7351_i32_105 : BitVec 32 := 7351#32
  let c49_i32_102 : BitVec 32 := 49#32
  let v228 : BitVec 1 := Scalar.cmpi .eq v5 c49_i32_102
  let c593_i32_103 : BitVec 32 := 593#32
  let c48_i32_100 : BitVec 32 := 48#32
  let v226 : BitVec 1 := Scalar.cmpi .eq v5 c48_i32_100
  let c7487_i32_101 : BitVec 32 := 7487#32
  let c47_i32_98 : BitVec 32 := 47#32
  let v224 : BitVec 1 := Scalar.cmpi .eq v5 c47_i32_98
  let c3618_i32_99 : BitVec 32 := 3618#32
  let c46_i32_96 : BitVec 32 := 46#32
  let v222 : BitVec 1 := Scalar.cmpi .eq v5 c46_i32_96
  let c6125_i32_97 : BitVec 32 := 6125#32
  let c45_i32_94 : BitVec 32 := 45#32
  let v220 : BitVec 1 := Scalar.cmpi .eq v5 c45_i32_94
  let c2834_i32_95 : BitVec 32 := 2834#32
  let c44_i32_92 : BitVec 32 := 44#32
  let v218 : BitVec 1 := Scalar.cmpi .eq v5 c44_i32_92
  let c4871_i32_93 : BitVec 32 := 4871#32
  let c43_i32_90 : BitVec 32 := 43#32
  let v216 : BitVec 1 := Scalar.cmpi .eq v5 c43_i32_90
  let c1936_i32_91 : BitVec 32 := 1936#32
  let c42_i32_88 : BitVec 32 := 42#32
  let v214 : BitVec 1 := Scalar.cmpi .eq v5 c42_i32_88
  let c2914_i32_89 : BitVec 32 := 2914#32
  let c41_i32_86 : BitVec 32 := 41#32
  let v212 : BitVec 1 := Scalar.cmpi .eq v5 c41_i32_86
  let c3866_i32_87 : BitVec 32 := 3866#32
  let c40_i32_84 : BitVec 32 := 40#32
  let v210 : BitVec 1 := Scalar.cmpi .eq v5 c40_i32_84
  let c1846_i32_85 : BitVec 32 := 1846#32
  let c39_i32_82 : BitVec 32 := 39#32
  let v208 : BitVec 1 := Scalar.cmpi .eq v5 c39_i32_82
  let c7714_i32_83 : BitVec 32 := 7714#32
  let c38_i32_80 : BitVec 32 := 38#32
  let v206 : BitVec 1 := Scalar.cmpi .eq v5 c38_i32_80
  let c3980_i32_81 : BitVec 32 := 3980#32
  let c37_i32_78 : BitVec 32 := 37#32
  let v204 : BitVec 1 := Scalar.cmpi .eq v5 c37_i32_78
  let c6570_i32_79 : BitVec 32 := 6570#32
  let c36_i32_76 : BitVec 32 := 36#32
  let v202 : BitVec 1 := Scalar.cmpi .eq v5 c36_i32_76
  let c2937_i32_77 : BitVec 32 := 2937#32
  let c35_i32_74 : BitVec 32 := 35#32
  let v200 : BitVec 1 := Scalar.cmpi .eq v5 c35_i32_74
  let c1105_i32_75 : BitVec 32 := 1105#32
  let c34_i32_72 : BitVec 32 := 34#32
  let v198 : BitVec 1 := Scalar.cmpi .eq v5 c34_i32_72
  let c5685_i32_73 : BitVec 32 := 5685#32
  let c33_i32_70 : BitVec 32 := 33#32
  let v196 : BitVec 1 := Scalar.cmpi .eq v5 c33_i32_70
  let c1851_i32_71 : BitVec 32 := 1851#32
  let c32_i32_68 : BitVec 32 := 32#32
  let v194 : BitVec 1 := Scalar.cmpi .eq v5 c32_i32_68
  let c2835_i32_69 : BitVec 32 := 2835#32
  let c31_i32_66 : BitVec 32 := 31#32
  let v192 : BitVec 1 := Scalar.cmpi .eq v5 c31_i32_66
  let c6151_i32_67 : BitVec 32 := 6151#32
  let c30_i32_64 : BitVec 32 := 30#32
  let v190 : BitVec 1 := Scalar.cmpi .eq v5 c30_i32_64
  let c2916_i32_65 : BitVec 32 := 2916#32
  let c29_i32_62 : BitVec 32 := 29#32
  let v188 : BitVec 1 := Scalar.cmpi .eq v5 c29_i32_62
  let c4806_i32_63 : BitVec 32 := 4806#32
  let c28_i32_60 : BitVec 32 := 28#32
  let v186 : BitVec 1 := Scalar.cmpi .eq v5 c28_i32_60
  let c2760_i32_61 : BitVec 32 := 2760#32
  let c27_i32_58 : BitVec 32 := 27#32
  let v184 : BitVec 1 := Scalar.cmpi .eq v5 c27_i32_58
  let c2339_i32_59 : BitVec 32 := 2339#32
  let c26_i32_56 : BitVec 32 := 26#32
  let v182 : BitVec 1 := Scalar.cmpi .eq v5 c26_i32_56
  let c5978_i32_57 : BitVec 32 := 5978#32
  let c25_i32_54 : BitVec 32 := 25#32
  let v180 : BitVec 1 := Scalar.cmpi .eq v5 c25_i32_54
  let c6943_i32_55 : BitVec 32 := 6943#32
  let c24_i32_52 : BitVec 32 := 24#32
  let v178 : BitVec 1 := Scalar.cmpi .eq v5 c24_i32_52
  let c7654_i32_53 : BitVec 32 := 7654#32
  let c23_i32_50 : BitVec 32 := 23#32
  let v176 : BitVec 1 := Scalar.cmpi .eq v5 c23_i32_50
  let c3018_i32_51 : BitVec 32 := 3018#32
  let c22_i32_48 : BitVec 32 := 22#32
  let v174 : BitVec 1 := Scalar.cmpi .eq v5 c22_i32_48
  let c56_i32_49 : BitVec 32 := 56#32
  let c21_i32_46 : BitVec 32 := 21#32
  let v172 : BitVec 1 := Scalar.cmpi .eq v5 c21_i32_46
  let c5652_i32_47 : BitVec 32 := 5652#32
  let c20_i32_44 : BitVec 32 := 20#32
  let v170 : BitVec 1 := Scalar.cmpi .eq v5 c20_i32_44
  let c6840_i32_45 : BitVec 32 := 6840#32
  let c19_i32_42 : BitVec 32 := 19#32
  let v168 : BitVec 1 := Scalar.cmpi .eq v5 c19_i32_42
  let c4026_i32_43 : BitVec 32 := 4026#32
  let c18_i32_40 : BitVec 32 := 18#32
  let v166 : BitVec 1 := Scalar.cmpi .eq v5 c18_i32_40
  let c91_i32_41 : BitVec 32 := 91#32
  let c17_i32_38 : BitVec 32 := 17#32
  let v164 : BitVec 1 := Scalar.cmpi .eq v5 c17_i32_38
  let c7767_i32_39 : BitVec 32 := 7767#32
  let c16_i32_36 : BitVec 32 := 16#32
  let v162 : BitVec 1 := Scalar.cmpi .eq v5 c16_i32_36
  let c4241_i32_37 : BitVec 32 := 4241#32
  let c15_i32_34 : BitVec 32 := 15#32
  let v160 : BitVec 1 := Scalar.cmpi .eq v5 c15_i32_34
  let c6170_i32_35 : BitVec 32 := 6170#32
  let c14_i32_32 : BitVec 32 := 14#32
  let v158 : BitVec 1 := Scalar.cmpi .eq v5 c14_i32_32
  let c8174_i32_33 : BitVec 32 := 8174#32
  let c13_i32_30 : BitVec 32 := 13#32
  let v156 : BitVec 1 := Scalar.cmpi .eq v5 c13_i32_30
  let c1378_i32_31 : BitVec 32 := 1378#32
  let c12_i32_28 : BitVec 32 := 12#32
  let v154 : BitVec 1 := Scalar.cmpi .eq v5 c12_i32_28
  let c2562_i32_29 : BitVec 32 := 2562#32
  let c11_i32_26 : BitVec 32 := 11#32
  let v152 : BitVec 1 := Scalar.cmpi .eq v5 c11_i32_26
  let c4161_i32_27 : BitVec 32 := 4161#32
  let c10_i32_24 : BitVec 32 := 10#32
  let v150 : BitVec 1 := Scalar.cmpi .eq v5 c10_i32_24
  let c6176_i32_25 : BitVec 32 := 6176#32
  let c9_i32_22 : BitVec 32 := 9#32
  let v148 : BitVec 1 := Scalar.cmpi .eq v5 c9_i32_22
  let c2818_i32_23 : BitVec 32 := 2818#32
  let c8_i32_20 : BitVec 32 := 8#32
  let v146 : BitVec 1 := Scalar.cmpi .eq v5 c8_i32_20
  let c5970_i32_21 : BitVec 32 := 5970#32
  let c7_i32_18 : BitVec 32 := 7#32
  let v144 : BitVec 1 := Scalar.cmpi .eq v5 c7_i32_18
  let c7573_i32_19 : BitVec 32 := 7573#32
  let c6_i32_16 : BitVec 32 := 6#32
  let v142 : BitVec 1 := Scalar.cmpi .eq v5 c6_i32_16
  let c3350_i32_17 : BitVec 32 := 3350#32
  let c5_i32_14 : BitVec 32 := 5#32
  let v140 : BitVec 1 := Scalar.cmpi .eq v5 c5_i32_14
  let c4780_i32_15 : BitVec 32 := 4780#32
  let c4_i32_12 : BitVec 32 := 4#32
  let v138 : BitVec 1 := Scalar.cmpi .eq v5 c4_i32_12
  let c6560_i32_13 : BitVec 32 := 6560#32
  let c3_i32_10 : BitVec 32 := 3#32
  let v136 : BitVec 1 := Scalar.cmpi .eq v5 c3_i32_10
  let c7017_i32_11 : BitVec 32 := 7017#32
  let c2_i32_8 : BitVec 32 := 2#32
  let v134 : BitVec 1 := Scalar.cmpi .eq v5 c2_i32_8
  let c736_i32_9 : BitVec 32 := 736#32
  let c1_i32_5 : BitVec 32 := 1#32
  let v132 : BitVec 1 := Scalar.cmpi .eq v5 c1_i32_5
  let c943_i32_7 : BitVec 32 := 943#32
  let c7932_i32_6 : BitVec 32 := 7932#32
  let v133 : BitVec 32 := Scalar.select v132 c943_i32_7 c7932_i32_6
  let v135 : BitVec 32 := Scalar.select v134 c736_i32_9 v133
  let v137 : BitVec 32 := Scalar.select v136 c7017_i32_11 v135
  let v139 : BitVec 32 := Scalar.select v138 c6560_i32_13 v137
  let v141 : BitVec 32 := Scalar.select v140 c4780_i32_15 v139
  let v143 : BitVec 32 := Scalar.select v142 c3350_i32_17 v141
  let v145 : BitVec 32 := Scalar.select v144 c7573_i32_19 v143
  let v147 : BitVec 32 := Scalar.select v146 c5970_i32_21 v145
  let v149 : BitVec 32 := Scalar.select v148 c2818_i32_23 v147
  let v151 : BitVec 32 := Scalar.select v150 c6176_i32_25 v149
  let v153 : BitVec 32 := Scalar.select v152 c4161_i32_27 v151
  let v155 : BitVec 32 := Scalar.select v154 c2562_i32_29 v153
  let v157 : BitVec 32 := Scalar.select v156 c1378_i32_31 v155
  let v159 : BitVec 32 := Scalar.select v158 c8174_i32_33 v157
  let v161 : BitVec 32 := Scalar.select v160 c6170_i32_35 v159
  let v163 : BitVec 32 := Scalar.select v162 c4241_i32_37 v161
  let v165 : BitVec 32 := Scalar.select v164 c7767_i32_39 v163
  let v167 : BitVec 32 := Scalar.select v166 c91_i32_41 v165
  let v169 : BitVec 32 := Scalar.select v168 c4026_i32_43 v167
  let v171 : BitVec 32 := Scalar.select v170 c6840_i32_45 v169
  let v173 : BitVec 32 := Scalar.select v172 c5652_i32_47 v171
  let v175 : BitVec 32 := Scalar.select v174 c56_i32_49 v173
  let v177 : BitVec 32 := Scalar.select v176 c3018_i32_51 v175
  let v179 : BitVec 32 := Scalar.select v178 c7654_i32_53 v177
  let v181 : BitVec 32 := Scalar.select v180 c6943_i32_55 v179
  let v183 : BitVec 32 := Scalar.select v182 c5978_i32_57 v181
  let v185 : BitVec 32 := Scalar.select v184 c2339_i32_59 v183
  let v187 : BitVec 32 := Scalar.select v186 c2760_i32_61 v185
  let v189 : BitVec 32 := Scalar.select v188 c4806_i32_63 v187
  let v191 : BitVec 32 := Scalar.select v190 c2916_i32_65 v189
  let v193 : BitVec 32 := Scalar.select v192 c6151_i32_67 v191
  let v195 : BitVec 32 := Scalar.select v194 c2835_i32_69 v193
  let v197 : BitVec 32 := Scalar.select v196 c1851_i32_71 v195
  let v199 : BitVec 32 := Scalar.select v198 c5685_i32_73 v197
  let v201 : BitVec 32 := Scalar.select v200 c1105_i32_75 v199
  let v203 : BitVec 32 := Scalar.select v202 c2937_i32_77 v201
  let v205 : BitVec 32 := Scalar.select v204 c6570_i32_79 v203
  let v207 : BitVec 32 := Scalar.select v206 c3980_i32_81 v205
  let v209 : BitVec 32 := Scalar.select v208 c7714_i32_83 v207
  let v211 : BitVec 32 := Scalar.select v210 c1846_i32_85 v209
  let v213 : BitVec 32 := Scalar.select v212 c3866_i32_87 v211
  let v215 : BitVec 32 := Scalar.select v214 c2914_i32_89 v213
  let v217 : BitVec 32 := Scalar.select v216 c1936_i32_91 v215
  let v219 : BitVec 32 := Scalar.select v218 c4871_i32_93 v217
  let v221 : BitVec 32 := Scalar.select v220 c2834_i32_95 v219
  let v223 : BitVec 32 := Scalar.select v222 c6125_i32_97 v221
  let v225 : BitVec 32 := Scalar.select v224 c3618_i32_99 v223
  let v227 : BitVec 32 := Scalar.select v226 c7487_i32_101 v225
  let v229 : BitVec 32 := Scalar.select v228 c593_i32_103 v227
  let v231 : BitVec 32 := Scalar.select v230 c7351_i32_105 v229
  let v233 : BitVec 32 := Scalar.select v232 c5479_i32_107 v231
  let v235 : BitVec 32 := Scalar.select v234 c572_i32_109 v233
  let v237 : BitVec 32 := Scalar.select v236 c1765_i32_111 v235
  let v239 : BitVec 32 := Scalar.select v238 c3913_i32_113 v237
  let v241 : BitVec 32 := Scalar.select v240 c2687_i32_115 v239
  let v243 : BitVec 32 := Scalar.select v242 c5257_i32_117 v241
  let v245 : BitVec 32 := Scalar.select v244 c6147_i32_119 v243
  let v247 : BitVec 32 := Scalar.select v246 c7228_i32_121 v245
  let v249 : BitVec 32 := Scalar.select v248 c2263_i32_123 v247
  let v251 : BitVec 32 := Scalar.select v250 c3132_i32_125 v249
  let v253 : BitVec 32 := Scalar.select v252 c722_i32_127 v251
  let v255 : BitVec 32 := Scalar.select v254 c1196_i32_129 v253
  let v257 : BitVec 32 := Scalar.select v256 c1763_i32_131 v255
  let c7_i32_134 : BitVec 32 := 7#32
  let v263 : BitVec 32 := Scalar.shrsi v257 c7_i32_134
  let v264 : BitVec 32 := Scalar.addi v262 v263
  let c256_i32_135 : BitVec 32 := 256#32
  let v265 : BitVec 32 := Scalar.muli v264 c256_i32_135
  let c61_i32_491 : BitVec 32 := 61#32
  let c0_i32_493 : BitVec 32 := 0#32
  let v1084 : BitVec 1 := Scalar.cmpi .sgt c61_i32_491 c0_i32_493
  let v1085 : BitVec 32 := Scalar.extui v1084
  let c0_i32_494 : BitVec 32 := 0#32
  let v1086 : BitVec 1 := Scalar.cmpi .slt c61_i32_491 c0_i32_494
  let v1087 : BitVec 32 := Scalar.extui v1086
  let v1088 : BitVec 32 := Scalar.subi v1085 v1087
  let c2_i32_492 : BitVec 32 := 2#32
  let c0_i32_495 : BitVec 32 := 0#32
  let v1089 : BitVec 1 := Scalar.cmpi .sgt c2_i32_492 c0_i32_495
  let v1090 : BitVec 32 := Scalar.extui v1089
  let c0_i32_496 : BitVec 32 := 0#32
  let v1091 : BitVec 1 := Scalar.cmpi .slt c2_i32_492 c0_i32_496
  let v1092 : BitVec 32 := Scalar.extui v1091
  let v1093 : BitVec 32 := Scalar.subi v1090 v1092
  let v1094 : BitVec 1 := Scalar.cmpi .ne v1088 v1093
  let v1095 : BitVec 32 := Scalar.remsi c61_i32_491 c2_i32_492
  let c0_i32_497 : BitVec 32 := 0#32
  let v1096 : BitVec 1 := Scalar.cmpi .ne v1095 c0_i32_497
  let v1097 : BitVec 1 := Scalar.andi v1094 v1096
  let v1083 : BitVec 32 := Scalar.divsi c61_i32_491 c2_i32_492
  let c1_i32_498 : BitVec 32 := 1#32
  let v1098 : BitVec 32 := Scalar.subi v1083 c1_i32_498
  let v1099 : BitVec 32 := Scalar.select v1097 v1098 v1083
  let c15872_i32_499 : BitVec 32 := 15872#32
  let v1100 : BitVec 32 := Scalar.muli v1099 c15872_i32_499
  let v1101 : BitVec 32 := Scalar.addi v265 v1100
  v1101
def k0_mult181 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_1 : BitVec 32 := 2#32
  let v4 : BitVec 32 := Scalar.muli v1 c2_i32_1
  let c1_i32 : BitVec 32 := 1#32
  let v5 : BitVec 32 := Scalar.addi v4 c1_i32
  let c1984_i32_137 : BitVec 32 := 1984#32
  let v268 : BitVec 32 := Scalar.muli v5 c1984_i32_137
  let c256_i32_138 : BitVec 32 := 256#32
  let v269 : BitVec 32 := Scalar.muli v268 c256_i32_138
  let c61_i32_500 : BitVec 32 := 61#32
  let c4_i32_501 : BitVec 32 := 4#32
  let v1105 : BitVec 32 := Scalar.subi c61_i32_500 c4_i32_501
  let c0_i32_503 : BitVec 32 := 0#32
  let v1107 : BitVec 1 := Scalar.cmpi .sgt v1105 c0_i32_503
  let v1108 : BitVec 32 := Scalar.extui v1107
  let c0_i32_504 : BitVec 32 := 0#32
  let v1109 : BitVec 1 := Scalar.cmpi .slt v1105 c0_i32_504
  let v1110 : BitVec 32 := Scalar.extui v1109
  let v1111 : BitVec 32 := Scalar.subi v1108 v1110
  let c2_i32_502 : BitVec 32 := 2#32
  let c0_i32_505 : BitVec 32 := 0#32
  let v1112 : BitVec 1 := Scalar.cmpi .sgt c2_i32_502 c0_i32_505
  let v1113 : BitVec 32 := Scalar.extui v1112
  let c0_i32_506 : BitVec 32 := 0#32
  let v1114 : BitVec 1 := Scalar.cmpi .slt c2_i32_502 c0_i32_506
  let v1115 : BitVec 32 := Scalar.extui v1114
  let v1116 : BitVec 32 := Scalar.subi v1113 v1115
  let v1117 : BitVec 1 := Scalar.cmpi .ne v1111 v1116
  let v1118 : BitVec 32 := Scalar.remsi v1105 c2_i32_502
  let c0_i32_507 : BitVec 32 := 0#32
  let v1119 : BitVec 1 := Scalar.cmpi .ne v1118 c0_i32_507
  let v1120 : BitVec 1 := Scalar.andi v1117 v1119
  let v1106 : BitVec 32 := Scalar.divsi v1105 c2_i32_502
  let c1_i32_508 : BitVec 32 := 1#32
  let v1121 : BitVec 32 := Scalar.subi v1106 c1_i32_508
  let v1122 : BitVec 32 := Scalar.select v1120 v1121 v1106
  let c15872_i32_509 : BitVec 32 := 15872#32
  let v1123 : BitVec 32 := Scalar.muli v1122 c15872_i32_509
  let v1124 : BitVec 32 := Scalar.addi v269 v1123
  v1124
@[reducible] def k0_t11_loop : Scf.Loop 32 :=
  let c0_i32_510 : BitVec 32 := 0#32
  let c62_i32_511 : BitVec 32 := 62#32
  let v1128 : BitVec 32 := Scalar.addi c0_i32_510 c62_i32_511
  let c1_i32_512 : BitVec 32 := 1#32
  ⟨c0_i32_510, v1128, c1_i32_512⟩

def k0_chk145 (v1381 : IVec S16 32) : Prop :=
  (∀ a x, ((![v1381] : Fin 1 → IVec S16 32) a x).toNat < S16128.size a)
theorem k0_idx145_inb : ∀ (v1381 : IVec S16 32) (k0_hw145 : k0_chk145 v1381), ∀ a x, ((![v1381] : Fin 1 → IVec S16 32) a x).toNat < S16128.size a := fun v1381 k0_hw145 => k0_hw145
def k0_mult182 (k0_t11 : Fin k0_t11_loop.trips) : BitVec 32 :=
  let c0_i32_624 : BitVec 32 := 0#32
  let c0_i32_510 : BitVec 32 := 0#32
  let c1_i32_512 : BitVec 32 := 1#32
  let arg20 : BitVec 32 := Scf.iv c0_i32_510 c1_i32_512 k0_t11
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c0_i32_627 : BitVec 32 := 0#32
  let v1383 : BitVec 32 := Scalar.addi v1377 c0_i32_627
  v1383
def k0_off152 (k0_t11 : Fin k0_t11_loop.trips) : Fin 1 → Nat :=
  let c0_i32_624 : BitVec 32 := 0#32
  let c0_i32_510 : BitVec 32 := 0#32
  let c1_i32_512 : BitVec 32 := 1#32
  let arg20 : BitVec 32 := Scf.iv c0_i32_510 c1_i32_512 k0_t11
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c0_i32_627 : BitVec 32 := 0#32
  let v1383 : BitVec 32 := Scalar.addi v1377 c0_i32_627
  let v1384 : BitVec 32 := v1383
  let v1385 : Index := Scalar.indexCast v1384
  ![v1385.toNat]

def k0_chk146 (v1387 : IVec S16 32) : Prop :=
  (∀ a x, ((![v1387] : Fin 1 → IVec S16 32) a x).toNat < S16128.size a)
theorem k0_idx146_inb : ∀ (v1387 : IVec S16 32) (k0_hw146 : k0_chk146 v1387), ∀ a x, ((![v1387] : Fin 1 → IVec S16 32) a x).toNat < S16128.size a := fun v1387 k0_hw146 => k0_hw146
def k0_mult183 (k0_t11 : Fin k0_t11_loop.trips) : BitVec 32 :=
  let c0_i32_624 : BitVec 32 := 0#32
  let c0_i32_510 : BitVec 32 := 0#32
  let c1_i32_512 : BitVec 32 := 1#32
  let arg20 : BitVec 32 := Scf.iv c0_i32_510 c1_i32_512 k0_t11
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c16_i32_628 : BitVec 32 := 16#32
  let v1389 : BitVec 32 := Scalar.addi v1377 c16_i32_628
  v1389
def k0_off153 (k0_t11 : Fin k0_t11_loop.trips) : Fin 1 → Nat :=
  let c0_i32_624 : BitVec 32 := 0#32
  let c0_i32_510 : BitVec 32 := 0#32
  let c1_i32_512 : BitVec 32 := 1#32
  let arg20 : BitVec 32 := Scf.iv c0_i32_510 c1_i32_512 k0_t11
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c16_i32_628 : BitVec 32 := 16#32
  let v1389 : BitVec 32 := Scalar.addi v1377 c16_i32_628
  let v1390 : BitVec 32 := v1389
  let v1391 : Index := Scalar.indexCast v1390
  ![v1391.toNat]

def k0_chk147 (v1393 : IVec S16 32) : Prop :=
  (∀ a x, ((![v1393] : Fin 1 → IVec S16 32) a x).toNat < S16128.size a)
theorem k0_idx147_inb : ∀ (v1393 : IVec S16 32) (k0_hw147 : k0_chk147 v1393), ∀ a x, ((![v1393] : Fin 1 → IVec S16 32) a x).toNat < S16128.size a := fun v1393 k0_hw147 => k0_hw147
def k0_mult184 (k0_t11 : Fin k0_t11_loop.trips) : BitVec 32 :=
  let c0_i32_624 : BitVec 32 := 0#32
  let c0_i32_510 : BitVec 32 := 0#32
  let c1_i32_512 : BitVec 32 := 1#32
  let arg20 : BitVec 32 := Scf.iv c0_i32_510 c1_i32_512 k0_t11
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c32_i32_629 : BitVec 32 := 32#32
  let v1395 : BitVec 32 := Scalar.addi v1377 c32_i32_629
  v1395
def k0_off154 (k0_t11 : Fin k0_t11_loop.trips) : Fin 1 → Nat :=
  let c0_i32_624 : BitVec 32 := 0#32
  let c0_i32_510 : BitVec 32 := 0#32
  let c1_i32_512 : BitVec 32 := 1#32
  let arg20 : BitVec 32 := Scf.iv c0_i32_510 c1_i32_512 k0_t11
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c32_i32_629 : BitVec 32 := 32#32
  let v1395 : BitVec 32 := Scalar.addi v1377 c32_i32_629
  let v1396 : BitVec 32 := v1395
  let v1397 : Index := Scalar.indexCast v1396
  ![v1397.toNat]

def k0_chk148 (v1399 : IVec S16 32) : Prop :=
  (∀ a x, ((![v1399] : Fin 1 → IVec S16 32) a x).toNat < S16128.size a)
theorem k0_idx148_inb : ∀ (v1399 : IVec S16 32) (k0_hw148 : k0_chk148 v1399), ∀ a x, ((![v1399] : Fin 1 → IVec S16 32) a x).toNat < S16128.size a := fun v1399 k0_hw148 => k0_hw148
def k0_mult185 (k0_t11 : Fin k0_t11_loop.trips) : BitVec 32 :=
  let c0_i32_624 : BitVec 32 := 0#32
  let c0_i32_510 : BitVec 32 := 0#32
  let c1_i32_512 : BitVec 32 := 1#32
  let arg20 : BitVec 32 := Scf.iv c0_i32_510 c1_i32_512 k0_t11
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c48_i32_630 : BitVec 32 := 48#32
  let v1401 : BitVec 32 := Scalar.addi v1377 c48_i32_630
  v1401
def k0_off155 (k0_t11 : Fin k0_t11_loop.trips) : Fin 1 → Nat :=
  let c0_i32_624 : BitVec 32 := 0#32
  let c0_i32_510 : BitVec 32 := 0#32
  let c1_i32_512 : BitVec 32 := 1#32
  let arg20 : BitVec 32 := Scf.iv c0_i32_510 c1_i32_512 k0_t11
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c48_i32_630 : BitVec 32 := 48#32
  let v1401 : BitVec 32 := Scalar.addi v1377 c48_i32_630
  let v1402 : BitVec 32 := v1401
  let v1403 : Index := Scalar.indexCast v1402
  ![v1403.toNat]

def k0_chk149 (v1405 : IVec S16 32) : Prop :=
  (∀ a x, ((![v1405] : Fin 1 → IVec S16 32) a x).toNat < S16128.size a)
theorem k0_idx149_inb : ∀ (v1405 : IVec S16 32) (k0_hw149 : k0_chk149 v1405), ∀ a x, ((![v1405] : Fin 1 → IVec S16 32) a x).toNat < S16128.size a := fun v1405 k0_hw149 => k0_hw149
def k0_mult186 (k0_t11 : Fin k0_t11_loop.trips) : BitVec 32 :=
  let c0_i32_624 : BitVec 32 := 0#32
  let c0_i32_510 : BitVec 32 := 0#32
  let c1_i32_512 : BitVec 32 := 1#32
  let arg20 : BitVec 32 := Scf.iv c0_i32_510 c1_i32_512 k0_t11
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c64_i32_631 : BitVec 32 := 64#32
  let v1407 : BitVec 32 := Scalar.addi v1377 c64_i32_631
  v1407
def k0_off156 (k0_t11 : Fin k0_t11_loop.trips) : Fin 1 → Nat :=
  let c0_i32_624 : BitVec 32 := 0#32
  let c0_i32_510 : BitVec 32 := 0#32
  let c1_i32_512 : BitVec 32 := 1#32
  let arg20 : BitVec 32 := Scf.iv c0_i32_510 c1_i32_512 k0_t11
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c64_i32_631 : BitVec 32 := 64#32
  let v1407 : BitVec 32 := Scalar.addi v1377 c64_i32_631
  let v1408 : BitVec 32 := v1407
  let v1409 : Index := Scalar.indexCast v1408
  ![v1409.toNat]

def k0_chk150 (v1411 : IVec S16 32) : Prop :=
  (∀ a x, ((![v1411] : Fin 1 → IVec S16 32) a x).toNat < S16128.size a)
theorem k0_idx150_inb : ∀ (v1411 : IVec S16 32) (k0_hw150 : k0_chk150 v1411), ∀ a x, ((![v1411] : Fin 1 → IVec S16 32) a x).toNat < S16128.size a := fun v1411 k0_hw150 => k0_hw150
def k0_mult187 (k0_t11 : Fin k0_t11_loop.trips) : BitVec 32 :=
  let c0_i32_624 : BitVec 32 := 0#32
  let c0_i32_510 : BitVec 32 := 0#32
  let c1_i32_512 : BitVec 32 := 1#32
  let arg20 : BitVec 32 := Scf.iv c0_i32_510 c1_i32_512 k0_t11
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c80_i32_632 : BitVec 32 := 80#32
  let v1413 : BitVec 32 := Scalar.addi v1377 c80_i32_632
  v1413
def k0_off157 (k0_t11 : Fin k0_t11_loop.trips) : Fin 1 → Nat :=
  let c0_i32_624 : BitVec 32 := 0#32
  let c0_i32_510 : BitVec 32 := 0#32
  let c1_i32_512 : BitVec 32 := 1#32
  let arg20 : BitVec 32 := Scf.iv c0_i32_510 c1_i32_512 k0_t11
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c80_i32_632 : BitVec 32 := 80#32
  let v1413 : BitVec 32 := Scalar.addi v1377 c80_i32_632
  let v1414 : BitVec 32 := v1413
  let v1415 : Index := Scalar.indexCast v1414
  ![v1415.toNat]

def k0_chk151 (v1417 : IVec S16 32) : Prop :=
  (∀ a x, ((![v1417] : Fin 1 → IVec S16 32) a x).toNat < S16128.size a)
theorem k0_idx151_inb : ∀ (v1417 : IVec S16 32) (k0_hw151 : k0_chk151 v1417), ∀ a x, ((![v1417] : Fin 1 → IVec S16 32) a x).toNat < S16128.size a := fun v1417 k0_hw151 => k0_hw151
def k0_mult188 (k0_t11 : Fin k0_t11_loop.trips) : BitVec 32 :=
  let c0_i32_624 : BitVec 32 := 0#32
  let c0_i32_510 : BitVec 32 := 0#32
  let c1_i32_512 : BitVec 32 := 1#32
  let arg20 : BitVec 32 := Scf.iv c0_i32_510 c1_i32_512 k0_t11
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c96_i32_633 : BitVec 32 := 96#32
  let v1419 : BitVec 32 := Scalar.addi v1377 c96_i32_633
  v1419
def k0_off158 (k0_t11 : Fin k0_t11_loop.trips) : Fin 1 → Nat :=
  let c0_i32_624 : BitVec 32 := 0#32
  let c0_i32_510 : BitVec 32 := 0#32
  let c1_i32_512 : BitVec 32 := 1#32
  let arg20 : BitVec 32 := Scf.iv c0_i32_510 c1_i32_512 k0_t11
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c96_i32_633 : BitVec 32 := 96#32
  let v1419 : BitVec 32 := Scalar.addi v1377 c96_i32_633
  let v1420 : BitVec 32 := v1419
  let v1421 : Index := Scalar.indexCast v1420
  ![v1421.toNat]

def k0_chk152 (v1423 : IVec S16 32) : Prop :=
  (∀ a x, ((![v1423] : Fin 1 → IVec S16 32) a x).toNat < S16128.size a)
theorem k0_idx152_inb : ∀ (v1423 : IVec S16 32) (k0_hw152 : k0_chk152 v1423), ∀ a x, ((![v1423] : Fin 1 → IVec S16 32) a x).toNat < S16128.size a := fun v1423 k0_hw152 => k0_hw152
def k0_mult189 (k0_t11 : Fin k0_t11_loop.trips) : BitVec 32 :=
  let c0_i32_624 : BitVec 32 := 0#32
  let c0_i32_510 : BitVec 32 := 0#32
  let c1_i32_512 : BitVec 32 := 1#32
  let arg20 : BitVec 32 := Scf.iv c0_i32_510 c1_i32_512 k0_t11
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c112_i32_634 : BitVec 32 := 112#32
  let v1425 : BitVec 32 := Scalar.addi v1377 c112_i32_634
  v1425
def k0_off159 (k0_t11 : Fin k0_t11_loop.trips) : Fin 1 → Nat :=
  let c0_i32_624 : BitVec 32 := 0#32
  let c0_i32_510 : BitVec 32 := 0#32
  let c1_i32_512 : BitVec 32 := 1#32
  let arg20 : BitVec 32 := Scf.iv c0_i32_510 c1_i32_512 k0_t11
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c112_i32_634 : BitVec 32 := 112#32
  let v1425 : BitVec 32 := Scalar.addi v1377 c112_i32_634
  let v1426 : BitVec 32 := v1425
  let v1427 : Index := Scalar.indexCast v1426
  ![v1427.toNat]

def k0_chk153 (v1429 : IVec S16 32) : Prop :=
  (∀ a x, ((![v1429] : Fin 1 → IVec S16 32) a x).toNat < S16128.size a)
theorem k0_idx153_inb : ∀ (v1429 : IVec S16 32) (k0_hw153 : k0_chk153 v1429), ∀ a x, ((![v1429] : Fin 1 → IVec S16 32) a x).toNat < S16128.size a := fun v1429 k0_hw153 => k0_hw153
def k0_mult190 (k0_t11 : Fin k0_t11_loop.trips) : BitVec 32 :=
  let c0_i32_624 : BitVec 32 := 0#32
  let c0_i32_510 : BitVec 32 := 0#32
  let c1_i32_512 : BitVec 32 := 1#32
  let arg20 : BitVec 32 := Scf.iv c0_i32_510 c1_i32_512 k0_t11
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c128_i32_635 : BitVec 32 := 128#32
  let v1431 : BitVec 32 := Scalar.addi v1377 c128_i32_635
  v1431
def k0_off160 (k0_t11 : Fin k0_t11_loop.trips) : Fin 1 → Nat :=
  let c0_i32_624 : BitVec 32 := 0#32
  let c0_i32_510 : BitVec 32 := 0#32
  let c1_i32_512 : BitVec 32 := 1#32
  let arg20 : BitVec 32 := Scf.iv c0_i32_510 c1_i32_512 k0_t11
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c128_i32_635 : BitVec 32 := 128#32
  let v1431 : BitVec 32 := Scalar.addi v1377 c128_i32_635
  let v1432 : BitVec 32 := v1431
  let v1433 : Index := Scalar.indexCast v1432
  ![v1433.toNat]

def k0_chk154 (v1435 : IVec S16 32) : Prop :=
  (∀ a x, ((![v1435] : Fin 1 → IVec S16 32) a x).toNat < S16128.size a)
theorem k0_idx154_inb : ∀ (v1435 : IVec S16 32) (k0_hw154 : k0_chk154 v1435), ∀ a x, ((![v1435] : Fin 1 → IVec S16 32) a x).toNat < S16128.size a := fun v1435 k0_hw154 => k0_hw154
def k0_mult191 (k0_t11 : Fin k0_t11_loop.trips) : BitVec 32 :=
  let c0_i32_624 : BitVec 32 := 0#32
  let c0_i32_510 : BitVec 32 := 0#32
  let c1_i32_512 : BitVec 32 := 1#32
  let arg20 : BitVec 32 := Scf.iv c0_i32_510 c1_i32_512 k0_t11
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c144_i32 : BitVec 32 := 144#32
  let v1437 : BitVec 32 := Scalar.addi v1377 c144_i32
  v1437
def k0_off161 (k0_t11 : Fin k0_t11_loop.trips) : Fin 1 → Nat :=
  let c0_i32_624 : BitVec 32 := 0#32
  let c0_i32_510 : BitVec 32 := 0#32
  let c1_i32_512 : BitVec 32 := 1#32
  let arg20 : BitVec 32 := Scf.iv c0_i32_510 c1_i32_512 k0_t11
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c144_i32 : BitVec 32 := 144#32
  let v1437 : BitVec 32 := Scalar.addi v1377 c144_i32
  let v1438 : BitVec 32 := v1437
  let v1439 : Index := Scalar.indexCast v1438
  ![v1439.toNat]

def k0_chk155 (v1441 : IVec S16 32) : Prop :=
  (∀ a x, ((![v1441] : Fin 1 → IVec S16 32) a x).toNat < S16128.size a)
theorem k0_idx155_inb : ∀ (v1441 : IVec S16 32) (k0_hw155 : k0_chk155 v1441), ∀ a x, ((![v1441] : Fin 1 → IVec S16 32) a x).toNat < S16128.size a := fun v1441 k0_hw155 => k0_hw155
def k0_mult192 (k0_t11 : Fin k0_t11_loop.trips) : BitVec 32 :=
  let c0_i32_624 : BitVec 32 := 0#32
  let c0_i32_510 : BitVec 32 := 0#32
  let c1_i32_512 : BitVec 32 := 1#32
  let arg20 : BitVec 32 := Scf.iv c0_i32_510 c1_i32_512 k0_t11
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c160_i32 : BitVec 32 := 160#32
  let v1443 : BitVec 32 := Scalar.addi v1377 c160_i32
  v1443
def k0_off162 (k0_t11 : Fin k0_t11_loop.trips) : Fin 1 → Nat :=
  let c0_i32_624 : BitVec 32 := 0#32
  let c0_i32_510 : BitVec 32 := 0#32
  let c1_i32_512 : BitVec 32 := 1#32
  let arg20 : BitVec 32 := Scf.iv c0_i32_510 c1_i32_512 k0_t11
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c160_i32 : BitVec 32 := 160#32
  let v1443 : BitVec 32 := Scalar.addi v1377 c160_i32
  let v1444 : BitVec 32 := v1443
  let v1445 : Index := Scalar.indexCast v1444
  ![v1445.toNat]

def k0_chk156 (v1447 : IVec S16 32) : Prop :=
  (∀ a x, ((![v1447] : Fin 1 → IVec S16 32) a x).toNat < S16128.size a)
theorem k0_idx156_inb : ∀ (v1447 : IVec S16 32) (k0_hw156 : k0_chk156 v1447), ∀ a x, ((![v1447] : Fin 1 → IVec S16 32) a x).toNat < S16128.size a := fun v1447 k0_hw156 => k0_hw156
def k0_mult193 (k0_t11 : Fin k0_t11_loop.trips) : BitVec 32 :=
  let c0_i32_624 : BitVec 32 := 0#32
  let c0_i32_510 : BitVec 32 := 0#32
  let c1_i32_512 : BitVec 32 := 1#32
  let arg20 : BitVec 32 := Scf.iv c0_i32_510 c1_i32_512 k0_t11
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c176_i32 : BitVec 32 := 176#32
  let v1449 : BitVec 32 := Scalar.addi v1377 c176_i32
  v1449
def k0_off163 (k0_t11 : Fin k0_t11_loop.trips) : Fin 1 → Nat :=
  let c0_i32_624 : BitVec 32 := 0#32
  let c0_i32_510 : BitVec 32 := 0#32
  let c1_i32_512 : BitVec 32 := 1#32
  let arg20 : BitVec 32 := Scf.iv c0_i32_510 c1_i32_512 k0_t11
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c176_i32 : BitVec 32 := 176#32
  let v1449 : BitVec 32 := Scalar.addi v1377 c176_i32
  let v1450 : BitVec 32 := v1449
  let v1451 : Index := Scalar.indexCast v1450
  ![v1451.toNat]

def k0_chk157 (v1453 : IVec S16 32) : Prop :=
  (∀ a x, ((![v1453] : Fin 1 → IVec S16 32) a x).toNat < S16128.size a)
theorem k0_idx157_inb : ∀ (v1453 : IVec S16 32) (k0_hw157 : k0_chk157 v1453), ∀ a x, ((![v1453] : Fin 1 → IVec S16 32) a x).toNat < S16128.size a := fun v1453 k0_hw157 => k0_hw157
def k0_mult194 (k0_t11 : Fin k0_t11_loop.trips) : BitVec 32 :=
  let c0_i32_624 : BitVec 32 := 0#32
  let c0_i32_510 : BitVec 32 := 0#32
  let c1_i32_512 : BitVec 32 := 1#32
  let arg20 : BitVec 32 := Scf.iv c0_i32_510 c1_i32_512 k0_t11
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c192_i32 : BitVec 32 := 192#32
  let v1455 : BitVec 32 := Scalar.addi v1377 c192_i32
  v1455
def k0_off164 (k0_t11 : Fin k0_t11_loop.trips) : Fin 1 → Nat :=
  let c0_i32_624 : BitVec 32 := 0#32
  let c0_i32_510 : BitVec 32 := 0#32
  let c1_i32_512 : BitVec 32 := 1#32
  let arg20 : BitVec 32 := Scf.iv c0_i32_510 c1_i32_512 k0_t11
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c192_i32 : BitVec 32 := 192#32
  let v1455 : BitVec 32 := Scalar.addi v1377 c192_i32
  let v1456 : BitVec 32 := v1455
  let v1457 : Index := Scalar.indexCast v1456
  ![v1457.toNat]

def k0_chk158 (v1459 : IVec S16 32) : Prop :=
  (∀ a x, ((![v1459] : Fin 1 → IVec S16 32) a x).toNat < S16128.size a)
theorem k0_idx158_inb : ∀ (v1459 : IVec S16 32) (k0_hw158 : k0_chk158 v1459), ∀ a x, ((![v1459] : Fin 1 → IVec S16 32) a x).toNat < S16128.size a := fun v1459 k0_hw158 => k0_hw158
def k0_mult195 (k0_t11 : Fin k0_t11_loop.trips) : BitVec 32 :=
  let c0_i32_624 : BitVec 32 := 0#32
  let c0_i32_510 : BitVec 32 := 0#32
  let c1_i32_512 : BitVec 32 := 1#32
  let arg20 : BitVec 32 := Scf.iv c0_i32_510 c1_i32_512 k0_t11
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c208_i32 : BitVec 32 := 208#32
  let v1461 : BitVec 32 := Scalar.addi v1377 c208_i32
  v1461
def k0_off165 (k0_t11 : Fin k0_t11_loop.trips) : Fin 1 → Nat :=
  let c0_i32_624 : BitVec 32 := 0#32
  let c0_i32_510 : BitVec 32 := 0#32
  let c1_i32_512 : BitVec 32 := 1#32
  let arg20 : BitVec 32 := Scf.iv c0_i32_510 c1_i32_512 k0_t11
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c208_i32 : BitVec 32 := 208#32
  let v1461 : BitVec 32 := Scalar.addi v1377 c208_i32
  let v1462 : BitVec 32 := v1461
  let v1463 : Index := Scalar.indexCast v1462
  ![v1463.toNat]

def k0_chk159 (v1465 : IVec S16 32) : Prop :=
  (∀ a x, ((![v1465] : Fin 1 → IVec S16 32) a x).toNat < S16128.size a)
theorem k0_idx159_inb : ∀ (v1465 : IVec S16 32) (k0_hw159 : k0_chk159 v1465), ∀ a x, ((![v1465] : Fin 1 → IVec S16 32) a x).toNat < S16128.size a := fun v1465 k0_hw159 => k0_hw159
def k0_mult196 (k0_t11 : Fin k0_t11_loop.trips) : BitVec 32 :=
  let c0_i32_624 : BitVec 32 := 0#32
  let c0_i32_510 : BitVec 32 := 0#32
  let c1_i32_512 : BitVec 32 := 1#32
  let arg20 : BitVec 32 := Scf.iv c0_i32_510 c1_i32_512 k0_t11
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c224_i32 : BitVec 32 := 224#32
  let v1467 : BitVec 32 := Scalar.addi v1377 c224_i32
  v1467
def k0_off166 (k0_t11 : Fin k0_t11_loop.trips) : Fin 1 → Nat :=
  let c0_i32_624 : BitVec 32 := 0#32
  let c0_i32_510 : BitVec 32 := 0#32
  let c1_i32_512 : BitVec 32 := 1#32
  let arg20 : BitVec 32 := Scf.iv c0_i32_510 c1_i32_512 k0_t11
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c224_i32 : BitVec 32 := 224#32
  let v1467 : BitVec 32 := Scalar.addi v1377 c224_i32
  let v1468 : BitVec 32 := v1467
  let v1469 : Index := Scalar.indexCast v1468
  ![v1469.toNat]

def k0_chk160 (v1471 : IVec S16 32) : Prop :=
  (∀ a x, ((![v1471] : Fin 1 → IVec S16 32) a x).toNat < S16128.size a)
theorem k0_idx160_inb : ∀ (v1471 : IVec S16 32) (k0_hw160 : k0_chk160 v1471), ∀ a x, ((![v1471] : Fin 1 → IVec S16 32) a x).toNat < S16128.size a := fun v1471 k0_hw160 => k0_hw160
def k0_mult197 (k0_t11 : Fin k0_t11_loop.trips) : BitVec 32 :=
  let c0_i32_624 : BitVec 32 := 0#32
  let c0_i32_510 : BitVec 32 := 0#32
  let c1_i32_512 : BitVec 32 := 1#32
  let arg20 : BitVec 32 := Scf.iv c0_i32_510 c1_i32_512 k0_t11
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c240_i32 : BitVec 32 := 240#32
  let v1473 : BitVec 32 := Scalar.addi v1377 c240_i32
  v1473
def k0_off167 (k0_t11 : Fin k0_t11_loop.trips) : Fin 1 → Nat :=
  let c0_i32_624 : BitVec 32 := 0#32
  let c0_i32_510 : BitVec 32 := 0#32
  let c1_i32_512 : BitVec 32 := 1#32
  let arg20 : BitVec 32 := Scf.iv c0_i32_510 c1_i32_512 k0_t11
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c240_i32 : BitVec 32 := 240#32
  let v1473 : BitVec 32 := Scalar.addi v1377 c240_i32
  let v1474 : BitVec 32 := v1473
  let v1475 : Index := Scalar.indexCast v1474
  ![v1475.toNat]
def k0_mult198 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_1 : BitVec 32 := 2#32
  let v4 : BitVec 32 := Scalar.muli v1 c2_i32_1
  let c1_i32 : BitVec 32 := 1#32
  let v5 : BitVec 32 := Scalar.addi v4 c1_i32
  let c1984_i32_137 : BitVec 32 := 1984#32
  let v268 : BitVec 32 := Scalar.muli v5 c1984_i32_137
  let c256_i32_138 : BitVec 32 := 256#32
  let v269 : BitVec 32 := Scalar.muli v268 c256_i32_138
  let c61_i32_514 : BitVec 32 := 61#32
  let c0_i32_516 : BitVec 32 := 0#32
  let v1130 : BitVec 1 := Scalar.cmpi .sgt c61_i32_514 c0_i32_516
  let v1131 : BitVec 32 := Scalar.extui v1130
  let c0_i32_517 : BitVec 32 := 0#32
  let v1132 : BitVec 1 := Scalar.cmpi .slt c61_i32_514 c0_i32_517
  let v1133 : BitVec 32 := Scalar.extui v1132
  let v1134 : BitVec 32 := Scalar.subi v1131 v1133
  let c2_i32_515 : BitVec 32 := 2#32
  let c0_i32_518 : BitVec 32 := 0#32
  let v1135 : BitVec 1 := Scalar.cmpi .sgt c2_i32_515 c0_i32_518
  let v1136 : BitVec 32 := Scalar.extui v1135
  let c0_i32_519 : BitVec 32 := 0#32
  let v1137 : BitVec 1 := Scalar.cmpi .slt c2_i32_515 c0_i32_519
  let v1138 : BitVec 32 := Scalar.extui v1137
  let v1139 : BitVec 32 := Scalar.subi v1136 v1138
  let v1140 : BitVec 1 := Scalar.cmpi .ne v1134 v1139
  let v1141 : BitVec 32 := Scalar.remsi c61_i32_514 c2_i32_515
  let c0_i32_520 : BitVec 32 := 0#32
  let v1142 : BitVec 1 := Scalar.cmpi .ne v1141 c0_i32_520
  let v1143 : BitVec 1 := Scalar.andi v1140 v1142
  let v1129 : BitVec 32 := Scalar.divsi c61_i32_514 c2_i32_515
  let c1_i32_521 : BitVec 32 := 1#32
  let v1144 : BitVec 32 := Scalar.subi v1129 c1_i32_521
  let v1145 : BitVec 32 := Scalar.select v1143 v1144 v1129
  let c15872_i32_522 : BitVec 32 := 15872#32
  let v1146 : BitVec 32 := Scalar.muli v1145 c15872_i32_522
  let v1147 : BitVec 32 := Scalar.addi v269 v1146
  v1147
def k0_mult199 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32 : BitVec 32 := 0#32
  let v3 : BitVec 32 := Scalar.addi v2 c0_i32
  let c2048_i32 : BitVec 32 := 2048#32
  let v258 : BitVec 32 := Scalar.muli v3 c2048_i32
  let c63_i32 : BitVec 32 := 63#32
  let v130 : BitVec 1 := Scalar.cmpi .eq v3 c63_i32
  let c1763_i32 : BitVec 32 := 1763#32
  let c62_i32 : BitVec 32 := 62#32
  let v128 : BitVec 1 := Scalar.cmpi .eq v3 c62_i32
  let c1196_i32 : BitVec 32 := 1196#32
  let c61_i32 : BitVec 32 := 61#32
  let v126 : BitVec 1 := Scalar.cmpi .eq v3 c61_i32
  let c722_i32 : BitVec 32 := 722#32
  let c60_i32 : BitVec 32 := 60#32
  let v124 : BitVec 1 := Scalar.cmpi .eq v3 c60_i32
  let c3132_i32 : BitVec 32 := 3132#32
  let c59_i32 : BitVec 32 := 59#32
  let v122 : BitVec 1 := Scalar.cmpi .eq v3 c59_i32
  let c2263_i32 : BitVec 32 := 2263#32
  let c58_i32 : BitVec 32 := 58#32
  let v120 : BitVec 1 := Scalar.cmpi .eq v3 c58_i32
  let c7228_i32 : BitVec 32 := 7228#32
  let c57_i32 : BitVec 32 := 57#32
  let v118 : BitVec 1 := Scalar.cmpi .eq v3 c57_i32
  let c6147_i32 : BitVec 32 := 6147#32
  let c56_i32_4 : BitVec 32 := 56#32
  let v116 : BitVec 1 := Scalar.cmpi .eq v3 c56_i32_4
  let c5257_i32 : BitVec 32 := 5257#32
  let c55_i32 : BitVec 32 := 55#32
  let v114 : BitVec 1 := Scalar.cmpi .eq v3 c55_i32
  let c2687_i32 : BitVec 32 := 2687#32
  let c54_i32 : BitVec 32 := 54#32
  let v112 : BitVec 1 := Scalar.cmpi .eq v3 c54_i32
  let c3913_i32 : BitVec 32 := 3913#32
  let c53_i32 : BitVec 32 := 53#32
  let v110 : BitVec 1 := Scalar.cmpi .eq v3 c53_i32
  let c1765_i32 : BitVec 32 := 1765#32
  let c52_i32 : BitVec 32 := 52#32
  let v108 : BitVec 1 := Scalar.cmpi .eq v3 c52_i32
  let c572_i32 : BitVec 32 := 572#32
  let c51_i32 : BitVec 32 := 51#32
  let v106 : BitVec 1 := Scalar.cmpi .eq v3 c51_i32
  let c5479_i32 : BitVec 32 := 5479#32
  let c50_i32 : BitVec 32 := 50#32
  let v104 : BitVec 1 := Scalar.cmpi .eq v3 c50_i32
  let c7351_i32 : BitVec 32 := 7351#32
  let c49_i32 : BitVec 32 := 49#32
  let v102 : BitVec 1 := Scalar.cmpi .eq v3 c49_i32
  let c593_i32 : BitVec 32 := 593#32
  let c48_i32 : BitVec 32 := 48#32
  let v100 : BitVec 1 := Scalar.cmpi .eq v3 c48_i32
  let c7487_i32 : BitVec 32 := 7487#32
  let c47_i32 : BitVec 32 := 47#32
  let v98 : BitVec 1 := Scalar.cmpi .eq v3 c47_i32
  let c3618_i32 : BitVec 32 := 3618#32
  let c46_i32 : BitVec 32 := 46#32
  let v96 : BitVec 1 := Scalar.cmpi .eq v3 c46_i32
  let c6125_i32 : BitVec 32 := 6125#32
  let c45_i32 : BitVec 32 := 45#32
  let v94 : BitVec 1 := Scalar.cmpi .eq v3 c45_i32
  let c2834_i32 : BitVec 32 := 2834#32
  let c44_i32 : BitVec 32 := 44#32
  let v92 : BitVec 1 := Scalar.cmpi .eq v3 c44_i32
  let c4871_i32 : BitVec 32 := 4871#32
  let c43_i32 : BitVec 32 := 43#32
  let v90 : BitVec 1 := Scalar.cmpi .eq v3 c43_i32
  let c1936_i32 : BitVec 32 := 1936#32
  let c42_i32 : BitVec 32 := 42#32
  let v88 : BitVec 1 := Scalar.cmpi .eq v3 c42_i32
  let c2914_i32 : BitVec 32 := 2914#32
  let c41_i32 : BitVec 32 := 41#32
  let v86 : BitVec 1 := Scalar.cmpi .eq v3 c41_i32
  let c3866_i32 : BitVec 32 := 3866#32
  let c40_i32 : BitVec 32 := 40#32
  let v84 : BitVec 1 := Scalar.cmpi .eq v3 c40_i32
  let c1846_i32 : BitVec 32 := 1846#32
  let c39_i32 : BitVec 32 := 39#32
  let v82 : BitVec 1 := Scalar.cmpi .eq v3 c39_i32
  let c7714_i32 : BitVec 32 := 7714#32
  let c38_i32 : BitVec 32 := 38#32
  let v80 : BitVec 1 := Scalar.cmpi .eq v3 c38_i32
  let c3980_i32 : BitVec 32 := 3980#32
  let c37_i32 : BitVec 32 := 37#32
  let v78 : BitVec 1 := Scalar.cmpi .eq v3 c37_i32
  let c6570_i32 : BitVec 32 := 6570#32
  let c36_i32 : BitVec 32 := 36#32
  let v76 : BitVec 1 := Scalar.cmpi .eq v3 c36_i32
  let c2937_i32 : BitVec 32 := 2937#32
  let c35_i32 : BitVec 32 := 35#32
  let v74 : BitVec 1 := Scalar.cmpi .eq v3 c35_i32
  let c1105_i32 : BitVec 32 := 1105#32
  let c34_i32 : BitVec 32 := 34#32
  let v72 : BitVec 1 := Scalar.cmpi .eq v3 c34_i32
  let c5685_i32 : BitVec 32 := 5685#32
  let c33_i32 : BitVec 32 := 33#32
  let v70 : BitVec 1 := Scalar.cmpi .eq v3 c33_i32
  let c1851_i32 : BitVec 32 := 1851#32
  let c32_i32 : BitVec 32 := 32#32
  let v68 : BitVec 1 := Scalar.cmpi .eq v3 c32_i32
  let c2835_i32 : BitVec 32 := 2835#32
  let c31_i32 : BitVec 32 := 31#32
  let v66 : BitVec 1 := Scalar.cmpi .eq v3 c31_i32
  let c6151_i32 : BitVec 32 := 6151#32
  let c30_i32 : BitVec 32 := 30#32
  let v64 : BitVec 1 := Scalar.cmpi .eq v3 c30_i32
  let c2916_i32 : BitVec 32 := 2916#32
  let c29_i32 : BitVec 32 := 29#32
  let v62 : BitVec 1 := Scalar.cmpi .eq v3 c29_i32
  let c4806_i32 : BitVec 32 := 4806#32
  let c28_i32 : BitVec 32 := 28#32
  let v60 : BitVec 1 := Scalar.cmpi .eq v3 c28_i32
  let c2760_i32 : BitVec 32 := 2760#32
  let c27_i32 : BitVec 32 := 27#32
  let v58 : BitVec 1 := Scalar.cmpi .eq v3 c27_i32
  let c2339_i32 : BitVec 32 := 2339#32
  let c26_i32 : BitVec 32 := 26#32
  let v56 : BitVec 1 := Scalar.cmpi .eq v3 c26_i32
  let c5978_i32 : BitVec 32 := 5978#32
  let c25_i32 : BitVec 32 := 25#32
  let v54 : BitVec 1 := Scalar.cmpi .eq v3 c25_i32
  let c6943_i32 : BitVec 32 := 6943#32
  let c24_i32 : BitVec 32 := 24#32
  let v52 : BitVec 1 := Scalar.cmpi .eq v3 c24_i32
  let c7654_i32 : BitVec 32 := 7654#32
  let c23_i32 : BitVec 32 := 23#32
  let v50 : BitVec 1 := Scalar.cmpi .eq v3 c23_i32
  let c3018_i32 : BitVec 32 := 3018#32
  let c22_i32 : BitVec 32 := 22#32
  let v48 : BitVec 1 := Scalar.cmpi .eq v3 c22_i32
  let c56_i32 : BitVec 32 := 56#32
  let c21_i32 : BitVec 32 := 21#32
  let v46 : BitVec 1 := Scalar.cmpi .eq v3 c21_i32
  let c5652_i32 : BitVec 32 := 5652#32
  let c20_i32 : BitVec 32 := 20#32
  let v44 : BitVec 1 := Scalar.cmpi .eq v3 c20_i32
  let c6840_i32 : BitVec 32 := 6840#32
  let c19_i32 : BitVec 32 := 19#32
  let v42 : BitVec 1 := Scalar.cmpi .eq v3 c19_i32
  let c4026_i32 : BitVec 32 := 4026#32
  let c18_i32 : BitVec 32 := 18#32
  let v40 : BitVec 1 := Scalar.cmpi .eq v3 c18_i32
  let c91_i32 : BitVec 32 := 91#32
  let c17_i32 : BitVec 32 := 17#32
  let v38 : BitVec 1 := Scalar.cmpi .eq v3 c17_i32
  let c7767_i32 : BitVec 32 := 7767#32
  let c16_i32 : BitVec 32 := 16#32
  let v36 : BitVec 1 := Scalar.cmpi .eq v3 c16_i32
  let c4241_i32 : BitVec 32 := 4241#32
  let c15_i32 : BitVec 32 := 15#32
  let v34 : BitVec 1 := Scalar.cmpi .eq v3 c15_i32
  let c6170_i32 : BitVec 32 := 6170#32
  let c14_i32 : BitVec 32 := 14#32
  let v32 : BitVec 1 := Scalar.cmpi .eq v3 c14_i32
  let c8174_i32 : BitVec 32 := 8174#32
  let c13_i32 : BitVec 32 := 13#32
  let v30 : BitVec 1 := Scalar.cmpi .eq v3 c13_i32
  let c1378_i32 : BitVec 32 := 1378#32
  let c12_i32 : BitVec 32 := 12#32
  let v28 : BitVec 1 := Scalar.cmpi .eq v3 c12_i32
  let c2562_i32 : BitVec 32 := 2562#32
  let c11_i32 : BitVec 32 := 11#32
  let v26 : BitVec 1 := Scalar.cmpi .eq v3 c11_i32
  let c4161_i32 : BitVec 32 := 4161#32
  let c10_i32 : BitVec 32 := 10#32
  let v24 : BitVec 1 := Scalar.cmpi .eq v3 c10_i32
  let c6176_i32 : BitVec 32 := 6176#32
  let c9_i32 : BitVec 32 := 9#32
  let v22 : BitVec 1 := Scalar.cmpi .eq v3 c9_i32
  let c2818_i32 : BitVec 32 := 2818#32
  let c8_i32 : BitVec 32 := 8#32
  let v20 : BitVec 1 := Scalar.cmpi .eq v3 c8_i32
  let c5970_i32 : BitVec 32 := 5970#32
  let c7_i32 : BitVec 32 := 7#32
  let v18 : BitVec 1 := Scalar.cmpi .eq v3 c7_i32
  let c7573_i32 : BitVec 32 := 7573#32
  let c6_i32 : BitVec 32 := 6#32
  let v16 : BitVec 1 := Scalar.cmpi .eq v3 c6_i32
  let c3350_i32 : BitVec 32 := 3350#32
  let c5_i32 : BitVec 32 := 5#32
  let v14 : BitVec 1 := Scalar.cmpi .eq v3 c5_i32
  let c4780_i32 : BitVec 32 := 4780#32
  let c4_i32 : BitVec 32 := 4#32
  let v12 : BitVec 1 := Scalar.cmpi .eq v3 c4_i32
  let c6560_i32 : BitVec 32 := 6560#32
  let c3_i32 : BitVec 32 := 3#32
  let v10 : BitVec 1 := Scalar.cmpi .eq v3 c3_i32
  let c7017_i32 : BitVec 32 := 7017#32
  let c2_i32_3 : BitVec 32 := 2#32
  let v8 : BitVec 1 := Scalar.cmpi .eq v3 c2_i32_3
  let c736_i32 : BitVec 32 := 736#32
  let c1_i32_2 : BitVec 32 := 1#32
  let v6 : BitVec 1 := Scalar.cmpi .eq v3 c1_i32_2
  let c943_i32 : BitVec 32 := 943#32
  let c7932_i32 : BitVec 32 := 7932#32
  let v7 : BitVec 32 := Scalar.select v6 c943_i32 c7932_i32
  let v9 : BitVec 32 := Scalar.select v8 c736_i32 v7
  let v11 : BitVec 32 := Scalar.select v10 c7017_i32 v9
  let v13 : BitVec 32 := Scalar.select v12 c6560_i32 v11
  let v15 : BitVec 32 := Scalar.select v14 c4780_i32 v13
  let v17 : BitVec 32 := Scalar.select v16 c3350_i32 v15
  let v19 : BitVec 32 := Scalar.select v18 c7573_i32 v17
  let v21 : BitVec 32 := Scalar.select v20 c5970_i32 v19
  let v23 : BitVec 32 := Scalar.select v22 c2818_i32 v21
  let v25 : BitVec 32 := Scalar.select v24 c6176_i32 v23
  let v27 : BitVec 32 := Scalar.select v26 c4161_i32 v25
  let v29 : BitVec 32 := Scalar.select v28 c2562_i32 v27
  let v31 : BitVec 32 := Scalar.select v30 c1378_i32 v29
  let v33 : BitVec 32 := Scalar.select v32 c8174_i32 v31
  let v35 : BitVec 32 := Scalar.select v34 c6170_i32 v33
  let v37 : BitVec 32 := Scalar.select v36 c4241_i32 v35
  let v39 : BitVec 32 := Scalar.select v38 c7767_i32 v37
  let v41 : BitVec 32 := Scalar.select v40 c91_i32 v39
  let v43 : BitVec 32 := Scalar.select v42 c4026_i32 v41
  let v45 : BitVec 32 := Scalar.select v44 c6840_i32 v43
  let v47 : BitVec 32 := Scalar.select v46 c5652_i32 v45
  let v49 : BitVec 32 := Scalar.select v48 c56_i32 v47
  let v51 : BitVec 32 := Scalar.select v50 c3018_i32 v49
  let v53 : BitVec 32 := Scalar.select v52 c7654_i32 v51
  let v55 : BitVec 32 := Scalar.select v54 c6943_i32 v53
  let v57 : BitVec 32 := Scalar.select v56 c5978_i32 v55
  let v59 : BitVec 32 := Scalar.select v58 c2339_i32 v57
  let v61 : BitVec 32 := Scalar.select v60 c2760_i32 v59
  let v63 : BitVec 32 := Scalar.select v62 c4806_i32 v61
  let v65 : BitVec 32 := Scalar.select v64 c2916_i32 v63
  let v67 : BitVec 32 := Scalar.select v66 c6151_i32 v65
  let v69 : BitVec 32 := Scalar.select v68 c2835_i32 v67
  let v71 : BitVec 32 := Scalar.select v70 c1851_i32 v69
  let v73 : BitVec 32 := Scalar.select v72 c5685_i32 v71
  let v75 : BitVec 32 := Scalar.select v74 c1105_i32 v73
  let v77 : BitVec 32 := Scalar.select v76 c2937_i32 v75
  let v79 : BitVec 32 := Scalar.select v78 c6570_i32 v77
  let v81 : BitVec 32 := Scalar.select v80 c3980_i32 v79
  let v83 : BitVec 32 := Scalar.select v82 c7714_i32 v81
  let v85 : BitVec 32 := Scalar.select v84 c1846_i32 v83
  let v87 : BitVec 32 := Scalar.select v86 c3866_i32 v85
  let v89 : BitVec 32 := Scalar.select v88 c2914_i32 v87
  let v91 : BitVec 32 := Scalar.select v90 c1936_i32 v89
  let v93 : BitVec 32 := Scalar.select v92 c4871_i32 v91
  let v95 : BitVec 32 := Scalar.select v94 c2834_i32 v93
  let v97 : BitVec 32 := Scalar.select v96 c6125_i32 v95
  let v99 : BitVec 32 := Scalar.select v98 c3618_i32 v97
  let v101 : BitVec 32 := Scalar.select v100 c7487_i32 v99
  let v103 : BitVec 32 := Scalar.select v102 c593_i32 v101
  let v105 : BitVec 32 := Scalar.select v104 c7351_i32 v103
  let v107 : BitVec 32 := Scalar.select v106 c5479_i32 v105
  let v109 : BitVec 32 := Scalar.select v108 c572_i32 v107
  let v111 : BitVec 32 := Scalar.select v110 c1765_i32 v109
  let v113 : BitVec 32 := Scalar.select v112 c3913_i32 v111
  let v115 : BitVec 32 := Scalar.select v114 c2687_i32 v113
  let v117 : BitVec 32 := Scalar.select v116 c5257_i32 v115
  let v119 : BitVec 32 := Scalar.select v118 c6147_i32 v117
  let v121 : BitVec 32 := Scalar.select v120 c7228_i32 v119
  let v123 : BitVec 32 := Scalar.select v122 c2263_i32 v121
  let v125 : BitVec 32 := Scalar.select v124 c3132_i32 v123
  let v127 : BitVec 32 := Scalar.select v126 c722_i32 v125
  let v129 : BitVec 32 := Scalar.select v128 c1196_i32 v127
  let v131 : BitVec 32 := Scalar.select v130 c1763_i32 v129
  let c7_i32_132 : BitVec 32 := 7#32
  let v259 : BitVec 32 := Scalar.shrsi v131 c7_i32_132
  let v260 : BitVec 32 := Scalar.addi v258 v259
  let c256_i32 : BitVec 32 := 256#32
  let v261 : BitVec 32 := Scalar.muli v260 c256_i32
  let c62_i32_523 : BitVec 32 := 62#32
  let c0_i32_525 : BitVec 32 := 0#32
  let v1152 : BitVec 1 := Scalar.cmpi .sgt c62_i32_523 c0_i32_525
  let v1153 : BitVec 32 := Scalar.extui v1152
  let c0_i32_526 : BitVec 32 := 0#32
  let v1154 : BitVec 1 := Scalar.cmpi .slt c62_i32_523 c0_i32_526
  let v1155 : BitVec 32 := Scalar.extui v1154
  let v1156 : BitVec 32 := Scalar.subi v1153 v1155
  let c2_i32_524 : BitVec 32 := 2#32
  let c0_i32_527 : BitVec 32 := 0#32
  let v1157 : BitVec 1 := Scalar.cmpi .sgt c2_i32_524 c0_i32_527
  let v1158 : BitVec 32 := Scalar.extui v1157
  let c0_i32_528 : BitVec 32 := 0#32
  let v1159 : BitVec 1 := Scalar.cmpi .slt c2_i32_524 c0_i32_528
  let v1160 : BitVec 32 := Scalar.extui v1159
  let v1161 : BitVec 32 := Scalar.subi v1158 v1160
  let v1162 : BitVec 1 := Scalar.cmpi .ne v1156 v1161
  let v1163 : BitVec 32 := Scalar.remsi c62_i32_523 c2_i32_524
  let c0_i32_529 : BitVec 32 := 0#32
  let v1164 : BitVec 1 := Scalar.cmpi .ne v1163 c0_i32_529
  let v1165 : BitVec 1 := Scalar.andi v1162 v1164
  let v1151 : BitVec 32 := Scalar.divsi c62_i32_523 c2_i32_524
  let c1_i32_530 : BitVec 32 := 1#32
  let v1166 : BitVec 32 := Scalar.subi v1151 c1_i32_530
  let v1167 : BitVec 32 := Scalar.select v1165 v1166 v1151
  let c15872_i32_531 : BitVec 32 := 15872#32
  let v1168 : BitVec 32 := Scalar.muli v1167 c15872_i32_531
  let v1169 : BitVec 32 := Scalar.addi v261 v1168
  v1169
def k0_mult200 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32 : BitVec 32 := 0#32
  let v3 : BitVec 32 := Scalar.addi v2 c0_i32
  let c1984_i32 : BitVec 32 := 1984#32
  let v266 : BitVec 32 := Scalar.muli v3 c1984_i32
  let c256_i32_136 : BitVec 32 := 256#32
  let v267 : BitVec 32 := Scalar.muli v266 c256_i32_136
  let c62_i32_532 : BitVec 32 := 62#32
  let c4_i32_533 : BitVec 32 := 4#32
  let v1173 : BitVec 32 := Scalar.subi c62_i32_532 c4_i32_533
  let c0_i32_535 : BitVec 32 := 0#32
  let v1175 : BitVec 1 := Scalar.cmpi .sgt v1173 c0_i32_535
  let v1176 : BitVec 32 := Scalar.extui v1175
  let c0_i32_536 : BitVec 32 := 0#32
  let v1177 : BitVec 1 := Scalar.cmpi .slt v1173 c0_i32_536
  let v1178 : BitVec 32 := Scalar.extui v1177
  let v1179 : BitVec 32 := Scalar.subi v1176 v1178
  let c2_i32_534 : BitVec 32 := 2#32
  let c0_i32_537 : BitVec 32 := 0#32
  let v1180 : BitVec 1 := Scalar.cmpi .sgt c2_i32_534 c0_i32_537
  let v1181 : BitVec 32 := Scalar.extui v1180
  let c0_i32_538 : BitVec 32 := 0#32
  let v1182 : BitVec 1 := Scalar.cmpi .slt c2_i32_534 c0_i32_538
  let v1183 : BitVec 32 := Scalar.extui v1182
  let v1184 : BitVec 32 := Scalar.subi v1181 v1183
  let v1185 : BitVec 1 := Scalar.cmpi .ne v1179 v1184
  let v1186 : BitVec 32 := Scalar.remsi v1173 c2_i32_534
  let c0_i32_539 : BitVec 32 := 0#32
  let v1187 : BitVec 1 := Scalar.cmpi .ne v1186 c0_i32_539
  let v1188 : BitVec 1 := Scalar.andi v1185 v1187
  let v1174 : BitVec 32 := Scalar.divsi v1173 c2_i32_534
  let c1_i32_540 : BitVec 32 := 1#32
  let v1189 : BitVec 32 := Scalar.subi v1174 c1_i32_540
  let v1190 : BitVec 32 := Scalar.select v1188 v1189 v1174
  let c15872_i32_541 : BitVec 32 := 15872#32
  let v1191 : BitVec 32 := Scalar.muli v1190 c15872_i32_541
  let v1192 : BitVec 32 := Scalar.addi v267 v1191
  v1192
@[reducible] def k0_t12_loop : Scf.Loop 32 :=
  let c0_i32_542 : BitVec 32 := 0#32
  let c62_i32_543 : BitVec 32 := 62#32
  let v1196 : BitVec 32 := Scalar.addi c0_i32_542 c62_i32_543
  let c1_i32_544 : BitVec 32 := 1#32
  ⟨c0_i32_542, v1196, c1_i32_544⟩

def k0_chk161 (v1381 : IVec S16 32) : Prop :=
  (∀ a x, ((![v1381] : Fin 1 → IVec S16 32) a x).toNat < S16128.size a)
theorem k0_idx161_inb : ∀ (v1381 : IVec S16 32) (k0_hw161 : k0_chk161 v1381), ∀ a x, ((![v1381] : Fin 1 → IVec S16 32) a x).toNat < S16128.size a := fun v1381 k0_hw161 => k0_hw161
def k0_mult201 (k0_t12 : Fin k0_t12_loop.trips) : BitVec 32 :=
  let c0_i32_624 : BitVec 32 := 0#32
  let c0_i32_542 : BitVec 32 := 0#32
  let c1_i32_544 : BitVec 32 := 1#32
  let arg20 : BitVec 32 := Scf.iv c0_i32_542 c1_i32_544 k0_t12
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c0_i32_627 : BitVec 32 := 0#32
  let v1383 : BitVec 32 := Scalar.addi v1377 c0_i32_627
  v1383
def k0_off168 (k0_t12 : Fin k0_t12_loop.trips) : Fin 1 → Nat :=
  let c0_i32_624 : BitVec 32 := 0#32
  let c0_i32_542 : BitVec 32 := 0#32
  let c1_i32_544 : BitVec 32 := 1#32
  let arg20 : BitVec 32 := Scf.iv c0_i32_542 c1_i32_544 k0_t12
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c0_i32_627 : BitVec 32 := 0#32
  let v1383 : BitVec 32 := Scalar.addi v1377 c0_i32_627
  let v1384 : BitVec 32 := v1383
  let v1385 : Index := Scalar.indexCast v1384
  ![v1385.toNat]

def k0_chk162 (v1387 : IVec S16 32) : Prop :=
  (∀ a x, ((![v1387] : Fin 1 → IVec S16 32) a x).toNat < S16128.size a)
theorem k0_idx162_inb : ∀ (v1387 : IVec S16 32) (k0_hw162 : k0_chk162 v1387), ∀ a x, ((![v1387] : Fin 1 → IVec S16 32) a x).toNat < S16128.size a := fun v1387 k0_hw162 => k0_hw162
def k0_mult202 (k0_t12 : Fin k0_t12_loop.trips) : BitVec 32 :=
  let c0_i32_624 : BitVec 32 := 0#32
  let c0_i32_542 : BitVec 32 := 0#32
  let c1_i32_544 : BitVec 32 := 1#32
  let arg20 : BitVec 32 := Scf.iv c0_i32_542 c1_i32_544 k0_t12
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c16_i32_628 : BitVec 32 := 16#32
  let v1389 : BitVec 32 := Scalar.addi v1377 c16_i32_628
  v1389
def k0_off169 (k0_t12 : Fin k0_t12_loop.trips) : Fin 1 → Nat :=
  let c0_i32_624 : BitVec 32 := 0#32
  let c0_i32_542 : BitVec 32 := 0#32
  let c1_i32_544 : BitVec 32 := 1#32
  let arg20 : BitVec 32 := Scf.iv c0_i32_542 c1_i32_544 k0_t12
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c16_i32_628 : BitVec 32 := 16#32
  let v1389 : BitVec 32 := Scalar.addi v1377 c16_i32_628
  let v1390 : BitVec 32 := v1389
  let v1391 : Index := Scalar.indexCast v1390
  ![v1391.toNat]

def k0_chk163 (v1393 : IVec S16 32) : Prop :=
  (∀ a x, ((![v1393] : Fin 1 → IVec S16 32) a x).toNat < S16128.size a)
theorem k0_idx163_inb : ∀ (v1393 : IVec S16 32) (k0_hw163 : k0_chk163 v1393), ∀ a x, ((![v1393] : Fin 1 → IVec S16 32) a x).toNat < S16128.size a := fun v1393 k0_hw163 => k0_hw163
def k0_mult203 (k0_t12 : Fin k0_t12_loop.trips) : BitVec 32 :=
  let c0_i32_624 : BitVec 32 := 0#32
  let c0_i32_542 : BitVec 32 := 0#32
  let c1_i32_544 : BitVec 32 := 1#32
  let arg20 : BitVec 32 := Scf.iv c0_i32_542 c1_i32_544 k0_t12
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c32_i32_629 : BitVec 32 := 32#32
  let v1395 : BitVec 32 := Scalar.addi v1377 c32_i32_629
  v1395
def k0_off170 (k0_t12 : Fin k0_t12_loop.trips) : Fin 1 → Nat :=
  let c0_i32_624 : BitVec 32 := 0#32
  let c0_i32_542 : BitVec 32 := 0#32
  let c1_i32_544 : BitVec 32 := 1#32
  let arg20 : BitVec 32 := Scf.iv c0_i32_542 c1_i32_544 k0_t12
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c32_i32_629 : BitVec 32 := 32#32
  let v1395 : BitVec 32 := Scalar.addi v1377 c32_i32_629
  let v1396 : BitVec 32 := v1395
  let v1397 : Index := Scalar.indexCast v1396
  ![v1397.toNat]

def k0_chk164 (v1399 : IVec S16 32) : Prop :=
  (∀ a x, ((![v1399] : Fin 1 → IVec S16 32) a x).toNat < S16128.size a)
theorem k0_idx164_inb : ∀ (v1399 : IVec S16 32) (k0_hw164 : k0_chk164 v1399), ∀ a x, ((![v1399] : Fin 1 → IVec S16 32) a x).toNat < S16128.size a := fun v1399 k0_hw164 => k0_hw164
def k0_mult204 (k0_t12 : Fin k0_t12_loop.trips) : BitVec 32 :=
  let c0_i32_624 : BitVec 32 := 0#32
  let c0_i32_542 : BitVec 32 := 0#32
  let c1_i32_544 : BitVec 32 := 1#32
  let arg20 : BitVec 32 := Scf.iv c0_i32_542 c1_i32_544 k0_t12
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c48_i32_630 : BitVec 32 := 48#32
  let v1401 : BitVec 32 := Scalar.addi v1377 c48_i32_630
  v1401
def k0_off171 (k0_t12 : Fin k0_t12_loop.trips) : Fin 1 → Nat :=
  let c0_i32_624 : BitVec 32 := 0#32
  let c0_i32_542 : BitVec 32 := 0#32
  let c1_i32_544 : BitVec 32 := 1#32
  let arg20 : BitVec 32 := Scf.iv c0_i32_542 c1_i32_544 k0_t12
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c48_i32_630 : BitVec 32 := 48#32
  let v1401 : BitVec 32 := Scalar.addi v1377 c48_i32_630
  let v1402 : BitVec 32 := v1401
  let v1403 : Index := Scalar.indexCast v1402
  ![v1403.toNat]

def k0_chk165 (v1405 : IVec S16 32) : Prop :=
  (∀ a x, ((![v1405] : Fin 1 → IVec S16 32) a x).toNat < S16128.size a)
theorem k0_idx165_inb : ∀ (v1405 : IVec S16 32) (k0_hw165 : k0_chk165 v1405), ∀ a x, ((![v1405] : Fin 1 → IVec S16 32) a x).toNat < S16128.size a := fun v1405 k0_hw165 => k0_hw165
def k0_mult205 (k0_t12 : Fin k0_t12_loop.trips) : BitVec 32 :=
  let c0_i32_624 : BitVec 32 := 0#32
  let c0_i32_542 : BitVec 32 := 0#32
  let c1_i32_544 : BitVec 32 := 1#32
  let arg20 : BitVec 32 := Scf.iv c0_i32_542 c1_i32_544 k0_t12
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c64_i32_631 : BitVec 32 := 64#32
  let v1407 : BitVec 32 := Scalar.addi v1377 c64_i32_631
  v1407
def k0_off172 (k0_t12 : Fin k0_t12_loop.trips) : Fin 1 → Nat :=
  let c0_i32_624 : BitVec 32 := 0#32
  let c0_i32_542 : BitVec 32 := 0#32
  let c1_i32_544 : BitVec 32 := 1#32
  let arg20 : BitVec 32 := Scf.iv c0_i32_542 c1_i32_544 k0_t12
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c64_i32_631 : BitVec 32 := 64#32
  let v1407 : BitVec 32 := Scalar.addi v1377 c64_i32_631
  let v1408 : BitVec 32 := v1407
  let v1409 : Index := Scalar.indexCast v1408
  ![v1409.toNat]

def k0_chk166 (v1411 : IVec S16 32) : Prop :=
  (∀ a x, ((![v1411] : Fin 1 → IVec S16 32) a x).toNat < S16128.size a)
theorem k0_idx166_inb : ∀ (v1411 : IVec S16 32) (k0_hw166 : k0_chk166 v1411), ∀ a x, ((![v1411] : Fin 1 → IVec S16 32) a x).toNat < S16128.size a := fun v1411 k0_hw166 => k0_hw166
def k0_mult206 (k0_t12 : Fin k0_t12_loop.trips) : BitVec 32 :=
  let c0_i32_624 : BitVec 32 := 0#32
  let c0_i32_542 : BitVec 32 := 0#32
  let c1_i32_544 : BitVec 32 := 1#32
  let arg20 : BitVec 32 := Scf.iv c0_i32_542 c1_i32_544 k0_t12
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c80_i32_632 : BitVec 32 := 80#32
  let v1413 : BitVec 32 := Scalar.addi v1377 c80_i32_632
  v1413
def k0_off173 (k0_t12 : Fin k0_t12_loop.trips) : Fin 1 → Nat :=
  let c0_i32_624 : BitVec 32 := 0#32
  let c0_i32_542 : BitVec 32 := 0#32
  let c1_i32_544 : BitVec 32 := 1#32
  let arg20 : BitVec 32 := Scf.iv c0_i32_542 c1_i32_544 k0_t12
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c80_i32_632 : BitVec 32 := 80#32
  let v1413 : BitVec 32 := Scalar.addi v1377 c80_i32_632
  let v1414 : BitVec 32 := v1413
  let v1415 : Index := Scalar.indexCast v1414
  ![v1415.toNat]

def k0_chk167 (v1417 : IVec S16 32) : Prop :=
  (∀ a x, ((![v1417] : Fin 1 → IVec S16 32) a x).toNat < S16128.size a)
theorem k0_idx167_inb : ∀ (v1417 : IVec S16 32) (k0_hw167 : k0_chk167 v1417), ∀ a x, ((![v1417] : Fin 1 → IVec S16 32) a x).toNat < S16128.size a := fun v1417 k0_hw167 => k0_hw167
def k0_mult207 (k0_t12 : Fin k0_t12_loop.trips) : BitVec 32 :=
  let c0_i32_624 : BitVec 32 := 0#32
  let c0_i32_542 : BitVec 32 := 0#32
  let c1_i32_544 : BitVec 32 := 1#32
  let arg20 : BitVec 32 := Scf.iv c0_i32_542 c1_i32_544 k0_t12
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c96_i32_633 : BitVec 32 := 96#32
  let v1419 : BitVec 32 := Scalar.addi v1377 c96_i32_633
  v1419
def k0_off174 (k0_t12 : Fin k0_t12_loop.trips) : Fin 1 → Nat :=
  let c0_i32_624 : BitVec 32 := 0#32
  let c0_i32_542 : BitVec 32 := 0#32
  let c1_i32_544 : BitVec 32 := 1#32
  let arg20 : BitVec 32 := Scf.iv c0_i32_542 c1_i32_544 k0_t12
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c96_i32_633 : BitVec 32 := 96#32
  let v1419 : BitVec 32 := Scalar.addi v1377 c96_i32_633
  let v1420 : BitVec 32 := v1419
  let v1421 : Index := Scalar.indexCast v1420
  ![v1421.toNat]

def k0_chk168 (v1423 : IVec S16 32) : Prop :=
  (∀ a x, ((![v1423] : Fin 1 → IVec S16 32) a x).toNat < S16128.size a)
theorem k0_idx168_inb : ∀ (v1423 : IVec S16 32) (k0_hw168 : k0_chk168 v1423), ∀ a x, ((![v1423] : Fin 1 → IVec S16 32) a x).toNat < S16128.size a := fun v1423 k0_hw168 => k0_hw168
def k0_mult208 (k0_t12 : Fin k0_t12_loop.trips) : BitVec 32 :=
  let c0_i32_624 : BitVec 32 := 0#32
  let c0_i32_542 : BitVec 32 := 0#32
  let c1_i32_544 : BitVec 32 := 1#32
  let arg20 : BitVec 32 := Scf.iv c0_i32_542 c1_i32_544 k0_t12
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c112_i32_634 : BitVec 32 := 112#32
  let v1425 : BitVec 32 := Scalar.addi v1377 c112_i32_634
  v1425
def k0_off175 (k0_t12 : Fin k0_t12_loop.trips) : Fin 1 → Nat :=
  let c0_i32_624 : BitVec 32 := 0#32
  let c0_i32_542 : BitVec 32 := 0#32
  let c1_i32_544 : BitVec 32 := 1#32
  let arg20 : BitVec 32 := Scf.iv c0_i32_542 c1_i32_544 k0_t12
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c112_i32_634 : BitVec 32 := 112#32
  let v1425 : BitVec 32 := Scalar.addi v1377 c112_i32_634
  let v1426 : BitVec 32 := v1425
  let v1427 : Index := Scalar.indexCast v1426
  ![v1427.toNat]

def k0_chk169 (v1429 : IVec S16 32) : Prop :=
  (∀ a x, ((![v1429] : Fin 1 → IVec S16 32) a x).toNat < S16128.size a)
theorem k0_idx169_inb : ∀ (v1429 : IVec S16 32) (k0_hw169 : k0_chk169 v1429), ∀ a x, ((![v1429] : Fin 1 → IVec S16 32) a x).toNat < S16128.size a := fun v1429 k0_hw169 => k0_hw169
def k0_mult209 (k0_t12 : Fin k0_t12_loop.trips) : BitVec 32 :=
  let c0_i32_624 : BitVec 32 := 0#32
  let c0_i32_542 : BitVec 32 := 0#32
  let c1_i32_544 : BitVec 32 := 1#32
  let arg20 : BitVec 32 := Scf.iv c0_i32_542 c1_i32_544 k0_t12
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c128_i32_635 : BitVec 32 := 128#32
  let v1431 : BitVec 32 := Scalar.addi v1377 c128_i32_635
  v1431
def k0_off176 (k0_t12 : Fin k0_t12_loop.trips) : Fin 1 → Nat :=
  let c0_i32_624 : BitVec 32 := 0#32
  let c0_i32_542 : BitVec 32 := 0#32
  let c1_i32_544 : BitVec 32 := 1#32
  let arg20 : BitVec 32 := Scf.iv c0_i32_542 c1_i32_544 k0_t12
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c128_i32_635 : BitVec 32 := 128#32
  let v1431 : BitVec 32 := Scalar.addi v1377 c128_i32_635
  let v1432 : BitVec 32 := v1431
  let v1433 : Index := Scalar.indexCast v1432
  ![v1433.toNat]

def k0_chk170 (v1435 : IVec S16 32) : Prop :=
  (∀ a x, ((![v1435] : Fin 1 → IVec S16 32) a x).toNat < S16128.size a)
theorem k0_idx170_inb : ∀ (v1435 : IVec S16 32) (k0_hw170 : k0_chk170 v1435), ∀ a x, ((![v1435] : Fin 1 → IVec S16 32) a x).toNat < S16128.size a := fun v1435 k0_hw170 => k0_hw170
def k0_mult210 (k0_t12 : Fin k0_t12_loop.trips) : BitVec 32 :=
  let c0_i32_624 : BitVec 32 := 0#32
  let c0_i32_542 : BitVec 32 := 0#32
  let c1_i32_544 : BitVec 32 := 1#32
  let arg20 : BitVec 32 := Scf.iv c0_i32_542 c1_i32_544 k0_t12
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c144_i32 : BitVec 32 := 144#32
  let v1437 : BitVec 32 := Scalar.addi v1377 c144_i32
  v1437
def k0_off177 (k0_t12 : Fin k0_t12_loop.trips) : Fin 1 → Nat :=
  let c0_i32_624 : BitVec 32 := 0#32
  let c0_i32_542 : BitVec 32 := 0#32
  let c1_i32_544 : BitVec 32 := 1#32
  let arg20 : BitVec 32 := Scf.iv c0_i32_542 c1_i32_544 k0_t12
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c144_i32 : BitVec 32 := 144#32
  let v1437 : BitVec 32 := Scalar.addi v1377 c144_i32
  let v1438 : BitVec 32 := v1437
  let v1439 : Index := Scalar.indexCast v1438
  ![v1439.toNat]

def k0_chk171 (v1441 : IVec S16 32) : Prop :=
  (∀ a x, ((![v1441] : Fin 1 → IVec S16 32) a x).toNat < S16128.size a)
theorem k0_idx171_inb : ∀ (v1441 : IVec S16 32) (k0_hw171 : k0_chk171 v1441), ∀ a x, ((![v1441] : Fin 1 → IVec S16 32) a x).toNat < S16128.size a := fun v1441 k0_hw171 => k0_hw171
def k0_mult211 (k0_t12 : Fin k0_t12_loop.trips) : BitVec 32 :=
  let c0_i32_624 : BitVec 32 := 0#32
  let c0_i32_542 : BitVec 32 := 0#32
  let c1_i32_544 : BitVec 32 := 1#32
  let arg20 : BitVec 32 := Scf.iv c0_i32_542 c1_i32_544 k0_t12
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c160_i32 : BitVec 32 := 160#32
  let v1443 : BitVec 32 := Scalar.addi v1377 c160_i32
  v1443
def k0_off178 (k0_t12 : Fin k0_t12_loop.trips) : Fin 1 → Nat :=
  let c0_i32_624 : BitVec 32 := 0#32
  let c0_i32_542 : BitVec 32 := 0#32
  let c1_i32_544 : BitVec 32 := 1#32
  let arg20 : BitVec 32 := Scf.iv c0_i32_542 c1_i32_544 k0_t12
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c160_i32 : BitVec 32 := 160#32
  let v1443 : BitVec 32 := Scalar.addi v1377 c160_i32
  let v1444 : BitVec 32 := v1443
  let v1445 : Index := Scalar.indexCast v1444
  ![v1445.toNat]

def k0_chk172 (v1447 : IVec S16 32) : Prop :=
  (∀ a x, ((![v1447] : Fin 1 → IVec S16 32) a x).toNat < S16128.size a)
theorem k0_idx172_inb : ∀ (v1447 : IVec S16 32) (k0_hw172 : k0_chk172 v1447), ∀ a x, ((![v1447] : Fin 1 → IVec S16 32) a x).toNat < S16128.size a := fun v1447 k0_hw172 => k0_hw172
def k0_mult212 (k0_t12 : Fin k0_t12_loop.trips) : BitVec 32 :=
  let c0_i32_624 : BitVec 32 := 0#32
  let c0_i32_542 : BitVec 32 := 0#32
  let c1_i32_544 : BitVec 32 := 1#32
  let arg20 : BitVec 32 := Scf.iv c0_i32_542 c1_i32_544 k0_t12
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c176_i32 : BitVec 32 := 176#32
  let v1449 : BitVec 32 := Scalar.addi v1377 c176_i32
  v1449
def k0_off179 (k0_t12 : Fin k0_t12_loop.trips) : Fin 1 → Nat :=
  let c0_i32_624 : BitVec 32 := 0#32
  let c0_i32_542 : BitVec 32 := 0#32
  let c1_i32_544 : BitVec 32 := 1#32
  let arg20 : BitVec 32 := Scf.iv c0_i32_542 c1_i32_544 k0_t12
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c176_i32 : BitVec 32 := 176#32
  let v1449 : BitVec 32 := Scalar.addi v1377 c176_i32
  let v1450 : BitVec 32 := v1449
  let v1451 : Index := Scalar.indexCast v1450
  ![v1451.toNat]

def k0_chk173 (v1453 : IVec S16 32) : Prop :=
  (∀ a x, ((![v1453] : Fin 1 → IVec S16 32) a x).toNat < S16128.size a)
theorem k0_idx173_inb : ∀ (v1453 : IVec S16 32) (k0_hw173 : k0_chk173 v1453), ∀ a x, ((![v1453] : Fin 1 → IVec S16 32) a x).toNat < S16128.size a := fun v1453 k0_hw173 => k0_hw173
def k0_mult213 (k0_t12 : Fin k0_t12_loop.trips) : BitVec 32 :=
  let c0_i32_624 : BitVec 32 := 0#32
  let c0_i32_542 : BitVec 32 := 0#32
  let c1_i32_544 : BitVec 32 := 1#32
  let arg20 : BitVec 32 := Scf.iv c0_i32_542 c1_i32_544 k0_t12
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c192_i32 : BitVec 32 := 192#32
  let v1455 : BitVec 32 := Scalar.addi v1377 c192_i32
  v1455
def k0_off180 (k0_t12 : Fin k0_t12_loop.trips) : Fin 1 → Nat :=
  let c0_i32_624 : BitVec 32 := 0#32
  let c0_i32_542 : BitVec 32 := 0#32
  let c1_i32_544 : BitVec 32 := 1#32
  let arg20 : BitVec 32 := Scf.iv c0_i32_542 c1_i32_544 k0_t12
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c192_i32 : BitVec 32 := 192#32
  let v1455 : BitVec 32 := Scalar.addi v1377 c192_i32
  let v1456 : BitVec 32 := v1455
  let v1457 : Index := Scalar.indexCast v1456
  ![v1457.toNat]

def k0_chk174 (v1459 : IVec S16 32) : Prop :=
  (∀ a x, ((![v1459] : Fin 1 → IVec S16 32) a x).toNat < S16128.size a)
theorem k0_idx174_inb : ∀ (v1459 : IVec S16 32) (k0_hw174 : k0_chk174 v1459), ∀ a x, ((![v1459] : Fin 1 → IVec S16 32) a x).toNat < S16128.size a := fun v1459 k0_hw174 => k0_hw174
def k0_mult214 (k0_t12 : Fin k0_t12_loop.trips) : BitVec 32 :=
  let c0_i32_624 : BitVec 32 := 0#32
  let c0_i32_542 : BitVec 32 := 0#32
  let c1_i32_544 : BitVec 32 := 1#32
  let arg20 : BitVec 32 := Scf.iv c0_i32_542 c1_i32_544 k0_t12
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c208_i32 : BitVec 32 := 208#32
  let v1461 : BitVec 32 := Scalar.addi v1377 c208_i32
  v1461
def k0_off181 (k0_t12 : Fin k0_t12_loop.trips) : Fin 1 → Nat :=
  let c0_i32_624 : BitVec 32 := 0#32
  let c0_i32_542 : BitVec 32 := 0#32
  let c1_i32_544 : BitVec 32 := 1#32
  let arg20 : BitVec 32 := Scf.iv c0_i32_542 c1_i32_544 k0_t12
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c208_i32 : BitVec 32 := 208#32
  let v1461 : BitVec 32 := Scalar.addi v1377 c208_i32
  let v1462 : BitVec 32 := v1461
  let v1463 : Index := Scalar.indexCast v1462
  ![v1463.toNat]

def k0_chk175 (v1465 : IVec S16 32) : Prop :=
  (∀ a x, ((![v1465] : Fin 1 → IVec S16 32) a x).toNat < S16128.size a)
theorem k0_idx175_inb : ∀ (v1465 : IVec S16 32) (k0_hw175 : k0_chk175 v1465), ∀ a x, ((![v1465] : Fin 1 → IVec S16 32) a x).toNat < S16128.size a := fun v1465 k0_hw175 => k0_hw175
def k0_mult215 (k0_t12 : Fin k0_t12_loop.trips) : BitVec 32 :=
  let c0_i32_624 : BitVec 32 := 0#32
  let c0_i32_542 : BitVec 32 := 0#32
  let c1_i32_544 : BitVec 32 := 1#32
  let arg20 : BitVec 32 := Scf.iv c0_i32_542 c1_i32_544 k0_t12
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c224_i32 : BitVec 32 := 224#32
  let v1467 : BitVec 32 := Scalar.addi v1377 c224_i32
  v1467
def k0_off182 (k0_t12 : Fin k0_t12_loop.trips) : Fin 1 → Nat :=
  let c0_i32_624 : BitVec 32 := 0#32
  let c0_i32_542 : BitVec 32 := 0#32
  let c1_i32_544 : BitVec 32 := 1#32
  let arg20 : BitVec 32 := Scf.iv c0_i32_542 c1_i32_544 k0_t12
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c224_i32 : BitVec 32 := 224#32
  let v1467 : BitVec 32 := Scalar.addi v1377 c224_i32
  let v1468 : BitVec 32 := v1467
  let v1469 : Index := Scalar.indexCast v1468
  ![v1469.toNat]

def k0_chk176 (v1471 : IVec S16 32) : Prop :=
  (∀ a x, ((![v1471] : Fin 1 → IVec S16 32) a x).toNat < S16128.size a)
theorem k0_idx176_inb : ∀ (v1471 : IVec S16 32) (k0_hw176 : k0_chk176 v1471), ∀ a x, ((![v1471] : Fin 1 → IVec S16 32) a x).toNat < S16128.size a := fun v1471 k0_hw176 => k0_hw176
def k0_mult216 (k0_t12 : Fin k0_t12_loop.trips) : BitVec 32 :=
  let c0_i32_624 : BitVec 32 := 0#32
  let c0_i32_542 : BitVec 32 := 0#32
  let c1_i32_544 : BitVec 32 := 1#32
  let arg20 : BitVec 32 := Scf.iv c0_i32_542 c1_i32_544 k0_t12
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c240_i32 : BitVec 32 := 240#32
  let v1473 : BitVec 32 := Scalar.addi v1377 c240_i32
  v1473
def k0_off183 (k0_t12 : Fin k0_t12_loop.trips) : Fin 1 → Nat :=
  let c0_i32_624 : BitVec 32 := 0#32
  let c0_i32_542 : BitVec 32 := 0#32
  let c1_i32_544 : BitVec 32 := 1#32
  let arg20 : BitVec 32 := Scf.iv c0_i32_542 c1_i32_544 k0_t12
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c240_i32 : BitVec 32 := 240#32
  let v1473 : BitVec 32 := Scalar.addi v1377 c240_i32
  let v1474 : BitVec 32 := v1473
  let v1475 : Index := Scalar.indexCast v1474
  ![v1475.toNat]
def k0_mult217 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32 : BitVec 32 := 0#32
  let v3 : BitVec 32 := Scalar.addi v2 c0_i32
  let c1984_i32 : BitVec 32 := 1984#32
  let v266 : BitVec 32 := Scalar.muli v3 c1984_i32
  let c256_i32_136 : BitVec 32 := 256#32
  let v267 : BitVec 32 := Scalar.muli v266 c256_i32_136
  let c62_i32_546 : BitVec 32 := 62#32
  let c0_i32_548 : BitVec 32 := 0#32
  let v1198 : BitVec 1 := Scalar.cmpi .sgt c62_i32_546 c0_i32_548
  let v1199 : BitVec 32 := Scalar.extui v1198
  let c0_i32_549 : BitVec 32 := 0#32
  let v1200 : BitVec 1 := Scalar.cmpi .slt c62_i32_546 c0_i32_549
  let v1201 : BitVec 32 := Scalar.extui v1200
  let v1202 : BitVec 32 := Scalar.subi v1199 v1201
  let c2_i32_547 : BitVec 32 := 2#32
  let c0_i32_550 : BitVec 32 := 0#32
  let v1203 : BitVec 1 := Scalar.cmpi .sgt c2_i32_547 c0_i32_550
  let v1204 : BitVec 32 := Scalar.extui v1203
  let c0_i32_551 : BitVec 32 := 0#32
  let v1205 : BitVec 1 := Scalar.cmpi .slt c2_i32_547 c0_i32_551
  let v1206 : BitVec 32 := Scalar.extui v1205
  let v1207 : BitVec 32 := Scalar.subi v1204 v1206
  let v1208 : BitVec 1 := Scalar.cmpi .ne v1202 v1207
  let v1209 : BitVec 32 := Scalar.remsi c62_i32_546 c2_i32_547
  let c0_i32_552 : BitVec 32 := 0#32
  let v1210 : BitVec 1 := Scalar.cmpi .ne v1209 c0_i32_552
  let v1211 : BitVec 1 := Scalar.andi v1208 v1210
  let v1197 : BitVec 32 := Scalar.divsi c62_i32_546 c2_i32_547
  let c1_i32_553 : BitVec 32 := 1#32
  let v1212 : BitVec 32 := Scalar.subi v1197 c1_i32_553
  let v1213 : BitVec 32 := Scalar.select v1211 v1212 v1197
  let c15872_i32_554 : BitVec 32 := 15872#32
  let v1214 : BitVec 32 := Scalar.muli v1213 c15872_i32_554
  let v1215 : BitVec 32 := Scalar.addi v267 v1214
  v1215
def k0_mult218 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_1 : BitVec 32 := 2#32
  let v4 : BitVec 32 := Scalar.muli v1 c2_i32_1
  let c1_i32 : BitVec 32 := 1#32
  let v5 : BitVec 32 := Scalar.addi v4 c1_i32
  let c2048_i32_133 : BitVec 32 := 2048#32
  let v262 : BitVec 32 := Scalar.muli v5 c2048_i32_133
  let c63_i32_130 : BitVec 32 := 63#32
  let v256 : BitVec 1 := Scalar.cmpi .eq v5 c63_i32_130
  let c1763_i32_131 : BitVec 32 := 1763#32
  let c62_i32_128 : BitVec 32 := 62#32
  let v254 : BitVec 1 := Scalar.cmpi .eq v5 c62_i32_128
  let c1196_i32_129 : BitVec 32 := 1196#32
  let c61_i32_126 : BitVec 32 := 61#32
  let v252 : BitVec 1 := Scalar.cmpi .eq v5 c61_i32_126
  let c722_i32_127 : BitVec 32 := 722#32
  let c60_i32_124 : BitVec 32 := 60#32
  let v250 : BitVec 1 := Scalar.cmpi .eq v5 c60_i32_124
  let c3132_i32_125 : BitVec 32 := 3132#32
  let c59_i32_122 : BitVec 32 := 59#32
  let v248 : BitVec 1 := Scalar.cmpi .eq v5 c59_i32_122
  let c2263_i32_123 : BitVec 32 := 2263#32
  let c58_i32_120 : BitVec 32 := 58#32
  let v246 : BitVec 1 := Scalar.cmpi .eq v5 c58_i32_120
  let c7228_i32_121 : BitVec 32 := 7228#32
  let c57_i32_118 : BitVec 32 := 57#32
  let v244 : BitVec 1 := Scalar.cmpi .eq v5 c57_i32_118
  let c6147_i32_119 : BitVec 32 := 6147#32
  let c56_i32_116 : BitVec 32 := 56#32
  let v242 : BitVec 1 := Scalar.cmpi .eq v5 c56_i32_116
  let c5257_i32_117 : BitVec 32 := 5257#32
  let c55_i32_114 : BitVec 32 := 55#32
  let v240 : BitVec 1 := Scalar.cmpi .eq v5 c55_i32_114
  let c2687_i32_115 : BitVec 32 := 2687#32
  let c54_i32_112 : BitVec 32 := 54#32
  let v238 : BitVec 1 := Scalar.cmpi .eq v5 c54_i32_112
  let c3913_i32_113 : BitVec 32 := 3913#32
  let c53_i32_110 : BitVec 32 := 53#32
  let v236 : BitVec 1 := Scalar.cmpi .eq v5 c53_i32_110
  let c1765_i32_111 : BitVec 32 := 1765#32
  let c52_i32_108 : BitVec 32 := 52#32
  let v234 : BitVec 1 := Scalar.cmpi .eq v5 c52_i32_108
  let c572_i32_109 : BitVec 32 := 572#32
  let c51_i32_106 : BitVec 32 := 51#32
  let v232 : BitVec 1 := Scalar.cmpi .eq v5 c51_i32_106
  let c5479_i32_107 : BitVec 32 := 5479#32
  let c50_i32_104 : BitVec 32 := 50#32
  let v230 : BitVec 1 := Scalar.cmpi .eq v5 c50_i32_104
  let c7351_i32_105 : BitVec 32 := 7351#32
  let c49_i32_102 : BitVec 32 := 49#32
  let v228 : BitVec 1 := Scalar.cmpi .eq v5 c49_i32_102
  let c593_i32_103 : BitVec 32 := 593#32
  let c48_i32_100 : BitVec 32 := 48#32
  let v226 : BitVec 1 := Scalar.cmpi .eq v5 c48_i32_100
  let c7487_i32_101 : BitVec 32 := 7487#32
  let c47_i32_98 : BitVec 32 := 47#32
  let v224 : BitVec 1 := Scalar.cmpi .eq v5 c47_i32_98
  let c3618_i32_99 : BitVec 32 := 3618#32
  let c46_i32_96 : BitVec 32 := 46#32
  let v222 : BitVec 1 := Scalar.cmpi .eq v5 c46_i32_96
  let c6125_i32_97 : BitVec 32 := 6125#32
  let c45_i32_94 : BitVec 32 := 45#32
  let v220 : BitVec 1 := Scalar.cmpi .eq v5 c45_i32_94
  let c2834_i32_95 : BitVec 32 := 2834#32
  let c44_i32_92 : BitVec 32 := 44#32
  let v218 : BitVec 1 := Scalar.cmpi .eq v5 c44_i32_92
  let c4871_i32_93 : BitVec 32 := 4871#32
  let c43_i32_90 : BitVec 32 := 43#32
  let v216 : BitVec 1 := Scalar.cmpi .eq v5 c43_i32_90
  let c1936_i32_91 : BitVec 32 := 1936#32
  let c42_i32_88 : BitVec 32 := 42#32
  let v214 : BitVec 1 := Scalar.cmpi .eq v5 c42_i32_88
  let c2914_i32_89 : BitVec 32 := 2914#32
  let c41_i32_86 : BitVec 32 := 41#32
  let v212 : BitVec 1 := Scalar.cmpi .eq v5 c41_i32_86
  let c3866_i32_87 : BitVec 32 := 3866#32
  let c40_i32_84 : BitVec 32 := 40#32
  let v210 : BitVec 1 := Scalar.cmpi .eq v5 c40_i32_84
  let c1846_i32_85 : BitVec 32 := 1846#32
  let c39_i32_82 : BitVec 32 := 39#32
  let v208 : BitVec 1 := Scalar.cmpi .eq v5 c39_i32_82
  let c7714_i32_83 : BitVec 32 := 7714#32
  let c38_i32_80 : BitVec 32 := 38#32
  let v206 : BitVec 1 := Scalar.cmpi .eq v5 c38_i32_80
  let c3980_i32_81 : BitVec 32 := 3980#32
  let c37_i32_78 : BitVec 32 := 37#32
  let v204 : BitVec 1 := Scalar.cmpi .eq v5 c37_i32_78
  let c6570_i32_79 : BitVec 32 := 6570#32
  let c36_i32_76 : BitVec 32 := 36#32
  let v202 : BitVec 1 := Scalar.cmpi .eq v5 c36_i32_76
  let c2937_i32_77 : BitVec 32 := 2937#32
  let c35_i32_74 : BitVec 32 := 35#32
  let v200 : BitVec 1 := Scalar.cmpi .eq v5 c35_i32_74
  let c1105_i32_75 : BitVec 32 := 1105#32
  let c34_i32_72 : BitVec 32 := 34#32
  let v198 : BitVec 1 := Scalar.cmpi .eq v5 c34_i32_72
  let c5685_i32_73 : BitVec 32 := 5685#32
  let c33_i32_70 : BitVec 32 := 33#32
  let v196 : BitVec 1 := Scalar.cmpi .eq v5 c33_i32_70
  let c1851_i32_71 : BitVec 32 := 1851#32
  let c32_i32_68 : BitVec 32 := 32#32
  let v194 : BitVec 1 := Scalar.cmpi .eq v5 c32_i32_68
  let c2835_i32_69 : BitVec 32 := 2835#32
  let c31_i32_66 : BitVec 32 := 31#32
  let v192 : BitVec 1 := Scalar.cmpi .eq v5 c31_i32_66
  let c6151_i32_67 : BitVec 32 := 6151#32
  let c30_i32_64 : BitVec 32 := 30#32
  let v190 : BitVec 1 := Scalar.cmpi .eq v5 c30_i32_64
  let c2916_i32_65 : BitVec 32 := 2916#32
  let c29_i32_62 : BitVec 32 := 29#32
  let v188 : BitVec 1 := Scalar.cmpi .eq v5 c29_i32_62
  let c4806_i32_63 : BitVec 32 := 4806#32
  let c28_i32_60 : BitVec 32 := 28#32
  let v186 : BitVec 1 := Scalar.cmpi .eq v5 c28_i32_60
  let c2760_i32_61 : BitVec 32 := 2760#32
  let c27_i32_58 : BitVec 32 := 27#32
  let v184 : BitVec 1 := Scalar.cmpi .eq v5 c27_i32_58
  let c2339_i32_59 : BitVec 32 := 2339#32
  let c26_i32_56 : BitVec 32 := 26#32
  let v182 : BitVec 1 := Scalar.cmpi .eq v5 c26_i32_56
  let c5978_i32_57 : BitVec 32 := 5978#32
  let c25_i32_54 : BitVec 32 := 25#32
  let v180 : BitVec 1 := Scalar.cmpi .eq v5 c25_i32_54
  let c6943_i32_55 : BitVec 32 := 6943#32
  let c24_i32_52 : BitVec 32 := 24#32
  let v178 : BitVec 1 := Scalar.cmpi .eq v5 c24_i32_52
  let c7654_i32_53 : BitVec 32 := 7654#32
  let c23_i32_50 : BitVec 32 := 23#32
  let v176 : BitVec 1 := Scalar.cmpi .eq v5 c23_i32_50
  let c3018_i32_51 : BitVec 32 := 3018#32
  let c22_i32_48 : BitVec 32 := 22#32
  let v174 : BitVec 1 := Scalar.cmpi .eq v5 c22_i32_48
  let c56_i32_49 : BitVec 32 := 56#32
  let c21_i32_46 : BitVec 32 := 21#32
  let v172 : BitVec 1 := Scalar.cmpi .eq v5 c21_i32_46
  let c5652_i32_47 : BitVec 32 := 5652#32
  let c20_i32_44 : BitVec 32 := 20#32
  let v170 : BitVec 1 := Scalar.cmpi .eq v5 c20_i32_44
  let c6840_i32_45 : BitVec 32 := 6840#32
  let c19_i32_42 : BitVec 32 := 19#32
  let v168 : BitVec 1 := Scalar.cmpi .eq v5 c19_i32_42
  let c4026_i32_43 : BitVec 32 := 4026#32
  let c18_i32_40 : BitVec 32 := 18#32
  let v166 : BitVec 1 := Scalar.cmpi .eq v5 c18_i32_40
  let c91_i32_41 : BitVec 32 := 91#32
  let c17_i32_38 : BitVec 32 := 17#32
  let v164 : BitVec 1 := Scalar.cmpi .eq v5 c17_i32_38
  let c7767_i32_39 : BitVec 32 := 7767#32
  let c16_i32_36 : BitVec 32 := 16#32
  let v162 : BitVec 1 := Scalar.cmpi .eq v5 c16_i32_36
  let c4241_i32_37 : BitVec 32 := 4241#32
  let c15_i32_34 : BitVec 32 := 15#32
  let v160 : BitVec 1 := Scalar.cmpi .eq v5 c15_i32_34
  let c6170_i32_35 : BitVec 32 := 6170#32
  let c14_i32_32 : BitVec 32 := 14#32
  let v158 : BitVec 1 := Scalar.cmpi .eq v5 c14_i32_32
  let c8174_i32_33 : BitVec 32 := 8174#32
  let c13_i32_30 : BitVec 32 := 13#32
  let v156 : BitVec 1 := Scalar.cmpi .eq v5 c13_i32_30
  let c1378_i32_31 : BitVec 32 := 1378#32
  let c12_i32_28 : BitVec 32 := 12#32
  let v154 : BitVec 1 := Scalar.cmpi .eq v5 c12_i32_28
  let c2562_i32_29 : BitVec 32 := 2562#32
  let c11_i32_26 : BitVec 32 := 11#32
  let v152 : BitVec 1 := Scalar.cmpi .eq v5 c11_i32_26
  let c4161_i32_27 : BitVec 32 := 4161#32
  let c10_i32_24 : BitVec 32 := 10#32
  let v150 : BitVec 1 := Scalar.cmpi .eq v5 c10_i32_24
  let c6176_i32_25 : BitVec 32 := 6176#32
  let c9_i32_22 : BitVec 32 := 9#32
  let v148 : BitVec 1 := Scalar.cmpi .eq v5 c9_i32_22
  let c2818_i32_23 : BitVec 32 := 2818#32
  let c8_i32_20 : BitVec 32 := 8#32
  let v146 : BitVec 1 := Scalar.cmpi .eq v5 c8_i32_20
  let c5970_i32_21 : BitVec 32 := 5970#32
  let c7_i32_18 : BitVec 32 := 7#32
  let v144 : BitVec 1 := Scalar.cmpi .eq v5 c7_i32_18
  let c7573_i32_19 : BitVec 32 := 7573#32
  let c6_i32_16 : BitVec 32 := 6#32
  let v142 : BitVec 1 := Scalar.cmpi .eq v5 c6_i32_16
  let c3350_i32_17 : BitVec 32 := 3350#32
  let c5_i32_14 : BitVec 32 := 5#32
  let v140 : BitVec 1 := Scalar.cmpi .eq v5 c5_i32_14
  let c4780_i32_15 : BitVec 32 := 4780#32
  let c4_i32_12 : BitVec 32 := 4#32
  let v138 : BitVec 1 := Scalar.cmpi .eq v5 c4_i32_12
  let c6560_i32_13 : BitVec 32 := 6560#32
  let c3_i32_10 : BitVec 32 := 3#32
  let v136 : BitVec 1 := Scalar.cmpi .eq v5 c3_i32_10
  let c7017_i32_11 : BitVec 32 := 7017#32
  let c2_i32_8 : BitVec 32 := 2#32
  let v134 : BitVec 1 := Scalar.cmpi .eq v5 c2_i32_8
  let c736_i32_9 : BitVec 32 := 736#32
  let c1_i32_5 : BitVec 32 := 1#32
  let v132 : BitVec 1 := Scalar.cmpi .eq v5 c1_i32_5
  let c943_i32_7 : BitVec 32 := 943#32
  let c7932_i32_6 : BitVec 32 := 7932#32
  let v133 : BitVec 32 := Scalar.select v132 c943_i32_7 c7932_i32_6
  let v135 : BitVec 32 := Scalar.select v134 c736_i32_9 v133
  let v137 : BitVec 32 := Scalar.select v136 c7017_i32_11 v135
  let v139 : BitVec 32 := Scalar.select v138 c6560_i32_13 v137
  let v141 : BitVec 32 := Scalar.select v140 c4780_i32_15 v139
  let v143 : BitVec 32 := Scalar.select v142 c3350_i32_17 v141
  let v145 : BitVec 32 := Scalar.select v144 c7573_i32_19 v143
  let v147 : BitVec 32 := Scalar.select v146 c5970_i32_21 v145
  let v149 : BitVec 32 := Scalar.select v148 c2818_i32_23 v147
  let v151 : BitVec 32 := Scalar.select v150 c6176_i32_25 v149
  let v153 : BitVec 32 := Scalar.select v152 c4161_i32_27 v151
  let v155 : BitVec 32 := Scalar.select v154 c2562_i32_29 v153
  let v157 : BitVec 32 := Scalar.select v156 c1378_i32_31 v155
  let v159 : BitVec 32 := Scalar.select v158 c8174_i32_33 v157
  let v161 : BitVec 32 := Scalar.select v160 c6170_i32_35 v159
  let v163 : BitVec 32 := Scalar.select v162 c4241_i32_37 v161
  let v165 : BitVec 32 := Scalar.select v164 c7767_i32_39 v163
  let v167 : BitVec 32 := Scalar.select v166 c91_i32_41 v165
  let v169 : BitVec 32 := Scalar.select v168 c4026_i32_43 v167
  let v171 : BitVec 32 := Scalar.select v170 c6840_i32_45 v169
  let v173 : BitVec 32 := Scalar.select v172 c5652_i32_47 v171
  let v175 : BitVec 32 := Scalar.select v174 c56_i32_49 v173
  let v177 : BitVec 32 := Scalar.select v176 c3018_i32_51 v175
  let v179 : BitVec 32 := Scalar.select v178 c7654_i32_53 v177
  let v181 : BitVec 32 := Scalar.select v180 c6943_i32_55 v179
  let v183 : BitVec 32 := Scalar.select v182 c5978_i32_57 v181
  let v185 : BitVec 32 := Scalar.select v184 c2339_i32_59 v183
  let v187 : BitVec 32 := Scalar.select v186 c2760_i32_61 v185
  let v189 : BitVec 32 := Scalar.select v188 c4806_i32_63 v187
  let v191 : BitVec 32 := Scalar.select v190 c2916_i32_65 v189
  let v193 : BitVec 32 := Scalar.select v192 c6151_i32_67 v191
  let v195 : BitVec 32 := Scalar.select v194 c2835_i32_69 v193
  let v197 : BitVec 32 := Scalar.select v196 c1851_i32_71 v195
  let v199 : BitVec 32 := Scalar.select v198 c5685_i32_73 v197
  let v201 : BitVec 32 := Scalar.select v200 c1105_i32_75 v199
  let v203 : BitVec 32 := Scalar.select v202 c2937_i32_77 v201
  let v205 : BitVec 32 := Scalar.select v204 c6570_i32_79 v203
  let v207 : BitVec 32 := Scalar.select v206 c3980_i32_81 v205
  let v209 : BitVec 32 := Scalar.select v208 c7714_i32_83 v207
  let v211 : BitVec 32 := Scalar.select v210 c1846_i32_85 v209
  let v213 : BitVec 32 := Scalar.select v212 c3866_i32_87 v211
  let v215 : BitVec 32 := Scalar.select v214 c2914_i32_89 v213
  let v217 : BitVec 32 := Scalar.select v216 c1936_i32_91 v215
  let v219 : BitVec 32 := Scalar.select v218 c4871_i32_93 v217
  let v221 : BitVec 32 := Scalar.select v220 c2834_i32_95 v219
  let v223 : BitVec 32 := Scalar.select v222 c6125_i32_97 v221
  let v225 : BitVec 32 := Scalar.select v224 c3618_i32_99 v223
  let v227 : BitVec 32 := Scalar.select v226 c7487_i32_101 v225
  let v229 : BitVec 32 := Scalar.select v228 c593_i32_103 v227
  let v231 : BitVec 32 := Scalar.select v230 c7351_i32_105 v229
  let v233 : BitVec 32 := Scalar.select v232 c5479_i32_107 v231
  let v235 : BitVec 32 := Scalar.select v234 c572_i32_109 v233
  let v237 : BitVec 32 := Scalar.select v236 c1765_i32_111 v235
  let v239 : BitVec 32 := Scalar.select v238 c3913_i32_113 v237
  let v241 : BitVec 32 := Scalar.select v240 c2687_i32_115 v239
  let v243 : BitVec 32 := Scalar.select v242 c5257_i32_117 v241
  let v245 : BitVec 32 := Scalar.select v244 c6147_i32_119 v243
  let v247 : BitVec 32 := Scalar.select v246 c7228_i32_121 v245
  let v249 : BitVec 32 := Scalar.select v248 c2263_i32_123 v247
  let v251 : BitVec 32 := Scalar.select v250 c3132_i32_125 v249
  let v253 : BitVec 32 := Scalar.select v252 c722_i32_127 v251
  let v255 : BitVec 32 := Scalar.select v254 c1196_i32_129 v253
  let v257 : BitVec 32 := Scalar.select v256 c1763_i32_131 v255
  let c7_i32_134 : BitVec 32 := 7#32
  let v263 : BitVec 32 := Scalar.shrsi v257 c7_i32_134
  let v264 : BitVec 32 := Scalar.addi v262 v263
  let c256_i32_135 : BitVec 32 := 256#32
  let v265 : BitVec 32 := Scalar.muli v264 c256_i32_135
  let c63_i32_555 : BitVec 32 := 63#32
  let c0_i32_557 : BitVec 32 := 0#32
  let v1220 : BitVec 1 := Scalar.cmpi .sgt c63_i32_555 c0_i32_557
  let v1221 : BitVec 32 := Scalar.extui v1220
  let c0_i32_558 : BitVec 32 := 0#32
  let v1222 : BitVec 1 := Scalar.cmpi .slt c63_i32_555 c0_i32_558
  let v1223 : BitVec 32 := Scalar.extui v1222
  let v1224 : BitVec 32 := Scalar.subi v1221 v1223
  let c2_i32_556 : BitVec 32 := 2#32
  let c0_i32_559 : BitVec 32 := 0#32
  let v1225 : BitVec 1 := Scalar.cmpi .sgt c2_i32_556 c0_i32_559
  let v1226 : BitVec 32 := Scalar.extui v1225
  let c0_i32_560 : BitVec 32 := 0#32
  let v1227 : BitVec 1 := Scalar.cmpi .slt c2_i32_556 c0_i32_560
  let v1228 : BitVec 32 := Scalar.extui v1227
  let v1229 : BitVec 32 := Scalar.subi v1226 v1228
  let v1230 : BitVec 1 := Scalar.cmpi .ne v1224 v1229
  let v1231 : BitVec 32 := Scalar.remsi c63_i32_555 c2_i32_556
  let c0_i32_561 : BitVec 32 := 0#32
  let v1232 : BitVec 1 := Scalar.cmpi .ne v1231 c0_i32_561
  let v1233 : BitVec 1 := Scalar.andi v1230 v1232
  let v1219 : BitVec 32 := Scalar.divsi c63_i32_555 c2_i32_556
  let c1_i32_562 : BitVec 32 := 1#32
  let v1234 : BitVec 32 := Scalar.subi v1219 c1_i32_562
  let v1235 : BitVec 32 := Scalar.select v1233 v1234 v1219
  let c15872_i32_563 : BitVec 32 := 15872#32
  let v1236 : BitVec 32 := Scalar.muli v1235 c15872_i32_563
  let v1237 : BitVec 32 := Scalar.addi v265 v1236
  v1237
def k0_mult219 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_1 : BitVec 32 := 2#32
  let v4 : BitVec 32 := Scalar.muli v1 c2_i32_1
  let c1_i32 : BitVec 32 := 1#32
  let v5 : BitVec 32 := Scalar.addi v4 c1_i32
  let c1984_i32_137 : BitVec 32 := 1984#32
  let v268 : BitVec 32 := Scalar.muli v5 c1984_i32_137
  let c256_i32_138 : BitVec 32 := 256#32
  let v269 : BitVec 32 := Scalar.muli v268 c256_i32_138
  let c63_i32_564 : BitVec 32 := 63#32
  let c4_i32_565 : BitVec 32 := 4#32
  let v1241 : BitVec 32 := Scalar.subi c63_i32_564 c4_i32_565
  let c0_i32_567 : BitVec 32 := 0#32
  let v1243 : BitVec 1 := Scalar.cmpi .sgt v1241 c0_i32_567
  let v1244 : BitVec 32 := Scalar.extui v1243
  let c0_i32_568 : BitVec 32 := 0#32
  let v1245 : BitVec 1 := Scalar.cmpi .slt v1241 c0_i32_568
  let v1246 : BitVec 32 := Scalar.extui v1245
  let v1247 : BitVec 32 := Scalar.subi v1244 v1246
  let c2_i32_566 : BitVec 32 := 2#32
  let c0_i32_569 : BitVec 32 := 0#32
  let v1248 : BitVec 1 := Scalar.cmpi .sgt c2_i32_566 c0_i32_569
  let v1249 : BitVec 32 := Scalar.extui v1248
  let c0_i32_570 : BitVec 32 := 0#32
  let v1250 : BitVec 1 := Scalar.cmpi .slt c2_i32_566 c0_i32_570
  let v1251 : BitVec 32 := Scalar.extui v1250
  let v1252 : BitVec 32 := Scalar.subi v1249 v1251
  let v1253 : BitVec 1 := Scalar.cmpi .ne v1247 v1252
  let v1254 : BitVec 32 := Scalar.remsi v1241 c2_i32_566
  let c0_i32_571 : BitVec 32 := 0#32
  let v1255 : BitVec 1 := Scalar.cmpi .ne v1254 c0_i32_571
  let v1256 : BitVec 1 := Scalar.andi v1253 v1255
  let v1242 : BitVec 32 := Scalar.divsi v1241 c2_i32_566
  let c1_i32_572 : BitVec 32 := 1#32
  let v1257 : BitVec 32 := Scalar.subi v1242 c1_i32_572
  let v1258 : BitVec 32 := Scalar.select v1256 v1257 v1242
  let c15872_i32_573 : BitVec 32 := 15872#32
  let v1259 : BitVec 32 := Scalar.muli v1258 c15872_i32_573
  let v1260 : BitVec 32 := Scalar.addi v269 v1259
  v1260
@[reducible] def k0_t13_loop : Scf.Loop 32 :=
  let c0_i32_574 : BitVec 32 := 0#32
  let c62_i32_575 : BitVec 32 := 62#32
  let v1264 : BitVec 32 := Scalar.addi c0_i32_574 c62_i32_575
  let c1_i32_576 : BitVec 32 := 1#32
  ⟨c0_i32_574, v1264, c1_i32_576⟩

def k0_chk177 (v1381 : IVec S16 32) : Prop :=
  (∀ a x, ((![v1381] : Fin 1 → IVec S16 32) a x).toNat < S16128.size a)
theorem k0_idx177_inb : ∀ (v1381 : IVec S16 32) (k0_hw177 : k0_chk177 v1381), ∀ a x, ((![v1381] : Fin 1 → IVec S16 32) a x).toNat < S16128.size a := fun v1381 k0_hw177 => k0_hw177
def k0_mult220 (k0_t13 : Fin k0_t13_loop.trips) : BitVec 32 :=
  let c0_i32_624 : BitVec 32 := 0#32
  let c0_i32_574 : BitVec 32 := 0#32
  let c1_i32_576 : BitVec 32 := 1#32
  let arg20 : BitVec 32 := Scf.iv c0_i32_574 c1_i32_576 k0_t13
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c0_i32_627 : BitVec 32 := 0#32
  let v1383 : BitVec 32 := Scalar.addi v1377 c0_i32_627
  v1383
def k0_off184 (k0_t13 : Fin k0_t13_loop.trips) : Fin 1 → Nat :=
  let c0_i32_624 : BitVec 32 := 0#32
  let c0_i32_574 : BitVec 32 := 0#32
  let c1_i32_576 : BitVec 32 := 1#32
  let arg20 : BitVec 32 := Scf.iv c0_i32_574 c1_i32_576 k0_t13
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c0_i32_627 : BitVec 32 := 0#32
  let v1383 : BitVec 32 := Scalar.addi v1377 c0_i32_627
  let v1384 : BitVec 32 := v1383
  let v1385 : Index := Scalar.indexCast v1384
  ![v1385.toNat]

def k0_chk178 (v1387 : IVec S16 32) : Prop :=
  (∀ a x, ((![v1387] : Fin 1 → IVec S16 32) a x).toNat < S16128.size a)
theorem k0_idx178_inb : ∀ (v1387 : IVec S16 32) (k0_hw178 : k0_chk178 v1387), ∀ a x, ((![v1387] : Fin 1 → IVec S16 32) a x).toNat < S16128.size a := fun v1387 k0_hw178 => k0_hw178
def k0_mult221 (k0_t13 : Fin k0_t13_loop.trips) : BitVec 32 :=
  let c0_i32_624 : BitVec 32 := 0#32
  let c0_i32_574 : BitVec 32 := 0#32
  let c1_i32_576 : BitVec 32 := 1#32
  let arg20 : BitVec 32 := Scf.iv c0_i32_574 c1_i32_576 k0_t13
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c16_i32_628 : BitVec 32 := 16#32
  let v1389 : BitVec 32 := Scalar.addi v1377 c16_i32_628
  v1389
def k0_off185 (k0_t13 : Fin k0_t13_loop.trips) : Fin 1 → Nat :=
  let c0_i32_624 : BitVec 32 := 0#32
  let c0_i32_574 : BitVec 32 := 0#32
  let c1_i32_576 : BitVec 32 := 1#32
  let arg20 : BitVec 32 := Scf.iv c0_i32_574 c1_i32_576 k0_t13
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c16_i32_628 : BitVec 32 := 16#32
  let v1389 : BitVec 32 := Scalar.addi v1377 c16_i32_628
  let v1390 : BitVec 32 := v1389
  let v1391 : Index := Scalar.indexCast v1390
  ![v1391.toNat]

def k0_chk179 (v1393 : IVec S16 32) : Prop :=
  (∀ a x, ((![v1393] : Fin 1 → IVec S16 32) a x).toNat < S16128.size a)
theorem k0_idx179_inb : ∀ (v1393 : IVec S16 32) (k0_hw179 : k0_chk179 v1393), ∀ a x, ((![v1393] : Fin 1 → IVec S16 32) a x).toNat < S16128.size a := fun v1393 k0_hw179 => k0_hw179
def k0_mult222 (k0_t13 : Fin k0_t13_loop.trips) : BitVec 32 :=
  let c0_i32_624 : BitVec 32 := 0#32
  let c0_i32_574 : BitVec 32 := 0#32
  let c1_i32_576 : BitVec 32 := 1#32
  let arg20 : BitVec 32 := Scf.iv c0_i32_574 c1_i32_576 k0_t13
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c32_i32_629 : BitVec 32 := 32#32
  let v1395 : BitVec 32 := Scalar.addi v1377 c32_i32_629
  v1395
def k0_off186 (k0_t13 : Fin k0_t13_loop.trips) : Fin 1 → Nat :=
  let c0_i32_624 : BitVec 32 := 0#32
  let c0_i32_574 : BitVec 32 := 0#32
  let c1_i32_576 : BitVec 32 := 1#32
  let arg20 : BitVec 32 := Scf.iv c0_i32_574 c1_i32_576 k0_t13
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c32_i32_629 : BitVec 32 := 32#32
  let v1395 : BitVec 32 := Scalar.addi v1377 c32_i32_629
  let v1396 : BitVec 32 := v1395
  let v1397 : Index := Scalar.indexCast v1396
  ![v1397.toNat]

def k0_chk180 (v1399 : IVec S16 32) : Prop :=
  (∀ a x, ((![v1399] : Fin 1 → IVec S16 32) a x).toNat < S16128.size a)
theorem k0_idx180_inb : ∀ (v1399 : IVec S16 32) (k0_hw180 : k0_chk180 v1399), ∀ a x, ((![v1399] : Fin 1 → IVec S16 32) a x).toNat < S16128.size a := fun v1399 k0_hw180 => k0_hw180
def k0_mult223 (k0_t13 : Fin k0_t13_loop.trips) : BitVec 32 :=
  let c0_i32_624 : BitVec 32 := 0#32
  let c0_i32_574 : BitVec 32 := 0#32
  let c1_i32_576 : BitVec 32 := 1#32
  let arg20 : BitVec 32 := Scf.iv c0_i32_574 c1_i32_576 k0_t13
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c48_i32_630 : BitVec 32 := 48#32
  let v1401 : BitVec 32 := Scalar.addi v1377 c48_i32_630
  v1401
def k0_off187 (k0_t13 : Fin k0_t13_loop.trips) : Fin 1 → Nat :=
  let c0_i32_624 : BitVec 32 := 0#32
  let c0_i32_574 : BitVec 32 := 0#32
  let c1_i32_576 : BitVec 32 := 1#32
  let arg20 : BitVec 32 := Scf.iv c0_i32_574 c1_i32_576 k0_t13
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c48_i32_630 : BitVec 32 := 48#32
  let v1401 : BitVec 32 := Scalar.addi v1377 c48_i32_630
  let v1402 : BitVec 32 := v1401
  let v1403 : Index := Scalar.indexCast v1402
  ![v1403.toNat]

def k0_chk181 (v1405 : IVec S16 32) : Prop :=
  (∀ a x, ((![v1405] : Fin 1 → IVec S16 32) a x).toNat < S16128.size a)
theorem k0_idx181_inb : ∀ (v1405 : IVec S16 32) (k0_hw181 : k0_chk181 v1405), ∀ a x, ((![v1405] : Fin 1 → IVec S16 32) a x).toNat < S16128.size a := fun v1405 k0_hw181 => k0_hw181
def k0_mult224 (k0_t13 : Fin k0_t13_loop.trips) : BitVec 32 :=
  let c0_i32_624 : BitVec 32 := 0#32
  let c0_i32_574 : BitVec 32 := 0#32
  let c1_i32_576 : BitVec 32 := 1#32
  let arg20 : BitVec 32 := Scf.iv c0_i32_574 c1_i32_576 k0_t13
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c64_i32_631 : BitVec 32 := 64#32
  let v1407 : BitVec 32 := Scalar.addi v1377 c64_i32_631
  v1407
def k0_off188 (k0_t13 : Fin k0_t13_loop.trips) : Fin 1 → Nat :=
  let c0_i32_624 : BitVec 32 := 0#32
  let c0_i32_574 : BitVec 32 := 0#32
  let c1_i32_576 : BitVec 32 := 1#32
  let arg20 : BitVec 32 := Scf.iv c0_i32_574 c1_i32_576 k0_t13
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c64_i32_631 : BitVec 32 := 64#32
  let v1407 : BitVec 32 := Scalar.addi v1377 c64_i32_631
  let v1408 : BitVec 32 := v1407
  let v1409 : Index := Scalar.indexCast v1408
  ![v1409.toNat]

def k0_chk182 (v1411 : IVec S16 32) : Prop :=
  (∀ a x, ((![v1411] : Fin 1 → IVec S16 32) a x).toNat < S16128.size a)
theorem k0_idx182_inb : ∀ (v1411 : IVec S16 32) (k0_hw182 : k0_chk182 v1411), ∀ a x, ((![v1411] : Fin 1 → IVec S16 32) a x).toNat < S16128.size a := fun v1411 k0_hw182 => k0_hw182
def k0_mult225 (k0_t13 : Fin k0_t13_loop.trips) : BitVec 32 :=
  let c0_i32_624 : BitVec 32 := 0#32
  let c0_i32_574 : BitVec 32 := 0#32
  let c1_i32_576 : BitVec 32 := 1#32
  let arg20 : BitVec 32 := Scf.iv c0_i32_574 c1_i32_576 k0_t13
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c80_i32_632 : BitVec 32 := 80#32
  let v1413 : BitVec 32 := Scalar.addi v1377 c80_i32_632
  v1413
def k0_off189 (k0_t13 : Fin k0_t13_loop.trips) : Fin 1 → Nat :=
  let c0_i32_624 : BitVec 32 := 0#32
  let c0_i32_574 : BitVec 32 := 0#32
  let c1_i32_576 : BitVec 32 := 1#32
  let arg20 : BitVec 32 := Scf.iv c0_i32_574 c1_i32_576 k0_t13
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c80_i32_632 : BitVec 32 := 80#32
  let v1413 : BitVec 32 := Scalar.addi v1377 c80_i32_632
  let v1414 : BitVec 32 := v1413
  let v1415 : Index := Scalar.indexCast v1414
  ![v1415.toNat]

def k0_chk183 (v1417 : IVec S16 32) : Prop :=
  (∀ a x, ((![v1417] : Fin 1 → IVec S16 32) a x).toNat < S16128.size a)
theorem k0_idx183_inb : ∀ (v1417 : IVec S16 32) (k0_hw183 : k0_chk183 v1417), ∀ a x, ((![v1417] : Fin 1 → IVec S16 32) a x).toNat < S16128.size a := fun v1417 k0_hw183 => k0_hw183
def k0_mult226 (k0_t13 : Fin k0_t13_loop.trips) : BitVec 32 :=
  let c0_i32_624 : BitVec 32 := 0#32
  let c0_i32_574 : BitVec 32 := 0#32
  let c1_i32_576 : BitVec 32 := 1#32
  let arg20 : BitVec 32 := Scf.iv c0_i32_574 c1_i32_576 k0_t13
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c96_i32_633 : BitVec 32 := 96#32
  let v1419 : BitVec 32 := Scalar.addi v1377 c96_i32_633
  v1419
def k0_off190 (k0_t13 : Fin k0_t13_loop.trips) : Fin 1 → Nat :=
  let c0_i32_624 : BitVec 32 := 0#32
  let c0_i32_574 : BitVec 32 := 0#32
  let c1_i32_576 : BitVec 32 := 1#32
  let arg20 : BitVec 32 := Scf.iv c0_i32_574 c1_i32_576 k0_t13
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c96_i32_633 : BitVec 32 := 96#32
  let v1419 : BitVec 32 := Scalar.addi v1377 c96_i32_633
  let v1420 : BitVec 32 := v1419
  let v1421 : Index := Scalar.indexCast v1420
  ![v1421.toNat]

def k0_chk184 (v1423 : IVec S16 32) : Prop :=
  (∀ a x, ((![v1423] : Fin 1 → IVec S16 32) a x).toNat < S16128.size a)
theorem k0_idx184_inb : ∀ (v1423 : IVec S16 32) (k0_hw184 : k0_chk184 v1423), ∀ a x, ((![v1423] : Fin 1 → IVec S16 32) a x).toNat < S16128.size a := fun v1423 k0_hw184 => k0_hw184
def k0_mult227 (k0_t13 : Fin k0_t13_loop.trips) : BitVec 32 :=
  let c0_i32_624 : BitVec 32 := 0#32
  let c0_i32_574 : BitVec 32 := 0#32
  let c1_i32_576 : BitVec 32 := 1#32
  let arg20 : BitVec 32 := Scf.iv c0_i32_574 c1_i32_576 k0_t13
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c112_i32_634 : BitVec 32 := 112#32
  let v1425 : BitVec 32 := Scalar.addi v1377 c112_i32_634
  v1425
def k0_off191 (k0_t13 : Fin k0_t13_loop.trips) : Fin 1 → Nat :=
  let c0_i32_624 : BitVec 32 := 0#32
  let c0_i32_574 : BitVec 32 := 0#32
  let c1_i32_576 : BitVec 32 := 1#32
  let arg20 : BitVec 32 := Scf.iv c0_i32_574 c1_i32_576 k0_t13
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c112_i32_634 : BitVec 32 := 112#32
  let v1425 : BitVec 32 := Scalar.addi v1377 c112_i32_634
  let v1426 : BitVec 32 := v1425
  let v1427 : Index := Scalar.indexCast v1426
  ![v1427.toNat]

def k0_chk185 (v1429 : IVec S16 32) : Prop :=
  (∀ a x, ((![v1429] : Fin 1 → IVec S16 32) a x).toNat < S16128.size a)
theorem k0_idx185_inb : ∀ (v1429 : IVec S16 32) (k0_hw185 : k0_chk185 v1429), ∀ a x, ((![v1429] : Fin 1 → IVec S16 32) a x).toNat < S16128.size a := fun v1429 k0_hw185 => k0_hw185
def k0_mult228 (k0_t13 : Fin k0_t13_loop.trips) : BitVec 32 :=
  let c0_i32_624 : BitVec 32 := 0#32
  let c0_i32_574 : BitVec 32 := 0#32
  let c1_i32_576 : BitVec 32 := 1#32
  let arg20 : BitVec 32 := Scf.iv c0_i32_574 c1_i32_576 k0_t13
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c128_i32_635 : BitVec 32 := 128#32
  let v1431 : BitVec 32 := Scalar.addi v1377 c128_i32_635
  v1431
def k0_off192 (k0_t13 : Fin k0_t13_loop.trips) : Fin 1 → Nat :=
  let c0_i32_624 : BitVec 32 := 0#32
  let c0_i32_574 : BitVec 32 := 0#32
  let c1_i32_576 : BitVec 32 := 1#32
  let arg20 : BitVec 32 := Scf.iv c0_i32_574 c1_i32_576 k0_t13
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c128_i32_635 : BitVec 32 := 128#32
  let v1431 : BitVec 32 := Scalar.addi v1377 c128_i32_635
  let v1432 : BitVec 32 := v1431
  let v1433 : Index := Scalar.indexCast v1432
  ![v1433.toNat]

def k0_chk186 (v1435 : IVec S16 32) : Prop :=
  (∀ a x, ((![v1435] : Fin 1 → IVec S16 32) a x).toNat < S16128.size a)
theorem k0_idx186_inb : ∀ (v1435 : IVec S16 32) (k0_hw186 : k0_chk186 v1435), ∀ a x, ((![v1435] : Fin 1 → IVec S16 32) a x).toNat < S16128.size a := fun v1435 k0_hw186 => k0_hw186
def k0_mult229 (k0_t13 : Fin k0_t13_loop.trips) : BitVec 32 :=
  let c0_i32_624 : BitVec 32 := 0#32
  let c0_i32_574 : BitVec 32 := 0#32
  let c1_i32_576 : BitVec 32 := 1#32
  let arg20 : BitVec 32 := Scf.iv c0_i32_574 c1_i32_576 k0_t13
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c144_i32 : BitVec 32 := 144#32
  let v1437 : BitVec 32 := Scalar.addi v1377 c144_i32
  v1437
def k0_off193 (k0_t13 : Fin k0_t13_loop.trips) : Fin 1 → Nat :=
  let c0_i32_624 : BitVec 32 := 0#32
  let c0_i32_574 : BitVec 32 := 0#32
  let c1_i32_576 : BitVec 32 := 1#32
  let arg20 : BitVec 32 := Scf.iv c0_i32_574 c1_i32_576 k0_t13
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c144_i32 : BitVec 32 := 144#32
  let v1437 : BitVec 32 := Scalar.addi v1377 c144_i32
  let v1438 : BitVec 32 := v1437
  let v1439 : Index := Scalar.indexCast v1438
  ![v1439.toNat]

def k0_chk187 (v1441 : IVec S16 32) : Prop :=
  (∀ a x, ((![v1441] : Fin 1 → IVec S16 32) a x).toNat < S16128.size a)
theorem k0_idx187_inb : ∀ (v1441 : IVec S16 32) (k0_hw187 : k0_chk187 v1441), ∀ a x, ((![v1441] : Fin 1 → IVec S16 32) a x).toNat < S16128.size a := fun v1441 k0_hw187 => k0_hw187
def k0_mult230 (k0_t13 : Fin k0_t13_loop.trips) : BitVec 32 :=
  let c0_i32_624 : BitVec 32 := 0#32
  let c0_i32_574 : BitVec 32 := 0#32
  let c1_i32_576 : BitVec 32 := 1#32
  let arg20 : BitVec 32 := Scf.iv c0_i32_574 c1_i32_576 k0_t13
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c160_i32 : BitVec 32 := 160#32
  let v1443 : BitVec 32 := Scalar.addi v1377 c160_i32
  v1443
def k0_off194 (k0_t13 : Fin k0_t13_loop.trips) : Fin 1 → Nat :=
  let c0_i32_624 : BitVec 32 := 0#32
  let c0_i32_574 : BitVec 32 := 0#32
  let c1_i32_576 : BitVec 32 := 1#32
  let arg20 : BitVec 32 := Scf.iv c0_i32_574 c1_i32_576 k0_t13
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c160_i32 : BitVec 32 := 160#32
  let v1443 : BitVec 32 := Scalar.addi v1377 c160_i32
  let v1444 : BitVec 32 := v1443
  let v1445 : Index := Scalar.indexCast v1444
  ![v1445.toNat]

def k0_chk188 (v1447 : IVec S16 32) : Prop :=
  (∀ a x, ((![v1447] : Fin 1 → IVec S16 32) a x).toNat < S16128.size a)
theorem k0_idx188_inb : ∀ (v1447 : IVec S16 32) (k0_hw188 : k0_chk188 v1447), ∀ a x, ((![v1447] : Fin 1 → IVec S16 32) a x).toNat < S16128.size a := fun v1447 k0_hw188 => k0_hw188
def k0_mult231 (k0_t13 : Fin k0_t13_loop.trips) : BitVec 32 :=
  let c0_i32_624 : BitVec 32 := 0#32
  let c0_i32_574 : BitVec 32 := 0#32
  let c1_i32_576 : BitVec 32 := 1#32
  let arg20 : BitVec 32 := Scf.iv c0_i32_574 c1_i32_576 k0_t13
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c176_i32 : BitVec 32 := 176#32
  let v1449 : BitVec 32 := Scalar.addi v1377 c176_i32
  v1449
def k0_off195 (k0_t13 : Fin k0_t13_loop.trips) : Fin 1 → Nat :=
  let c0_i32_624 : BitVec 32 := 0#32
  let c0_i32_574 : BitVec 32 := 0#32
  let c1_i32_576 : BitVec 32 := 1#32
  let arg20 : BitVec 32 := Scf.iv c0_i32_574 c1_i32_576 k0_t13
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c176_i32 : BitVec 32 := 176#32
  let v1449 : BitVec 32 := Scalar.addi v1377 c176_i32
  let v1450 : BitVec 32 := v1449
  let v1451 : Index := Scalar.indexCast v1450
  ![v1451.toNat]

def k0_chk189 (v1453 : IVec S16 32) : Prop :=
  (∀ a x, ((![v1453] : Fin 1 → IVec S16 32) a x).toNat < S16128.size a)
theorem k0_idx189_inb : ∀ (v1453 : IVec S16 32) (k0_hw189 : k0_chk189 v1453), ∀ a x, ((![v1453] : Fin 1 → IVec S16 32) a x).toNat < S16128.size a := fun v1453 k0_hw189 => k0_hw189
def k0_mult232 (k0_t13 : Fin k0_t13_loop.trips) : BitVec 32 :=
  let c0_i32_624 : BitVec 32 := 0#32
  let c0_i32_574 : BitVec 32 := 0#32
  let c1_i32_576 : BitVec 32 := 1#32
  let arg20 : BitVec 32 := Scf.iv c0_i32_574 c1_i32_576 k0_t13
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c192_i32 : BitVec 32 := 192#32
  let v1455 : BitVec 32 := Scalar.addi v1377 c192_i32
  v1455
def k0_off196 (k0_t13 : Fin k0_t13_loop.trips) : Fin 1 → Nat :=
  let c0_i32_624 : BitVec 32 := 0#32
  let c0_i32_574 : BitVec 32 := 0#32
  let c1_i32_576 : BitVec 32 := 1#32
  let arg20 : BitVec 32 := Scf.iv c0_i32_574 c1_i32_576 k0_t13
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c192_i32 : BitVec 32 := 192#32
  let v1455 : BitVec 32 := Scalar.addi v1377 c192_i32
  let v1456 : BitVec 32 := v1455
  let v1457 : Index := Scalar.indexCast v1456
  ![v1457.toNat]

def k0_chk190 (v1459 : IVec S16 32) : Prop :=
  (∀ a x, ((![v1459] : Fin 1 → IVec S16 32) a x).toNat < S16128.size a)
theorem k0_idx190_inb : ∀ (v1459 : IVec S16 32) (k0_hw190 : k0_chk190 v1459), ∀ a x, ((![v1459] : Fin 1 → IVec S16 32) a x).toNat < S16128.size a := fun v1459 k0_hw190 => k0_hw190
def k0_mult233 (k0_t13 : Fin k0_t13_loop.trips) : BitVec 32 :=
  let c0_i32_624 : BitVec 32 := 0#32
  let c0_i32_574 : BitVec 32 := 0#32
  let c1_i32_576 : BitVec 32 := 1#32
  let arg20 : BitVec 32 := Scf.iv c0_i32_574 c1_i32_576 k0_t13
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c208_i32 : BitVec 32 := 208#32
  let v1461 : BitVec 32 := Scalar.addi v1377 c208_i32
  v1461
def k0_off197 (k0_t13 : Fin k0_t13_loop.trips) : Fin 1 → Nat :=
  let c0_i32_624 : BitVec 32 := 0#32
  let c0_i32_574 : BitVec 32 := 0#32
  let c1_i32_576 : BitVec 32 := 1#32
  let arg20 : BitVec 32 := Scf.iv c0_i32_574 c1_i32_576 k0_t13
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c208_i32 : BitVec 32 := 208#32
  let v1461 : BitVec 32 := Scalar.addi v1377 c208_i32
  let v1462 : BitVec 32 := v1461
  let v1463 : Index := Scalar.indexCast v1462
  ![v1463.toNat]

def k0_chk191 (v1465 : IVec S16 32) : Prop :=
  (∀ a x, ((![v1465] : Fin 1 → IVec S16 32) a x).toNat < S16128.size a)
theorem k0_idx191_inb : ∀ (v1465 : IVec S16 32) (k0_hw191 : k0_chk191 v1465), ∀ a x, ((![v1465] : Fin 1 → IVec S16 32) a x).toNat < S16128.size a := fun v1465 k0_hw191 => k0_hw191
def k0_mult234 (k0_t13 : Fin k0_t13_loop.trips) : BitVec 32 :=
  let c0_i32_624 : BitVec 32 := 0#32
  let c0_i32_574 : BitVec 32 := 0#32
  let c1_i32_576 : BitVec 32 := 1#32
  let arg20 : BitVec 32 := Scf.iv c0_i32_574 c1_i32_576 k0_t13
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c224_i32 : BitVec 32 := 224#32
  let v1467 : BitVec 32 := Scalar.addi v1377 c224_i32
  v1467
def k0_off198 (k0_t13 : Fin k0_t13_loop.trips) : Fin 1 → Nat :=
  let c0_i32_624 : BitVec 32 := 0#32
  let c0_i32_574 : BitVec 32 := 0#32
  let c1_i32_576 : BitVec 32 := 1#32
  let arg20 : BitVec 32 := Scf.iv c0_i32_574 c1_i32_576 k0_t13
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c224_i32 : BitVec 32 := 224#32
  let v1467 : BitVec 32 := Scalar.addi v1377 c224_i32
  let v1468 : BitVec 32 := v1467
  let v1469 : Index := Scalar.indexCast v1468
  ![v1469.toNat]

def k0_chk192 (v1471 : IVec S16 32) : Prop :=
  (∀ a x, ((![v1471] : Fin 1 → IVec S16 32) a x).toNat < S16128.size a)
theorem k0_idx192_inb : ∀ (v1471 : IVec S16 32) (k0_hw192 : k0_chk192 v1471), ∀ a x, ((![v1471] : Fin 1 → IVec S16 32) a x).toNat < S16128.size a := fun v1471 k0_hw192 => k0_hw192
def k0_mult235 (k0_t13 : Fin k0_t13_loop.trips) : BitVec 32 :=
  let c0_i32_624 : BitVec 32 := 0#32
  let c0_i32_574 : BitVec 32 := 0#32
  let c1_i32_576 : BitVec 32 := 1#32
  let arg20 : BitVec 32 := Scf.iv c0_i32_574 c1_i32_576 k0_t13
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c240_i32 : BitVec 32 := 240#32
  let v1473 : BitVec 32 := Scalar.addi v1377 c240_i32
  v1473
def k0_off199 (k0_t13 : Fin k0_t13_loop.trips) : Fin 1 → Nat :=
  let c0_i32_624 : BitVec 32 := 0#32
  let c0_i32_574 : BitVec 32 := 0#32
  let c1_i32_576 : BitVec 32 := 1#32
  let arg20 : BitVec 32 := Scf.iv c0_i32_574 c1_i32_576 k0_t13
  let c1_i32_623 : BitVec 32 := 1#32
  let v1375 : BitVec 32 := Scalar.muli arg20 c1_i32_623
  let v1376 : BitVec 32 := Scalar.addi c0_i32_624 v1375
  let c256_i32_625 : BitVec 32 := 256#32
  let v1377 : BitVec 32 := Scalar.muli v1376 c256_i32_625
  let c240_i32 : BitVec 32 := 240#32
  let v1473 : BitVec 32 := Scalar.addi v1377 c240_i32
  let v1474 : BitVec 32 := v1473
  let v1475 : Index := Scalar.indexCast v1474
  ![v1475.toNat]
def k0_mult236 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_1 : BitVec 32 := 2#32
  let v4 : BitVec 32 := Scalar.muli v1 c2_i32_1
  let c1_i32 : BitVec 32 := 1#32
  let v5 : BitVec 32 := Scalar.addi v4 c1_i32
  let c1984_i32_137 : BitVec 32 := 1984#32
  let v268 : BitVec 32 := Scalar.muli v5 c1984_i32_137
  let c256_i32_138 : BitVec 32 := 256#32
  let v269 : BitVec 32 := Scalar.muli v268 c256_i32_138
  let c63_i32_578 : BitVec 32 := 63#32
  let c0_i32_580 : BitVec 32 := 0#32
  let v1266 : BitVec 1 := Scalar.cmpi .sgt c63_i32_578 c0_i32_580
  let v1267 : BitVec 32 := Scalar.extui v1266
  let c0_i32_581 : BitVec 32 := 0#32
  let v1268 : BitVec 1 := Scalar.cmpi .slt c63_i32_578 c0_i32_581
  let v1269 : BitVec 32 := Scalar.extui v1268
  let v1270 : BitVec 32 := Scalar.subi v1267 v1269
  let c2_i32_579 : BitVec 32 := 2#32
  let c0_i32_582 : BitVec 32 := 0#32
  let v1271 : BitVec 1 := Scalar.cmpi .sgt c2_i32_579 c0_i32_582
  let v1272 : BitVec 32 := Scalar.extui v1271
  let c0_i32_583 : BitVec 32 := 0#32
  let v1273 : BitVec 1 := Scalar.cmpi .slt c2_i32_579 c0_i32_583
  let v1274 : BitVec 32 := Scalar.extui v1273
  let v1275 : BitVec 32 := Scalar.subi v1272 v1274
  let v1276 : BitVec 1 := Scalar.cmpi .ne v1270 v1275
  let v1277 : BitVec 32 := Scalar.remsi c63_i32_578 c2_i32_579
  let c0_i32_584 : BitVec 32 := 0#32
  let v1278 : BitVec 1 := Scalar.cmpi .ne v1277 c0_i32_584
  let v1279 : BitVec 1 := Scalar.andi v1276 v1278
  let v1265 : BitVec 32 := Scalar.divsi c63_i32_578 c2_i32_579
  let c1_i32_585 : BitVec 32 := 1#32
  let v1280 : BitVec 32 := Scalar.subi v1265 c1_i32_585
  let v1281 : BitVec 32 := Scalar.select v1279 v1280 v1265
  let c15872_i32_586 : BitVec 32 := 15872#32
  let v1282 : BitVec 32 := Scalar.muli v1281 c15872_i32_586
  let v1283 : BitVec 32 := Scalar.addi v269 v1282
  v1283
def k0_mult237 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32 : BitVec 32 := 0#32
  let v3 : BitVec 32 := Scalar.addi v2 c0_i32
  let c1984_i32 : BitVec 32 := 1984#32
  let v266 : BitVec 32 := Scalar.muli v3 c1984_i32
  let c256_i32_136 : BitVec 32 := 256#32
  let v267 : BitVec 32 := Scalar.muli v266 c256_i32_136
  let c60_i32_587 : BitVec 32 := 60#32
  let c0_i32_589 : BitVec 32 := 0#32
  let v1288 : BitVec 1 := Scalar.cmpi .sgt c60_i32_587 c0_i32_589
  let v1289 : BitVec 32 := Scalar.extui v1288
  let c0_i32_590 : BitVec 32 := 0#32
  let v1290 : BitVec 1 := Scalar.cmpi .slt c60_i32_587 c0_i32_590
  let v1291 : BitVec 32 := Scalar.extui v1290
  let v1292 : BitVec 32 := Scalar.subi v1289 v1291
  let c2_i32_588 : BitVec 32 := 2#32
  let c0_i32_591 : BitVec 32 := 0#32
  let v1293 : BitVec 1 := Scalar.cmpi .sgt c2_i32_588 c0_i32_591
  let v1294 : BitVec 32 := Scalar.extui v1293
  let c0_i32_592 : BitVec 32 := 0#32
  let v1295 : BitVec 1 := Scalar.cmpi .slt c2_i32_588 c0_i32_592
  let v1296 : BitVec 32 := Scalar.extui v1295
  let v1297 : BitVec 32 := Scalar.subi v1294 v1296
  let v1298 : BitVec 1 := Scalar.cmpi .ne v1292 v1297
  let v1299 : BitVec 32 := Scalar.remsi c60_i32_587 c2_i32_588
  let c0_i32_593 : BitVec 32 := 0#32
  let v1300 : BitVec 1 := Scalar.cmpi .ne v1299 c0_i32_593
  let v1301 : BitVec 1 := Scalar.andi v1298 v1300
  let v1287 : BitVec 32 := Scalar.divsi c60_i32_587 c2_i32_588
  let c1_i32_594 : BitVec 32 := 1#32
  let v1302 : BitVec 32 := Scalar.subi v1287 c1_i32_594
  let v1303 : BitVec 32 := Scalar.select v1301 v1302 v1287
  let c15872_i32_595 : BitVec 32 := 15872#32
  let v1304 : BitVec 32 := Scalar.muli v1303 c15872_i32_595
  let v1305 : BitVec 32 := Scalar.addi v267 v1304
  v1305
def k0_mult238 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_1 : BitVec 32 := 2#32
  let v4 : BitVec 32 := Scalar.muli v1 c2_i32_1
  let c1_i32 : BitVec 32 := 1#32
  let v5 : BitVec 32 := Scalar.addi v4 c1_i32
  let c1984_i32_137 : BitVec 32 := 1984#32
  let v268 : BitVec 32 := Scalar.muli v5 c1984_i32_137
  let c256_i32_138 : BitVec 32 := 256#32
  let v269 : BitVec 32 := Scalar.muli v268 c256_i32_138
  let c61_i32_596 : BitVec 32 := 61#32
  let c0_i32_598 : BitVec 32 := 0#32
  let v1310 : BitVec 1 := Scalar.cmpi .sgt c61_i32_596 c0_i32_598
  let v1311 : BitVec 32 := Scalar.extui v1310
  let c0_i32_599 : BitVec 32 := 0#32
  let v1312 : BitVec 1 := Scalar.cmpi .slt c61_i32_596 c0_i32_599
  let v1313 : BitVec 32 := Scalar.extui v1312
  let v1314 : BitVec 32 := Scalar.subi v1311 v1313
  let c2_i32_597 : BitVec 32 := 2#32
  let c0_i32_600 : BitVec 32 := 0#32
  let v1315 : BitVec 1 := Scalar.cmpi .sgt c2_i32_597 c0_i32_600
  let v1316 : BitVec 32 := Scalar.extui v1315
  let c0_i32_601 : BitVec 32 := 0#32
  let v1317 : BitVec 1 := Scalar.cmpi .slt c2_i32_597 c0_i32_601
  let v1318 : BitVec 32 := Scalar.extui v1317
  let v1319 : BitVec 32 := Scalar.subi v1316 v1318
  let v1320 : BitVec 1 := Scalar.cmpi .ne v1314 v1319
  let v1321 : BitVec 32 := Scalar.remsi c61_i32_596 c2_i32_597
  let c0_i32_602 : BitVec 32 := 0#32
  let v1322 : BitVec 1 := Scalar.cmpi .ne v1321 c0_i32_602
  let v1323 : BitVec 1 := Scalar.andi v1320 v1322
  let v1309 : BitVec 32 := Scalar.divsi c61_i32_596 c2_i32_597
  let c1_i32_603 : BitVec 32 := 1#32
  let v1324 : BitVec 32 := Scalar.subi v1309 c1_i32_603
  let v1325 : BitVec 32 := Scalar.select v1323 v1324 v1309
  let c15872_i32_604 : BitVec 32 := 15872#32
  let v1326 : BitVec 32 := Scalar.muli v1325 c15872_i32_604
  let v1327 : BitVec 32 := Scalar.addi v269 v1326
  v1327
def k0_mult239 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32 : BitVec 32 := 0#32
  let v3 : BitVec 32 := Scalar.addi v2 c0_i32
  let c1984_i32 : BitVec 32 := 1984#32
  let v266 : BitVec 32 := Scalar.muli v3 c1984_i32
  let c256_i32_136 : BitVec 32 := 256#32
  let v267 : BitVec 32 := Scalar.muli v266 c256_i32_136
  let c62_i32_605 : BitVec 32 := 62#32
  let c0_i32_607 : BitVec 32 := 0#32
  let v1332 : BitVec 1 := Scalar.cmpi .sgt c62_i32_605 c0_i32_607
  let v1333 : BitVec 32 := Scalar.extui v1332
  let c0_i32_608 : BitVec 32 := 0#32
  let v1334 : BitVec 1 := Scalar.cmpi .slt c62_i32_605 c0_i32_608
  let v1335 : BitVec 32 := Scalar.extui v1334
  let v1336 : BitVec 32 := Scalar.subi v1333 v1335
  let c2_i32_606 : BitVec 32 := 2#32
  let c0_i32_609 : BitVec 32 := 0#32
  let v1337 : BitVec 1 := Scalar.cmpi .sgt c2_i32_606 c0_i32_609
  let v1338 : BitVec 32 := Scalar.extui v1337
  let c0_i32_610 : BitVec 32 := 0#32
  let v1339 : BitVec 1 := Scalar.cmpi .slt c2_i32_606 c0_i32_610
  let v1340 : BitVec 32 := Scalar.extui v1339
  let v1341 : BitVec 32 := Scalar.subi v1338 v1340
  let v1342 : BitVec 1 := Scalar.cmpi .ne v1336 v1341
  let v1343 : BitVec 32 := Scalar.remsi c62_i32_605 c2_i32_606
  let c0_i32_611 : BitVec 32 := 0#32
  let v1344 : BitVec 1 := Scalar.cmpi .ne v1343 c0_i32_611
  let v1345 : BitVec 1 := Scalar.andi v1342 v1344
  let v1331 : BitVec 32 := Scalar.divsi c62_i32_605 c2_i32_606
  let c1_i32_612 : BitVec 32 := 1#32
  let v1346 : BitVec 32 := Scalar.subi v1331 c1_i32_612
  let v1347 : BitVec 32 := Scalar.select v1345 v1346 v1331
  let c15872_i32_613 : BitVec 32 := 15872#32
  let v1348 : BitVec 32 := Scalar.muli v1347 c15872_i32_613
  let v1349 : BitVec 32 := Scalar.addi v267 v1348
  v1349
def k0_mult240 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_1 : BitVec 32 := 2#32
  let v4 : BitVec 32 := Scalar.muli v1 c2_i32_1
  let c1_i32 : BitVec 32 := 1#32
  let v5 : BitVec 32 := Scalar.addi v4 c1_i32
  let c1984_i32_137 : BitVec 32 := 1984#32
  let v268 : BitVec 32 := Scalar.muli v5 c1984_i32_137
  let c256_i32_138 : BitVec 32 := 256#32
  let v269 : BitVec 32 := Scalar.muli v268 c256_i32_138
  let c63_i32_614 : BitVec 32 := 63#32
  let c0_i32_616 : BitVec 32 := 0#32
  let v1354 : BitVec 1 := Scalar.cmpi .sgt c63_i32_614 c0_i32_616
  let v1355 : BitVec 32 := Scalar.extui v1354
  let c0_i32_617 : BitVec 32 := 0#32
  let v1356 : BitVec 1 := Scalar.cmpi .slt c63_i32_614 c0_i32_617
  let v1357 : BitVec 32 := Scalar.extui v1356
  let v1358 : BitVec 32 := Scalar.subi v1355 v1357
  let c2_i32_615 : BitVec 32 := 2#32
  let c0_i32_618 : BitVec 32 := 0#32
  let v1359 : BitVec 1 := Scalar.cmpi .sgt c2_i32_615 c0_i32_618
  let v1360 : BitVec 32 := Scalar.extui v1359
  let c0_i32_619 : BitVec 32 := 0#32
  let v1361 : BitVec 1 := Scalar.cmpi .slt c2_i32_615 c0_i32_619
  let v1362 : BitVec 32 := Scalar.extui v1361
  let v1363 : BitVec 32 := Scalar.subi v1360 v1362
  let v1364 : BitVec 1 := Scalar.cmpi .ne v1358 v1363
  let v1365 : BitVec 32 := Scalar.remsi c63_i32_614 c2_i32_615
  let c0_i32_620 : BitVec 32 := 0#32
  let v1366 : BitVec 1 := Scalar.cmpi .ne v1365 c0_i32_620
  let v1367 : BitVec 1 := Scalar.andi v1364 v1366
  let v1353 : BitVec 32 := Scalar.divsi c63_i32_614 c2_i32_615
  let c1_i32_621 : BitVec 32 := 1#32
  let v1368 : BitVec 32 := Scalar.subi v1353 c1_i32_621
  let v1369 : BitVec 32 := Scalar.select v1367 v1368 v1353
  let c15872_i32_622 : BitVec 32 := 15872#32
  let v1370 : BitVec 32 := Scalar.muli v1369 c15872_i32_622
  let v1371 : BitVec 32 := Scalar.addi v269 v1370
  v1371
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16x4x2x262144 : Shape := ⟨4, ![16, 4, 2, 262144]⟩
abbrev S_ : Shape := ⟨0, ![]⟩
abbrev S1 : Shape := ⟨1, ![1]⟩
abbrev S2 : Shape := ⟨1, ![2]⟩
abbrev S1x1x1x1 : Shape := ⟨4, ![1, 1, 1, 1]⟩
abbrev S2x1 : Shape := ⟨2, ![2, 1]⟩
abbrev S2x2 : Shape := ⟨2, ![2, 2]⟩
abbrev S1x2 : Shape := ⟨2, ![1, 2]⟩
abbrev S16x4x1x1 : Shape := ⟨4, ![16, 4, 1, 1]⟩
abbrev S16x4x2x1 : Shape := ⟨4, ![16, 4, 2, 1]⟩
abbrev S253952 : Shape := ⟨1, ![253952]⟩
abbrev S1x1x1x253952 : Shape := ⟨4, ![1, 1, 1, 253952]⟩
abbrev S16x4x2x253952 : Shape := ⟨4, ![16, 4, 2, 253952]⟩
abbrev S16x4x2x253952x1 : Shape := ⟨5, ![16, 4, 2, 253952, 1]⟩
abbrev S1x1x1x1x1 : Shape := ⟨5, ![1, 1, 1, 1, 1]⟩

abbrev nBuf : Space → Nat
  | .hbm => 833
  | .vmem => 0
  | .smem => 0
  | _ => 0

abbrev hbmTy0_0 (i : Nat) : BufTy := match i % 128 with
  | 0 => ⟨S16x4x2x262144, .f32⟩
  | 1 => ⟨S_, .i32⟩
  | 2 => ⟨S_, .i32⟩
  | 3 => ⟨S_, .i32⟩
  | 4 => ⟨S_, .i32⟩
  | 5 => ⟨S1, .i32⟩
  | 6 => ⟨S_, .i32⟩
  | 7 => ⟨S_, .i32⟩
  | 8 => ⟨S_, .i32⟩
  | 9 => ⟨S1, .i32⟩
  | 10 => ⟨S2, .i32⟩
  | 11 => ⟨S_, .i32⟩
  | 12 => ⟨S_, .i32⟩
  | 13 => ⟨S_, .i32⟩
  | 14 => ⟨S_, .i32⟩
  | 15 => ⟨S_, .i32⟩
  | 16 => ⟨S_, .i32⟩
  | 17 => ⟨S_, .i32⟩
  | 18 => ⟨S_, .i1⟩
  | 19 => ⟨S_, .i32⟩
  | 20 => ⟨S_, .i32⟩
  | 21 => ⟨S_, .i32⟩
  | 22 => ⟨S_, .i32⟩
  | 23 => ⟨S_, .i32⟩
  | 24 => ⟨S_, .i32⟩
  | 25 => ⟨S_, .i32⟩
  | 26 => ⟨S_, .i32⟩
  | 27 => ⟨S_, .i32⟩
  | 28 => ⟨S_, .i32⟩
  | 29 => ⟨S1x1x1x1, .i32⟩
  | 30 => ⟨S1x1x1x1, .i32⟩
  | 31 => ⟨S1, .i32⟩
  | 32 => ⟨S_, .i32⟩
  | 33 => ⟨S1, .i32⟩
  | 34 => ⟨S_, .i32⟩
  | 35 => ⟨S2, .i64⟩
  | 36 => ⟨S_, .i64⟩
  | 37 => ⟨S2, .i64⟩
  | 38 => ⟨S2, .i64⟩
  | 39 => ⟨S_, .i64⟩
  | 40 => ⟨S2, .i64⟩
  | 41 => ⟨S2, .i64⟩
  | 42 => ⟨S2, .i32⟩
  | 43 => ⟨S2, .i32⟩
  | 44 => ⟨S_, .i32⟩
  | 45 => ⟨S_, .i32⟩
  | 46 => ⟨S_, .i32⟩
  | 47 => ⟨S2, .i32⟩
  | 48 => ⟨S2, .i32⟩
  | 49 => ⟨S2, .i32⟩
  | 50 => ⟨S2, .i32⟩
  | 51 => ⟨S2, .i32⟩
  | 52 => ⟨S_, .i32⟩
  | 53 => ⟨S2, .i32⟩
  | 54 => ⟨S2, .i32⟩
  | 55 => ⟨S_, .i32⟩
  | 56 => ⟨S2, .i32⟩
  | 57 => ⟨S2, .i32⟩
  | 58 => ⟨S2, .i32⟩
  | 59 => ⟨S2, .i32⟩
  | 60 => ⟨S2, .i32⟩
  | 61 => ⟨S_, .i32⟩
  | 62 => ⟨S2, .i32⟩
  | 63 => ⟨S2, .i32⟩
  | 64 => ⟨S_, .i32⟩
  | 65 => ⟨S2, .i32⟩
  | 66 => ⟨S2, .i32⟩
  | 67 => ⟨S2, .i32⟩
  | 68 => ⟨S2, .i32⟩
  | 69 => ⟨S2, .i32⟩
  | 70 => ⟨S_, .i32⟩
  | 71 => ⟨S2, .i32⟩
  | 72 => ⟨S2, .i32⟩
  | 73 => ⟨S_, .i32⟩
  | 74 => ⟨S2, .i32⟩
  | 75 => ⟨S2, .i32⟩
  | 76 => ⟨S2, .i32⟩
  | 77 => ⟨S2, .i32⟩
  | 78 => ⟨S2, .i32⟩
  | 79 => ⟨S_, .i32⟩
  | 80 => ⟨S2, .i32⟩
  | 81 => ⟨S2, .i32⟩
  | 82 => ⟨S_, .i32⟩
  | 83 => ⟨S2, .i32⟩
  | 84 => ⟨S2, .i32⟩
  | 85 => ⟨S2, .i32⟩
  | 86 => ⟨S2, .i32⟩
  | 87 => ⟨S2, .i32⟩
  | 88 => ⟨S2, .i32⟩
  | 89 => ⟨S2, .i32⟩
  | 90 => ⟨S2, .i32⟩
  | 91 => ⟨S_, .i32⟩
  | 92 => ⟨S2, .i32⟩
  | 93 => ⟨S2, .i32⟩
  | 94 => ⟨S2, .i32⟩
  | 95 => ⟨S_, .i32⟩
  | 96 => ⟨S2, .i32⟩
  | 97 => ⟨S2, .i32⟩
  | 98 => ⟨S_, .i32⟩
  | 99 => ⟨S2, .i32⟩
  | 100 => ⟨S2, .i32⟩
  | 101 => ⟨S2, .i32⟩
  | 102 => ⟨S2, .i32⟩
  | 103 => ⟨S2, .i32⟩
  | 104 => ⟨S_, .i32⟩
  | 105 => ⟨S2, .i32⟩
  | 106 => ⟨S2, .i32⟩
  | 107 => ⟨S_, .i32⟩
  | 108 => ⟨S2, .i32⟩
  | 109 => ⟨S2, .i32⟩
  | 110 => ⟨S2, .i32⟩
  | 111 => ⟨S2, .i32⟩
  | 112 => ⟨S2, .i32⟩
  | 113 => ⟨S_, .i32⟩
  | 114 => ⟨S2, .i32⟩
  | 115 => ⟨S2, .i32⟩
  | 116 => ⟨S_, .i32⟩
  | 117 => ⟨S2, .i32⟩
  | 118 => ⟨S2, .i32⟩
  | 119 => ⟨S2, .i32⟩
  | 120 => ⟨S2, .i32⟩
  | 121 => ⟨S2, .i32⟩
  | 122 => ⟨S_, .i32⟩
  | 123 => ⟨S2, .i32⟩
  | 124 => ⟨S2, .i32⟩
  | 125 => ⟨S_, .i32⟩
  | 126 => ⟨S2, .i32⟩
  | 127 => ⟨S2, .i32⟩
  | _ => ⟨S16x4x2x262144, .f32⟩

abbrev hbmTy0_1 (i : Nat) : BufTy := match i % 128 with
  | 0 => ⟨S2, .i32⟩
  | 1 => ⟨S2, .i32⟩
  | 2 => ⟨S2, .i32⟩
  | 3 => ⟨S2, .i32⟩
  | 4 => ⟨S2, .i32⟩
  | 5 => ⟨S2, .i32⟩
  | 6 => ⟨S_, .i32⟩
  | 7 => ⟨S2, .i32⟩
  | 8 => ⟨S2, .i32⟩
  | 9 => ⟨S2, .i32⟩
  | 10 => ⟨S_, .i32⟩
  | 11 => ⟨S2, .i32⟩
  | 12 => ⟨S2, .i32⟩
  | 13 => ⟨S_, .i32⟩
  | 14 => ⟨S2, .i32⟩
  | 15 => ⟨S2, .i32⟩
  | 16 => ⟨S2, .i32⟩
  | 17 => ⟨S2, .i32⟩
  | 18 => ⟨S2, .i32⟩
  | 19 => ⟨S_, .i32⟩
  | 20 => ⟨S2, .i32⟩
  | 21 => ⟨S2, .i32⟩
  | 22 => ⟨S_, .i32⟩
  | 23 => ⟨S2, .i32⟩
  | 24 => ⟨S2, .i32⟩
  | 25 => ⟨S2, .i32⟩
  | 26 => ⟨S2, .i32⟩
  | 27 => ⟨S2, .i32⟩
  | 28 => ⟨S_, .i32⟩
  | 29 => ⟨S2, .i32⟩
  | 30 => ⟨S2, .i32⟩
  | 31 => ⟨S_, .i32⟩
  | 32 => ⟨S2, .i32⟩
  | 33 => ⟨S2, .i32⟩
  | 34 => ⟨S2, .i32⟩
  | 35 => ⟨S2, .i32⟩
  | 36 => ⟨S2, .i32⟩
  | 37 => ⟨S_, .i32⟩
  | 38 => ⟨S2, .i32⟩
  | 39 => ⟨S2, .i32⟩
  | 40 => ⟨S_, .i32⟩
  | 41 => ⟨S2, .i32⟩
  | 42 => ⟨S2, .i32⟩
  | 43 => ⟨S2, .i32⟩
  | 44 => ⟨S2, .i32⟩
  | 45 => ⟨S2, .i32⟩
  | 46 => ⟨S2, .i32⟩
  | 47 => ⟨S2, .i32⟩
  | 48 => ⟨S2, .i32⟩
  | 49 => ⟨S_, .i32⟩
  | 50 => ⟨S2, .i32⟩
  | 51 => ⟨S2, .i32⟩
  | 52 => ⟨S2, .i32⟩
  | 53 => ⟨S_, .i32⟩
  | 54 => ⟨S2, .i32⟩
  | 55 => ⟨S2, .i32⟩
  | 56 => ⟨S_, .i32⟩
  | 57 => ⟨S2, .i32⟩
  | 58 => ⟨S2, .i32⟩
  | 59 => ⟨S2, .i32⟩
  | 60 => ⟨S2, .i32⟩
  | 61 => ⟨S2, .i32⟩
  | 62 => ⟨S_, .i32⟩
  | 63 => ⟨S2, .i32⟩
  | 64 => ⟨S2, .i32⟩
  | 65 => ⟨S_, .i32⟩
  | 66 => ⟨S2, .i32⟩
  | 67 => ⟨S2, .i32⟩
  | 68 => ⟨S2, .i32⟩
  | 69 => ⟨S2, .i32⟩
  | 70 => ⟨S2, .i32⟩
  | 71 => ⟨S_, .i32⟩
  | 72 => ⟨S2, .i32⟩
  | 73 => ⟨S2, .i32⟩
  | 74 => ⟨S_, .i32⟩
  | 75 => ⟨S2, .i32⟩
  | 76 => ⟨S2, .i32⟩
  | 77 => ⟨S2, .i32⟩
  | 78 => ⟨S2, .i32⟩
  | 79 => ⟨S2, .i32⟩
  | 80 => ⟨S_, .i32⟩
  | 81 => ⟨S2, .i32⟩
  | 82 => ⟨S2, .i32⟩
  | 83 => ⟨S_, .i32⟩
  | 84 => ⟨S2, .i32⟩
  | 85 => ⟨S2, .i32⟩
  | 86 => ⟨S2, .i32⟩
  | 87 => ⟨S2, .i32⟩
  | 88 => ⟨S2, .i32⟩
  | 89 => ⟨S2, .i32⟩
  | 90 => ⟨S2, .i32⟩
  | 91 => ⟨S2, .i32⟩
  | 92 => ⟨S_, .i32⟩
  | 93 => ⟨S2, .i32⟩
  | 94 => ⟨S2, .i32⟩
  | 95 => ⟨S2, .i32⟩
  | 96 => ⟨S_, .i32⟩
  | 97 => ⟨S2, .i32⟩
  | 98 => ⟨S2, .i32⟩
  | 99 => ⟨S_, .i32⟩
  | 100 => ⟨S2, .i32⟩
  | 101 => ⟨S2, .i32⟩
  | 102 => ⟨S2, .i32⟩
  | 103 => ⟨S2, .i32⟩
  | 104 => ⟨S2, .i32⟩
  | 105 => ⟨S_, .i32⟩
  | 106 => ⟨S2, .i32⟩
  | 107 => ⟨S2, .i32⟩
  | 108 => ⟨S_, .i32⟩
  | 109 => ⟨S2, .i32⟩
  | 110 => ⟨S2, .i32⟩
  | 111 => ⟨S2, .i32⟩
  | 112 => ⟨S2, .i32⟩
  | 113 => ⟨S2, .i32⟩
  | 114 => ⟨S_, .i32⟩
  | 115 => ⟨S2, .i32⟩
  | 116 => ⟨S2, .i32⟩
  | 117 => ⟨S_, .i32⟩
  | 118 => ⟨S2, .i32⟩
  | 119 => ⟨S2, .i32⟩
  | 120 => ⟨S2, .i32⟩
  | 121 => ⟨S2, .i32⟩
  | 122 => ⟨S2, .i32⟩
  | 123 => ⟨S_, .i32⟩
  | 124 => ⟨S2, .i32⟩
  | 125 => ⟨S2, .i32⟩
  | 126 => ⟨S_, .i32⟩
  | 127 => ⟨S2, .i32⟩
  | _ => ⟨S16x4x2x262144, .f32⟩

abbrev hbmTy0_2 (i : Nat) : BufTy := match i % 128 with
  | 0 => ⟨S2, .i32⟩
  | 1 => ⟨S2, .i32⟩
  | 2 => ⟨S2, .i32⟩
  | 3 => ⟨S2, .i32⟩
  | 4 => ⟨S2, .i32⟩
  | 5 => ⟨S2, .i32⟩
  | 6 => ⟨S2, .i32⟩
  | 7 => ⟨S_, .i32⟩
  | 8 => ⟨S2, .i32⟩
  | 9 => ⟨S2, .i32⟩
  | 10 => ⟨S2x1, .i32⟩
  | 11 => ⟨S2x1, .i32⟩
  | 12 => ⟨S2x2, .i32⟩
  | 13 => ⟨S1x2, .i32⟩
  | 14 => ⟨S2, .i32⟩
  | 15 => ⟨S1x2, .i32⟩
  | 16 => ⟨S2, .i32⟩
  | 17 => ⟨S1, .i32⟩
  | 18 => ⟨S_, .i32⟩
  | 19 => ⟨S1, .i32⟩
  | 20 => ⟨S_, .i32⟩
  | 21 => ⟨S16x4x1x1, .i64⟩
  | 22 => ⟨S16x4x1x1, .i64⟩
  | 23 => ⟨S16x4x1x1, .i64⟩
  | 24 => ⟨S16x4x1x1, .i64⟩
  | 25 => ⟨S_, .i64⟩
  | 26 => ⟨S16x4x1x1, .i64⟩
  | 27 => ⟨S16x4x1x1, .i64⟩
  | 28 => ⟨S_, .i64⟩
  | 29 => ⟨S16x4x1x1, .i64⟩
  | 30 => ⟨S16x4x1x1, .i64⟩
  | 31 => ⟨S_, .i64⟩
  | 32 => ⟨S16x4x1x1, .i64⟩
  | 33 => ⟨S16x4x1x1, .i64⟩
  | 34 => ⟨S_, .i64⟩
  | 35 => ⟨S16x4x1x1, .i64⟩
  | 36 => ⟨S16x4x1x1, .i64⟩
  | 37 => ⟨S16x4x1x1, .i64⟩
  | 38 => ⟨S16x4x1x1, .i64⟩
  | 39 => ⟨S16x4x1x1, .i64⟩
  | 40 => ⟨S_, .i64⟩
  | 41 => ⟨S16x4x1x1, .i64⟩
  | 42 => ⟨S16x4x1x1, .i64⟩
  | 43 => ⟨S16x4x1x1, .i32⟩
  | 44 => ⟨S16x4x1x1, .i32⟩
  | 45 => ⟨S_, .i32⟩
  | 46 => ⟨S_, .i32⟩
  | 47 => ⟨S_, .i32⟩
  | 48 => ⟨S16x4x1x1, .i32⟩
  | 49 => ⟨S16x4x1x1, .i32⟩
  | 50 => ⟨S16x4x1x1, .i32⟩
  | 51 => ⟨S16x4x1x1, .i32⟩
  | 52 => ⟨S16x4x1x1, .i32⟩
  | 53 => ⟨S_, .i32⟩
  | 54 => ⟨S16x4x1x1, .i32⟩
  | 55 => ⟨S16x4x1x1, .i32⟩
  | 56 => ⟨S_, .i32⟩
  | 57 => ⟨S16x4x1x1, .i32⟩
  | 58 => ⟨S16x4x1x1, .i32⟩
  | 59 => ⟨S16x4x1x1, .i32⟩
  | 60 => ⟨S16x4x1x1, .i32⟩
  | 61 => ⟨S16x4x1x1, .i32⟩
  | 62 => ⟨S_, .i32⟩
  | 63 => ⟨S16x4x1x1, .i32⟩
  | 64 => ⟨S16x4x1x1, .i32⟩
  | 65 => ⟨S_, .i32⟩
  | 66 => ⟨S16x4x1x1, .i32⟩
  | 67 => ⟨S16x4x1x1, .i32⟩
  | 68 => ⟨S16x4x1x1, .i32⟩
  | 69 => ⟨S16x4x1x1, .i32⟩
  | 70 => ⟨S16x4x1x1, .i32⟩
  | 71 => ⟨S_, .i32⟩
  | 72 => ⟨S16x4x1x1, .i32⟩
  | 73 => ⟨S16x4x1x1, .i32⟩
  | 74 => ⟨S_, .i32⟩
  | 75 => ⟨S16x4x1x1, .i32⟩
  | 76 => ⟨S16x4x1x1, .i32⟩
  | 77 => ⟨S16x4x1x1, .i32⟩
  | 78 => ⟨S16x4x1x1, .i32⟩
  | 79 => ⟨S16x4x1x1, .i32⟩
  | 80 => ⟨S_, .i32⟩
  | 81 => ⟨S16x4x1x1, .i32⟩
  | 82 => ⟨S16x4x1x1, .i32⟩
  | 83 => ⟨S_, .i32⟩
  | 84 => ⟨S16x4x1x1, .i32⟩
  | 85 => ⟨S16x4x1x1, .i32⟩
  | 86 => ⟨S16x4x1x1, .i32⟩
  | 87 => ⟨S16x4x1x1, .i32⟩
  | 88 => ⟨S16x4x1x1, .i32⟩
  | 89 => ⟨S16x4x1x1, .i32⟩
  | 90 => ⟨S16x4x1x1, .i32⟩
  | 91 => ⟨S16x4x1x1, .i32⟩
  | 92 => ⟨S_, .i32⟩
  | 93 => ⟨S16x4x1x1, .i32⟩
  | 94 => ⟨S16x4x1x1, .i32⟩
  | 95 => ⟨S16x4x1x1, .i32⟩
  | 96 => ⟨S_, .i32⟩
  | 97 => ⟨S16x4x1x1, .i32⟩
  | 98 => ⟨S16x4x1x1, .i32⟩
  | 99 => ⟨S_, .i32⟩
  | 100 => ⟨S16x4x1x1, .i32⟩
  | 101 => ⟨S16x4x1x1, .i32⟩
  | 102 => ⟨S16x4x1x1, .i32⟩
  | 103 => ⟨S16x4x1x1, .i32⟩
  | 104 => ⟨S16x4x1x1, .i32⟩
  | 105 => ⟨S_, .i32⟩
  | 106 => ⟨S16x4x1x1, .i32⟩
  | 107 => ⟨S16x4x1x1, .i32⟩
  | 108 => ⟨S_, .i32⟩
  | 109 => ⟨S16x4x1x1, .i32⟩
  | 110 => ⟨S16x4x1x1, .i32⟩
  | 111 => ⟨S16x4x1x1, .i32⟩
  | 112 => ⟨S16x4x1x1, .i32⟩
  | 113 => ⟨S16x4x1x1, .i32⟩
  | 114 => ⟨S_, .i32⟩
  | 115 => ⟨S16x4x1x1, .i32⟩
  | 116 => ⟨S16x4x1x1, .i32⟩
  | 117 => ⟨S_, .i32⟩
  | 118 => ⟨S16x4x1x1, .i32⟩
  | 119 => ⟨S16x4x1x1, .i32⟩
  | 120 => ⟨S16x4x1x1, .i32⟩
  | 121 => ⟨S16x4x1x1, .i32⟩
  | 122 => ⟨S16x4x1x1, .i32⟩
  | 123 => ⟨S_, .i32⟩
  | 124 => ⟨S16x4x1x1, .i32⟩
  | 125 => ⟨S16x4x1x1, .i32⟩
  | 126 => ⟨S_, .i32⟩
  | 127 => ⟨S16x4x1x1, .i32⟩
  | _ => ⟨S16x4x2x262144, .f32⟩

abbrev hbmTy0_3 (i : Nat) : BufTy := match i % 128 with
  | 0 => ⟨S16x4x1x1, .i32⟩
  | 1 => ⟨S16x4x1x1, .i32⟩
  | 2 => ⟨S16x4x1x1, .i32⟩
  | 3 => ⟨S16x4x1x1, .i32⟩
  | 4 => ⟨S16x4x1x1, .i32⟩
  | 5 => ⟨S16x4x1x1, .i32⟩
  | 6 => ⟨S16x4x1x1, .i32⟩
  | 7 => ⟨S_, .i32⟩
  | 8 => ⟨S16x4x1x1, .i32⟩
  | 9 => ⟨S16x4x1x1, .i32⟩
  | 10 => ⟨S16x4x1x1, .i32⟩
  | 11 => ⟨S_, .i32⟩
  | 12 => ⟨S16x4x1x1, .i32⟩
  | 13 => ⟨S16x4x1x1, .i32⟩
  | 14 => ⟨S_, .i32⟩
  | 15 => ⟨S16x4x1x1, .i32⟩
  | 16 => ⟨S16x4x1x1, .i32⟩
  | 17 => ⟨S16x4x1x1, .i32⟩
  | 18 => ⟨S16x4x1x1, .i32⟩
  | 19 => ⟨S16x4x1x1, .i32⟩
  | 20 => ⟨S_, .i32⟩
  | 21 => ⟨S16x4x1x1, .i32⟩
  | 22 => ⟨S16x4x1x1, .i32⟩
  | 23 => ⟨S_, .i32⟩
  | 24 => ⟨S16x4x1x1, .i32⟩
  | 25 => ⟨S16x4x1x1, .i32⟩
  | 26 => ⟨S16x4x1x1, .i32⟩
  | 27 => ⟨S16x4x1x1, .i32⟩
  | 28 => ⟨S16x4x1x1, .i32⟩
  | 29 => ⟨S_, .i32⟩
  | 30 => ⟨S16x4x1x1, .i32⟩
  | 31 => ⟨S16x4x1x1, .i32⟩
  | 32 => ⟨S_, .i32⟩
  | 33 => ⟨S16x4x1x1, .i32⟩
  | 34 => ⟨S16x4x1x1, .i32⟩
  | 35 => ⟨S16x4x1x1, .i32⟩
  | 36 => ⟨S16x4x1x1, .i32⟩
  | 37 => ⟨S16x4x1x1, .i32⟩
  | 38 => ⟨S_, .i32⟩
  | 39 => ⟨S16x4x1x1, .i32⟩
  | 40 => ⟨S16x4x1x1, .i32⟩
  | 41 => ⟨S_, .i32⟩
  | 42 => ⟨S16x4x1x1, .i32⟩
  | 43 => ⟨S16x4x1x1, .i32⟩
  | 44 => ⟨S16x4x1x1, .i32⟩
  | 45 => ⟨S16x4x1x1, .i32⟩
  | 46 => ⟨S16x4x1x1, .i32⟩
  | 47 => ⟨S16x4x1x1, .i32⟩
  | 48 => ⟨S16x4x1x1, .i32⟩
  | 49 => ⟨S16x4x1x1, .i32⟩
  | 50 => ⟨S_, .i32⟩
  | 51 => ⟨S16x4x1x1, .i32⟩
  | 52 => ⟨S16x4x1x1, .i32⟩
  | 53 => ⟨S16x4x1x1, .i32⟩
  | 54 => ⟨S_, .i32⟩
  | 55 => ⟨S16x4x1x1, .i32⟩
  | 56 => ⟨S16x4x1x1, .i32⟩
  | 57 => ⟨S_, .i32⟩
  | 58 => ⟨S16x4x1x1, .i32⟩
  | 59 => ⟨S16x4x1x1, .i32⟩
  | 60 => ⟨S16x4x1x1, .i32⟩
  | 61 => ⟨S16x4x1x1, .i32⟩
  | 62 => ⟨S16x4x1x1, .i32⟩
  | 63 => ⟨S_, .i32⟩
  | 64 => ⟨S16x4x1x1, .i32⟩
  | 65 => ⟨S16x4x1x1, .i32⟩
  | 66 => ⟨S_, .i32⟩
  | 67 => ⟨S16x4x1x1, .i32⟩
  | 68 => ⟨S16x4x1x1, .i32⟩
  | 69 => ⟨S16x4x1x1, .i32⟩
  | 70 => ⟨S16x4x1x1, .i32⟩
  | 71 => ⟨S16x4x1x1, .i32⟩
  | 72 => ⟨S_, .i32⟩
  | 73 => ⟨S16x4x1x1, .i32⟩
  | 74 => ⟨S16x4x1x1, .i32⟩
  | 75 => ⟨S_, .i32⟩
  | 76 => ⟨S16x4x1x1, .i32⟩
  | 77 => ⟨S16x4x1x1, .i32⟩
  | 78 => ⟨S16x4x1x1, .i32⟩
  | 79 => ⟨S16x4x1x1, .i32⟩
  | 80 => ⟨S16x4x1x1, .i32⟩
  | 81 => ⟨S_, .i32⟩
  | 82 => ⟨S16x4x1x1, .i32⟩
  | 83 => ⟨S16x4x1x1, .i32⟩
  | 84 => ⟨S_, .i32⟩
  | 85 => ⟨S16x4x1x1, .i32⟩
  | 86 => ⟨S16x4x1x1, .i32⟩
  | 87 => ⟨S16x4x1x1, .i32⟩
  | 88 => ⟨S16x4x1x1, .i32⟩
  | 89 => ⟨S16x4x1x1, .i32⟩
  | 90 => ⟨S16x4x1x1, .i32⟩
  | 91 => ⟨S16x4x1x1, .i32⟩
  | 92 => ⟨S16x4x1x1, .i32⟩
  | 93 => ⟨S_, .i32⟩
  | 94 => ⟨S16x4x1x1, .i32⟩
  | 95 => ⟨S16x4x1x1, .i32⟩
  | 96 => ⟨S16x4x1x1, .i32⟩
  | 97 => ⟨S_, .i32⟩
  | 98 => ⟨S16x4x1x1, .i32⟩
  | 99 => ⟨S16x4x1x1, .i32⟩
  | 100 => ⟨S_, .i32⟩
  | 101 => ⟨S16x4x1x1, .i32⟩
  | 102 => ⟨S16x4x1x1, .i32⟩
  | 103 => ⟨S16x4x1x1, .i32⟩
  | 104 => ⟨S16x4x1x1, .i32⟩
  | 105 => ⟨S16x4x1x1, .i32⟩
  | 106 => ⟨S_, .i32⟩
  | 107 => ⟨S16x4x1x1, .i32⟩
  | 108 => ⟨S16x4x1x1, .i32⟩
  | 109 => ⟨S_, .i32⟩
  | 110 => ⟨S16x4x1x1, .i32⟩
  | 111 => ⟨S16x4x1x1, .i32⟩
  | 112 => ⟨S16x4x1x1, .i32⟩
  | 113 => ⟨S16x4x1x1, .i32⟩
  | 114 => ⟨S16x4x1x1, .i32⟩
  | 115 => ⟨S_, .i32⟩
  | 116 => ⟨S16x4x1x1, .i32⟩
  | 117 => ⟨S16x4x1x1, .i32⟩
  | 118 => ⟨S_, .i32⟩
  | 119 => ⟨S16x4x1x1, .i32⟩
  | 120 => ⟨S16x4x1x1, .i32⟩
  | 121 => ⟨S16x4x1x1, .i32⟩
  | 122 => ⟨S16x4x1x1, .i32⟩
  | 123 => ⟨S16x4x1x1, .i32⟩
  | 124 => ⟨S_, .i32⟩
  | 125 => ⟨S16x4x1x1, .i32⟩
  | 126 => ⟨S16x4x1x1, .i32⟩
  | 127 => ⟨S_, .i32⟩
  | _ => ⟨S16x4x2x262144, .f32⟩

abbrev hbmTy0_4 (i : Nat) : BufTy := match i % 128 with
  | 0 => ⟨S16x4x1x1, .i32⟩
  | 1 => ⟨S16x4x1x1, .i32⟩
  | 2 => ⟨S16x4x1x1, .i32⟩
  | 3 => ⟨S16x4x1x1, .i32⟩
  | 4 => ⟨S16x4x1x1, .i32⟩
  | 5 => ⟨S16x4x1x1, .i32⟩
  | 6 => ⟨S16x4x1x1, .i32⟩
  | 7 => ⟨S16x4x1x1, .i32⟩
  | 8 => ⟨S_, .i32⟩
  | 9 => ⟨S16x4x1x1, .i32⟩
  | 10 => ⟨S16x4x1x1, .i32⟩
  | 11 => ⟨S16x4x1x1, .i32⟩
  | 12 => ⟨S1, .i32⟩
  | 13 => ⟨S_, .i32⟩
  | 14 => ⟨S1, .i32⟩
  | 15 => ⟨S_, .i32⟩
  | 16 => ⟨S16x4x1x1, .i64⟩
  | 17 => ⟨S16x4x1x1, .i64⟩
  | 18 => ⟨S16x4x1x1, .i64⟩
  | 19 => ⟨S16x4x1x1, .i64⟩
  | 20 => ⟨S_, .i64⟩
  | 21 => ⟨S16x4x1x1, .i64⟩
  | 22 => ⟨S16x4x1x1, .i64⟩
  | 23 => ⟨S_, .i64⟩
  | 24 => ⟨S16x4x1x1, .i64⟩
  | 25 => ⟨S16x4x1x1, .i64⟩
  | 26 => ⟨S_, .i64⟩
  | 27 => ⟨S16x4x1x1, .i64⟩
  | 28 => ⟨S16x4x1x1, .i64⟩
  | 29 => ⟨S_, .i64⟩
  | 30 => ⟨S16x4x1x1, .i64⟩
  | 31 => ⟨S16x4x1x1, .i64⟩
  | 32 => ⟨S16x4x1x1, .i64⟩
  | 33 => ⟨S16x4x1x1, .i64⟩
  | 34 => ⟨S16x4x1x1, .i64⟩
  | 35 => ⟨S_, .i64⟩
  | 36 => ⟨S16x4x1x1, .i64⟩
  | 37 => ⟨S16x4x1x1, .i64⟩
  | 38 => ⟨S16x4x1x1, .i32⟩
  | 39 => ⟨S16x4x1x1, .i32⟩
  | 40 => ⟨S_, .i32⟩
  | 41 => ⟨S_, .i32⟩
  | 42 => ⟨S_, .i32⟩
  | 43 => ⟨S16x4x1x1, .i32⟩
  | 44 => ⟨S16x4x1x1, .i32⟩
  | 45 => ⟨S16x4x1x1, .i32⟩
  | 46 => ⟨S16x4x1x1, .i32⟩
  | 47 => ⟨S16x4x1x1, .i32⟩
  | 48 => ⟨S_, .i32⟩
  | 49 => ⟨S16x4x1x1, .i32⟩
  | 50 => ⟨S16x4x1x1, .i32⟩
  | 51 => ⟨S_, .i32⟩
  | 52 => ⟨S16x4x1x1, .i32⟩
  | 53 => ⟨S16x4x1x1, .i32⟩
  | 54 => ⟨S16x4x1x1, .i32⟩
  | 55 => ⟨S16x4x1x1, .i32⟩
  | 56 => ⟨S16x4x1x1, .i32⟩
  | 57 => ⟨S_, .i32⟩
  | 58 => ⟨S16x4x1x1, .i32⟩
  | 59 => ⟨S16x4x1x1, .i32⟩
  | 60 => ⟨S_, .i32⟩
  | 61 => ⟨S16x4x1x1, .i32⟩
  | 62 => ⟨S16x4x1x1, .i32⟩
  | 63 => ⟨S16x4x1x1, .i32⟩
  | 64 => ⟨S16x4x1x1, .i32⟩
  | 65 => ⟨S16x4x1x1, .i32⟩
  | 66 => ⟨S_, .i32⟩
  | 67 => ⟨S16x4x1x1, .i32⟩
  | 68 => ⟨S16x4x1x1, .i32⟩
  | 69 => ⟨S_, .i32⟩
  | 70 => ⟨S16x4x1x1, .i32⟩
  | 71 => ⟨S16x4x1x1, .i32⟩
  | 72 => ⟨S16x4x1x1, .i32⟩
  | 73 => ⟨S16x4x1x1, .i32⟩
  | 74 => ⟨S16x4x1x1, .i32⟩
  | 75 => ⟨S_, .i32⟩
  | 76 => ⟨S16x4x1x1, .i32⟩
  | 77 => ⟨S16x4x1x1, .i32⟩
  | 78 => ⟨S_, .i32⟩
  | 79 => ⟨S16x4x1x1, .i32⟩
  | 80 => ⟨S16x4x1x1, .i32⟩
  | 81 => ⟨S16x4x1x1, .i32⟩
  | 82 => ⟨S16x4x1x1, .i32⟩
  | 83 => ⟨S16x4x1x1, .i32⟩
  | 84 => ⟨S16x4x1x1, .i32⟩
  | 85 => ⟨S16x4x1x1, .i32⟩
  | 86 => ⟨S16x4x1x1, .i32⟩
  | 87 => ⟨S_, .i32⟩
  | 88 => ⟨S16x4x1x1, .i32⟩
  | 89 => ⟨S16x4x1x1, .i32⟩
  | 90 => ⟨S16x4x1x1, .i32⟩
  | 91 => ⟨S_, .i32⟩
  | 92 => ⟨S16x4x1x1, .i32⟩
  | 93 => ⟨S16x4x1x1, .i32⟩
  | 94 => ⟨S_, .i32⟩
  | 95 => ⟨S16x4x1x1, .i32⟩
  | 96 => ⟨S16x4x1x1, .i32⟩
  | 97 => ⟨S16x4x1x1, .i32⟩
  | 98 => ⟨S16x4x1x1, .i32⟩
  | 99 => ⟨S16x4x1x1, .i32⟩
  | 100 => ⟨S_, .i32⟩
  | 101 => ⟨S16x4x1x1, .i32⟩
  | 102 => ⟨S16x4x1x1, .i32⟩
  | 103 => ⟨S_, .i32⟩
  | 104 => ⟨S16x4x1x1, .i32⟩
  | 105 => ⟨S16x4x1x1, .i32⟩
  | 106 => ⟨S16x4x1x1, .i32⟩
  | 107 => ⟨S16x4x1x1, .i32⟩
  | 108 => ⟨S16x4x1x1, .i32⟩
  | 109 => ⟨S_, .i32⟩
  | 110 => ⟨S16x4x1x1, .i32⟩
  | 111 => ⟨S16x4x1x1, .i32⟩
  | 112 => ⟨S_, .i32⟩
  | 113 => ⟨S16x4x1x1, .i32⟩
  | 114 => ⟨S16x4x1x1, .i32⟩
  | 115 => ⟨S16x4x1x1, .i32⟩
  | 116 => ⟨S16x4x1x1, .i32⟩
  | 117 => ⟨S16x4x1x1, .i32⟩
  | 118 => ⟨S_, .i32⟩
  | 119 => ⟨S16x4x1x1, .i32⟩
  | 120 => ⟨S16x4x1x1, .i32⟩
  | 121 => ⟨S_, .i32⟩
  | 122 => ⟨S16x4x1x1, .i32⟩
  | 123 => ⟨S16x4x1x1, .i32⟩
  | 124 => ⟨S16x4x1x1, .i32⟩
  | 125 => ⟨S16x4x1x1, .i32⟩
  | 126 => ⟨S16x4x1x1, .i32⟩
  | 127 => ⟨S16x4x1x1, .i32⟩
  | _ => ⟨S16x4x2x262144, .f32⟩

abbrev hbmTy0_5 (i : Nat) : BufTy := match i % 128 with
  | 0 => ⟨S16x4x1x1, .i32⟩
  | 1 => ⟨S16x4x1x1, .i32⟩
  | 2 => ⟨S_, .i32⟩
  | 3 => ⟨S16x4x1x1, .i32⟩
  | 4 => ⟨S16x4x1x1, .i32⟩
  | 5 => ⟨S16x4x1x1, .i32⟩
  | 6 => ⟨S_, .i32⟩
  | 7 => ⟨S16x4x1x1, .i32⟩
  | 8 => ⟨S16x4x1x1, .i32⟩
  | 9 => ⟨S_, .i32⟩
  | 10 => ⟨S16x4x1x1, .i32⟩
  | 11 => ⟨S16x4x1x1, .i32⟩
  | 12 => ⟨S16x4x1x1, .i32⟩
  | 13 => ⟨S16x4x1x1, .i32⟩
  | 14 => ⟨S16x4x1x1, .i32⟩
  | 15 => ⟨S_, .i32⟩
  | 16 => ⟨S16x4x1x1, .i32⟩
  | 17 => ⟨S16x4x1x1, .i32⟩
  | 18 => ⟨S_, .i32⟩
  | 19 => ⟨S16x4x1x1, .i32⟩
  | 20 => ⟨S16x4x1x1, .i32⟩
  | 21 => ⟨S16x4x1x1, .i32⟩
  | 22 => ⟨S16x4x1x1, .i32⟩
  | 23 => ⟨S16x4x1x1, .i32⟩
  | 24 => ⟨S_, .i32⟩
  | 25 => ⟨S16x4x1x1, .i32⟩
  | 26 => ⟨S16x4x1x1, .i32⟩
  | 27 => ⟨S_, .i32⟩
  | 28 => ⟨S16x4x1x1, .i32⟩
  | 29 => ⟨S16x4x1x1, .i32⟩
  | 30 => ⟨S16x4x1x1, .i32⟩
  | 31 => ⟨S16x4x1x1, .i32⟩
  | 32 => ⟨S16x4x1x1, .i32⟩
  | 33 => ⟨S_, .i32⟩
  | 34 => ⟨S16x4x1x1, .i32⟩
  | 35 => ⟨S16x4x1x1, .i32⟩
  | 36 => ⟨S_, .i32⟩
  | 37 => ⟨S16x4x1x1, .i32⟩
  | 38 => ⟨S16x4x1x1, .i32⟩
  | 39 => ⟨S16x4x1x1, .i32⟩
  | 40 => ⟨S16x4x1x1, .i32⟩
  | 41 => ⟨S16x4x1x1, .i32⟩
  | 42 => ⟨S16x4x1x1, .i32⟩
  | 43 => ⟨S16x4x1x1, .i32⟩
  | 44 => ⟨S16x4x1x1, .i32⟩
  | 45 => ⟨S_, .i32⟩
  | 46 => ⟨S16x4x1x1, .i32⟩
  | 47 => ⟨S16x4x1x1, .i32⟩
  | 48 => ⟨S16x4x1x1, .i32⟩
  | 49 => ⟨S_, .i32⟩
  | 50 => ⟨S16x4x1x1, .i32⟩
  | 51 => ⟨S16x4x1x1, .i32⟩
  | 52 => ⟨S_, .i32⟩
  | 53 => ⟨S16x4x1x1, .i32⟩
  | 54 => ⟨S16x4x1x1, .i32⟩
  | 55 => ⟨S16x4x1x1, .i32⟩
  | 56 => ⟨S16x4x1x1, .i32⟩
  | 57 => ⟨S16x4x1x1, .i32⟩
  | 58 => ⟨S_, .i32⟩
  | 59 => ⟨S16x4x1x1, .i32⟩
  | 60 => ⟨S16x4x1x1, .i32⟩
  | 61 => ⟨S_, .i32⟩
  | 62 => ⟨S16x4x1x1, .i32⟩
  | 63 => ⟨S16x4x1x1, .i32⟩
  | 64 => ⟨S16x4x1x1, .i32⟩
  | 65 => ⟨S16x4x1x1, .i32⟩
  | 66 => ⟨S16x4x1x1, .i32⟩
  | 67 => ⟨S_, .i32⟩
  | 68 => ⟨S16x4x1x1, .i32⟩
  | 69 => ⟨S16x4x1x1, .i32⟩
  | 70 => ⟨S_, .i32⟩
  | 71 => ⟨S16x4x1x1, .i32⟩
  | 72 => ⟨S16x4x1x1, .i32⟩
  | 73 => ⟨S16x4x1x1, .i32⟩
  | 74 => ⟨S16x4x1x1, .i32⟩
  | 75 => ⟨S16x4x1x1, .i32⟩
  | 76 => ⟨S_, .i32⟩
  | 77 => ⟨S16x4x1x1, .i32⟩
  | 78 => ⟨S16x4x1x1, .i32⟩
  | 79 => ⟨S_, .i32⟩
  | 80 => ⟨S16x4x1x1, .i32⟩
  | 81 => ⟨S16x4x1x1, .i32⟩
  | 82 => ⟨S16x4x1x1, .i32⟩
  | 83 => ⟨S16x4x1x1, .i32⟩
  | 84 => ⟨S16x4x1x1, .i32⟩
  | 85 => ⟨S16x4x1x1, .i32⟩
  | 86 => ⟨S16x4x1x1, .i32⟩
  | 87 => ⟨S16x4x1x1, .i32⟩
  | 88 => ⟨S_, .i32⟩
  | 89 => ⟨S16x4x1x1, .i32⟩
  | 90 => ⟨S16x4x1x1, .i32⟩
  | 91 => ⟨S16x4x1x1, .i32⟩
  | 92 => ⟨S_, .i32⟩
  | 93 => ⟨S16x4x1x1, .i32⟩
  | 94 => ⟨S16x4x1x1, .i32⟩
  | 95 => ⟨S_, .i32⟩
  | 96 => ⟨S16x4x1x1, .i32⟩
  | 97 => ⟨S16x4x1x1, .i32⟩
  | 98 => ⟨S16x4x1x1, .i32⟩
  | 99 => ⟨S16x4x1x1, .i32⟩
  | 100 => ⟨S16x4x1x1, .i32⟩
  | 101 => ⟨S_, .i32⟩
  | 102 => ⟨S16x4x1x1, .i32⟩
  | 103 => ⟨S16x4x1x1, .i32⟩
  | 104 => ⟨S_, .i32⟩
  | 105 => ⟨S16x4x1x1, .i32⟩
  | 106 => ⟨S16x4x1x1, .i32⟩
  | 107 => ⟨S16x4x1x1, .i32⟩
  | 108 => ⟨S16x4x1x1, .i32⟩
  | 109 => ⟨S16x4x1x1, .i32⟩
  | 110 => ⟨S_, .i32⟩
  | 111 => ⟨S16x4x1x1, .i32⟩
  | 112 => ⟨S16x4x1x1, .i32⟩
  | 113 => ⟨S_, .i32⟩
  | 114 => ⟨S16x4x1x1, .i32⟩
  | 115 => ⟨S16x4x1x1, .i32⟩
  | 116 => ⟨S16x4x1x1, .i32⟩
  | 117 => ⟨S16x4x1x1, .i32⟩
  | 118 => ⟨S16x4x1x1, .i32⟩
  | 119 => ⟨S_, .i32⟩
  | 120 => ⟨S16x4x1x1, .i32⟩
  | 121 => ⟨S16x4x1x1, .i32⟩
  | 122 => ⟨S_, .i32⟩
  | 123 => ⟨S16x4x1x1, .i32⟩
  | 124 => ⟨S16x4x1x1, .i32⟩
  | 125 => ⟨S16x4x1x1, .i32⟩
  | 126 => ⟨S16x4x1x1, .i32⟩
  | 127 => ⟨S16x4x1x1, .i32⟩
  | _ => ⟨S16x4x2x262144, .f32⟩

abbrev hbmTy0_6 (i : Nat) : BufTy := match i % 128 with
  | 0 => ⟨S16x4x1x1, .i32⟩
  | 1 => ⟨S16x4x1x1, .i32⟩
  | 2 => ⟨S16x4x1x1, .i32⟩
  | 3 => ⟨S_, .i32⟩
  | 4 => ⟨S16x4x1x1, .i32⟩
  | 5 => ⟨S16x4x1x1, .i32⟩
  | 6 => ⟨S16x4x1x1, .i32⟩
  | 7 => ⟨S1x1x1x1, .i32⟩
  | 8 => ⟨S1x1x1x1, .i32⟩
  | 9 => ⟨S1x1x1x1, .i1⟩
  | 10 => ⟨S_, .i32⟩
  | 11 => ⟨S1x1x1x1, .i32⟩
  | 12 => ⟨S1x1x1x1, .i32⟩
  | 13 => ⟨S1x1x1x1, .i1⟩
  | 14 => ⟨S1x1x1x1, .i1⟩
  | 15 => ⟨S1x1x1x1, .i1⟩
  | 16 => ⟨S_, .i32⟩
  | 17 => ⟨S1x1x1x1, .i32⟩
  | 18 => ⟨S1x1x1x1, .i32⟩
  | 19 => ⟨S1x1x1x1, .i32⟩
  | 20 => ⟨S_, .i32⟩
  | 21 => ⟨S1x1x1x1, .i32⟩
  | 22 => ⟨S1x1x1x1, .i32⟩
  | 23 => ⟨S1x1x1x1, .i32⟩
  | 24 => ⟨S1x1x1x1, .i32⟩
  | 25 => ⟨S16x4x1x1, .i32⟩
  | 26 => ⟨S16x4x1x1, .i32⟩
  | 27 => ⟨S16x4x1x1, .i32⟩
  | 28 => ⟨S16x4x1x1, .i32⟩
  | 29 => ⟨S16x4x1x1, .i32⟩
  | 30 => ⟨S16x4x1x1, .i32⟩
  | 31 => ⟨S16x4x1x1, .i32⟩
  | 32 => ⟨S16x4x1x1, .i32⟩
  | 33 => ⟨S16x4x1x1, .i32⟩
  | 34 => ⟨S16x4x1x1, .i32⟩
  | 35 => ⟨S16x4x1x1, .i32⟩
  | 36 => ⟨S16x4x1x1, .i32⟩
  | 37 => ⟨S16x4x2x1, .i32⟩
  | 38 => ⟨S253952, .i32⟩
  | 39 => ⟨S1x1x1x253952, .i32⟩
  | 40 => ⟨S16x4x2x253952, .i32⟩
  | 41 => ⟨S16x4x2x253952, .i32⟩
  | 42 => ⟨S16x4x2x253952, .i32⟩
  | 43 => ⟨S_, .i32⟩
  | 44 => ⟨S16x4x2x253952, .i32⟩
  | 45 => ⟨S16x4x2x253952, .i1⟩
  | 46 => ⟨S_, .i32⟩
  | 47 => ⟨S16x4x2x253952, .i32⟩
  | 48 => ⟨S16x4x2x253952, .i32⟩
  | 49 => ⟨S16x4x2x253952, .i32⟩
  | 50 => ⟨S16x4x2x253952x1, .i32⟩
  | 51 => ⟨S1, .i32⟩
  | 52 => ⟨S_, .i32⟩
  | 53 => ⟨S16x4x2x253952x1, .i32⟩
  | 54 => ⟨S16x4x2x253952x1, .i1⟩
  | 55 => ⟨S1x1x1x1x1, .i32⟩
  | 56 => ⟨S16x4x2x253952x1, .i32⟩
  | 57 => ⟨S16x4x2x253952x1, .i1⟩
  | 58 => ⟨S16x4x2x253952x1, .i1⟩
  | 59 => ⟨S_, .i1⟩
  | 60 => ⟨S16x4x2x253952, .i1⟩
  | 61 => ⟨S16x4x2x253952, .f32⟩
  | 62 => ⟨S_, .f32⟩
  | 63 => ⟨S16x4x2x253952, .f32⟩
  | 64 => ⟨S16x4x2x253952, .f32⟩
  | _ => ⟨S16x4x2x262144, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S16x4x2x262144, .f32⟩

abbrev bufTy : (tb : Table) → Fin (tcTables nBuf tb) → BufTy
  | .hbm, ⟨i, _⟩ => hbmTy i
  | _, _ => ⟨S16x4x2x262144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c_2 : Ref sig .tc := ⟨.hbm, 11, rfl⟩
abbrev main_c_3 : Ref sig .tc := ⟨.hbm, 12, rfl⟩
abbrev main_call0_c : Ref sig .tc := ⟨.hbm, 13, rfl⟩
abbrev main_call0_c_0 : Ref sig .tc := ⟨.hbm, 14, rfl⟩
abbrev main_call0_c_1 : Ref sig .tc := ⟨.hbm, 15, rfl⟩
abbrev main_call0_call0_v0 : Ref sig .tc := ⟨.hbm, 16, rfl⟩
abbrev main_call0_v0 : Ref sig .tc := ⟨.hbm, 17, rfl⟩
abbrev main_call0_v1 : Ref sig .tc := ⟨.hbm, 18, rfl⟩
abbrev main_call0_c_2 : Ref sig .tc := ⟨.hbm, 19, rfl⟩
abbrev main_call0_c_3 : Ref sig .tc := ⟨.hbm, 20, rfl⟩
abbrev main_call0_call1_v0 : Ref sig .tc := ⟨.hbm, 21, rfl⟩
abbrev main_call0_v2 : Ref sig .tc := ⟨.hbm, 22, rfl⟩
abbrev main_call0_v3 : Ref sig .tc := ⟨.hbm, 23, rfl⟩
abbrev main_call0_c_4 : Ref sig .tc := ⟨.hbm, 24, rfl⟩
abbrev main_call0_c_5 : Ref sig .tc := ⟨.hbm, 25, rfl⟩
abbrev main_call0_call2_v0 : Ref sig .tc := ⟨.hbm, 26, rfl⟩
abbrev main_call0_v4 : Ref sig .tc := ⟨.hbm, 27, rfl⟩
abbrev main_call0_v5 : Ref sig .tc := ⟨.hbm, 28, rfl⟩
abbrev main_call0_v6 : Ref sig .tc := ⟨.hbm, 29, rfl⟩
abbrev main_call0_v7 : Ref sig .tc := ⟨.hbm, 30, rfl⟩
abbrev main_call0_call3_v0 : Ref sig .tc := ⟨.hbm, 31, rfl⟩
abbrev main_call0_call3_v1 : Ref sig .tc := ⟨.hbm, 32, rfl⟩
abbrev main_call0_call3_v2 : Ref sig .tc := ⟨.hbm, 33, rfl⟩
abbrev main_call0_call3_v3 : Ref sig .tc := ⟨.hbm, 34, rfl⟩
abbrev main_call0_call3_v4 : Ref sig .tc := ⟨.hbm, 35, rfl⟩
abbrev main_call0_call3_c : Ref sig .tc := ⟨.hbm, 36, rfl⟩
abbrev main_call0_call3_v5 : Ref sig .tc := ⟨.hbm, 37, rfl⟩
abbrev main_call0_call3_v6 : Ref sig .tc := ⟨.hbm, 38, rfl⟩
abbrev main_call0_call3_c_0 : Ref sig .tc := ⟨.hbm, 39, rfl⟩
abbrev main_call0_call3_v7 : Ref sig .tc := ⟨.hbm, 40, rfl⟩
abbrev main_call0_call3_v8 : Ref sig .tc := ⟨.hbm, 41, rfl⟩
abbrev main_call0_call3_v9 : Ref sig .tc := ⟨.hbm, 42, rfl⟩
abbrev main_call0_call3_v10 : Ref sig .tc := ⟨.hbm, 43, rfl⟩
abbrev main_call0_call3_call0_v0 : Ref sig .tc := ⟨.hbm, 44, rfl⟩
abbrev main_call0_call3_call0_c : Ref sig .tc := ⟨.hbm, 45, rfl⟩
abbrev main_call0_call3_call0_v1 : Ref sig .tc := ⟨.hbm, 46, rfl⟩
abbrev main_call0_call3_call0_v2 : Ref sig .tc := ⟨.hbm, 47, rfl⟩
abbrev main_call0_call3_call0_v3 : Ref sig .tc := ⟨.hbm, 48, rfl⟩
abbrev main_call0_call3_call0_v4 : Ref sig .tc := ⟨.hbm, 49, rfl⟩
abbrev main_call0_call3_call0_v5 : Ref sig .tc := ⟨.hbm, 50, rfl⟩
abbrev main_call0_call3_call0_v6 : Ref sig .tc := ⟨.hbm, 51, rfl⟩
abbrev main_call0_call3_call0_c_0 : Ref sig .tc := ⟨.hbm, 52, rfl⟩
abbrev main_call0_call3_call0_v7 : Ref sig .tc := ⟨.hbm, 53, rfl⟩
abbrev main_call0_call3_call0_v8 : Ref sig .tc := ⟨.hbm, 54, rfl⟩
abbrev main_call0_call3_call0_c_1 : Ref sig .tc := ⟨.hbm, 55, rfl⟩
abbrev main_call0_call3_call0_v9 : Ref sig .tc := ⟨.hbm, 56, rfl⟩
abbrev main_call0_call3_call0_v10 : Ref sig .tc := ⟨.hbm, 57, rfl⟩
abbrev main_call0_call3_call0_v11 : Ref sig .tc := ⟨.hbm, 58, rfl⟩
abbrev main_call0_call3_call0_v12 : Ref sig .tc := ⟨.hbm, 59, rfl⟩
abbrev main_call0_call3_call0_v13 : Ref sig .tc := ⟨.hbm, 60, rfl⟩
abbrev main_call0_call3_call0_c_2 : Ref sig .tc := ⟨.hbm, 61, rfl⟩
abbrev main_call0_call3_call0_v14 : Ref sig .tc := ⟨.hbm, 62, rfl⟩
abbrev main_call0_call3_call0_v15 : Ref sig .tc := ⟨.hbm, 63, rfl⟩
abbrev main_call0_call3_call0_c_3 : Ref sig .tc := ⟨.hbm, 64, rfl⟩
abbrev main_call0_call3_call0_v16 : Ref sig .tc := ⟨.hbm, 65, rfl⟩
abbrev main_call0_call3_call0_v17 : Ref sig .tc := ⟨.hbm, 66, rfl⟩
abbrev main_call0_call3_call0_v18 : Ref sig .tc := ⟨.hbm, 67, rfl⟩
abbrev main_call0_call3_call0_v19 : Ref sig .tc := ⟨.hbm, 68, rfl⟩
abbrev main_call0_call3_call0_v20 : Ref sig .tc := ⟨.hbm, 69, rfl⟩
abbrev main_call0_call3_call0_c_4 : Ref sig .tc := ⟨.hbm, 70, rfl⟩
abbrev main_call0_call3_call0_v21 : Ref sig .tc := ⟨.hbm, 71, rfl⟩
abbrev main_call0_call3_call0_v22 : Ref sig .tc := ⟨.hbm, 72, rfl⟩
abbrev main_call0_call3_call0_c_5 : Ref sig .tc := ⟨.hbm, 73, rfl⟩
abbrev main_call0_call3_call0_v23 : Ref sig .tc := ⟨.hbm, 74, rfl⟩
abbrev main_call0_call3_call0_v24 : Ref sig .tc := ⟨.hbm, 75, rfl⟩
abbrev main_call0_call3_call0_v25 : Ref sig .tc := ⟨.hbm, 76, rfl⟩
abbrev main_call0_call3_call0_v26 : Ref sig .tc := ⟨.hbm, 77, rfl⟩
abbrev main_call0_call3_call0_v27 : Ref sig .tc := ⟨.hbm, 78, rfl⟩
abbrev main_call0_call3_call0_c_6 : Ref sig .tc := ⟨.hbm, 79, rfl⟩
abbrev main_call0_call3_call0_v28 : Ref sig .tc := ⟨.hbm, 80, rfl⟩
abbrev main_call0_call3_call0_v29 : Ref sig .tc := ⟨.hbm, 81, rfl⟩
abbrev main_call0_call3_call0_c_7 : Ref sig .tc := ⟨.hbm, 82, rfl⟩
abbrev main_call0_call3_call0_v30 : Ref sig .tc := ⟨.hbm, 83, rfl⟩
abbrev main_call0_call3_call0_v31 : Ref sig .tc := ⟨.hbm, 84, rfl⟩
abbrev main_call0_call3_call0_v32 : Ref sig .tc := ⟨.hbm, 85, rfl⟩
abbrev main_call0_call3_call0_v33 : Ref sig .tc := ⟨.hbm, 86, rfl⟩
abbrev main_call0_call3_call0_v34 : Ref sig .tc := ⟨.hbm, 87, rfl⟩
abbrev main_call0_call3_call0_v35 : Ref sig .tc := ⟨.hbm, 88, rfl⟩
abbrev main_call0_call3_call0_v36 : Ref sig .tc := ⟨.hbm, 89, rfl⟩
abbrev main_call0_call3_call0_v37 : Ref sig .tc := ⟨.hbm, 90, rfl⟩
abbrev main_call0_call3_call0_c_8 : Ref sig .tc := ⟨.hbm, 91, rfl⟩
abbrev main_call0_call3_call0_v38 : Ref sig .tc := ⟨.hbm, 92, rfl⟩
abbrev main_call0_call3_call0_v39 : Ref sig .tc := ⟨.hbm, 93, rfl⟩
abbrev main_call0_call3_call0_v40 : Ref sig .tc := ⟨.hbm, 94, rfl⟩
abbrev main_call0_call3_call0_c_9 : Ref sig .tc := ⟨.hbm, 95, rfl⟩
abbrev main_call0_call3_call0_v41 : Ref sig .tc := ⟨.hbm, 96, rfl⟩
abbrev main_call0_call3_call0_v42 : Ref sig .tc := ⟨.hbm, 97, rfl⟩
abbrev main_call0_call3_call0_c_10 : Ref sig .tc := ⟨.hbm, 98, rfl⟩
abbrev main_call0_call3_call0_v43 : Ref sig .tc := ⟨.hbm, 99, rfl⟩
abbrev main_call0_call3_call0_v44 : Ref sig .tc := ⟨.hbm, 100, rfl⟩
abbrev main_call0_call3_call0_v45 : Ref sig .tc := ⟨.hbm, 101, rfl⟩
abbrev main_call0_call3_call0_v46 : Ref sig .tc := ⟨.hbm, 102, rfl⟩
abbrev main_call0_call3_call0_v47 : Ref sig .tc := ⟨.hbm, 103, rfl⟩
abbrev main_call0_call3_call0_c_11 : Ref sig .tc := ⟨.hbm, 104, rfl⟩
abbrev main_call0_call3_call0_v48 : Ref sig .tc := ⟨.hbm, 105, rfl⟩
abbrev main_call0_call3_call0_v49 : Ref sig .tc := ⟨.hbm, 106, rfl⟩
abbrev main_call0_call3_call0_c_12 : Ref sig .tc := ⟨.hbm, 107, rfl⟩
abbrev main_call0_call3_call0_v50 : Ref sig .tc := ⟨.hbm, 108, rfl⟩
abbrev main_call0_call3_call0_v51 : Ref sig .tc := ⟨.hbm, 109, rfl⟩
abbrev main_call0_call3_call0_v52 : Ref sig .tc := ⟨.hbm, 110, rfl⟩
abbrev main_call0_call3_call0_v53 : Ref sig .tc := ⟨.hbm, 111, rfl⟩
abbrev main_call0_call3_call0_v54 : Ref sig .tc := ⟨.hbm, 112, rfl⟩
abbrev main_call0_call3_call0_c_13 : Ref sig .tc := ⟨.hbm, 113, rfl⟩
abbrev main_call0_call3_call0_v55 : Ref sig .tc := ⟨.hbm, 114, rfl⟩
abbrev main_call0_call3_call0_v56 : Ref sig .tc := ⟨.hbm, 115, rfl⟩
abbrev main_call0_call3_call0_c_14 : Ref sig .tc := ⟨.hbm, 116, rfl⟩
abbrev main_call0_call3_call0_v57 : Ref sig .tc := ⟨.hbm, 117, rfl⟩
abbrev main_call0_call3_call0_v58 : Ref sig .tc := ⟨.hbm, 118, rfl⟩
abbrev main_call0_call3_call0_v59 : Ref sig .tc := ⟨.hbm, 119, rfl⟩
abbrev main_call0_call3_call0_v60 : Ref sig .tc := ⟨.hbm, 120, rfl⟩
abbrev main_call0_call3_call0_v61 : Ref sig .tc := ⟨.hbm, 121, rfl⟩
abbrev main_call0_call3_call0_c_15 : Ref sig .tc := ⟨.hbm, 122, rfl⟩
abbrev main_call0_call3_call0_v62 : Ref sig .tc := ⟨.hbm, 123, rfl⟩
abbrev main_call0_call3_call0_v63 : Ref sig .tc := ⟨.hbm, 124, rfl⟩
abbrev main_call0_call3_call0_c_16 : Ref sig .tc := ⟨.hbm, 125, rfl⟩
abbrev main_call0_call3_call0_v64 : Ref sig .tc := ⟨.hbm, 126, rfl⟩
abbrev main_call0_call3_call0_v65 : Ref sig .tc := ⟨.hbm, 127, rfl⟩
abbrev main_call0_call3_call0_v66 : Ref sig .tc := ⟨.hbm, 128, rfl⟩
abbrev main_call0_call3_call0_v67 : Ref sig .tc := ⟨.hbm, 129, rfl⟩
abbrev main_call0_call3_call0_v68 : Ref sig .tc := ⟨.hbm, 130, rfl⟩
abbrev main_call0_call3_call0_v69 : Ref sig .tc := ⟨.hbm, 131, rfl⟩
abbrev main_call0_call3_call0_v70 : Ref sig .tc := ⟨.hbm, 132, rfl⟩
abbrev main_call0_call3_call0_v71 : Ref sig .tc := ⟨.hbm, 133, rfl⟩
abbrev main_call0_call3_call0_c_17 : Ref sig .tc := ⟨.hbm, 134, rfl⟩
abbrev main_call0_call3_call0_v72 : Ref sig .tc := ⟨.hbm, 135, rfl⟩
abbrev main_call0_call3_call0_v73 : Ref sig .tc := ⟨.hbm, 136, rfl⟩
abbrev main_call0_call3_call0_v74 : Ref sig .tc := ⟨.hbm, 137, rfl⟩
abbrev main_call0_call3_call0_c_18 : Ref sig .tc := ⟨.hbm, 138, rfl⟩
abbrev main_call0_call3_call0_v75 : Ref sig .tc := ⟨.hbm, 139, rfl⟩
abbrev main_call0_call3_call0_v76 : Ref sig .tc := ⟨.hbm, 140, rfl⟩
abbrev main_call0_call3_call0_c_19 : Ref sig .tc := ⟨.hbm, 141, rfl⟩
abbrev main_call0_call3_call0_v77 : Ref sig .tc := ⟨.hbm, 142, rfl⟩
abbrev main_call0_call3_call0_v78 : Ref sig .tc := ⟨.hbm, 143, rfl⟩
abbrev main_call0_call3_call0_v79 : Ref sig .tc := ⟨.hbm, 144, rfl⟩
abbrev main_call0_call3_call0_v80 : Ref sig .tc := ⟨.hbm, 145, rfl⟩
abbrev main_call0_call3_call0_v81 : Ref sig .tc := ⟨.hbm, 146, rfl⟩
abbrev main_call0_call3_call0_c_20 : Ref sig .tc := ⟨.hbm, 147, rfl⟩
abbrev main_call0_call3_call0_v82 : Ref sig .tc := ⟨.hbm, 148, rfl⟩
abbrev main_call0_call3_call0_v83 : Ref sig .tc := ⟨.hbm, 149, rfl⟩
abbrev main_call0_call3_call0_c_21 : Ref sig .tc := ⟨.hbm, 150, rfl⟩
abbrev main_call0_call3_call0_v84 : Ref sig .tc := ⟨.hbm, 151, rfl⟩
abbrev main_call0_call3_call0_v85 : Ref sig .tc := ⟨.hbm, 152, rfl⟩
abbrev main_call0_call3_call0_v86 : Ref sig .tc := ⟨.hbm, 153, rfl⟩
abbrev main_call0_call3_call0_v87 : Ref sig .tc := ⟨.hbm, 154, rfl⟩
abbrev main_call0_call3_call0_v88 : Ref sig .tc := ⟨.hbm, 155, rfl⟩
abbrev main_call0_call3_call0_c_22 : Ref sig .tc := ⟨.hbm, 156, rfl⟩
abbrev main_call0_call3_call0_v89 : Ref sig .tc := ⟨.hbm, 157, rfl⟩
abbrev main_call0_call3_call0_v90 : Ref sig .tc := ⟨.hbm, 158, rfl⟩
abbrev main_call0_call3_call0_c_23 : Ref sig .tc := ⟨.hbm, 159, rfl⟩
abbrev main_call0_call3_call0_v91 : Ref sig .tc := ⟨.hbm, 160, rfl⟩
abbrev main_call0_call3_call0_v92 : Ref sig .tc := ⟨.hbm, 161, rfl⟩
abbrev main_call0_call3_call0_v93 : Ref sig .tc := ⟨.hbm, 162, rfl⟩
abbrev main_call0_call3_call0_v94 : Ref sig .tc := ⟨.hbm, 163, rfl⟩
abbrev main_call0_call3_call0_v95 : Ref sig .tc := ⟨.hbm, 164, rfl⟩
abbrev main_call0_call3_call0_c_24 : Ref sig .tc := ⟨.hbm, 165, rfl⟩
abbrev main_call0_call3_call0_v96 : Ref sig .tc := ⟨.hbm, 166, rfl⟩
abbrev main_call0_call3_call0_v97 : Ref sig .tc := ⟨.hbm, 167, rfl⟩
abbrev main_call0_call3_call0_c_25 : Ref sig .tc := ⟨.hbm, 168, rfl⟩
abbrev main_call0_call3_call0_v98 : Ref sig .tc := ⟨.hbm, 169, rfl⟩
abbrev main_call0_call3_call0_v99 : Ref sig .tc := ⟨.hbm, 170, rfl⟩
abbrev main_call0_call3_call0_v100 : Ref sig .tc := ⟨.hbm, 171, rfl⟩
abbrev main_call0_call3_call0_v101 : Ref sig .tc := ⟨.hbm, 172, rfl⟩
abbrev main_call0_call3_call0_v102 : Ref sig .tc := ⟨.hbm, 173, rfl⟩
abbrev main_call0_call3_call0_v103 : Ref sig .tc := ⟨.hbm, 174, rfl⟩
abbrev main_call0_call3_call0_v104 : Ref sig .tc := ⟨.hbm, 175, rfl⟩
abbrev main_call0_call3_call0_v105 : Ref sig .tc := ⟨.hbm, 176, rfl⟩
abbrev main_call0_call3_call0_c_26 : Ref sig .tc := ⟨.hbm, 177, rfl⟩
abbrev main_call0_call3_call0_v106 : Ref sig .tc := ⟨.hbm, 178, rfl⟩
abbrev main_call0_call3_call0_v107 : Ref sig .tc := ⟨.hbm, 179, rfl⟩
abbrev main_call0_call3_call0_v108 : Ref sig .tc := ⟨.hbm, 180, rfl⟩
abbrev main_call0_call3_call0_c_27 : Ref sig .tc := ⟨.hbm, 181, rfl⟩
abbrev main_call0_call3_call0_v109 : Ref sig .tc := ⟨.hbm, 182, rfl⟩
abbrev main_call0_call3_call0_v110 : Ref sig .tc := ⟨.hbm, 183, rfl⟩
abbrev main_call0_call3_call0_c_28 : Ref sig .tc := ⟨.hbm, 184, rfl⟩
abbrev main_call0_call3_call0_v111 : Ref sig .tc := ⟨.hbm, 185, rfl⟩
abbrev main_call0_call3_call0_v112 : Ref sig .tc := ⟨.hbm, 186, rfl⟩
abbrev main_call0_call3_call0_v113 : Ref sig .tc := ⟨.hbm, 187, rfl⟩
abbrev main_call0_call3_call0_v114 : Ref sig .tc := ⟨.hbm, 188, rfl⟩
abbrev main_call0_call3_call0_v115 : Ref sig .tc := ⟨.hbm, 189, rfl⟩
abbrev main_call0_call3_call0_c_29 : Ref sig .tc := ⟨.hbm, 190, rfl⟩
abbrev main_call0_call3_call0_v116 : Ref sig .tc := ⟨.hbm, 191, rfl⟩
abbrev main_call0_call3_call0_v117 : Ref sig .tc := ⟨.hbm, 192, rfl⟩
abbrev main_call0_call3_call0_c_30 : Ref sig .tc := ⟨.hbm, 193, rfl⟩
abbrev main_call0_call3_call0_v118 : Ref sig .tc := ⟨.hbm, 194, rfl⟩
abbrev main_call0_call3_call0_v119 : Ref sig .tc := ⟨.hbm, 195, rfl⟩
abbrev main_call0_call3_call0_v120 : Ref sig .tc := ⟨.hbm, 196, rfl⟩
abbrev main_call0_call3_call0_v121 : Ref sig .tc := ⟨.hbm, 197, rfl⟩
abbrev main_call0_call3_call0_v122 : Ref sig .tc := ⟨.hbm, 198, rfl⟩
abbrev main_call0_call3_call0_c_31 : Ref sig .tc := ⟨.hbm, 199, rfl⟩
abbrev main_call0_call3_call0_v123 : Ref sig .tc := ⟨.hbm, 200, rfl⟩
abbrev main_call0_call3_call0_v124 : Ref sig .tc := ⟨.hbm, 201, rfl⟩
abbrev main_call0_call3_call0_c_32 : Ref sig .tc := ⟨.hbm, 202, rfl⟩
abbrev main_call0_call3_call0_v125 : Ref sig .tc := ⟨.hbm, 203, rfl⟩
abbrev main_call0_call3_call0_v126 : Ref sig .tc := ⟨.hbm, 204, rfl⟩
abbrev main_call0_call3_call0_v127 : Ref sig .tc := ⟨.hbm, 205, rfl⟩
abbrev main_call0_call3_call0_v128 : Ref sig .tc := ⟨.hbm, 206, rfl⟩
abbrev main_call0_call3_call0_v129 : Ref sig .tc := ⟨.hbm, 207, rfl⟩
abbrev main_call0_call3_call0_c_33 : Ref sig .tc := ⟨.hbm, 208, rfl⟩
abbrev main_call0_call3_call0_v130 : Ref sig .tc := ⟨.hbm, 209, rfl⟩
abbrev main_call0_call3_call0_v131 : Ref sig .tc := ⟨.hbm, 210, rfl⟩
abbrev main_call0_call3_call0_c_34 : Ref sig .tc := ⟨.hbm, 211, rfl⟩
abbrev main_call0_call3_call0_v132 : Ref sig .tc := ⟨.hbm, 212, rfl⟩
abbrev main_call0_call3_call0_v133 : Ref sig .tc := ⟨.hbm, 213, rfl⟩
abbrev main_call0_call3_call0_v134 : Ref sig .tc := ⟨.hbm, 214, rfl⟩
abbrev main_call0_call3_call0_v135 : Ref sig .tc := ⟨.hbm, 215, rfl⟩
abbrev main_call0_call3_call0_v136 : Ref sig .tc := ⟨.hbm, 216, rfl⟩
abbrev main_call0_call3_call0_v137 : Ref sig .tc := ⟨.hbm, 217, rfl⟩
abbrev main_call0_call3_call0_v138 : Ref sig .tc := ⟨.hbm, 218, rfl⟩
abbrev main_call0_call3_call0_v139 : Ref sig .tc := ⟨.hbm, 219, rfl⟩
abbrev main_call0_call3_call0_c_35 : Ref sig .tc := ⟨.hbm, 220, rfl⟩
abbrev main_call0_call3_call0_v140 : Ref sig .tc := ⟨.hbm, 221, rfl⟩
abbrev main_call0_call3_call0_v141 : Ref sig .tc := ⟨.hbm, 222, rfl⟩
abbrev main_call0_call3_call0_v142 : Ref sig .tc := ⟨.hbm, 223, rfl⟩
abbrev main_call0_call3_call0_c_36 : Ref sig .tc := ⟨.hbm, 224, rfl⟩
abbrev main_call0_call3_call0_v143 : Ref sig .tc := ⟨.hbm, 225, rfl⟩
abbrev main_call0_call3_call0_v144 : Ref sig .tc := ⟨.hbm, 226, rfl⟩
abbrev main_call0_call3_call0_c_37 : Ref sig .tc := ⟨.hbm, 227, rfl⟩
abbrev main_call0_call3_call0_v145 : Ref sig .tc := ⟨.hbm, 228, rfl⟩
abbrev main_call0_call3_call0_v146 : Ref sig .tc := ⟨.hbm, 229, rfl⟩
abbrev main_call0_call3_call0_v147 : Ref sig .tc := ⟨.hbm, 230, rfl⟩
abbrev main_call0_call3_call0_v148 : Ref sig .tc := ⟨.hbm, 231, rfl⟩
abbrev main_call0_call3_call0_v149 : Ref sig .tc := ⟨.hbm, 232, rfl⟩
abbrev main_call0_call3_call0_c_38 : Ref sig .tc := ⟨.hbm, 233, rfl⟩
abbrev main_call0_call3_call0_v150 : Ref sig .tc := ⟨.hbm, 234, rfl⟩
abbrev main_call0_call3_call0_v151 : Ref sig .tc := ⟨.hbm, 235, rfl⟩
abbrev main_call0_call3_call0_c_39 : Ref sig .tc := ⟨.hbm, 236, rfl⟩
abbrev main_call0_call3_call0_v152 : Ref sig .tc := ⟨.hbm, 237, rfl⟩
abbrev main_call0_call3_call0_v153 : Ref sig .tc := ⟨.hbm, 238, rfl⟩
abbrev main_call0_call3_call0_v154 : Ref sig .tc := ⟨.hbm, 239, rfl⟩
abbrev main_call0_call3_call0_v155 : Ref sig .tc := ⟨.hbm, 240, rfl⟩
abbrev main_call0_call3_call0_v156 : Ref sig .tc := ⟨.hbm, 241, rfl⟩
abbrev main_call0_call3_call0_c_40 : Ref sig .tc := ⟨.hbm, 242, rfl⟩
abbrev main_call0_call3_call0_v157 : Ref sig .tc := ⟨.hbm, 243, rfl⟩
abbrev main_call0_call3_call0_v158 : Ref sig .tc := ⟨.hbm, 244, rfl⟩
abbrev main_call0_call3_call0_c_41 : Ref sig .tc := ⟨.hbm, 245, rfl⟩
abbrev main_call0_call3_call0_v159 : Ref sig .tc := ⟨.hbm, 246, rfl⟩
abbrev main_call0_call3_call0_v160 : Ref sig .tc := ⟨.hbm, 247, rfl⟩
abbrev main_call0_call3_call0_v161 : Ref sig .tc := ⟨.hbm, 248, rfl⟩
abbrev main_call0_call3_call0_v162 : Ref sig .tc := ⟨.hbm, 249, rfl⟩
abbrev main_call0_call3_call0_v163 : Ref sig .tc := ⟨.hbm, 250, rfl⟩
abbrev main_call0_call3_call0_c_42 : Ref sig .tc := ⟨.hbm, 251, rfl⟩
abbrev main_call0_call3_call0_v164 : Ref sig .tc := ⟨.hbm, 252, rfl⟩
abbrev main_call0_call3_call0_v165 : Ref sig .tc := ⟨.hbm, 253, rfl⟩
abbrev main_call0_call3_call0_c_43 : Ref sig .tc := ⟨.hbm, 254, rfl⟩
abbrev main_call0_call3_call0_v166 : Ref sig .tc := ⟨.hbm, 255, rfl⟩
abbrev main_call0_call3_call0_v167 : Ref sig .tc := ⟨.hbm, 256, rfl⟩
abbrev main_call0_call3_call0_v168 : Ref sig .tc := ⟨.hbm, 257, rfl⟩
abbrev main_call0_call3_call0_v169 : Ref sig .tc := ⟨.hbm, 258, rfl⟩
abbrev main_call0_call3_call0_v170 : Ref sig .tc := ⟨.hbm, 259, rfl⟩
abbrev main_call0_call3_v11_0 : Ref sig .tc := ⟨.hbm, 260, rfl⟩
abbrev main_call0_call3_call0_v172 : Ref sig .tc := ⟨.hbm, 261, rfl⟩
abbrev main_call0_call3_call0_v173 : Ref sig .tc := ⟨.hbm, 262, rfl⟩
abbrev main_call0_call3_call0_c_44 : Ref sig .tc := ⟨.hbm, 263, rfl⟩
abbrev main_call0_call3_call0_v174 : Ref sig .tc := ⟨.hbm, 264, rfl⟩
abbrev main_call0_call3_v11_1 : Ref sig .tc := ⟨.hbm, 265, rfl⟩
abbrev main_call0_call3_v12 : Ref sig .tc := ⟨.hbm, 266, rfl⟩
abbrev main_call0_call3_v13 : Ref sig .tc := ⟨.hbm, 267, rfl⟩
abbrev main_call0_v8 : Ref sig .tc := ⟨.hbm, 268, rfl⟩
abbrev main_call0_v9 : Ref sig .tc := ⟨.hbm, 269, rfl⟩
abbrev main_call0_v10 : Ref sig .tc := ⟨.hbm, 270, rfl⟩
abbrev main_call0_v11 : Ref sig .tc := ⟨.hbm, 271, rfl⟩
abbrev main_call0_v12 : Ref sig .tc := ⟨.hbm, 272, rfl⟩
abbrev main_call0_v13 : Ref sig .tc := ⟨.hbm, 273, rfl⟩
abbrev main_call0_v14 : Ref sig .tc := ⟨.hbm, 274, rfl⟩
abbrev main_call0_v15 : Ref sig .tc := ⟨.hbm, 275, rfl⟩
abbrev main_call0_v16 : Ref sig .tc := ⟨.hbm, 276, rfl⟩
abbrev main_call0_v17 : Ref sig .tc := ⟨.hbm, 277, rfl⟩
abbrev main_call0_v18 : Ref sig .tc := ⟨.hbm, 278, rfl⟩
abbrev main_call0_v19 : Ref sig .tc := ⟨.hbm, 279, rfl⟩
abbrev main_call0_v20 : Ref sig .tc := ⟨.hbm, 280, rfl⟩
abbrev main_call0_c_6 : Ref sig .tc := ⟨.hbm, 281, rfl⟩
abbrev main_call0_v21 : Ref sig .tc := ⟨.hbm, 282, rfl⟩
abbrev main_call0_v22 : Ref sig .tc := ⟨.hbm, 283, rfl⟩
abbrev main_call0_c_7 : Ref sig .tc := ⟨.hbm, 284, rfl⟩
abbrev main_call0_v23 : Ref sig .tc := ⟨.hbm, 285, rfl⟩
abbrev main_call0_v24 : Ref sig .tc := ⟨.hbm, 286, rfl⟩
abbrev main_call0_c_8 : Ref sig .tc := ⟨.hbm, 287, rfl⟩
abbrev main_call0_v25 : Ref sig .tc := ⟨.hbm, 288, rfl⟩
abbrev main_call0_v26 : Ref sig .tc := ⟨.hbm, 289, rfl⟩
abbrev main_call0_c_9 : Ref sig .tc := ⟨.hbm, 290, rfl⟩
abbrev main_call0_v27 : Ref sig .tc := ⟨.hbm, 291, rfl⟩
abbrev main_call0_v28 : Ref sig .tc := ⟨.hbm, 292, rfl⟩
abbrev main_call0_v29 : Ref sig .tc := ⟨.hbm, 293, rfl⟩
abbrev main_call0_v30 : Ref sig .tc := ⟨.hbm, 294, rfl⟩
abbrev main_call0_v31 : Ref sig .tc := ⟨.hbm, 295, rfl⟩
abbrev main_call0_c_10 : Ref sig .tc := ⟨.hbm, 296, rfl⟩
abbrev main_call0_v32 : Ref sig .tc := ⟨.hbm, 297, rfl⟩
abbrev main_call0_v33 : Ref sig .tc := ⟨.hbm, 298, rfl⟩
abbrev main_call0_v34 : Ref sig .tc := ⟨.hbm, 299, rfl⟩
abbrev main_call0_v35 : Ref sig .tc := ⟨.hbm, 300, rfl⟩
abbrev main_call0_call4_v0 : Ref sig .tc := ⟨.hbm, 301, rfl⟩
abbrev main_call0_call4_c : Ref sig .tc := ⟨.hbm, 302, rfl⟩
abbrev main_call0_call4_v1 : Ref sig .tc := ⟨.hbm, 303, rfl⟩
abbrev main_call0_call4_v2 : Ref sig .tc := ⟨.hbm, 304, rfl⟩
abbrev main_call0_call4_v3 : Ref sig .tc := ⟨.hbm, 305, rfl⟩
abbrev main_call0_call4_v4 : Ref sig .tc := ⟨.hbm, 306, rfl⟩
abbrev main_call0_call4_v5 : Ref sig .tc := ⟨.hbm, 307, rfl⟩
abbrev main_call0_call4_v6 : Ref sig .tc := ⟨.hbm, 308, rfl⟩
abbrev main_call0_call4_c_0 : Ref sig .tc := ⟨.hbm, 309, rfl⟩
abbrev main_call0_call4_v7 : Ref sig .tc := ⟨.hbm, 310, rfl⟩
abbrev main_call0_call4_v8 : Ref sig .tc := ⟨.hbm, 311, rfl⟩
abbrev main_call0_call4_c_1 : Ref sig .tc := ⟨.hbm, 312, rfl⟩
abbrev main_call0_call4_v9 : Ref sig .tc := ⟨.hbm, 313, rfl⟩
abbrev main_call0_call4_v10 : Ref sig .tc := ⟨.hbm, 314, rfl⟩
abbrev main_call0_call4_v11 : Ref sig .tc := ⟨.hbm, 315, rfl⟩
abbrev main_call0_call4_v12 : Ref sig .tc := ⟨.hbm, 316, rfl⟩
abbrev main_call0_call4_v13 : Ref sig .tc := ⟨.hbm, 317, rfl⟩
abbrev main_call0_call4_c_2 : Ref sig .tc := ⟨.hbm, 318, rfl⟩
abbrev main_call0_call4_v14 : Ref sig .tc := ⟨.hbm, 319, rfl⟩
abbrev main_call0_call4_v15 : Ref sig .tc := ⟨.hbm, 320, rfl⟩
abbrev main_call0_call4_c_3 : Ref sig .tc := ⟨.hbm, 321, rfl⟩
abbrev main_call0_call4_v16 : Ref sig .tc := ⟨.hbm, 322, rfl⟩
abbrev main_call0_call4_v17 : Ref sig .tc := ⟨.hbm, 323, rfl⟩
abbrev main_call0_call4_v18 : Ref sig .tc := ⟨.hbm, 324, rfl⟩
abbrev main_call0_call4_v19 : Ref sig .tc := ⟨.hbm, 325, rfl⟩
abbrev main_call0_call4_v20 : Ref sig .tc := ⟨.hbm, 326, rfl⟩
abbrev main_call0_call4_c_4 : Ref sig .tc := ⟨.hbm, 327, rfl⟩
abbrev main_call0_call4_v21 : Ref sig .tc := ⟨.hbm, 328, rfl⟩
abbrev main_call0_call4_v22 : Ref sig .tc := ⟨.hbm, 329, rfl⟩
abbrev main_call0_call4_c_5 : Ref sig .tc := ⟨.hbm, 330, rfl⟩
abbrev main_call0_call4_v23 : Ref sig .tc := ⟨.hbm, 331, rfl⟩
abbrev main_call0_call4_v24 : Ref sig .tc := ⟨.hbm, 332, rfl⟩
abbrev main_call0_call4_v25 : Ref sig .tc := ⟨.hbm, 333, rfl⟩
abbrev main_call0_call4_v26 : Ref sig .tc := ⟨.hbm, 334, rfl⟩
abbrev main_call0_call4_v27 : Ref sig .tc := ⟨.hbm, 335, rfl⟩
abbrev main_call0_call4_c_6 : Ref sig .tc := ⟨.hbm, 336, rfl⟩
abbrev main_call0_call4_v28 : Ref sig .tc := ⟨.hbm, 337, rfl⟩
abbrev main_call0_call4_v29 : Ref sig .tc := ⟨.hbm, 338, rfl⟩
abbrev main_call0_call4_c_7 : Ref sig .tc := ⟨.hbm, 339, rfl⟩
abbrev main_call0_call4_v30 : Ref sig .tc := ⟨.hbm, 340, rfl⟩
abbrev main_call0_call4_v31 : Ref sig .tc := ⟨.hbm, 341, rfl⟩
abbrev main_call0_call4_v32 : Ref sig .tc := ⟨.hbm, 342, rfl⟩
abbrev main_call0_call4_v33 : Ref sig .tc := ⟨.hbm, 343, rfl⟩
abbrev main_call0_call4_v34 : Ref sig .tc := ⟨.hbm, 344, rfl⟩
abbrev main_call0_call4_v35 : Ref sig .tc := ⟨.hbm, 345, rfl⟩
abbrev main_call0_call4_v36 : Ref sig .tc := ⟨.hbm, 346, rfl⟩
abbrev main_call0_call4_v37 : Ref sig .tc := ⟨.hbm, 347, rfl⟩
abbrev main_call0_call4_c_8 : Ref sig .tc := ⟨.hbm, 348, rfl⟩
abbrev main_call0_call4_v38 : Ref sig .tc := ⟨.hbm, 349, rfl⟩
abbrev main_call0_call4_v39 : Ref sig .tc := ⟨.hbm, 350, rfl⟩
abbrev main_call0_call4_v40 : Ref sig .tc := ⟨.hbm, 351, rfl⟩
abbrev main_call0_call4_c_9 : Ref sig .tc := ⟨.hbm, 352, rfl⟩
abbrev main_call0_call4_v41 : Ref sig .tc := ⟨.hbm, 353, rfl⟩
abbrev main_call0_call4_v42 : Ref sig .tc := ⟨.hbm, 354, rfl⟩
abbrev main_call0_call4_c_10 : Ref sig .tc := ⟨.hbm, 355, rfl⟩
abbrev main_call0_call4_v43 : Ref sig .tc := ⟨.hbm, 356, rfl⟩
abbrev main_call0_call4_v44 : Ref sig .tc := ⟨.hbm, 357, rfl⟩
abbrev main_call0_call4_v45 : Ref sig .tc := ⟨.hbm, 358, rfl⟩
abbrev main_call0_call4_v46 : Ref sig .tc := ⟨.hbm, 359, rfl⟩
abbrev main_call0_call4_v47 : Ref sig .tc := ⟨.hbm, 360, rfl⟩
abbrev main_call0_call4_c_11 : Ref sig .tc := ⟨.hbm, 361, rfl⟩
abbrev main_call0_call4_v48 : Ref sig .tc := ⟨.hbm, 362, rfl⟩
abbrev main_call0_call4_v49 : Ref sig .tc := ⟨.hbm, 363, rfl⟩
abbrev main_call0_call4_c_12 : Ref sig .tc := ⟨.hbm, 364, rfl⟩
abbrev main_call0_call4_v50 : Ref sig .tc := ⟨.hbm, 365, rfl⟩
abbrev main_call0_call4_v51 : Ref sig .tc := ⟨.hbm, 366, rfl⟩
abbrev main_call0_call4_v52 : Ref sig .tc := ⟨.hbm, 367, rfl⟩
abbrev main_call0_call4_v53 : Ref sig .tc := ⟨.hbm, 368, rfl⟩
abbrev main_call0_call4_v54 : Ref sig .tc := ⟨.hbm, 369, rfl⟩
abbrev main_call0_call4_c_13 : Ref sig .tc := ⟨.hbm, 370, rfl⟩
abbrev main_call0_call4_v55 : Ref sig .tc := ⟨.hbm, 371, rfl⟩
abbrev main_call0_call4_v56 : Ref sig .tc := ⟨.hbm, 372, rfl⟩
abbrev main_call0_call4_c_14 : Ref sig .tc := ⟨.hbm, 373, rfl⟩
abbrev main_call0_call4_v57 : Ref sig .tc := ⟨.hbm, 374, rfl⟩
abbrev main_call0_call4_v58 : Ref sig .tc := ⟨.hbm, 375, rfl⟩
abbrev main_call0_call4_v59 : Ref sig .tc := ⟨.hbm, 376, rfl⟩
abbrev main_call0_call4_v60 : Ref sig .tc := ⟨.hbm, 377, rfl⟩
abbrev main_call0_call4_v61 : Ref sig .tc := ⟨.hbm, 378, rfl⟩
abbrev main_call0_call4_c_15 : Ref sig .tc := ⟨.hbm, 379, rfl⟩
abbrev main_call0_call4_v62 : Ref sig .tc := ⟨.hbm, 380, rfl⟩
abbrev main_call0_call4_v63 : Ref sig .tc := ⟨.hbm, 381, rfl⟩
abbrev main_call0_call4_c_16 : Ref sig .tc := ⟨.hbm, 382, rfl⟩
abbrev main_call0_call4_v64 : Ref sig .tc := ⟨.hbm, 383, rfl⟩
abbrev main_call0_call4_v65 : Ref sig .tc := ⟨.hbm, 384, rfl⟩
abbrev main_call0_call4_v66 : Ref sig .tc := ⟨.hbm, 385, rfl⟩
abbrev main_call0_call4_v67 : Ref sig .tc := ⟨.hbm, 386, rfl⟩
abbrev main_call0_call4_v68 : Ref sig .tc := ⟨.hbm, 387, rfl⟩
abbrev main_call0_call4_v69 : Ref sig .tc := ⟨.hbm, 388, rfl⟩
abbrev main_call0_call4_v70 : Ref sig .tc := ⟨.hbm, 389, rfl⟩
abbrev main_call0_call4_v71 : Ref sig .tc := ⟨.hbm, 390, rfl⟩
abbrev main_call0_call4_c_17 : Ref sig .tc := ⟨.hbm, 391, rfl⟩
abbrev main_call0_call4_v72 : Ref sig .tc := ⟨.hbm, 392, rfl⟩
abbrev main_call0_call4_v73 : Ref sig .tc := ⟨.hbm, 393, rfl⟩
abbrev main_call0_call4_v74 : Ref sig .tc := ⟨.hbm, 394, rfl⟩
abbrev main_call0_call4_c_18 : Ref sig .tc := ⟨.hbm, 395, rfl⟩
abbrev main_call0_call4_v75 : Ref sig .tc := ⟨.hbm, 396, rfl⟩
abbrev main_call0_call4_v76 : Ref sig .tc := ⟨.hbm, 397, rfl⟩
abbrev main_call0_call4_c_19 : Ref sig .tc := ⟨.hbm, 398, rfl⟩
abbrev main_call0_call4_v77 : Ref sig .tc := ⟨.hbm, 399, rfl⟩
abbrev main_call0_call4_v78 : Ref sig .tc := ⟨.hbm, 400, rfl⟩
abbrev main_call0_call4_v79 : Ref sig .tc := ⟨.hbm, 401, rfl⟩
abbrev main_call0_call4_v80 : Ref sig .tc := ⟨.hbm, 402, rfl⟩
abbrev main_call0_call4_v81 : Ref sig .tc := ⟨.hbm, 403, rfl⟩
abbrev main_call0_call4_c_20 : Ref sig .tc := ⟨.hbm, 404, rfl⟩
abbrev main_call0_call4_v82 : Ref sig .tc := ⟨.hbm, 405, rfl⟩
abbrev main_call0_call4_v83 : Ref sig .tc := ⟨.hbm, 406, rfl⟩
abbrev main_call0_call4_c_21 : Ref sig .tc := ⟨.hbm, 407, rfl⟩
abbrev main_call0_call4_v84 : Ref sig .tc := ⟨.hbm, 408, rfl⟩
abbrev main_call0_call4_v85 : Ref sig .tc := ⟨.hbm, 409, rfl⟩
abbrev main_call0_call4_v86 : Ref sig .tc := ⟨.hbm, 410, rfl⟩
abbrev main_call0_call4_v87 : Ref sig .tc := ⟨.hbm, 411, rfl⟩
abbrev main_call0_call4_v88 : Ref sig .tc := ⟨.hbm, 412, rfl⟩
abbrev main_call0_call4_c_22 : Ref sig .tc := ⟨.hbm, 413, rfl⟩
abbrev main_call0_call4_v89 : Ref sig .tc := ⟨.hbm, 414, rfl⟩
abbrev main_call0_call4_v90 : Ref sig .tc := ⟨.hbm, 415, rfl⟩
abbrev main_call0_call4_c_23 : Ref sig .tc := ⟨.hbm, 416, rfl⟩
abbrev main_call0_call4_v91 : Ref sig .tc := ⟨.hbm, 417, rfl⟩
abbrev main_call0_call4_v92 : Ref sig .tc := ⟨.hbm, 418, rfl⟩
abbrev main_call0_call4_v93 : Ref sig .tc := ⟨.hbm, 419, rfl⟩
abbrev main_call0_call4_v94 : Ref sig .tc := ⟨.hbm, 420, rfl⟩
abbrev main_call0_call4_v95 : Ref sig .tc := ⟨.hbm, 421, rfl⟩
abbrev main_call0_call4_c_24 : Ref sig .tc := ⟨.hbm, 422, rfl⟩
abbrev main_call0_call4_v96 : Ref sig .tc := ⟨.hbm, 423, rfl⟩
abbrev main_call0_call4_v97 : Ref sig .tc := ⟨.hbm, 424, rfl⟩
abbrev main_call0_call4_c_25 : Ref sig .tc := ⟨.hbm, 425, rfl⟩
abbrev main_call0_call4_v98 : Ref sig .tc := ⟨.hbm, 426, rfl⟩
abbrev main_call0_call4_v99 : Ref sig .tc := ⟨.hbm, 427, rfl⟩
abbrev main_call0_call4_v100 : Ref sig .tc := ⟨.hbm, 428, rfl⟩
abbrev main_call0_call4_v101 : Ref sig .tc := ⟨.hbm, 429, rfl⟩
abbrev main_call0_call4_v102 : Ref sig .tc := ⟨.hbm, 430, rfl⟩
abbrev main_call0_call4_v103 : Ref sig .tc := ⟨.hbm, 431, rfl⟩
abbrev main_call0_call4_v104 : Ref sig .tc := ⟨.hbm, 432, rfl⟩
abbrev main_call0_call4_v105 : Ref sig .tc := ⟨.hbm, 433, rfl⟩
abbrev main_call0_call4_c_26 : Ref sig .tc := ⟨.hbm, 434, rfl⟩
abbrev main_call0_call4_v106 : Ref sig .tc := ⟨.hbm, 435, rfl⟩
abbrev main_call0_call4_v107 : Ref sig .tc := ⟨.hbm, 436, rfl⟩
abbrev main_call0_call4_v108 : Ref sig .tc := ⟨.hbm, 437, rfl⟩
abbrev main_call0_call4_c_27 : Ref sig .tc := ⟨.hbm, 438, rfl⟩
abbrev main_call0_call4_v109 : Ref sig .tc := ⟨.hbm, 439, rfl⟩
abbrev main_call0_call4_v110 : Ref sig .tc := ⟨.hbm, 440, rfl⟩
abbrev main_call0_call4_c_28 : Ref sig .tc := ⟨.hbm, 441, rfl⟩
abbrev main_call0_call4_v111 : Ref sig .tc := ⟨.hbm, 442, rfl⟩
abbrev main_call0_call4_v112 : Ref sig .tc := ⟨.hbm, 443, rfl⟩
abbrev main_call0_call4_v113 : Ref sig .tc := ⟨.hbm, 444, rfl⟩
abbrev main_call0_call4_v114 : Ref sig .tc := ⟨.hbm, 445, rfl⟩
abbrev main_call0_call4_v115 : Ref sig .tc := ⟨.hbm, 446, rfl⟩
abbrev main_call0_call4_c_29 : Ref sig .tc := ⟨.hbm, 447, rfl⟩
abbrev main_call0_call4_v116 : Ref sig .tc := ⟨.hbm, 448, rfl⟩
abbrev main_call0_call4_v117 : Ref sig .tc := ⟨.hbm, 449, rfl⟩
abbrev main_call0_call4_c_30 : Ref sig .tc := ⟨.hbm, 450, rfl⟩
abbrev main_call0_call4_v118 : Ref sig .tc := ⟨.hbm, 451, rfl⟩
abbrev main_call0_call4_v119 : Ref sig .tc := ⟨.hbm, 452, rfl⟩
abbrev main_call0_call4_v120 : Ref sig .tc := ⟨.hbm, 453, rfl⟩
abbrev main_call0_call4_v121 : Ref sig .tc := ⟨.hbm, 454, rfl⟩
abbrev main_call0_call4_v122 : Ref sig .tc := ⟨.hbm, 455, rfl⟩
abbrev main_call0_call4_c_31 : Ref sig .tc := ⟨.hbm, 456, rfl⟩
abbrev main_call0_call4_v123 : Ref sig .tc := ⟨.hbm, 457, rfl⟩
abbrev main_call0_call4_v124 : Ref sig .tc := ⟨.hbm, 458, rfl⟩
abbrev main_call0_call4_c_32 : Ref sig .tc := ⟨.hbm, 459, rfl⟩
abbrev main_call0_call4_v125 : Ref sig .tc := ⟨.hbm, 460, rfl⟩
abbrev main_call0_call4_v126 : Ref sig .tc := ⟨.hbm, 461, rfl⟩
abbrev main_call0_call4_v127 : Ref sig .tc := ⟨.hbm, 462, rfl⟩
abbrev main_call0_call4_v128 : Ref sig .tc := ⟨.hbm, 463, rfl⟩
abbrev main_call0_call4_v129 : Ref sig .tc := ⟨.hbm, 464, rfl⟩
abbrev main_call0_call4_c_33 : Ref sig .tc := ⟨.hbm, 465, rfl⟩
abbrev main_call0_call4_v130 : Ref sig .tc := ⟨.hbm, 466, rfl⟩
abbrev main_call0_call4_v131 : Ref sig .tc := ⟨.hbm, 467, rfl⟩
abbrev main_call0_call4_c_34 : Ref sig .tc := ⟨.hbm, 468, rfl⟩
abbrev main_call0_call4_v132 : Ref sig .tc := ⟨.hbm, 469, rfl⟩
abbrev main_call0_call4_v133 : Ref sig .tc := ⟨.hbm, 470, rfl⟩
abbrev main_call0_call4_v134 : Ref sig .tc := ⟨.hbm, 471, rfl⟩
abbrev main_call0_call4_v135 : Ref sig .tc := ⟨.hbm, 472, rfl⟩
abbrev main_call0_call4_v136 : Ref sig .tc := ⟨.hbm, 473, rfl⟩
abbrev main_call0_call4_v137 : Ref sig .tc := ⟨.hbm, 474, rfl⟩
abbrev main_call0_call4_v138 : Ref sig .tc := ⟨.hbm, 475, rfl⟩
abbrev main_call0_call4_v139 : Ref sig .tc := ⟨.hbm, 476, rfl⟩
abbrev main_call0_call4_c_35 : Ref sig .tc := ⟨.hbm, 477, rfl⟩
abbrev main_call0_call4_v140 : Ref sig .tc := ⟨.hbm, 478, rfl⟩
abbrev main_call0_call4_v141 : Ref sig .tc := ⟨.hbm, 479, rfl⟩
abbrev main_call0_call4_v142 : Ref sig .tc := ⟨.hbm, 480, rfl⟩
abbrev main_call0_call4_c_36 : Ref sig .tc := ⟨.hbm, 481, rfl⟩
abbrev main_call0_call4_v143 : Ref sig .tc := ⟨.hbm, 482, rfl⟩
abbrev main_call0_call4_v144 : Ref sig .tc := ⟨.hbm, 483, rfl⟩
abbrev main_call0_call4_c_37 : Ref sig .tc := ⟨.hbm, 484, rfl⟩
abbrev main_call0_call4_v145 : Ref sig .tc := ⟨.hbm, 485, rfl⟩
abbrev main_call0_call4_v146 : Ref sig .tc := ⟨.hbm, 486, rfl⟩
abbrev main_call0_call4_v147 : Ref sig .tc := ⟨.hbm, 487, rfl⟩
abbrev main_call0_call4_v148 : Ref sig .tc := ⟨.hbm, 488, rfl⟩
abbrev main_call0_call4_v149 : Ref sig .tc := ⟨.hbm, 489, rfl⟩
abbrev main_call0_call4_c_38 : Ref sig .tc := ⟨.hbm, 490, rfl⟩
abbrev main_call0_call4_v150 : Ref sig .tc := ⟨.hbm, 491, rfl⟩
abbrev main_call0_call4_v151 : Ref sig .tc := ⟨.hbm, 492, rfl⟩
abbrev main_call0_call4_c_39 : Ref sig .tc := ⟨.hbm, 493, rfl⟩
abbrev main_call0_call4_v152 : Ref sig .tc := ⟨.hbm, 494, rfl⟩
abbrev main_call0_call4_v153 : Ref sig .tc := ⟨.hbm, 495, rfl⟩
abbrev main_call0_call4_v154 : Ref sig .tc := ⟨.hbm, 496, rfl⟩
abbrev main_call0_call4_v155 : Ref sig .tc := ⟨.hbm, 497, rfl⟩
abbrev main_call0_call4_v156 : Ref sig .tc := ⟨.hbm, 498, rfl⟩
abbrev main_call0_call4_c_40 : Ref sig .tc := ⟨.hbm, 499, rfl⟩
abbrev main_call0_call4_v157 : Ref sig .tc := ⟨.hbm, 500, rfl⟩
abbrev main_call0_call4_v158 : Ref sig .tc := ⟨.hbm, 501, rfl⟩
abbrev main_call0_call4_c_41 : Ref sig .tc := ⟨.hbm, 502, rfl⟩
abbrev main_call0_call4_v159 : Ref sig .tc := ⟨.hbm, 503, rfl⟩
abbrev main_call0_call4_v160 : Ref sig .tc := ⟨.hbm, 504, rfl⟩
abbrev main_call0_call4_v161 : Ref sig .tc := ⟨.hbm, 505, rfl⟩
abbrev main_call0_call4_v162 : Ref sig .tc := ⟨.hbm, 506, rfl⟩
abbrev main_call0_call4_v163 : Ref sig .tc := ⟨.hbm, 507, rfl⟩
abbrev main_call0_call4_c_42 : Ref sig .tc := ⟨.hbm, 508, rfl⟩
abbrev main_call0_call4_v164 : Ref sig .tc := ⟨.hbm, 509, rfl⟩
abbrev main_call0_call4_v165 : Ref sig .tc := ⟨.hbm, 510, rfl⟩
abbrev main_call0_call4_c_43 : Ref sig .tc := ⟨.hbm, 511, rfl⟩
abbrev main_call0_call4_v166 : Ref sig .tc := ⟨.hbm, 512, rfl⟩
abbrev main_call0_call4_v167 : Ref sig .tc := ⟨.hbm, 513, rfl⟩
abbrev main_call0_call4_v168 : Ref sig .tc := ⟨.hbm, 514, rfl⟩
abbrev main_call0_call4_v169 : Ref sig .tc := ⟨.hbm, 515, rfl⟩
abbrev main_call0_call4_v170 : Ref sig .tc := ⟨.hbm, 516, rfl⟩
abbrev main_call0_v36_0 : Ref sig .tc := ⟨.hbm, 517, rfl⟩
abbrev main_call0_call4_v172 : Ref sig .tc := ⟨.hbm, 518, rfl⟩
abbrev main_call0_call4_v173 : Ref sig .tc := ⟨.hbm, 519, rfl⟩
abbrev main_call0_call4_c_44 : Ref sig .tc := ⟨.hbm, 520, rfl⟩
abbrev main_call0_call4_v174 : Ref sig .tc := ⟨.hbm, 521, rfl⟩
abbrev main_call0_v36_1 : Ref sig .tc := ⟨.hbm, 522, rfl⟩
abbrev main_call0_v37 : Ref sig .tc := ⟨.hbm, 523, rfl⟩
abbrev main_call0_v38 : Ref sig .tc := ⟨.hbm, 524, rfl⟩
abbrev main_call0_v39 : Ref sig .tc := ⟨.hbm, 525, rfl⟩
abbrev main_call0_v40 : Ref sig .tc := ⟨.hbm, 526, rfl⟩
abbrev main_call0_v41 : Ref sig .tc := ⟨.hbm, 527, rfl⟩
abbrev main_call0_v42 : Ref sig .tc := ⟨.hbm, 528, rfl⟩
abbrev main_call0_v43 : Ref sig .tc := ⟨.hbm, 529, rfl⟩
abbrev main_call0_v44 : Ref sig .tc := ⟨.hbm, 530, rfl⟩
abbrev main_call0_v45 : Ref sig .tc := ⟨.hbm, 531, rfl⟩
abbrev main_call0_c_11 : Ref sig .tc := ⟨.hbm, 532, rfl⟩
abbrev main_call0_v46 : Ref sig .tc := ⟨.hbm, 533, rfl⟩
abbrev main_call0_v47 : Ref sig .tc := ⟨.hbm, 534, rfl⟩
abbrev main_call0_c_12 : Ref sig .tc := ⟨.hbm, 535, rfl⟩
abbrev main_call0_v48 : Ref sig .tc := ⟨.hbm, 536, rfl⟩
abbrev main_call0_v49 : Ref sig .tc := ⟨.hbm, 537, rfl⟩
abbrev main_call0_c_13 : Ref sig .tc := ⟨.hbm, 538, rfl⟩
abbrev main_call0_v50 : Ref sig .tc := ⟨.hbm, 539, rfl⟩
abbrev main_call0_v51 : Ref sig .tc := ⟨.hbm, 540, rfl⟩
abbrev main_call0_c_14 : Ref sig .tc := ⟨.hbm, 541, rfl⟩
abbrev main_call0_v52 : Ref sig .tc := ⟨.hbm, 542, rfl⟩
abbrev main_call0_v53 : Ref sig .tc := ⟨.hbm, 543, rfl⟩
abbrev main_call0_v54 : Ref sig .tc := ⟨.hbm, 544, rfl⟩
abbrev main_call0_v55 : Ref sig .tc := ⟨.hbm, 545, rfl⟩
abbrev main_call0_v56 : Ref sig .tc := ⟨.hbm, 546, rfl⟩
abbrev main_call0_c_15 : Ref sig .tc := ⟨.hbm, 547, rfl⟩
abbrev main_call0_v57 : Ref sig .tc := ⟨.hbm, 548, rfl⟩
abbrev main_call0_v58 : Ref sig .tc := ⟨.hbm, 549, rfl⟩
abbrev main_call0_v59 : Ref sig .tc := ⟨.hbm, 550, rfl⟩
abbrev main_call0_v60 : Ref sig .tc := ⟨.hbm, 551, rfl⟩
abbrev main_call0_call5_v0 : Ref sig .tc := ⟨.hbm, 552, rfl⟩
abbrev main_call0_call5_c : Ref sig .tc := ⟨.hbm, 553, rfl⟩
abbrev main_call0_call5_v1 : Ref sig .tc := ⟨.hbm, 554, rfl⟩
abbrev main_call0_call5_v2 : Ref sig .tc := ⟨.hbm, 555, rfl⟩
abbrev main_call0_call5_v3 : Ref sig .tc := ⟨.hbm, 556, rfl⟩
abbrev main_call0_call5_v4 : Ref sig .tc := ⟨.hbm, 557, rfl⟩
abbrev main_call0_call5_v5 : Ref sig .tc := ⟨.hbm, 558, rfl⟩
abbrev main_call0_call5_v6 : Ref sig .tc := ⟨.hbm, 559, rfl⟩
abbrev main_call0_call5_c_0 : Ref sig .tc := ⟨.hbm, 560, rfl⟩
abbrev main_call0_call5_v7 : Ref sig .tc := ⟨.hbm, 561, rfl⟩
abbrev main_call0_call5_v8 : Ref sig .tc := ⟨.hbm, 562, rfl⟩
abbrev main_call0_call5_c_1 : Ref sig .tc := ⟨.hbm, 563, rfl⟩
abbrev main_call0_call5_v9 : Ref sig .tc := ⟨.hbm, 564, rfl⟩
abbrev main_call0_call5_v10 : Ref sig .tc := ⟨.hbm, 565, rfl⟩
abbrev main_call0_call5_v11 : Ref sig .tc := ⟨.hbm, 566, rfl⟩
abbrev main_call0_call5_v12 : Ref sig .tc := ⟨.hbm, 567, rfl⟩
abbrev main_call0_call5_v13 : Ref sig .tc := ⟨.hbm, 568, rfl⟩
abbrev main_call0_call5_c_2 : Ref sig .tc := ⟨.hbm, 569, rfl⟩
abbrev main_call0_call5_v14 : Ref sig .tc := ⟨.hbm, 570, rfl⟩
abbrev main_call0_call5_v15 : Ref sig .tc := ⟨.hbm, 571, rfl⟩
abbrev main_call0_call5_c_3 : Ref sig .tc := ⟨.hbm, 572, rfl⟩
abbrev main_call0_call5_v16 : Ref sig .tc := ⟨.hbm, 573, rfl⟩
abbrev main_call0_call5_v17 : Ref sig .tc := ⟨.hbm, 574, rfl⟩
abbrev main_call0_call5_v18 : Ref sig .tc := ⟨.hbm, 575, rfl⟩
abbrev main_call0_call5_v19 : Ref sig .tc := ⟨.hbm, 576, rfl⟩
abbrev main_call0_call5_v20 : Ref sig .tc := ⟨.hbm, 577, rfl⟩
abbrev main_call0_call5_c_4 : Ref sig .tc := ⟨.hbm, 578, rfl⟩
abbrev main_call0_call5_v21 : Ref sig .tc := ⟨.hbm, 579, rfl⟩
abbrev main_call0_call5_v22 : Ref sig .tc := ⟨.hbm, 580, rfl⟩
abbrev main_call0_call5_c_5 : Ref sig .tc := ⟨.hbm, 581, rfl⟩
abbrev main_call0_call5_v23 : Ref sig .tc := ⟨.hbm, 582, rfl⟩
abbrev main_call0_call5_v24 : Ref sig .tc := ⟨.hbm, 583, rfl⟩
abbrev main_call0_call5_v25 : Ref sig .tc := ⟨.hbm, 584, rfl⟩
abbrev main_call0_call5_v26 : Ref sig .tc := ⟨.hbm, 585, rfl⟩
abbrev main_call0_call5_v27 : Ref sig .tc := ⟨.hbm, 586, rfl⟩
abbrev main_call0_call5_c_6 : Ref sig .tc := ⟨.hbm, 587, rfl⟩
abbrev main_call0_call5_v28 : Ref sig .tc := ⟨.hbm, 588, rfl⟩
abbrev main_call0_call5_v29 : Ref sig .tc := ⟨.hbm, 589, rfl⟩
abbrev main_call0_call5_c_7 : Ref sig .tc := ⟨.hbm, 590, rfl⟩
abbrev main_call0_call5_v30 : Ref sig .tc := ⟨.hbm, 591, rfl⟩
abbrev main_call0_call5_v31 : Ref sig .tc := ⟨.hbm, 592, rfl⟩
abbrev main_call0_call5_v32 : Ref sig .tc := ⟨.hbm, 593, rfl⟩
abbrev main_call0_call5_v33 : Ref sig .tc := ⟨.hbm, 594, rfl⟩
abbrev main_call0_call5_v34 : Ref sig .tc := ⟨.hbm, 595, rfl⟩
abbrev main_call0_call5_v35 : Ref sig .tc := ⟨.hbm, 596, rfl⟩
abbrev main_call0_call5_v36 : Ref sig .tc := ⟨.hbm, 597, rfl⟩
abbrev main_call0_call5_v37 : Ref sig .tc := ⟨.hbm, 598, rfl⟩
abbrev main_call0_call5_c_8 : Ref sig .tc := ⟨.hbm, 599, rfl⟩
abbrev main_call0_call5_v38 : Ref sig .tc := ⟨.hbm, 600, rfl⟩
abbrev main_call0_call5_v39 : Ref sig .tc := ⟨.hbm, 601, rfl⟩
abbrev main_call0_call5_v40 : Ref sig .tc := ⟨.hbm, 602, rfl⟩
abbrev main_call0_call5_c_9 : Ref sig .tc := ⟨.hbm, 603, rfl⟩
abbrev main_call0_call5_v41 : Ref sig .tc := ⟨.hbm, 604, rfl⟩
abbrev main_call0_call5_v42 : Ref sig .tc := ⟨.hbm, 605, rfl⟩
abbrev main_call0_call5_c_10 : Ref sig .tc := ⟨.hbm, 606, rfl⟩
abbrev main_call0_call5_v43 : Ref sig .tc := ⟨.hbm, 607, rfl⟩
abbrev main_call0_call5_v44 : Ref sig .tc := ⟨.hbm, 608, rfl⟩
abbrev main_call0_call5_v45 : Ref sig .tc := ⟨.hbm, 609, rfl⟩
abbrev main_call0_call5_v46 : Ref sig .tc := ⟨.hbm, 610, rfl⟩
abbrev main_call0_call5_v47 : Ref sig .tc := ⟨.hbm, 611, rfl⟩
abbrev main_call0_call5_c_11 : Ref sig .tc := ⟨.hbm, 612, rfl⟩
abbrev main_call0_call5_v48 : Ref sig .tc := ⟨.hbm, 613, rfl⟩
abbrev main_call0_call5_v49 : Ref sig .tc := ⟨.hbm, 614, rfl⟩
abbrev main_call0_call5_c_12 : Ref sig .tc := ⟨.hbm, 615, rfl⟩
abbrev main_call0_call5_v50 : Ref sig .tc := ⟨.hbm, 616, rfl⟩
abbrev main_call0_call5_v51 : Ref sig .tc := ⟨.hbm, 617, rfl⟩
abbrev main_call0_call5_v52 : Ref sig .tc := ⟨.hbm, 618, rfl⟩
abbrev main_call0_call5_v53 : Ref sig .tc := ⟨.hbm, 619, rfl⟩
abbrev main_call0_call5_v54 : Ref sig .tc := ⟨.hbm, 620, rfl⟩
abbrev main_call0_call5_c_13 : Ref sig .tc := ⟨.hbm, 621, rfl⟩
abbrev main_call0_call5_v55 : Ref sig .tc := ⟨.hbm, 622, rfl⟩
abbrev main_call0_call5_v56 : Ref sig .tc := ⟨.hbm, 623, rfl⟩
abbrev main_call0_call5_c_14 : Ref sig .tc := ⟨.hbm, 624, rfl⟩
abbrev main_call0_call5_v57 : Ref sig .tc := ⟨.hbm, 625, rfl⟩
abbrev main_call0_call5_v58 : Ref sig .tc := ⟨.hbm, 626, rfl⟩
abbrev main_call0_call5_v59 : Ref sig .tc := ⟨.hbm, 627, rfl⟩
abbrev main_call0_call5_v60 : Ref sig .tc := ⟨.hbm, 628, rfl⟩
abbrev main_call0_call5_v61 : Ref sig .tc := ⟨.hbm, 629, rfl⟩
abbrev main_call0_call5_c_15 : Ref sig .tc := ⟨.hbm, 630, rfl⟩
abbrev main_call0_call5_v62 : Ref sig .tc := ⟨.hbm, 631, rfl⟩
abbrev main_call0_call5_v63 : Ref sig .tc := ⟨.hbm, 632, rfl⟩
abbrev main_call0_call5_c_16 : Ref sig .tc := ⟨.hbm, 633, rfl⟩
abbrev main_call0_call5_v64 : Ref sig .tc := ⟨.hbm, 634, rfl⟩
abbrev main_call0_call5_v65 : Ref sig .tc := ⟨.hbm, 635, rfl⟩
abbrev main_call0_call5_v66 : Ref sig .tc := ⟨.hbm, 636, rfl⟩
abbrev main_call0_call5_v67 : Ref sig .tc := ⟨.hbm, 637, rfl⟩
abbrev main_call0_call5_v68 : Ref sig .tc := ⟨.hbm, 638, rfl⟩
abbrev main_call0_call5_v69 : Ref sig .tc := ⟨.hbm, 639, rfl⟩
abbrev main_call0_call5_v70 : Ref sig .tc := ⟨.hbm, 640, rfl⟩
abbrev main_call0_call5_v71 : Ref sig .tc := ⟨.hbm, 641, rfl⟩
abbrev main_call0_call5_c_17 : Ref sig .tc := ⟨.hbm, 642, rfl⟩
abbrev main_call0_call5_v72 : Ref sig .tc := ⟨.hbm, 643, rfl⟩
abbrev main_call0_call5_v73 : Ref sig .tc := ⟨.hbm, 644, rfl⟩
abbrev main_call0_call5_v74 : Ref sig .tc := ⟨.hbm, 645, rfl⟩
abbrev main_call0_call5_c_18 : Ref sig .tc := ⟨.hbm, 646, rfl⟩
abbrev main_call0_call5_v75 : Ref sig .tc := ⟨.hbm, 647, rfl⟩
abbrev main_call0_call5_v76 : Ref sig .tc := ⟨.hbm, 648, rfl⟩
abbrev main_call0_call5_c_19 : Ref sig .tc := ⟨.hbm, 649, rfl⟩
abbrev main_call0_call5_v77 : Ref sig .tc := ⟨.hbm, 650, rfl⟩
abbrev main_call0_call5_v78 : Ref sig .tc := ⟨.hbm, 651, rfl⟩
abbrev main_call0_call5_v79 : Ref sig .tc := ⟨.hbm, 652, rfl⟩
abbrev main_call0_call5_v80 : Ref sig .tc := ⟨.hbm, 653, rfl⟩
abbrev main_call0_call5_v81 : Ref sig .tc := ⟨.hbm, 654, rfl⟩
abbrev main_call0_call5_c_20 : Ref sig .tc := ⟨.hbm, 655, rfl⟩
abbrev main_call0_call5_v82 : Ref sig .tc := ⟨.hbm, 656, rfl⟩
abbrev main_call0_call5_v83 : Ref sig .tc := ⟨.hbm, 657, rfl⟩
abbrev main_call0_call5_c_21 : Ref sig .tc := ⟨.hbm, 658, rfl⟩
abbrev main_call0_call5_v84 : Ref sig .tc := ⟨.hbm, 659, rfl⟩
abbrev main_call0_call5_v85 : Ref sig .tc := ⟨.hbm, 660, rfl⟩
abbrev main_call0_call5_v86 : Ref sig .tc := ⟨.hbm, 661, rfl⟩
abbrev main_call0_call5_v87 : Ref sig .tc := ⟨.hbm, 662, rfl⟩
abbrev main_call0_call5_v88 : Ref sig .tc := ⟨.hbm, 663, rfl⟩
abbrev main_call0_call5_c_22 : Ref sig .tc := ⟨.hbm, 664, rfl⟩
abbrev main_call0_call5_v89 : Ref sig .tc := ⟨.hbm, 665, rfl⟩
abbrev main_call0_call5_v90 : Ref sig .tc := ⟨.hbm, 666, rfl⟩
abbrev main_call0_call5_c_23 : Ref sig .tc := ⟨.hbm, 667, rfl⟩
abbrev main_call0_call5_v91 : Ref sig .tc := ⟨.hbm, 668, rfl⟩
abbrev main_call0_call5_v92 : Ref sig .tc := ⟨.hbm, 669, rfl⟩
abbrev main_call0_call5_v93 : Ref sig .tc := ⟨.hbm, 670, rfl⟩
abbrev main_call0_call5_v94 : Ref sig .tc := ⟨.hbm, 671, rfl⟩
abbrev main_call0_call5_v95 : Ref sig .tc := ⟨.hbm, 672, rfl⟩
abbrev main_call0_call5_c_24 : Ref sig .tc := ⟨.hbm, 673, rfl⟩
abbrev main_call0_call5_v96 : Ref sig .tc := ⟨.hbm, 674, rfl⟩
abbrev main_call0_call5_v97 : Ref sig .tc := ⟨.hbm, 675, rfl⟩
abbrev main_call0_call5_c_25 : Ref sig .tc := ⟨.hbm, 676, rfl⟩
abbrev main_call0_call5_v98 : Ref sig .tc := ⟨.hbm, 677, rfl⟩
abbrev main_call0_call5_v99 : Ref sig .tc := ⟨.hbm, 678, rfl⟩
abbrev main_call0_call5_v100 : Ref sig .tc := ⟨.hbm, 679, rfl⟩
abbrev main_call0_call5_v101 : Ref sig .tc := ⟨.hbm, 680, rfl⟩
abbrev main_call0_call5_v102 : Ref sig .tc := ⟨.hbm, 681, rfl⟩
abbrev main_call0_call5_v103 : Ref sig .tc := ⟨.hbm, 682, rfl⟩
abbrev main_call0_call5_v104 : Ref sig .tc := ⟨.hbm, 683, rfl⟩
abbrev main_call0_call5_v105 : Ref sig .tc := ⟨.hbm, 684, rfl⟩
abbrev main_call0_call5_c_26 : Ref sig .tc := ⟨.hbm, 685, rfl⟩
abbrev main_call0_call5_v106 : Ref sig .tc := ⟨.hbm, 686, rfl⟩
abbrev main_call0_call5_v107 : Ref sig .tc := ⟨.hbm, 687, rfl⟩
abbrev main_call0_call5_v108 : Ref sig .tc := ⟨.hbm, 688, rfl⟩
abbrev main_call0_call5_c_27 : Ref sig .tc := ⟨.hbm, 689, rfl⟩
abbrev main_call0_call5_v109 : Ref sig .tc := ⟨.hbm, 690, rfl⟩
abbrev main_call0_call5_v110 : Ref sig .tc := ⟨.hbm, 691, rfl⟩
abbrev main_call0_call5_c_28 : Ref sig .tc := ⟨.hbm, 692, rfl⟩
abbrev main_call0_call5_v111 : Ref sig .tc := ⟨.hbm, 693, rfl⟩
abbrev main_call0_call5_v112 : Ref sig .tc := ⟨.hbm, 694, rfl⟩
abbrev main_call0_call5_v113 : Ref sig .tc := ⟨.hbm, 695, rfl⟩
abbrev main_call0_call5_v114 : Ref sig .tc := ⟨.hbm, 696, rfl⟩
abbrev main_call0_call5_v115 : Ref sig .tc := ⟨.hbm, 697, rfl⟩
abbrev main_call0_call5_c_29 : Ref sig .tc := ⟨.hbm, 698, rfl⟩
abbrev main_call0_call5_v116 : Ref sig .tc := ⟨.hbm, 699, rfl⟩
abbrev main_call0_call5_v117 : Ref sig .tc := ⟨.hbm, 700, rfl⟩
abbrev main_call0_call5_c_30 : Ref sig .tc := ⟨.hbm, 701, rfl⟩
abbrev main_call0_call5_v118 : Ref sig .tc := ⟨.hbm, 702, rfl⟩
abbrev main_call0_call5_v119 : Ref sig .tc := ⟨.hbm, 703, rfl⟩
abbrev main_call0_call5_v120 : Ref sig .tc := ⟨.hbm, 704, rfl⟩
abbrev main_call0_call5_v121 : Ref sig .tc := ⟨.hbm, 705, rfl⟩
abbrev main_call0_call5_v122 : Ref sig .tc := ⟨.hbm, 706, rfl⟩
abbrev main_call0_call5_c_31 : Ref sig .tc := ⟨.hbm, 707, rfl⟩
abbrev main_call0_call5_v123 : Ref sig .tc := ⟨.hbm, 708, rfl⟩
abbrev main_call0_call5_v124 : Ref sig .tc := ⟨.hbm, 709, rfl⟩
abbrev main_call0_call5_c_32 : Ref sig .tc := ⟨.hbm, 710, rfl⟩
abbrev main_call0_call5_v125 : Ref sig .tc := ⟨.hbm, 711, rfl⟩
abbrev main_call0_call5_v126 : Ref sig .tc := ⟨.hbm, 712, rfl⟩
abbrev main_call0_call5_v127 : Ref sig .tc := ⟨.hbm, 713, rfl⟩
abbrev main_call0_call5_v128 : Ref sig .tc := ⟨.hbm, 714, rfl⟩
abbrev main_call0_call5_v129 : Ref sig .tc := ⟨.hbm, 715, rfl⟩
abbrev main_call0_call5_c_33 : Ref sig .tc := ⟨.hbm, 716, rfl⟩
abbrev main_call0_call5_v130 : Ref sig .tc := ⟨.hbm, 717, rfl⟩
abbrev main_call0_call5_v131 : Ref sig .tc := ⟨.hbm, 718, rfl⟩
abbrev main_call0_call5_c_34 : Ref sig .tc := ⟨.hbm, 719, rfl⟩
abbrev main_call0_call5_v132 : Ref sig .tc := ⟨.hbm, 720, rfl⟩
abbrev main_call0_call5_v133 : Ref sig .tc := ⟨.hbm, 721, rfl⟩
abbrev main_call0_call5_v134 : Ref sig .tc := ⟨.hbm, 722, rfl⟩
abbrev main_call0_call5_v135 : Ref sig .tc := ⟨.hbm, 723, rfl⟩
abbrev main_call0_call5_v136 : Ref sig .tc := ⟨.hbm, 724, rfl⟩
abbrev main_call0_call5_v137 : Ref sig .tc := ⟨.hbm, 725, rfl⟩
abbrev main_call0_call5_v138 : Ref sig .tc := ⟨.hbm, 726, rfl⟩
abbrev main_call0_call5_v139 : Ref sig .tc := ⟨.hbm, 727, rfl⟩
abbrev main_call0_call5_c_35 : Ref sig .tc := ⟨.hbm, 728, rfl⟩
abbrev main_call0_call5_v140 : Ref sig .tc := ⟨.hbm, 729, rfl⟩
abbrev main_call0_call5_v141 : Ref sig .tc := ⟨.hbm, 730, rfl⟩
abbrev main_call0_call5_v142 : Ref sig .tc := ⟨.hbm, 731, rfl⟩
abbrev main_call0_call5_c_36 : Ref sig .tc := ⟨.hbm, 732, rfl⟩
abbrev main_call0_call5_v143 : Ref sig .tc := ⟨.hbm, 733, rfl⟩
abbrev main_call0_call5_v144 : Ref sig .tc := ⟨.hbm, 734, rfl⟩
abbrev main_call0_call5_c_37 : Ref sig .tc := ⟨.hbm, 735, rfl⟩
abbrev main_call0_call5_v145 : Ref sig .tc := ⟨.hbm, 736, rfl⟩
abbrev main_call0_call5_v146 : Ref sig .tc := ⟨.hbm, 737, rfl⟩
abbrev main_call0_call5_v147 : Ref sig .tc := ⟨.hbm, 738, rfl⟩
abbrev main_call0_call5_v148 : Ref sig .tc := ⟨.hbm, 739, rfl⟩
abbrev main_call0_call5_v149 : Ref sig .tc := ⟨.hbm, 740, rfl⟩
abbrev main_call0_call5_c_38 : Ref sig .tc := ⟨.hbm, 741, rfl⟩
abbrev main_call0_call5_v150 : Ref sig .tc := ⟨.hbm, 742, rfl⟩
abbrev main_call0_call5_v151 : Ref sig .tc := ⟨.hbm, 743, rfl⟩
abbrev main_call0_call5_c_39 : Ref sig .tc := ⟨.hbm, 744, rfl⟩
abbrev main_call0_call5_v152 : Ref sig .tc := ⟨.hbm, 745, rfl⟩
abbrev main_call0_call5_v153 : Ref sig .tc := ⟨.hbm, 746, rfl⟩
abbrev main_call0_call5_v154 : Ref sig .tc := ⟨.hbm, 747, rfl⟩
abbrev main_call0_call5_v155 : Ref sig .tc := ⟨.hbm, 748, rfl⟩
abbrev main_call0_call5_v156 : Ref sig .tc := ⟨.hbm, 749, rfl⟩
abbrev main_call0_call5_c_40 : Ref sig .tc := ⟨.hbm, 750, rfl⟩
abbrev main_call0_call5_v157 : Ref sig .tc := ⟨.hbm, 751, rfl⟩
abbrev main_call0_call5_v158 : Ref sig .tc := ⟨.hbm, 752, rfl⟩
abbrev main_call0_call5_c_41 : Ref sig .tc := ⟨.hbm, 753, rfl⟩
abbrev main_call0_call5_v159 : Ref sig .tc := ⟨.hbm, 754, rfl⟩
abbrev main_call0_call5_v160 : Ref sig .tc := ⟨.hbm, 755, rfl⟩
abbrev main_call0_call5_v161 : Ref sig .tc := ⟨.hbm, 756, rfl⟩
abbrev main_call0_call5_v162 : Ref sig .tc := ⟨.hbm, 757, rfl⟩
abbrev main_call0_call5_v163 : Ref sig .tc := ⟨.hbm, 758, rfl⟩
abbrev main_call0_call5_c_42 : Ref sig .tc := ⟨.hbm, 759, rfl⟩
abbrev main_call0_call5_v164 : Ref sig .tc := ⟨.hbm, 760, rfl⟩
abbrev main_call0_call5_v165 : Ref sig .tc := ⟨.hbm, 761, rfl⟩
abbrev main_call0_call5_c_43 : Ref sig .tc := ⟨.hbm, 762, rfl⟩
abbrev main_call0_call5_v166 : Ref sig .tc := ⟨.hbm, 763, rfl⟩
abbrev main_call0_call5_v167 : Ref sig .tc := ⟨.hbm, 764, rfl⟩
abbrev main_call0_call5_v168 : Ref sig .tc := ⟨.hbm, 765, rfl⟩
abbrev main_call0_call5_v169 : Ref sig .tc := ⟨.hbm, 766, rfl⟩
abbrev main_call0_call5_v170 : Ref sig .tc := ⟨.hbm, 767, rfl⟩
abbrev main_call0_v61_0 : Ref sig .tc := ⟨.hbm, 768, rfl⟩
abbrev main_call0_call5_v172 : Ref sig .tc := ⟨.hbm, 769, rfl⟩
abbrev main_call0_call5_v173 : Ref sig .tc := ⟨.hbm, 770, rfl⟩
abbrev main_call0_call5_c_44 : Ref sig .tc := ⟨.hbm, 771, rfl⟩
abbrev main_call0_call5_v174 : Ref sig .tc := ⟨.hbm, 772, rfl⟩
abbrev main_call0_v61_1 : Ref sig .tc := ⟨.hbm, 773, rfl⟩
abbrev main_call0_v62 : Ref sig .tc := ⟨.hbm, 774, rfl⟩
abbrev main_call0_v63 : Ref sig .tc := ⟨.hbm, 775, rfl⟩
abbrev main_call0_v64 : Ref sig .tc := ⟨.hbm, 776, rfl⟩
abbrev main_call0_v65 : Ref sig .tc := ⟨.hbm, 777, rfl⟩
abbrev main_call0_c_16 : Ref sig .tc := ⟨.hbm, 778, rfl⟩
abbrev main_call0_v66 : Ref sig .tc := ⟨.hbm, 779, rfl⟩
abbrev main_call0_v67 : Ref sig .tc := ⟨.hbm, 780, rfl⟩
abbrev main_call0_v68 : Ref sig .tc := ⟨.hbm, 781, rfl⟩
abbrev main_call0_v69 : Ref sig .tc := ⟨.hbm, 782, rfl⟩
abbrev main_call0_v70 : Ref sig .tc := ⟨.hbm, 783, rfl⟩
abbrev main_call0_c_17 : Ref sig .tc := ⟨.hbm, 784, rfl⟩
abbrev main_call0_v71 : Ref sig .tc := ⟨.hbm, 785, rfl⟩
abbrev main_call0_v72 : Ref sig .tc := ⟨.hbm, 786, rfl⟩
abbrev main_call0_v73 : Ref sig .tc := ⟨.hbm, 787, rfl⟩
abbrev main_call0_c_18 : Ref sig .tc := ⟨.hbm, 788, rfl⟩
abbrev main_call0_v74 : Ref sig .tc := ⟨.hbm, 789, rfl⟩
abbrev main_call0_v75 : Ref sig .tc := ⟨.hbm, 790, rfl⟩
abbrev main_call0_v76 : Ref sig .tc := ⟨.hbm, 791, rfl⟩
abbrev main_call0_v77 : Ref sig .tc := ⟨.hbm, 792, rfl⟩
abbrev main_call0_v78 : Ref sig .tc := ⟨.hbm, 793, rfl⟩
abbrev main_call0_v79 : Ref sig .tc := ⟨.hbm, 794, rfl⟩
abbrev main_call0_v80 : Ref sig .tc := ⟨.hbm, 795, rfl⟩
abbrev main_call0_v81 : Ref sig .tc := ⟨.hbm, 796, rfl⟩
abbrev main_call0_v82 : Ref sig .tc := ⟨.hbm, 797, rfl⟩
abbrev main_call0_v83 : Ref sig .tc := ⟨.hbm, 798, rfl⟩
abbrev main_call0_v84 : Ref sig .tc := ⟨.hbm, 799, rfl⟩
abbrev main_call0_v85 : Ref sig .tc := ⟨.hbm, 800, rfl⟩
abbrev main_call0_v86 : Ref sig .tc := ⟨.hbm, 801, rfl⟩
abbrev main_call0_v87 : Ref sig .tc := ⟨.hbm, 802, rfl⟩
abbrev main_call0_v88 : Ref sig .tc := ⟨.hbm, 803, rfl⟩
abbrev main_v7 : Ref sig .tc := ⟨.hbm, 804, rfl⟩
abbrev main_v8 : Ref sig .tc := ⟨.hbm, 805, rfl⟩
abbrev main_v9 : Ref sig .tc := ⟨.hbm, 806, rfl⟩
abbrev main_v10 : Ref sig .tc := ⟨.hbm, 807, rfl⟩
abbrev main_v11 : Ref sig .tc := ⟨.hbm, 808, rfl⟩
abbrev main_v12 : Ref sig .tc := ⟨.hbm, 809, rfl⟩
abbrev main_v13 : Ref sig .tc := ⟨.hbm, 810, rfl⟩
abbrev main_call1_c : Ref sig .tc := ⟨.hbm, 811, rfl⟩
abbrev main_call1_v0 : Ref sig .tc := ⟨.hbm, 812, rfl⟩
abbrev main_call1_v1 : Ref sig .tc := ⟨.hbm, 813, rfl⟩
abbrev main_call1_c_0 : Ref sig .tc := ⟨.hbm, 814, rfl⟩
abbrev main_call1_v2 : Ref sig .tc := ⟨.hbm, 815, rfl⟩
abbrev main_call1_v3 : Ref sig .tc := ⟨.hbm, 816, rfl⟩
abbrev main_call1_v4 : Ref sig .tc := ⟨.hbm, 817, rfl⟩
abbrev main_call1_v5 : Ref sig .tc := ⟨.hbm, 818, rfl⟩
abbrev main_call1_c_1 : Ref sig .tc := ⟨.hbm, 819, rfl⟩
abbrev main_call1_c_2 : Ref sig .tc := ⟨.hbm, 820, rfl⟩
abbrev main_call1_v6 : Ref sig .tc := ⟨.hbm, 821, rfl⟩
abbrev main_call1_v7 : Ref sig .tc := ⟨.hbm, 822, rfl⟩
abbrev main_call1_v8 : Ref sig .tc := ⟨.hbm, 823, rfl⟩
abbrev main_call1_v9 : Ref sig .tc := ⟨.hbm, 824, rfl⟩
abbrev main_call1_v10 : Ref sig .tc := ⟨.hbm, 825, rfl⟩
abbrev main_call1_v11 : Ref sig .tc := ⟨.hbm, 826, rfl⟩
abbrev main_call1_c_3 : Ref sig .tc := ⟨.hbm, 827, rfl⟩
abbrev main_call1_v12 : Ref sig .tc := ⟨.hbm, 828, rfl⟩
abbrev main_call1_v13 : Ref sig .tc := ⟨.hbm, 829, rfl⟩
abbrev main_call1_cst : Ref sig .tc := ⟨.hbm, 830, rfl⟩
abbrev main_call1_v14 : Ref sig .tc := ⟨.hbm, 831, rfl⟩
abbrev main_v14 : Ref sig .tc := ⟨.hbm, 832, rfl⟩

abbrev nD : Nat := 1
abbrev τ : Topo := Topo.v7x

variable {F : FTy → Type} [FloatOps F]
-- ==== Proof.FactsIdeal.lean ====
/-
  The side conditions the idealized kernel states of its own offsets, loops and shapes: every one is a decidable statement
  about finitely many tiles and trips.
-/
module

public import proofs.«01_k».proof.KernelIdeal
public import Idealize.ShloMosaic.Lib.Decide

@[expose] public section

set_option Elab.async false

namespace Cert.KernelIdeal.Own

open Idealize.ShloMosaic Idealize.SL.Sem

set_option maxRecDepth 65536 in
set_option synthInstance.maxSize 4096 in
set_option maxHeartbeats 0 in
instance facts₀ : Facts₀ := by
  constructor
  all_goals decide +kernel

instance facts : Facts := {}

end Cert.KernelIdeal.Own
-- ==== Proof.FactsKernel.lean ====
/-
  The side conditions the kernel states of its own offsets, loops and shapes: every one is a decidable statement
  about finitely many tiles and trips.
-/
module

public import proofs.«01_k».proof.Kernel
public import Idealize.ShloMosaic.Lib.Decide

@[expose] public section

set_option Elab.async false

namespace Cert.Kernel.Own

open Idealize.ShloMosaic Idealize.SL.Sem

set_option maxRecDepth 65536 in
set_option synthInstance.maxSize 4096 in
set_option maxHeartbeats 0 in
instance facts₀ : Facts₀ := by
  constructor
  all_goals decide +kernel

instance facts : Facts := {}

end Cert.Kernel.Own
-- ==== Proof.Program.lean ====
/-
  The tile's program in the shape the source has it: one gathered vector (`gstep`), the sixteen of a block (`gsteps`), the
  62 blocks of a chunk (`realign`), the starts and the waits of the four copies in flight, and the prologue, the 14 rounds
  of the ring and the epilogue over them (`ring`). The printed function is cut into many parts; each of its twelve
  realignments and the whole ring are these, by definitional unfolding.
-/
module

public import proofs.«01_k».proof.Proof.FactsIdeal

@[expose] public section

noncomputable section

namespace Cert.Proof.Program

open Cert.KernelIdeal Cert.KernelIdeal.Facts₀
open Idealize.ShloMosaic Idealize.SL.Sem

variable {F : FTy → Type} [FloatOps F]

/-- A tile's effects. -/
abbrev Eff (F : FTy → Type) [FloatOps F] (i : grid0.Coords) := TpuEff nD τ sig (Elt F) Λ₀ (.scVector ((i 0).castLE hcore0) ((i 1).castLE hsub0))

/-- The words a block's number adds to a lane's index: `256 * k` in every lane. -/
def blkVec (k : Fin k0_t1_loop.trips) : IVec S16 32 :=
  addi (broadcast S16 0#32) (broadcast S16 (Scalar.muli (Scalar.addi 0#32 (Scalar.muli (Scf.iv 0#32 1#32 k) 1#32)) 256#32))

/-- Where vector `n` of block `k` lands in the output chunk. -/
def segOff (k : Fin k0_t1_loop.trips) (n : ℕ) : Fin 1 → ℕ :=
  ![(Scalar.indexCast (Scalar.addi (Scalar.muli (Scalar.addi 0#32 (Scalar.muli (Scf.iv 0#32 1#32 k) 1#32)) 256#32) (BitVec.ofNat 32 (16 * n)))).toNat]

theorem segOff_eq (k : Fin k0_t1_loop.trips) (n : Fin 16) : segOff k n = ![256 * k.val + 16 * n.val] := by
  revert k n; decide +kernel

theorem segOff_inb (k : Fin k0_t1_loop.trips) (n : ℕ) (hn : n < 16) : ∀ a, segOff k n a + S16.size a ≤ S15872.size a := by
  rw [segOff_eq k ⟨n, hn⟩]
  intro a
  fin_cases a
  have hk : k.val < 62 := lt_of_lt_of_eq k.isLt (by decide)
  show 256 * k.val + 16 * n + 16 ≤ 15872
  omega

/-- One gathered vector: check the indices, gather, and store at its place in the output chunk. -/
def gstep (i : grid0.Coords) (ib : Memref sig .scVector .vmem S16128 .f32) (ob : Memref sig .scVector .vmem S15872 .f32)
    (v : IVec S16 32) (off : Fin 1 → ℕ) (hoff : ∀ a, off a + S16.size a ≤ S15872.size a) : Prog (Eff F i) Unit := do
  have h : k0_chk1 v := (← Prog.lift (TpuEff.assume (k0_chk1 v) (k0_chk1.dec v))).down
  let x : Vec F S16 .f32 ← SparseCore.vectorLoadIdx ib ![v] (k0_idx1_inb v h) (View.loads_vmem h_S16128)
  let _y : Vec F S16 .f32 ← Prog.lift (.load ob (Rect.unit (s := S15872) off S16.size hoff).toLoadRect (View.loadsAt_vmem h_S16))
  Prog.lift (.store ob (Rect.unit (s := S15872) off S16.size hoff) x Finset.univ (View.stores_vmem_bits_univ h_S16 rfl) (.inl rfl))

/-- Block `k`'s vectors `n`, `n + 1`, … , `m` of them. -/
def gsteps (i : grid0.Coords) (ib : Memref sig .scVector .vmem S16128 .f32) (ob : Memref sig .scVector .vmem S15872 .f32)
    (ks : ℕ → IVec S16 32) (k : Fin k0_t1_loop.trips) : (m n : ℕ) → n + m ≤ 16 → Prog (Eff F i) Unit
  | 0, _, _ => pure ⟨⟩
  | m + 1, n, hn => do
    gstep i ib ob (addi (ks n) (blkVec k)) (segOff k n) (segOff_inb k n (by omega))
    gsteps i ib ob ks k m (n + 1) (by omega)

/-- A chunk's realignment: its 62 blocks. -/
def realign (i : grid0.Coords) (ib : Memref sig .scVector .vmem S16128 .f32) (ob : Memref sig .scVector .vmem S15872 .f32)
    (ks : ℕ → IVec S16 32) : Prog (Eff F i) Unit :=
  Scf.Loop.for k0_t1_loop k0_t1_ok ⟨⟩ fun k _ => gsteps i ib ob ks k 16 0 le_rfl

/-- Sixteen index vectors as a family. -/
def fam (v0 v1 v2 v3 v4 v5 v6 v7 v8 v9 v10 v11 v12 v13 v14 v15 : IVec S16 32) : ℕ → IVec S16 32
  | 0 => v0 | 1 => v1 | 2 => v2 | 3 => v3 | 4 => v4 | 5 => v5 | 6 => v6 | 7 => v7
  | 8 => v8 | 9 => v9 | 10 => v10 | 11 => v11 | 12 => v12 | 13 => v13 | 14 => v14 | _ => v15

/-- One of the ring's four lanes: its input and output buffers and the semaphores of its copies in and out. -/
structure Lane where
  ib : Memref sig .scVector .vmem S16128 .f32
  hib : ib.IsWhole
  ob : Memref sig .scVector .vmem S15872 .f32
  hob : ob.IsWhole
  si : DmaSems sig S_
  so : DmaSems sig S_

section Copies

variable (i : grid0.Coords) (src : Memref sig .scVector .hbm S33554432 .f32) (dst : Memref sig .scVector .hbm S32505856 .f32) (l : Lane)

/-- Start the copy of the input's chunk at `off`. -/
def inStart (off : Fin 1 → ℕ) (h : ∀ a, off a + S16128.size a ≤ S33554432.size a) : Prog (Eff F i) PUnit :=
  Prog.lift (.enqueueDma (src.slice (Rect.unit (s := S33554432) off S16128.size h) (fun _ => rfl)) (.here l.ib) (.dma l.si.sem)
    (View.wordExact_bits rfl) l.hib.wordExact ⟨Or.inl rfl, trivial⟩)

/-- Wait for it. -/
def inWait (off : Fin 1 → ℕ) (h : ∀ a, off a + S16128.size a ≤ S33554432.size a) : Prog (Eff F i) PUnit :=
  Prog.lift (.waitDma2 l.si.sem (src.slice (Rect.unit (s := S33554432) off S16128.size h) (fun _ => rfl)) l.ib
    (View.wordExact_bits rfl) l.hib.wordExact)

/-- Start the copy of the output's chunk at `off`. -/
def outStart (off : Fin 1 → ℕ) (h : ∀ a, off a + S15872.size a ≤ S32505856.size a) : Prog (Eff F i) PUnit :=
  Prog.lift (.enqueueDma l.ob (.here (dst.slice (Rect.unit (s := S32505856) off S15872.size h) (fun _ => rfl))) (.dma l.so.sem)
    l.hob.wordExact (View.wordExact_bits rfl) ⟨Or.inl rfl, trivial⟩)

/-- Wait for it. -/
def outWait (off : Fin 1 → ℕ) (h : ∀ a, off a + S15872.size a ≤ S32505856.size a) : Prog (Eff F i) PUnit :=
  Prog.lift (.waitDma2 l.so.sem l.ob (dst.slice (Rect.unit (s := S32505856) off S15872.size h) (fun _ => rfl))
    l.hob.wordExact (View.wordExact_bits rfl))

/-- The copies outside the ring, by the row of their window. -/
abbrev startIn (r : Fin 12) : Prog (Eff F i) PUnit := inStart i src l (k0_off1 i (k0_off1_at r).1 (k0_off1_at r).2) (k0_off1_inb i r)
abbrev waitIn (r : Fin 12) : Prog (Eff F i) PUnit := inWait i src l (k0_off1 i (k0_off1_at r).1 (k0_off1_at r).2) (k0_off1_inb i r)
abbrev startOut (r : Fin 8) : Prog (Eff F i) PUnit := outStart i dst l (k0_off18 i (k0_off18_at r).1 (k0_off18_at r).2) (k0_off18_inb i r)
abbrev waitOut (r : Fin 8) : Prog (Eff F i) PUnit := outWait i dst l (k0_off18 i (k0_off18_at r).1 (k0_off18_at r).2) (k0_off18_inb i r)
abbrev waitOut' (b : Fin 4) : Prog (Eff F i) PUnit := outWait i dst l (k0_off135 i (k0_off135_at b).1 (k0_off135_at b).2) (k0_off135_inb i b)

/-- The copies of round `t`, by the lane. -/
abbrev ringWaitIn (t : Fin k0_t5_loop.trips) (b : Fin 4) : Prog (Eff F i) PUnit :=
  inWait i src l (k0_off67 i t (k0_off67_at b).1 (k0_off67_at b).2) (k0_off67_inb i t b)
abbrev ringWaitOut (t : Fin k0_t5_loop.trips) (b : Fin 4) : Prog (Eff F i) PUnit :=
  outWait i dst l (k0_off68 i t (k0_off68_at b).1 (k0_off68_at b).2) (k0_off68_inb i t b)
abbrev ringStartOut (t : Fin k0_t5_loop.trips) (b : Fin 4) : Prog (Eff F i) PUnit :=
  outStart i dst l (k0_off85 i t (k0_off85_at b).1 (k0_off85_at b).2) (k0_off85_inb i t b)
abbrev ringStartIn (t : Fin k0_t5_loop.trips) (b : Fin 4) : Prog (Eff F i) PUnit :=
  inStart i src l (k0_off86 i t (k0_off86_at b).1 (k0_off86_at b).2) (k0_off86_inb i t b)

/-- A lane's first unit: the output buffer is free. -/
def first (ks : ℕ → IVec S16 32) (r r' : Fin 12) (ro : Fin 8) : Prog (Eff F i) PUnit := do
  waitIn i src l r
  realign i l.ib l.ob ks
  startOut i dst l ro
  startIn i src l r'

/-- A lane's unit in round `t` of the ring. -/
def mid (ks : ℕ → IVec S16 32) (t : Fin k0_t5_loop.trips) (b : Fin 4) : Prog (Eff F i) PUnit := do
  ringWaitIn i src l t b
  ringWaitOut i dst l t b
  realign i l.ib l.ob ks
  ringStartOut i dst l t b
  ringStartIn i src l t b

/-- A lane's last unit: there is no next chunk to start. -/
def last (ks : ℕ → IVec S16 32) (b : Fin 4) (r : Fin 12) (ro : Fin 8) : Prog (Eff F i) PUnit := do
  waitIn i src l r
  waitOut' i dst l b
  realign i l.ib l.ob ks
  startOut i dst l ro

end Copies

/-- A round of the ring. -/
def round (i : grid0.Coords) (src : Memref sig .scVector .hbm S33554432 .f32) (dst : Memref sig .scVector .hbm S32505856 .f32)
    (l0 l1 l2 l3 : Lane) (ks kt : ℕ → IVec S16 32) (t : Fin k0_t5_loop.trips) : Prog (Eff F i) (BitVec 32) := do
  mid i src dst l0 ks t 0
  mid i src dst l1 kt t 1
  mid i src dst l2 ks t 2
  mid i src dst l3 kt t 3
  pure 0#32

/-- The tile's program from the point where the two pairs' index vectors are known. -/
def ring (i : grid0.Coords) (src : Memref sig .scVector .hbm S33554432 .f32) (dst : Memref sig .scVector .hbm S32505856 .f32)
    (l0 l1 l2 l3 : Lane) (ks kt : ℕ → IVec S16 32) : Prog (Eff F i) PUnit := do
  startIn i src l0 0
  startIn i src l1 1
  startIn i src l2 2
  startIn i src l3 3
  first i src dst l0 ks 0 4 0
  first i src dst l1 kt 1 5 1
  first i src dst l2 ks 2 6 2
  first i src dst l3 kt 3 7 3
  let _v : BitVec 32 ← Scf.Loop.for k0_t5_loop k0_t5_ok 0#32 fun t _ => round i src dst l0 l1 l2 l3 ks kt t
  last i src dst l0 ks 0 8 4
  last i src dst l1 kt 1 9 5
  last i src dst l2 ks 2 10 6
  last i src dst l3 kt 3 11 7
  waitOut i dst l0 4
  waitOut i dst l1 5
  waitOut i dst l2 6
  waitOut i dst l3 7

/-- The shift of each of the 64 pairs. -/
def shiftTable : List ℕ :=
  [7932, 943, 736, 7017, 6560, 4780, 3350, 7573, 5970, 2818, 6176, 4161, 2562, 1378, 8174, 6170,
   4241, 7767, 91, 4026, 6840, 5652, 56, 3018, 7654, 6943, 5978, 2339, 2760, 4806, 2916, 6151,
   2835, 1851, 5685, 1105, 2937, 6570, 3980, 7714, 1846, 3866, 2914, 1936, 4871, 2834, 6125, 3618,
   7487, 593, 7351, 5479, 572, 1765, 3913, 2687, 5257, 6147, 7228, 2263, 3132, 722, 1196, 1763]

def shift (p : ℕ) : ℕ := shiftTable.getD p 0

/-- The number of a tile's first pair of rows. -/
def pair (i : grid0.Coords) : ℕ := 4 * (i 1).val + 2 * (i 0).val

/-- Where the sixteen lanes of vector `n` of a block start, as a position of the two-channel row. -/
def laneVec (o : BitVec 32) (n : ℕ) : IVec S16 32 :=
  addi (broadcast S16 (Scalar.addi (Scalar.andi o 127#32) (BitVec.ofNat 32 (16 * (n % 8))))) (iota .scVector S16 32 [0] iota_S16_d0_w32_scVector)

/-- The index vector of vector `n` of a block: the position's block of 256 words, the channel, and the place in the block. -/
def idxVec (o : BitVec 32) (n : ℕ) : IVec S16 32 :=
  addi (muli (shrsi (laneVec o n) (broadcast S16 7#32)) (broadcast S16 256#32))
    (addi (broadcast S16 (BitVec.ofNat 32 (128 * (n / 8)))) (andi (laneVec o n) (broadcast S16 127#32)))

end Cert.Proof.Program
-- ==== Proof.Same.lean ====
/-
  The printed function is the tile's program of `Program`: its head computes the two pairs' index vectors, and each of its
  parts after that is the copies and the realignment written here beside it.
-/
module

public import proofs.«01_k».proof.Proof.Program

@[expose] public section

noncomputable section

namespace Cert.Proof.Program

open Cert.KernelIdeal Cert.KernelIdeal.Facts₀
open Idealize.ShloMosaic Idealize.SL.Sem

variable {F : FTy → Type} [FloatOps F]

section Congruences

variable {E : Type → Type*} {σ α β γ : Type}

theorem op_congr {e e' : E β} {k k' : β → Prog E α} (he : e = e') (hk : ∀ x, k x = k' x) : Prog.op e k = Prog.op e' k' := by
  rw [he, funext hk]

theorem loop_congr {L : Scf.Loop 32} {ok : L.OK} {init : σ} {f f' : Fin L.trips → σ → Prog E σ} {k k' : σ → Prog E α}
    (hf : ∀ t x, f t x = f' t x) (hk : ∀ x, k x = k' x) : (Scf.Loop.for L ok init f).bind k = (Scf.Loop.for L ok init f').bind k' := by
  rw [funext fun t => funext (hf t), funext hk]

theorem loop_congr_assoc {L : Scf.Loop 32} {ok : L.OK} {init : σ} {f f' : Fin L.trips → σ → Prog E σ} {k' : σ → Prog E β}
    {g : β → Prog E α} {k : σ → Prog E α} (hf : ∀ t x, f t x = f' t x) (hk : ∀ x, k x = (k' x).bind g) :
    (Scf.Loop.for L ok init f).bind k = ((Scf.Loop.for L ok init f').bind k').bind g := by
  change (Scf.Loop.for L ok init f >>= k) = (Scf.Loop.for L ok init f' >>= k') >>= g
  rw [Prog.bind_assoc, funext fun t => funext (hf t)]
  exact congrArg _ (funext hk)

/-- A part that only computes: go on at its result. -/
theorem peel {G : Prog E α → Prop} {p : Prog E β} {k : β → Prog E α} {r : β} (h : p = pure r) (hk : ∀ x, x = r → G (k x)) : G (p >>= k) := by
  subst h; exact hk r rfl

/-- Programs one after the other. -/
def seq : List (Prog E PUnit) → Prog E α → Prog E α
  | [], r => r
  | q :: qs, r => q >>= fun _ => seq qs r

/-- A part that does `q`, whatever of its result the rest does not use. -/
theorem step {p : Prog E β} {q : Prog E PUnit} {qs : List (Prog E PUnit)} {k : β → Prog E α} {R : Prog E α} (h : ∃ r, p = q >>= fun _ => pure r)
    (hk : ∀ r, k r = seq qs R) : p >>= k = seq (q :: qs) R := by
  obtain ⟨r, rfl⟩ := h
  rw [Prog.bind_assoc]
  exact congrArg (q >>= ·) (funext fun _ => hk r)

/-- A part of whose result the rest uses what `f` shows. -/
theorem step' {p : Prog E β} {q : Prog E PUnit} {qs : List (Prog E PUnit)} {k : β → Prog E α} {R : Prog E α} {f : γ → β} (h : ∃ r, p = q >>= fun _ => pure (f r))
    (hk : ∀ r, k (f r) = seq qs R) : p >>= k = seq (q :: qs) R := by
  obtain ⟨r, rfl⟩ := h
  rw [Prog.bind_assoc]
  exact congrArg (q >>= ·) (funext fun _ => hk r)

end Congruences

set_option maxRecDepth 65536
set_option maxHeartbeats 4000000

/-- The printed function of a tile is `ring`, with the index vectors of its two pairs. -/
theorem cc0_k_eq (i : grid0.Coords) (src : Memref sig .scVector .hbm S33554432 .f32) (hsrc : src.IsWhole)
    (dst : Memref sig .scVector .hbm S32505856 .f32) (hdst : dst.IsWhole) (l0 l1 l2 l3 : Lane) :
    ∃ ks kt, ((∀ n : Fin 16, ks n = idxVec (BitVec.ofNat 32 (shift (pair i))) n) ∧ ∀ n : Fin 16, kt n = idxVec (BitVec.ofNat 32 (shift (pair i + 1))) n) ∧
    cc0_k (F := F) i src hsrc dst hdst l0.ib l0.hib l1.ib l1.hib l2.ib l2.hib l3.ib l3.hib l0.ob l0.hob l1.ob l1.hob l2.ob l2.hob l3.ob l3.hob
      l0.si l1.si l2.si l3.si l0.so l1.so l2.so l3.so = ring i src dst l0 l1 l2 l3 ks kt := by
  let G := fun p : Prog (Eff F i) PUnit => ∃ ks kt,
    ((∀ n : Fin 16, ks n = idxVec (BitVec.ofNat 32 (shift (pair i))) n) ∧ ∀ n : Fin 16, kt n = idxVec (BitVec.ofNat 32 (shift (pair i + 1))) n) ∧
    p = ring i src dst l0 l1 l2 l3 ks kt
  change G (cc0_k (F := F) i src hsrc dst hdst l0.ib l0.hib l1.ib l1.hib l2.ib l2.hib l3.ib l3.hib l0.ob l0.hob l1.ob l1.hob l2.ob l2.hob l3.ob l3.hob
      l0.si l1.si l2.si l3.si l0.so l1.so l2.so l3.so)
  unfold cc0_k
  refine peel (G := G) rfl fun ⟨v3, v5, v27, v28⟩ h34 => ?_
  refine peel (G := G) rfl fun ⟨v57, v58⟩ h35 => ?_
  refine peel (G := G) rfl fun ⟨v87, v88⟩ h36 => ?_
  refine peel (G := G) rfl fun ⟨v117, v118⟩ h37 => ?_
  refine peel (G := G) rfl fun ⟨v131, v147, c9_i32_22⟩ h38 => ?_
  refine peel (G := G) rfl fun ⟨v177, c24_i32_52⟩ h39 => ?_
  refine peel (G := G) rfl fun ⟨v207, c39_i32_82⟩ h40 => ?_
  refine peel (G := G) rfl fun ⟨v237, c54_i32_112⟩ h41 => ?_
  refine peel (G := G) rfl fun ⟨v257, v261, v265, v267, v268, c256_i32_138⟩ h42 => ?_
  refine peel (G := G) rfl fun ⟨v269, v270, v271, v272, v284, v296, v308, v310⟩ h43 => ?_
  refine peel (G := G) rfl fun ⟨v320, v332, v344, v347, v351, v352⟩ h44 => ?_
  refine peel (G := G) rfl fun ⟨v356, v368, v380, v392, v395⟩ h45 => ?_
  refine peel (G := G) rfl fun ⟨v404, v416, v428, v435, v437⟩ h46 => ?_
  refine peel (G := G) rfl fun ⟨v440, v452, v464, v476, v479, c7_i32_221⟩ h47 => ?_
  refine peel (G := G) rfl fun ⟨v488, v500, v512, v519, v521, c0_i32_239⟩ h48 => ?_
  refine peel (G := G) rfl fun ⟨v524, v536, v548, v560, v563, v564⟩ h49 => ?_
  refine peel (G := G) rfl fun ⟨v572, v584, v596, v603, v605, v606⟩ h50 => ?_
  refine peel (G := G) rfl fun ⟨v608, v620, v632, v644, v647, v649⟩ h51 => ?_
  let v656 := addi (muli v649 (broadcast S16 256#32)) (addi (broadcast S16 128#32) (andi v647 (broadcast S16 127#32)))
  let ks := (fam v284 v296 v308 v320 v332 v344 v356 v368 v380 v392 v404 v416 v428 v440 v452 v464)
  let kt := (fam v476 v488 v500 v512 v524 v536 v548 v560 v572 v584 v596 v608 v620 v632 v644 v656)
  refine ⟨ks, kt, ?_, ?_⟩
  · clear G
    have h : v131 = BitVec.ofNat 32 (shift (pair i)) ∧ v257 = BitVec.ofNat 32 (shift (pair i + 1)) := by
      clear ks kt v656 h43 h44 h45 h46 h47 h48 h49 h50 h51
      cases h34; cases h35; cases h36; cases h37; cases h38; cases h39; cases h40; cases h41; cases h42
      revert i
      decide +kernel
    obtain ⟨h, h'⟩ := h
    rw [← h, ← h']
    clear h h' h34 h35 h36 h37 h38 h39 h40 h41 h42
    cases h43; cases h44; cases h45; cases h46; cases h47; cases h48; cases h49; cases h50; cases h51
    constructor <;> (intro n; fin_cases n <;> rfl)
  clear h34 h35 h36 h37 h38 h39 h40 h41 h42 h43 h44 h45 h46 h47 h48 h49 h50 h51 G
  refine Eq.trans (b := seq [do startIn i src l0 0,
    do startIn i src l1 1; startIn i src l2 2,
    do startIn i src l3 3; waitIn i src l0 0; realign i l0.ib l0.ob ks,
    do startOut i dst l0 0; startIn i src l0 4,
    do waitIn i src l1 1; realign i l1.ib l1.ob kt,
    do startOut i dst l1 1; startIn i src l1 5,
    do waitIn i src l2 2; realign i l2.ib l2.ob ks; startOut i dst l2 2,
    do startIn i src l2 6; waitIn i src l3 3,
    do realign i l3.ib l3.ob kt; startOut i dst l3 3,
    do startIn i src l3 7; let _v : BitVec 32 ← Scf.Loop.for k0_t5_loop k0_t5_ok 0#32 fun t _ => round i src dst l0 l1 l2 l3 ks kt t; waitIn i src l0 8,
    do waitOut' i dst l0 0; realign i l0.ib l0.ob ks; startOut i dst l0 4,
    do waitIn i src l1 9,
    do waitOut' i dst l1 1; realign i l1.ib l1.ob kt; startOut i dst l1 5,
    do waitIn i src l2 10; waitOut' i dst l2 2; realign i l2.ib l2.ob ks,
    do startOut i dst l2 6; waitIn i src l3 11,
    do waitOut' i dst l3 3; realign i l3.ib l3.ob kt,
    do startOut i dst l3 7; waitOut i dst l0 4,
    do waitOut i dst l1 5; waitOut i dst l2 6] (waitOut i dst l3 7)) ?_ ?ring
  refine step' (f := fun r : Σ' (_ : BitVec 32) (_ : BitVec 32) (_ : BitVec 32), BitVec 1 => (⟨v656, r⟩ : Σ' (_ : IVec S16 32) (_ : BitVec 32) (_ : BitVec 32) (_ : BitVec 32), BitVec 1)) ?_ fun ⟨c1_i32_303, c2_i32_304, v679, v690⟩ => ?_
  rotate_left
  refine step ?_ fun ⟨c3_i32_321, c2_i32_322, v723, v728, v730, c0_i32_326⟩ => ?_
  rotate_left
  refine step ?_ fun ⟨c0_i32_343, c2_i32_344, v768, c0_i32_345⟩ => ?_
  rotate_left
  refine step ?_ fun _ => ?_
  rotate_left
  refine step ?_ fun ⟨v835, v849⟩ => ?_
  rotate_left
  refine step ?_ fun ⟨c2_i32_392, c2_i32_393, v879, v890⟩ => ?_
  rotate_left
  refine step ?_ fun ⟨c6_i32_414, c2_i32_415, v924, v926, v927⟩ => ?_
  rotate_left
  refine step' (f := fun _ : Unit => (⟨0#32, 1#32⟩ : Σ' (_ : BitVec 32), BitVec 32)) ?_ fun _ => ?_
  rotate_left
  refine step ?_ fun ⟨v1007, c15872_i32_453⟩ => ?_
  rotate_left
  refine step ?h61 fun ⟨v1037, c2_i32_470, v1038, v1043, v1045⟩ => ?_
  rotate_left
  refine step ?_ fun ⟨c61_i32_491, c2_i32_492, v1083⟩ => ?_
  rotate_left
  refine step ?_ fun _ => ?_
  rotate_left
  refine step ?_ fun ⟨v1151, v1162, v1163⟩ => ?_
  rotate_left
  refine step ?_ fun ⟨c62_i32_546, c2_i32_547, v1197, v1199, c0_i32_549⟩ => ?_
  rotate_left
  refine step ?_ fun v1241 => ?_
  rotate_left
  refine step ?_ fun ⟨v1265, v1279, c1_i32_585⟩ => ?_
  rotate_left
  refine step ?_ fun ⟨v1309, v1320, v1321⟩ => ?_
  rotate_left
  refine step ?_ fun ⟨c63_i32_614, c2_i32_615, v1353, v1358, v1360, v1361⟩ => ?_
  rotate_left
  exact (rfl : _ = waitOut (F := F) i dst l3 7)
  case h61 =>
    refine ⟨?_, ?_⟩
    rotate_left
    refine op_congr rfl fun _ => loop_congr_assoc (fun t u => ?_) fun _ => op_congr rfl fun _ => ?_
    rotate_left
    · rfl
    refine Eq.trans (b := seq [do ringWaitIn i src l0 t 0,
      do ringWaitOut i dst l0 t 0; realign i l0.ib l0.ob ks; ringStartOut i dst l0 t 0,
      do ringStartIn i src l0 t 0; ringWaitIn i src l1 t 1,
      do ringWaitOut i dst l1 t 1; realign i l1.ib l1.ob kt,
      do ringStartOut i dst l1 t 1; ringStartIn i src l1 t 1,
      do ringWaitIn i src l2 t 2; ringWaitOut i dst l2 t 2; realign i l2.ib l2.ob ks,
      do ringStartOut i dst l2 t 2; ringStartIn i src l2 t 2,
      do ringWaitIn i src l3 t 3,
      do ringWaitOut i dst l3 t 3; realign i l3.ib l3.ob kt; ringStartOut i dst l3 t 3] (ringStartIn i src l3 t 3 >>= fun _ => pure 0#32)) ?_ ?round
    refine step ?_ fun ⟨arg20, v1376, v1400, v1414, c1_i32_640⟩ => ?_
    rotate_left
    refine step ?_ fun ⟨v1445, c2_i32_655, v1446, v1451, v1453⟩ => ?_
    rotate_left
    refine step ?_ fun ⟨v1469, v1492, c2_i32_674, v1493, v1494⟩ => ?_
    rotate_left
    refine step ?_ fun v1534 => ?_
    rotate_left
    refine step ?_ fun ⟨v1562, v1563, v1574, v1575, c0_i32_710⟩ => ?_
    rotate_left
    refine step ?_ fun ⟨c2_i32_726, v1609, v1614⟩ => ?_
    rotate_left
    refine step ?_ fun ⟨v1655, c2_i32_745⟩ => ?_
    rotate_left
    refine step ?_ fun _ => ?_
    rotate_left
    refine step ?_ fun ⟨v1725, v1736, v1737⟩ => ?_
    rotate_left
    exact (rfl : _ = ringStartIn (F := F) i src l3 t 3 >>= fun _ => pure 0#32)
    case round => simp only [seq, round, mid, bind_assoc]
    all_goals
      refine ⟨?_, ?_⟩
      rotate_left
      repeat' first | refine op_congr rfl fun _ => ?_ | refine loop_congr_assoc (fun _ _ => ?_) fun _ => ?_ | refine loop_congr (fun _ _ => ?_) fun _ => ?_
      all_goals rfl
  case ring => simp only [seq, ring, first, last, bind_assoc]
  all_goals
    refine ⟨?_, ?_⟩
    rotate_left
    repeat' first | refine op_congr rfl fun _ => ?_ | refine loop_congr_assoc (fun _ _ => ?_) fun _ => ?_ | refine loop_congr (fun _ _ => ?_) fun _ => ?_
    all_goals first | rfl | exact ⟨⟩
end Cert.Proof.Program
-- ==== Proof.World.lean ====
/-
  What the launch theorem is applied to: the kernel's configuration and body table, the ghost state (the handshakes' rounds
  beside the counters of the copies in flight), and a tile's thread.
-/
module

public import proofs.«01_k».proof.Proof.Same
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic

@[expose] public section

noncomputable section

namespace Cert.Proof.World

open Cert.KernelIdeal Cert.KernelIdeal.Facts₀
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev ΛP : Labels := Pipeline.Sig Λ₀ (Fin 0) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch semaphores are apart from one another and from what a task scopes. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

abbrev UH : Type := URounds (GSem nD τ sig) ℕ
abbrev UU : Type := UH × Counters

/-- The handshakes' rounds: the left factor. -/
abbrev EH : Emb UH (MT nD τ sig (HIx 1) (Elt F) ℕ UU ℕ) := embL

/-- A tile's thread. -/
abbrev tile (d : Dev nD) (i : grid0.Coords) : Thread nD τ := V d ((i 0).castLE hcore0) ((i 1).castLE hsub0)

end Cert.Proof.World
-- ==== Proof.Realign.lean ====
/-
  What a chunk's realignment leaves: word `j` of the output chunk is word `pick r j` of the input chunk, `r` being the
  pair's shift within a block of 128.
-/
module

public import proofs.«01_k».proof.Proof.World

@[expose] public section

noncomputable section

namespace Cert.Proof.Realign

open Cert.KernelIdeal Cert.KernelIdeal.Facts₀
open Cert.Proof.Program Cert.Proof.World
open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-- The word of the input chunk that word `j` of the output chunk is. -/
def pickN (r j : ℕ) : ℕ := ((r + j % 128) / 128 + j / 256) * 256 + (j / 128 % 2) * 128 + (r + j % 128) % 128

theorem pickN_lt {r j : ℕ} (hr : r < 128) (hj : j < 15872) : pickN r j < 16128 := by
  unfold pickN; omega

/-- The same as an index of the chunk (the reduction is the identity at the words there are). -/
def pick (r : ℕ) (j : S15872.Idx) : S16128.Idx := fun a => ⟨pickN r (j 0).val % 16128, by
  fin_cases a; exact Nat.mod_lt _ (by decide)⟩

/-- What the index vectors of a pair with shift `r` within a block hold. -/
def IxOK (r : ℕ) (ks : ℕ → IVec S16 32) : Prop :=
  ∀ (n : Fin 16) (x : S16.Idx), (ks n x).toNat
    = ((r + 16 * (n.val % 8) + (x 0).val) / 128) * 256 + (n.val / 8) * 128 + (r + 16 * (n.val % 8) + (x 0).val) % 128

theorem blkVec_toNat (k : Fin k0_t1_loop.trips) (x : S16.Idx) : (blkVec k x).toNat = 256 * k.val := by
  have h : ∀ k : Fin k0_t1_loop.trips,
      (0#32 + Scalar.muli (Scalar.addi 0#32 (Scalar.muli (Scf.iv 0#32 1#32 k) 1#32)) 256#32).toNat = 256 * k.val := by decide +kernel
  exact h k

/-- The indices of vector `n` of block `k`. -/
theorem ix_toNat {r : ℕ} (hr : r < 128) {ks : ℕ → IVec S16 32} (hks : IxOK r ks) (k : Fin k0_t1_loop.trips) (n : Fin 16) (x : S16.Idx) :
    (addi (ks n) (blkVec k) x).toNat = pickN r (256 * k.val + 16 * n.val + (x 0).val) := by
  have h1 := hks n x
  have h2 := blkVec_toNat k x
  have hk : k.val < 62 := lt_of_lt_of_eq k.isLt (by decide)
  have hx : (x 0).val < 16 := (x 0).isLt
  have hn := n.isLt
  show (ks n x + blkVec k x).toNat = _
  rw [BitVec.toNat_add, h1, h2]
  unfold pickN
  omega

theorem chk {r : ℕ} (hr : r < 128) {ks : ℕ → IVec S16 32} (hks : IxOK r ks) (k : Fin k0_t1_loop.trips) (n : Fin 16) :
    k0_chk1 (addi (ks n) (blkVec k)) := by
  intro a x
  fin_cases a
  have hk : k.val < 62 := lt_of_lt_of_eq k.isLt (by decide)
  have hx : (x 0).val < 16 := (x 0).isLt
  show (addi (ks n) (blkVec k) x).toNat < 16128
  rw [ix_toNat hr hks]
  exact pickN_lt hr (by omega)

section Triples

variable {d : Dev nD} {i : grid0.Coords} {ib : Memref sig .scVector .vmem S16128 .f32} {ob : Memref sig .scVector .vmem S15872 .f32}

/-- The output buffer holds the first `t` words of the realigned chunk. -/
def Filled (ob : Memref sig .scVector .vmem S15872 .f32) (r : ℕ) (X : S16128.Idx → F .f32) (B : Buf (Elt F) (ob.view.loc (tile d i))) (t : ℕ) : Prop :=
  ∀ j : S15872.Idx, (j 0).val < t → ob.view.read (Elt F) B j = X (pick r j)

theorem filled_step {r : ℕ} (hr : r < 128) {ks : ℕ → IVec S16 32} (hks : IxOK r ks) (k : Fin k0_t1_loop.trips) (n : Fin 16)
    {X : S16128.Idx → F .f32} {B : Buf (Elt F) (ob.view.loc (tile d i))} (hB : Filled (d := d) (i := i) ob r X B (256 * k.val + 16 * n.val))
    (h : ∀ a x, ((![addi (ks n) (blkVec k)] : Fin 1 → IVec S16 32) a x).toNat < S16128.size a)
    (hoff : ∀ a, segOff k n a + S16.size a ≤ S15872.size a) :
    Filled (d := d) (i := i) ob r X
      ((ob.access (Rect.unit (s := S15872) (segOff k n) S16.size hoff)).write (Elt F) B (loadIdx (F := F) (e := .f32) X ![addi (ks n) (blkVec k)] h) Finset.univ)
      (256 * k.val + 16 * (n.val + 1)) := by
  have hk : k.val < 62 := lt_of_lt_of_eq k.isLt (by decide)
  have hn := n.isLt
  have h0 : segOff k n 0 = 256 * k.val + 16 * n.val := by rw [segOff_eq]; rfl
  intro j hj
  by_cases hlt : (j 0).val < 256 * k.val + 16 * n.val
  · refine (View.read_slice_write_of_not_mem _ _ _ _ ?_).trans (hB j hlt)
    intro hm
    obtain ⟨x, -, hx⟩ := Finset.mem_map.mp hm
    have e : (j 0).val = segOff k n 0 + 1 * (x 0).val := congrArg (fun y : S15872.Idx => (y 0).val) hx.symm
    omega
  · have hx : (j 0).val - (256 * k.val + 16 * n.val) < 16 := by omega
    have e : j = (Rect.unit (s := S15872) (segOff k n) S16.size hoff).emb (fun a => ⟨(j 0).val - (256 * k.val + 16 * n.val), by fin_cases a; exact hx⟩) := by
      funext a
      fin_cases a
      apply Fin.ext
      show (j 0).val = segOff k n 0 + 1 * ((j 0).val - (256 * k.val + 16 * n.val))
      omega
    rw [e]
    refine (View.read_slice_write_emb _ _ _ (Finset.mem_univ _)).trans ?_
    rw [← e]
    refine congrArg X ?_
    funext a
    fin_cases a
    apply Fin.ext
    refine (ix_toNat hr hks k n _).trans ?_
    show pickN r (256 * k.val + 16 * n.val + ((j 0).val - (256 * k.val + 16 * n.val))) = pickN r (j 0).val % 16128
    rw [Nat.add_sub_cancel' (by omega), Nat.mod_eq_of_lt (pickN_lt hr (by omega))]

/-- The two buffers, the output's filled up to `t`. -/
def bufs (d : Dev nD) (i : grid0.Coords) (ib : Memref sig .scVector .vmem S16128 .f32) (ob : Memref sig .scVector .vmem S15872 .f32)
    (A : Buf (Elt F) (ib.view.loc (tile d i))) (r t : ℕ) : sProp 𝕄 :=
  iprop((ib.view.loc (tile d i) ↦{fullShare} A)
    ∗ ∃ B, ⌜Filled (d := d) (i := i) ob r (ib.view.read (Elt F) A) B t⌝ ∗ ob.view.loc (tile d i) ↦{fullShare} B)

theorem wp_gstep {r : ℕ} (hr : r < 128) {ks : ℕ → IVec S16 32} (hks : IxOK r ks) (k : Fin k0_t1_loop.trips) (n : Fin 16)
    (A : Buf (Elt F) (ib.view.loc (tile d i))) (hoff : ∀ a, segOff k n a + S16.size a ≤ S15872.size a) :
    bufs d i ib ob A r (256 * k.val + 16 * n.val)
      ⊢ wp frame (wpE (defs₀ (F := F)) 𝒱₀ (tile d i) none) Set.univ (gstep i ib ob (addi (ks n) (blkVec k)) (segOff k n) hoff)
          fun _ => (bufs d i ib ob A r (256 * k.val + 16 * (n.val + 1)) : sProp 𝕄) := by
  unfold gstep bufs
  simp only [Prog.lift, Prog.bind_op, Prog.bind_ret, Prog.pure_eq_ret]
  iintro ⟨HA, %B, %hB, HB⟩
  rw [wp_assume_of _ _ _ _ (chk hr hks k n)]
  iapply (SparseCore.wp_vectorLoadIdx 𝒱₀ (tile d i) none Set.univ (base := ib) (S := Finset.univ) (q := fullShare) (Finset.subset_univ _)) $$ HA; iintro HA
  iapply (wp_load 𝒱₀ (tile d i) none Set.univ (m := ob) (S := Finset.univ) (Finset.subset_univ _)) $$ HB; iintro HB
  iapply (wp_store 𝒱₀ (tile d i) none Set.univ (m := ob) (r := Rect.unit (s := S15872) (segOff k n) S16.size hoff) (Mk := Finset.univ) (S := Finset.univ) (Finset.subset_univ _)) $$ HB; iintro HB
  rw [wp_ret]; imodintro
  isplitl [HA]; · iexact HA
  iexists _
  isplitr
  rotate_left
  · iexact HB
  ipureintro
  have hw : (ib.access (.whole S16128)).read (Elt F) A = ib.view.read (Elt F) A := by
    funext x
    refine congrArg (ib.view.read (Elt F) A) ?_
    funext a; apply Fin.ext
    show 0 + 1 * (x a).val = (x a).val
    omega
  rw [hw]
  exact filled_step hr hks k n hB _ hoff

theorem wp_gsteps {r : ℕ} (hr : r < 128) {ks : ℕ → IVec S16 32} (hks : IxOK r ks) (k : Fin k0_t1_loop.trips)
    (A : Buf (Elt F) (ib.view.loc (tile d i))) : ∀ (m n : ℕ) (h : n + m ≤ 16),
    bufs d i ib ob A r (256 * k.val + 16 * n)
      ⊢ wp frame (wpE (defs₀ (F := F)) 𝒱₀ (tile d i) none) Set.univ (gsteps i ib ob ks k m n h)
          fun _ => (bufs d i ib ob A r (256 * k.val + 16 * (n + m)) : sProp 𝕄) := by
  intro m
  induction m with
  | zero =>
    intro n h
    unfold gsteps
    rw [Prog.pure_eq_ret, wp_ret]
    iintro H; imodintro
    iexact H
  | succ m ih =>
    intro n h
    unfold gsteps
    rw [wp_bind]
    refine (wp_gstep hr hks k ⟨n, by omega⟩ A (segOff_inb k n (by omega))).trans (wp_mono frame _ _ fun _ => ?_)
    refine (ih (n + 1) (by omega)).trans (wp_mono frame _ _ fun _ => ?_)
    rw [show n + (m + 1) = n + 1 + m by omega]

theorem wp_realign {r : ℕ} (hr : r < 128) {ks : ℕ → IVec S16 32} (hks : IxOK r ks) (A : Buf (Elt F) (ib.view.loc (tile d i))) :
    bufs d i ib ob A r 0
      ⊢ wp frame (wpE (defs₀ (F := F)) 𝒱₀ (tile d i) none) Set.univ (realign i ib ob ks)
          fun _ => (bufs d i ib ob A r 15872 : sProp 𝕄) := by
  unfold realign
  refine BIBase.Entails.trans ?_ (Scf.wp_for _ _ _ _ _ _ k0_t1_ok _ _ (fun k _ => bufs d i ib ob A r (256 * k)) fun k _ => ?_)
  · iintro H
    isplitl [H]; · iexact H
    iintro %_ H
    iexact H
  · refine (wp_gsteps hr hks k A 16 0 le_rfl).trans (wp_mono frame _ _ fun _ => ?_)
    rw [show 256 * k.val + 16 * (0 + 16) = 256 * (k.val + 1) by omega]

end Triples

end Cert.Proof.Realign
-- ==== Proof.Windows.lean ====
/-
  Where each copy's window lies, in numbers, and what the index vectors hold: finitely many tiles, rounds and lanes.
-/
module

public import proofs.«01_k».proof.Proof.Realign
public import Idealize.ShloMosaic.Lib.Decide

@[expose] public section

noncomputable section

namespace Cert.Proof.Windows

open Cert.KernelIdeal Cert.KernelIdeal.Facts₀
open Cert.Proof.Program Cert.Proof.Realign
open Idealize.ShloMosaic Idealize.SL.Sem

/-- Where chunk `q` of pair `p` starts in the input, and in the output. -/
def inOff (p q : ℕ) : ℕ := (p * 2048 + shift p / 128) * 256 + q * 15872
def outOff (p q : ℕ) : ℕ := p * 507904 + q * 15872

theorem shift_lt : ∀ p, p < 64 → shift p < 8192 := by decide +kernel

theorem pair_lt : ∀ i : grid0.Coords, pair i + 1 < 64 := by decide +kernel

/-- The unit whose input a row of the windows outside the ring is. -/
def unit1 (r : Fin 12) : ℕ := if r.val < 8 then r.val else 52 + r.val
def unit18 (r : Fin 8) : ℕ := if r.val < 4 then r.val else 56 + r.val

set_option maxRecDepth 65536 in
theorem off1_eq : ∀ (i : grid0.Coords) (r : Fin 12),
    k0_off1 i (k0_off1_at r).1 (k0_off1_at r).2 = ![inOff (pair i + r.val % 2) (unit1 r / 2)] := by decide +kernel

set_option maxRecDepth 65536 in
theorem off18_eq : ∀ (i : grid0.Coords) (r : Fin 8),
    k0_off18 i (k0_off18_at r).1 (k0_off18_at r).2 = ![outOff (pair i + r.val % 2) (unit18 r / 2)] := by decide +kernel

set_option maxRecDepth 65536 in
theorem off85_eq : ∀ (i : grid0.Coords) (t : Fin k0_t5_loop.trips) (b : Fin 4),
    k0_off85 i t (k0_off85_at b).1 (k0_off85_at b).2 = ![outOff (pair i + b.val % 2) (2 * (t.val + 1) + b.val / 2)] := by decide +kernel

set_option maxRecDepth 65536 in
theorem off86_eq : ∀ (i : grid0.Coords) (t : Fin k0_t5_loop.trips) (b : Fin 4),
    k0_off86 i t (k0_off86_at b).1 (k0_off86_at b).2 = ![inOff (pair i + b.val % 2) (2 * (t.val + 2) + b.val / 2)] := by decide +kernel

/-- A position's block of 256 words and its place in a block of 128, as the words compute them. -/
theorem word_split : ∀ y : Fin 256, (BitVec.sshiftRight (BitVec.ofNat 32 y.val) 7 * 256#32).toNat = y.val / 128 * 256
    ∧ (BitVec.ofNat 32 y.val &&& 127#32).toNat = y.val % 128 := by decide +kernel

theorem iota_lane : ∀ x : S16.Idx, iota .scVector S16 32 [0] iota_S16_d0_w32_scVector x = BitVec.ofNat 32 (x 0).val := by decide +kernel

theorem shift_low : ∀ p, p < 64 → Scalar.andi (BitVec.ofNat 32 (shift p)) 127#32 = BitVec.ofNat 32 (shift p % 128) := by decide +kernel

theorem lane_eq {p : ℕ} (hp : p < 64) (n : Fin 16) (x : S16.Idx) :
    laneVec (BitVec.ofNat 32 (shift p)) n x = BitVec.ofNat 32 (shift p % 128 + 16 * (n.val % 8) + (x 0).val) := by
  show (Scalar.andi (BitVec.ofNat 32 (shift p)) 127#32 + BitVec.ofNat 32 (16 * (n.val % 8))) + iota .scVector S16 32 [0] iota_S16_d0_w32_scVector x = _
  rw [shift_low p hp, iota_lane, BitVec.ofNat_add, BitVec.ofNat_add]

theorem idxVec_ok {p : ℕ} (hp : p < 64) {ks : ℕ → IVec S16 32} (h : ∀ n : Fin 16, ks n = idxVec (BitVec.ofNat 32 (shift p)) n) :
    IxOK (shift p % 128) ks := by
  intro n x
  have hx : (x 0).val < 16 := (x 0).isLt
  have hn := n.isLt
  have hr := Nat.mod_lt (shift p) (show 128 > 0 by decide)
  rw [h n]
  have hy : shift p % 128 + 16 * (n.val % 8) + (x 0).val < 256 := by omega
  obtain ⟨e1, e2⟩ := word_split ⟨_, hy⟩
  show (BitVec.sshiftRight (laneVec (BitVec.ofNat 32 (shift p)) n x) 7 * 256#32
    + (BitVec.ofNat 32 (128 * (n.val / 8)) + (laneVec (BitVec.ofNat 32 (shift p)) n x &&& 127#32))).toNat = _
  rw [lane_eq hp, BitVec.toNat_add, BitVec.toNat_add, e1, e2, BitVec.toNat_ofNat]
  simp only []
  omega

end Cert.Proof.Windows
-- ==== Proof.Ring.lean ====
/-
  The tile's ring of copies. A lane's state is a copy of the next chunk flying in and a copy of the last one flying out; a
  unit lands the first, lands the second, realigns, and starts both again. Each of a lane's chunks ends holding `out`.
-/
module

public import proofs.«01_k».proof.Proof.Windows

@[expose] public section

noncomputable section

namespace Cert.Proof.Ring

open Cert.KernelIdeal Cert.KernelIdeal.Facts₀
open Cert.Proof.Program Cert.Proof.World Cert.Proof.Realign Cert.Proof.Windows
open Idealize.ShloMosaic
open Idealize.ShloMosaic.SparseCore.Cfg (HIx)
open Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-- The copies' counters in the ghost state. -/
abbrev EC : UEmb Counters (MT nD τ sig (HIx 1) (Elt F) ℕ UU ℕ) := countersEmb

local notation "srcM" => (Memref.whole Cert.KernelIdeal.main_v2_scv : Memref Cert.KernelIdeal.sig Kind.scVector Space.hbm Cert.KernelIdeal.S33554432 EltTy.f32)
local notation "dstM" => (Memref.whole Cert.KernelIdeal.main_v3_scv : Memref Cert.KernelIdeal.sig Kind.scVector Space.hbm Cert.KernelIdeal.S32505856 EltTy.f32)

/-- The word of the input that word `J` of the output is. -/
def srcN (J : ℕ) : ℕ := (J / 507904 * 2048 + shift (J / 507904) / 128) * 256 + pickN (shift (J / 507904) % 128) (J % 507904)

/-- The same as an index of the input (the reduction is the identity at the words there are). -/
def srcIx (j : S32505856.Idx) : S33554432.Idx := fun a => ⟨srcN (j 0).val % 33554432, by
  fin_cases a; exact Nat.mod_lt _ (by decide)⟩

/-- The output the tiles leave, of the input `X`. -/
def out (X : S33554432.Idx → F .f32) : S32505856.Idx → F .f32 := fun j => X (srcIx j)

/-- The words of the input's window for chunk `q` of pair `p`, and of the output's. -/
def win (p q : ℕ) : Finset S33554432.Idx := Finset.univ.filter fun j => inOff p q ≤ (j 0).val ∧ (j 0).val < inOff p q + 16128
def chunk (p q : ℕ) : Finset S32505856.Idx := Finset.univ.filter fun j => outOff p q ≤ (j 0).val ∧ (j 0).val < outOff p q + 15872

theorem win_eq {p q : ℕ} {off : Fin 1 → ℕ} (ho : off = ![inOff p q]) (h : ∀ a, off a + S16128.size a ≤ S33554432.size a) :
    ((srcM).slice (Rect.unit (s := S33554432) off S16128.size h) (fun _ => rfl)).view.set = win p q := by
  have h0 : off 0 = inOff p q := by rw [ho]; rfl
  ext j
  unfold win
  rw [Finset.mem_filter]
  constructor
  · intro hj
    obtain ⟨x, -, rfl⟩ := Finset.mem_map.mp hj
    have hx : (x 0).val < 16128 := (x 0).isLt
    refine ⟨Finset.mem_univ _, ?_⟩
    show inOff p q ≤ off 0 + 1 * (x 0).val ∧ off 0 + 1 * (x 0).val < inOff p q + 16128
    omega
  · rintro ⟨-, h1, h2⟩
    refine Finset.mem_map.mpr ⟨fun a => ⟨(j 0).val - inOff p q, by fin_cases a; show _ < 16128; omega⟩, Finset.mem_univ _, ?_⟩
    funext a; fin_cases a; apply Fin.ext
    show off 0 + 1 * ((j 0).val - inOff p q) = (j 0).val
    omega

theorem chunk_eq {p q : ℕ} {off : Fin 1 → ℕ} (ho : off = ![outOff p q]) (h : ∀ a, off a + S15872.size a ≤ S32505856.size a) :
    ((dstM).slice (Rect.unit (s := S32505856) off S15872.size h) (fun _ => rfl)).view.set = chunk p q := by
  have h0 : off 0 = outOff p q := by rw [ho]; rfl
  ext j
  unfold chunk
  rw [Finset.mem_filter]
  constructor
  · intro hj
    obtain ⟨x, -, rfl⟩ := Finset.mem_map.mp hj
    have hx : (x 0).val < 15872 := (x 0).isLt
    refine ⟨Finset.mem_univ _, ?_⟩
    show outOff p q ≤ off 0 + 1 * (x 0).val ∧ off 0 + 1 * (x 0).val < outOff p q + 15872
    omega
  · rintro ⟨-, h1, h2⟩
    refine Finset.mem_map.mpr ⟨fun a => ⟨(j 0).val - outOff p q, by fin_cases a; show _ < 15872; omega⟩, Finset.mem_univ _, ?_⟩
    funext a; fin_cases a; apply Fin.ext
    show off 0 + 1 * ((j 0).val - outOff p q) = (j 0).val
    omega

/-- The input's chunk `q` of pair `p` (the reduction is the identity at the words there are). -/
def inChunk (X : S33554432.Idx → F .f32) (p q : ℕ) : S16128.Idx → F .f32 :=
  fun x => X fun a => ⟨(inOff p q + (x 0).val) % 33554432, by fin_cases a; exact Nat.mod_lt _ (by decide)⟩

theorem inChunk_eq (X : S33554432.Idx → F .f32) {p q : ℕ} {off : Fin 1 → ℕ} (ho : off = ![inOff p q])
    (h : ∀ a, off a + S16128.size a ≤ S33554432.size a) :
    ((srcM).slice (Rect.unit (s := S33554432) off S16128.size h) (fun _ => rfl)).view.read (Elt F) X = inChunk X p q := by
  have h0 : off 0 = inOff p q := by rw [ho]; rfl
  have h1 : off 0 + 16128 ≤ 33554432 := h 0
  funext x
  have hx : (x 0).val < 16128 := (x 0).isLt
  refine congrArg X ?_
  funext a; fin_cases a; apply Fin.ext
  show off 0 + 1 * (x 0).val = (inOff p q + (x 0).val) % 33554432
  rw [Nat.mod_eq_of_lt (by omega)]
  omega

/-- A chunk that is the realigned input chunk is the output's. -/
theorem out_chunk (X : S33554432.Idx → F .f32) {p q : ℕ} (hp : p < 64) (hq : q < 32) {off : Fin 1 → ℕ} (ho : off = ![outOff p q])
    (h : ∀ a, off a + S15872.size a ≤ S32505856.size a) (fd : S32505856.Idx → F .f32) (w : S15872.Idx → F .f32)
    (hw : ∀ j, w j = inChunk X p q (pick (shift p % 128) j)) :
    ∀ j ∈ chunk p q, ((dstM).slice (Rect.unit (s := S32505856) off S15872.size h) (fun _ => rfl)).view.write (Elt F) fd w Finset.univ j = out X j := by
  intro j hj
  have h0 : off 0 = outOff p q := by rw [ho]; rfl
  rw [← chunk_eq ho h] at hj
  obtain ⟨x, -, rfl⟩ := Finset.mem_map.mp hj
  refine (View.write_emb_of_mem _ _ (Finset.mem_univ x)).trans ?_
  refine (hw x).trans ?_
  have hx : (x 0).val < 15872 := (x 0).isLt
  refine congrArg X ?_
  funext a; fin_cases a; apply Fin.ext
  show (inOff p q + pickN (shift p % 128) (x 0).val % 16128) % 33554432 = srcN (off 0 + 1 * (x 0).val) % 33554432
  congr 1
  have hr := Nat.mod_lt (shift p) (show 128 > 0 by decide)
  rw [Nat.mod_eq_of_lt (pickN_lt hr hx), h0]
  have e1 : (outOff p q + 1 * (x 0).val) / 507904 = p := by unfold outOff; omega
  have e2 : (outOff p q + 1 * (x 0).val) % 507904 = q * 15872 + (x 0).val := by unfold outOff; omega
  unfold srcN
  rw [e1, e2]
  unfold inOff pickN
  omega

section Lanes

variable (d : Dev nD) (i : grid0.Coords) (X : S33554432.Idx → F .f32) (qs : PosShare TreeShare) (l : Lane) (p : ℕ)

/-- A share of the input, and a chunk of the output holding `f`. -/
abbrev inPts : sProp 𝕄 := (tile d i).loc main_v2_scv ↦{qs} X
abbrev chunkPts (q : ℕ) (f : S32505856.Idx → F .f32) : sProp 𝕄 := (tile d i).loc main_v3_scv ↦[chunk p q]{fullShare} f

/-- A lane's input buffer and its output buffer, at some contents. -/
def ibAny : sProp 𝕄 := iprop(∃ A, l.ib.view.loc (tile d i) ↦{fullShare} A)
def obAny : sProp 𝕄 := iprop(∃ B, l.ob.view.loc (tile d i) ↦{fullShare} B)

abbrev siZero : sProp 𝕄 := semVal (tile d i, .dma l.si.sem) 0
abbrev soZero : sProp 𝕄 := semVal (tile d i, .dma l.so.sem) 0

/-- Chunk `q` is flying in. -/
def inFly (q : ℕ) : sProp 𝕄 :=
  iprop(Flight EC (tile d i) (.dma l.si.sem) none l.ib.view.dmaCredit
      iprop((∃ A, ⌜l.ib.view.read (Elt F) A = inChunk X p q⌝ ∗ l.ib.view.loc (tile d i) ↦{fullShare} A)
        ∗ ((tile d i).loc main_v2_scv ↦[win p q]{qs} X))
    ∗ ((tile d i).loc main_v2_scv ↦[Finset.univ \ win p q]{qs} X))

/-- The credit of a copy out. -/
abbrev outN : ℕ := sig.dmaCredit .scVector (Kind.scVector.table .hbm) (main_v3_scv : Ref sig .scVector).idx S15872 .f32

/-- Chunk `q` is flying out. -/
def outFly (q : ℕ) : sProp 𝕄 :=
  Flight EC (tile d i) (.dma l.so.sem) none outN iprop(chunkPts d i p q (out X) ∗ obAny d i l)

variable (O : CellTallies nD τ sig (HIx 1)) (W : Waits sig (HIx 1))

/-- What the tile owes, its waits so far being its own beside those in `W`. -/
def owe : sProp 𝕄 := iprop(∃ W', ⌜∀ s ∈ W', s ∈ W ∨ s.2 = none⌝ ∗ owes (tile d i) O W')

theorem owe_step (sm : SemLoc sig) (W' : Waits sig (HIx 1)) (h : ∀ s ∈ W', s ∈ W ∨ s.2 = none) :
    ∀ s ∈ insert (sm, none) W', s ∈ W ∨ s.2 = none := by
  intro s hs
  rcases Finset.mem_insert.mp hs with rfl | hs
  · exact .inr rfl
  · exact h s hs

variable {d i X qs l p O W}

/-- Start a copy in. -/
theorem wp_inStart {q : ℕ} {off : Fin 1 → ℕ} (ho : off = ![inOff p q]) (h : ∀ a, off a + S16128.size a ≤ S33554432.size a) :
    iprop(inPts d i X qs ∗ ibAny d i l ∗ siZero d i l)
      ⊢ wp frame (wpE (defs₀ (F := F)) 𝒱₀ (tile d i) none) Set.univ (inStart i srcM l off h) fun _ => (inFly d i X qs l p q : sProp 𝕄) := by
  unfold inStart ibAny
  simp only [Prog.lift]
  iintro ⟨HX, ⟨%A, HA⟩, Hs⟩
  ihave HX := (pointsTo_split_subset (Finset.subset_univ (win p q))).1 $$ HX
  icases HX with ⟨HX, Hrest⟩
  iapply (wp_dmaLocal EC 𝒱₀ (tile d i) none (q := qs) (fs := X) (Sd := Finset.univ) (fd := A) none l.ib.view.dmaCredit rfl
    (View.dmaCredit_pos _ (by decide)) (Finset.subset_univ _)) $$ [HX HA Hs]
  · isplitl [HX]
    · rw [win_eq ho h]; iexact HX
    isplitl [HA]; · iexact HA
    iexact Hs
  iintro Hf
  rw [wp_ret]; imodintro
  unfold inFly
  isplitl [Hf]
  · iapply (Flight_mono EC (tile d i) ?_) $$ Hf
    iintro ⟨HA, HX⟩
    isplitl [HA]
    · iexists _
      isplitr
      rotate_left
      · iexact HA
      ipureintro
      exact (View.read_write_univ _ _).trans (inChunk_eq X ho h)
    · rw [win_eq ho h]; iexact HX
  · iexact Hrest

/-- Wait for a copy in. -/
theorem wp_inWait {q : ℕ} (off : Fin 1 → ℕ) (h : ∀ a, off a + S16128.size a ≤ S33554432.size a) :
    iprop(MayWaits (tile d i) none O ∗ inFly d i X qs l p q ∗ owe d i O W)
      ⊢ wp frame (wpE (defs₀ (F := F)) 𝒱₀ (tile d i) none) Set.univ (inWait i srcM l off h) fun _ =>
        (iprop(inPts d i X qs ∗ (∃ A, ⌜l.ib.view.read (Elt F) A = inChunk X p q⌝ ∗ l.ib.view.loc (tile d i) ↦{fullShare} A)
          ∗ siZero d i l ∗ owe d i O W) : sProp 𝕄) := by
  unfold inWait inFly owe
  simp only [Prog.lift]
  iintro ⟨#Hmw, ⟨Hf, Hrest⟩, %W', %hW, HO⟩
  iapply (wp_waitLocalO EC 𝒱₀ (tile d i) none none (N := l.ib.view.dmaCredit) rfl) $$ [Hf HO]
  · isplitl [Hf]; · iexact Hf
    isplitl [HO]; · iexact HO
    iapply (MayWaits.elim (.dma l.si.sem)); iexact Hmw
  iintro ⟨⟨HA, HX⟩, Hs, HO⟩
  rw [wp_ret]; imodintro
  isplitl [HX Hrest]
  · iapply (pointsTo_split_subset (Finset.subset_univ (win p q))).2
    isplitl [HX]; · iexact HX
    iexact Hrest
  isplitl [HA]; · iexact HA
  isplitl [Hs]; · iexact Hs
  iexists _
  isplitr
  rotate_left
  · iexact HO
  ipureintro
  exact owe_step W _ W' hW

/-- Start a copy out of a realigned chunk. -/
theorem wp_outStart {q : ℕ} (hp : p < 64) (hq : q < 32) {off : Fin 1 → ℕ} (ho : off = ![outOff p q]) (h : ∀ a, off a + S15872.size a ≤ S32505856.size a)
    (f : S32505856.Idx → F .f32) (B : Buf (Elt F) (l.ob.view.loc (tile d i))) (hB : Filled (d := d) (i := i) l.ob (shift p % 128) (inChunk X p q) B 15872) :
    iprop(chunkPts d i p q f ∗ (l.ob.view.loc (tile d i) ↦{fullShare} B) ∗ soZero d i l)
      ⊢ wp frame (wpE (defs₀ (F := F)) 𝒱₀ (tile d i) none) Set.univ (outStart i dstM l off h) fun _ => (outFly d i X l p q : sProp 𝕄) := by
  unfold outStart
  simp only [Prog.lift]
  iintro ⟨HC, HB, Hs⟩
  iapply (wp_dmaLocal EC 𝒱₀ (tile d i) none (dst := (dstM).slice (Rect.unit (s := S32505856) off S15872.size h) (fun _ => rfl)) (q := fullShare) (fs := B) (Sd := chunk p q) (fd := f) none outN rfl
    (sig.dmaCredit_pos _ _ _ _ _ (by decide)) (chunk_eq ho h).subset) $$ [HC HB Hs]
  · isplitl [HB]
    · rw [l.hob.set_eq_univ]; iexact HB
    isplitl [HC]; · iexact HC
    iexact Hs
  iintro Hf
  rw [wp_ret]; imodintro
  unfold outFly obAny
  iapply (Flight_mono EC (tile d i) ?_) $$ Hf
  iintro ⟨HC, HB⟩
  isplitl [HC]
  · iapply (Entails.of_eq (pointsTo_congr (out_chunk X hp hq ho h f _ fun j => hB j (j 0).isLt))) $$ HC
  · iexists B
    rw [l.hob.set_eq_univ]; iexact HB

/-- Wait for a copy out. -/
theorem wp_outWait {q : ℕ} (off : Fin 1 → ℕ) (h : ∀ a, off a + S15872.size a ≤ S32505856.size a) :
    iprop(MayWaits (tile d i) none O ∗ outFly d i X l p q ∗ owe d i O W)
      ⊢ wp frame (wpE (defs₀ (F := F)) 𝒱₀ (tile d i) none) Set.univ (outWait i dstM l off h) fun _ =>
        (iprop(chunkPts d i p q (out X) ∗ obAny d i l ∗ soZero d i l ∗ owe d i O W) : sProp 𝕄) := by
  unfold outWait outFly owe
  simp only [Prog.lift]
  iintro ⟨#Hmw, Hf, %W', %hW, HO⟩
  iapply (wp_waitLocalO EC 𝒱₀ (tile d i) none none (N := outN) rfl) $$ [Hf HO]
  · isplitl [Hf]; · iexact Hf
    isplitl [HO]; · iexact HO
    iapply (MayWaits.elim (.dma l.so.sem)); iexact Hmw
  iintro ⟨⟨HC, HB⟩, Hs, HO⟩
  rw [wp_ret]; imodintro
  isplitl [HC]; · iexact HC
  isplitl [HB]; · iexact HB
  isplitl [Hs]; · iexact Hs
  iexists _
  isplitr
  rotate_left
  · iexact HO
  ipureintro
  exact owe_step W _ W' hW

end Lanes

end Cert.Proof.Ring
-- ==== Proof.Units.lean ====
/-
  The units of a lane, in the three shapes the ring has them, and the whole ring over its four lanes.
-/
module

public import proofs.«01_k».proof.Proof.Ring
public import Idealize.SL.BI.BigOpNat

@[expose] public section

noncomputable section

namespace Cert.Proof.Units

open Cert.KernelIdeal Cert.KernelIdeal.Facts₀
open Cert.Proof.Program Cert.Proof.World Cert.Proof.Realign Cert.Proof.Windows Cert.Proof.Ring
open Idealize.ShloMosaic
open Idealize.ShloMosaic.SparseCore.Cfg (HIx)
open Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ
local notation "srcM" => (Memref.whole Cert.KernelIdeal.main_v2_scv : Memref Cert.KernelIdeal.sig Kind.scVector Space.hbm Cert.KernelIdeal.S33554432 EltTy.f32)
local notation "dstM" => (Memref.whole Cert.KernelIdeal.main_v3_scv : Memref Cert.KernelIdeal.sig Kind.scVector Space.hbm Cert.KernelIdeal.S32505856 EltTy.f32)

variable {d : Dev nD} {i : grid0.Coords}

/-- A program's specification, used with the rest of the goal as its continuation. -/
theorem use {α : Type} {P : sProp 𝕄} {e : Prog (Eff F i) α} {Φ Ψ : α → sProp 𝕄}
    (h : P ⊢ wp frame (wpE (defs₀ (F := F)) 𝒱₀ (tile d i) none) Set.univ e Φ) :
    P ⊢ iprop((∀ a, Φ a -∗ Ψ a) -∗ wp frame (wpE (defs₀ (F := F)) 𝒱₀ (tile d i) none) Set.univ e Ψ) :=
  h.trans (wp_wand frame _ _)

variable (X : S33554432.Idx → F .f32) (f : S32505856.Idx → F .f32) (qs : PosShare TreeShare) (l : Lane) (p h : ℕ)
variable (O : CellTallies nD τ sig (HIx 1)) (W : Waits sig (HIx 1))

/-- The realignment of a landed chunk. -/
theorem wp_realigned {q : ℕ} {ks : ℕ → IVec S16 32} (hks : IxOK (shift p % 128) ks) :
    iprop((∃ A, ⌜l.ib.view.read (Elt F) A = inChunk X p q⌝ ∗ l.ib.view.loc (tile d i) ↦{fullShare} A) ∗ obAny d i l)
      ⊢ wp frame (wpE (defs₀ (F := F)) 𝒱₀ (tile d i) none) Set.univ (realign i l.ib l.ob ks) fun _ =>
        (iprop(ibAny d i l ∗ ∃ B, ⌜Filled (d := d) (i := i) l.ob (shift p % 128) (inChunk X p q) B 15872⌝ ∗ l.ob.view.loc (tile d i) ↦{fullShare} B) : sProp 𝕄) := by
  unfold obAny ibAny
  iintro ⟨⟨%A, %hA, HA⟩, %B, HB⟩
  iapply (use (wp_realign (Nat.mod_lt _ (by decide)) hks A)) $$ [HA HB]
  · unfold bufs
    isplitl [HA]; · iexact HA
    iexists B
    isplitr
    · ipureintro; exact fun j hj => absurd hj (Nat.not_lt_zero _)
    iexact HB
  unfold bufs
  iintro %_ ⟨HA, %B', %hB, HB⟩
  isplitl [HA]
  · iexists A; iexact HA
  iexists B'
  isplitr
  · ipureintro; rw [← hA]; exact hB
  iexact HB

/-- The output chunks a lane still has to write, and those it has written. -/
abbrev todo (d : Dev nD) (i : grid0.Coords) (g : ℕ) : sProp 𝕄 := bigSep (Finset.Ico g 16) fun g => chunkPts d i p (2 * g + h) f
abbrev done (d : Dev nD) (i : grid0.Coords) (g : ℕ) : sProp 𝕄 := bigSep (Finset.Ico 0 g) fun g => chunkPts d i p (2 * g + h) (out X)

/-- A lane with its first chunk flying in. -/
def lane0 (d : Dev nD) (i : grid0.Coords) : sProp 𝕄 :=
  iprop(inFly d i X qs l p h ∗ obAny d i l ∗ soZero d i l ∗ todo f p h d i 0)

/-- A lane after `t` rounds of the ring. -/
def laneAt (d : Dev nD) (i : grid0.Coords) (t : ℕ) : sProp 𝕄 :=
  iprop(inFly d i X qs l p (2 * (t + 1) + h) ∗ outFly d i X l p (2 * t + h) ∗ done X p h d i t ∗ todo f p h d i (t + 1))

/-- A lane with its last chunk flying out. -/
def laneZ (d : Dev nD) (i : grid0.Coords) : sProp 𝕄 :=
  iprop(inPts d i X qs ∗ ibAny d i l ∗ siZero d i l ∗ outFly d i X l p (30 + h) ∗ done X p h d i 15)

variable {X f qs l p h O W}

theorem todo_take {g : ℕ} (hg : g < 16) :
    todo f p h d i g = (iprop(chunkPts d i p (2 * g + h) f ∗ todo f p h d i (g + 1)) : sProp 𝕄) := bigSep_Ico_succ_bot hg _

theorem done_put {g : ℕ} :
    done X p h d i (g + 1) = (iprop(chunkPts d i p (2 * g + h) (out X) ∗ done X p h d i g) : sProp 𝕄) :=
  bigSep_Ico_succ_top (Nat.zero_le g) _

theorem lane_start {r : Fin 12} (hr : p = pair i + r.val % 2) (hu : unit1 r / 2 = h) :
    iprop(inPts d i X qs ∗ ibAny d i l ∗ siZero d i l ∗ obAny d i l ∗ soZero d i l ∗ todo f p h d i 0)
      ⊢ wp frame (wpE (defs₀ (F := F)) 𝒱₀ (tile d i) none) Set.univ (startIn i srcM l r) fun _ => (lane0 X f qs l p h d i : sProp 𝕄) := by
  unfold lane0
  iintro ⟨HX, HA, Hs, HB, Ht, HC⟩
  iapply (use (wp_inStart (p := p) (q := h) (by rw [off1_eq, hr, hu]) (k0_off1_inb i r))) $$ [HX HA Hs]
  · isplitl [HX]; · iexact HX
    isplitl [HA]; · iexact HA
    iexact Hs
  iintro %_ Hf
  isplitl [Hf]; · iexact Hf
  isplitl [HB]; · iexact HB
  isplitl [Ht]; · iexact Ht
  iexact HC

theorem lane_first {ks : ℕ → IVec S16 32} (hks : IxOK (shift p % 128) ks) {r r' : Fin 12} {ro : Fin 8} (hp : p < 64) (hh : h < 2)
    (hr : p = pair i + r'.val % 2) (hu : unit1 r' / 2 = 2 + h) (hro : p = pair i + ro.val % 2) (huo : unit18 ro / 2 = h) :
    iprop(MayWaits (tile d i) none O ∗ lane0 X f qs l p h d i ∗ owe d i O W)
      ⊢ wp frame (wpE (defs₀ (F := F)) 𝒱₀ (tile d i) none) Set.univ (first i srcM dstM l ks r r' ro) fun _ =>
        (iprop(laneAt X f qs l p h d i 0 ∗ owe d i O W) : sProp 𝕄) := by
  unfold lane0 laneAt first
  simp only [wp_bind]
  iintro ⟨#Hmw, ⟨Hf, HB, Ht, HC⟩, HO⟩
  iapply (use (wp_inWait _ _)) $$ [Hf HO]
  · isplitr; · iexact Hmw
    isplitl [Hf]; · iexact Hf
    iexact HO
  iintro %_ ⟨HX, HA, Hs, HO⟩
  iapply (use (wp_realigned X l p hks)) $$ [HA HB]
  · isplitl [HA]; · iexact HA
    iexact HB
  iintro %_ ⟨HA, %B, %hB, HB⟩
  ihave HC := (Entails.of_eq (todo_take (by decide))) $$ HC
  icases HC with ⟨Hc, HC⟩
  iapply (use (wp_outStart (q := 2 * 0 + h) hp (by omega) (by rw [off18_eq, hro, huo, Nat.mul_zero, Nat.zero_add]) (k0_off18_inb i ro) f B (by rw [Nat.mul_zero, Nat.zero_add]; exact hB))) $$ [Hc HB Ht]
  · isplitl [Hc]; · iexact Hc
    isplitl [HB]; · iexact HB
    iexact Ht
  iintro %_ Ho
  iapply (use (wp_inStart (p := p) (q := 2 * (0 + 1) + h) (by rw [off1_eq, hr, hu]) (k0_off1_inb i r'))) $$ [HX HA Hs]
  · isplitl [HX]; · iexact HX
    isplitl [HA]; · iexact HA
    iexact Hs
  iintro %_ Hf
  isplitr [HO]
  · isplitl [Hf]; · iexact Hf
    isplitl [Ho]; · iexact Ho
    isplitr
    · unfold done; rw [Finset.Ico_self, bigSep_empty]; iempintro
    iexact HC
  iexact HO

theorem lane_mid {ks : ℕ → IVec S16 32} (hks : IxOK (shift p % 128) ks) (hp : p < 64) {b : Fin 4} (t : Fin k0_t5_loop.trips)
    (hb : p = pair i + b.val % 2) (hh : h = b.val / 2) :
    iprop(MayWaits (tile d i) none O ∗ laneAt X f qs l p h d i t.val ∗ owe d i O W)
      ⊢ wp frame (wpE (defs₀ (F := F)) 𝒱₀ (tile d i) none) Set.univ (mid i srcM dstM l ks t b) fun _ =>
        (iprop(laneAt X f qs l p h d i (t.val + 1) ∗ owe d i O W) : sProp 𝕄) := by
  have ht : t.val < 14 := lt_of_lt_of_eq t.isLt (by decide)
  have hb4 := b.isLt
  unfold laneAt mid
  simp only [wp_bind]
  iintro ⟨#Hmw, ⟨Hf, Ho, HD, HC⟩, HO⟩
  iapply (use (wp_inWait _ _)) $$ [Hf HO]
  · isplitr; · iexact Hmw
    isplitl [Hf]; · iexact Hf
    iexact HO
  iintro %_ ⟨HX, HA, Hs, HO⟩
  iapply (use (wp_outWait _ _)) $$ [Ho HO]
  · isplitr; · iexact Hmw
    isplitl [Ho]; · iexact Ho
    iexact HO
  iintro %_ ⟨Hd, HB, Ht, HO⟩
  iapply (use (wp_realigned X l p hks)) $$ [HA HB]
  · isplitl [HA]; · iexact HA
    iexact HB
  iintro %_ ⟨HA, %B, %hB, HB⟩
  ihave HC := (Entails.of_eq (todo_take (by omega))) $$ HC
  icases HC with ⟨Hc, HC⟩
  iapply (use (wp_outStart hp (by omega) (by rw [off85_eq, hb, hh]) (k0_off85_inb i t b) f B hB)) $$ [Hc HB Ht]
  · isplitl [Hc]; · iexact Hc
    isplitl [HB]; · iexact HB
    iexact Ht
  iintro %_ Ho
  iapply (use (wp_inStart (p := p) (q := 2 * (t.val + 1 + 1) + h) (by rw [off86_eq, hb, hh]) (k0_off86_inb i t b))) $$ [HX HA Hs]
  · isplitl [HX]; · iexact HX
    isplitl [HA]; · iexact HA
    iexact Hs
  iintro %_ Hf
  isplitr [HO]
  · isplitl [Hf]; · iexact Hf
    isplitl [Ho]; · iexact Ho
    isplitl [HD Hd]
    · iapply (Entails.of_eq done_put.symm)
      isplitl [Hd]; · iexact Hd
      iexact HD
    iexact HC
  iexact HO

theorem lane_last {ks : ℕ → IVec S16 32} (hks : IxOK (shift p % 128) ks) {b : Fin 4} {r : Fin 12} {ro : Fin 8} (hp : p < 64) (hh : h < 2)
    (hro : p = pair i + ro.val % 2) (huo : unit18 ro / 2 = 2 * (14 + 1) + h) :
    iprop(MayWaits (tile d i) none O ∗ laneAt X f qs l p h d i 14 ∗ owe d i O W)
      ⊢ wp frame (wpE (defs₀ (F := F)) 𝒱₀ (tile d i) none) Set.univ (last i srcM dstM l ks b r ro) fun _ =>
        (iprop(laneZ X qs l p h d i ∗ owe d i O W) : sProp 𝕄) := by
  unfold laneAt laneZ last
  simp only [wp_bind]
  iintro ⟨#Hmw, ⟨Hf, Ho, HD, HC⟩, HO⟩
  iapply (use (wp_inWait _ _)) $$ [Hf HO]
  · isplitr; · iexact Hmw
    isplitl [Hf]; · iexact Hf
    iexact HO
  iintro %_ ⟨HX, HA, Hs, HO⟩
  iapply (use (wp_outWait _ _)) $$ [Ho HO]
  · isplitr; · iexact Hmw
    isplitl [Ho]; · iexact Ho
    iexact HO
  iintro %_ ⟨Hd, HB, Ht, HO⟩
  iapply (use (wp_realigned X l p hks)) $$ [HA HB]
  · isplitl [HA]; · iexact HA
    iexact HB
  iintro %_ ⟨HA, %B, %hB, HB⟩
  ihave HC := (Entails.of_eq (todo_take (by decide))) $$ HC
  icases HC with ⟨Hc, HC⟩
  iapply (use (wp_outStart hp (by omega) (by rw [off18_eq, hro, huo]) (k0_off18_inb i ro) f B hB)) $$ [Hc HB Ht]
  · isplitl [Hc]; · iexact Hc
    isplitl [HB]; · iexact HB
    iexact Ht
  iintro %_ Ho
  isplitr [HO]
  · isplitl [HX]; · iexact HX
    isplitl [HA]; · iexact HA
    isplitl [Hs]; · iexact Hs
    isplitl [Ho]; · iexact Ho
    iapply (Entails.of_eq (done_put (g := 14)).symm)
    isplitl [Hd]; · iexact Hd
    iexact HD
  iexact HO

theorem lane_end {ro : Fin 8} :
    iprop(MayWaits (tile d i) none O ∗ laneZ X qs l p h d i ∗ owe d i O W)
      ⊢ wp frame (wpE (defs₀ (F := F)) 𝒱₀ (tile d i) none) Set.univ (waitOut i dstM l ro) fun _ =>
        (iprop((inPts d i X qs ∗ ibAny d i l ∗ siZero d i l ∗ obAny d i l ∗ soZero d i l ∗ done X p h d i 16) ∗ owe d i O W) : sProp 𝕄) := by
  unfold laneZ
  iintro ⟨#Hmw, ⟨HX, HA, Hs, Ho, HD⟩, HO⟩
  iapply (use (wp_outWait _ _)) $$ [Ho HO]
  · isplitr; · iexact Hmw
    isplitl [Ho]; · iexact Ho
    iexact HO
  iintro %_ ⟨Hd, HB, Ht, HO⟩
  isplitr [HO]
  · isplitl [HX]; · iexact HX
    isplitl [HA]; · iexact HA
    isplitl [Hs]; · iexact Hs
    isplitl [HB]; · iexact HB
    isplitl [Ht]; · iexact Ht
    iapply (Entails.of_eq (done_put (g := 15)).symm)
    isplitl [Hd]; · iexact Hd
    iexact HD
  iexact HO

/-- A lane before the ring, and after it. -/
def laneIn (X : S33554432.Idx → F .f32) (f : S32505856.Idx → F .f32) (qs : PosShare TreeShare) (l : Lane) (p h : ℕ) (d : Dev nD) (i : grid0.Coords) : sProp 𝕄 :=
  iprop(inPts d i X qs ∗ ibAny d i l ∗ siZero d i l ∗ obAny d i l ∗ soZero d i l ∗ todo f p h d i 0)
def laneOut (X : S33554432.Idx → F .f32) (qs : PosShare TreeShare) (l : Lane) (p h : ℕ) (d : Dev nD) (i : grid0.Coords) : sProp 𝕄 :=
  iprop(inPts d i X qs ∗ ibAny d i l ∗ siZero d i l ∗ obAny d i l ∗ soZero d i l ∗ done X p h d i 16)

/-- The four lanes after `t` rounds, with what the tile owes. -/
def lanesAt (X : S33554432.Idx → F .f32) (f : S32505856.Idx → F .f32) (q0 q1 q2 q3 : PosShare TreeShare) (l0 l1 l2 l3 : Lane)
    (O : CellTallies nD τ sig (HIx 1)) (W : Waits sig (HIx 1)) (d : Dev nD) (i : grid0.Coords) (t : ℕ) : sProp 𝕄 :=
  iprop(MayWaits (tile d i) none O ∗ laneAt X f q0 l0 (pair i) 0 d i t ∗ laneAt X f q1 l1 (pair i + 1) 0 d i t
    ∗ laneAt X f q2 l2 (pair i) 1 d i t ∗ laneAt X f q3 l3 (pair i + 1) 1 d i t ∗ owe d i O W)

variable {q0 q1 q2 q3 : PosShare TreeShare} {l0 l1 l2 l3 : Lane}

theorem wp_round {ks kt : ℕ → IVec S16 32} (hks : IxOK (shift (pair i) % 128) ks) (hkt : IxOK (shift (pair i + 1) % 128) kt) (t : Fin k0_t5_loop.trips) :
    lanesAt X f q0 q1 q2 q3 l0 l1 l2 l3 O W d i t.val
      ⊢ wp frame (wpE (defs₀ (F := F)) 𝒱₀ (tile d i) none) Set.univ (Program.round i srcM dstM l0 l1 l2 l3 ks kt t) fun _ =>
        (lanesAt X f q0 q1 q2 q3 l0 l1 l2 l3 O W d i (t.val + 1) : sProp 𝕄) := by
  have hp := pair_lt i
  unfold Program.round lanesAt
  simp only [wp_bind]
  iintro ⟨#Hmw, H0, H1, H2, H3, HO⟩
  iapply (use (lane_mid (p := pair i) (h := 0) hks (b := 0) (by omega) t rfl rfl)) $$ [H0 HO]
  · isplitr; · iexact Hmw
    isplitl [H0]; · iexact H0
    iexact HO
  iintro %_ ⟨H0, HO⟩
  iapply (use (lane_mid (p := pair i + 1) (h := 0) hkt (b := 1) (by omega) t rfl rfl)) $$ [H1 HO]
  · isplitr; · iexact Hmw
    isplitl [H1]; · iexact H1
    iexact HO
  iintro %_ ⟨H1, HO⟩
  iapply (use (lane_mid (p := pair i) (h := 1) hks (b := 2) (by omega) t rfl rfl)) $$ [H2 HO]
  · isplitr; · iexact Hmw
    isplitl [H2]; · iexact H2
    iexact HO
  iintro %_ ⟨H2, HO⟩
  iapply (use (lane_mid (p := pair i + 1) (h := 1) hkt (b := 3) (by omega) t rfl rfl)) $$ [H3 HO]
  · isplitr; · iexact Hmw
    isplitl [H3]; · iexact H3
    iexact HO
  iintro %_ ⟨H3, HO⟩
  rw [Prog.pure_eq_ret, wp_ret]; imodintro
  isplitr; · iexact Hmw
  isplitl [H0]; · iexact H0
  isplitl [H1]; · iexact H1
  isplitl [H2]; · iexact H2
  isplitl [H3]; · iexact H3
  iexact HO

theorem wp_ring {ks kt : ℕ → IVec S16 32} (hks : IxOK (shift (pair i) % 128) ks) (hkt : IxOK (shift (pair i + 1) % 128) kt) :
    iprop(MayWaits (tile d i) none O ∗ (laneIn X f q0 l0 (pair i) 0 d i ∗ laneIn X f q1 l1 (pair i + 1) 0 d i
        ∗ laneIn X f q2 l2 (pair i) 1 d i ∗ laneIn X f q3 l3 (pair i + 1) 1 d i) ∗ owe d i O W)
      ⊢ wp frame (wpE (defs₀ (F := F)) 𝒱₀ (tile d i) none) Set.univ (ring i srcM dstM l0 l1 l2 l3 ks kt) fun _ =>
        (iprop((laneOut X q0 l0 (pair i) 0 d i ∗ laneOut X q1 l1 (pair i + 1) 0 d i
          ∗ laneOut X q2 l2 (pair i) 1 d i ∗ laneOut X q3 l3 (pair i + 1) 1 d i) ∗ owe d i O W) : sProp 𝕄) := by
  have hp := pair_lt i
  unfold ring laneIn laneOut
  simp only [wp_bind]
  iintro ⟨#Hmw, ⟨H0, H1, H2, H3⟩, HO⟩
  iapply (use (lane_start (p := pair i) (h := 0) (r := 0) rfl rfl)) $$ H0; iintro %_ H0
  iapply (use (lane_start (p := pair i + 1) (h := 0) (r := 1) rfl rfl)) $$ H1; iintro %_ H1
  iapply (use (lane_start (p := pair i) (h := 1) (r := 2) rfl rfl)) $$ H2; iintro %_ H2
  iapply (use (lane_start (p := pair i + 1) (h := 1) (r := 3) rfl rfl)) $$ H3; iintro %_ H3
  iapply (use (lane_first (p := pair i) (h := 0) hks (r' := 4) (ro := 0) (by omega) (by decide) rfl rfl rfl rfl)) $$ [H0 HO]
  · isplitr; · iexact Hmw
    isplitl [H0]; · iexact H0
    iexact HO
  iintro %_ ⟨H0, HO⟩
  iapply (use (lane_first (p := pair i + 1) (h := 0) hkt (r' := 5) (ro := 1) (by omega) (by decide) rfl rfl rfl rfl)) $$ [H1 HO]
  · isplitr; · iexact Hmw
    isplitl [H1]; · iexact H1
    iexact HO
  iintro %_ ⟨H1, HO⟩
  iapply (use (lane_first (p := pair i) (h := 1) hks (r' := 6) (ro := 2) (by omega) (by decide) rfl rfl rfl rfl)) $$ [H2 HO]
  · isplitr; · iexact Hmw
    isplitl [H2]; · iexact H2
    iexact HO
  iintro %_ ⟨H2, HO⟩
  iapply (use (lane_first (p := pair i + 1) (h := 1) hkt (r' := 7) (ro := 3) (by omega) (by decide) rfl rfl rfl rfl)) $$ [H3 HO]
  · isplitr; · iexact Hmw
    isplitl [H3]; · iexact H3
    iexact HO
  iintro %_ ⟨H3, HO⟩
  iapply (Scf.wp_for _ _ _ _ _ _ k0_t5_ok _ _ (fun t _ => lanesAt X f q0 q1 q2 q3 l0 l1 l2 l3 O W d i t) fun t _ => wp_round hks hkt t)
  isplitl [H0 H1 H2 H3 HO]
  · unfold lanesAt
    isplitr; · iexact Hmw
    isplitl [H0]; · iexact H0
    isplitl [H1]; · iexact H1
    isplitl [H2]; · iexact H2
    isplitl [H3]; · iexact H3
    iexact HO
  iintro %_ H
  ihave H := (Entails.of_eq (congrArg (lanesAt X f q0 q1 q2 q3 l0 l1 l2 l3 O W d i) (show Scf.trips k0_t5_loop.lb k0_t5_loop.ub k0_t5_loop.st = 14 by decide))) $$ H
  unfold lanesAt
  icases H with ⟨-, H0, H1, H2, H3, HO⟩
  iapply (use (lane_last (p := pair i) (h := 0) hks (b := 0) (r := 8) (ro := 4) (by omega) (by decide) rfl rfl)) $$ [H0 HO]
  · isplitr; · iexact Hmw
    isplitl [H0]; · iexact H0
    iexact HO
  iintro %_ ⟨H0, HO⟩
  iapply (use (lane_last (p := pair i + 1) (h := 0) hkt (b := 1) (r := 9) (ro := 5) (by omega) (by decide) rfl rfl)) $$ [H1 HO]
  · isplitr; · iexact Hmw
    isplitl [H1]; · iexact H1
    iexact HO
  iintro %_ ⟨H1, HO⟩
  iapply (use (lane_last (p := pair i) (h := 1) hks (b := 2) (r := 10) (ro := 6) (by omega) (by decide) rfl rfl)) $$ [H2 HO]
  · isplitr; · iexact Hmw
    isplitl [H2]; · iexact H2
    iexact HO
  iintro %_ ⟨H2, HO⟩
  iapply (use (lane_last (p := pair i + 1) (h := 1) hkt (b := 3) (r := 11) (ro := 7) (by omega) (by decide) rfl rfl)) $$ [H3 HO]
  · isplitr; · iexact Hmw
    isplitl [H3]; · iexact H3
    iexact HO
  iintro %_ ⟨H3, HO⟩
  iapply (use lane_end) $$ [H0 HO]
  · isplitr; · iexact Hmw
    isplitl [H0]; · iexact H0
    iexact HO
  iintro %_ ⟨H0, HO⟩
  iapply (use lane_end) $$ [H1 HO]
  · isplitr; · iexact Hmw
    isplitl [H1]; · iexact H1
    iexact HO
  iintro %_ ⟨H1, HO⟩
  iapply (use lane_end) $$ [H2 HO]
  · isplitr; · iexact Hmw
    isplitl [H2]; · iexact H2
    iexact HO
  iintro %_ ⟨H2, HO⟩
  iapply (use lane_end) $$ [H3 HO]
  · isplitr; · iexact Hmw
    isplitl [H3]; · iexact H3
    iexact HO
  iintro %_ ⟨H3, HO⟩
  isplitr [HO]
  · isplitl [H0]; · iexact H0
    isplitl [H1]; · iexact H1
    isplitl [H2]; · iexact H2
    iexact H3
  iexact HO

end Cert.Proof.Units
-- ==== Proof.Tile.lean ====
/-
  One tile's task. The tile has four lanes: a quarter of its share of the input each, and sixteen chunks of the output. The
  lanes' buffers and semaphores are taken from what the tile owns and put back.
-/
module

public import proofs.«01_k».proof.Proof.Units
public import Idealize.ShloMosaic.Lib.ShareLeaves

@[expose] public section

noncomputable section

namespace Cert.Proof.Tile

open Cert.KernelIdeal Cert.KernelIdeal.Facts₀
open Cert.Proof.Program Cert.Proof.World Cert.Proof.Realign Cert.Proof.Windows Cert.Proof.Ring Cert.Proof.Units
open Idealize.ShloMosaic
open Idealize.ShloMosaic.SparseCore (S V T)
open Idealize.ShloMosaic.SparseCore.Cfg (HIx Pay ownSems0 ownBufs ownCells ownRefs mem_ownCells)
open Idealize.ShloMosaic.Transfers
open Idealize.ShloMosaic.ShareLeaves
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ
local notation "srcM" => (Memref.whole Cert.KernelIdeal.main_v2_scv : Memref Cert.KernelIdeal.sig Kind.scVector Space.hbm Cert.KernelIdeal.S33554432 EltTy.f32)
local notation "dstM" => (Memref.whole Cert.KernelIdeal.main_v3_scv : Memref Cert.KernelIdeal.sig Kind.scVector Space.hbm Cert.KernelIdeal.S32505856 EltTy.f32)

/-- The tile at a core and a subcore of the grid. -/
def coordsV (c : Fin (grid0.bound 0)) (s : Fin (grid0.bound 1)) : grid0.Coords :=
  fun | 0 => c | 1 => s | ⟨_ + 2, h⟩ => absurd h (Nat.not_lt.2 (Nat.le_add_left _ _))

theorem bigSep_four (Φ : Fin 4 → sProp 𝕄) : bigSep Finset.univ Φ = iprop(Φ 0 ∗ Φ 1 ∗ Φ 2 ∗ Φ 3) := by
  rw [show (Finset.univ : Finset (Fin 4)) = {0, 1, 2, 3} by decide, SparseCore.bigSep_insert' (by decide),
    SparseCore.bigSep_insert' (by decide), SparseCore.bigSep_insert' (by decide), bigSep_singleton]

/-- Part of a separating conjunction, named by an injection. -/
theorem bigSep_take {A B : Type} [Fintype B] [DecidableEq B] [DecidableEq A] (S : Finset A) (e : B → A) (he : Function.Injective e) (h : ∀ b, e b ∈ S)
    (Φ : A → sProp 𝕄) : bigSep S Φ = iprop((bigSep Finset.univ fun b => Φ (e b)) ∗ bigSep (S \ Finset.univ.image e) Φ) := by
  have hs : Finset.univ.image e ⊆ S := by
    intro a ha
    obtain ⟨b, -, rfl⟩ := Finset.mem_image.mp ha
    exact h b
  conv_lhs => rw [← Finset.union_sdiff_of_subset hs]
  rw [bigSep_union Finset.disjoint_sdiff, SparseCore.bigSep_image_of_injOn (fun a _ b _ e' => he e')]
  rfl

/-! ## The four lanes -/

/-- The tile's scratch, by lane. -/
def ibRef : Fin 4 → Ref sig .scVector := fun | 0 => cc0_scratch0 | 1 => cc0_scratch1 | 2 => cc0_scratch2 | 3 => cc0_scratch3
def obRef : Fin 4 → Ref sig .scVector := fun | 0 => cc0_scratch4 | 1 => cc0_scratch5 | 2 => cc0_scratch6 | 3 => cc0_scratch7
def siSem : Fin 4 → DmaSem sig := fun | 0 => cc0_scratch8.sem | 1 => cc0_scratch9.sem | 2 => cc0_scratch10.sem | 3 => cc0_scratch11.sem
def soSem : Fin 4 → DmaSem sig := fun | 0 => cc0_scratch12.sem | 1 => cc0_scratch13.sem | 2 => cc0_scratch14.sem | 3 => cc0_scratch15.sem

def lane : Fin 4 → Lane := fun
  | 0 => ⟨Memref.whole cc0_scratch0, Memref.isWhole_whole _, Memref.whole cc0_scratch4, Memref.isWhole_whole _, cc0_scratch8, cc0_scratch12⟩
  | 1 => ⟨Memref.whole cc0_scratch1, Memref.isWhole_whole _, Memref.whole cc0_scratch5, Memref.isWhole_whole _, cc0_scratch9, cc0_scratch13⟩
  | 2 => ⟨Memref.whole cc0_scratch2, Memref.isWhole_whole _, Memref.whole cc0_scratch6, Memref.isWhole_whole _, cc0_scratch10, cc0_scratch14⟩
  | 3 => ⟨Memref.whole cc0_scratch3, Memref.isWhole_whole _, Memref.whole cc0_scratch7, Memref.isWhole_whole _, cc0_scratch11, cc0_scratch15⟩

section Own

variable (d : Dev nD) (i : grid0.Coords)

abbrev proc : Proc τ := .scVector ((i 0).castLE hcore0) ((i 1).castLE hsub0)

theorem ibAny_lane (b : Fin 4) : (ibAny d i (lane b) : sProp 𝕄) = iprop(∃ f, ((d, (proc i).devRef (ibRef b)) : Loc nD τ sig) ↦{fullShare} f) := by
  unfold ibAny
  fin_cases b <;> (simp only [lane, ibRef, Memref.view_whole]; rfl)

theorem obAny_lane (b : Fin 4) : (obAny d i (lane b) : sProp 𝕄) = iprop(∃ f, ((d, (proc i).devRef (obRef b)) : Loc nD τ sig) ↦{fullShare} f) := by
  unfold obAny
  fin_cases b <;> (simp only [lane, obRef, Memref.view_whole]; rfl)

theorem siZero_lane (b : Fin 4) : (siZero d i (lane b) : sProp 𝕄) = semVal (tile d i, .dma (siSem b)) 0 := by fin_cases b <;> rfl
theorem soZero_lane (b : Fin 4) : (soZero d i (lane b) : sProp 𝕄) = semVal (tile d i, .dma (soSem b)) 0 := by fin_cases b <;> rfl

theorem ibRef_inj : Function.Injective ibRef := by decide
theorem obRef_inj : Function.Injective obRef := by decide
theorem siSem_inj : Function.Injective siSem := by decide
theorem soSem_inj : Function.Injective soSem := by decide
theorem ib_ne_ob : ∀ a b, ibRef a ≠ obRef b := by decide
theorem si_ne_so : ∀ a b, siSem a ≠ soSem b := by decide

/-- A tile's buffers: its lanes', and the rest. -/
def restBufs : sProp 𝕄 :=
  bigSep ((ownRefs (τ := τ) (proc i) \ Finset.univ.image fun b => (proc i).devRef (ibRef b)) \ Finset.univ.image fun b => (proc i).devRef (obRef b))
    fun b => iprop(∃ f, ((d, b) : Loc nD τ sig) ↦{fullShare} f)

theorem ownBufs_lanes : (ownBufs (tile d i) : sProp 𝕄)
    = iprop((bigSep Finset.univ fun b => ibAny d i (lane b)) ∗ (bigSep Finset.univ fun b => obAny d i (lane b)) ∗ restBufs d i) := by
  unfold ownBufs restBufs
  rw [bigSep_take _ (fun b => (proc i).devRef (ibRef b)) (fun a b e => ibRef_inj (Proc.devRef_injective _ e))
      (fun b => SparseCore.Cfg.mem_ownRefs_of_owner (by fin_cases b <;> rfl)),
    bigSep_take (_ \ _) (fun b => (proc i).devRef (obRef b)) (fun a b e => obRef_inj (Proc.devRef_injective _ e))
      (fun b => Finset.mem_sdiff.mpr ⟨SparseCore.Cfg.mem_ownRefs_of_owner (by fin_cases b <;> rfl), fun h => by
        obtain ⟨a, -, e⟩ := Finset.mem_image.mp h
        exact ib_ne_ob a b (Proc.devRef_injective _ e)⟩),
    bigSep_congr fun b _ => ibAny_lane d i b, bigSep_congr fun b _ => obAny_lane d i b]

/-- A tile's semaphores: its lanes', and the rest. -/
def restSems : sProp 𝕄 :=
  bigSep ((ownCells (tile d i) \ Finset.univ.image fun b => ((tile d i, .dma (siSem b)) : GSem nD τ sig))
    \ Finset.univ.image fun b => ((tile d i, .dma (soSem b)) : GSem nD τ sig)) fun g => semVal g 0

theorem sem_inj {f : Fin 4 → DmaSem sig} (hf : Function.Injective f) : Function.Injective fun b => ((tile d i, .dma (f b)) : GSem nD τ sig) :=
  fun _ _ e => hf (SemLoc.dma.inj (Prod.mk.inj e).2)

theorem ownSems_lanes : (ownSems0 (tile d i) : sProp 𝕄)
    = iprop((bigSep Finset.univ fun b => siZero d i (lane b)) ∗ (bigSep Finset.univ fun b => soZero d i (lane b)) ∗ restSems d i) := by
  unfold ownSems0 restSems
  rw [bigSep_take _ (fun b => ((tile d i, .dma (siSem b)) : GSem nD τ sig)) (sem_inj d i siSem_inj)
      (fun b => mem_ownCells.mpr ⟨rfl, by show (SemLoc.dma (siSem b) : SemLoc sig).isScoped .scVector = true; revert b; decide⟩),
    bigSep_take (_ \ _) (fun b => ((tile d i, .dma (soSem b)) : GSem nD τ sig)) (sem_inj d i soSem_inj)
      (fun b => Finset.mem_sdiff.mpr ⟨mem_ownCells.mpr ⟨rfl, by show (SemLoc.dma (soSem b) : SemLoc sig).isScoped .scVector = true; revert b; decide⟩, fun h => by
        obtain ⟨a, -, e⟩ := Finset.mem_image.mp h
        exact si_ne_so a b (SemLoc.dma.inj (Prod.mk.inj e).2)⟩),
    bigSep_congr fun b _ => siZero_lane d i b, bigSep_congr fun b _ => soZero_lane d i b]

end Own

/-! ## The task -/

/-- The tiles' lanes, numbered. -/
def number : Fin 2 × Fin 16 × Fin 4 ≃ Fin (2 ^ 7) :=
  ((Equiv.refl _).prodCongr finProdFinEquiv).trans (finProdFinEquiv.trans (finCongr (by decide)))

/-- A lane's share of the input. -/
def share (c : Fin 2) (s : Fin 16) (b : Fin 4) : PosShare TreeShare := leaf 7 fullShare (number (c, s, b))

/-- What a lane of a tile has of the arrays: its share of the input, and its sixteen chunks of the output, holding `g`. -/
def part (X : S33554432.Idx → F .f32) (g : S32505856.Idx → F .f32) (d : Dev nD) (c : Fin 2) (s : Fin 16) (b : Fin 4) : sProp 𝕄 :=
  iprop(inPts d (coordsV c s) X (share c s b)
    ∗ bigSep (Finset.Ico 0 16) fun k => chunkPts d (coordsV c s) (pair (coordsV c s) + b.val % 2) (2 * k + b.val / 2) g)

/-- What a tile has of them. -/
def task (X : S33554432.Idx → F .f32) (g : S32505856.Idx → F .f32) (d : Dev nD) (c : Fin 2) (s : Fin 16) : sProp 𝕄 :=
  bigSep Finset.univ fun b : Fin 4 => part X g d c s b

variable (X : S33554432.Idx → F .f32) (f : S32505856.Idx → F .f32) (d : Dev nD) (c : Fin 2) (s : Fin 16)

theorem lanes_in : iprop(task X f d c s ∗ (bigSep Finset.univ fun b => ibAny d (coordsV c s) (lane b))
      ∗ (bigSep Finset.univ fun b => obAny d (coordsV c s) (lane b)) ∗ (bigSep Finset.univ fun b => siZero d (coordsV c s) (lane b))
      ∗ (bigSep Finset.univ fun b => soZero d (coordsV c s) (lane b)))
    = (bigSep Finset.univ fun b : Fin 4 => laneIn X f (share c s b) (lane b) (pair (coordsV c s) + b.val % 2) (b.val / 2) d (coordsV c s) : sProp 𝕄) := by
  unfold task
  simp only [← bigSep_sep']
  refine bigSep_congr fun b _ => ?_
  unfold part laneIn
  refine BI.Entails.antisymm ?_ ?_
  · change (_ : sProp 𝕄) ⊢ _
    iintro ⟨⟨H1, H2⟩, H3, H4, H5, H6⟩
    isplitl [H1]; · iexact H1
    isplitl [H3]; · iexact H3
    isplitl [H5]; · iexact H5
    isplitl [H4]; · iexact H4
    isplitl [H6]; · iexact H6
    iexact H2
  · change (_ : sProp 𝕄) ⊢ _
    iintro ⟨H1, H3, H5, H4, H6, H2⟩
    isplitl [H1 H2]
    · isplitl [H1]; · iexact H1
      iexact H2
    isplitl [H3]; · iexact H3
    isplitl [H4]; · iexact H4
    isplitl [H5]; · iexact H5
    iexact H6

theorem laneOut_eq (qs : PosShare TreeShare) (l : Lane) (p h : ℕ) (i : grid0.Coords) :
    (laneOut X qs l p h d i : sProp 𝕄) = laneIn X (out X) qs l p h d i := rfl

theorem tile_ring (O : CellTallies nD τ sig (HIx 1)) (W : Waits sig (HIx 1)) {ks kt : ℕ → IVec S16 32}
    (hks : IxOK (shift (pair (coordsV c s)) % 128) ks) (hkt : IxOK (shift (pair (coordsV c s) + 1) % 128) kt) :
    iprop(MayWaits (tile d (coordsV c s)) none O ∗ (bigSep Finset.univ fun b : Fin 4 =>
        laneIn X f (share c s b) (lane b) (pair (coordsV c s) + b.val % 2) (b.val / 2) d (coordsV c s)) ∗ owe d (coordsV c s) O W)
      ⊢ wp frame (wpE (defs₀ (F := F)) 𝒱₀ (tile d (coordsV c s)) none) Set.univ
          (ring (coordsV c s) srcM dstM (lane 0) (lane 1) (lane 2) (lane 3) ks kt) fun _ =>
        (iprop((bigSep Finset.univ fun b : Fin 4 =>
          laneIn X (out X) (share c s b) (lane b) (pair (coordsV c s) + b.val % 2) (b.val / 2) d (coordsV c s)) ∗ owe d (coordsV c s) O W) : sProp 𝕄) := by
  simp only [bigSep_four]
  exact wp_ring hks hkt

theorem tile_body (O : CellTallies nD τ sig (HIx 1)) (W : Waits sig (HIx 1)) (hO : ∀ g, O g none = 0) :
    iprop(levAts (K (F := F)).L (K (F := F)).lev ∗ emp ∗ task X f d c s
        ∗ scopedBufs (tile d (coordsV c s)) ∗ scopedSems0 (tile d (coordsV c s)) ∗ owes (tile d (coordsV c s)) O W)
      ⊢ wp frame (wpE (defs₀ (F := F)) 𝒱₀ (tile d (coordsV c s)) none) Set.univ
          (cc0_k (coordsV c s) srcM (Memref.isWhole_whole _) dstM (Memref.isWhole_whole _)
            (lane 0).ib (lane 0).hib (lane 1).ib (lane 1).hib (lane 2).ib (lane 2).hib (lane 3).ib (lane 3).hib
            (lane 0).ob (lane 0).hob (lane 1).ob (lane 1).hob (lane 2).ob (lane 2).hob (lane 3).ob (lane 3).hob
            (lane 0).si (lane 1).si (lane 2).si (lane 3).si (lane 0).so (lane 1).so (lane 2).so (lane 3).so) fun _ =>
          (iprop(task X (out X) d c s ∗ scopedBufs (tile d (coordsV c s)) ∗ scopedSems0 (tile d (coordsV c s))
            ∗ ∃ W', ⌜∀ p ∈ W', p ∈ W ∨ p.2 = none⌝ ∗ owes (tile d (coordsV c s)) O W') : sProp 𝕄) := by
  have hp := pair_lt (coordsV c s)
  obtain ⟨ks, kt, ⟨hks, hkt⟩, he⟩ := Cert.Proof.Program.cc0_k_eq (F := F) (coordsV c s) srcM (Memref.isWhole_whole _) dstM (Memref.isWhole_whole _)
    (lane 0) (lane 1) (lane 2) (lane 3)
  rw [he, (K (F := F)).scopedBufs_V facts d _ _, SparseCore.Cfg.scopedSems0_V (Val := Elt F) d _ _, ownSems_lanes, ownBufs_lanes]
  iintro ⟨#Hlv, -, Ht, ⟨Hib, Hob, Hbufs⟩, ⟨Hsi, Hso, Hsems⟩, HO⟩
  ihave Hmw := ((K (F := F)).mayWaits_none (thr := tile d (coordsV c s)) hO) $$ Hlv
  ihave Hin := (Entails.of_eq (lanes_in X f d c s)) $$ [Ht Hib Hob Hsi Hso]
  · isplitl [Ht]; · iexact Ht
    isplitl [Hib]; · iexact Hib
    isplitl [Hob]; · iexact Hob
    isplitl [Hsi]; · iexact Hsi
    iexact Hso
  iapply (use (tile_ring X f d c s O W (idxVec_ok (by omega) hks) (idxVec_ok (by omega) hkt))) $$ [Hmw Hin HO]
  · isplitl [Hmw]; · iexact Hmw
    isplitl [Hin]; · iexact Hin
    unfold owe
    iexists W
    isplitr
    · ipureintro; exact fun p hp => .inl hp
    iexact HO
  iintro %_ ⟨Hout, HO⟩
  ihave Hl := (Entails.of_eq (lanes_in X (out X) d c s).symm) $$ Hout
  icases Hl with ⟨Ht, Hib, Hob, Hsi, Hso⟩
  isplitl [Ht]; · iexact Ht
  isplitl [Hib Hob Hbufs]
  · isplitl [Hib]; · iexact Hib
    isplitl [Hob]; · iexact Hob
    iexact Hbufs
  isplitl [Hsi Hso Hsems]
  · isplitl [Hsi]; · iexact Hsi
    isplitl [Hso]; · iexact Hso
    iexact Hsems
  unfold owe
  iexact HO

end Cert.Proof.Tile
-- ==== Proof.Deal.lean ====
/-
  The arrays dealt among the tiles: a share of the input to each lane, and the output cut into the chunks the lanes write.
-/
module

public import proofs.«01_k».proof.Proof.Tile

@[expose] public section

noncomputable section

namespace Cert.Proof.Deal

open Cert.KernelIdeal Cert.KernelIdeal.Facts₀
open Cert.Proof.Program Cert.Proof.World Cert.Proof.Windows Cert.Proof.Ring Cert.Proof.Units Cert.Proof.Tile
open Idealize.ShloMosaic
open Idealize.ShloMosaic.SparseCore (S V T)
open Idealize.ShloMosaic.SparseCore.Cfg (HIx)
open Idealize.ShloMosaic.ShareLeaves
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-- The input and the output of the call, as the TensorCore has them. -/
abbrev xLoc (d : Dev nD) : Loc nD τ sig := (T d : Thread nD τ).loc main_v2
abbrev yLoc (d : Dev nD) : Loc nD τ sig := (T d : Thread nD τ).loc main_v3

/-- A piece of an array cut by a label of its words. -/
theorem pts_by_label {ℓ : Loc nD τ sig} {ι : Type} [DecidableEq ι] (A : Finset ι) (lab : Idx ℓ → ι) (J : Finset (Idx ℓ))
    (h : ∀ j ∈ J, lab j ∈ A) (f : Buf (Elt F) ℓ) :
    (ℓ ↦[J]{fullShare} f : sProp 𝕄) = bigSep A fun a => ℓ ↦[J.filter fun j => lab j = a]{fullShare} f := by
  classical
  rw [← pointsTo_biUnion A (fun a => J.filter fun j => lab j = a) (fun a _ b _ hab => Finset.disjoint_left.mpr fun j h1 h2 =>
    hab ((Finset.mem_filter.mp h1).2.symm.trans (Finset.mem_filter.mp h2).2))]
  congr 1
  ext j
  simp only [Finset.mem_biUnion, Finset.mem_filter]
  exact ⟨fun hj => ⟨lab j, h j hj, hj, rfl⟩, fun ⟨_, _, hj, _⟩ => hj⟩

/-! ## Whose a word of the output is -/

theorem word_lt (j : S32505856.Idx) : (j 0).val < 32505856 := (j 0).isLt

def coreOf (j : S32505856.Idx) : Fin 2 := ⟨(j 0).val / 507904 % 4 / 2, by omega⟩
def subOf (j : S32505856.Idx) : Fin 16 := ⟨(j 0).val / 507904 / 4, by have := word_lt j; omega⟩
def laneOf (j : S32505856.Idx) : Fin 4 := ⟨(j 0).val / 507904 % 2 + 2 * ((j 0).val / 15872 % 2), by omega⟩
def turnOf (j : S32505856.Idx) : ℕ := (j 0).val % 507904 / 31744

theorem chunk_pair (a : ℕ) : a / 507904 = a / 15872 / 32 := by omega
theorem chunk_turn (a : ℕ) : a % 507904 / 31744 = a / 15872 % 32 / 2 := by omega
theorem in_chunk (p q a : ℕ) : (outOff p q ≤ a ∧ a < outOff p q + 15872) ↔ a / 15872 = 32 * p + q := by unfold outOff; omega

theorem chunk_of {n c s b k : ℕ} (hc : c < 2) (hb : b < 4) (hk : k < 16) :
    (((n / 32 % 4 / 2 = c ∧ n / 32 / 4 = s) ∧ n / 32 % 2 + 2 * (n % 2) = b) ∧ n % 32 / 2 = k)
      ↔ n = 32 * (4 * s + 2 * c + b % 2) + (2 * k + b / 2) := by
  constructor
  · rintro ⟨⟨⟨h1, h2⟩, h3⟩, h4⟩
    have e1 : b % 2 = n / 32 % 2 := by omega
    have e2 : b / 2 = n % 2 := by omega
    have e3 : 4 * s + 2 * c + n / 32 % 2 = n / 32 := by omega
    rw [e1, e2, e3]
    omega
  · intro h
    have e1 : n / 32 = 4 * s + 2 * c + b % 2 := by omega
    have e2 : n % 32 = 2 * k + b / 2 := by omega
    have e3 : n % 2 = b / 2 := by omega
    have e4 : (4 * s + 2 * c + b % 2) % 4 = 2 * c + b % 2 := by omega
    have e5 : (4 * s + 2 * c + b % 2) / 4 = s := by omega
    have e6 : (4 * s + 2 * c + b % 2) % 2 = b % 2 := by omega
    rw [e1, e2, e3, e4, e5, e6]
    refine ⟨⟨⟨?_, rfl⟩, ?_⟩, ?_⟩ <;> omega

theorem owned (c : Fin 2) (s : Fin 16) (b : Fin 4) (k : ℕ) (hk : k ∈ Finset.Ico 0 16) :
    ((((Finset.univ.filter fun j => coreOf j = c).filter fun j => subOf j = s).filter fun j => laneOf j = b).filter fun j => turnOf j = k)
      = chunk (pair (coordsV c s) + b.val % 2) (2 * k + b.val / 2) := by
  have hp : pair (coordsV c s) = 4 * s.val + 2 * c.val := rfl
  have hk' := (Finset.mem_Ico.mp hk).2
  have hb := b.isLt
  have hc := c.isLt
  have hs := s.isLt
  ext j
  have hj := word_lt j
  unfold chunk
  rw [hp]
  simp only [Finset.mem_filter, Finset.mem_univ, true_and, Fin.ext_iff, coreOf, subOf, laneOf, turnOf]
  rw [in_chunk, chunk_pair, chunk_turn]
  exact chunk_of hc hb hk'

/-- The output, by lane. -/
theorem deal_out (d : Dev nD) (g : S32505856.Idx → F .f32) :
    (yLoc d ↦{fullShare} g : sProp 𝕄) = bigSep Finset.univ fun c : Fin 2 => bigSep Finset.univ fun s : Fin 16 => bigSep Finset.univ fun b : Fin 4 =>
      bigSep (Finset.Ico 0 16) fun k => chunkPts d (coordsV c s) (pair (coordsV c s) + b.val % 2) (2 * k + b.val / 2) g := by
  rw [pts_by_label Finset.univ coreOf Finset.univ fun _ _ => Finset.mem_univ _]
  refine bigSep_congr fun c _ => ?_
  rw [pts_by_label Finset.univ subOf _ fun _ _ => Finset.mem_univ _]
  refine bigSep_congr fun s _ => ?_
  rw [pts_by_label Finset.univ laneOf _ fun _ _ => Finset.mem_univ _]
  refine bigSep_congr fun b _ => ?_
  rw [pts_by_label (Finset.Ico 0 16) turnOf _ fun j _ => Finset.mem_Ico.mpr ⟨Nat.zero_le _, by unfold turnOf; omega⟩]
  refine bigSep_congr fun k hk => ?_
  exact congrArg (fun J => (yLoc d ↦[J]{fullShare} g : sProp 𝕄)) (owned c s b k hk)

/-- An array's shares, numbered by a type of their own. -/
theorem pts_leaves {ℓ : Loc nD τ sig} {A : Type} [Fintype A] {n : ℕ} (e : A ≃ Fin (2 ^ n)) (q : PosShare TreeShare) (f : Buf (Elt F) ℓ) :
    (ℓ ↦{q} f : sProp 𝕄) = bigSep Finset.univ fun a : A => ℓ ↦{leaf n q (e a)} f := by
  rw [pointsTo_leaves Finset.univ f n q]
  exact bigSep_univ_equiv e _

/-- The input, by lane. -/
theorem deal_in (d : Dev nD) (X : S33554432.Idx → F .f32) :
    (xLoc d ↦{fullShare} X : sProp 𝕄) = bigSep Finset.univ fun c : Fin 2 => bigSep Finset.univ fun s : Fin 16 => bigSep Finset.univ fun b : Fin 4 =>
      inPts d (coordsV c s) X (share c s b) := by
  refine (pts_leaves (ℓ := xLoc d) number fullShare X).trans ((bigSep_univ_prod _).trans ?_)
  exact bigSep_congr fun c _ => bigSep_univ_prod _

/-- Both, by tile. -/
theorem deal (d : Dev nD) (X : S33554432.Idx → F .f32) (g : S32505856.Idx → F .f32) :
    (iprop((xLoc d ↦{fullShare} X) ∗ yLoc d ↦{fullShare} g) : sProp 𝕄)
      = bigSep Finset.univ fun c : Fin 2 => bigSep Finset.univ fun s : Fin 16 => task X g d c s := by
  unfold task part
  simp only [bigSep_sep']
  rw [← deal_in, ← deal_out]

end Cert.Proof.Deal
-- ==== Proof.Launch.lean ====
/-
  The launch: what each tile takes from the TensorCore's arrays and gives back, `@main` around the call, and the run of the
  whole program.
-/
module

public import proofs.«01_k».proof.Proof.Deal
public import Idealize.ShloMosaic.Lib.Pipeline.Frame

@[expose] public section

noncomputable section

namespace Cert.Proof.Launch

open Cert.KernelIdeal Cert.KernelIdeal.Facts₀
open Cert.Proof.Program Cert.Proof.World Cert.Proof.Ring Cert.Proof.Tile Cert.Proof.Deal
open Idealize.ShloMosaic
open Idealize.ShloMosaic.SparseCore (S V T)
open Idealize.ShloMosaic.SparseCore.Cfg (HIx Pay)
open Idealize.ShloMosaic.StableHlo (held after)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ) (ρ : Dev nD → PrngReg)

/-! ## `@main`'s arrays -/

abbrev before : List (HloOp τ sig (Elt F)) :=
  [StableHlo.reshape main_arg0 main_v0 (rfl : (.f32 : EltTy) = .f32) shapeCasts_S16x4x2x262144_S16x4x2x2048x128,
    StableHlo.unary main_v0 main_v1 ((transpose S16x4x2048x2x128 [0, 1, 3, 2, 4] · transposes_S16x4x2x2048x128_S16x4x2048x2x128_0_1_3_2_4) : (⟨S16x4x2x2048x128, .f32⟩ : BufTy).Contents (Elt F) → (⟨S16x4x2048x2x128, .f32⟩ : BufTy).Contents (Elt F)),
    StableHlo.reshape main_v1 main_v2 (rfl : (.f32 : EltTy) = .f32) shapeCasts_S16x4x2048x2x128_S33554432]

abbrev behind : List (HloOp τ sig (Elt F)) :=
  [StableHlo.reshape main_v3 main_v4 (rfl : (.f32 : EltTy) = .f32) shapeCasts_S32505856_S16x4x1984x2x128,
    StableHlo.unary main_v4 main_v5 ((transpose S16x4x2x1984x128 [0, 1, 3, 2, 4] · transposes_S16x4x1984x2x128_S16x4x2x1984x128_0_1_3_2_4) : (⟨S16x4x1984x2x128, .f32⟩ : BufTy).Contents (Elt F) → (⟨S16x4x2x1984x128, .f32⟩ : BufTy).Contents (Elt F)),
    StableHlo.reshape main_v5 main_v6 (rfl : (.f32 : EltTy) = .f32) shapeCasts_S16x4x2x1984x128_S16x4x2x253952]

abbrev x' : DevRef τ sig := Proc.devRef .tc (main_v2 : Ref sig .tc)
abbrev y' : DevRef τ sig := Proc.devRef .tc (main_v3 : Ref sig .tc)

/-- The arrays at the launch, and before the call. -/
def V0 (d : Dev nD) : Valuation τ sig (Elt F) := fun b => m (d, b)
def V3 (d : Dev nD) : Valuation τ sig (Elt F) := after before (V0 m d)

/-- The call's input, and its output's old contents. -/
def X (d : Dev nD) : S33554432.Idx → F .f32 := V3 m d x'
def Y (d : Dev nD) : S32505856.Idx → F .f32 := V3 m d y'

/-- The arrays after the call, and at the end. -/
def V4 (d : Dev nD) : Valuation τ sig (Elt F) := Function.update (V3 m d) y' (out (X m d))
def V7 (d : Dev nD) : Valuation τ sig (Elt F) := after behind (V4 m d)

/-- Three operations, one after the other. -/
theorem three (a b c : HloOp τ sig (Elt F)) (V : Valuation τ sig (Elt F)) : c.result (b.result (a.result V)) = after [a, b, c] V := rfl

/-! ## What passes between the threads -/

def P : (K (F := F)).Pay (nD := nD) (Val := Elt F) (Name := ℕ) (U := UU) where
  st := fun q d c => match q with | 0 => bigSep Finset.univ fun s : Fin 16 => task (X m d) (Y m d) d c s
  dn := fun q d c => match q with | 0 => bigSep Finset.univ fun s : Fin 16 => task (X m d) (out (X m d)) d c s
  go := fun q d c i => match q with | 0 => task (X m d) (Y m d) d c i
  td := fun q d c i => match q with | 0 => task (X m d) (out (X m d)) d c i
  x := fun _ _ => iprop(emp)

instance task_storable (X : S33554432.Idx → F .f32) (g : S32505856.Idx → F .f32) (d : Dev nD) (c : Fin 2) (s : Fin 16) :
    BI.Storable (upEmb : UEmb _ 𝕄) (task X g d c s) := by unfold task part; infer_instance

instance P_storable : (P (F := F) m).IsStorable where
  st q d c := match q with | 0 => (inferInstance : BI.Storable (upEmb : UEmb _ 𝕄) (bigSep Finset.univ fun s : Fin 16 => task (X m d) (Y m d) d c s))
  dn q d c := match q with | 0 => (inferInstance : BI.Storable (upEmb : UEmb _ 𝕄) (bigSep Finset.univ fun s : Fin 16 => task (X m d) (out (X m d)) d c s))
  go q d c i := match q with | 0 => (inferInstance : BI.Storable (upEmb : UEmb _ 𝕄) (task (X m d) (Y m d) d c i))
  td q d c i := match q with | 0 => (inferInstance : BI.Storable (upEmb : UEmb _ 𝕄) (task (X m d) (out (X m d)) d c i))

/-! ## The tiles' obligations -/

theorem defs₀_vector (c : Fin τ.nSC) (s : Fin τ.nSub) :
    defs₀ (F := F) (.scVector c s) 0 ()
      = SparseCore.onTile hcore0 hsub0 (fun c s => cc0_k (coordsV c s) (Memref.whole main_v2_scv) (Memref.isWhole_whole _)
          (Memref.whole main_v3_scv) (Memref.isWhole_whole _)
            (lane 0).ib (lane 0).hib (lane 1).ib (lane 1).hib (lane 2).ib (lane 2).hib (lane 3).ib (lane 3).hib
            (lane 0).ob (lane 0).hob (lane 1).ob (lane 1).hob (lane 2).ob (lane 2).hob (lane 3).ob (lane 3).hob
            (lane 0).si (lane 1).si (lane 2).si (lane 3).si (lane 0).so (lane 1).so (lane 2).so (lane 3).so) ⟨⟩ c s := rfl

theorem waits_own {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %h, HO⟩
  isplitl [HA]; · iexact HA
  isplitl [HB]; · iexact HB
  isplitl [HC]; · iexact HC
  iexists W'
  isplitr
  · ipureintro; exact fun p hp => (h p hp).imp_right .inl
  iexact HO

theorem tileObl : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]
  simp only [SparseCore.onTile, hc, and_self, ↓reduceDIte]
  exact (tile_body (X m d) (Y m d) d c i O W hO).trans (wp_mono frame _ _ fun _ => waits_own)

theorem vecSplit : (K (F := F)).VecSplit' (P m) 0 := by
  intro d c
  show (bigSep Finset.univ fun s : Fin 16 => task (X m d) (Y m d) d c s) ⊢ |={Set.univ}=> iprop(
      (bigSep Finset.univ fun s : Fin 16 => task (X m d) (Y m d) d c s)
      ∗ ((bigSep Finset.univ fun s : Fin 16 => task (X m d) (out (X m d)) d c s)
          -∗ bigSep Finset.univ fun s : Fin 16 => task (X m d) (out (X m d)) d c s))
  iintro H
  imodintro
  isplitl [H]; · iexact H
  iintro H
  iexact H

/-! ## The ghost state at the launch -/

def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  have hx : (bigSep Finset.univ fun thr : Thread nD τ => bigSep Finset.univ fun q : Fin 1 => (P m).x q thr) = (iprop(emp) : sProp 𝕄) := by
    show (bigSep Finset.univ fun _ : Thread nD τ => bigSep Finset.univ fun _ : Fin 1 => (iprop(emp) : sProp 𝕄)) = iprop(emp)
    exact (bigSep_congr fun _ _ => bigSep_emp_const _).trans (bigSep_emp_const _)
  rw [hx]
  unfold u₀
  iintro Hu
  ihave H := (ownU_pair _ _) $$ Hu
  icases H with ⟨HH, -⟩
  imodintro
  isplitl [HH]; · iexact HH
  isplitr
  · iapply (Entails.of_eq (bigSep_emp_const (M := 𝕄) _).symm)
    iempintro
  iempintro

/-! ## `@main` on the TensorCore -/

abbrev Sx : Finset (DevRef τ sig) := {x', y'}

theorem Sx_sub : Sx ⊆ Pipeline.ucRefs τ sig := by decide

theorem held_Sx (d : Dev nD) (W : Valuation τ sig (Elt F)) :
    (held (T d) Sx W : sProp 𝕄) = iprop((xLoc d ↦{fullShare} W x') ∗ yLoc d ↦{fullShare} W y') := by
  unfold held Sx
  rw [SparseCore.bigSep_insert' (by decide), bigSep_singleton]

theorem held_rest (d : Dev nD) : (held (T d) (Pipeline.ucRefs τ sig \ Sx) (V4 m d) : sProp 𝕄) = held (T d) (Pipeline.ucRefs τ sig \ Sx) (V3 m d) :=
  StableHlo.held_congr _ fun b hb => Function.update_of_ne (fun h => (Finset.mem_sdiff.mp hb).2 (by rw [h]; decide)) _ _

theorem V4_x (d : Dev nD) : V4 m d x' = X m d := Function.update_of_ne (show x' ≠ y' by decide) _ _
theorem V4_y (d : Dev nD) : V4 m d y' = out (X m d) := Function.update_self _ _ _

theorem st_eq (d : Dev nD) : (bigSep Finset.univ fun c : Fin ((K (F := F)).nCore 0) => (P m).st 0 d c) = iprop((xLoc d ↦{fullShare} X m d) ∗ yLoc d ↦{fullShare} Y m d) :=
  (deal d (X m d) (Y m d)).symm
theorem dn_eq (d : Dev nD) : (bigSep Finset.univ fun c : Fin ((K (F := F)).nCore 0) => (P m).dn 0 d c) = iprop((xLoc d ↦{fullShare} X m d) ∗ yLoc d ↦{fullShare} out (X m d)) :=
  (deal d (X m d) (out (X m d))).symm

theorem launch_held (d : Dev nD) : (unscopedBufs d (fun b => m ((T d : Thread nD τ).loc b)) : sProp 𝕄) = held (T d) (Pipeline.ucRefs τ sig) (V0 m d) :=
  Pipeline.unscopedBufs_held d (V0 m d)

/-- What `@main` leaves: every array of the TensorCore, at its last contents. -/
abbrev FIN (d : Dev nD) : sProp 𝕄 := held (T d) (Pipeline.ucRefs τ sig) (V7 m d)

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (T d) none) Set.univ (main d)
          fun _ => iprop((K (F := F)).tcSt EH d 1 ∗ FIN m d ∗ (K (F := F)).tcEnd d) := by
  unfold SparseCore.Cfg.tcRes SparseCore.Cfg.tcEnd
  rw [launch_held]
  simp only [main, wp_bind, wp_pure]
  iintro ⟨#Hctx, Hst, ⟨Hb, Hheld, Hts, -⟩, -⟩
  iapply (StableHlo.wp_hlo_within 𝒱 (T d) none Set.univ (S := Pipeline.ucRefs τ sig) (Pipeline.sub_ucRefs _ (by simp))) $$ [Hb Hheld]
  · isplitl [Hb] <;> iassumption
  iintro ⟨Hb, Hheld⟩
  rw [wp_ret]; imodintro
  iapply (StableHlo.wp_hlo_within 𝒱 (T d) none Set.univ (S := Pipeline.ucRefs τ sig) (Pipeline.sub_ucRefs _ (by simp))) $$ [Hb Hheld]
  · isplitl [Hb] <;> iassumption
  iintro ⟨Hb, Hheld⟩
  rw [wp_ret]; imodintro
  iapply (StableHlo.wp_hlo_within 𝒱 (T d) none Set.univ (S := Pipeline.ucRefs τ sig) (Pipeline.sub_ucRefs _ (by simp))) $$ [Hb Hheld]
  · isplitl [Hb] <;> iassumption
  iintro ⟨Hb, Hheld⟩
  rw [wp_ret]; imodintro
  rw [three, show after _ (V0 m d) = V3 m d from rfl]
  ihave Hh := (Entails.of_eq ((StableHlo.held_sub_split (T d) Sx_sub (V3 m d)).trans (by rw [held_Sx]))) $$ Hheld
  icases Hh with ⟨⟨Hx, Hy⟩, Hrest⟩
  iapply ((K (F := F)).wp_run (D (F := F)) 𝒱 (EH := EH) (P := P m) κ d 0) $$ [Hst Hx Hy Hb Hrest Hts]
  isplitr; · iexact Hctx
  isplitl [Hst]; · iexact Hst
  isplitl [Hx Hy]
  · rw [st_eq]
    isplitl [Hx]; · iexact Hx
    iexact Hy
  iintro ⟨Hst, Hdn⟩
  ihave Hdn := (Entails.of_eq (dn_eq m d)) $$ Hdn
  icases Hdn with ⟨Hx, Hy⟩
  ihave Hheld := (Entails.of_eq (show _ = (held (T d) (Pipeline.ucRefs τ sig) (V4 m d) : sProp 𝕄) from
    ((StableHlo.held_sub_split (T d) Sx_sub (V4 m d)).trans (by rw [held_Sx, V4_x, V4_y, held_rest])).symm)) $$ [Hx Hy Hrest]
  · isplitl [Hx Hy]
    · isplitl [Hx]; · iexact Hx
      iexact Hy
    iexact Hrest
  iapply (StableHlo.wp_hlo_within 𝒱 (T d) none Set.univ (S := Pipeline.ucRefs τ sig) (Pipeline.sub_ucRefs _ (by simp))) $$ [Hb Hheld]
  · isplitl [Hb] <;> iassumption
  iintro ⟨Hb, Hheld⟩
  rw [wp_ret]; imodintro
  iapply (StableHlo.wp_hlo_within 𝒱 (T d) none Set.univ (S := Pipeline.ucRefs τ sig) (Pipeline.sub_ucRefs _ (by simp))) $$ [Hb Hheld]
  · isplitl [Hb] <;> iassumption
  iintro ⟨Hb, Hheld⟩
  rw [wp_ret]; imodintro
  iapply (StableHlo.wp_hlo_within 𝒱 (T d) none Set.univ (S := Pipeline.ucRefs τ sig) (Pipeline.sub_ucRefs _ (by simp))) $$ [Hb Hheld]
  · isplitl [Hb] <;> iassumption
  iintro ⟨Hb, Hheld⟩
  rw [wp_ret]; imodintro
  imodintro
  rw [three, show after _ (V4 m d) = V7 m d from rfl]
  isplitl [Hst]; · iexact Hst
  isplitr [Hb Hts]
  · iexact Hheld
  isplitl [Hb] <;> iassumption

/-! ## The end -/

abbrev a' : DevRef τ sig := Proc.devRef .tc (main_arg0 : Ref sig .tc)
abbrev r' : DevRef τ sig := Proc.devRef .tc (main_v6 : Ref sig .tc)
abbrev aLoc (d : Dev nD) : Loc nD τ sig := (T d : Thread nD τ).loc main_arg0
abbrev rLoc (d : Dev nD) : Loc nD τ sig := (T d : Thread nD τ).loc main_v6
abbrev Sa : Finset (DevRef τ sig) := {a', r'}

theorem Sa_sub : Sa ⊆ Pipeline.ucRefs τ sig := by decide

theorem held_Sa (d : Dev nD) (W : Valuation τ sig (Elt F)) :
    (held (T d) Sa W : sProp 𝕄) = iprop((aLoc d ↦{fullShare} W a') ∗ rLoc d ↦{fullShare} W r') := by
  unfold held Sa
  rw [SparseCore.bigSep_insert' (by decide), bigSep_singleton]

/-- The argument and the result end at their last contents. -/
def fq (d : Dev nD) (s' : Phys nD τ sig (Elt F)) : Prop := s'.mem.mem (aLoc d) = V7 m d a' ∧ s'.mem.mem (rLoc d) = V7 m d r'

theorem hfin (d : Dev nD) (s' : Phys nD τ sig (Elt F)) : iprop(FIN m d ∗ SI s') ⊢ (⌜fq m d s'⌝ : sProp 𝕄) := by
  iintro ⟨H, HSI⟩
  ihave H := (Entails.of_eq ((StableHlo.held_sub_split (T d) Sa_sub (V7 m d)).trans (by rw [held_Sa]))) $$ H
  icases H with ⟨⟨Ha, Hr⟩, -⟩
  ihave H := (persistent_entails_right (SI_pointsTo_agree (st := s') (ℓ := aLoc d) (I := Finset.univ) (q := fullShare) (f := V7 m d a'))) $$ [HSI Ha]
  · isplitl [HSI] <;> iassumption
  icases H with ⟨%h1, HSI, -⟩
  ihave H := (SI_pointsTo_agree (st := s') (ℓ := rLoc d) (I := Finset.univ) (q := fullShare) (f := V7 m d r')) $$ [HSI Hr]
  · isplitl [HSI] <;> iassumption
  icases H with %h2
  ipureintro
  exact ⟨funext fun i => h1 i (Finset.mem_univ i), funext fun i => h2 i (Finset.mem_univ i)⟩

def QC : PUnit × MemSt nD τ sig (Elt F) → Prop := fun r =>
  (∀ d : Dev nD, r.2.mem (aLoc d) = V7 m d a' ∧ r.2.mem (rLoc d) = V7 m d r') ∧ r.2.sem = fun _ => 0

theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Launch
-- ==== Proof.Frames.lean ====
/-
  The kernel runs, as printed and as idealized: it terminates, faults nowhere, leaves its argument as it was, and leaves every
  semaphore at zero. Both texts are the same program at two readings of the floats.
-/
module

public import proofs.«01_k».proof.Proof.Launch
public import proofs.«01_k».proof.Proof.FactsKernel
public import proofs.«01_k».proof.Defs
public import Idealize.ShloMosaic.Lib.StableHlo.RunRead

@[expose] public section

noncomputable section

namespace Cert.Proof.Frames

open Cert.KernelIdeal
open Cert.Proof.World Cert.Proof.Deal Cert.Proof.Launch
open Idealize.ShloMosaic Idealize.ShloMosaic.StableHlo
open Idealize.SL Idealize.SL.Sem

variable {F : FTy → Type} [FloatOps F]
variable (m : (ℓ : Loc nD τ sig) → Buf (Elt F) ℓ) (ρ : Dev nD → PrngReg)

/-- No operation and no tile writes the argument. -/
theorem V7_a (d : Dev nD) : V7 m d a' = m (aLoc d) := by
  have h1 : V7 m d a' = V4 m d a' := after_unwritten [main_v4, main_v5, main_v6] rfl (by decide) _
  have h2 : V4 m d a' = V3 m d a' := Function.update_of_ne (show a' ≠ y' by decide) _ _
  have h3 : V3 m d a' = V0 m d a' := after_unwritten [main_v0, main_v1, main_v2] rfl (by decide) _
  exact h1.trans (h2.trans h3)

theorem frame_ideal : Cert.quiescent_KernelIdeal := fun m ρ _ =>
  (θ_run Cert.KernelIdeal.defs _ _).mono (fun _ h => ⟨fun c => (h.1 c).1.trans (V7_a m c), h.2⟩) (run_main (F := Ideal) m ρ)

theorem frame_kernel : Cert.quiescent_Kernel := fun m ρ _ =>
  (θ_run Cert.KernelIdeal.defs _ _).mono (fun _ h => ⟨fun c => (h.1 c).1.trans (V7_a m c), h.2⟩) (run_main (F := Bits) m ρ)

end Cert.Proof.Frames
-- ==== Proof.Draw.lean ====
/-
  The reference as one term. It draws one offset for each pair of batch entry and source by a counter-based generator (a Threefry
  block of twenty rounds, keyed by a split of a fixed key), adds the offset to every position of the output, and reads the argument
  along the time axis at the positions so made. This module names the generator's pieces, as arrays.
-/
module

public import proofs.«01_k».proof.Proof.Gen.ReferenceIdeal
public import proofs.«01_k».proof.Defs

@[expose] public section

set_option maxRecDepth 100000
set_option maxHeartbeats 0

noncomputable section

namespace Cert.Proof.Reference

open Cert.ReferenceIdeal Cert.ReferenceIdeal.Gen
open Idealize.ShloMosaic

/-! ## The generator's block -/

section Block
variable (s : Shape) (h : S_.BroadcastsInDim s ![])

/-- One word at every lane. -/
abbrev all (a : BitVec 32) : IVec s 32 := broadcastInDim s ![] h (constantI S_ 32 a)

/-- One round on a pair of words: add, rotate the second left by `a` (`a + b = 32`), exclusive or. -/
def step (a b : BitVec 32) (x : IVec s 32 × IVec s 32) : IVec s 32 × IVec s 32 :=
  (addi x.1 x.2, xori (addi x.1 x.2) (ori (Host.shli x.2 (all s h a)) (Host.shrui x.2 (all s h b))))

/-- The four rounds of an even group. -/
def even (x : IVec s 32 × IVec s 32) := step s h 6#32 26#32 (step s h 26#32 6#32 (step s h 15#32 17#32 (step s h 13#32 19#32 x)))

/-- The four rounds of an odd group. -/
def odd (x : IVec s 32 × IVec s 32) := step s h 24#32 8#32 (step s h 16#32 16#32 (step s h 29#32 3#32 (step s h 17#32 15#32 x)))

/-- After a group two words of the key schedule are added in, and the group's number. -/
def inject (a b : IVec S_ 32) (n : BitVec 32) (x : IVec s 32 × IVec s 32) : IVec s 32 × IVec s 32 :=
  (addi x.1 (broadcastInDim s ![] h a), addi (addi x.2 (broadcastInDim s ![] h b)) (all s h n))

/-- The key schedule's third word. -/
def third (k l : IVec S_ 32) : IVec S_ 32 := xori (xori k l) (constantI S_ 32 466688986#32)

/-- The block of two words under a key of two words: five groups of four rounds. -/
def block (k l : IVec S_ 32) (x y : IVec s 32) : IVec s 32 × IVec s 32 :=
  inject s h (third k l) k 5#32 (even s h (inject s h l (third k l) 4#32 (odd s h (inject s h k l 3#32 (even s h
    (inject s h (third k l) k 2#32 (odd s h (inject s h l (third k l) 1#32 (even s h
      (addi x (broadcastInDim s ![] h k), addi y (broadcastInDim s ![] h l)))))))))))

end Block

/-! ## Keys -/

/-- Two arrays put side by side. -/
def beside {α : Type} (s t : Shape) (d : Fin t.rank) (h : Shape.Concatenates [s, s] t d) (a b : s.Idx → α) : t.Idx → α :=
  concatenate t d [⟨s, a⟩, ⟨s, b⟩] h

theorem concatenate_beside {α : Type} (s t : Shape) (d : Fin t.rank) (h : Shape.Concatenates [s, s] t d) (a b : s.Idx → α) :
    concatenate t d [⟨s, a⟩, ⟨s, b⟩] h = beside s t d h a b := rfl

/-- A key's two words. -/
def word0 (k : IVec S2 32) : IVec S_ 32 := shapeCast S_ (extractStridedSlice S1 ![0] k slices_S2_S1_0) shapeCasts_S1_S_
def word1 (k : IVec S2 32) : IVec S_ 32 := shapeCast S_ (extractStridedSlice S1 ![1] k slices_S2_S1_1) shapeCasts_S1_S_

/-- The key of the seed one. -/
def key : IVec S2 32 :=
  beside S1 S2 0 concatenates_S1_S1_S2_d0
    (broadcastInDim S1 ![] bcast_S_S1 (Host.shrui (constantI S_ 32 1#32) (constantI S_ 32 32#32)))
    (broadcastInDim S1 ![] bcast_S_S1 (andi (constantI S_ 32 1#32) (constantI S_ 32 4294967295#32)))

/-- The counters zero and one, as words of 64 bits. -/
def count2 : IVec S2 64 := muli (broadcastInDim S2 ![] bcast_S_S2 (constantI S_ 64 1#64)) (iotaInDim S2 64 0)

/-- A key split in two: the block at the counters zero and one. -/
def split (k : IVec S2 32) : IVec S2x2 32 :=
  let b := block S2 bcast_S_S2 (word0 k) (word1 k)
    (trunci 32 (Host.shrui count2 (broadcastInDim S2 ![] bcast_S_S2 (constantI S_ 64 32#64))) natLt_32_64) (trunci 32 count2 natLt_32_64)
  beside S2x1 S2x2 1 concatenates_S2x1_S2x1_S2x2_d1 (broadcastInDim S2x1 ![0] bcast_S2_S2x1_0 b.1) (broadcastInDim S2x1 ![0] bcast_S2_S2x1_0 b.2)

/-- The two keys of a split. -/
def left (k : IVec S2x2 32) : IVec S2 32 := shapeCast S2 (extractStridedSlice S1x2 ![0, 0] k slices_S2x2_S1x2_0_0) shapeCasts_S1x2_S2
def right (k : IVec S2x2 32) : IVec S2 32 := shapeCast S2 (extractStridedSlice S1x2 ![1, 0] k slices_S2x2_S1x2_1_0) shapeCasts_S1x2_S2

/-! ## The offsets -/

/-- A word of 64 bits at every pair. -/
abbrev all64 (a : BitVec 64) : IVec S16x4x1x1 64 := broadcastInDim S16x4x1x1 ![] bcast_S_S16x4x1x1 (constantI S_ 64 a)

/-- The pairs counted in row-major order. -/
def count : IVec S16x4x1x1 64 :=
  addi (addi (addi (muli (all64 4#64) (iotaInDim S16x4x1x1 64 0)) (muli (all64 1#64) (iotaInDim S16x4x1x1 64 1)))
    (muli (all64 1#64) (iotaInDim S16x4x1x1 64 2))) (muli (all64 1#64) (iotaInDim S16x4x1x1 64 3))

/-- A random word for each pair. -/
def bits (k : IVec S2 32) : IVec S16x4x1x1 32 :=
  let b := block S16x4x1x1 bcast_S_S16x4x1x1 (word0 k) (word1 k)
    (trunci 32 (Host.shrui count (all64 32#64)) natLt_32_64) (trunci 32 count natLt_32_64)
  xori b.1 b.2

/-- A word held between two others. -/
def clip (x a b : IVec S_ 32) : IVec S_ 32 := minsi b (maxsi a x)

/-- The least and the greatest signed word. -/
abbrev least : IVec S_ 32 := constantI S_ 32 2147483648#32
abbrev greatest : IVec S_ 32 := constantI S_ 32 2147483647#32

/-- The ends of the range, as arrays of one element: from zero up to 8192. -/
def lo : IVec S1x1x1x1 32 := broadcastInDim S1x1x1x1 ![] bcast_S_S1x1x1x1 (clip (constantI S_ 32 0#32) least greatest)
def hi : IVec S1x1x1x1 32 := broadcastInDim S1x1x1x1 ![] bcast_S_S1x1x1x1 (clip (constantI S_ 32 8192#32) least greatest)

/-- One, as an array of one element. -/
abbrev one : IVec S1x1x1x1 32 := broadcastInDim S1x1x1x1 ![] bcast_S_S1x1x1x1 (constantI S_ 32 1#32)

/-- The range's length where it is not empty, one where it is. -/
def span0 : IVec S1x1x1x1 32 := select (cmpi .sle hi lo) one (subi hi lo)

/-- The length, one more where the upper end was past the greatest word. -/
def span : IVec S1x1x1x1 32 :=
  select (andi (broadcastInDim S1x1x1x1 ![] bcast_S_S1x1x1x1 (cmpi .sgt (constantI S_ 32 8192#32) (clip greatest least greatest))) (cmpi .sgt hi lo))
    (addi span0 one) span0

/-- What the higher random word is multiplied by: two to the thirty-second, modulo the length. -/
def weight : IVec S1x1x1x1 32 :=
  let a := Host.remui (broadcastInDim S1x1x1x1 ![] bcast_S_S1x1x1x1 (constantI S_ 32 65536#32)) span
  Host.remui (muli a a) span

/-- One element at every pair. -/
abbrev each (x : IVec S1x1x1x1 32) : IVec S16x4x1x1 32 := broadcastInDim S16x4x1x1 ![0, 1, 2, 3] bcast_S1x1x1x1_S16x4x1x1_0_1_2_3 x

/-- The offsets from two random words for each pair, taken modulo the range's length. -/
def offsets (b b' : IVec S16x4x1x1 32) : IVec S16x4x1x1 32 :=
  addi (each lo) (Host.remui (addi (muli (Host.remui b (each span)) (each weight)) (Host.remui b' (each span))) (each span))

/-- The offsets of the seed one. -/
def drawn : IVec S16x4x1x1 32 := offsets (bits (left (split key))) (bits (right (split key)))

/-! ## The positions and the read -/

/-- The position every element of the result is read at: its own, and its pair's offset. -/
def positions (o : IVec S16x4x1x1 32) : IVec S16x4x2x253952 32 :=
  addi (broadcastInDim S16x4x2x253952 ![0, 1, 2, 3] bcast_S1x1x1x253952_S16x4x2x253952_0_1_2_3
      (broadcastInDim S1x1x1x253952 ![3] bcast_S253952_S1x1x1x253952_3 (iotaInDim S253952 32 0)))
    (broadcastInDim S16x4x2x253952 ![0, 1, 2, 3] bcast_S16x4x2x1_S16x4x2x253952_0_1_2_3
      (broadcastInDim S16x4x2x1 ![0, 1, 2, 3] bcast_S16x4x1x1_S16x4x2x1_0_1_2_3 o))

/-- A negative position counts from the end. -/
def wrapped (p : IVec S16x4x2x253952 32) : IVec S16x4x2x253952x1 32 :=
  shapeCast S16x4x2x253952x1
    (select (cmpi .slt p (broadcastInDim S16x4x2x253952 ![] bcast_S_S16x4x2x253952 (constantI S_ 32 0#32)))
      (addi p (broadcastInDim S16x4x2x253952 ![] bcast_S_S16x4x2x253952 (constantI S_ 32 262144#32))) p)
    shapeCasts_S16x4x2x253952_S16x4x2x253952x1

/-- Whether a position lies in the argument. -/
def inside (q : IVec S16x4x2x253952x1 32) : IVec S16x4x2x253952 1 :=
  Host.reduce IntOp.andi
    (andi (cmpi .sge q (broadcastInDim S16x4x2x253952x1 ![] bcast_S_S16x4x2x253952x1 (constantI S_ 32 0#32)))
      (cmpi .sle q (broadcastInDim S16x4x2x253952x1 ![0, 1, 2, 3, 4] bcast_S1x1x1x1x1_S16x4x2x253952x1_0_1_2_3_4
        (broadcastInDim S1x1x1x1x1 ![4] bcast_S1_S1x1x1x1x1_4 (constantI S1 32 262143#32)))))
    (constantI S_ 1 1#1) reducesTo_S16x4x2x253952x1_S16x4x2x253952_d4 h_S_

variable {F : FTy → Type} [FloatOps F]

/-- The argument read at the positions, where they lie in it. -/
def along (x : S16x4x2x262144.Idx → F .f32) (p : IVec S16x4x2x253952 32) : S16x4x2x253952.Idx → F .f32 :=
  select (inside (wrapped p))
    (Host.gather gather_S16x4x2x262144_S16x4x2x253952x1_S16x4x2x253952_n_3_012_012_3_4_1111 x (wrapped p))
    (broadcastInDim S16x4x2x253952 ![] bcast_S_S16x4x2x253952 (constant S_ .f32 0x7FC00000#32))

end Cert.Proof.Reference
-- ==== Proof.Along.lean ====
/-
  The reference's value: every element of the result is the argument's at the same batch entry, source and channel, at the time
  moved on by the pair's offset. The offsets are what the generator gives, and the kernel's table holds the same words.
-/
module

public import proofs.«01_k».proof.Proof.Draw
public import proofs.«01_k».proof.Proof.Windows
public import Idealize.ShloMosaic.PureOps.Reduce

@[expose] public section

set_option maxRecDepth 100000

noncomputable section

namespace Cert.Proof.Reference

open Cert.ReferenceIdeal Cert.ReferenceIdeal.Gen
open Idealize.ShloMosaic Cert.Proof.Program

/-- The place of a pair among the offsets. -/
def at4 (b : Fin 16) (s : Fin 4) : S16x4x1x1.Idx :=
  fun a => match a with | 0 => b | 1 => s | 2 => (0 : Fin 1) | 3 => (0 : Fin 1)

/-- The generator's offsets are the words of the kernel's table. -/
theorem drawn_at4 : ∀ (b : Fin 16) (s : Fin 4), drawn (at4 b s) = BitVec.ofNat 32 (shift (4 * b.val + s.val)) := by
  decide +kernel

/-- A small number as a word of 32 bits, read signed. -/
theorem toInt_word {n : ℕ} (h : n < 262144) : (BitVec.ofNat 32 n).toInt = n := by
  have e : (BitVec.ofNat 32 n).toNat = n := by rw [BitVec.toNat_ofNat]; exact Nat.mod_eq_of_lt (by omega)
  rw [BitVec.toInt_eq_toNat_of_lt (by rw [e]; omega), e]

/-- The time an element of the result is read at. -/
def time (j : S16x4x2x253952.Idx) : ℕ := (j 3).val + shift (4 * (j 0).val + (j 1).val)

theorem time_lt (j : S16x4x2x253952.Idx) : time j < 262144 := by
  have h0 : (j 0).val < 16 := (j 0).isLt
  have h1 : (j 1).val < 4 := (j 1).isLt
  have h3 : (j 3).val < 253952 := (j 3).isLt
  have := Windows.shift_lt (4 * (j 0).val + (j 1).val) (by omega)
  unfold time
  omega

theorem positions_at (j : S16x4x2x253952.Idx) : positions drawn j = BitVec.ofNat 32 (time j) := by
  have h : positions drawn j = BitVec.ofNat 32 (j 3).val + drawn (at4 (j 0) (j 1)) := by
    refine congrArg₂ (· + ·) rfl (congrArg drawn ?_)
    funext a
    fin_cases a <;> rfl
  exact h.trans ((congrArg (BitVec.ofNat 32 (j 3).val + ·) (drawn_at4 (j 0) (j 1))).trans (BitVec.ofNat_add _ _).symm)

/-- The place in the result of a place among the start positions. -/
def under (k : S16x4x2x253952x1.Idx) : S16x4x2x253952.Idx :=
  fun a => match a with | 0 => k 0 | 1 => k 1 | 2 => k 2 | 3 => k 3

/-- And the place among the start positions of a place in the result. -/
def over (j : S16x4x2x253952.Idx) : S16x4x2x253952x1.Idx :=
  fun a => match a with | 0 => j 0 | 1 => j 1 | 2 => j 2 | 3 => j 3 | 4 => (0 : Fin 1)

theorem wrapped_at (k : S16x4x2x253952x1.Idx) : wrapped (positions drawn) k = BitVec.ofNat 32 (time (under k)) := by
  have hk : Shape.reshapeEquiv shapeCasts_S16x4x2x253952_S16x4x2x253952x1 k = under k := by
    refine Shape.reshapeEquiv_eq_of_rowMajor _ ?_
    have h4 : (k 4).val < 1 := (k 4).isLt
    rw [Shape.rowMajor_val_four, Shape.rowMajor_val_five]
    show _ = _ + (k 4).val
    simp [under]
    omega
  have ht := time_lt (under k)
  show (select _ _ (positions drawn)) (Shape.reshapeEquiv shapeCasts_S16x4x2x253952_S16x4x2x253952x1 k) = _
  rw [hk]
  have hn : cmpi .slt (positions drawn) (broadcastInDim S16x4x2x253952 ![] bcast_S_S16x4x2x253952 (constantI S_ 32 0#32)) (under k) = 0#1 := by
    show IntOp.cmpi .slt (positions drawn (under k)) 0#32 = 0#1
    rw [positions_at]
    show BitVec.ofBool ((BitVec.ofNat 32 _).slt 0#32) = 0#1
    rw [BitVec.slt_eq_decide, toInt_word ht, decide_eq_false (by show ¬ (_ : ℤ) < 0; omega)]
    rfl
  show (if cmpi .slt (positions drawn) (broadcastInDim S16x4x2x253952 ![] bcast_S_S16x4x2x253952 (constantI S_ 32 0#32)) (under k) = 1#1 then _ else positions drawn (under k)) = _
  rw [hn, positions_at]
  rfl

/-- Every position lies in the argument. -/
theorem inside_at (j : S16x4x2x253952.Idx) : inside (wrapped (positions drawn)) j = 1#1 := by
  rw [inside, Host.reduce_eq_foldl]
  have step : ∀ k, andi (cmpi .sge (wrapped (positions drawn)) (broadcastInDim S16x4x2x253952x1 ![] bcast_S_S16x4x2x253952x1 (constantI S_ 32 0#32)))
      (cmpi .sle (wrapped (positions drawn)) (broadcastInDim S16x4x2x253952x1 ![0, 1, 2, 3, 4] bcast_S1x1x1x1x1_S16x4x2x253952x1_0_1_2_3_4
        (broadcastInDim S1x1x1x1x1 ![4] bcast_S1_S1x1x1x1x1_4 (constantI S1 32 262143#32)))) k = 1#1 := by
    intro k
    have ht := time_lt (under k)
    show IntOp.andi (IntOp.cmpi .sge (wrapped (positions drawn) k) 0#32) (IntOp.cmpi .sle (wrapped (positions drawn) k) 262143#32) = 1#1
    rw [wrapped_at]
    show BitVec.ofBool ((0#32).sle (BitVec.ofNat 32 _)) &&& BitVec.ofBool ((BitVec.ofNat 32 _).sle (BitVec.ofNat 32 262143)) = 1#1
    rw [BitVec.sle_eq_decide, BitVec.sle_eq_decide, toInt_word ht, toInt_word (show 262143 < 262144 by omega),
      decide_eq_true (by show (0 : ℤ) ≤ _; omega), decide_eq_true (by omega)]
    rfl
  have all : ∀ (l : List S16x4x2x253952x1.Idx), l.foldl (fun r i => IntOp.andi r (andi (cmpi .sge (wrapped (positions drawn)) (broadcastInDim S16x4x2x253952x1 ![] bcast_S_S16x4x2x253952x1 (constantI S_ 32 0#32)))
      (cmpi .sle (wrapped (positions drawn)) (broadcastInDim S16x4x2x253952x1 ![0, 1, 2, 3, 4] bcast_S1x1x1x1x1_S16x4x2x253952x1_0_1_2_3_4
        (broadcastInDim S1x1x1x1x1 ![4] bcast_S1_S1x1x1x1x1_4 (constantI S1 32 262143#32)))) i)) 1#1 = 1#1 := by
    intro l
    induction l with
    | nil => rfl
    | cons i l ih => rw [List.foldl_cons, step]; exact ih
  exact all _

variable {F : FTy → Type} [FloatOps F]

/-- The place of the argument that an element of the result is read at. -/
def source (j : S16x4x2x253952.Idx) : S16x4x2x262144.Idx :=
  fun a => match a with | 0 => j 0 | 1 => j 1 | 2 => j 2 | 3 => (⟨time j, time_lt j⟩ : Fin 262144)

theorem gather_at (x : S16x4x2x262144.Idx → F .f32) (j : S16x4x2x253952.Idx) :
    Host.gather gather_S16x4x2x262144_S16x4x2x253952x1_S16x4x2x253952_n_3_012_012_3_4_1111 x (wrapped (positions drawn)) j = x (source j) := by
  have hw : wrapped (positions drawn) (over j) = BitVec.ofNat 32 (time j) := by
    rw [wrapped_at]
    refine congrArg (fun j => BitVec.ofNat 32 (time j)) ?_
    funext a
    fin_cases a <;> rfl
  unfold Host.gather
  refine congrArg x ?_
  funext a
  refine Fin.ext ?_
  show GatherDims.start _ j _ a + GatherDims.batchCoord _ j a + GatherDims.offCoord _ j a = _
  rw [GatherDims.offCoord_eq_zero _ _ _ (fun h => by
    have h := (GatherDims.mem_sKept _ _).mp h
    fin_cases a <;> simp [gather_S16x4x2x262144_S16x4x2x253952x1_S16x4x2x253952_n_3_012_012_3_4_1111] at h)]
  have h4 : a = 3 ∨ a ∈ ([0, 1, 2] : List (Fin 4)) := by revert a; decide
  rcases h4 with rfl | h4
  · rw [GatherDims.batchCoord_eq_zero _ _ _ (by decide)]
    unfold GatherDims.start
    rw [dif_pos (show (3 : Fin 4) ∈ gather_S16x4x2x262144_S16x4x2x253952x1_S16x4x2x253952_n_3_012_012_3_4_1111.startIndexMap from List.mem_singleton.mpr rfl)]
    have hsi : ∀ c, GatherDims.siIdx gather_S16x4x2x262144_S16x4x2x253952x1_S16x4x2x253952_n_3_012_012_3_4_1111 j c = over j := by
      intro c
      obtain rfl : c = ⟨0, by decide⟩ := Fin.ext (Nat.lt_one_iff.mp c.isLt)
      funext b
      fin_cases b <;> rfl
    rw [hsi, hw, toInt_word (time_lt j)]
    have := time_lt j
    show min (time j) (262144 - 1) = time j
    omega
  · rw [GatherDims.start_batching _ _ _ _ h4]
    unfold GatherDims.batchCoord
    rw [dif_pos (show a ∈ gather_S16x4x2x262144_S16x4x2x253952x1_S16x4x2x253952_n_3_012_012_3_4_1111.operandBatchingDims from h4)]
    simp only [Nat.zero_add, Nat.add_zero]
    fin_cases h4 <;> (simp only [GatherDims.siCoord]; with_unfolding_all rfl)

/-- The reference's value. -/
theorem along_at (x : S16x4x2x262144.Idx → F .f32) (j : S16x4x2x253952.Idx) : along x (positions drawn) j = x (source j) := by
  have h : along x (positions drawn) j = Scalar.select (inside (wrapped (positions drawn)) j)
      (Host.gather gather_S16x4x2x262144_S16x4x2x253952x1_S16x4x2x253952_n_3_012_012_3_4_1111 x (wrapped (positions drawn)) j)
      (broadcastInDim S16x4x2x253952 ![] bcast_S_S16x4x2x253952 (constant S_ .f32 0x7FC00000#32) j) := rfl
  rw [h, inside_at, gather_at]
  rfl

end Cert.Proof.Reference
-- ==== Proof.Value.lean ====
/-
  The kernel's value: every element of the result is the argument's at the same batch entry, source and channel, at the time moved
  on by the pair's shift. The host's operations around the call only lay the words out: time is cut into rows of 128 words, and the
  rows of the two channels alternate.
-/
module

public import proofs.«01_k».proof.Proof.Launch
public import proofs.«01_k».proof.Proof.Along
public import Idealize.ShloMosaic.Lib.StableHlo.RunRead

@[expose] public section

set_option maxRecDepth 100000

noncomputable section

namespace Cert.Proof.Value

open Cert.KernelIdeal Cert.KernelIdeal.Facts₀
open Cert.Proof.Program Cert.Proof.Realign Cert.Proof.Ring Cert.Proof.World Cert.Proof.Deal Cert.Proof.Launch
open Idealize.ShloMosaic Idealize.ShloMosaic.StableHlo
open Idealize.SL Idealize.SL.Sem

variable {F : FTy → Type} [FloatOps F]
variable (m : (ℓ : Loc nD τ sig) → Buf (Elt F) ℓ)

/-- The call's input, laid out from the argument. -/
theorem X_eq (d : Dev nD) : X m d = shapeCast S33554432 (transpose S16x4x2048x2x128 [0, 1, 3, 2, 4]
    (shapeCast S16x4x2x2048x128 (m (aLoc d) : S16x4x2x262144.Idx → F .f32) shapeCasts_S16x4x2x262144_S16x4x2x2048x128)
    transposes_S16x4x2x2048x128_S16x4x2048x2x128_0_1_3_2_4) shapeCasts_S16x4x2048x2x128_S33554432 := by
  unfold X V3 x'
  after_reads_simp
  rfl

/-- The result, laid out from the call's output. -/
theorem V7_eq (d : Dev nD) : V7 m d r' = shapeCast S16x4x2x253952 (transpose S16x4x2x1984x128 [0, 1, 3, 2, 4]
    (shapeCast S16x4x1984x2x128 (out (X m d)) shapeCasts_S32505856_S16x4x1984x2x128)
    transposes_S16x4x1984x2x128_S16x4x2x1984x128_0_1_3_2_4) shapeCasts_S16x4x2x1984x128_S16x4x2x253952 := by
  have h : V4 m d y' = out (X m d) := Function.update_self _ _ _
  rw [← h]
  unfold V7 r' y'
  after_reads_simp
  rfl

/-- An array laid out anew, read at `j`: the array at whatever place is as far from the start. -/
theorem cast_at {s t : Shape} {α : Type} (x : s.Idx → α) (h : s.ShapeCasts t) (j : t.Idx) (k : s.Idx)
    (e : (s.rowMajor k).val = (t.rowMajor j).val) : shapeCast t x h j = x k :=
  congrArg x (Shape.reshapeEquiv_eq_of_rowMajor _ e)

/-- The result's place among the rows of 128 words, channels apart and channels alternating. -/
def apart (j : S16x4x2x253952.Idx) : S16x4x2x1984x128.Idx :=
  fun a => match a with
  | 0 => j 0 | 1 => j 1 | 2 => j 2
  | 3 => (⟨(j 3).val / 128, by have : (j 3).val < 253952 := (j 3).isLt; omega⟩ : Fin 1984)
  | 4 => (⟨(j 3).val % 128, by omega⟩ : Fin 128)
def woven (k : S16x4x2x1984x128.Idx) : S16x4x1984x2x128.Idx :=
  fun a => match a with | 0 => k 0 | 1 => k 1 | 2 => k 3 | 3 => k 2 | 4 => k 4

/-- The same of the argument. -/
def apart' (j : S16x4x2x262144.Idx) : S16x4x2x2048x128.Idx :=
  fun a => match a with
  | 0 => j 0 | 1 => j 1 | 2 => j 2
  | 3 => (⟨(j 3).val / 128, by have : (j 3).val < 262144 := (j 3).isLt; omega⟩ : Fin 2048)
  | 4 => (⟨(j 3).val % 128, by omega⟩ : Fin 128)
def woven' (k : S16x4x2x2048x128.Idx) : S16x4x2048x2x128.Idx :=
  fun a => match a with | 0 => k 0 | 1 => k 1 | 2 => k 3 | 3 => k 2 | 4 => k 4

/-- The word of the call's output that an element of the result is. -/
def word (j : S16x4x2x253952.Idx) : ℕ :=
  ((((j 0).val * 4 + (j 1).val) * 1984 + (j 3).val / 128) * 2 + (j 2).val) * 128 + (j 3).val % 128

def wordIx (j : S16x4x2x253952.Idx) : S32505856.Idx := fun a => match a with | 0 => (⟨word j, by
  have h0 : (j 0).val < 16 := (j 0).isLt
  have h1 : (j 1).val < 4 := (j 1).isLt
  have h2 : (j 2).val < 2 := (j 2).isLt
  have h3 : (j 3).val < 253952 := (j 3).isLt
  unfold word
  omega⟩ : Fin 32505856)

/-- The result, read through the lay-out. -/
theorem behind_at (y : S32505856.Idx → F .f32) (j : S16x4x2x253952.Idx) :
    shapeCast S16x4x2x253952 (transpose S16x4x2x1984x128 [0, 1, 3, 2, 4] (shapeCast S16x4x1984x2x128 y shapeCasts_S32505856_S16x4x1984x2x128)
      transposes_S16x4x1984x2x128_S16x4x2x1984x128_0_1_3_2_4) shapeCasts_S16x4x2x1984x128_S16x4x2x253952 j = y (wordIx j) := by
  refine (cast_at _ _ j (apart j) ?_).trans ?_
  · rw [Shape.rowMajor_val_five, Shape.rowMajor_val_four]
    simp [apart]
    omega
  · refine (congrArg _ (?_ : _ = woven (apart j))).trans (cast_at _ _ _ (wordIx j) ?_)
    · funext a
      fin_cases a <;> rfl
    · rw [Shape.rowMajor_val_five, Shape.rowMajor_val_one]
      simp [apart, woven, wordIx, word]

/-- The call's input at the word that the argument's element at `j` is. -/
theorem before_at (x : S16x4x2x262144.Idx → F .f32) (j : S16x4x2x262144.Idx) (n : S33554432.Idx)
    (hn : (n 0).val = ((((j 0).val * 4 + (j 1).val) * 2048 + (j 3).val / 128) * 2 + (j 2).val) * 128 + (j 3).val % 128) :
    shapeCast S33554432 (transpose S16x4x2048x2x128 [0, 1, 3, 2, 4] (shapeCast S16x4x2x2048x128 x shapeCasts_S16x4x2x262144_S16x4x2x2048x128)
      transposes_S16x4x2x2048x128_S16x4x2048x2x128_0_1_3_2_4) shapeCasts_S16x4x2048x2x128_S33554432 n = x j := by
  refine (cast_at _ _ n (woven' (apart' j)) ?_).trans ?_
  · rw [Shape.rowMajor_val_five, Shape.rowMajor_val_one, hn]
    simp [apart', woven']
  · refine (congrArg _ (?_ : _ = apart' j)).trans (cast_at _ _ _ j ?_)
    · funext a
      fin_cases a <;> rfl
    · rw [Shape.rowMajor_val_five, Shape.rowMajor_val_four]
      simp [apart']
      omega

/-- Every element of the result. -/
theorem V7_at (d : Dev nD) (j : S16x4x2x253952.Idx) : (V7 m d r' : S16x4x2x253952.Idx → F .f32) j
    = (m (aLoc d) : S16x4x2x262144.Idx → F .f32) (Reference.source j) := by
  rw [V7_eq, behind_at, X_eq]
  refine before_at _ (Reference.source j) _ ?_
  show srcN (word j) % 33554432 = ((((j 0).val * 4 + (j 1).val) * 2048 + Reference.time j / 128) * 2 + (j 2).val) * 128 + Reference.time j % 128
  have h0 : (j 0).val < 16 := (j 0).isLt
  have h1 : (j 1).val < 4 := (j 1).isLt
  have h2 : (j 2).val < 2 := (j 2).isLt
  have h3 : (j 3).val < 253952 := (j 3).isLt
  have hs := Windows.shift_lt (4 * (j 0).val + (j 1).val) (by omega)
  have ep : word j / 507904 = 4 * (j 0).val + (j 1).val := by unfold word; omega
  have em : word j % 507904 = ((j 3).val / 128 * 2 + (j 2).val) * 128 + (j 3).val % 128 := by unfold word; omega
  unfold srcN pickN Reference.time
  rw [ep, em]
  generalize shift (4 * (j 0).val + (j 1).val) = sh at hs ⊢
  generalize (j 0).val = b, (j 1).val = c at *
  generalize (j 2).val = ch, (j 3).val = t at *
  have e1 : ((t / 128 * 2 + ch) * 128 + t % 128) % 128 = t % 128 := by omega
  have e2 : ((t / 128 * 2 + ch) * 128 + t % 128) / 256 = t / 128 := by omega
  have e3 : ((t / 128 * 2 + ch) * 128 + t % 128) / 128 % 2 = ch := by omega
  rw [e1, e2, e3]
  omega

end Cert.Proof.Value
-- ==== Proof.Reference.lean ====
/-
  The reference's draw, a straight line of operations on whole arrays: its operations compose to the term that the module on the draw
  names. The line is read in two stretches, the second from the contents the first leaves.
-/
module

public import proofs.«01_k».proof.Proof.Draw
public import proofs.«01_k».proof.Defs
public import Idealize.ShloMosaic.Lib.Claim
public import Idealize.ShloMosaic.Lib.StableHlo.RunRead
public import Mathlib.Tactic.DefEqTransformations
public import Idealize.ShloMosaic.Lib.Tactic.CleanTypes

@[expose] public section

set_option maxRecDepth 100000
set_option maxHeartbeats 0

noncomputable section

namespace Cert.Proof.Reference

open Cert.ReferenceIdeal Cert.ReferenceIdeal.Gen
open Idealize.ShloMosaic Idealize.ShloMosaic.StableHlo
open Idealize.SL.Sem

variable {F : FTy → Type} [FloatOps F]

/-- A program is a line of operations, none of which leaves the TensorCore's buffers, and the line takes contents `V` to contents
`R`-related to them. -/
def Line (p : Prog (TpuEff nD τ sig (Elt F) (Pipeline.Sig Λ₀ (Fin 0) fun p => (pcfgs (F := F) p).Adm) .tc) PUnit)
    (R : Valuation τ sig (Elt F) → Valuation τ sig (Elt F) → Prop) : Prop :=
  ∃ ops, IsSeq p ops ∧ (ops.Forall fun op => op.bufs ⊆ tcRefs τ sig) ∧ (∀ op ∈ ops, op.fresh = ∅) ∧ ∀ V, R V (after ops V)

theorem Line.imp {p : Prog (TpuEff nD τ sig (Elt F) (Pipeline.Sig Λ₀ (Fin 0) fun p => (pcfgs (F := F) p).Adm) .tc) PUnit}
    {R S : Valuation τ sig (Elt F) → Valuation τ sig (Elt F) → Prop} (h : Line p R) (i : ∀ V W, R V W → S V W) : Line p S :=
  let ⟨l, q, s, f, r⟩ := h
  ⟨l, q, s, f, fun V => i _ _ (r V)⟩

/-- One operation in front of a line. -/
theorem Line.cons {op : HloOp τ sig (Elt F)}
    {k : Prog (TpuEff nD τ sig (Elt F) (Pipeline.Sig Λ₀ (Fin 0) fun p => (pcfgs (F := F) p).Adm) .tc) PUnit}
    {R : Valuation τ sig (Elt F) → Valuation τ sig (Elt F) → Prop} (hb : op.bufs ⊆ tcRefs τ sig) (hf : op.fresh = ∅) (h : Line k R) :
    Line ((hlo rfl op fun _ => .ret (⟨⟩ : PUnit)) >>= fun _ => k) fun V W => R (op.result V) W :=
  let ⟨l, q, s, f, r⟩ := h
  ⟨op :: l, q.cons, (List.forall_cons _ _ _).mpr ⟨hb, s⟩, List.forall_mem_cons.mpr ⟨hf, f⟩, fun V => r (op.result V)⟩

/-- Two lines run one after the other. -/
theorem Line.seq {p k : Prog (TpuEff nD τ sig (Elt F) (Pipeline.Sig Λ₀ (Fin 0) fun p => (pcfgs (F := F) p).Adm) .tc) PUnit}
    {R S : Valuation τ sig (Elt F) → Valuation τ sig (Elt F) → Prop} (h : Line p R) (h' : Line k S) :
    Line (p >>= fun _ => k) fun V W => ∃ U, R V U ∧ S U W := by
  obtain ⟨l, q, s, f, r⟩ := h
  obtain ⟨l', q', s', f', r'⟩ := h'
  refine ⟨l ++ l', ?_, List.forall_append.mpr ⟨s, s'⟩, List.forall_mem_append.mpr ⟨f, f'⟩, fun V => ⟨after l V, r V, ?_⟩⟩
  · rw [IsSeq] at q q' ⊢
    rw [q, q', seq_append]
  · have e : ∀ (l : List (HloOp τ sig (Elt F))) V, after (l ++ l') V = after l' (after l V) := fun l => by
      induction l with
      | nil => exact fun _ => rfl
      | cons op l ih => exact fun V => ih _
    exact e l V ▸ r' _

/-- The first half of the draw: the range's ends, the higher random words, and what the lower ones start from. -/
theorem draw0 : Line (F := F) (fn_randint.body_part0 (.of main_v6) (.of main_c_2) (.of main_c_3) main_call0) fun V W =>
    V (Proc.devRef .tc main_c_2) = constantI S_ 32 0#32 → V (Proc.devRef .tc main_c_3) = constantI S_ 32 8192#32 →
      W (Proc.devRef .tc main_arg0) = V (Proc.devRef .tc main_arg0)
      ∧ W (Proc.devRef .tc main_call0_v1) = cmpi .sgt (constantI S_ 32 8192#32) (clip greatest least greatest)
      ∧ W (Proc.devRef .tc main_call0_v6) = lo ∧ W (Proc.devRef .tc main_call0_v7) = hi
      ∧ W (Proc.devRef .tc main_call0_v37) = bits (left (split (V (Proc.devRef .tc main_v6))))
      ∧ W (Proc.devRef .tc main_call0_v39) = word0 (right (split (V (Proc.devRef .tc main_v6))))
      ∧ W (Proc.devRef .tc main_call0_v41) = word1 (right (split (V (Proc.devRef .tc main_v6))))
      ∧ W (Proc.devRef .tc main_call0_v42) = iotaInDim S16x4x1x1 64 0 ∧ W (Proc.devRef .tc main_call0_v43) = iotaInDim S16x4x1x1 64 1
      ∧ W (Proc.devRef .tc main_call0_v44) = iotaInDim S16x4x1x1 64 2 ∧ W (Proc.devRef .tc main_call0_v45) = iotaInDim S16x4x1x1 64 3
      ∧ W (Proc.devRef .tc main_call0_v46) = all64 4#64 := by
  refine ⟨_, by unfold fn_randint.body_part0; hlo_seq, by simp, by intro _ h; (repeat (cases h with | head => rfl | tail _ h => ?_)); exact (nomatch h), fun V h2 h3 => ?_⟩
  after_reads_simp [concatenate_beside]
  simp only [TRef.ofBuf, TRef.toBuf, cast_cast, cast_eq, id_eq, h2, h3]
  clean_types
  unfold bits left right split lo hi clip count count2 word0 word1 block inject third even odd step
  eta_reduce
  dsimp only [S_, S1, S2, S1x2, S2x2, S2x1, S1x1x1x1, S16x4x1x1]
  trivial

/-- The second half: the lower random words, and the offsets from both. -/
theorem draw1 (b : IVec S16x4x1x1 32) (k : IVec S2 32) : Line (F := F) (fn_randint.body_part1 (.of main_v6) (.of main_c_2) (.of main_c_3) main_call0) fun V W =>
    (V (Proc.devRef .tc main_call0_v1) = cmpi .sgt (constantI S_ 32 8192#32) (clip greatest least greatest)
      ∧ V (Proc.devRef .tc main_call0_v6) = lo ∧ V (Proc.devRef .tc main_call0_v7) = hi
      ∧ V (Proc.devRef .tc main_call0_v37) = b
      ∧ V (Proc.devRef .tc main_call0_v39) = word0 k ∧ V (Proc.devRef .tc main_call0_v41) = word1 k
      ∧ V (Proc.devRef .tc main_call0_v42) = iotaInDim S16x4x1x1 64 0 ∧ V (Proc.devRef .tc main_call0_v43) = iotaInDim S16x4x1x1 64 1
      ∧ V (Proc.devRef .tc main_call0_v44) = iotaInDim S16x4x1x1 64 2 ∧ V (Proc.devRef .tc main_call0_v45) = iotaInDim S16x4x1x1 64 3
      ∧ V (Proc.devRef .tc main_call0_v46) = all64 4#64) →
      W (Proc.devRef .tc main_arg0) = V (Proc.devRef .tc main_arg0) ∧ W (Proc.devRef .tc main_v7) = offsets b (bits k) := by
  refine ⟨_, by unfold fn_randint.body_part1; hlo_seq, by simp, by intro _ h; (repeat (cases h with | head => rfl | tail _ h => ?_)); exact (nomatch h), fun V h => ?_⟩
  obtain ⟨h1, h6, h7, h37, h39, h41, h42, h43, h44, h45, h46⟩ := h
  after_reads_simp
  simp only [TRef.ofBuf, TRef.toBuf, cast_cast, cast_eq, id_eq, h1, h6, h7, h37, h39, h41, h42, h43, h44, h45, h46]
  clean_types
  unfold offsets weight span span0 bits count block inject third even odd step
  eta_reduce
  dsimp only [S_, S1, S2, S1x2, S2x2, S2x1, S1x1x1x1, S16x4x1x1]
  trivial

/-- The draw, both halves: the offsets of the key's two. -/
theorem draw : Line (F := F) (fn_randint.body (.of main_v6) (.of main_c_2) (.of main_c_3) main_call0) fun V W =>
    V (Proc.devRef .tc main_c_2) = constantI S_ 32 0#32 → V (Proc.devRef .tc main_c_3) = constantI S_ 32 8192#32 →
      V (Proc.devRef .tc main_v6) = key →
      W (Proc.devRef .tc main_arg0) = V (Proc.devRef .tc main_arg0) ∧ W (Proc.devRef .tc main_v7) = drawn := by
  unfold fn_randint.body
  refine (draw0.seq (draw1 (bits (left (split key))) (right (split key)))).imp ?_
  rintro V W ⟨U, h0, h1⟩ h2 h3 h6
  obtain ⟨a, i1, i6, i7, i37, i39, i41, i⟩ := h0 h2 h3
  rw [h6] at i37 i39 i41
  obtain ⟨b, e⟩ := h1 ⟨i1, i6, i7, i37, i39, i41, i⟩
  exact ⟨b.trans a, e⟩

end Cert.Proof.Reference
-- ==== Proof.Whole.lean ====
/-
  The reference's whole program: the key, the draw, the positions, and the argument read along its last axis at them.
-/
module

public import proofs.«01_k».proof.Proof.Reference
public import Idealize.ShloMosaic.Lib.Claim
public import Idealize.ShloMosaic.Lib.StableHlo.RunRead
public import Mathlib.Tactic.DefEqTransformations
public import Idealize.ShloMosaic.Lib.Tactic.CleanTypes

@[expose] public section

set_option maxRecDepth 100000
set_option maxHeartbeats 0

noncomputable section

namespace Cert.Proof.Reference

open Cert.ReferenceIdeal Cert.ReferenceIdeal.Gen
open Idealize.ShloMosaic Idealize.ShloMosaic.StableHlo
open Idealize.SL.Sem

variable {F : FTy → Type} [FloatOps F]

/-- The empty line. -/
theorem Line.nil : Line (F := F) (pure ⟨⟩) fun V W => W = V := ⟨[], .nil, trivial, by simp, fun _ => rfl⟩

/-! A value held in a buffer of its own type is the buffer's contents. -/

theorem ofBuf_arg0 (x : (main_arg0 : Ref sig .tc).ty.Contents (Elt F)) :
    (TRef.of (T := ⟨S16x4x2x262144, .f32⟩) main_arg0).ofBuf x = x := rfl
theorem ofBuf_v13 (x : (main_v13 : Ref sig .tc).ty.Contents (Elt F)) :
    (TRef.of (T := ⟨S16x4x2x253952, .i32⟩) main_v13).ofBuf x = x := rfl
theorem ofBuf_v5 (x : (main_call1_v5 : Ref sig .tc).ty.Contents (Elt F)) :
    (TRef.of (T := ⟨S16x4x2x253952x1, .i32⟩) main_call1_v5).ofBuf x = x := rfl
theorem toBuf_v4 (x : S16x4x2x253952.Idx → BitVec 32) :
    (TRef.of (T := ⟨S16x4x2x253952, .i32⟩) main_call1_v4).toBuf (Val := Elt F) x = x := rfl
theorem toBuf_v14 (x : S16x4x2x253952.Idx → F .f32) :
    (TRef.of (T := ⟨S16x4x2x253952, .f32⟩) main_v14).toBuf (Val := Elt F) x = x := rfl

/-- The read along the last axis. -/
theorem take : Line (F := F) (fn_take_along_axis.body (.of main_arg0) (.of main_v13) main_call1) fun V W =>
    W (Proc.devRef .tc main_arg0) = V (Proc.devRef .tc main_arg0)
    ∧ W (Proc.devRef .tc main_v14) = along (V (Proc.devRef .tc main_arg0)) (V (Proc.devRef .tc main_v13)) := by
  refine ⟨_, by unfold fn_take_along_axis.body; hlo_seq, by simp, by intro _ h; (repeat (cases h with | head => rfl | tail _ h => ?_)); exact (nomatch h), fun V => ?_⟩
  after_reads_simp
  simp only [TRef.ofBuf_toBuf]
  simp only [ofBuf_arg0, ofBuf_v13, ofBuf_v5, toBuf_v4, toBuf_v14]
  clean_types
  unfold along inside wrapped
  eta_reduce
  exact ⟨trivial, rfl⟩

/-- The whole line: the result is the argument read along its last axis at the positions of the drawn offsets, and the argument
stays. -/
theorem whole : Line (F := F) (main 0) fun V W =>
    W (Proc.devRef .tc main_arg0) = V (Proc.devRef .tc main_arg0)
    ∧ W (Proc.devRef .tc main_v14) = along (V (Proc.devRef .tc main_arg0)) (positions drawn) := by
  unfold main
  apply Line.imp
  · iterate 12 (apply Line.cons; rotate_left 2)
    apply Line.seq draw
    iterate 6 (apply Line.cons; rotate_left 2)
    apply Line.seq take (.nil (F := F))
    all_goals first | rfl | simp
  · rintro V W ⟨U, h, U', h', h''⟩
    obtain ⟨a, e⟩ := h (by after_results_simp) (by after_results_simp) (by after_results_simp; rfl)
    subst h''
    refine ⟨h'.1.trans ?_, h'.2.trans (congrArg₂ along ?_ ?_)⟩
    · after_results_simp
      rw [a]
      after_results_simp
    · after_results_simp
      rw [a]
      after_results_simp
    · after_results_simp
      rw [e]
      rfl

end Cert.Proof.Reference
-- ==== Proof.Algebraic.lean ====
/-
  The kernel computes the reference's values: the reference's run, its frame, and the agreement of the two results.
-/
module

public import proofs.«01_k».proof.Proof.Frames
public import proofs.«01_k».proof.Proof.Value
public import proofs.«01_k».proof.Proof.Along
public import proofs.«01_k».proof.Proof.Whole

@[expose] public section

set_option maxRecDepth 100000

noncomputable section

namespace Cert.Proof.Algebraic

open Cert.Proof.Reference
open Idealize.ShloMosaic Idealize.ShloMosaic.StableHlo
open Idealize.SL Idealize.SL.Sem

section Run
open Cert.ReferenceIdeal Cert.ReferenceIdeal.Gen
variable {F : FTy → Type} [FloatOps F]

/-- The reference's run: it keeps the argument, and its result is the argument read at the positions of the drawn offsets. -/
theorem run_reference (m : (ℓ : Loc nD τ sig) → Buf (Elt F) ℓ) (ρ : Dev nD → PrngReg) :
    θ_run (Cert.ReferenceIdeal.defs (F := F)) (onTc (τ := τ) main) ⟨m, fun _ => 0, ρ⟩ fun r => ∀ d : Dev nD,
      r.2.mem ((d.tc : Thread nD τ).loc main_arg0) = m ((d.tc : Thread nD τ).loc main_arg0)
      ∧ r.2.mem ((d.tc : Thread nD τ).loc main_v14) = along (m ((d.tc : Thread nD τ).loc main_arg0)) (positions drawn) := by
  obtain ⟨l, q, s, f, w⟩ := whole (F := F)
  exact (θ_run (Cert.ReferenceIdeal.defs (F := F)) _ _).mono
    (fun r h d => ⟨(h d main_arg0).trans (w _).1, (h d main_v14).trans (w _).2⟩)
    (run_hlo Cert.ReferenceIdeal.defs main (fun _ => q) (by decide) (by decide) s f m ρ)

theorem frame_reference : Cert.quiescent_ReferenceIdeal := fun m ρ _ =>
  (θ_run Cert.ReferenceIdeal.defs _ _).mono
    (fun r h => ⟨fun c => (h c).1, sem_eq_zero_of_no_sems (by decide) r.2⟩) (run_reference m ρ)

end Run

open Cert.Proof.Launch Cert.Proof.Frames Cert.Proof.Value in
/-- From the same argument both end with the same result. -/
theorem algebraic : Cert.algebraic_KernelIdeal_ReferenceIdeal := by
  intro m ρ m' ρ' _ hagree
  refine ⟨fun c => V7 m c r', (θ_run Cert.KernelIdeal.defs _ _).mono
    (fun _ h c => ⟨(h.1 c).2, (h.1 c).1.trans (V7_a m c)⟩) (run_main m ρ), ?_⟩
  refine (θ_run Cert.ReferenceIdeal.defs _ _).mono (fun _ h c => ⟨(h c).2.trans ?_, (h c).1⟩) (run_reference m' ρ')
  rw [hagree c]
  exact funext fun j => (along_at _ j).trans (V7_at m c j).symm

end Cert.Proof.Algebraic
-- ==== Proof.lean ====
/-
  The claim: the kernel as compiled and the kernel read in the ideal numbers both run to the end, leave the argument as it was and
  every semaphore at zero; so does the reference; and kernel and reference end with the same result.
-/
module

public import proofs.«01_k».proof.Defs
public import proofs.«01_k».proof.Proof.FactsIdeal
public import proofs.«01_k».proof.Proof.FactsKernel
public import proofs.«01_k».proof.Proof.Frames
public import proofs.«01_k».proof.Proof.Algebraic
public import proofs.«01_k».proof.Proof.Gen.ReferenceIdeal

@[expose] public section

noncomputable section

namespace Cert.Proof

theorem claim : Cert.Claim :=
  ⟨Cert.Kernel.Own.facts, Cert.KernelIdeal.Own.facts, Cert.ReferenceIdeal.Gen.facts, Frames.frame_kernel, Frames.frame_ideal,
    Algebraic.frame_reference, trivial, Algebraic.algebraic⟩

end Cert.Proof

end
